-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2048x768 : Shape := ⟨2, ![2048, 768]⟩
abbrev S2048x640 : Shape := ⟨2, ![2048, 640]⟩
abbrev S1984x768 : Shape := ⟨2, ![1984, 768]⟩
abbrev S1984x640 : Shape := ⟨2, ![1984, 640]⟩
abbrev S30 : Shape := ⟨1, ![30]⟩
abbrev S_ : Shape := ⟨0, ![]⟩
abbrev S64x1024 : Shape := ⟨2, ![64, 1024]⟩
abbrev S512x1024 : Shape := ⟨2, ![512, 1024]⟩
abbrev S1024x768 : Shape := ⟨2, ![1024, 768]⟩
abbrev S512x768 : Shape := ⟨2, ![512, 768]⟩
abbrev S1 : Shape := ⟨1, ![1]⟩
abbrev S1024x640 : Shape := ⟨2, ![1024, 640]⟩
abbrev S512x640 : Shape := ⟨2, ![512, 640]⟩
abbrev S256x768 : Shape := ⟨2, ![256, 768]⟩
abbrev S256x640 : Shape := ⟨2, ![256, 640]⟩
abbrev S128x768 : Shape := ⟨2, ![128, 768]⟩
abbrev S128x640 : Shape := ⟨2, ![128, 640]⟩
abbrev S64x768 : Shape := ⟨2, ![64, 768]⟩
abbrev S64x640 : Shape := ⟨2, ![64, 640]⟩

abbrev nBuf : Space → Nat
  | .hbm => 3
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S2048x768, .bf16⟩
  | .local _ .vmem, ⟨4, _⟩ => ⟨S2048x640, .bf16⟩
  | .local _ .vmem, ⟨5, _⟩ => ⟨S2048x640, .bf16⟩
  | .local _ .vmem, ⟨6, _⟩ => ⟨S1984x768, .bf16⟩
  | .local _ .vmem, ⟨7, _⟩ => ⟨S1984x640, .bf16⟩
  | .local _ .vmem, ⟨8, _⟩ => ⟨S1984x640, .bf16⟩
  | .local _ .vmem, ⟨9, _⟩ => ⟨S2048x768, .bf16⟩
  | .local _ .vmem, ⟨10, _⟩ => ⟨S2048x640, .bf16⟩
  | .local _ .vmem, ⟨11, _⟩ => ⟨S2048x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_206 : BitVec 32 := 1#32
  let v304 : BitVec 32 := Scalar.xori v2 c1_i32_206
  let c1_i32_208 : BitVec 32 := 1#32
  let v305 : BitVec 32 := Scalar.muli v304 c1_i32_208
  let v306 : BitVec 32 := Scalar.addi c0_i32_209 v305
  v306.toNat
def k0_dev2 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_210 : BitVec 32 := 2#32
  let v307 : BitVec 32 := Scalar.xori v2 c2_i32_210
  let c1_i32_212 : BitVec 32 := 1#32
  let v308 : BitVec 32 := Scalar.muli v307 c1_i32_212
  let v309 : BitVec 32 := Scalar.addi c0_i32_213 v308
  v309.toNat
def k0_dev3 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_214 : BitVec 32 := 3#32
  let v310 : BitVec 32 := Scalar.xori v2 c3_i32_214
  let c1_i32_216 : BitVec 32 := 1#32
  let v311 : BitVec 32 := Scalar.muli v310 c1_i32_216
  let v312 : BitVec 32 := Scalar.addi c0_i32_217 v311
  v312.toNat
def k0_dev4 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_218 : BitVec 32 := 4#32
  let v313 : BitVec 32 := Scalar.xori v2 c4_i32_218
  let c1_i32_220 : BitVec 32 := 1#32
  let v314 : BitVec 32 := Scalar.muli v313 c1_i32_220
  let v315 : BitVec 32 := Scalar.addi c0_i32_221 v314
  v315.toNat
def k0_dev5 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_222 : BitVec 32 := 8#32
  let v316 : BitVec 32 := Scalar.xori v2 c8_i32_222
  let c1_i32_224 : BitVec 32 := 1#32
  let v317 : BitVec 32 := Scalar.muli v316 c1_i32_224
  let v318 : BitVec 32 := Scalar.addi c0_i32_225 v317
  v318.toNat
def k0_dev6 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_226 : BitVec 32 := 16#32
  let v319 : BitVec 32 := Scalar.xori v2 c16_i32_226
  let c1_i32_228 : BitVec 32 := 1#32
  let v320 : BitVec 32 := Scalar.muli v319 c1_i32_228
  let v321 : BitVec 32 := Scalar.addi c0_i32_229 v320
  v321.toNat
def k0_off1 (d0 : Dev nD) (c1_i32_234 : BitVec 32) (c1_i32_0 : BitVec 32) (c8_i32 : BitVec 32) (c2_i32_8 : BitVec 32) (c16_i32 : BitVec 32) (c4_i32_19 : BitVec 32) (c0_i32_230 : BitVec 32) (c0_i32_231 : BitVec 32) (c8_i32_238 : BitVec 32) (c2_i32_241 : BitVec 32) (c16_i32_244 : BitVec 32) (c4_i32_247 : BitVec 32) : Fin 2 → Nat :=
  let c0_i32_235 : BitVec 32 := 0#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c5_i32 : BitVec 32 := 5#32
  let v60 : BitVec 32 := Scalar.shrsi v52 c5_i32
  let c5_i32_32 : BitVec 32 := 5#32
  let v61 : BitVec 32 := Scalar.shli v60 c5_i32_32
  let c1_i32_33 : BitVec 32 := 1#32
  let c4_i32_30 : BitVec 32 := 4#32
  let v58 : BitVec 32 := Scalar.shrsi v52 c4_i32_30
  let c1_i32_31 : BitVec 32 := 1#32
  let v59 : BitVec 32 := Scalar.andi v58 c1_i32_31
  let v62 : BitVec 32 := Scalar.subi c1_i32_33 v59
  let c16_i32_34 : BitVec 32 := 16#32
  let v63 : BitVec 32 := Scalar.muli v62 c16_i32_34
  let v64 : BitVec 32 := Scalar.addi v61 v63
  let v322 : BitVec 32 := Scalar.addi v64 c0_i32_230
  let v323 : BitVec 32 := Scalar.addi v322 c0_i32_231
  let c4_i32_232 : BitVec 32 := 4#32
  let v324 : BitVec 32 := Scalar.shrsi v323 c4_i32_232
  let c1_i32_233 : BitVec 32 := 1#32
  let v325 : BitVec 32 := Scalar.andi v324 c1_i32_233
  let v326 : BitVec 32 := Scalar.muli c1_i32_234 v325
  let v327 : BitVec 32 := Scalar.xori c0_i32_235 v326
  let c3_i32_236 : BitVec 32 := 3#32
  let v328 : BitVec 32 := Scalar.shrsi v323 c3_i32_236
  let c1_i32_237 : BitVec 32 := 1#32
  let v329 : BitVec 32 := Scalar.andi v328 c1_i32_237
  let v330 : BitVec 32 := Scalar.muli c8_i32_238 v329
  let v331 : BitVec 32 := Scalar.xori v327 v330
  let c2_i32_239 : BitVec 32 := 2#32
  let v332 : BitVec 32 := Scalar.shrsi v323 c2_i32_239
  let c1_i32_240 : BitVec 32 := 1#32
  let v333 : BitVec 32 := Scalar.andi v332 c1_i32_240
  let v334 : BitVec 32 := Scalar.muli c2_i32_241 v333
  let v335 : BitVec 32 := Scalar.xori v331 v334
  let c1_i32_242 : BitVec 32 := 1#32
  let v336 : BitVec 32 := Scalar.shrsi v323 c1_i32_242
  let c1_i32_243 : BitVec 32 := 1#32
  let v337 : BitVec 32 := Scalar.andi v336 c1_i32_243
  let v338 : BitVec 32 := Scalar.muli c16_i32_244 v337
  let v339 : BitVec 32 := Scalar.xori v335 v338
  let c0_i32_245 : BitVec 32 := 0#32
  let v340 : BitVec 32 := Scalar.shrsi v323 c0_i32_245
  let c1_i32_246 : BitVec 32 := 1#32
  let v341 : BitVec 32 := Scalar.andi v340 c1_i32_246
  let v342 : BitVec 32 := Scalar.muli c4_i32_247 v341
  let v343 : BitVec 32 := Scalar.xori v339 v342
  let c64_i32 : BitVec 32 := 64#32
  let v344 : BitVec 32 := Scalar.muli v343 c64_i32
  let v345 : Index := Scalar.indexCast v344
  let c0 : Index := 0#32
  ![v345.toNat, 0]
def k0_off1_at (r : Fin 48) : BitVec 32 × BitVec 32 × BitVec 32 × BitVec 32 × BitVec 32 × BitVec 32 × BitVec 32 × BitVec 32 × BitVec 32 × BitVec 32 × BitVec 32 × BitVec 32 :=
  if r.val < 24 then
    if r.val < 12 then
      if r.val < 6 then
        if r.val < 3 then
          if r.val < 1 then
            (1#32, 1#32, 8#32, 2#32, 16#32, 4#32, 0#32, 0#32, 8#32, 2#32, 16#32, 4#32)
          else
            if r.val < 2 then
              (1#32, 1#32, 8#32, 2#32, 16#32, 4#32, 0#32, 1#32, 8#32, 2#32, 16#32, 4#32)
            else
              (1#32, 1#32, 8#32, 2#32, 16#32, 4#32, 0#32, 2#32, 8#32, 2#32, 16#32, 4#32)
        else
          if r.val < 4 then
            (1#32, 1#32, 8#32, 2#32, 16#32, 4#32, 0#32, 3#32, 8#32, 2#32, 16#32, 4#32)
          else
            if r.val < 5 then
              (1#32, 1#32, 8#32, 2#32, 16#32, 4#32, 0#32, 4#32, 8#32, 2#32, 16#32, 4#32)
            else
              (1#32, 1#32, 8#32, 2#32, 16#32, 4#32, 0#32, 5#32, 8#32, 2#32, 16#32, 4#32)
      else
        if r.val < 9 then
          if r.val < 7 then
            (1#32, 1#32, 8#32, 2#32, 16#32, 4#32, 0#32, 6#32, 8#32, 2#32, 16#32, 4#32)
          else
            if r.val < 8 then
              (1#32, 1#32, 8#32, 2#32, 16#32, 4#32, 0#32, 7#32, 8#32, 2#32, 16#32, 4#32)
            else
              (1#32, 1#32, 8#32, 2#32, 16#32, 4#32, 8#32, 0#32, 8#32, 2#32, 16#32, 4#32)
        else
          if r.val < 10 then
            (1#32, 1#32, 8#32, 2#32, 16#32, 4#32, 8#32, 1#32, 8#32, 2#32, 16#32, 4#32)
          else
            if r.val < 11 then
              (1#32, 1#32, 8#32, 2#32, 16#32, 4#32, 8#32, 2#32, 8#32, 2#32, 16#32, 4#32)
            else
              (1#32, 1#32, 8#32, 2#32, 16#32, 4#32, 8#32, 3#32, 8#32, 2#32, 16#32, 4#32)
    else
      if r.val < 18 then
        if r.val < 15 then
          if r.val < 13 then
            (1#32, 1#32, 8#32, 2#32, 16#32, 4#32, 8#32, 4#32, 8#32, 2#32, 16#32, 4#32)
          else
            if r.val < 14 then
              (1#32, 1#32, 8#32, 2#32, 16#32, 4#32, 8#32, 5#32, 8#32, 2#32, 16#32, 4#32)
            else
              (1#32, 1#32, 8#32, 2#32, 16#32, 4#32, 8#32, 6#32, 8#32, 2#32, 16#32, 4#32)
        else
          if r.val < 16 then
            (1#32, 1#32, 8#32, 2#32, 16#32, 4#32, 8#32, 7#32, 8#32, 2#32, 16#32, 4#32)
          else
            if r.val < 17 then
              (8#32, 8#32, 1#32, 16#32, 4#32, 2#32, 0#32, 0#32, 1#32, 16#32, 4#32, 2#32)
            else
              (8#32, 8#32, 1#32, 16#32, 4#32, 2#32, 0#32, 1#32, 1#32, 16#32, 4#32, 2#32)
      else
        if r.val < 21 then
          if r.val < 19 then
            (8#32, 8#32, 1#32, 16#32, 4#32, 2#32, 0#32, 2#32, 1#32, 16#32, 4#32, 2#32)
          else
            if r.val < 20 then
              (8#32, 8#32, 1#32, 16#32, 4#32, 2#32, 0#32, 3#32, 1#32, 16#32, 4#32, 2#32)
            else
              (8#32, 8#32, 1#32, 16#32, 4#32, 2#32, 0#32, 4#32, 1#32, 16#32, 4#32, 2#32)
        else
          if r.val < 22 then
            (8#32, 8#32, 1#32, 16#32, 4#32, 2#32, 0#32, 5#32, 1#32, 16#32, 4#32, 2#32)
          else
            if r.val < 23 then
              (8#32, 8#32, 1#32, 16#32, 4#32, 2#32, 0#32, 6#32, 1#32, 16#32, 4#32, 2#32)
            else
              (8#32, 8#32, 1#32, 16#32, 4#32, 2#32, 0#32, 7#32, 1#32, 16#32, 4#32, 2#32)
  else
    if r.val < 36 then
      if r.val < 30 then
        if r.val < 27 then
          if r.val < 25 then
            (8#32, 8#32, 1#32, 16#32, 4#32, 2#32, 8#32, 0#32, 1#32, 16#32, 4#32, 2#32)
          else
            if r.val < 26 then
              (8#32, 8#32, 1#32, 16#32, 4#32, 2#32, 8#32, 1#32, 1#32, 16#32, 4#32, 2#32)
            else
              (8#32, 8#32, 1#32, 16#32, 4#32, 2#32, 8#32, 2#32, 1#32, 16#32, 4#32, 2#32)
        else
          if r.val < 28 then
            (8#32, 8#32, 1#32, 16#32, 4#32, 2#32, 8#32, 3#32, 1#32, 16#32, 4#32, 2#32)
          else
            if r.val < 29 then
              (8#32, 8#32, 1#32, 16#32, 4#32, 2#32, 8#32, 4#32, 1#32, 16#32, 4#32, 2#32)
            else
              (8#32, 8#32, 1#32, 16#32, 4#32, 2#32, 8#32, 5#32, 1#32, 16#32, 4#32, 2#32)
      else
        if r.val < 33 then
          if r.val < 31 then
            (8#32, 8#32, 1#32, 16#32, 4#32, 2#32, 8#32, 6#32, 1#32, 16#32, 4#32, 2#32)
          else
            if r.val < 32 then
              (8#32, 8#32, 1#32, 16#32, 4#32, 2#32, 8#32, 7#32, 1#32, 16#32, 4#32, 2#32)
            else
              (3#32, 1#32, 4#32, 3#32, 8#32, 16#32, 0#32, 0#32, 4#32, 2#32, 8#32, 16#32)
        else
          if r.val < 34 then
            (3#32, 1#32, 4#32, 3#32, 8#32, 16#32, 0#32, 1#32, 4#32, 2#32, 8#32, 16#32)
          else
            if r.val < 35 then
              (3#32, 1#32, 4#32, 3#32, 8#32, 16#32, 0#32, 2#32, 4#32, 2#32, 8#32, 16#32)
            else
              (3#32, 1#32, 4#32, 3#32, 8#32, 16#32, 0#32, 3#32, 4#32, 2#32, 8#32, 16#32)
    else
      if r.val < 42 then
        if r.val < 39 then
          if r.val < 37 then
            (3#32, 1#32, 4#32, 3#32, 8#32, 16#32, 0#32, 4#32, 4#32, 2#32, 8#32, 16#32)
          else
            if r.val < 38 then
              (3#32, 1#32, 4#32, 3#32, 8#32, 16#32, 0#32, 5#32, 4#32, 2#32, 8#32, 16#32)
            else
              (3#32, 1#32, 4#32, 3#32, 8#32, 16#32, 0#32, 6#32, 4#32, 2#32, 8#32, 16#32)
        else
          if r.val < 40 then
            (3#32, 1#32, 4#32, 3#32, 8#32, 16#32, 0#32, 7#32, 4#32, 2#32, 8#32, 16#32)
          else
            if r.val < 41 then
              (3#32, 1#32, 4#32, 3#32, 8#32, 16#32, 8#32, 0#32, 4#32, 2#32, 8#32, 16#32)
            else
              (3#32, 1#32, 4#32, 3#32, 8#32, 16#32, 8#32, 1#32, 4#32, 2#32, 8#32, 16#32)
      else
        if r.val < 45 then
          if r.val < 43 then
            (3#32, 1#32, 4#32, 3#32, 8#32, 16#32, 8#32, 2#32, 4#32, 2#32, 8#32, 16#32)
          else
            if r.val < 44 then
              (3#32, 1#32, 4#32, 3#32, 8#32, 16#32, 8#32, 3#32, 4#32, 2#32, 8#32, 16#32)
            else
              (3#32, 1#32, 4#32, 3#32, 8#32, 16#32, 8#32, 4#32, 4#32, 2#32, 8#32, 16#32)
        else
          if r.val < 46 then
            (3#32, 1#32, 4#32, 3#32, 8#32, 16#32, 8#32, 5#32, 4#32, 2#32, 8#32, 16#32)
          else
            if r.val < 47 then
              (3#32, 1#32, 4#32, 3#32, 8#32, 16#32, 8#32, 6#32, 4#32, 2#32, 8#32, 16#32)
            else
              (3#32, 1#32, 4#32, 3#32, 8#32, 16#32, 8#32, 7#32, 4#32, 2#32, 8#32, 16#32)
def k0_off2 (d0 : Dev nD) (c0_i32_230 : BitVec 32) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c5_i32 : BitVec 32 := 5#32
  let v60 : BitVec 32 := Scalar.shrsi v52 c5_i32
  let c5_i32_32 : BitVec 32 := 5#32
  let v61 : BitVec 32 := Scalar.shli v60 c5_i32_32
  let c1_i32_33 : BitVec 32 := 1#32
  let c4_i32_30 : BitVec 32 := 4#32
  let v58 : BitVec 32 := Scalar.shrsi v52 c4_i32_30
  let c1_i32_31 : BitVec 32 := 1#32
  let v59 : BitVec 32 := Scalar.andi v58 c1_i32_31
  let v62 : BitVec 32 := Scalar.subi c1_i32_33 v59
  let c16_i32_34 : BitVec 32 := 16#32
  let v63 : BitVec 32 := Scalar.muli v62 c16_i32_34
  let v64 : BitVec 32 := Scalar.addi v61 v63
  let v322 : BitVec 32 := Scalar.addi v64 c0_i32_230
  let c64_i32_382 : BitVec 32 := 64#32
  let v528 : BitVec 32 := Scalar.muli v322 c64_i32_382
  let v529 : Index := Scalar.indexCast v528
  let c0_383 : Index := 0#32
  ![v529.toNat, 0]
def k0_off3 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c5_i32 : BitVec 32 := 5#32
  let v60 : BitVec 32 := Scalar.shrsi v52 c5_i32
  let c5_i32_32 : BitVec 32 := 5#32
  let v61 : BitVec 32 := Scalar.shli v60 c5_i32_32
  let c1_i32_33 : BitVec 32 := 1#32
  let c4_i32_30 : BitVec 32 := 4#32
  let v58 : BitVec 32 := Scalar.shrsi v52 c4_i32_30
  let c1_i32_31 : BitVec 32 := 1#32
  let v59 : BitVec 32 := Scalar.andi v58 c1_i32_31
  let v62 : BitVec 32 := Scalar.subi c1_i32_33 v59
  let c16_i32_34 : BitVec 32 := 16#32
  let v63 : BitVec 32 := Scalar.muli v62 c16_i32_34
  let v64 : BitVec 32 := Scalar.addi v61 v63
  let c64_i32_542 : BitVec 32 := 64#32
  let v744 : BitVec 32 := Scalar.muli v64 c64_i32_542
  let c0_i32_549 : BitVec 32 := 0#32
  ![v744.toNat, 0]
def k0_dev7 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_25 : BitVec 32 := 1#32
  let v53 : BitVec 32 := Scalar.xori v2 c1_i32_25
  let c1_i32_545 : BitVec 32 := 1#32
  let v745 : BitVec 32 := Scalar.muli v53 c1_i32_545
  let v746 : BitVec 32 := Scalar.addi c0_i32_546 v745
  v746.toNat
def k0_off4 (d0 : Dev nD) (c8_i32_64 : BitVec 32) (c1_i32_71 : BitVec 32) (c16_i32_77 : BitVec 32) (c4_i32_83 : BitVec 32) (c2_i32_89 : BitVec 32) (c0_i32_550 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c5_i32_102 : BitVec 32 := 5#32
  let v160 : BitVec 32 := Scalar.shrsi v152 c5_i32_102
  let c5_i32_103 : BitVec 32 := 5#32
  let v161 : BitVec 32 := Scalar.shli v160 c5_i32_103
  let c1_i32_104 : BitVec 32 := 1#32
  let c4_i32_100 : BitVec 32 := 4#32
  let v158 : BitVec 32 := Scalar.shrsi v152 c4_i32_100
  let c1_i32_101 : BitVec 32 := 1#32
  let v159 : BitVec 32 := Scalar.andi v158 c1_i32_101
  let v162 : BitVec 32 := Scalar.subi c1_i32_104 v159
  let c16_i32_105 : BitVec 32 := 16#32
  let v163 : BitVec 32 := Scalar.muli v162 c16_i32_105
  let v164 : BitVec 32 := Scalar.addi v161 v163
  let v753 : BitVec 32 := Scalar.addi v164 c0_i32_550
  let c64_i32_705 : BitVec 32 := 64#32
  let v959 : BitVec 32 := Scalar.muli v753 c64_i32_705
  let v960 : Index := Scalar.indexCast v959
  let c0_706 : Index := 0#32
  ![v960.toNat, 0]
def k0_off4_at (r : Fin 4) : BitVec 32 × BitVec 32 × BitVec 32 × BitVec 32 × BitVec 32 × BitVec 32 :=
  if r.val < 2 then
    if r.val < 1 then
      (8#32, 1#32, 16#32, 4#32, 2#32, 0#32)
    else
      (8#32, 1#32, 16#32, 4#32, 2#32, 8#32)
  else
    if r.val < 3 then
      (1#32, 4#32, 3#32, 8#32, 16#32, 0#32)
    else
      (1#32, 4#32, 3#32, 8#32, 16#32, 8#32)
def k0_off5 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c5_i32_102 : BitVec 32 := 5#32
  let v160 : BitVec 32 := Scalar.shrsi v152 c5_i32_102
  let c5_i32_103 : BitVec 32 := 5#32
  let v161 : BitVec 32 := Scalar.shli v160 c5_i32_103
  let c1_i32_104 : BitVec 32 := 1#32
  let c4_i32_100 : BitVec 32 := 4#32
  let v158 : BitVec 32 := Scalar.shrsi v152 c4_i32_100
  let c1_i32_101 : BitVec 32 := 1#32
  let v159 : BitVec 32 := Scalar.andi v158 c1_i32_101
  let v162 : BitVec 32 := Scalar.subi c1_i32_104 v159
  let c16_i32_105 : BitVec 32 := 16#32
  let v163 : BitVec 32 := Scalar.muli v162 c16_i32_105
  let v164 : BitVec 32 := Scalar.addi v161 v163
  let c64_i32_865 : BitVec 32 := 64#32
  let v1175 : BitVec 32 := Scalar.muli v164 c64_i32_865
  let c0_i32_871 : BitVec 32 := 0#32
  ![v1175.toNat, 0]
def k0_off5_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev8 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_95 : BitVec 32 := 8#32
  let v153 : BitVec 32 := Scalar.xori v2 c8_i32_95
  let c1_i32_867 : BitVec 32 := 1#32
  let v1176 : BitVec 32 := Scalar.muli v153 c1_i32_867
  let v1177 : BitVec 32 := Scalar.addi c0_i32_868 v1176
  v1177.toNat
def k0_dev9 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_166 : BitVec 32 := 3#32
  let v253 : BitVec 32 := Scalar.xori v2 c3_i32_166
  let c1_i32_1189 : BitVec 32 := 1#32
  let v1607 : BitVec 32 := Scalar.muli v253 c1_i32_1189
  let v1608 : BitVec 32 := Scalar.addi c0_i32_1190 v1607
  v1608.toNat
def k0_off6 (d0 : Dev nD) (c1_i32_1198 : BitVec 32) (c1_i32_0 : BitVec 32) (c8_i32 : BitVec 32) (c2_i32_8 : BitVec 32) (c16_i32 : BitVec 32) (c4_i32_19 : BitVec 32) (c0_i32_1194 : BitVec 32) (c0_i32_1195 : BitVec 32) (c8_i32_1202 : BitVec 32) (c2_i32_1205 : BitVec 32) (c16_i32_1208 : BitVec 32) (c4_i32_1211 : BitVec 32) : Fin 2 → Nat :=
  let c0_i32_1199 : BitVec 32 := 0#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c5_i32 : BitVec 32 := 5#32
  let v60 : BitVec 32 := Scalar.shrsi v52 c5_i32
  let c5_i32_32 : BitVec 32 := 5#32
  let v61 : BitVec 32 := Scalar.shli v60 c5_i32_32
  let c4_i32_30 : BitVec 32 := 4#32
  let v58 : BitVec 32 := Scalar.shrsi v52 c4_i32_30
  let c1_i32_31 : BitVec 32 := 1#32
  let v59 : BitVec 32 := Scalar.andi v58 c1_i32_31
  let c16_i32_35 : BitVec 32 := 16#32
  let v65 : BitVec 32 := Scalar.muli v59 c16_i32_35
  let v66 : BitVec 32 := Scalar.addi v61 v65
  let v1615 : BitVec 32 := Scalar.addi v66 c0_i32_1194
  let v1616 : BitVec 32 := Scalar.addi v1615 c0_i32_1195
  let c4_i32_1196 : BitVec 32 := 4#32
  let v1617 : BitVec 32 := Scalar.shrsi v1616 c4_i32_1196
  let c1_i32_1197 : BitVec 32 := 1#32
  let v1618 : BitVec 32 := Scalar.andi v1617 c1_i32_1197
  let v1619 : BitVec 32 := Scalar.muli c1_i32_1198 v1618
  let v1620 : BitVec 32 := Scalar.xori c0_i32_1199 v1619
  let c3_i32_1200 : BitVec 32 := 3#32
  let v1621 : BitVec 32 := Scalar.shrsi v1616 c3_i32_1200
  let c1_i32_1201 : BitVec 32 := 1#32
  let v1622 : BitVec 32 := Scalar.andi v1621 c1_i32_1201
  let v1623 : BitVec 32 := Scalar.muli c8_i32_1202 v1622
  let v1624 : BitVec 32 := Scalar.xori v1620 v1623
  let c2_i32_1203 : BitVec 32 := 2#32
  let v1625 : BitVec 32 := Scalar.shrsi v1616 c2_i32_1203
  let c1_i32_1204 : BitVec 32 := 1#32
  let v1626 : BitVec 32 := Scalar.andi v1625 c1_i32_1204
  let v1627 : BitVec 32 := Scalar.muli c2_i32_1205 v1626
  let v1628 : BitVec 32 := Scalar.xori v1624 v1627
  let c1_i32_1206 : BitVec 32 := 1#32
  let v1629 : BitVec 32 := Scalar.shrsi v1616 c1_i32_1206
  let c1_i32_1207 : BitVec 32 := 1#32
  let v1630 : BitVec 32 := Scalar.andi v1629 c1_i32_1207
  let v1631 : BitVec 32 := Scalar.muli c16_i32_1208 v1630
  let v1632 : BitVec 32 := Scalar.xori v1628 v1631
  let c0_i32_1209 : BitVec 32 := 0#32
  let v1633 : BitVec 32 := Scalar.shrsi v1616 c0_i32_1209
  let c1_i32_1210 : BitVec 32 := 1#32
  let v1634 : BitVec 32 := Scalar.andi v1633 c1_i32_1210
  let v1635 : BitVec 32 := Scalar.muli c4_i32_1211 v1634
  let v1636 : BitVec 32 := Scalar.xori v1632 v1635
  let c64_i32_1212 : BitVec 32 := 64#32
  let v1637 : BitVec 32 := Scalar.muli v1636 c64_i32_1212
  let v1638 : Index := Scalar.indexCast v1637
  let c0_1213 : Index := 0#32
  ![v1638.toNat, 0]
def k0_off6_at (r : Fin 48) : BitVec 32 × BitVec 32 × BitVec 32 × BitVec 32 × BitVec 32 × BitVec 32 × BitVec 32 × BitVec 32 × BitVec 32 × BitVec 32 × BitVec 32 × BitVec 32 :=
  if r.val < 24 then
    if r.val < 12 then
      if r.val < 6 then
        if r.val < 3 then
          if r.val < 1 then
            (1#32, 1#32, 8#32, 2#32, 16#32, 4#32, 0#32, 0#32, 8#32, 2#32, 16#32, 4#32)
          else
            if r.val < 2 then
              (1#32, 1#32, 8#32, 2#32, 16#32, 4#32, 0#32, 1#32, 8#32, 2#32, 16#32, 4#32)
            else
              (1#32, 1#32, 8#32, 2#32, 16#32, 4#32, 0#32, 2#32, 8#32, 2#32, 16#32, 4#32)
        else
          if r.val < 4 then
            (1#32, 1#32, 8#32, 2#32, 16#32, 4#32, 0#32, 3#32, 8#32, 2#32, 16#32, 4#32)
          else
            if r.val < 5 then
              (1#32, 1#32, 8#32, 2#32, 16#32, 4#32, 0#32, 4#32, 8#32, 2#32, 16#32, 4#32)
            else
              (1#32, 1#32, 8#32, 2#32, 16#32, 4#32, 0#32, 5#32, 8#32, 2#32, 16#32, 4#32)
      else
        if r.val < 9 then
          if r.val < 7 then
            (1#32, 1#32, 8#32, 2#32, 16#32, 4#32, 0#32, 6#32, 8#32, 2#32, 16#32, 4#32)
          else
            if r.val < 8 then
              (1#32, 1#32, 8#32, 2#32, 16#32, 4#32, 0#32, 7#32, 8#32, 2#32, 16#32, 4#32)
            else
              (1#32, 1#32, 8#32, 2#32, 16#32, 4#32, 8#32, 0#32, 8#32, 2#32, 16#32, 4#32)
        else
          if r.val < 10 then
            (1#32, 1#32, 8#32, 2#32, 16#32, 4#32, 8#32, 1#32, 8#32, 2#32, 16#32, 4#32)
          else
            if r.val < 11 then
              (1#32, 1#32, 8#32, 2#32, 16#32, 4#32, 8#32, 2#32, 8#32, 2#32, 16#32, 4#32)
            else
              (1#32, 1#32, 8#32, 2#32, 16#32, 4#32, 8#32, 3#32, 8#32, 2#32, 16#32, 4#32)
    else
      if r.val < 18 then
        if r.val < 15 then
          if r.val < 13 then
            (1#32, 1#32, 8#32, 2#32, 16#32, 4#32, 8#32, 4#32, 8#32, 2#32, 16#32, 4#32)
          else
            if r.val < 14 then
              (1#32, 1#32, 8#32, 2#32, 16#32, 4#32, 8#32, 5#32, 8#32, 2#32, 16#32, 4#32)
            else
              (1#32, 1#32, 8#32, 2#32, 16#32, 4#32, 8#32, 6#32, 8#32, 2#32, 16#32, 4#32)
        else
          if r.val < 16 then
            (1#32, 1#32, 8#32, 2#32, 16#32, 4#32, 8#32, 7#32, 8#32, 2#32, 16#32, 4#32)
          else
            if r.val < 17 then
              (8#32, 8#32, 1#32, 16#32, 4#32, 2#32, 0#32, 0#32, 1#32, 16#32, 4#32, 2#32)
            else
              (8#32, 8#32, 1#32, 16#32, 4#32, 2#32, 0#32, 1#32, 1#32, 16#32, 4#32, 2#32)
      else
        if r.val < 21 then
          if r.val < 19 then
            (8#32, 8#32, 1#32, 16#32, 4#32, 2#32, 0#32, 2#32, 1#32, 16#32, 4#32, 2#32)
          else
            if r.val < 20 then
              (8#32, 8#32, 1#32, 16#32, 4#32, 2#32, 0#32, 3#32, 1#32, 16#32, 4#32, 2#32)
            else
              (8#32, 8#32, 1#32, 16#32, 4#32, 2#32, 0#32, 4#32, 1#32, 16#32, 4#32, 2#32)
        else
          if r.val < 22 then
            (8#32, 8#32, 1#32, 16#32, 4#32, 2#32, 0#32, 5#32, 1#32, 16#32, 4#32, 2#32)
          else
            if r.val < 23 then
              (8#32, 8#32, 1#32, 16#32, 4#32, 2#32, 0#32, 6#32, 1#32, 16#32, 4#32, 2#32)
            else
              (8#32, 8#32, 1#32, 16#32, 4#32, 2#32, 0#32, 7#32, 1#32, 16#32, 4#32, 2#32)
  else
    if r.val < 36 then
      if r.val < 30 then
        if r.val < 27 then
          if r.val < 25 then
            (8#32, 8#32, 1#32, 16#32, 4#32, 2#32, 8#32, 0#32, 1#32, 16#32, 4#32, 2#32)
          else
            if r.val < 26 then
              (8#32, 8#32, 1#32, 16#32, 4#32, 2#32, 8#32, 1#32, 1#32, 16#32, 4#32, 2#32)
            else
              (8#32, 8#32, 1#32, 16#32, 4#32, 2#32, 8#32, 2#32, 1#32, 16#32, 4#32, 2#32)
        else
          if r.val < 28 then
            (8#32, 8#32, 1#32, 16#32, 4#32, 2#32, 8#32, 3#32, 1#32, 16#32, 4#32, 2#32)
          else
            if r.val < 29 then
              (8#32, 8#32, 1#32, 16#32, 4#32, 2#32, 8#32, 4#32, 1#32, 16#32, 4#32, 2#32)
            else
              (8#32, 8#32, 1#32, 16#32, 4#32, 2#32, 8#32, 5#32, 1#32, 16#32, 4#32, 2#32)
      else
        if r.val < 33 then
          if r.val < 31 then
            (8#32, 8#32, 1#32, 16#32, 4#32, 2#32, 8#32, 6#32, 1#32, 16#32, 4#32, 2#32)
          else
            if r.val < 32 then
              (8#32, 8#32, 1#32, 16#32, 4#32, 2#32, 8#32, 7#32, 1#32, 16#32, 4#32, 2#32)
            else
              (3#32, 1#32, 4#32, 3#32, 8#32, 16#32, 0#32, 0#32, 4#32, 2#32, 8#32, 16#32)
        else
          if r.val < 34 then
            (3#32, 1#32, 4#32, 3#32, 8#32, 16#32, 0#32, 1#32, 4#32, 2#32, 8#32, 16#32)
          else
            if r.val < 35 then
              (3#32, 1#32, 4#32, 3#32, 8#32, 16#32, 0#32, 2#32, 4#32, 2#32, 8#32, 16#32)
            else
              (3#32, 1#32, 4#32, 3#32, 8#32, 16#32, 0#32, 3#32, 4#32, 2#32, 8#32, 16#32)
    else
      if r.val < 42 then
        if r.val < 39 then
          if r.val < 37 then
            (3#32, 1#32, 4#32, 3#32, 8#32, 16#32, 0#32, 4#32, 4#32, 2#32, 8#32, 16#32)
          else
            if r.val < 38 then
              (3#32, 1#32, 4#32, 3#32, 8#32, 16#32, 0#32, 5#32, 4#32, 2#32, 8#32, 16#32)
            else
              (3#32, 1#32, 4#32, 3#32, 8#32, 16#32, 0#32, 6#32, 4#32, 2#32, 8#32, 16#32)
        else
          if r.val < 40 then
            (3#32, 1#32, 4#32, 3#32, 8#32, 16#32, 0#32, 7#32, 4#32, 2#32, 8#32, 16#32)
          else
            if r.val < 41 then
              (3#32, 1#32, 4#32, 3#32, 8#32, 16#32, 8#32, 0#32, 4#32, 2#32, 8#32, 16#32)
            else
              (3#32, 1#32, 4#32, 3#32, 8#32, 16#32, 8#32, 1#32, 4#32, 2#32, 8#32, 16#32)
      else
        if r.val < 45 then
          if r.val < 43 then
            (3#32, 1#32, 4#32, 3#32, 8#32, 16#32, 8#32, 2#32, 4#32, 2#32, 8#32, 16#32)
          else
            if r.val < 44 then
              (3#32, 1#32, 4#32, 3#32, 8#32, 16#32, 8#32, 3#32, 4#32, 2#32, 8#32, 16#32)
            else
              (3#32, 1#32, 4#32, 3#32, 8#32, 16#32, 8#32, 4#32, 4#32, 2#32, 8#32, 16#32)
        else
          if r.val < 46 then
            (3#32, 1#32, 4#32, 3#32, 8#32, 16#32, 8#32, 5#32, 4#32, 2#32, 8#32, 16#32)
          else
            if r.val < 47 then
              (3#32, 1#32, 4#32, 3#32, 8#32, 16#32, 8#32, 6#32, 4#32, 2#32, 8#32, 16#32)
            else
              (3#32, 1#32, 4#32, 3#32, 8#32, 16#32, 8#32, 7#32, 4#32, 2#32, 8#32, 16#32)
def k0_off7 (d0 : Dev nD) (c0_i32_1194 : BitVec 32) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c5_i32 : BitVec 32 := 5#32
  let v60 : BitVec 32 := Scalar.shrsi v52 c5_i32
  let c5_i32_32 : BitVec 32 := 5#32
  let v61 : BitVec 32 := Scalar.shli v60 c5_i32_32
  let c4_i32_30 : BitVec 32 := 4#32
  let v58 : BitVec 32 := Scalar.shrsi v52 c4_i32_30
  let c1_i32_31 : BitVec 32 := 1#32
  let v59 : BitVec 32 := Scalar.andi v58 c1_i32_31
  let c16_i32_35 : BitVec 32 := 16#32
  let v65 : BitVec 32 := Scalar.muli v59 c16_i32_35
  let v66 : BitVec 32 := Scalar.addi v61 v65
  let v1615 : BitVec 32 := Scalar.addi v66 c0_i32_1194
  let c64_i32_1350 : BitVec 32 := 64#32
  let v1821 : BitVec 32 := Scalar.muli v1615 c64_i32_1350
  let v1822 : Index := Scalar.indexCast v1821
  let c0_1351 : Index := 0#32
  ![v1822.toNat, 0]
def k0_off8 (d0 : Dev nD) (c8_i32_64 : BitVec 32) (c1_i32_71 : BitVec 32) (c16_i32_77 : BitVec 32) (c4_i32_83 : BitVec 32) (c2_i32_89 : BitVec 32) (c0_i32_1510 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c5_i32_102 : BitVec 32 := 5#32
  let v160 : BitVec 32 := Scalar.shrsi v152 c5_i32_102
  let c5_i32_103 : BitVec 32 := 5#32
  let v161 : BitVec 32 := Scalar.shli v160 c5_i32_103
  let c4_i32_100 : BitVec 32 := 4#32
  let v158 : BitVec 32 := Scalar.shrsi v152 c4_i32_100
  let c1_i32_101 : BitVec 32 := 1#32
  let v159 : BitVec 32 := Scalar.andi v158 c1_i32_101
  let c16_i32_106 : BitVec 32 := 16#32
  let v165 : BitVec 32 := Scalar.muli v159 c16_i32_106
  let v166 : BitVec 32 := Scalar.addi v161 v165
  let v2037 : BitVec 32 := Scalar.addi v166 c0_i32_1510
  let c64_i32_1666 : BitVec 32 := 64#32
  let v2243 : BitVec 32 := Scalar.muli v2037 c64_i32_1666
  let v2244 : Index := Scalar.indexCast v2243
  let c0_1667 : Index := 0#32
  ![v2244.toNat, 0]
def k0_off8_at (r : Fin 4) : BitVec 32 × BitVec 32 × BitVec 32 × BitVec 32 × BitVec 32 × BitVec 32 :=
  if r.val < 2 then
    if r.val < 1 then
      (8#32, 1#32, 16#32, 4#32, 2#32, 0#32)
    else
      (8#32, 1#32, 16#32, 4#32, 2#32, 8#32)
  else
    if r.val < 3 then
      (1#32, 4#32, 3#32, 8#32, 16#32, 0#32)
    else
      (1#32, 4#32, 3#32, 8#32, 16#32, 8#32)
def k0_off9 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c4_i32_38 : BitVec 32 := 4#32
  let v69 : BitVec 32 := Scalar.shrsi v52 c4_i32_38
  let c4_i32_39 : BitVec 32 := 4#32
  let v70 : BitVec 32 := Scalar.shli v69 c4_i32_39
  let c1_i32_40 : BitVec 32 := 1#32
  let c3_i32_36 : BitVec 32 := 3#32
  let v67 : BitVec 32 := Scalar.shrsi v52 c3_i32_36
  let c1_i32_37 : BitVec 32 := 1#32
  let v68 : BitVec 32 := Scalar.andi v67 c1_i32_37
  let v71 : BitVec 32 := Scalar.subi c1_i32_40 v68
  let c8_i32_41 : BitVec 32 := 8#32
  let v72 : BitVec 32 := Scalar.muli v71 c8_i32_41
  let v73 : BitVec 32 := Scalar.addi v70 v72
  let c64_i32_2149 : BitVec 32 := 64#32
  let v2887 : BitVec 32 := Scalar.muli v73 c64_i32_2149
  let v2891 : Index := Scalar.indexCast v2887
  let c0_2152 : Index := 0#32
  ![v2891.toNat, 0]
def k0_off10 (d0 : Dev nD) : Fin 2 → Nat :=
  let c0_i32_2150 : BitVec 32 := 0#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c4_i32_38 : BitVec 32 := 4#32
  let v69 : BitVec 32 := Scalar.shrsi v52 c4_i32_38
  let c4_i32_39 : BitVec 32 := 4#32
  let v70 : BitVec 32 := Scalar.shli v69 c4_i32_39
  let c1_i32_40 : BitVec 32 := 1#32
  let c3_i32_36 : BitVec 32 := 3#32
  let v67 : BitVec 32 := Scalar.shrsi v52 c3_i32_36
  let c1_i32_37 : BitVec 32 := 1#32
  let v68 : BitVec 32 := Scalar.andi v67 c1_i32_37
  let v71 : BitVec 32 := Scalar.subi c1_i32_40 v68
  let c8_i32_41 : BitVec 32 := 8#32
  let v72 : BitVec 32 := Scalar.muli v71 c8_i32_41
  let v73 : BitVec 32 := Scalar.addi v70 v72
  let v2888 : BitVec 32 := Scalar.addi c0_i32_2150 v73
  let c5_i32 : BitVec 32 := 5#32
  let v60 : BitVec 32 := Scalar.shrsi v52 c5_i32
  let c5_i32_32 : BitVec 32 := 5#32
  let v61 : BitVec 32 := Scalar.shli v60 c5_i32_32
  let c4_i32_30 : BitVec 32 := 4#32
  let v58 : BitVec 32 := Scalar.shrsi v52 c4_i32_30
  let c1_i32_31 : BitVec 32 := 1#32
  let v59 : BitVec 32 := Scalar.andi v58 c1_i32_31
  let c16_i32_35 : BitVec 32 := 16#32
  let v65 : BitVec 32 := Scalar.muli v59 c16_i32_35
  let v66 : BitVec 32 := Scalar.addi v61 v65
  let v2889 : BitVec 32 := Scalar.subi v2888 v66
  let c64_i32_2151 : BitVec 32 := 64#32
  let v2890 : BitVec 32 := Scalar.muli v2889 c64_i32_2151
  let v2893 : Index := Scalar.indexCast v2890
  let c0_2153 : Index := 0#32
  ![v2893.toNat, 0]
def k0_off11 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c4_i32_38 : BitVec 32 := 4#32
  let v69 : BitVec 32 := Scalar.shrsi v52 c4_i32_38
  let c4_i32_39 : BitVec 32 := 4#32
  let v70 : BitVec 32 := Scalar.shli v69 c4_i32_39
  let c1_i32_40 : BitVec 32 := 1#32
  let c3_i32_36 : BitVec 32 := 3#32
  let v67 : BitVec 32 := Scalar.shrsi v52 c3_i32_36
  let c1_i32_37 : BitVec 32 := 1#32
  let v68 : BitVec 32 := Scalar.andi v67 c1_i32_37
  let v71 : BitVec 32 := Scalar.subi c1_i32_40 v68
  let c8_i32_41 : BitVec 32 := 8#32
  let v72 : BitVec 32 := Scalar.muli v71 c8_i32_41
  let v73 : BitVec 32 := Scalar.addi v70 v72
  let c64_i32_2155 : BitVec 32 := 64#32
  let v2900 : BitVec 32 := Scalar.muli v73 c64_i32_2155
  let c0_i32_2161 : BitVec 32 := 0#32
  ![v2900.toNat, 0]
def k0_dev10 (d0 : Dev nD) : Nat :=
  let c0_i32_2159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_26 : BitVec 32 := 8#32
  let v54 : BitVec 32 := Scalar.xori v2 c8_i32_26
  let c1_i32_2158 : BitVec 32 := 1#32
  let v2901 : BitVec 32 := Scalar.muli v54 c1_i32_2158
  let v2902 : BitVec 32 := Scalar.addi c0_i32_2159 v2901
  v2902.toNat
def k0_off12 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c4_i32_109 : BitVec 32 := 4#32
  let v169 : BitVec 32 := Scalar.shrsi v152 c4_i32_109
  let c4_i32_110 : BitVec 32 := 4#32
  let v170 : BitVec 32 := Scalar.shli v169 c4_i32_110
  let c1_i32_111 : BitVec 32 := 1#32
  let c3_i32_107 : BitVec 32 := 3#32
  let v167 : BitVec 32 := Scalar.shrsi v152 c3_i32_107
  let c1_i32_108 : BitVec 32 := 1#32
  let v168 : BitVec 32 := Scalar.andi v167 c1_i32_108
  let v171 : BitVec 32 := Scalar.subi c1_i32_111 v168
  let c8_i32_112 : BitVec 32 := 8#32
  let v172 : BitVec 32 := Scalar.muli v171 c8_i32_112
  let v173 : BitVec 32 := Scalar.addi v170 v172
  let c64_i32_2169 : BitVec 32 := 64#32
  let v2915 : BitVec 32 := Scalar.muli v173 c64_i32_2169
  let v2919 : Index := Scalar.indexCast v2915
  let c0_2172 : Index := 0#32
  ![v2919.toNat, 0]
def k0_off12_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off13 (d0 : Dev nD) (c8_i32_64 : BitVec 32) (c1_i32_71 : BitVec 32) (c16_i32_77 : BitVec 32) (c4_i32_83 : BitVec 32) (c2_i32_89 : BitVec 32) : Fin 2 → Nat :=
  let c0_i32_2170 : BitVec 32 := 0#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c4_i32_109 : BitVec 32 := 4#32
  let v169 : BitVec 32 := Scalar.shrsi v152 c4_i32_109
  let c4_i32_110 : BitVec 32 := 4#32
  let v170 : BitVec 32 := Scalar.shli v169 c4_i32_110
  let c1_i32_111 : BitVec 32 := 1#32
  let c3_i32_107 : BitVec 32 := 3#32
  let v167 : BitVec 32 := Scalar.shrsi v152 c3_i32_107
  let c1_i32_108 : BitVec 32 := 1#32
  let v168 : BitVec 32 := Scalar.andi v167 c1_i32_108
  let v171 : BitVec 32 := Scalar.subi c1_i32_111 v168
  let c8_i32_112 : BitVec 32 := 8#32
  let v172 : BitVec 32 := Scalar.muli v171 c8_i32_112
  let v173 : BitVec 32 := Scalar.addi v170 v172
  let v2916 : BitVec 32 := Scalar.addi c0_i32_2170 v173
  let c5_i32_102 : BitVec 32 := 5#32
  let v160 : BitVec 32 := Scalar.shrsi v152 c5_i32_102
  let c5_i32_103 : BitVec 32 := 5#32
  let v161 : BitVec 32 := Scalar.shli v160 c5_i32_103
  let c4_i32_100 : BitVec 32 := 4#32
  let v158 : BitVec 32 := Scalar.shrsi v152 c4_i32_100
  let c1_i32_101 : BitVec 32 := 1#32
  let v159 : BitVec 32 := Scalar.andi v158 c1_i32_101
  let c16_i32_106 : BitVec 32 := 16#32
  let v165 : BitVec 32 := Scalar.muli v159 c16_i32_106
  let v166 : BitVec 32 := Scalar.addi v161 v165
  let v2917 : BitVec 32 := Scalar.subi v2916 v166
  let c64_i32_2171 : BitVec 32 := 64#32
  let v2918 : BitVec 32 := Scalar.muli v2917 c64_i32_2171
  let v2921 : Index := Scalar.indexCast v2918
  let c0_2173 : Index := 0#32
  ![v2921.toNat, 0]
def k0_off13_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off14 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c4_i32_109 : BitVec 32 := 4#32
  let v169 : BitVec 32 := Scalar.shrsi v152 c4_i32_109
  let c4_i32_110 : BitVec 32 := 4#32
  let v170 : BitVec 32 := Scalar.shli v169 c4_i32_110
  let c1_i32_111 : BitVec 32 := 1#32
  let c3_i32_107 : BitVec 32 := 3#32
  let v167 : BitVec 32 := Scalar.shrsi v152 c3_i32_107
  let c1_i32_108 : BitVec 32 := 1#32
  let v168 : BitVec 32 := Scalar.andi v167 c1_i32_108
  let v171 : BitVec 32 := Scalar.subi c1_i32_111 v168
  let c8_i32_112 : BitVec 32 := 8#32
  let v172 : BitVec 32 := Scalar.muli v171 c8_i32_112
  let v173 : BitVec 32 := Scalar.addi v170 v172
  let c64_i32_2175 : BitVec 32 := 64#32
  let v2928 : BitVec 32 := Scalar.muli v173 c64_i32_2175
  let c0_i32_2181 : BitVec 32 := 0#32
  ![v2928.toNat, 0]
def k0_off14_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev11 (d0 : Dev nD) : Nat :=
  let c0_i32_2178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v154 : BitVec 32 := Scalar.xori v2 c1_i32_96
  let c1_i32_2177 : BitVec 32 := 1#32
  let v2929 : BitVec 32 := Scalar.muli v154 c1_i32_2177
  let v2930 : BitVec 32 := Scalar.addi c0_i32_2178 v2929
  v2930.toNat
def k0_dev12 (d0 : Dev nD) : Nat :=
  let c0_i32_2198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_167 : BitVec 32 := 4#32
  let v254 : BitVec 32 := Scalar.xori v2 c4_i32_167
  let c1_i32_2197 : BitVec 32 := 1#32
  let v2957 : BitVec 32 := Scalar.muli v254 c1_i32_2197
  let v2958 : BitVec 32 := Scalar.addi c0_i32_2198 v2957
  v2958.toNat
def k0_off15 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c4_i32_38 : BitVec 32 := 4#32
  let v69 : BitVec 32 := Scalar.shrsi v52 c4_i32_38
  let c4_i32_39 : BitVec 32 := 4#32
  let v70 : BitVec 32 := Scalar.shli v69 c4_i32_39
  let c3_i32_36 : BitVec 32 := 3#32
  let v67 : BitVec 32 := Scalar.shrsi v52 c3_i32_36
  let c1_i32_37 : BitVec 32 := 1#32
  let v68 : BitVec 32 := Scalar.andi v67 c1_i32_37
  let c8_i32_42 : BitVec 32 := 8#32
  let v74 : BitVec 32 := Scalar.muli v68 c8_i32_42
  let v75 : BitVec 32 := Scalar.addi v70 v74
  let c64_i32_2202 : BitVec 32 := 64#32
  let v2965 : BitVec 32 := Scalar.muli v75 c64_i32_2202
  let v2969 : Index := Scalar.indexCast v2965
  let c0_2205 : Index := 0#32
  ![v2969.toNat, 0]
def k0_off16 (d0 : Dev nD) : Fin 2 → Nat :=
  let c0_i32_2203 : BitVec 32 := 0#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c4_i32_38 : BitVec 32 := 4#32
  let v69 : BitVec 32 := Scalar.shrsi v52 c4_i32_38
  let c4_i32_39 : BitVec 32 := 4#32
  let v70 : BitVec 32 := Scalar.shli v69 c4_i32_39
  let c3_i32_36 : BitVec 32 := 3#32
  let v67 : BitVec 32 := Scalar.shrsi v52 c3_i32_36
  let c1_i32_37 : BitVec 32 := 1#32
  let v68 : BitVec 32 := Scalar.andi v67 c1_i32_37
  let c8_i32_42 : BitVec 32 := 8#32
  let v74 : BitVec 32 := Scalar.muli v68 c8_i32_42
  let v75 : BitVec 32 := Scalar.addi v70 v74
  let v2966 : BitVec 32 := Scalar.addi c0_i32_2203 v75
  let c5_i32 : BitVec 32 := 5#32
  let v60 : BitVec 32 := Scalar.shrsi v52 c5_i32
  let c5_i32_32 : BitVec 32 := 5#32
  let v61 : BitVec 32 := Scalar.shli v60 c5_i32_32
  let c4_i32_30 : BitVec 32 := 4#32
  let v58 : BitVec 32 := Scalar.shrsi v52 c4_i32_30
  let c1_i32_31 : BitVec 32 := 1#32
  let v59 : BitVec 32 := Scalar.andi v58 c1_i32_31
  let c16_i32_35 : BitVec 32 := 16#32
  let v65 : BitVec 32 := Scalar.muli v59 c16_i32_35
  let v66 : BitVec 32 := Scalar.addi v61 v65
  let v2967 : BitVec 32 := Scalar.subi v2966 v66
  let c64_i32_2204 : BitVec 32 := 64#32
  let v2968 : BitVec 32 := Scalar.muli v2967 c64_i32_2204
  let v2971 : Index := Scalar.indexCast v2968
  let c0_2206 : Index := 0#32
  ![v2971.toNat, 0]
def k0_off17 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c4_i32_109 : BitVec 32 := 4#32
  let v169 : BitVec 32 := Scalar.shrsi v152 c4_i32_109
  let c4_i32_110 : BitVec 32 := 4#32
  let v170 : BitVec 32 := Scalar.shli v169 c4_i32_110
  let c3_i32_107 : BitVec 32 := 3#32
  let v167 : BitVec 32 := Scalar.shrsi v152 c3_i32_107
  let c1_i32_108 : BitVec 32 := 1#32
  let v168 : BitVec 32 := Scalar.andi v167 c1_i32_108
  let c8_i32_113 : BitVec 32 := 8#32
  let v174 : BitVec 32 := Scalar.muli v168 c8_i32_113
  let v175 : BitVec 32 := Scalar.addi v170 v174
  let c64_i32_2208 : BitVec 32 := 64#32
  let v2978 : BitVec 32 := Scalar.muli v175 c64_i32_2208
  let v2982 : Index := Scalar.indexCast v2978
  let c0_2211 : Index := 0#32
  ![v2982.toNat, 0]
def k0_off17_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off18 (d0 : Dev nD) (c8_i32_64 : BitVec 32) (c1_i32_71 : BitVec 32) (c16_i32_77 : BitVec 32) (c4_i32_83 : BitVec 32) (c2_i32_89 : BitVec 32) : Fin 2 → Nat :=
  let c0_i32_2209 : BitVec 32 := 0#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c4_i32_109 : BitVec 32 := 4#32
  let v169 : BitVec 32 := Scalar.shrsi v152 c4_i32_109
  let c4_i32_110 : BitVec 32 := 4#32
  let v170 : BitVec 32 := Scalar.shli v169 c4_i32_110
  let c3_i32_107 : BitVec 32 := 3#32
  let v167 : BitVec 32 := Scalar.shrsi v152 c3_i32_107
  let c1_i32_108 : BitVec 32 := 1#32
  let v168 : BitVec 32 := Scalar.andi v167 c1_i32_108
  let c8_i32_113 : BitVec 32 := 8#32
  let v174 : BitVec 32 := Scalar.muli v168 c8_i32_113
  let v175 : BitVec 32 := Scalar.addi v170 v174
  let v2979 : BitVec 32 := Scalar.addi c0_i32_2209 v175
  let c5_i32_102 : BitVec 32 := 5#32
  let v160 : BitVec 32 := Scalar.shrsi v152 c5_i32_102
  let c5_i32_103 : BitVec 32 := 5#32
  let v161 : BitVec 32 := Scalar.shli v160 c5_i32_103
  let c4_i32_100 : BitVec 32 := 4#32
  let v158 : BitVec 32 := Scalar.shrsi v152 c4_i32_100
  let c1_i32_101 : BitVec 32 := 1#32
  let v159 : BitVec 32 := Scalar.andi v158 c1_i32_101
  let c16_i32_106 : BitVec 32 := 16#32
  let v165 : BitVec 32 := Scalar.muli v159 c16_i32_106
  let v166 : BitVec 32 := Scalar.addi v161 v165
  let v2980 : BitVec 32 := Scalar.subi v2979 v166
  let c64_i32_2210 : BitVec 32 := 64#32
  let v2981 : BitVec 32 := Scalar.muli v2980 c64_i32_2210
  let v2984 : Index := Scalar.indexCast v2981
  let c0_2212 : Index := 0#32
  ![v2984.toNat, 0]
def k0_off18_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off19 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c3_i32_45 : BitVec 32 := 3#32
  let v78 : BitVec 32 := Scalar.shrsi v52 c3_i32_45
  let c3_i32_46 : BitVec 32 := 3#32
  let v79 : BitVec 32 := Scalar.shli v78 c3_i32_46
  let c1_i32_47 : BitVec 32 := 1#32
  let c2_i32_43 : BitVec 32 := 2#32
  let v76 : BitVec 32 := Scalar.shrsi v52 c2_i32_43
  let c1_i32_44 : BitVec 32 := 1#32
  let v77 : BitVec 32 := Scalar.andi v76 c1_i32_44
  let v80 : BitVec 32 := Scalar.subi c1_i32_47 v77
  let c4_i32_48 : BitVec 32 := 4#32
  let v81 : BitVec 32 := Scalar.muli v80 c4_i32_48
  let v82 : BitVec 32 := Scalar.addi v79 v81
  let c64_i32_2245 : BitVec 32 := 64#32
  let v3022 : BitVec 32 := Scalar.muli v82 c64_i32_2245
  let v3026 : Index := Scalar.indexCast v3022
  let c0_2248 : Index := 0#32
  ![v3026.toNat, 0]
def k0_off20 (d0 : Dev nD) : Fin 2 → Nat :=
  let c16_i32_2246 : BitVec 32 := 16#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c3_i32_45 : BitVec 32 := 3#32
  let v78 : BitVec 32 := Scalar.shrsi v52 c3_i32_45
  let c3_i32_46 : BitVec 32 := 3#32
  let v79 : BitVec 32 := Scalar.shli v78 c3_i32_46
  let c1_i32_47 : BitVec 32 := 1#32
  let c2_i32_43 : BitVec 32 := 2#32
  let v76 : BitVec 32 := Scalar.shrsi v52 c2_i32_43
  let c1_i32_44 : BitVec 32 := 1#32
  let v77 : BitVec 32 := Scalar.andi v76 c1_i32_44
  let v80 : BitVec 32 := Scalar.subi c1_i32_47 v77
  let c4_i32_48 : BitVec 32 := 4#32
  let v81 : BitVec 32 := Scalar.muli v80 c4_i32_48
  let v82 : BitVec 32 := Scalar.addi v79 v81
  let v3023 : BitVec 32 := Scalar.addi c16_i32_2246 v82
  let c4_i32_38 : BitVec 32 := 4#32
  let v69 : BitVec 32 := Scalar.shrsi v52 c4_i32_38
  let c4_i32_39 : BitVec 32 := 4#32
  let v70 : BitVec 32 := Scalar.shli v69 c4_i32_39
  let c3_i32_36 : BitVec 32 := 3#32
  let v67 : BitVec 32 := Scalar.shrsi v52 c3_i32_36
  let c1_i32_37 : BitVec 32 := 1#32
  let v68 : BitVec 32 := Scalar.andi v67 c1_i32_37
  let c8_i32_42 : BitVec 32 := 8#32
  let v74 : BitVec 32 := Scalar.muli v68 c8_i32_42
  let v75 : BitVec 32 := Scalar.addi v70 v74
  let v3024 : BitVec 32 := Scalar.subi v3023 v75
  let c64_i32_2247 : BitVec 32 := 64#32
  let v3025 : BitVec 32 := Scalar.muli v3024 c64_i32_2247
  let v3028 : Index := Scalar.indexCast v3025
  let c0_2249 : Index := 0#32
  ![v3028.toNat, 0]
def k0_off21 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c3_i32_45 : BitVec 32 := 3#32
  let v78 : BitVec 32 := Scalar.shrsi v52 c3_i32_45
  let c3_i32_46 : BitVec 32 := 3#32
  let v79 : BitVec 32 := Scalar.shli v78 c3_i32_46
  let c1_i32_47 : BitVec 32 := 1#32
  let c2_i32_43 : BitVec 32 := 2#32
  let v76 : BitVec 32 := Scalar.shrsi v52 c2_i32_43
  let c1_i32_44 : BitVec 32 := 1#32
  let v77 : BitVec 32 := Scalar.andi v76 c1_i32_44
  let v80 : BitVec 32 := Scalar.subi c1_i32_47 v77
  let c4_i32_48 : BitVec 32 := 4#32
  let v81 : BitVec 32 := Scalar.muli v80 c4_i32_48
  let v82 : BitVec 32 := Scalar.addi v79 v81
  let c64_i32_2251 : BitVec 32 := 64#32
  let v3035 : BitVec 32 := Scalar.muli v82 c64_i32_2251
  let c0_i32_2257 : BitVec 32 := 0#32
  ![v3035.toNat, 0]
def k0_dev13 (d0 : Dev nD) : Nat :=
  let c0_i32_2255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_27 : BitVec 32 := 2#32
  let v55 : BitVec 32 := Scalar.xori v2 c2_i32_27
  let c1_i32_2254 : BitVec 32 := 1#32
  let v3036 : BitVec 32 := Scalar.muli v55 c1_i32_2254
  let v3037 : BitVec 32 := Scalar.addi c0_i32_2255 v3036
  v3037.toNat
def k0_off22 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c3_i32_116 : BitVec 32 := 3#32
  let v178 : BitVec 32 := Scalar.shrsi v152 c3_i32_116
  let c3_i32_117 : BitVec 32 := 3#32
  let v179 : BitVec 32 := Scalar.shli v178 c3_i32_117
  let c1_i32_118 : BitVec 32 := 1#32
  let c2_i32_114 : BitVec 32 := 2#32
  let v176 : BitVec 32 := Scalar.shrsi v152 c2_i32_114
  let c1_i32_115 : BitVec 32 := 1#32
  let v177 : BitVec 32 := Scalar.andi v176 c1_i32_115
  let v180 : BitVec 32 := Scalar.subi c1_i32_118 v177
  let c4_i32_119 : BitVec 32 := 4#32
  let v181 : BitVec 32 := Scalar.muli v180 c4_i32_119
  let v182 : BitVec 32 := Scalar.addi v179 v181
  let c64_i32_2265 : BitVec 32 := 64#32
  let v3050 : BitVec 32 := Scalar.muli v182 c64_i32_2265
  let v3054 : Index := Scalar.indexCast v3050
  let c0_2268 : Index := 0#32
  ![v3054.toNat, 0]
def k0_off22_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off23 (d0 : Dev nD) (c8_i32_64 : BitVec 32) (c1_i32_71 : BitVec 32) (c16_i32_77 : BitVec 32) (c4_i32_83 : BitVec 32) (c2_i32_89 : BitVec 32) : Fin 2 → Nat :=
  let c16_i32_2266 : BitVec 32 := 16#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c3_i32_116 : BitVec 32 := 3#32
  let v178 : BitVec 32 := Scalar.shrsi v152 c3_i32_116
  let c3_i32_117 : BitVec 32 := 3#32
  let v179 : BitVec 32 := Scalar.shli v178 c3_i32_117
  let c1_i32_118 : BitVec 32 := 1#32
  let c2_i32_114 : BitVec 32 := 2#32
  let v176 : BitVec 32 := Scalar.shrsi v152 c2_i32_114
  let c1_i32_115 : BitVec 32 := 1#32
  let v177 : BitVec 32 := Scalar.andi v176 c1_i32_115
  let v180 : BitVec 32 := Scalar.subi c1_i32_118 v177
  let c4_i32_119 : BitVec 32 := 4#32
  let v181 : BitVec 32 := Scalar.muli v180 c4_i32_119
  let v182 : BitVec 32 := Scalar.addi v179 v181
  let v3051 : BitVec 32 := Scalar.addi c16_i32_2266 v182
  let c4_i32_109 : BitVec 32 := 4#32
  let v169 : BitVec 32 := Scalar.shrsi v152 c4_i32_109
  let c4_i32_110 : BitVec 32 := 4#32
  let v170 : BitVec 32 := Scalar.shli v169 c4_i32_110
  let c3_i32_107 : BitVec 32 := 3#32
  let v167 : BitVec 32 := Scalar.shrsi v152 c3_i32_107
  let c1_i32_108 : BitVec 32 := 1#32
  let v168 : BitVec 32 := Scalar.andi v167 c1_i32_108
  let c8_i32_113 : BitVec 32 := 8#32
  let v174 : BitVec 32 := Scalar.muli v168 c8_i32_113
  let v175 : BitVec 32 := Scalar.addi v170 v174
  let v3052 : BitVec 32 := Scalar.subi v3051 v175
  let c64_i32_2267 : BitVec 32 := 64#32
  let v3053 : BitVec 32 := Scalar.muli v3052 c64_i32_2267
  let v3056 : Index := Scalar.indexCast v3053
  let c0_2269 : Index := 0#32
  ![v3056.toNat, 0]
def k0_off23_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off24 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c3_i32_116 : BitVec 32 := 3#32
  let v178 : BitVec 32 := Scalar.shrsi v152 c3_i32_116
  let c3_i32_117 : BitVec 32 := 3#32
  let v179 : BitVec 32 := Scalar.shli v178 c3_i32_117
  let c1_i32_118 : BitVec 32 := 1#32
  let c2_i32_114 : BitVec 32 := 2#32
  let v176 : BitVec 32 := Scalar.shrsi v152 c2_i32_114
  let c1_i32_115 : BitVec 32 := 1#32
  let v177 : BitVec 32 := Scalar.andi v176 c1_i32_115
  let v180 : BitVec 32 := Scalar.subi c1_i32_118 v177
  let c4_i32_119 : BitVec 32 := 4#32
  let v181 : BitVec 32 := Scalar.muli v180 c4_i32_119
  let v182 : BitVec 32 := Scalar.addi v179 v181
  let c64_i32_2271 : BitVec 32 := 64#32
  let v3063 : BitVec 32 := Scalar.muli v182 c64_i32_2271
  let c0_i32_2277 : BitVec 32 := 0#32
  ![v3063.toNat, 0]
def k0_off24_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev14 (d0 : Dev nD) : Nat :=
  let c0_i32_2274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_97 : BitVec 32 := 16#32
  let v155 : BitVec 32 := Scalar.xori v2 c16_i32_97
  let c1_i32_2273 : BitVec 32 := 1#32
  let v3064 : BitVec 32 := Scalar.muli v155 c1_i32_2273
  let v3065 : BitVec 32 := Scalar.addi c0_i32_2274 v3064
  v3065.toNat
def k0_dev15 (d0 : Dev nD) : Nat :=
  let c0_i32_2294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_168 : BitVec 32 := 2#32
  let v255 : BitVec 32 := Scalar.xori v2 c2_i32_168
  let c1_i32_2293 : BitVec 32 := 1#32
  let v3092 : BitVec 32 := Scalar.muli v255 c1_i32_2293
  let v3093 : BitVec 32 := Scalar.addi c0_i32_2294 v3092
  v3093.toNat
def k0_off25 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c3_i32_45 : BitVec 32 := 3#32
  let v78 : BitVec 32 := Scalar.shrsi v52 c3_i32_45
  let c3_i32_46 : BitVec 32 := 3#32
  let v79 : BitVec 32 := Scalar.shli v78 c3_i32_46
  let c2_i32_43 : BitVec 32 := 2#32
  let v76 : BitVec 32 := Scalar.shrsi v52 c2_i32_43
  let c1_i32_44 : BitVec 32 := 1#32
  let v77 : BitVec 32 := Scalar.andi v76 c1_i32_44
  let c4_i32_49 : BitVec 32 := 4#32
  let v83 : BitVec 32 := Scalar.muli v77 c4_i32_49
  let v84 : BitVec 32 := Scalar.addi v79 v83
  let c64_i32_2298 : BitVec 32 := 64#32
  let v3100 : BitVec 32 := Scalar.muli v84 c64_i32_2298
  let v3104 : Index := Scalar.indexCast v3100
  let c0_2301 : Index := 0#32
  ![v3104.toNat, 0]
def k0_off26 (d0 : Dev nD) : Fin 2 → Nat :=
  let c16_i32_2299 : BitVec 32 := 16#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c3_i32_45 : BitVec 32 := 3#32
  let v78 : BitVec 32 := Scalar.shrsi v52 c3_i32_45
  let c3_i32_46 : BitVec 32 := 3#32
  let v79 : BitVec 32 := Scalar.shli v78 c3_i32_46
  let c2_i32_43 : BitVec 32 := 2#32
  let v76 : BitVec 32 := Scalar.shrsi v52 c2_i32_43
  let c1_i32_44 : BitVec 32 := 1#32
  let v77 : BitVec 32 := Scalar.andi v76 c1_i32_44
  let c4_i32_49 : BitVec 32 := 4#32
  let v83 : BitVec 32 := Scalar.muli v77 c4_i32_49
  let v84 : BitVec 32 := Scalar.addi v79 v83
  let v3101 : BitVec 32 := Scalar.addi c16_i32_2299 v84
  let c4_i32_38 : BitVec 32 := 4#32
  let v69 : BitVec 32 := Scalar.shrsi v52 c4_i32_38
  let c4_i32_39 : BitVec 32 := 4#32
  let v70 : BitVec 32 := Scalar.shli v69 c4_i32_39
  let c3_i32_36 : BitVec 32 := 3#32
  let v67 : BitVec 32 := Scalar.shrsi v52 c3_i32_36
  let c1_i32_37 : BitVec 32 := 1#32
  let v68 : BitVec 32 := Scalar.andi v67 c1_i32_37
  let c8_i32_42 : BitVec 32 := 8#32
  let v74 : BitVec 32 := Scalar.muli v68 c8_i32_42
  let v75 : BitVec 32 := Scalar.addi v70 v74
  let v3102 : BitVec 32 := Scalar.subi v3101 v75
  let c64_i32_2300 : BitVec 32 := 64#32
  let v3103 : BitVec 32 := Scalar.muli v3102 c64_i32_2300
  let v3106 : Index := Scalar.indexCast v3103
  let c0_2302 : Index := 0#32
  ![v3106.toNat, 0]
def k0_off27 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c3_i32_116 : BitVec 32 := 3#32
  let v178 : BitVec 32 := Scalar.shrsi v152 c3_i32_116
  let c3_i32_117 : BitVec 32 := 3#32
  let v179 : BitVec 32 := Scalar.shli v178 c3_i32_117
  let c2_i32_114 : BitVec 32 := 2#32
  let v176 : BitVec 32 := Scalar.shrsi v152 c2_i32_114
  let c1_i32_115 : BitVec 32 := 1#32
  let v177 : BitVec 32 := Scalar.andi v176 c1_i32_115
  let c4_i32_120 : BitVec 32 := 4#32
  let v183 : BitVec 32 := Scalar.muli v177 c4_i32_120
  let v184 : BitVec 32 := Scalar.addi v179 v183
  let c64_i32_2304 : BitVec 32 := 64#32
  let v3113 : BitVec 32 := Scalar.muli v184 c64_i32_2304
  let v3117 : Index := Scalar.indexCast v3113
  let c0_2307 : Index := 0#32
  ![v3117.toNat, 0]
def k0_off27_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off28 (d0 : Dev nD) (c8_i32_64 : BitVec 32) (c1_i32_71 : BitVec 32) (c16_i32_77 : BitVec 32) (c4_i32_83 : BitVec 32) (c2_i32_89 : BitVec 32) : Fin 2 → Nat :=
  let c16_i32_2305 : BitVec 32 := 16#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c3_i32_116 : BitVec 32 := 3#32
  let v178 : BitVec 32 := Scalar.shrsi v152 c3_i32_116
  let c3_i32_117 : BitVec 32 := 3#32
  let v179 : BitVec 32 := Scalar.shli v178 c3_i32_117
  let c2_i32_114 : BitVec 32 := 2#32
  let v176 : BitVec 32 := Scalar.shrsi v152 c2_i32_114
  let c1_i32_115 : BitVec 32 := 1#32
  let v177 : BitVec 32 := Scalar.andi v176 c1_i32_115
  let c4_i32_120 : BitVec 32 := 4#32
  let v183 : BitVec 32 := Scalar.muli v177 c4_i32_120
  let v184 : BitVec 32 := Scalar.addi v179 v183
  let v3114 : BitVec 32 := Scalar.addi c16_i32_2305 v184
  let c4_i32_109 : BitVec 32 := 4#32
  let v169 : BitVec 32 := Scalar.shrsi v152 c4_i32_109
  let c4_i32_110 : BitVec 32 := 4#32
  let v170 : BitVec 32 := Scalar.shli v169 c4_i32_110
  let c3_i32_107 : BitVec 32 := 3#32
  let v167 : BitVec 32 := Scalar.shrsi v152 c3_i32_107
  let c1_i32_108 : BitVec 32 := 1#32
  let v168 : BitVec 32 := Scalar.andi v167 c1_i32_108
  let c8_i32_113 : BitVec 32 := 8#32
  let v174 : BitVec 32 := Scalar.muli v168 c8_i32_113
  let v175 : BitVec 32 := Scalar.addi v170 v174
  let v3115 : BitVec 32 := Scalar.subi v3114 v175
  let c64_i32_2306 : BitVec 32 := 64#32
  let v3116 : BitVec 32 := Scalar.muli v3115 c64_i32_2306
  let v3119 : Index := Scalar.indexCast v3116
  let c0_2308 : Index := 0#32
  ![v3119.toNat, 0]
def k0_off28_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off29 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c2_i32_52 : BitVec 32 := 2#32
  let v87 : BitVec 32 := Scalar.shrsi v52 c2_i32_52
  let c2_i32_53 : BitVec 32 := 2#32
  let v88 : BitVec 32 := Scalar.shli v87 c2_i32_53
  let c1_i32_54 : BitVec 32 := 1#32
  let c1_i32_50 : BitVec 32 := 1#32
  let v85 : BitVec 32 := Scalar.shrsi v52 c1_i32_50
  let c1_i32_51 : BitVec 32 := 1#32
  let v86 : BitVec 32 := Scalar.andi v85 c1_i32_51
  let v89 : BitVec 32 := Scalar.subi c1_i32_54 v86
  let c2_i32_55 : BitVec 32 := 2#32
  let v90 : BitVec 32 := Scalar.muli v89 c2_i32_55
  let v91 : BitVec 32 := Scalar.addi v88 v90
  let c64_i32_2341 : BitVec 32 := 64#32
  let v3157 : BitVec 32 := Scalar.muli v91 c64_i32_2341
  let v3161 : Index := Scalar.indexCast v3157
  let c0_2343 : Index := 0#32
  ![v3161.toNat, 0]
def k0_off30 (d0 : Dev nD) : Fin 2 → Nat :=
  let c24_i32 : BitVec 32 := 24#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c2_i32_52 : BitVec 32 := 2#32
  let v87 : BitVec 32 := Scalar.shrsi v52 c2_i32_52
  let c2_i32_53 : BitVec 32 := 2#32
  let v88 : BitVec 32 := Scalar.shli v87 c2_i32_53
  let c1_i32_54 : BitVec 32 := 1#32
  let c1_i32_50 : BitVec 32 := 1#32
  let v85 : BitVec 32 := Scalar.shrsi v52 c1_i32_50
  let c1_i32_51 : BitVec 32 := 1#32
  let v86 : BitVec 32 := Scalar.andi v85 c1_i32_51
  let v89 : BitVec 32 := Scalar.subi c1_i32_54 v86
  let c2_i32_55 : BitVec 32 := 2#32
  let v90 : BitVec 32 := Scalar.muli v89 c2_i32_55
  let v91 : BitVec 32 := Scalar.addi v88 v90
  let v3158 : BitVec 32 := Scalar.addi c24_i32 v91
  let c3_i32_45 : BitVec 32 := 3#32
  let v78 : BitVec 32 := Scalar.shrsi v52 c3_i32_45
  let c3_i32_46 : BitVec 32 := 3#32
  let v79 : BitVec 32 := Scalar.shli v78 c3_i32_46
  let c2_i32_43 : BitVec 32 := 2#32
  let v76 : BitVec 32 := Scalar.shrsi v52 c2_i32_43
  let c1_i32_44 : BitVec 32 := 1#32
  let v77 : BitVec 32 := Scalar.andi v76 c1_i32_44
  let c4_i32_49 : BitVec 32 := 4#32
  let v83 : BitVec 32 := Scalar.muli v77 c4_i32_49
  let v84 : BitVec 32 := Scalar.addi v79 v83
  let v3159 : BitVec 32 := Scalar.subi v3158 v84
  let c64_i32_2342 : BitVec 32 := 64#32
  let v3160 : BitVec 32 := Scalar.muli v3159 c64_i32_2342
  let v3163 : Index := Scalar.indexCast v3160
  let c0_2344 : Index := 0#32
  ![v3163.toNat, 0]
def k0_off31 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c2_i32_52 : BitVec 32 := 2#32
  let v87 : BitVec 32 := Scalar.shrsi v52 c2_i32_52
  let c2_i32_53 : BitVec 32 := 2#32
  let v88 : BitVec 32 := Scalar.shli v87 c2_i32_53
  let c1_i32_54 : BitVec 32 := 1#32
  let c1_i32_50 : BitVec 32 := 1#32
  let v85 : BitVec 32 := Scalar.shrsi v52 c1_i32_50
  let c1_i32_51 : BitVec 32 := 1#32
  let v86 : BitVec 32 := Scalar.andi v85 c1_i32_51
  let v89 : BitVec 32 := Scalar.subi c1_i32_54 v86
  let c2_i32_55 : BitVec 32 := 2#32
  let v90 : BitVec 32 := Scalar.muli v89 c2_i32_55
  let v91 : BitVec 32 := Scalar.addi v88 v90
  let c64_i32_2346 : BitVec 32 := 64#32
  let v3170 : BitVec 32 := Scalar.muli v91 c64_i32_2346
  let c0_i32_2352 : BitVec 32 := 0#32
  ![v3170.toNat, 0]
def k0_dev16 (d0 : Dev nD) : Nat :=
  let c0_i32_2350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_28 : BitVec 32 := 16#32
  let v56 : BitVec 32 := Scalar.xori v2 c16_i32_28
  let c1_i32_2349 : BitVec 32 := 1#32
  let v3171 : BitVec 32 := Scalar.muli v56 c1_i32_2349
  let v3172 : BitVec 32 := Scalar.addi c0_i32_2350 v3171
  v3172.toNat
def k0_off32 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c2_i32_123 : BitVec 32 := 2#32
  let v187 : BitVec 32 := Scalar.shrsi v152 c2_i32_123
  let c2_i32_124 : BitVec 32 := 2#32
  let v188 : BitVec 32 := Scalar.shli v187 c2_i32_124
  let c1_i32_125 : BitVec 32 := 1#32
  let c1_i32_121 : BitVec 32 := 1#32
  let v185 : BitVec 32 := Scalar.shrsi v152 c1_i32_121
  let c1_i32_122 : BitVec 32 := 1#32
  let v186 : BitVec 32 := Scalar.andi v185 c1_i32_122
  let v189 : BitVec 32 := Scalar.subi c1_i32_125 v186
  let c2_i32_126 : BitVec 32 := 2#32
  let v190 : BitVec 32 := Scalar.muli v189 c2_i32_126
  let v191 : BitVec 32 := Scalar.addi v188 v190
  let c64_i32_2360 : BitVec 32 := 64#32
  let v3185 : BitVec 32 := Scalar.muli v191 c64_i32_2360
  let v3189 : Index := Scalar.indexCast v3185
  let c0_2363 : Index := 0#32
  ![v3189.toNat, 0]
def k0_off32_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off33 (d0 : Dev nD) (c8_i32_64 : BitVec 32) (c1_i32_71 : BitVec 32) (c16_i32_77 : BitVec 32) (c4_i32_83 : BitVec 32) (c2_i32_89 : BitVec 32) : Fin 2 → Nat :=
  let c24_i32_2361 : BitVec 32 := 24#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c2_i32_123 : BitVec 32 := 2#32
  let v187 : BitVec 32 := Scalar.shrsi v152 c2_i32_123
  let c2_i32_124 : BitVec 32 := 2#32
  let v188 : BitVec 32 := Scalar.shli v187 c2_i32_124
  let c1_i32_125 : BitVec 32 := 1#32
  let c1_i32_121 : BitVec 32 := 1#32
  let v185 : BitVec 32 := Scalar.shrsi v152 c1_i32_121
  let c1_i32_122 : BitVec 32 := 1#32
  let v186 : BitVec 32 := Scalar.andi v185 c1_i32_122
  let v189 : BitVec 32 := Scalar.subi c1_i32_125 v186
  let c2_i32_126 : BitVec 32 := 2#32
  let v190 : BitVec 32 := Scalar.muli v189 c2_i32_126
  let v191 : BitVec 32 := Scalar.addi v188 v190
  let v3186 : BitVec 32 := Scalar.addi c24_i32_2361 v191
  let c3_i32_116 : BitVec 32 := 3#32
  let v178 : BitVec 32 := Scalar.shrsi v152 c3_i32_116
  let c3_i32_117 : BitVec 32 := 3#32
  let v179 : BitVec 32 := Scalar.shli v178 c3_i32_117
  let c2_i32_114 : BitVec 32 := 2#32
  let v176 : BitVec 32 := Scalar.shrsi v152 c2_i32_114
  let c1_i32_115 : BitVec 32 := 1#32
  let v177 : BitVec 32 := Scalar.andi v176 c1_i32_115
  let c4_i32_120 : BitVec 32 := 4#32
  let v183 : BitVec 32 := Scalar.muli v177 c4_i32_120
  let v184 : BitVec 32 := Scalar.addi v179 v183
  let v3187 : BitVec 32 := Scalar.subi v3186 v184
  let c64_i32_2362 : BitVec 32 := 64#32
  let v3188 : BitVec 32 := Scalar.muli v3187 c64_i32_2362
  let v3191 : Index := Scalar.indexCast v3188
  let c0_2364 : Index := 0#32
  ![v3191.toNat, 0]
def k0_off33_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off34 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c2_i32_123 : BitVec 32 := 2#32
  let v187 : BitVec 32 := Scalar.shrsi v152 c2_i32_123
  let c2_i32_124 : BitVec 32 := 2#32
  let v188 : BitVec 32 := Scalar.shli v187 c2_i32_124
  let c1_i32_125 : BitVec 32 := 1#32
  let c1_i32_121 : BitVec 32 := 1#32
  let v185 : BitVec 32 := Scalar.shrsi v152 c1_i32_121
  let c1_i32_122 : BitVec 32 := 1#32
  let v186 : BitVec 32 := Scalar.andi v185 c1_i32_122
  let v189 : BitVec 32 := Scalar.subi c1_i32_125 v186
  let c2_i32_126 : BitVec 32 := 2#32
  let v190 : BitVec 32 := Scalar.muli v189 c2_i32_126
  let v191 : BitVec 32 := Scalar.addi v188 v190
  let c64_i32_2366 : BitVec 32 := 64#32
  let v3198 : BitVec 32 := Scalar.muli v191 c64_i32_2366
  let c0_i32_2372 : BitVec 32 := 0#32
  ![v3198.toNat, 0]
def k0_off34_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev17 (d0 : Dev nD) : Nat :=
  let c0_i32_2369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_98 : BitVec 32 := 4#32
  let v156 : BitVec 32 := Scalar.xori v2 c4_i32_98
  let c1_i32_2368 : BitVec 32 := 1#32
  let v3199 : BitVec 32 := Scalar.muli v156 c1_i32_2368
  let v3200 : BitVec 32 := Scalar.addi c0_i32_2369 v3199
  v3200.toNat
def k0_dev18 (d0 : Dev nD) : Nat :=
  let c0_i32_2389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_169 : BitVec 32 := 8#32
  let v256 : BitVec 32 := Scalar.xori v2 c8_i32_169
  let c1_i32_2388 : BitVec 32 := 1#32
  let v3227 : BitVec 32 := Scalar.muli v256 c1_i32_2388
  let v3228 : BitVec 32 := Scalar.addi c0_i32_2389 v3227
  v3228.toNat
def k0_off35 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c2_i32_52 : BitVec 32 := 2#32
  let v87 : BitVec 32 := Scalar.shrsi v52 c2_i32_52
  let c2_i32_53 : BitVec 32 := 2#32
  let v88 : BitVec 32 := Scalar.shli v87 c2_i32_53
  let c1_i32_50 : BitVec 32 := 1#32
  let v85 : BitVec 32 := Scalar.shrsi v52 c1_i32_50
  let c1_i32_51 : BitVec 32 := 1#32
  let v86 : BitVec 32 := Scalar.andi v85 c1_i32_51
  let c2_i32_56 : BitVec 32 := 2#32
  let v92 : BitVec 32 := Scalar.muli v86 c2_i32_56
  let v93 : BitVec 32 := Scalar.addi v88 v92
  let c64_i32_2393 : BitVec 32 := 64#32
  let v3235 : BitVec 32 := Scalar.muli v93 c64_i32_2393
  let v3239 : Index := Scalar.indexCast v3235
  let c0_2396 : Index := 0#32
  ![v3239.toNat, 0]
def k0_off36 (d0 : Dev nD) : Fin 2 → Nat :=
  let c24_i32_2394 : BitVec 32 := 24#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c2_i32_52 : BitVec 32 := 2#32
  let v87 : BitVec 32 := Scalar.shrsi v52 c2_i32_52
  let c2_i32_53 : BitVec 32 := 2#32
  let v88 : BitVec 32 := Scalar.shli v87 c2_i32_53
  let c1_i32_50 : BitVec 32 := 1#32
  let v85 : BitVec 32 := Scalar.shrsi v52 c1_i32_50
  let c1_i32_51 : BitVec 32 := 1#32
  let v86 : BitVec 32 := Scalar.andi v85 c1_i32_51
  let c2_i32_56 : BitVec 32 := 2#32
  let v92 : BitVec 32 := Scalar.muli v86 c2_i32_56
  let v93 : BitVec 32 := Scalar.addi v88 v92
  let v3236 : BitVec 32 := Scalar.addi c24_i32_2394 v93
  let c3_i32_45 : BitVec 32 := 3#32
  let v78 : BitVec 32 := Scalar.shrsi v52 c3_i32_45
  let c3_i32_46 : BitVec 32 := 3#32
  let v79 : BitVec 32 := Scalar.shli v78 c3_i32_46
  let c2_i32_43 : BitVec 32 := 2#32
  let v76 : BitVec 32 := Scalar.shrsi v52 c2_i32_43
  let c1_i32_44 : BitVec 32 := 1#32
  let v77 : BitVec 32 := Scalar.andi v76 c1_i32_44
  let c4_i32_49 : BitVec 32 := 4#32
  let v83 : BitVec 32 := Scalar.muli v77 c4_i32_49
  let v84 : BitVec 32 := Scalar.addi v79 v83
  let v3237 : BitVec 32 := Scalar.subi v3236 v84
  let c64_i32_2395 : BitVec 32 := 64#32
  let v3238 : BitVec 32 := Scalar.muli v3237 c64_i32_2395
  let v3241 : Index := Scalar.indexCast v3238
  let c0_2397 : Index := 0#32
  ![v3241.toNat, 0]
def k0_off37 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c2_i32_123 : BitVec 32 := 2#32
  let v187 : BitVec 32 := Scalar.shrsi v152 c2_i32_123
  let c2_i32_124 : BitVec 32 := 2#32
  let v188 : BitVec 32 := Scalar.shli v187 c2_i32_124
  let c1_i32_121 : BitVec 32 := 1#32
  let v185 : BitVec 32 := Scalar.shrsi v152 c1_i32_121
  let c1_i32_122 : BitVec 32 := 1#32
  let v186 : BitVec 32 := Scalar.andi v185 c1_i32_122
  let c2_i32_127 : BitVec 32 := 2#32
  let v192 : BitVec 32 := Scalar.muli v186 c2_i32_127
  let v193 : BitVec 32 := Scalar.addi v188 v192
  let c64_i32_2399 : BitVec 32 := 64#32
  let v3248 : BitVec 32 := Scalar.muli v193 c64_i32_2399
  let v3252 : Index := Scalar.indexCast v3248
  let c0_2402 : Index := 0#32
  ![v3252.toNat, 0]
def k0_off37_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off38 (d0 : Dev nD) (c8_i32_64 : BitVec 32) (c1_i32_71 : BitVec 32) (c16_i32_77 : BitVec 32) (c4_i32_83 : BitVec 32) (c2_i32_89 : BitVec 32) : Fin 2 → Nat :=
  let c24_i32_2400 : BitVec 32 := 24#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c2_i32_123 : BitVec 32 := 2#32
  let v187 : BitVec 32 := Scalar.shrsi v152 c2_i32_123
  let c2_i32_124 : BitVec 32 := 2#32
  let v188 : BitVec 32 := Scalar.shli v187 c2_i32_124
  let c1_i32_121 : BitVec 32 := 1#32
  let v185 : BitVec 32 := Scalar.shrsi v152 c1_i32_121
  let c1_i32_122 : BitVec 32 := 1#32
  let v186 : BitVec 32 := Scalar.andi v185 c1_i32_122
  let c2_i32_127 : BitVec 32 := 2#32
  let v192 : BitVec 32 := Scalar.muli v186 c2_i32_127
  let v193 : BitVec 32 := Scalar.addi v188 v192
  let v3249 : BitVec 32 := Scalar.addi c24_i32_2400 v193
  let c3_i32_116 : BitVec 32 := 3#32
  let v178 : BitVec 32 := Scalar.shrsi v152 c3_i32_116
  let c3_i32_117 : BitVec 32 := 3#32
  let v179 : BitVec 32 := Scalar.shli v178 c3_i32_117
  let c2_i32_114 : BitVec 32 := 2#32
  let v176 : BitVec 32 := Scalar.shrsi v152 c2_i32_114
  let c1_i32_115 : BitVec 32 := 1#32
  let v177 : BitVec 32 := Scalar.andi v176 c1_i32_115
  let c4_i32_120 : BitVec 32 := 4#32
  let v183 : BitVec 32 := Scalar.muli v177 c4_i32_120
  let v184 : BitVec 32 := Scalar.addi v179 v183
  let v3250 : BitVec 32 := Scalar.subi v3249 v184
  let c64_i32_2401 : BitVec 32 := 64#32
  let v3251 : BitVec 32 := Scalar.muli v3250 c64_i32_2401
  let v3254 : Index := Scalar.indexCast v3251
  let c0_2403 : Index := 0#32
  ![v3254.toNat, 0]
def k0_off38_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off39 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_59 : BitVec 32 := 1#32
  let v96 : BitVec 32 := Scalar.shrsi v52 c1_i32_59
  let c1_i32_60 : BitVec 32 := 1#32
  let v97 : BitVec 32 := Scalar.shli v96 c1_i32_60
  let c1_i32_61 : BitVec 32 := 1#32
  let c0_i32_57 : BitVec 32 := 0#32
  let v94 : BitVec 32 := Scalar.shrsi v52 c0_i32_57
  let c1_i32_58 : BitVec 32 := 1#32
  let v95 : BitVec 32 := Scalar.andi v94 c1_i32_58
  let v98 : BitVec 32 := Scalar.subi c1_i32_61 v95
  let c1_i32_62 : BitVec 32 := 1#32
  let v99 : BitVec 32 := Scalar.muli v98 c1_i32_62
  let v100 : BitVec 32 := Scalar.addi v97 v99
  let c64_i32_2436 : BitVec 32 := 64#32
  let v3292 : BitVec 32 := Scalar.muli v100 c64_i32_2436
  let v3296 : Index := Scalar.indexCast v3292
  let c0_2438 : Index := 0#32
  ![v3296.toNat, 0]
def k0_off40 (d0 : Dev nD) : Fin 2 → Nat :=
  let c28_i32 : BitVec 32 := 28#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_59 : BitVec 32 := 1#32
  let v96 : BitVec 32 := Scalar.shrsi v52 c1_i32_59
  let c1_i32_60 : BitVec 32 := 1#32
  let v97 : BitVec 32 := Scalar.shli v96 c1_i32_60
  let c1_i32_61 : BitVec 32 := 1#32
  let c0_i32_57 : BitVec 32 := 0#32
  let v94 : BitVec 32 := Scalar.shrsi v52 c0_i32_57
  let c1_i32_58 : BitVec 32 := 1#32
  let v95 : BitVec 32 := Scalar.andi v94 c1_i32_58
  let v98 : BitVec 32 := Scalar.subi c1_i32_61 v95
  let c1_i32_62 : BitVec 32 := 1#32
  let v99 : BitVec 32 := Scalar.muli v98 c1_i32_62
  let v100 : BitVec 32 := Scalar.addi v97 v99
  let v3293 : BitVec 32 := Scalar.addi c28_i32 v100
  let c2_i32_52 : BitVec 32 := 2#32
  let v87 : BitVec 32 := Scalar.shrsi v52 c2_i32_52
  let c2_i32_53 : BitVec 32 := 2#32
  let v88 : BitVec 32 := Scalar.shli v87 c2_i32_53
  let c1_i32_50 : BitVec 32 := 1#32
  let v85 : BitVec 32 := Scalar.shrsi v52 c1_i32_50
  let c1_i32_51 : BitVec 32 := 1#32
  let v86 : BitVec 32 := Scalar.andi v85 c1_i32_51
  let c2_i32_56 : BitVec 32 := 2#32
  let v92 : BitVec 32 := Scalar.muli v86 c2_i32_56
  let v93 : BitVec 32 := Scalar.addi v88 v92
  let v3294 : BitVec 32 := Scalar.subi v3293 v93
  let c64_i32_2437 : BitVec 32 := 64#32
  let v3295 : BitVec 32 := Scalar.muli v3294 c64_i32_2437
  let v3298 : Index := Scalar.indexCast v3295
  let c0_2439 : Index := 0#32
  ![v3298.toNat, 0]
def k0_off41 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_59 : BitVec 32 := 1#32
  let v96 : BitVec 32 := Scalar.shrsi v52 c1_i32_59
  let c1_i32_60 : BitVec 32 := 1#32
  let v97 : BitVec 32 := Scalar.shli v96 c1_i32_60
  let c1_i32_61 : BitVec 32 := 1#32
  let c0_i32_57 : BitVec 32 := 0#32
  let v94 : BitVec 32 := Scalar.shrsi v52 c0_i32_57
  let c1_i32_58 : BitVec 32 := 1#32
  let v95 : BitVec 32 := Scalar.andi v94 c1_i32_58
  let v98 : BitVec 32 := Scalar.subi c1_i32_61 v95
  let c1_i32_62 : BitVec 32 := 1#32
  let v99 : BitVec 32 := Scalar.muli v98 c1_i32_62
  let v100 : BitVec 32 := Scalar.addi v97 v99
  let c64_i32_2441 : BitVec 32 := 64#32
  let v3305 : BitVec 32 := Scalar.muli v100 c64_i32_2441
  let c0_i32_2447 : BitVec 32 := 0#32
  ![v3305.toNat, 0]
def k0_dev19 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_29 : BitVec 32 := 4#32
  let v57 : BitVec 32 := Scalar.xori v2 c4_i32_29
  let c1_i32_2444 : BitVec 32 := 1#32
  let v3306 : BitVec 32 := Scalar.muli v57 c1_i32_2444
  let v3307 : BitVec 32 := Scalar.addi c0_i32_2445 v3306
  v3307.toNat
def k0_off42 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_130 : BitVec 32 := 1#32
  let v196 : BitVec 32 := Scalar.shrsi v152 c1_i32_130
  let c1_i32_131 : BitVec 32 := 1#32
  let v197 : BitVec 32 := Scalar.shli v196 c1_i32_131
  let c1_i32_132 : BitVec 32 := 1#32
  let c0_i32_128 : BitVec 32 := 0#32
  let v194 : BitVec 32 := Scalar.shrsi v152 c0_i32_128
  let c1_i32_129 : BitVec 32 := 1#32
  let v195 : BitVec 32 := Scalar.andi v194 c1_i32_129
  let v198 : BitVec 32 := Scalar.subi c1_i32_132 v195
  let c1_i32_133 : BitVec 32 := 1#32
  let v199 : BitVec 32 := Scalar.muli v198 c1_i32_133
  let v200 : BitVec 32 := Scalar.addi v197 v199
  let c64_i32_2455 : BitVec 32 := 64#32
  let v3320 : BitVec 32 := Scalar.muli v200 c64_i32_2455
  let v3324 : Index := Scalar.indexCast v3320
  let c0_2458 : Index := 0#32
  ![v3324.toNat, 0]
def k0_off42_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off43 (d0 : Dev nD) (c8_i32_64 : BitVec 32) (c1_i32_71 : BitVec 32) (c16_i32_77 : BitVec 32) (c4_i32_83 : BitVec 32) (c2_i32_89 : BitVec 32) : Fin 2 → Nat :=
  let c28_i32_2456 : BitVec 32 := 28#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_130 : BitVec 32 := 1#32
  let v196 : BitVec 32 := Scalar.shrsi v152 c1_i32_130
  let c1_i32_131 : BitVec 32 := 1#32
  let v197 : BitVec 32 := Scalar.shli v196 c1_i32_131
  let c1_i32_132 : BitVec 32 := 1#32
  let c0_i32_128 : BitVec 32 := 0#32
  let v194 : BitVec 32 := Scalar.shrsi v152 c0_i32_128
  let c1_i32_129 : BitVec 32 := 1#32
  let v195 : BitVec 32 := Scalar.andi v194 c1_i32_129
  let v198 : BitVec 32 := Scalar.subi c1_i32_132 v195
  let c1_i32_133 : BitVec 32 := 1#32
  let v199 : BitVec 32 := Scalar.muli v198 c1_i32_133
  let v200 : BitVec 32 := Scalar.addi v197 v199
  let v3321 : BitVec 32 := Scalar.addi c28_i32_2456 v200
  let c2_i32_123 : BitVec 32 := 2#32
  let v187 : BitVec 32 := Scalar.shrsi v152 c2_i32_123
  let c2_i32_124 : BitVec 32 := 2#32
  let v188 : BitVec 32 := Scalar.shli v187 c2_i32_124
  let c1_i32_121 : BitVec 32 := 1#32
  let v185 : BitVec 32 := Scalar.shrsi v152 c1_i32_121
  let c1_i32_122 : BitVec 32 := 1#32
  let v186 : BitVec 32 := Scalar.andi v185 c1_i32_122
  let c2_i32_127 : BitVec 32 := 2#32
  let v192 : BitVec 32 := Scalar.muli v186 c2_i32_127
  let v193 : BitVec 32 := Scalar.addi v188 v192
  let v3322 : BitVec 32 := Scalar.subi v3321 v193
  let c64_i32_2457 : BitVec 32 := 64#32
  let v3323 : BitVec 32 := Scalar.muli v3322 c64_i32_2457
  let v3326 : Index := Scalar.indexCast v3323
  let c0_2459 : Index := 0#32
  ![v3326.toNat, 0]
def k0_off43_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off44 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_130 : BitVec 32 := 1#32
  let v196 : BitVec 32 := Scalar.shrsi v152 c1_i32_130
  let c1_i32_131 : BitVec 32 := 1#32
  let v197 : BitVec 32 := Scalar.shli v196 c1_i32_131
  let c1_i32_132 : BitVec 32 := 1#32
  let c0_i32_128 : BitVec 32 := 0#32
  let v194 : BitVec 32 := Scalar.shrsi v152 c0_i32_128
  let c1_i32_129 : BitVec 32 := 1#32
  let v195 : BitVec 32 := Scalar.andi v194 c1_i32_129
  let v198 : BitVec 32 := Scalar.subi c1_i32_132 v195
  let c1_i32_133 : BitVec 32 := 1#32
  let v199 : BitVec 32 := Scalar.muli v198 c1_i32_133
  let v200 : BitVec 32 := Scalar.addi v197 v199
  let c64_i32_2461 : BitVec 32 := 64#32
  let v3333 : BitVec 32 := Scalar.muli v200 c64_i32_2461
  let c0_i32_2467 : BitVec 32 := 0#32
  ![v3333.toNat, 0]
def k0_off44_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev20 (d0 : Dev nD) : Nat :=
  let c0_i32_2464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_99 : BitVec 32 := 2#32
  let v157 : BitVec 32 := Scalar.xori v2 c2_i32_99
  let c1_i32_2463 : BitVec 32 := 1#32
  let v3334 : BitVec 32 := Scalar.muli v157 c1_i32_2463
  let v3335 : BitVec 32 := Scalar.addi c0_i32_2464 v3334
  v3335.toNat
def k0_dev21 (d0 : Dev nD) : Nat :=
  let c0_i32_2485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_170 : BitVec 32 := 16#32
  let v257 : BitVec 32 := Scalar.xori v2 c16_i32_170
  let c1_i32_2484 : BitVec 32 := 1#32
  let v3362 : BitVec 32 := Scalar.muli v257 c1_i32_2484
  let v3363 : BitVec 32 := Scalar.addi c0_i32_2485 v3362
  v3363.toNat
def k0_off45 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_59 : BitVec 32 := 1#32
  let v96 : BitVec 32 := Scalar.shrsi v52 c1_i32_59
  let c1_i32_60 : BitVec 32 := 1#32
  let v97 : BitVec 32 := Scalar.shli v96 c1_i32_60
  let c0_i32_57 : BitVec 32 := 0#32
  let v94 : BitVec 32 := Scalar.shrsi v52 c0_i32_57
  let c1_i32_58 : BitVec 32 := 1#32
  let v95 : BitVec 32 := Scalar.andi v94 c1_i32_58
  let c1_i32_63 : BitVec 32 := 1#32
  let v101 : BitVec 32 := Scalar.muli v95 c1_i32_63
  let v102 : BitVec 32 := Scalar.addi v97 v101
  let c64_i32_2489 : BitVec 32 := 64#32
  let v3370 : BitVec 32 := Scalar.muli v102 c64_i32_2489
  let v3374 : Index := Scalar.indexCast v3370
  let c0_2492 : Index := 0#32
  ![v3374.toNat, 0]
def k0_off46 (d0 : Dev nD) : Fin 2 → Nat :=
  let c28_i32_2490 : BitVec 32 := 28#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_59 : BitVec 32 := 1#32
  let v96 : BitVec 32 := Scalar.shrsi v52 c1_i32_59
  let c1_i32_60 : BitVec 32 := 1#32
  let v97 : BitVec 32 := Scalar.shli v96 c1_i32_60
  let c0_i32_57 : BitVec 32 := 0#32
  let v94 : BitVec 32 := Scalar.shrsi v52 c0_i32_57
  let c1_i32_58 : BitVec 32 := 1#32
  let v95 : BitVec 32 := Scalar.andi v94 c1_i32_58
  let c1_i32_63 : BitVec 32 := 1#32
  let v101 : BitVec 32 := Scalar.muli v95 c1_i32_63
  let v102 : BitVec 32 := Scalar.addi v97 v101
  let v3371 : BitVec 32 := Scalar.addi c28_i32_2490 v102
  let c2_i32_52 : BitVec 32 := 2#32
  let v87 : BitVec 32 := Scalar.shrsi v52 c2_i32_52
  let c2_i32_53 : BitVec 32 := 2#32
  let v88 : BitVec 32 := Scalar.shli v87 c2_i32_53
  let c1_i32_50 : BitVec 32 := 1#32
  let v85 : BitVec 32 := Scalar.shrsi v52 c1_i32_50
  let c1_i32_51 : BitVec 32 := 1#32
  let v86 : BitVec 32 := Scalar.andi v85 c1_i32_51
  let c2_i32_56 : BitVec 32 := 2#32
  let v92 : BitVec 32 := Scalar.muli v86 c2_i32_56
  let v93 : BitVec 32 := Scalar.addi v88 v92
  let v3372 : BitVec 32 := Scalar.subi v3371 v93
  let c64_i32_2491 : BitVec 32 := 64#32
  let v3373 : BitVec 32 := Scalar.muli v3372 c64_i32_2491
  let v3376 : Index := Scalar.indexCast v3373
  let c0_2493 : Index := 0#32
  ![v3376.toNat, 0]
def k0_off47 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_130 : BitVec 32 := 1#32
  let v196 : BitVec 32 := Scalar.shrsi v152 c1_i32_130
  let c1_i32_131 : BitVec 32 := 1#32
  let v197 : BitVec 32 := Scalar.shli v196 c1_i32_131
  let c0_i32_128 : BitVec 32 := 0#32
  let v194 : BitVec 32 := Scalar.shrsi v152 c0_i32_128
  let c1_i32_129 : BitVec 32 := 1#32
  let v195 : BitVec 32 := Scalar.andi v194 c1_i32_129
  let c1_i32_134 : BitVec 32 := 1#32
  let v201 : BitVec 32 := Scalar.muli v195 c1_i32_134
  let v202 : BitVec 32 := Scalar.addi v197 v201
  let c64_i32_2495 : BitVec 32 := 64#32
  let v3383 : BitVec 32 := Scalar.muli v202 c64_i32_2495
  let v3387 : Index := Scalar.indexCast v3383
  let c0_2498 : Index := 0#32
  ![v3387.toNat, 0]
def k0_off47_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off48 (d0 : Dev nD) (c8_i32_64 : BitVec 32) (c1_i32_71 : BitVec 32) (c16_i32_77 : BitVec 32) (c4_i32_83 : BitVec 32) (c2_i32_89 : BitVec 32) : Fin 2 → Nat :=
  let c28_i32_2496 : BitVec 32 := 28#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_130 : BitVec 32 := 1#32
  let v196 : BitVec 32 := Scalar.shrsi v152 c1_i32_130
  let c1_i32_131 : BitVec 32 := 1#32
  let v197 : BitVec 32 := Scalar.shli v196 c1_i32_131
  let c0_i32_128 : BitVec 32 := 0#32
  let v194 : BitVec 32 := Scalar.shrsi v152 c0_i32_128
  let c1_i32_129 : BitVec 32 := 1#32
  let v195 : BitVec 32 := Scalar.andi v194 c1_i32_129
  let c1_i32_134 : BitVec 32 := 1#32
  let v201 : BitVec 32 := Scalar.muli v195 c1_i32_134
  let v202 : BitVec 32 := Scalar.addi v197 v201
  let v3384 : BitVec 32 := Scalar.addi c28_i32_2496 v202
  let c2_i32_123 : BitVec 32 := 2#32
  let v187 : BitVec 32 := Scalar.shrsi v152 c2_i32_123
  let c2_i32_124 : BitVec 32 := 2#32
  let v188 : BitVec 32 := Scalar.shli v187 c2_i32_124
  let c1_i32_121 : BitVec 32 := 1#32
  let v185 : BitVec 32 := Scalar.shrsi v152 c1_i32_121
  let c1_i32_122 : BitVec 32 := 1#32
  let v186 : BitVec 32 := Scalar.andi v185 c1_i32_122
  let c2_i32_127 : BitVec 32 := 2#32
  let v192 : BitVec 32 := Scalar.muli v186 c2_i32_127
  let v193 : BitVec 32 := Scalar.addi v188 v192
  let v3385 : BitVec 32 := Scalar.subi v3384 v193
  let c64_i32_2497 : BitVec 32 := 64#32
  let v3386 : BitVec 32 := Scalar.muli v3385 c64_i32_2497
  let v3389 : Index := Scalar.indexCast v3386
  let c0_2499 : Index := 0#32
  ![v3389.toNat, 0]
def k0_off48_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off49 (d0 : Dev nD) : Fin 2 → Nat :=
  let c30_i32 : BitVec 32 := 30#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_59 : BitVec 32 := 1#32
  let v96 : BitVec 32 := Scalar.shrsi v52 c1_i32_59
  let c1_i32_60 : BitVec 32 := 1#32
  let v97 : BitVec 32 := Scalar.shli v96 c1_i32_60
  let c0_i32_57 : BitVec 32 := 0#32
  let v94 : BitVec 32 := Scalar.shrsi v52 c0_i32_57
  let c1_i32_58 : BitVec 32 := 1#32
  let v95 : BitVec 32 := Scalar.andi v94 c1_i32_58
  let c1_i32_63 : BitVec 32 := 1#32
  let v101 : BitVec 32 := Scalar.muli v95 c1_i32_63
  let v102 : BitVec 32 := Scalar.addi v97 v101
  let v3428 : BitVec 32 := Scalar.addi c30_i32 v102
  let v3429 : BitVec 32 := Scalar.subi v3428 v102
  let c64_i32_2533 : BitVec 32 := 64#32
  let v3430 : BitVec 32 := Scalar.muli v3429 c64_i32_2533
  let v3433 : Index := Scalar.indexCast v3430
  let c0_2535 : Index := 0#32
  ![v3433.toNat, 0]
def k0_off50 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c64_i32_2537 : BitVec 32 := 64#32
  let v3440 : BitVec 32 := Scalar.muli v52 c64_i32_2537
  let v3441 : Index := Scalar.indexCast v3440
  let c0_2538 : Index := 0#32
  ![v3441.toNat, 0]
def k0_off51 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c0_i32_2541 : BitVec 32 := 0#32
  let v3449 : BitVec 32 := Scalar.shrsi v52 c0_i32_2541
  let c0_i32_2542 : BitVec 32 := 0#32
  let v3450 : BitVec 32 := Scalar.shli v3449 c0_i32_2542
  let c64_i32_2543 : BitVec 32 := 64#32
  let v3451 : BitVec 32 := Scalar.muli v3450 c64_i32_2543
  let c0_i32_2548 : BitVec 32 := 0#32
  ![v3451.toNat, 0]
def k0_dev22 (d0 : Dev nD) : Nat :=
  let c0_i32_2547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_29 : BitVec 32 := 4#32
  let v57 : BitVec 32 := Scalar.xori v2 c4_i32_29
  let c1_i32_2546 : BitVec 32 := 1#32
  let v3452 : BitVec 32 := Scalar.muli v57 c1_i32_2546
  let v3453 : BitVec 32 := Scalar.addi c0_i32_2547 v3452
  v3453.toNat
def k0_off52 (d0 : Dev nD) (c8_i32_64 : BitVec 32) (c1_i32_71 : BitVec 32) (c16_i32_77 : BitVec 32) (c4_i32_83 : BitVec 32) (c2_i32_89 : BitVec 32) : Fin 2 → Nat :=
  let c30_i32_2558 : BitVec 32 := 30#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_130 : BitVec 32 := 1#32
  let v196 : BitVec 32 := Scalar.shrsi v152 c1_i32_130
  let c1_i32_131 : BitVec 32 := 1#32
  let v197 : BitVec 32 := Scalar.shli v196 c1_i32_131
  let c0_i32_128 : BitVec 32 := 0#32
  let v194 : BitVec 32 := Scalar.shrsi v152 c0_i32_128
  let c1_i32_129 : BitVec 32 := 1#32
  let v195 : BitVec 32 := Scalar.andi v194 c1_i32_129
  let c1_i32_134 : BitVec 32 := 1#32
  let v201 : BitVec 32 := Scalar.muli v195 c1_i32_134
  let v202 : BitVec 32 := Scalar.addi v197 v201
  let v3467 : BitVec 32 := Scalar.addi c30_i32_2558 v202
  let v3468 : BitVec 32 := Scalar.subi v3467 v202
  let c64_i32_2559 : BitVec 32 := 64#32
  let v3469 : BitVec 32 := Scalar.muli v3468 c64_i32_2559
  let v3472 : Index := Scalar.indexCast v3469
  let c0_2561 : Index := 0#32
  ![v3472.toNat, 0]
def k0_off52_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off53 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c64_i32_2563 : BitVec 32 := 64#32
  let v3479 : BitVec 32 := Scalar.muli v152 c64_i32_2563
  let v3480 : Index := Scalar.indexCast v3479
  let c0_2564 : Index := 0#32
  ![v3480.toNat, 0]
def k0_off53_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off54 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c0_i32_2567 : BitVec 32 := 0#32
  let v3488 : BitVec 32 := Scalar.shrsi v152 c0_i32_2567
  let c0_i32_2568 : BitVec 32 := 0#32
  let v3489 : BitVec 32 := Scalar.shli v3488 c0_i32_2568
  let c64_i32_2569 : BitVec 32 := 64#32
  let v3490 : BitVec 32 := Scalar.muli v3489 c64_i32_2569
  let c0_i32_2573 : BitVec 32 := 0#32
  ![v3490.toNat, 0]
def k0_off54_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev23 (d0 : Dev nD) : Nat :=
  let c0_i32_2572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_99 : BitVec 32 := 2#32
  let v157 : BitVec 32 := Scalar.xori v2 c2_i32_99
  let c1_i32_2571 : BitVec 32 := 1#32
  let v3491 : BitVec 32 := Scalar.muli v157 c1_i32_2571
  let v3492 : BitVec 32 := Scalar.addi c0_i32_2572 v3491
  v3492.toNat
def k0_dev24 (d0 : Dev nD) : Nat :=
  let c0_i32_2597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_170 : BitVec 32 := 16#32
  let v257 : BitVec 32 := Scalar.xori v2 c16_i32_170
  let c1_i32_2596 : BitVec 32 := 1#32
  let v3530 : BitVec 32 := Scalar.muli v257 c1_i32_2596
  let v3531 : BitVec 32 := Scalar.addi c0_i32_2597 v3530
  v3531.toNat
def k0_off55 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c0_i32_2618 : BitVec 32 := 0#32
  let v3550 : BitVec 32 := Scalar.addi v52 c0_i32_2618
  let c64_i32_2619 : BitVec 32 := 64#32
  let v3551 : BitVec 32 := Scalar.muli v3550 c64_i32_2619
  let v3552 : Index := Scalar.indexCast v3551
  let c0_2620 : Index := 0#32
  ![v3552.toNat, 0]
def k0_off56 (d0 : Dev nD) : Fin 2 → Nat :=
  let c0_i32_2624 : BitVec 32 := 0#32
  let c1_i32_2623 : BitVec 32 := 1#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c0_i32_2618 : BitVec 32 := 0#32
  let v3550 : BitVec 32 := Scalar.addi v52 c0_i32_2618
  let c4_i32_2621 : BitVec 32 := 4#32
  let v3554 : BitVec 32 := Scalar.shrsi v3550 c4_i32_2621
  let c1_i32_2622 : BitVec 32 := 1#32
  let v3555 : BitVec 32 := Scalar.andi v3554 c1_i32_2622
  let v3556 : BitVec 32 := Scalar.muli c1_i32_2623 v3555
  let v3557 : BitVec 32 := Scalar.xori c0_i32_2624 v3556
  let c8_i32_2627 : BitVec 32 := 8#32
  let c3_i32_2625 : BitVec 32 := 3#32
  let v3558 : BitVec 32 := Scalar.shrsi v3550 c3_i32_2625
  let c1_i32_2626 : BitVec 32 := 1#32
  let v3559 : BitVec 32 := Scalar.andi v3558 c1_i32_2626
  let v3560 : BitVec 32 := Scalar.muli c8_i32_2627 v3559
  let v3561 : BitVec 32 := Scalar.xori v3557 v3560
  let c2_i32_2630 : BitVec 32 := 2#32
  let c2_i32_2628 : BitVec 32 := 2#32
  let v3562 : BitVec 32 := Scalar.shrsi v3550 c2_i32_2628
  let c1_i32_2629 : BitVec 32 := 1#32
  let v3563 : BitVec 32 := Scalar.andi v3562 c1_i32_2629
  let v3564 : BitVec 32 := Scalar.muli c2_i32_2630 v3563
  let v3565 : BitVec 32 := Scalar.xori v3561 v3564
  let c16_i32_2633 : BitVec 32 := 16#32
  let c1_i32_2631 : BitVec 32 := 1#32
  let v3566 : BitVec 32 := Scalar.shrsi v3550 c1_i32_2631
  let c1_i32_2632 : BitVec 32 := 1#32
  let v3567 : BitVec 32 := Scalar.andi v3566 c1_i32_2632
  let v3568 : BitVec 32 := Scalar.muli c16_i32_2633 v3567
  let v3569 : BitVec 32 := Scalar.xori v3565 v3568
  let c4_i32_2636 : BitVec 32 := 4#32
  let c0_i32_2634 : BitVec 32 := 0#32
  let v3570 : BitVec 32 := Scalar.shrsi v3550 c0_i32_2634
  let c1_i32_2635 : BitVec 32 := 1#32
  let v3571 : BitVec 32 := Scalar.andi v3570 c1_i32_2635
  let v3572 : BitVec 32 := Scalar.muli c4_i32_2636 v3571
  let v3573 : BitVec 32 := Scalar.xori v3569 v3572
  let c64_i32_2637 : BitVec 32 := 64#32
  let v3574 : BitVec 32 := Scalar.muli v3573 c64_i32_2637
  let v3575 : Index := Scalar.indexCast v3574
  let c0_2638 : Index := 0#32
  ![v3575.toNat, 0]
def k0_off57 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c0_i32_2639 : BitVec 32 := 0#32
  let v3577 : BitVec 32 := Scalar.addi v152 c0_i32_2639
  let c64_i32_2640 : BitVec 32 := 64#32
  let v3578 : BitVec 32 := Scalar.muli v3577 c64_i32_2640
  let v3579 : Index := Scalar.indexCast v3578
  let c0_2641 : Index := 0#32
  ![v3579.toNat, 0]
def k0_off57_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_off58 (d0 : Dev nD) : Fin 2 → Nat :=
  let c0_i32_2645 : BitVec 32 := 0#32
  let c8_i32_2644 : BitVec 32 := 8#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_64 : BitVec 32 := 8#32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let c1_i32_71 : BitVec 32 := 1#32
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let c16_i32_77 : BitVec 32 := 16#32
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let c4_i32_83 : BitVec 32 := 4#32
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let c2_i32_89 : BitVec 32 := 2#32
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c0_i32_2639 : BitVec 32 := 0#32
  let v3577 : BitVec 32 := Scalar.addi v152 c0_i32_2639
  let c4_i32_2642 : BitVec 32 := 4#32
  let v3581 : BitVec 32 := Scalar.shrsi v3577 c4_i32_2642
  let c1_i32_2643 : BitVec 32 := 1#32
  let v3582 : BitVec 32 := Scalar.andi v3581 c1_i32_2643
  let v3583 : BitVec 32 := Scalar.muli c8_i32_2644 v3582
  let v3584 : BitVec 32 := Scalar.xori c0_i32_2645 v3583
  let c1_i32_2648 : BitVec 32 := 1#32
  let c3_i32_2646 : BitVec 32 := 3#32
  let v3585 : BitVec 32 := Scalar.shrsi v3577 c3_i32_2646
  let c1_i32_2647 : BitVec 32 := 1#32
  let v3586 : BitVec 32 := Scalar.andi v3585 c1_i32_2647
  let v3587 : BitVec 32 := Scalar.muli c1_i32_2648 v3586
  let v3588 : BitVec 32 := Scalar.xori v3584 v3587
  let c16_i32_2651 : BitVec 32 := 16#32
  let c2_i32_2649 : BitVec 32 := 2#32
  let v3589 : BitVec 32 := Scalar.shrsi v3577 c2_i32_2649
  let c1_i32_2650 : BitVec 32 := 1#32
  let v3590 : BitVec 32 := Scalar.andi v3589 c1_i32_2650
  let v3591 : BitVec 32 := Scalar.muli c16_i32_2651 v3590
  let v3592 : BitVec 32 := Scalar.xori v3588 v3591
  let c4_i32_2654 : BitVec 32 := 4#32
  let c1_i32_2652 : BitVec 32 := 1#32
  let v3593 : BitVec 32 := Scalar.shrsi v3577 c1_i32_2652
  let c1_i32_2653 : BitVec 32 := 1#32
  let v3594 : BitVec 32 := Scalar.andi v3593 c1_i32_2653
  let v3595 : BitVec 32 := Scalar.muli c4_i32_2654 v3594
  let v3596 : BitVec 32 := Scalar.xori v3592 v3595
  let c2_i32_2657 : BitVec 32 := 2#32
  let c0_i32_2655 : BitVec 32 := 0#32
  let v3597 : BitVec 32 := Scalar.shrsi v3577 c0_i32_2655
  let c1_i32_2656 : BitVec 32 := 1#32
  let v3598 : BitVec 32 := Scalar.andi v3597 c1_i32_2656
  let v3599 : BitVec 32 := Scalar.muli c2_i32_2657 v3598
  let v3600 : BitVec 32 := Scalar.xori v3596 v3599
  let c64_i32_2658 : BitVec 32 := 64#32
  let v3601 : BitVec 32 := Scalar.muli v3600 c64_i32_2658
  let v3602 : Index := Scalar.indexCast v3601
  let c768_2659 : Index := 768#32
  ![v3602.toNat, 768]
def k0_off59 (d0 : Dev nD) : Fin 2 → Nat :=
  let c0_i32_2666 : BitVec 32 := 0#32
  let c3_i32_2665 : BitVec 32 := 3#32
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_135 : BitVec 32 := 1#32
  let v203 : BitVec 32 := Scalar.andi v2 c1_i32_135
  let c1_i32_136 : BitVec 32 := 1#32
  let v204 : BitVec 32 := Scalar.shrsi v203 c1_i32_136
  let v205 : BitVec 32 := Scalar.xori v203 v204
  let c2_i32_137 : BitVec 32 := 2#32
  let v206 : BitVec 32 := Scalar.shrsi v205 c2_i32_137
  let v207 : BitVec 32 := Scalar.xori v205 v206
  let c4_i32_138 : BitVec 32 := 4#32
  let v208 : BitVec 32 := Scalar.shrsi v207 c4_i32_138
  let v209 : BitVec 32 := Scalar.xori v207 v208
  let c1_i32_139 : BitVec 32 := 1#32
  let v210 : BitVec 32 := Scalar.andi v209 c1_i32_139
  let c4_i32_140 : BitVec 32 := 4#32
  let v211 : BitVec 32 := Scalar.shli v210 c4_i32_140
  let v212 : BitVec 32 := Scalar.ori c0_i32_141 v211
  let c4_i32_142 : BitVec 32 := 4#32
  let v213 : BitVec 32 := Scalar.andi v2 c4_i32_142
  let c1_i32_143 : BitVec 32 := 1#32
  let v214 : BitVec 32 := Scalar.shrsi v213 c1_i32_143
  let v215 : BitVec 32 := Scalar.xori v213 v214
  let c2_i32_144 : BitVec 32 := 2#32
  let v216 : BitVec 32 := Scalar.shrsi v215 c2_i32_144
  let v217 : BitVec 32 := Scalar.xori v215 v216
  let c4_i32_145 : BitVec 32 := 4#32
  let v218 : BitVec 32 := Scalar.shrsi v217 c4_i32_145
  let v219 : BitVec 32 := Scalar.xori v217 v218
  let c1_i32_146 : BitVec 32 := 1#32
  let v220 : BitVec 32 := Scalar.andi v219 c1_i32_146
  let c3_i32_147 : BitVec 32 := 3#32
  let v221 : BitVec 32 := Scalar.shli v220 c3_i32_147
  let v222 : BitVec 32 := Scalar.ori v212 v221
  let c3_i32_148 : BitVec 32 := 3#32
  let v223 : BitVec 32 := Scalar.andi v2 c3_i32_148
  let c1_i32_149 : BitVec 32 := 1#32
  let v224 : BitVec 32 := Scalar.shrsi v223 c1_i32_149
  let v225 : BitVec 32 := Scalar.xori v223 v224
  let c2_i32_150 : BitVec 32 := 2#32
  let v226 : BitVec 32 := Scalar.shrsi v225 c2_i32_150
  let v227 : BitVec 32 := Scalar.xori v225 v226
  let c4_i32_151 : BitVec 32 := 4#32
  let v228 : BitVec 32 := Scalar.shrsi v227 c4_i32_151
  let v229 : BitVec 32 := Scalar.xori v227 v228
  let c1_i32_152 : BitVec 32 := 1#32
  let v230 : BitVec 32 := Scalar.andi v229 c1_i32_152
  let c2_i32_153 : BitVec 32 := 2#32
  let v231 : BitVec 32 := Scalar.shli v230 c2_i32_153
  let v232 : BitVec 32 := Scalar.ori v222 v231
  let c8_i32_154 : BitVec 32 := 8#32
  let v233 : BitVec 32 := Scalar.andi v2 c8_i32_154
  let c1_i32_155 : BitVec 32 := 1#32
  let v234 : BitVec 32 := Scalar.shrsi v233 c1_i32_155
  let v235 : BitVec 32 := Scalar.xori v233 v234
  let c2_i32_156 : BitVec 32 := 2#32
  let v236 : BitVec 32 := Scalar.shrsi v235 c2_i32_156
  let v237 : BitVec 32 := Scalar.xori v235 v236
  let c4_i32_157 : BitVec 32 := 4#32
  let v238 : BitVec 32 := Scalar.shrsi v237 c4_i32_157
  let v239 : BitVec 32 := Scalar.xori v237 v238
  let c1_i32_158 : BitVec 32 := 1#32
  let v240 : BitVec 32 := Scalar.andi v239 c1_i32_158
  let c1_i32_159 : BitVec 32 := 1#32
  let v241 : BitVec 32 := Scalar.shli v240 c1_i32_159
  let v242 : BitVec 32 := Scalar.ori v232 v241
  let c16_i32_160 : BitVec 32 := 16#32
  let v243 : BitVec 32 := Scalar.andi v2 c16_i32_160
  let c1_i32_161 : BitVec 32 := 1#32
  let v244 : BitVec 32 := Scalar.shrsi v243 c1_i32_161
  let v245 : BitVec 32 := Scalar.xori v243 v244
  let c2_i32_162 : BitVec 32 := 2#32
  let v246 : BitVec 32 := Scalar.shrsi v245 c2_i32_162
  let v247 : BitVec 32 := Scalar.xori v245 v246
  let c4_i32_163 : BitVec 32 := 4#32
  let v248 : BitVec 32 := Scalar.shrsi v247 c4_i32_163
  let v249 : BitVec 32 := Scalar.xori v247 v248
  let c1_i32_164 : BitVec 32 := 1#32
  let v250 : BitVec 32 := Scalar.andi v249 c1_i32_164
  let c0_i32_165 : BitVec 32 := 0#32
  let v251 : BitVec 32 := Scalar.shli v250 c0_i32_165
  let v252 : BitVec 32 := Scalar.ori v242 v251
  let c0_i32_2660 : BitVec 32 := 0#32
  let v3604 : BitVec 32 := Scalar.addi v252 c0_i32_2660
  let c4_i32_2663 : BitVec 32 := 4#32
  let v3608 : BitVec 32 := Scalar.shrsi v3604 c4_i32_2663
  let c1_i32_2664 : BitVec 32 := 1#32
  let v3609 : BitVec 32 := Scalar.andi v3608 c1_i32_2664
  let v3610 : BitVec 32 := Scalar.muli c3_i32_2665 v3609
  let v3611 : BitVec 32 := Scalar.xori c0_i32_2666 v3610
  let c4_i32_2669 : BitVec 32 := 4#32
  let c3_i32_2667 : BitVec 32 := 3#32
  let v3612 : BitVec 32 := Scalar.shrsi v3604 c3_i32_2667
  let c1_i32_2668 : BitVec 32 := 1#32
  let v3613 : BitVec 32 := Scalar.andi v3612 c1_i32_2668
  let v3614 : BitVec 32 := Scalar.muli c4_i32_2669 v3613
  let v3615 : BitVec 32 := Scalar.xori v3611 v3614
  let c2_i32_2672 : BitVec 32 := 2#32
  let c2_i32_2670 : BitVec 32 := 2#32
  let v3616 : BitVec 32 := Scalar.shrsi v3604 c2_i32_2670
  let c1_i32_2671 : BitVec 32 := 1#32
  let v3617 : BitVec 32 := Scalar.andi v3616 c1_i32_2671
  let v3618 : BitVec 32 := Scalar.muli c2_i32_2672 v3617
  let v3619 : BitVec 32 := Scalar.xori v3615 v3618
  let c8_i32_2675 : BitVec 32 := 8#32
  let c1_i32_2673 : BitVec 32 := 1#32
  let v3620 : BitVec 32 := Scalar.shrsi v3604 c1_i32_2673
  let c1_i32_2674 : BitVec 32 := 1#32
  let v3621 : BitVec 32 := Scalar.andi v3620 c1_i32_2674
  let v3622 : BitVec 32 := Scalar.muli c8_i32_2675 v3621
  let v3623 : BitVec 32 := Scalar.xori v3619 v3622
  let c16_i32_2678 : BitVec 32 := 16#32
  let c0_i32_2676 : BitVec 32 := 0#32
  let v3624 : BitVec 32 := Scalar.shrsi v3604 c0_i32_2676
  let c1_i32_2677 : BitVec 32 := 1#32
  let v3625 : BitVec 32 := Scalar.andi v3624 c1_i32_2677
  let v3626 : BitVec 32 := Scalar.muli c16_i32_2678 v3625
  let v3627 : BitVec 32 := Scalar.xori v3623 v3626
  let c64_i32_2679 : BitVec 32 := 64#32
  let v3628 : BitVec 32 := Scalar.muli v3627 c64_i32_2679
  let v3629 : Index := Scalar.indexCast v3628
  let c1408_2680 : Index := 1408#32
  ![v3629.toNat, 1408]
def k0_off60 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c1_i32_2687 : BitVec 32 := 1#32
  let v3637 : BitVec 32 := Scalar.shrsi v52 c1_i32_2687
  let c1_i32_2688 : BitVec 32 := 1#32
  let v3638 : BitVec 32 := Scalar.shli v3637 c1_i32_2688
  let c64_i32_2689 : BitVec 32 := 64#32
  let v3639 : BitVec 32 := Scalar.muli v3638 c64_i32_2689
  let c0_i32_2694 : BitVec 32 := 0#32
  ![v3639.toNat, 0]
def k0_dev25 (d0 : Dev nD) : Nat :=
  let c0_i32_2693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_28 : BitVec 32 := 16#32
  let v56 : BitVec 32 := Scalar.xori v2 c16_i32_28
  let c1_i32_2692 : BitVec 32 := 1#32
  let v3640 : BitVec 32 := Scalar.muli v56 c1_i32_2692
  let v3641 : BitVec 32 := Scalar.addi c0_i32_2693 v3640
  v3641.toNat
def k0_off61 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c1_i32_2702 : BitVec 32 := 1#32
  let v3654 : BitVec 32 := Scalar.shrsi v152 c1_i32_2702
  let c1_i32_2703 : BitVec 32 := 1#32
  let v3655 : BitVec 32 := Scalar.shli v3654 c1_i32_2703
  let c64_i32_2704 : BitVec 32 := 64#32
  let v3656 : BitVec 32 := Scalar.muli v3655 c64_i32_2704
  let c0_i32_2709 : BitVec 32 := 0#32
  ![v3656.toNat, 0]
def k0_off61_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev26 (d0 : Dev nD) : Nat :=
  let c0_i32_2708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_98 : BitVec 32 := 4#32
  let v156 : BitVec 32 := Scalar.xori v2 c4_i32_98
  let c1_i32_2707 : BitVec 32 := 1#32
  let v3657 : BitVec 32 := Scalar.muli v156 c1_i32_2707
  let v3658 : BitVec 32 := Scalar.addi c0_i32_2708 v3657
  v3658.toNat
def k0_dev27 (d0 : Dev nD) : Nat :=
  let c0_i32_2722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_169 : BitVec 32 := 8#32
  let v256 : BitVec 32 := Scalar.xori v2 c8_i32_169
  let c1_i32_2721 : BitVec 32 := 1#32
  let v3674 : BitVec 32 := Scalar.muli v256 c1_i32_2721
  let v3675 : BitVec 32 := Scalar.addi c0_i32_2722 v3674
  v3675.toNat
def k0_off62 (d0 : Dev nD) (c0_i32_2740 : BitVec 32) (c0_i32_2741 : BitVec 32) (c1_i32_2742 : BitVec 32) (c0_i32_2743 : BitVec 32) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let v3694 : BitVec 32 := Scalar.shrsi v52 c0_i32_2740
  let v3695 : BitVec 32 := Scalar.shli v3694 c0_i32_2741
  let v3696 : BitVec 32 := Scalar.xori v3695 c1_i32_2742
  let v3697 : BitVec 32 := Scalar.addi v3696 c0_i32_2743
  let c64_i32_2744 : BitVec 32 := 64#32
  let v3698 : BitVec 32 := Scalar.muli v3697 c64_i32_2744
  let v3699 : Index := Scalar.indexCast v3698
  let c0_2745 : Index := 0#32
  ![v3699.toNat, 0]
def k0_off62_at (r : Fin 31) : BitVec 32 × BitVec 32 × BitVec 32 × BitVec 32 :=
  if r.val < 15 then
    if r.val < 7 then
      if r.val < 3 then
        if r.val < 1 then
          (0#32, 0#32, 1#32, 0#32)
        else
          if r.val < 2 then
            (1#32, 1#32, 2#32, 0#32)
          else
            (1#32, 1#32, 2#32, 1#32)
      else
        if r.val < 5 then
          if r.val < 4 then
            (2#32, 2#32, 4#32, 0#32)
          else
            (2#32, 2#32, 4#32, 1#32)
        else
          if r.val < 6 then
            (2#32, 2#32, 4#32, 2#32)
          else
            (2#32, 2#32, 4#32, 3#32)
    else
      if r.val < 11 then
        if r.val < 9 then
          if r.val < 8 then
            (3#32, 3#32, 8#32, 0#32)
          else
            (3#32, 3#32, 8#32, 1#32)
        else
          if r.val < 10 then
            (3#32, 3#32, 8#32, 2#32)
          else
            (3#32, 3#32, 8#32, 3#32)
      else
        if r.val < 13 then
          if r.val < 12 then
            (3#32, 3#32, 8#32, 4#32)
          else
            (3#32, 3#32, 8#32, 5#32)
        else
          if r.val < 14 then
            (3#32, 3#32, 8#32, 6#32)
          else
            (3#32, 3#32, 8#32, 7#32)
  else
    if r.val < 23 then
      if r.val < 19 then
        if r.val < 17 then
          if r.val < 16 then
            (4#32, 4#32, 16#32, 0#32)
          else
            (4#32, 4#32, 16#32, 1#32)
        else
          if r.val < 18 then
            (4#32, 4#32, 16#32, 2#32)
          else
            (4#32, 4#32, 16#32, 3#32)
      else
        if r.val < 21 then
          if r.val < 20 then
            (4#32, 4#32, 16#32, 4#32)
          else
            (4#32, 4#32, 16#32, 5#32)
        else
          if r.val < 22 then
            (4#32, 4#32, 16#32, 6#32)
          else
            (4#32, 4#32, 16#32, 7#32)
    else
      if r.val < 27 then
        if r.val < 25 then
          if r.val < 24 then
            (4#32, 4#32, 16#32, 8#32)
          else
            (4#32, 4#32, 16#32, 9#32)
        else
          if r.val < 26 then
            (4#32, 4#32, 16#32, 10#32)
          else
            (4#32, 4#32, 16#32, 11#32)
      else
        if r.val < 29 then
          if r.val < 28 then
            (4#32, 4#32, 16#32, 12#32)
          else
            (4#32, 4#32, 16#32, 13#32)
        else
          if r.val < 30 then
            (4#32, 4#32, 16#32, 14#32)
          else
            (4#32, 4#32, 16#32, 15#32)
def k0_off63 (d0 : Dev nD) (c0_i32_2740 : BitVec 32) (c0_i32_2741 : BitVec 32) (c1_i32_2742 : BitVec 32) (c0_i32_2743 : BitVec 32) : Fin 2 → Nat :=
  let c0_i32_2749 : BitVec 32 := 0#32
  let c1_i32_2748 : BitVec 32 := 1#32
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let v3694 : BitVec 32 := Scalar.shrsi v52 c0_i32_2740
  let v3695 : BitVec 32 := Scalar.shli v3694 c0_i32_2741
  let v3696 : BitVec 32 := Scalar.xori v3695 c1_i32_2742
  let v3697 : BitVec 32 := Scalar.addi v3696 c0_i32_2743
  let c4_i32_2746 : BitVec 32 := 4#32
  let v3701 : BitVec 32 := Scalar.shrsi v3697 c4_i32_2746
  let c1_i32_2747 : BitVec 32 := 1#32
  let v3702 : BitVec 32 := Scalar.andi v3701 c1_i32_2747
  let v3703 : BitVec 32 := Scalar.muli c1_i32_2748 v3702
  let v3704 : BitVec 32 := Scalar.xori c0_i32_2749 v3703
  let c8_i32_2752 : BitVec 32 := 8#32
  let c3_i32_2750 : BitVec 32 := 3#32
  let v3705 : BitVec 32 := Scalar.shrsi v3697 c3_i32_2750
  let c1_i32_2751 : BitVec 32 := 1#32
  let v3706 : BitVec 32 := Scalar.andi v3705 c1_i32_2751
  let v3707 : BitVec 32 := Scalar.muli c8_i32_2752 v3706
  let v3708 : BitVec 32 := Scalar.xori v3704 v3707
  let c2_i32_2755 : BitVec 32 := 2#32
  let c2_i32_2753 : BitVec 32 := 2#32
  let v3709 : BitVec 32 := Scalar.shrsi v3697 c2_i32_2753
  let c1_i32_2754 : BitVec 32 := 1#32
  let v3710 : BitVec 32 := Scalar.andi v3709 c1_i32_2754
  let v3711 : BitVec 32 := Scalar.muli c2_i32_2755 v3710
  let v3712 : BitVec 32 := Scalar.xori v3708 v3711
  let c16_i32_2758 : BitVec 32 := 16#32
  let c1_i32_2756 : BitVec 32 := 1#32
  let v3713 : BitVec 32 := Scalar.shrsi v3697 c1_i32_2756
  let c1_i32_2757 : BitVec 32 := 1#32
  let v3714 : BitVec 32 := Scalar.andi v3713 c1_i32_2757
  let v3715 : BitVec 32 := Scalar.muli c16_i32_2758 v3714
  let v3716 : BitVec 32 := Scalar.xori v3712 v3715
  let c4_i32_2761 : BitVec 32 := 4#32
  let c0_i32_2759 : BitVec 32 := 0#32
  let v3717 : BitVec 32 := Scalar.shrsi v3697 c0_i32_2759
  let c1_i32_2760 : BitVec 32 := 1#32
  let v3718 : BitVec 32 := Scalar.andi v3717 c1_i32_2760
  let v3719 : BitVec 32 := Scalar.muli c4_i32_2761 v3718
  let v3720 : BitVec 32 := Scalar.xori v3716 v3719
  let c64_i32_2762 : BitVec 32 := 64#32
  let v3721 : BitVec 32 := Scalar.muli v3720 c64_i32_2762
  let v3722 : Index := Scalar.indexCast v3721
  let c0_2763 : Index := 0#32
  ![v3722.toNat, 0]
def k0_off63_at (r : Fin 31) : BitVec 32 × BitVec 32 × BitVec 32 × BitVec 32 :=
  if r.val < 15 then
    if r.val < 7 then
      if r.val < 3 then
        if r.val < 1 then
          (0#32, 0#32, 1#32, 0#32)
        else
          if r.val < 2 then
            (1#32, 1#32, 2#32, 0#32)
          else
            (1#32, 1#32, 2#32, 1#32)
      else
        if r.val < 5 then
          if r.val < 4 then
            (2#32, 2#32, 4#32, 0#32)
          else
            (2#32, 2#32, 4#32, 1#32)
        else
          if r.val < 6 then
            (2#32, 2#32, 4#32, 2#32)
          else
            (2#32, 2#32, 4#32, 3#32)
    else
      if r.val < 11 then
        if r.val < 9 then
          if r.val < 8 then
            (3#32, 3#32, 8#32, 0#32)
          else
            (3#32, 3#32, 8#32, 1#32)
        else
          if r.val < 10 then
            (3#32, 3#32, 8#32, 2#32)
          else
            (3#32, 3#32, 8#32, 3#32)
      else
        if r.val < 13 then
          if r.val < 12 then
            (3#32, 3#32, 8#32, 4#32)
          else
            (3#32, 3#32, 8#32, 5#32)
        else
          if r.val < 14 then
            (3#32, 3#32, 8#32, 6#32)
          else
            (3#32, 3#32, 8#32, 7#32)
  else
    if r.val < 23 then
      if r.val < 19 then
        if r.val < 17 then
          if r.val < 16 then
            (4#32, 4#32, 16#32, 0#32)
          else
            (4#32, 4#32, 16#32, 1#32)
        else
          if r.val < 18 then
            (4#32, 4#32, 16#32, 2#32)
          else
            (4#32, 4#32, 16#32, 3#32)
      else
        if r.val < 21 then
          if r.val < 20 then
            (4#32, 4#32, 16#32, 4#32)
          else
            (4#32, 4#32, 16#32, 5#32)
        else
          if r.val < 22 then
            (4#32, 4#32, 16#32, 6#32)
          else
            (4#32, 4#32, 16#32, 7#32)
    else
      if r.val < 27 then
        if r.val < 25 then
          if r.val < 24 then
            (4#32, 4#32, 16#32, 8#32)
          else
            (4#32, 4#32, 16#32, 9#32)
        else
          if r.val < 26 then
            (4#32, 4#32, 16#32, 10#32)
          else
            (4#32, 4#32, 16#32, 11#32)
      else
        if r.val < 29 then
          if r.val < 28 then
            (4#32, 4#32, 16#32, 12#32)
          else
            (4#32, 4#32, 16#32, 13#32)
        else
          if r.val < 30 then
            (4#32, 4#32, 16#32, 14#32)
          else
            (4#32, 4#32, 16#32, 15#32)
def k0_off64 (d0 : Dev nD) (c8_i32_64 : BitVec 32) (c1_i32_71 : BitVec 32) (c16_i32_77 : BitVec 32) (c4_i32_83 : BitVec 32) (c2_i32_89 : BitVec 32) (c0_i32_2764 : BitVec 32) (c0_i32_2765 : BitVec 32) (c1_i32_2766 : BitVec 32) (c0_i32_2767 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let v3724 : BitVec 32 := Scalar.shrsi v152 c0_i32_2764
  let v3725 : BitVec 32 := Scalar.shli v3724 c0_i32_2765
  let v3726 : BitVec 32 := Scalar.xori v3725 c1_i32_2766
  let v3727 : BitVec 32 := Scalar.addi v3726 c0_i32_2767
  let c64_i32_2768 : BitVec 32 := 64#32
  let v3728 : BitVec 32 := Scalar.muli v3727 c64_i32_2768
  let v3729 : Index := Scalar.indexCast v3728
  let c0_2769 : Index := 0#32
  ![v3729.toNat, 0]
def k0_off64_at (r : Fin 62) : BitVec 32 × BitVec 32 × BitVec 32 × BitVec 32 × BitVec 32 × BitVec 32 × BitVec 32 × BitVec 32 × BitVec 32 :=
  if r.val < 31 then
    if r.val < 15 then
      if r.val < 7 then
        if r.val < 3 then
          if r.val < 1 then
            (8#32, 1#32, 16#32, 4#32, 2#32, 0#32, 0#32, 1#32, 0#32)
          else
            if r.val < 2 then
              (1#32, 4#32, 3#32, 8#32, 16#32, 0#32, 0#32, 1#32, 0#32)
            else
              (8#32, 1#32, 16#32, 4#32, 2#32, 1#32, 1#32, 2#32, 0#32)
        else
          if r.val < 5 then
            if r.val < 4 then
              (8#32, 1#32, 16#32, 4#32, 2#32, 1#32, 1#32, 2#32, 1#32)
            else
              (1#32, 4#32, 3#32, 8#32, 16#32, 1#32, 1#32, 2#32, 0#32)
          else
            if r.val < 6 then
              (1#32, 4#32, 3#32, 8#32, 16#32, 1#32, 1#32, 2#32, 1#32)
            else
              (8#32, 1#32, 16#32, 4#32, 2#32, 2#32, 2#32, 4#32, 0#32)
      else
        if r.val < 11 then
          if r.val < 9 then
            if r.val < 8 then
              (8#32, 1#32, 16#32, 4#32, 2#32, 2#32, 2#32, 4#32, 1#32)
            else
              (8#32, 1#32, 16#32, 4#32, 2#32, 2#32, 2#32, 4#32, 2#32)
          else
            if r.val < 10 then
              (8#32, 1#32, 16#32, 4#32, 2#32, 2#32, 2#32, 4#32, 3#32)
            else
              (1#32, 4#32, 3#32, 8#32, 16#32, 2#32, 2#32, 4#32, 0#32)
        else
          if r.val < 13 then
            if r.val < 12 then
              (1#32, 4#32, 3#32, 8#32, 16#32, 2#32, 2#32, 4#32, 1#32)
            else
              (1#32, 4#32, 3#32, 8#32, 16#32, 2#32, 2#32, 4#32, 2#32)
          else
            if r.val < 14 then
              (1#32, 4#32, 3#32, 8#32, 16#32, 2#32, 2#32, 4#32, 3#32)
            else
              (8#32, 1#32, 16#32, 4#32, 2#32, 3#32, 3#32, 8#32, 0#32)
    else
      if r.val < 23 then
        if r.val < 19 then
          if r.val < 17 then
            if r.val < 16 then
              (8#32, 1#32, 16#32, 4#32, 2#32, 3#32, 3#32, 8#32, 1#32)
            else
              (8#32, 1#32, 16#32, 4#32, 2#32, 3#32, 3#32, 8#32, 2#32)
          else
            if r.val < 18 then
              (8#32, 1#32, 16#32, 4#32, 2#32, 3#32, 3#32, 8#32, 3#32)
            else
              (8#32, 1#32, 16#32, 4#32, 2#32, 3#32, 3#32, 8#32, 4#32)
        else
          if r.val < 21 then
            if r.val < 20 then
              (8#32, 1#32, 16#32, 4#32, 2#32, 3#32, 3#32, 8#32, 5#32)
            else
              (8#32, 1#32, 16#32, 4#32, 2#32, 3#32, 3#32, 8#32, 6#32)
          else
            if r.val < 22 then
              (8#32, 1#32, 16#32, 4#32, 2#32, 3#32, 3#32, 8#32, 7#32)
            else
              (1#32, 4#32, 3#32, 8#32, 16#32, 3#32, 3#32, 8#32, 0#32)
      else
        if r.val < 27 then
          if r.val < 25 then
            if r.val < 24 then
              (1#32, 4#32, 3#32, 8#32, 16#32, 3#32, 3#32, 8#32, 1#32)
            else
              (1#32, 4#32, 3#32, 8#32, 16#32, 3#32, 3#32, 8#32, 2#32)
          else
            if r.val < 26 then
              (1#32, 4#32, 3#32, 8#32, 16#32, 3#32, 3#32, 8#32, 3#32)
            else
              (1#32, 4#32, 3#32, 8#32, 16#32, 3#32, 3#32, 8#32, 4#32)
        else
          if r.val < 29 then
            if r.val < 28 then
              (1#32, 4#32, 3#32, 8#32, 16#32, 3#32, 3#32, 8#32, 5#32)
            else
              (1#32, 4#32, 3#32, 8#32, 16#32, 3#32, 3#32, 8#32, 6#32)
          else
            if r.val < 30 then
              (1#32, 4#32, 3#32, 8#32, 16#32, 3#32, 3#32, 8#32, 7#32)
            else
              (8#32, 1#32, 16#32, 4#32, 2#32, 4#32, 4#32, 16#32, 0#32)
  else
    if r.val < 46 then
      if r.val < 38 then
        if r.val < 34 then
          if r.val < 32 then
            (8#32, 1#32, 16#32, 4#32, 2#32, 4#32, 4#32, 16#32, 1#32)
          else
            if r.val < 33 then
              (8#32, 1#32, 16#32, 4#32, 2#32, 4#32, 4#32, 16#32, 2#32)
            else
              (8#32, 1#32, 16#32, 4#32, 2#32, 4#32, 4#32, 16#32, 3#32)
        else
          if r.val < 36 then
            if r.val < 35 then
              (8#32, 1#32, 16#32, 4#32, 2#32, 4#32, 4#32, 16#32, 4#32)
            else
              (8#32, 1#32, 16#32, 4#32, 2#32, 4#32, 4#32, 16#32, 5#32)
          else
            if r.val < 37 then
              (8#32, 1#32, 16#32, 4#32, 2#32, 4#32, 4#32, 16#32, 6#32)
            else
              (8#32, 1#32, 16#32, 4#32, 2#32, 4#32, 4#32, 16#32, 7#32)
      else
        if r.val < 42 then
          if r.val < 40 then
            if r.val < 39 then
              (8#32, 1#32, 16#32, 4#32, 2#32, 4#32, 4#32, 16#32, 8#32)
            else
              (8#32, 1#32, 16#32, 4#32, 2#32, 4#32, 4#32, 16#32, 9#32)
          else
            if r.val < 41 then
              (8#32, 1#32, 16#32, 4#32, 2#32, 4#32, 4#32, 16#32, 10#32)
            else
              (8#32, 1#32, 16#32, 4#32, 2#32, 4#32, 4#32, 16#32, 11#32)
        else
          if r.val < 44 then
            if r.val < 43 then
              (8#32, 1#32, 16#32, 4#32, 2#32, 4#32, 4#32, 16#32, 12#32)
            else
              (8#32, 1#32, 16#32, 4#32, 2#32, 4#32, 4#32, 16#32, 13#32)
          else
            if r.val < 45 then
              (8#32, 1#32, 16#32, 4#32, 2#32, 4#32, 4#32, 16#32, 14#32)
            else
              (8#32, 1#32, 16#32, 4#32, 2#32, 4#32, 4#32, 16#32, 15#32)
    else
      if r.val < 54 then
        if r.val < 50 then
          if r.val < 48 then
            if r.val < 47 then
              (1#32, 4#32, 3#32, 8#32, 16#32, 4#32, 4#32, 16#32, 0#32)
            else
              (1#32, 4#32, 3#32, 8#32, 16#32, 4#32, 4#32, 16#32, 1#32)
          else
            if r.val < 49 then
              (1#32, 4#32, 3#32, 8#32, 16#32, 4#32, 4#32, 16#32, 2#32)
            else
              (1#32, 4#32, 3#32, 8#32, 16#32, 4#32, 4#32, 16#32, 3#32)
        else
          if r.val < 52 then
            if r.val < 51 then
              (1#32, 4#32, 3#32, 8#32, 16#32, 4#32, 4#32, 16#32, 4#32)
            else
              (1#32, 4#32, 3#32, 8#32, 16#32, 4#32, 4#32, 16#32, 5#32)
          else
            if r.val < 53 then
              (1#32, 4#32, 3#32, 8#32, 16#32, 4#32, 4#32, 16#32, 6#32)
            else
              (1#32, 4#32, 3#32, 8#32, 16#32, 4#32, 4#32, 16#32, 7#32)
      else
        if r.val < 58 then
          if r.val < 56 then
            if r.val < 55 then
              (1#32, 4#32, 3#32, 8#32, 16#32, 4#32, 4#32, 16#32, 8#32)
            else
              (1#32, 4#32, 3#32, 8#32, 16#32, 4#32, 4#32, 16#32, 9#32)
          else
            if r.val < 57 then
              (1#32, 4#32, 3#32, 8#32, 16#32, 4#32, 4#32, 16#32, 10#32)
            else
              (1#32, 4#32, 3#32, 8#32, 16#32, 4#32, 4#32, 16#32, 11#32)
        else
          if r.val < 60 then
            if r.val < 59 then
              (1#32, 4#32, 3#32, 8#32, 16#32, 4#32, 4#32, 16#32, 12#32)
            else
              (1#32, 4#32, 3#32, 8#32, 16#32, 4#32, 4#32, 16#32, 13#32)
          else
            if r.val < 61 then
              (1#32, 4#32, 3#32, 8#32, 16#32, 4#32, 4#32, 16#32, 14#32)
            else
              (1#32, 4#32, 3#32, 8#32, 16#32, 4#32, 4#32, 16#32, 15#32)
def k0_off65 (d0 : Dev nD) (c0_i32_2764 : BitVec 32) (c0_i32_2765 : BitVec 32) (c1_i32_2766 : BitVec 32) (c0_i32_2767 : BitVec 32) : Fin 2 → Nat :=
  let c0_i32_2773 : BitVec 32 := 0#32
  let c8_i32_2772 : BitVec 32 := 8#32
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_64 : BitVec 32 := 8#32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let c1_i32_71 : BitVec 32 := 1#32
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let c16_i32_77 : BitVec 32 := 16#32
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let c4_i32_83 : BitVec 32 := 4#32
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let c2_i32_89 : BitVec 32 := 2#32
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let v3724 : BitVec 32 := Scalar.shrsi v152 c0_i32_2764
  let v3725 : BitVec 32 := Scalar.shli v3724 c0_i32_2765
  let v3726 : BitVec 32 := Scalar.xori v3725 c1_i32_2766
  let v3727 : BitVec 32 := Scalar.addi v3726 c0_i32_2767
  let c4_i32_2770 : BitVec 32 := 4#32
  let v3731 : BitVec 32 := Scalar.shrsi v3727 c4_i32_2770
  let c1_i32_2771 : BitVec 32 := 1#32
  let v3732 : BitVec 32 := Scalar.andi v3731 c1_i32_2771
  let v3733 : BitVec 32 := Scalar.muli c8_i32_2772 v3732
  let v3734 : BitVec 32 := Scalar.xori c0_i32_2773 v3733
  let c1_i32_2776 : BitVec 32 := 1#32
  let c3_i32_2774 : BitVec 32 := 3#32
  let v3735 : BitVec 32 := Scalar.shrsi v3727 c3_i32_2774
  let c1_i32_2775 : BitVec 32 := 1#32
  let v3736 : BitVec 32 := Scalar.andi v3735 c1_i32_2775
  let v3737 : BitVec 32 := Scalar.muli c1_i32_2776 v3736
  let v3738 : BitVec 32 := Scalar.xori v3734 v3737
  let c16_i32_2779 : BitVec 32 := 16#32
  let c2_i32_2777 : BitVec 32 := 2#32
  let v3739 : BitVec 32 := Scalar.shrsi v3727 c2_i32_2777
  let c1_i32_2778 : BitVec 32 := 1#32
  let v3740 : BitVec 32 := Scalar.andi v3739 c1_i32_2778
  let v3741 : BitVec 32 := Scalar.muli c16_i32_2779 v3740
  let v3742 : BitVec 32 := Scalar.xori v3738 v3741
  let c4_i32_2782 : BitVec 32 := 4#32
  let c1_i32_2780 : BitVec 32 := 1#32
  let v3743 : BitVec 32 := Scalar.shrsi v3727 c1_i32_2780
  let c1_i32_2781 : BitVec 32 := 1#32
  let v3744 : BitVec 32 := Scalar.andi v3743 c1_i32_2781
  let v3745 : BitVec 32 := Scalar.muli c4_i32_2782 v3744
  let v3746 : BitVec 32 := Scalar.xori v3742 v3745
  let c2_i32_2785 : BitVec 32 := 2#32
  let c0_i32_2783 : BitVec 32 := 0#32
  let v3747 : BitVec 32 := Scalar.shrsi v3727 c0_i32_2783
  let c1_i32_2784 : BitVec 32 := 1#32
  let v3748 : BitVec 32 := Scalar.andi v3747 c1_i32_2784
  let v3749 : BitVec 32 := Scalar.muli c2_i32_2785 v3748
  let v3750 : BitVec 32 := Scalar.xori v3746 v3749
  let c64_i32_2786 : BitVec 32 := 64#32
  let v3751 : BitVec 32 := Scalar.muli v3750 c64_i32_2786
  let v3752 : Index := Scalar.indexCast v3751
  let c768_2787 : Index := 768#32
  ![v3752.toNat, 768]
def k0_off65_at (r : Fin 31) : BitVec 32 × BitVec 32 × BitVec 32 × BitVec 32 :=
  if r.val < 15 then
    if r.val < 7 then
      if r.val < 3 then
        if r.val < 1 then
          (0#32, 0#32, 1#32, 0#32)
        else
          if r.val < 2 then
            (1#32, 1#32, 2#32, 0#32)
          else
            (1#32, 1#32, 2#32, 1#32)
      else
        if r.val < 5 then
          if r.val < 4 then
            (2#32, 2#32, 4#32, 0#32)
          else
            (2#32, 2#32, 4#32, 1#32)
        else
          if r.val < 6 then
            (2#32, 2#32, 4#32, 2#32)
          else
            (2#32, 2#32, 4#32, 3#32)
    else
      if r.val < 11 then
        if r.val < 9 then
          if r.val < 8 then
            (3#32, 3#32, 8#32, 0#32)
          else
            (3#32, 3#32, 8#32, 1#32)
        else
          if r.val < 10 then
            (3#32, 3#32, 8#32, 2#32)
          else
            (3#32, 3#32, 8#32, 3#32)
      else
        if r.val < 13 then
          if r.val < 12 then
            (3#32, 3#32, 8#32, 4#32)
          else
            (3#32, 3#32, 8#32, 5#32)
        else
          if r.val < 14 then
            (3#32, 3#32, 8#32, 6#32)
          else
            (3#32, 3#32, 8#32, 7#32)
  else
    if r.val < 23 then
      if r.val < 19 then
        if r.val < 17 then
          if r.val < 16 then
            (4#32, 4#32, 16#32, 0#32)
          else
            (4#32, 4#32, 16#32, 1#32)
        else
          if r.val < 18 then
            (4#32, 4#32, 16#32, 2#32)
          else
            (4#32, 4#32, 16#32, 3#32)
      else
        if r.val < 21 then
          if r.val < 20 then
            (4#32, 4#32, 16#32, 4#32)
          else
            (4#32, 4#32, 16#32, 5#32)
        else
          if r.val < 22 then
            (4#32, 4#32, 16#32, 6#32)
          else
            (4#32, 4#32, 16#32, 7#32)
    else
      if r.val < 27 then
        if r.val < 25 then
          if r.val < 24 then
            (4#32, 4#32, 16#32, 8#32)
          else
            (4#32, 4#32, 16#32, 9#32)
        else
          if r.val < 26 then
            (4#32, 4#32, 16#32, 10#32)
          else
            (4#32, 4#32, 16#32, 11#32)
      else
        if r.val < 29 then
          if r.val < 28 then
            (4#32, 4#32, 16#32, 12#32)
          else
            (4#32, 4#32, 16#32, 13#32)
        else
          if r.val < 30 then
            (4#32, 4#32, 16#32, 14#32)
          else
            (4#32, 4#32, 16#32, 15#32)
def k0_off66 (d0 : Dev nD) (c0_i32_2788 : BitVec 32) (c0_i32_2789 : BitVec 32) (c1_i32_2790 : BitVec 32) (c0_i32_2791 : BitVec 32) : Fin 2 → Nat :=
  let c0_i32_2797 : BitVec 32 := 0#32
  let c3_i32_2796 : BitVec 32 := 3#32
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_135 : BitVec 32 := 1#32
  let v203 : BitVec 32 := Scalar.andi v2 c1_i32_135
  let c1_i32_136 : BitVec 32 := 1#32
  let v204 : BitVec 32 := Scalar.shrsi v203 c1_i32_136
  let v205 : BitVec 32 := Scalar.xori v203 v204
  let c2_i32_137 : BitVec 32 := 2#32
  let v206 : BitVec 32 := Scalar.shrsi v205 c2_i32_137
  let v207 : BitVec 32 := Scalar.xori v205 v206
  let c4_i32_138 : BitVec 32 := 4#32
  let v208 : BitVec 32 := Scalar.shrsi v207 c4_i32_138
  let v209 : BitVec 32 := Scalar.xori v207 v208
  let c1_i32_139 : BitVec 32 := 1#32
  let v210 : BitVec 32 := Scalar.andi v209 c1_i32_139
  let c4_i32_140 : BitVec 32 := 4#32
  let v211 : BitVec 32 := Scalar.shli v210 c4_i32_140
  let v212 : BitVec 32 := Scalar.ori c0_i32_141 v211
  let c4_i32_142 : BitVec 32 := 4#32
  let v213 : BitVec 32 := Scalar.andi v2 c4_i32_142
  let c1_i32_143 : BitVec 32 := 1#32
  let v214 : BitVec 32 := Scalar.shrsi v213 c1_i32_143
  let v215 : BitVec 32 := Scalar.xori v213 v214
  let c2_i32_144 : BitVec 32 := 2#32
  let v216 : BitVec 32 := Scalar.shrsi v215 c2_i32_144
  let v217 : BitVec 32 := Scalar.xori v215 v216
  let c4_i32_145 : BitVec 32 := 4#32
  let v218 : BitVec 32 := Scalar.shrsi v217 c4_i32_145
  let v219 : BitVec 32 := Scalar.xori v217 v218
  let c1_i32_146 : BitVec 32 := 1#32
  let v220 : BitVec 32 := Scalar.andi v219 c1_i32_146
  let c3_i32_147 : BitVec 32 := 3#32
  let v221 : BitVec 32 := Scalar.shli v220 c3_i32_147
  let v222 : BitVec 32 := Scalar.ori v212 v221
  let c3_i32_148 : BitVec 32 := 3#32
  let v223 : BitVec 32 := Scalar.andi v2 c3_i32_148
  let c1_i32_149 : BitVec 32 := 1#32
  let v224 : BitVec 32 := Scalar.shrsi v223 c1_i32_149
  let v225 : BitVec 32 := Scalar.xori v223 v224
  let c2_i32_150 : BitVec 32 := 2#32
  let v226 : BitVec 32 := Scalar.shrsi v225 c2_i32_150
  let v227 : BitVec 32 := Scalar.xori v225 v226
  let c4_i32_151 : BitVec 32 := 4#32
  let v228 : BitVec 32 := Scalar.shrsi v227 c4_i32_151
  let v229 : BitVec 32 := Scalar.xori v227 v228
  let c1_i32_152 : BitVec 32 := 1#32
  let v230 : BitVec 32 := Scalar.andi v229 c1_i32_152
  let c2_i32_153 : BitVec 32 := 2#32
  let v231 : BitVec 32 := Scalar.shli v230 c2_i32_153
  let v232 : BitVec 32 := Scalar.ori v222 v231
  let c8_i32_154 : BitVec 32 := 8#32
  let v233 : BitVec 32 := Scalar.andi v2 c8_i32_154
  let c1_i32_155 : BitVec 32 := 1#32
  let v234 : BitVec 32 := Scalar.shrsi v233 c1_i32_155
  let v235 : BitVec 32 := Scalar.xori v233 v234
  let c2_i32_156 : BitVec 32 := 2#32
  let v236 : BitVec 32 := Scalar.shrsi v235 c2_i32_156
  let v237 : BitVec 32 := Scalar.xori v235 v236
  let c4_i32_157 : BitVec 32 := 4#32
  let v238 : BitVec 32 := Scalar.shrsi v237 c4_i32_157
  let v239 : BitVec 32 := Scalar.xori v237 v238
  let c1_i32_158 : BitVec 32 := 1#32
  let v240 : BitVec 32 := Scalar.andi v239 c1_i32_158
  let c1_i32_159 : BitVec 32 := 1#32
  let v241 : BitVec 32 := Scalar.shli v240 c1_i32_159
  let v242 : BitVec 32 := Scalar.ori v232 v241
  let c16_i32_160 : BitVec 32 := 16#32
  let v243 : BitVec 32 := Scalar.andi v2 c16_i32_160
  let c1_i32_161 : BitVec 32 := 1#32
  let v244 : BitVec 32 := Scalar.shrsi v243 c1_i32_161
  let v245 : BitVec 32 := Scalar.xori v243 v244
  let c2_i32_162 : BitVec 32 := 2#32
  let v246 : BitVec 32 := Scalar.shrsi v245 c2_i32_162
  let v247 : BitVec 32 := Scalar.xori v245 v246
  let c4_i32_163 : BitVec 32 := 4#32
  let v248 : BitVec 32 := Scalar.shrsi v247 c4_i32_163
  let v249 : BitVec 32 := Scalar.xori v247 v248
  let c1_i32_164 : BitVec 32 := 1#32
  let v250 : BitVec 32 := Scalar.andi v249 c1_i32_164
  let c0_i32_165 : BitVec 32 := 0#32
  let v251 : BitVec 32 := Scalar.shli v250 c0_i32_165
  let v252 : BitVec 32 := Scalar.ori v242 v251
  let v3754 : BitVec 32 := Scalar.shrsi v252 c0_i32_2788
  let v3755 : BitVec 32 := Scalar.shli v3754 c0_i32_2789
  let v3756 : BitVec 32 := Scalar.xori v3755 c1_i32_2790
  let v3757 : BitVec 32 := Scalar.addi v3756 c0_i32_2791
  let c4_i32_2794 : BitVec 32 := 4#32
  let v3761 : BitVec 32 := Scalar.shrsi v3757 c4_i32_2794
  let c1_i32_2795 : BitVec 32 := 1#32
  let v3762 : BitVec 32 := Scalar.andi v3761 c1_i32_2795
  let v3763 : BitVec 32 := Scalar.muli c3_i32_2796 v3762
  let v3764 : BitVec 32 := Scalar.xori c0_i32_2797 v3763
  let c4_i32_2800 : BitVec 32 := 4#32
  let c3_i32_2798 : BitVec 32 := 3#32
  let v3765 : BitVec 32 := Scalar.shrsi v3757 c3_i32_2798
  let c1_i32_2799 : BitVec 32 := 1#32
  let v3766 : BitVec 32 := Scalar.andi v3765 c1_i32_2799
  let v3767 : BitVec 32 := Scalar.muli c4_i32_2800 v3766
  let v3768 : BitVec 32 := Scalar.xori v3764 v3767
  let c2_i32_2803 : BitVec 32 := 2#32
  let c2_i32_2801 : BitVec 32 := 2#32
  let v3769 : BitVec 32 := Scalar.shrsi v3757 c2_i32_2801
  let c1_i32_2802 : BitVec 32 := 1#32
  let v3770 : BitVec 32 := Scalar.andi v3769 c1_i32_2802
  let v3771 : BitVec 32 := Scalar.muli c2_i32_2803 v3770
  let v3772 : BitVec 32 := Scalar.xori v3768 v3771
  let c8_i32_2806 : BitVec 32 := 8#32
  let c1_i32_2804 : BitVec 32 := 1#32
  let v3773 : BitVec 32 := Scalar.shrsi v3757 c1_i32_2804
  let c1_i32_2805 : BitVec 32 := 1#32
  let v3774 : BitVec 32 := Scalar.andi v3773 c1_i32_2805
  let v3775 : BitVec 32 := Scalar.muli c8_i32_2806 v3774
  let v3776 : BitVec 32 := Scalar.xori v3772 v3775
  let c16_i32_2809 : BitVec 32 := 16#32
  let c0_i32_2807 : BitVec 32 := 0#32
  let v3777 : BitVec 32 := Scalar.shrsi v3757 c0_i32_2807
  let c1_i32_2808 : BitVec 32 := 1#32
  let v3778 : BitVec 32 := Scalar.andi v3777 c1_i32_2808
  let v3779 : BitVec 32 := Scalar.muli c16_i32_2809 v3778
  let v3780 : BitVec 32 := Scalar.xori v3776 v3779
  let c64_i32_2810 : BitVec 32 := 64#32
  let v3781 : BitVec 32 := Scalar.muli v3780 c64_i32_2810
  let v3782 : Index := Scalar.indexCast v3781
  let c1408_2811 : Index := 1408#32
  ![v3782.toNat, 1408]
def k0_off66_at (r : Fin 31) : BitVec 32 × BitVec 32 × BitVec 32 × BitVec 32 :=
  if r.val < 15 then
    if r.val < 7 then
      if r.val < 3 then
        if r.val < 1 then
          (0#32, 0#32, 1#32, 0#32)
        else
          if r.val < 2 then
            (1#32, 1#32, 2#32, 0#32)
          else
            (1#32, 1#32, 2#32, 1#32)
      else
        if r.val < 5 then
          if r.val < 4 then
            (2#32, 2#32, 4#32, 0#32)
          else
            (2#32, 2#32, 4#32, 1#32)
        else
          if r.val < 6 then
            (2#32, 2#32, 4#32, 2#32)
          else
            (2#32, 2#32, 4#32, 3#32)
    else
      if r.val < 11 then
        if r.val < 9 then
          if r.val < 8 then
            (3#32, 3#32, 8#32, 0#32)
          else
            (3#32, 3#32, 8#32, 1#32)
        else
          if r.val < 10 then
            (3#32, 3#32, 8#32, 2#32)
          else
            (3#32, 3#32, 8#32, 3#32)
      else
        if r.val < 13 then
          if r.val < 12 then
            (3#32, 3#32, 8#32, 4#32)
          else
            (3#32, 3#32, 8#32, 5#32)
        else
          if r.val < 14 then
            (3#32, 3#32, 8#32, 6#32)
          else
            (3#32, 3#32, 8#32, 7#32)
  else
    if r.val < 23 then
      if r.val < 19 then
        if r.val < 17 then
          if r.val < 16 then
            (4#32, 4#32, 16#32, 0#32)
          else
            (4#32, 4#32, 16#32, 1#32)
        else
          if r.val < 18 then
            (4#32, 4#32, 16#32, 2#32)
          else
            (4#32, 4#32, 16#32, 3#32)
      else
        if r.val < 21 then
          if r.val < 20 then
            (4#32, 4#32, 16#32, 4#32)
          else
            (4#32, 4#32, 16#32, 5#32)
        else
          if r.val < 22 then
            (4#32, 4#32, 16#32, 6#32)
          else
            (4#32, 4#32, 16#32, 7#32)
    else
      if r.val < 27 then
        if r.val < 25 then
          if r.val < 24 then
            (4#32, 4#32, 16#32, 8#32)
          else
            (4#32, 4#32, 16#32, 9#32)
        else
          if r.val < 26 then
            (4#32, 4#32, 16#32, 10#32)
          else
            (4#32, 4#32, 16#32, 11#32)
      else
        if r.val < 29 then
          if r.val < 28 then
            (4#32, 4#32, 16#32, 12#32)
          else
            (4#32, 4#32, 16#32, 13#32)
        else
          if r.val < 30 then
            (4#32, 4#32, 16#32, 14#32)
          else
            (4#32, 4#32, 16#32, 15#32)
def k0_off67 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c2_i32_2818 : BitVec 32 := 2#32
  let v3790 : BitVec 32 := Scalar.shrsi v52 c2_i32_2818
  let c2_i32_2819 : BitVec 32 := 2#32
  let v3791 : BitVec 32 := Scalar.shli v3790 c2_i32_2819
  let c64_i32_2820 : BitVec 32 := 64#32
  let v3792 : BitVec 32 := Scalar.muli v3791 c64_i32_2820
  let c0_i32_2825 : BitVec 32 := 0#32
  ![v3792.toNat, 0]
def k0_dev28 (d0 : Dev nD) : Nat :=
  let c0_i32_2824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_27 : BitVec 32 := 2#32
  let v55 : BitVec 32 := Scalar.xori v2 c2_i32_27
  let c1_i32_2823 : BitVec 32 := 1#32
  let v3793 : BitVec 32 := Scalar.muli v55 c1_i32_2823
  let v3794 : BitVec 32 := Scalar.addi c0_i32_2824 v3793
  v3794.toNat
def k0_off68 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c2_i32_2833 : BitVec 32 := 2#32
  let v3807 : BitVec 32 := Scalar.shrsi v152 c2_i32_2833
  let c2_i32_2834 : BitVec 32 := 2#32
  let v3808 : BitVec 32 := Scalar.shli v3807 c2_i32_2834
  let c64_i32_2835 : BitVec 32 := 64#32
  let v3809 : BitVec 32 := Scalar.muli v3808 c64_i32_2835
  let c0_i32_2839 : BitVec 32 := 0#32
  ![v3809.toNat, 0]
def k0_off68_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev29 (d0 : Dev nD) : Nat :=
  let c0_i32_2838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_97 : BitVec 32 := 16#32
  let v155 : BitVec 32 := Scalar.xori v2 c16_i32_97
  let c1_i32_2837 : BitVec 32 := 1#32
  let v3810 : BitVec 32 := Scalar.muli v155 c1_i32_2837
  let v3811 : BitVec 32 := Scalar.addi c0_i32_2838 v3810
  v3811.toNat
def k0_dev30 (d0 : Dev nD) : Nat :=
  let c0_i32_2852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_168 : BitVec 32 := 2#32
  let v255 : BitVec 32 := Scalar.xori v2 c2_i32_168
  let c1_i32_2851 : BitVec 32 := 1#32
  let v3827 : BitVec 32 := Scalar.muli v255 c1_i32_2851
  let v3828 : BitVec 32 := Scalar.addi c0_i32_2852 v3827
  v3828.toNat
def k0_off69 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c3_i32_3011 : BitVec 32 := 3#32
  let v4024 : BitVec 32 := Scalar.shrsi v52 c3_i32_3011
  let c3_i32_3012 : BitVec 32 := 3#32
  let v4025 : BitVec 32 := Scalar.shli v4024 c3_i32_3012
  let c64_i32_3013 : BitVec 32 := 64#32
  let v4026 : BitVec 32 := Scalar.muli v4025 c64_i32_3013
  let c0_i32_3018 : BitVec 32 := 0#32
  ![v4026.toNat, 0]
def k0_dev31 (d0 : Dev nD) : Nat :=
  let c0_i32_3017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_26 : BitVec 32 := 8#32
  let v54 : BitVec 32 := Scalar.xori v2 c8_i32_26
  let c1_i32_3016 : BitVec 32 := 1#32
  let v4027 : BitVec 32 := Scalar.muli v54 c1_i32_3016
  let v4028 : BitVec 32 := Scalar.addi c0_i32_3017 v4027
  v4028.toNat
def k0_off70 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c3_i32_3026 : BitVec 32 := 3#32
  let v4041 : BitVec 32 := Scalar.shrsi v152 c3_i32_3026
  let c3_i32_3027 : BitVec 32 := 3#32
  let v4042 : BitVec 32 := Scalar.shli v4041 c3_i32_3027
  let c64_i32_3028 : BitVec 32 := 64#32
  let v4043 : BitVec 32 := Scalar.muli v4042 c64_i32_3028
  let c0_i32_3032 : BitVec 32 := 0#32
  ![v4043.toNat, 0]
def k0_off70_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev32 (d0 : Dev nD) : Nat :=
  let c0_i32_3031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_96 : BitVec 32 := 1#32
  let v154 : BitVec 32 := Scalar.xori v2 c1_i32_96
  let c1_i32_3030 : BitVec 32 := 1#32
  let v4044 : BitVec 32 := Scalar.muli v154 c1_i32_3030
  let v4045 : BitVec 32 := Scalar.addi c0_i32_3031 v4044
  v4045.toNat
def k0_dev33 (d0 : Dev nD) : Nat :=
  let c0_i32_3046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_167 : BitVec 32 := 4#32
  let v254 : BitVec 32 := Scalar.xori v2 c4_i32_167
  let c1_i32_3045 : BitVec 32 := 1#32
  let v4061 : BitVec 32 := Scalar.muli v254 c1_i32_3045
  let v4062 : BitVec 32 := Scalar.addi c0_i32_3046 v4061
  v4062.toNat
def k0_off71 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.andi v2 c1_i32_0
  let c1_i32_1 : BitVec 32 := 1#32
  let v4 : BitVec 32 := Scalar.shrsi v3 c1_i32_1
  let v5 : BitVec 32 := Scalar.xori v3 v4
  let c2_i32 : BitVec 32 := 2#32
  let v6 : BitVec 32 := Scalar.shrsi v5 c2_i32
  let v7 : BitVec 32 := Scalar.xori v5 v6
  let c4_i32 : BitVec 32 := 4#32
  let v8 : BitVec 32 := Scalar.shrsi v7 c4_i32
  let v9 : BitVec 32 := Scalar.xori v7 v8
  let c1_i32_2 : BitVec 32 := 1#32
  let v10 : BitVec 32 := Scalar.andi v9 c1_i32_2
  let c4_i32_3 : BitVec 32 := 4#32
  let v11 : BitVec 32 := Scalar.shli v10 c4_i32_3
  let v12 : BitVec 32 := Scalar.ori c0_i32 v11
  let c8_i32 : BitVec 32 := 8#32
  let v13 : BitVec 32 := Scalar.andi v2 c8_i32
  let c1_i32_4 : BitVec 32 := 1#32
  let v14 : BitVec 32 := Scalar.shrsi v13 c1_i32_4
  let v15 : BitVec 32 := Scalar.xori v13 v14
  let c2_i32_5 : BitVec 32 := 2#32
  let v16 : BitVec 32 := Scalar.shrsi v15 c2_i32_5
  let v17 : BitVec 32 := Scalar.xori v15 v16
  let c4_i32_6 : BitVec 32 := 4#32
  let v18 : BitVec 32 := Scalar.shrsi v17 c4_i32_6
  let v19 : BitVec 32 := Scalar.xori v17 v18
  let c1_i32_7 : BitVec 32 := 1#32
  let v20 : BitVec 32 := Scalar.andi v19 c1_i32_7
  let c3_i32 : BitVec 32 := 3#32
  let v21 : BitVec 32 := Scalar.shli v20 c3_i32
  let v22 : BitVec 32 := Scalar.ori v12 v21
  let c2_i32_8 : BitVec 32 := 2#32
  let v23 : BitVec 32 := Scalar.andi v2 c2_i32_8
  let c1_i32_9 : BitVec 32 := 1#32
  let v24 : BitVec 32 := Scalar.shrsi v23 c1_i32_9
  let v25 : BitVec 32 := Scalar.xori v23 v24
  let c2_i32_10 : BitVec 32 := 2#32
  let v26 : BitVec 32 := Scalar.shrsi v25 c2_i32_10
  let v27 : BitVec 32 := Scalar.xori v25 v26
  let c4_i32_11 : BitVec 32 := 4#32
  let v28 : BitVec 32 := Scalar.shrsi v27 c4_i32_11
  let v29 : BitVec 32 := Scalar.xori v27 v28
  let c1_i32_12 : BitVec 32 := 1#32
  let v30 : BitVec 32 := Scalar.andi v29 c1_i32_12
  let c2_i32_13 : BitVec 32 := 2#32
  let v31 : BitVec 32 := Scalar.shli v30 c2_i32_13
  let v32 : BitVec 32 := Scalar.ori v22 v31
  let c16_i32 : BitVec 32 := 16#32
  let v33 : BitVec 32 := Scalar.andi v2 c16_i32
  let c1_i32_14 : BitVec 32 := 1#32
  let v34 : BitVec 32 := Scalar.shrsi v33 c1_i32_14
  let v35 : BitVec 32 := Scalar.xori v33 v34
  let c2_i32_15 : BitVec 32 := 2#32
  let v36 : BitVec 32 := Scalar.shrsi v35 c2_i32_15
  let v37 : BitVec 32 := Scalar.xori v35 v36
  let c4_i32_16 : BitVec 32 := 4#32
  let v38 : BitVec 32 := Scalar.shrsi v37 c4_i32_16
  let v39 : BitVec 32 := Scalar.xori v37 v38
  let c1_i32_17 : BitVec 32 := 1#32
  let v40 : BitVec 32 := Scalar.andi v39 c1_i32_17
  let c1_i32_18 : BitVec 32 := 1#32
  let v41 : BitVec 32 := Scalar.shli v40 c1_i32_18
  let v42 : BitVec 32 := Scalar.ori v32 v41
  let c4_i32_19 : BitVec 32 := 4#32
  let v43 : BitVec 32 := Scalar.andi v2 c4_i32_19
  let c1_i32_20 : BitVec 32 := 1#32
  let v44 : BitVec 32 := Scalar.shrsi v43 c1_i32_20
  let v45 : BitVec 32 := Scalar.xori v43 v44
  let c2_i32_21 : BitVec 32 := 2#32
  let v46 : BitVec 32 := Scalar.shrsi v45 c2_i32_21
  let v47 : BitVec 32 := Scalar.xori v45 v46
  let c4_i32_22 : BitVec 32 := 4#32
  let v48 : BitVec 32 := Scalar.shrsi v47 c4_i32_22
  let v49 : BitVec 32 := Scalar.xori v47 v48
  let c1_i32_23 : BitVec 32 := 1#32
  let v50 : BitVec 32 := Scalar.andi v49 c1_i32_23
  let c0_i32_24 : BitVec 32 := 0#32
  let v51 : BitVec 32 := Scalar.shli v50 c0_i32_24
  let v52 : BitVec 32 := Scalar.ori v42 v51
  let c4_i32_3331 : BitVec 32 := 4#32
  let v4420 : BitVec 32 := Scalar.shrsi v52 c4_i32_3331
  let c4_i32_3332 : BitVec 32 := 4#32
  let v4421 : BitVec 32 := Scalar.shli v4420 c4_i32_3332
  let c64_i32_3333 : BitVec 32 := 64#32
  let v4422 : BitVec 32 := Scalar.muli v4421 c64_i32_3333
  let c0_i32_3337 : BitVec 32 := 0#32
  ![v4422.toNat, 0]
def k0_dev34 (d0 : Dev nD) : Nat :=
  let c0_i32_3336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_25 : BitVec 32 := 1#32
  let v53 : BitVec 32 := Scalar.xori v2 c1_i32_25
  let c1_i32_3335 : BitVec 32 := 1#32
  let v4423 : BitVec 32 := Scalar.muli v53 c1_i32_3335
  let v4424 : BitVec 32 := Scalar.addi c0_i32_3336 v4423
  v4424.toNat
def k0_off72 (d0 : Dev nD) (c8_i32_64 : BitVec 32) (c1_i32_71 : BitVec 32) (c16_i32_77 : BitVec 32) (c4_i32_83 : BitVec 32) (c2_i32_89 : BitVec 32) : Fin 2 → Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v103 : BitVec 32 := Scalar.andi v2 c8_i32_64
  let c1_i32_65 : BitVec 32 := 1#32
  let v104 : BitVec 32 := Scalar.shrsi v103 c1_i32_65
  let v105 : BitVec 32 := Scalar.xori v103 v104
  let c2_i32_66 : BitVec 32 := 2#32
  let v106 : BitVec 32 := Scalar.shrsi v105 c2_i32_66
  let v107 : BitVec 32 := Scalar.xori v105 v106
  let c4_i32_67 : BitVec 32 := 4#32
  let v108 : BitVec 32 := Scalar.shrsi v107 c4_i32_67
  let v109 : BitVec 32 := Scalar.xori v107 v108
  let c1_i32_68 : BitVec 32 := 1#32
  let v110 : BitVec 32 := Scalar.andi v109 c1_i32_68
  let c4_i32_69 : BitVec 32 := 4#32
  let v111 : BitVec 32 := Scalar.shli v110 c4_i32_69
  let v112 : BitVec 32 := Scalar.ori c0_i32_70 v111
  let v113 : BitVec 32 := Scalar.andi v2 c1_i32_71
  let c1_i32_72 : BitVec 32 := 1#32
  let v114 : BitVec 32 := Scalar.shrsi v113 c1_i32_72
  let v115 : BitVec 32 := Scalar.xori v113 v114
  let c2_i32_73 : BitVec 32 := 2#32
  let v116 : BitVec 32 := Scalar.shrsi v115 c2_i32_73
  let v117 : BitVec 32 := Scalar.xori v115 v116
  let c4_i32_74 : BitVec 32 := 4#32
  let v118 : BitVec 32 := Scalar.shrsi v117 c4_i32_74
  let v119 : BitVec 32 := Scalar.xori v117 v118
  let c1_i32_75 : BitVec 32 := 1#32
  let v120 : BitVec 32 := Scalar.andi v119 c1_i32_75
  let c3_i32_76 : BitVec 32 := 3#32
  let v121 : BitVec 32 := Scalar.shli v120 c3_i32_76
  let v122 : BitVec 32 := Scalar.ori v112 v121
  let v123 : BitVec 32 := Scalar.andi v2 c16_i32_77
  let c1_i32_78 : BitVec 32 := 1#32
  let v124 : BitVec 32 := Scalar.shrsi v123 c1_i32_78
  let v125 : BitVec 32 := Scalar.xori v123 v124
  let c2_i32_79 : BitVec 32 := 2#32
  let v126 : BitVec 32 := Scalar.shrsi v125 c2_i32_79
  let v127 : BitVec 32 := Scalar.xori v125 v126
  let c4_i32_80 : BitVec 32 := 4#32
  let v128 : BitVec 32 := Scalar.shrsi v127 c4_i32_80
  let v129 : BitVec 32 := Scalar.xori v127 v128
  let c1_i32_81 : BitVec 32 := 1#32
  let v130 : BitVec 32 := Scalar.andi v129 c1_i32_81
  let c2_i32_82 : BitVec 32 := 2#32
  let v131 : BitVec 32 := Scalar.shli v130 c2_i32_82
  let v132 : BitVec 32 := Scalar.ori v122 v131
  let v133 : BitVec 32 := Scalar.andi v2 c4_i32_83
  let c1_i32_84 : BitVec 32 := 1#32
  let v134 : BitVec 32 := Scalar.shrsi v133 c1_i32_84
  let v135 : BitVec 32 := Scalar.xori v133 v134
  let c2_i32_85 : BitVec 32 := 2#32
  let v136 : BitVec 32 := Scalar.shrsi v135 c2_i32_85
  let v137 : BitVec 32 := Scalar.xori v135 v136
  let c4_i32_86 : BitVec 32 := 4#32
  let v138 : BitVec 32 := Scalar.shrsi v137 c4_i32_86
  let v139 : BitVec 32 := Scalar.xori v137 v138
  let c1_i32_87 : BitVec 32 := 1#32
  let v140 : BitVec 32 := Scalar.andi v139 c1_i32_87
  let c1_i32_88 : BitVec 32 := 1#32
  let v141 : BitVec 32 := Scalar.shli v140 c1_i32_88
  let v142 : BitVec 32 := Scalar.ori v132 v141
  let v143 : BitVec 32 := Scalar.andi v2 c2_i32_89
  let c1_i32_90 : BitVec 32 := 1#32
  let v144 : BitVec 32 := Scalar.shrsi v143 c1_i32_90
  let v145 : BitVec 32 := Scalar.xori v143 v144
  let c2_i32_91 : BitVec 32 := 2#32
  let v146 : BitVec 32 := Scalar.shrsi v145 c2_i32_91
  let v147 : BitVec 32 := Scalar.xori v145 v146
  let c4_i32_92 : BitVec 32 := 4#32
  let v148 : BitVec 32 := Scalar.shrsi v147 c4_i32_92
  let v149 : BitVec 32 := Scalar.xori v147 v148
  let c1_i32_93 : BitVec 32 := 1#32
  let v150 : BitVec 32 := Scalar.andi v149 c1_i32_93
  let c0_i32_94 : BitVec 32 := 0#32
  let v151 : BitVec 32 := Scalar.shli v150 c0_i32_94
  let v152 : BitVec 32 := Scalar.ori v142 v151
  let c4_i32_3345 : BitVec 32 := 4#32
  let v4437 : BitVec 32 := Scalar.shrsi v152 c4_i32_3345
  let c4_i32_3346 : BitVec 32 := 4#32
  let v4438 : BitVec 32 := Scalar.shli v4437 c4_i32_3346
  let c64_i32_3347 : BitVec 32 := 64#32
  let v4439 : BitVec 32 := Scalar.muli v4438 c64_i32_3347
  let c0_i32_3351 : BitVec 32 := 0#32
  ![v4439.toNat, 0]
def k0_off72_at (r : Fin 2) : BitVec 32 × BitVec 32 × BitVec 32 × BitVec 32 × BitVec 32 :=
  if r.val < 1 then
    (8#32, 1#32, 16#32, 4#32, 2#32)
  else
    (1#32, 4#32, 3#32, 8#32, 16#32)
def k0_dev35 (d0 : Dev nD) : Nat :=
  let c0_i32_3350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_95 : BitVec 32 := 8#32
  let v153 : BitVec 32 := Scalar.xori v2 c8_i32_95
  let c1_i32_3349 : BitVec 32 := 1#32
  let v4440 : BitVec 32 := Scalar.muli v153 c1_i32_3349
  let v4441 : BitVec 32 := Scalar.addi c0_i32_3350 v4440
  v4441.toNat
def k0_dev36 (d0 : Dev nD) : Nat :=
  let c0_i32_3364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_166 : BitVec 32 := 3#32
  let v253 : BitVec 32 := Scalar.xori v2 c3_i32_166
  let c1_i32_3363 : BitVec 32 := 1#32
  let v4457 : BitVec 32 := Scalar.muli v253 c1_i32_3363
  let v4458 : BitVec 32 := Scalar.addi c0_i32_3364 v4457
  v4458.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x32768, .bf16⟩
  | .hbm, ⟨1, _⟩ => ⟨S32768x2048, .bf16⟩
  | .hbm, ⟨2, _⟩ => ⟨S2048x32768, .f32⟩
  | .hbm, ⟨3, _⟩ => ⟨S32768x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Holds.lean ====
/-
# Regions of a buffer held under a relation

`holds c m T q R` says: device `c` holds share `q` of the elements of memref `m` under the index set `T`, at some
contents whose element at each index `x` of `T` satisfies `R x`. The rules below split and join such regions, and run a
load, a store and a remote copy over them, with every condition stated on the memref's own indices.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

/-- The rounds record of the cube's own cells: a cell has up to six duties, named by `Fin 6`. -/
abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program of device `c`'s TensorCore. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {sp : Space} {s : Shape} {e : EltTy}

/-- Share `q` of the elements of `m` under `T` on device `c`, each satisfying `R`. -/
def holds (c : Dev nD) (m : Memref sig .tc sp s e) (T : Finset s.Idx) (q : PosShare TreeShare) (R : s.Idx → Elt F e → Prop) : sProp 𝕄 :=
  iprop(∃ f : Buf (Elt F) (m.view.loc (c : Thread nD τ)), ⌜∀ x ∈ T, R x (m.view.read (Elt F) f x)⌝
    ∗ (m.view.loc (c : Thread nD τ) ↦[m.view.setOn T]{q} f))

omit [FloatOps F] in
instance holds_storable (c : Dev nD) (m : Memref sig .tc sp s e) (T : Finset s.Idx) (q : PosShare TreeShare) (R : s.Idx → Elt F e → Prop) :
    BI.Storable (upEmb : UEmb _ 𝕄) (holds c m T q R) := by unfold holds; infer_instance

omit [FloatOps F] in
theorem holds_mono {c : Dev nD} {m : Memref sig .tc sp s e} {T : Finset s.Idx} {q : PosShare TreeShare} {R R' : s.Idx → Elt F e → Prop}
    (h : ∀ x ∈ T, ∀ v, R x v → R' x v) : (holds c m T q R : sProp 𝕄) ⊢ holds c m T q R' := by
  unfold holds
  iintro ⟨%f, %hf, H⟩
  iexists f
  isplitr
  · ipureintro; exact fun x hx => h x hx _ (hf x hx)
  iexact H

omit [FloatOps F] in
theorem holds_congr {c : Dev nD} {m : Memref sig .tc sp s e} {T T' : Finset s.Idx} {q : PosShare TreeShare} {R R' : s.Idx → Elt F e → Prop}
    (hT : T = T') (h : ∀ x ∈ T, ∀ v, R x v → R' x v) : (holds c m T q R : sProp 𝕄) ⊢ holds c m T' q R' := by
  subst hT; exact holds_mono h

omit [FloatOps F] in
theorem setOn_disjoint {m : Memref sig .tc sp s e} {I J : Finset s.Idx} (h : Disjoint I J) : Disjoint (m.view.setOn I) (m.view.setOn J) := by
  unfold View.setOn; exact (Finset.disjoint_map _).mpr h

omit [FloatOps F] in
theorem setOn_union (m : Memref sig .tc sp s e) (I J : Finset s.Idx) : m.view.setOn (I ∪ J) = m.view.setOn I ∪ m.view.setOn J := by
  unfold View.setOn; exact Finset.map_union _ _

omit [FloatOps F] in
/-- Two disjoint regions apart. -/
theorem holds_split {c : Dev nD} {m : Memref sig .tc sp s e} {I J : Finset s.Idx} {q : PosShare TreeShare} {R : s.Idx → Elt F e → Prop}
    (h : Disjoint I J) : (holds c m (I ∪ J) q R : sProp 𝕄) ⊢ iprop(holds c m I q R ∗ holds c m J q R) := by
  unfold holds
  iintro ⟨%f, %hf, H⟩
  rw [setOn_union]
  ihave H2 := (pointsTo_union (setOn_disjoint h)).1 $$ H
  icases H2 with ⟨H1, H2⟩
  isplitl [H1]
  · iexists f
    isplitr
    · ipureintro; exact fun x hx => hf x (Finset.mem_union_left _ hx)
    iexact H1
  · iexists f
    isplitr
    · ipureintro; exact fun x hx => hf x (Finset.mem_union_right _ hx)
    iexact H2

omit [FloatOps F] in
/-- Two disjoint regions together. -/
theorem holds_join {c : Dev nD} {m : Memref sig .tc sp s e} {I J : Finset s.Idx} {q : PosShare TreeShare} {R : s.Idx → Elt F e → Prop}
    (h : Disjoint I J) : iprop(holds c m I q R ∗ holds c m J q R) ⊢ (holds c m (I ∪ J) q R : sProp 𝕄) := by
  unfold holds
  iintro ⟨⟨%f, %hf, H1⟩, ⟨%g, %hg, H2⟩⟩
  iexists ((m.view.setOn J).piecewise g f)
  isplitr
  · ipureintro
    intro x hx
    by_cases hJ : x ∈ J
    · rw [View.read_congr_at (g := g) x (Finset.piecewise_eq_of_mem _ _ _ (m.view.mem_setOn.mpr hJ))]; exact hg x hJ
    · have hI := (Finset.mem_union.mp hx).resolve_right hJ
      rw [View.read_congr_at (g := f) x (Finset.piecewise_eq_of_notMem _ _ _ (fun hh => hJ (m.view.mem_setOn.mp hh)))]; exact hf x hI
  rw [setOn_union]
  iapply (pointsTo_join (setOn_disjoint h))
  isplitl [H1] <;> iassumption

omit [FloatOps F] in
/-- One share apart into two. -/
theorem holds_share {c : Dev nD} {m : Memref sig .tc sp s e} {T : Finset s.Idx} {q q₁ q₂ : PosShare TreeShare} {R : s.Idx → Elt F e → Prop}
    (h : q ∈ q₁ ·? q₂) : (holds c m T q R : sProp 𝕄) ⊢ iprop(holds c m T q₁ R ∗ holds c m T q₂ R) := by
  unfold holds
  iintro ⟨%f, %hf, H⟩
  ihave H2 := (pointsTo_share h).1 $$ H
  icases H2 with ⟨H1, H2⟩
  isplitl [H1]
  · iexists f; isplitr; · (ipureintro; exact hf)
    iexact H1
  · iexists f; isplitr; · (ipureintro; exact hf)
    iexact H2

omit [FloatOps F] in
/-- Two shares of one region together. -/
theorem holds_unshare {c : Dev nD} {m : Memref sig .tc sp s e} {T : Finset s.Idx} {q q₁ q₂ : PosShare TreeShare} {R R' : s.Idx → Elt F e → Prop}
    (h : q ∈ q₁ ·? q₂) : iprop(holds c m T q₁ R ∗ holds c m T q₂ R') ⊢ (holds c m T q R : sProp 𝕄) := by
  unfold holds
  iintro ⟨⟨%f, %hf, H1⟩, ⟨%g, %hg, H2⟩⟩
  ihave %ha := pointsTo_agree $$ [H1 H2]
  · isplitl [H1] <;> iassumption
  iexists f
  isplitr; · (ipureintro; exact hf)
  iapply (pointsTo_share h).2
  isplitl [H1]; · iexact H1
  iapply (Entails.of_eq (pointsTo_congr (fun i hi => ((ha i (Finset.mem_inter.mpr ⟨hi, hi⟩)).1).symm)))
  iexact H2

omit [FloatOps F] in
/-- A whole buffer at some contents. -/
theorem holds_of_whole (c : Dev nD) (b : Ref sig .tc) (f : Buf (Elt F) ((c : Thread nD τ).loc b)) :
    ((((c : Thread nD τ).loc b) ↦{fullShare} f : sProp 𝕄)) ⊢ holds c (Memref.whole b) Finset.univ fullShare (fun x v => v = f x) := by
  unfold holds
  iintro H
  iexists f
  isplitr; · (ipureintro; exact fun x _ => rfl)
  rw [show (Memref.whole b : Memref sig .tc _ _ _).view.setOn Finset.univ = Finset.univ from View.setOn_whole_univ b]
  iexact H

omit [FloatOps F] in
theorem holds_to_whole (c : Dev nD) (b : Ref sig .tc) (R : b.ty.shape.Idx → Elt F b.ty.elt → Prop) :
    (holds c (Memref.whole b) Finset.univ fullShare R : sProp 𝕄)
      ⊢ iprop(∃ f : Buf (Elt F) ((c : Thread nD τ).loc b), ⌜∀ x, R x (f x)⌝ ∗ (((c : Thread nD τ).loc b) ↦{fullShare} f)) := by
  unfold holds
  iintro ⟨%f, %hf, H⟩
  iexists f
  isplitr; · (ipureintro; exact fun x => hf x (Finset.mem_univ x))
  rw [show (Memref.whole b : Memref sig .tc _ _ _).view.setOn Finset.univ = Finset.univ from View.setOn_whole_univ b]
  iexact H

/-! ## Running an operation -/

variable {α : Type}

/-- A load of a box inside the held region: the program continues at some values that satisfy the relation. -/
theorem holds_load {Q : α → sProp 𝕄} {c : Dev nD} {cs : CoreSpace} {m : Memref sig .tc cs s e} {r : LoadRect s} {hl : m.view.LoadsAt r}
    {k : (r.shape.Idx → Elt F e) → Prog (TpuEff nD τ sig (Elt F) Λ₀ .tc) α} {T : Finset s.Idx} {q : PosShare TreeShare} {R : s.Idx → Elt F e → Prop}
    (hT : ∀ y, r.idx y ∈ T) :
    (holds c m T q R : sProp 𝕄)
      ⊢ iprop((∀ v, ⌜∀ y, R (r.idx y) (v y)⌝ -∗ holds c m T q R -∗ wpc c (k v) Q) -∗ wpc c (Prog.lift (.load m r hl) >>= k) Q) := by
  simp only [Prog.lift, Prog.bind_op, Prog.bind_ret]
  unfold holds
  iintro ⟨%f, %hf, H⟩ Hk
  have hS : m.view.setOn r.set ⊆ m.view.setOn T := by
    unfold View.setOn
    refine Finset.map_subset_map.mpr fun i hi => ?_
    obtain ⟨y, rfl⟩ := r.exists_idx_of_mem hi
    exact hT y
  iapply (wp_load 𝒱₀ (c : Thread nD τ) none Set.univ (m := m) hS) $$ H
  iintro H
  ispecialize Hk $$ %(m.view.readAt (Elt F) r f)
  iapply Hk $$ [] [H]
  · ipureintro; exact fun y => hf _ (hT y)
  · iexists f
    isplitr; · (ipureintro; exact hf)
    iexact H

/-- A store over a box inside the region. -/
theorem holds_store {Q : α → sProp 𝕄} {c : Dev nD} {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {T : Finset s.Idx} {R R' : s.Idx → Elt F e → Prop}
    (hT : ∀ y, r.idx y ∈ T) (hin : ∀ y, R' (r.idx y) (w y)) (hout : ∀ x ∈ T, x ∉ r.set → ∀ v, R x v → R' x v) :
    (holds c m T fullShare R : sProp 𝕄)
      ⊢ iprop((holds c m T fullShare R' -∗ wpc c (k ⟨⟩) Q) -∗ wpc c (Prog.lift (.store m r w Finset.univ hx hm) >>= k) Q) := by
  simp only [Prog.lift, Prog.bind_op, Prog.bind_ret]
  unfold holds
  iintro ⟨%f, %hf, H⟩ Hk
  have hS : (m.access r).setOn Finset.univ ⊆ m.view.setOn T := by
    intro i hi
    obtain ⟨y, -, rfl⟩ := Finset.mem_map.mp hi
    exact m.view.mem_setOn.mpr (hT y)
  iapply (wp_store 𝒱₀ (c : Thread nD τ) none Set.univ (m := m) (r := r) (Mk := Finset.univ) hS) $$ H
  iintro H
  iapply Hk
  iexists ((m.access r).write (Elt F) f w Finset.univ)
  isplitr
  · ipureintro
    intro x hx'
    by_cases hr : x ∈ r.set
    · obtain ⟨y, rfl⟩ := r.exists_idx_of_mem hr
      have := View.read_slice_write_emb (Val := Elt F) (v := m.view) r f w (Finset.mem_univ y)
      rw [show r.idx y = r.emb y from rfl, this]; exact hin y
    · have := View.read_slice_write_of_not_mem (Val := Elt F) (v := m.view) r f w Finset.univ (y := x) (by rwa [Rect.map_emb_univ])
      rw [this]; exact hout x hx' hr _ (hf x hx')
  · iexact H

omit [FloatOps F] in
/-- The elements of a slice are the elements under its rectangle. -/
theorem slice_set (m : Memref sig .tc sp s e) (r : Rect s) (hr : ∀ a, r.stride a = 1) : (m.slice r hr).view.set = m.view.setOn r.set :=
  m.view.set_slice r

end Cert.Cube

end
-- ==== Proof.Mesh.lean ====
/-
# The cube's arithmetic

Thirty-two devices form a five-dimensional cube. The matrix's columns are cut in three parts, and each part walks the
cube's dimensions in its own order: its masks name the partner of each stage, and its dual masks give each device a
virtual index in `0 … 31`. This file holds the natural-number functions of that arithmetic (virtual indices, row blocks,
chunk classes, the times of each part's events) and the facts about them, each decided over the devices.
-/
module

public import Mathlib.Data.Fintype.Basic
public import Mathlib.Data.Fintype.Pi
public import Mathlib.Data.Finset.Basic
public import Mathlib.Data.Fin.VecNotation
public import Mathlib.Tactic.IntervalCases
public import Mathlib.Tactic.FinCases

@[expose] public section

namespace Cert.Cube

/-- The width of part `k` and its first column. -/
def W (k : Fin 3) : ℕ := match k with | 0 => 768 | 1 => 640 | 2 => 640
def colOff (k : Fin 3) : ℕ := match k with | 0 => 0 | 1 => 768 | 2 => 1408

/-- The mask of part `k` at stage `j`, and its dual. -/
def msk (k : Fin 3) (j : ℕ) : ℕ := match k with
  | 0 => [1, 8, 2, 16, 4].getD j 0 | 1 => [8, 1, 16, 4, 2].getD j 0 | 2 => [3, 4, 2, 8, 16].getD j 0
def dul (k : Fin 3) (j : ℕ) : ℕ := match k with
  | 0 => [1, 8, 2, 16, 4].getD j 0 | 1 => [8, 1, 16, 4, 2].getD j 0 | 2 => [1, 4, 3, 8, 16].getD j 0

def par (x : ℕ) : ℕ := (x % 2 + x / 2 % 2 + x / 4 % 2 + x / 8 % 2 + x / 16 % 2) % 2

/-- The virtual index of device `c` in part `k`. -/
def uu (k : Fin 3) (c : ℕ) : ℕ :=
  par (c &&& dul k 0) * 16 + par (c &&& dul k 1) * 8 + par (c &&& dul k 2) * 4 + par (c &&& dul k 3) * 2 + par (c &&& dul k 4)

/-- The device (and the block of 64 rows) whose virtual index is `v`. -/
def rb (k : Fin 3) (v : ℕ) : ℕ :=
  (v / 16 % 2 * msk k 0) ^^^ (v / 8 % 2 * msk k 1) ^^^ (v / 4 % 2 * msk k 2) ^^^ (v / 2 % 2 * msk k 3) ^^^ (v % 2 * msk k 4)

/-- Bit `4 - j` of `u`, the half sent at stage `j` and the half kept, in chunks. -/
def hb (u j : ℕ) : ℕ := u / 2 ^ (4 - j) % 2
def soff (u j : ℕ) : ℕ := u / 2 ^ (5 - j) * 2 ^ (5 - j) + (1 - hb u j) * 2 ^ (4 - j)
def nb (u j : ℕ) : ℕ := u / 2 ^ (5 - j) * 2 ^ (5 - j) + hb u j * 2 ^ (4 - j)

/-- How far chunk `v` is from the device's own: the number of binary digits of `u xor v`. -/
def cls (u v : ℕ) : ℕ :=
  let x := u ^^^ v
  if x < 1 then 0 else if x < 2 then 1 else if x < 4 then 2 else if x < 8 then 3 else if x < 16 then 4 else 5

/-- The sizes (in chunks) of the ten transfers of a part: five that reduce, five that gather; where the `j`-th lands in the landing buffer. -/
def nch (s : ℕ) : ℕ := [16, 8, 4, 2, 1, 1, 2, 4, 8, 16].getD s 1
def rof (j : ℕ) : ℕ := [0, 16, 24, 28, 30].getD j 0
/-- The stage whose landing region holds chunk `i` of the landing buffer. -/
def reg (i : ℕ) : ℕ := if i < 16 then 0 else if i < 24 then 1 else if i < 28 then 2 else if i < 30 then 3 else 4
/-- The mask of the `s`-th transfer. -/
def pm (k : Fin 3) (s : ℕ) : ℕ := if s < 5 then msk k s else msk k (9 - s)
/-- The six masks in the order the kernel signals them. -/
def mks (i : ℕ) : ℕ := [1, 2, 3, 4, 8, 16].getD i 0

/-! ## Times: the events of a part in its own order -/

def tsend (s : ℕ) : ℕ := [2, 7, 12, 17, 22, 28, 32, 36, 41, 48].getD s 0
def trecv (s : ℕ) : ℕ := [5, 10, 15, 20, 25, 31, 35, 40, 47, 58].getD s 0
def tws (s : ℕ) : ℕ := [9, 14, 19, 24, 29, 33, 37, 42, 49, 59].getD s 0
/-- The time of the `i`-th chunk's copy to the result. -/
def tsc (i : ℕ) : ℕ :=
  if i < 1 then 30 else if i < 2 then 34 else if i < 4 then 36 + i else if i < 8 then 39 + i else if i < 16 then 42 + i else 44 + i
def lg (i : ℕ) : ℕ := if i < 2 then 0 else if i < 4 then 1 else if i < 8 then 2 else if i < 16 then 3 else 4
/-- The `i`-th chunk copied to the result, and where chunk `v` stands in that order. -/
def scat (u i : ℕ) : ℕ := if i = 0 then u else ((u / 2 ^ lg i * 2 ^ lg i) ^^^ 2 ^ lg i) + (i - 2 ^ lg i)
def pos (u v : ℕ) : ℕ := let j := cls u v; if j = 0 then 0 else 2 ^ (j - 1) + v % 2 ^ (j - 1)

/-! ## Who holds what at time `t` -/

/-- Chunks of class `i` of the partial sums: lent while their transfer is on its way. -/
def ownP (t i : ℕ) : Bool := !(decide (1 ≤ i) && decide (tsend (5 - i) < t) && decide (t ≤ tws (5 - i)))
def ownPv (t : ℕ) : List Bool := [ownP t 0, ownP t 1, ownP t 2, ownP t 3, ownP t 4, ownP t 5]
/-- How many additions chunks of class `i` have been through. -/
def clev (t i : ℕ) : ℕ :=
  if i = 0 then (decide (8 < t)).toNat + (decide (13 < t)).toNat + (decide (18 < t)).toNat + (decide (23 < t)).toNat + (decide (26 < t)).toNat
  else if i = 1 then (decide (8 < t)).toNat + (decide (13 < t)).toNat + (decide (18 < t)).toNat + (decide (21 < t)).toNat
  else if i = 2 then (decide (8 < t)).toNat + (decide (13 < t)).toNat + (decide (16 < t)).toNat
  else if i = 3 then (decide (8 < t)).toNat + (decide (11 < t)).toNat
  else if i = 4 then (decide (6 < t)).toNat
  else 0
def levv (t : ℕ) : ℕ × List ℕ := (if t = 3 then 2 else min t 5, [clev t 0, clev t 1, clev t 2, clev t 3, clev t 4, clev t 5])
/-- The number of additions chunk `v` has been through, once the product is written there. -/
def lev (u : ℕ) (p : ℕ × List ℕ) (v : ℕ) : Option ℕ :=
  if p.1 = 0 then none
  else if p.1 = 1 then (if soff u 0 ≤ v && v < soff u 0 + 8 then some 0 else none)
  else if p.1 ≤ 3 then (if cls u v = 5 then some 0 else none)
  else if p.1 = 4 then (if cls u v = 5 || (nb u 0 ≤ v && v < nb u 0 + 8) then some 0 else none)
  else some (p.2.getD (cls u v) 0)

def ownR (t j : ℕ) : Bool := decide (trecv j < t)
def ownRv (t : ℕ) : List Bool := [ownR t 0, ownR t 1, ownR t 2, ownR t 3, ownR t 4]

def ownG2 (t i : ℕ) : Bool := decide (i = 0) || decide (trecv (4 + i) < t)
/-- Whether chunks of class `i` are on their way in a gathering transfer whose stage has parity `p`. -/
def lent (p t i : ℕ) : Bool :=
  (List.range 5).any fun j => decide (j % 2 = p) && decide (tsend (5 + j) < t) && decide (t ≤ tws (5 + j)) && decide (i ≤ j)
def ownG (q t i : ℕ) : Bool := ownG2 t i && !(decide (q < 2) && lent q t i)
def ownGv (t q : ℕ) : List Bool := [ownG q t 0, ownG q t 1, ownG q t 2, ownG q t 3, ownG q t 4, ownG q t 5]
/-- Whether the device's own chunk is gathered already. -/
def gfull (t : ℕ) : Bool := decide (27 < t)

def outv (t : ℕ) : ℕ := ((List.range 32).filter fun i => decide (tsc i < t)).length

def sst (t s : ℕ) : ℕ := if t ≤ tsend s then 0 else if t ≤ tws s then 1 else 2
def rst (t s : ℕ) : Bool := decide (t ≤ trecv s)
def sv (t : ℕ) : List ℕ := (List.range 10).map (sst t)
def rv (t : ℕ) : List Bool := (List.range 10).map (rst t)

/-! ## Facts -/

theorem uu_lt (k : Fin 3) (c : ℕ) : uu k c < 32 := by
  have h (x) : par x < 2 := Nat.mod_lt _ (by decide)
  have := h (c &&& dul k 0); have := h (c &&& dul k 1); have := h (c &&& dul k 2); have := h (c &&& dul k 3); have := h (c &&& dul k 4)
  unfold uu; omega

theorem rb_uu : ∀ k : Fin 3, ∀ c : Fin 32, rb k (uu k c) = c.val := by decide +kernel
theorem uu_rb : ∀ k : Fin 3, ∀ v : Fin 32, uu k (rb k v) = v.val := by decide +kernel
theorem rb_lt : ∀ k : Fin 3, ∀ v : Fin 32, rb k v < 32 := by decide +kernel
theorem pm_lt : ∀ k : Fin 3, ∀ s : Fin 10, ∀ c : Fin 32, c.val ^^^ pm k s < 32 := by decide +kernel
theorem mks_lt : ∀ i : Fin 6, ∀ c : Fin 32, c.val ^^^ mks i < 32 := by decide +kernel
theorem pm_pm : ∀ k : Fin 3, ∀ s : Fin 10, ∀ c : Fin 32, (c.val ^^^ pm k s) ^^^ pm k s = c.val := by decide +kernel
theorem mks_mks : ∀ i : Fin 6, ∀ c : Fin 32, (c.val ^^^ mks i) ^^^ mks i = c.val := by decide +kernel
theorem uu_pm : ∀ k : Fin 3, ∀ s : Fin 10, ∀ c : Fin 32,
    uu k (c.val ^^^ pm k s) = uu k c ^^^ 2 ^ (if s.val < 5 then 4 - s.val else s.val - 5) := by decide +kernel
theorem cls_lt (u v : ℕ) : cls u v < 6 := by unfold cls; dsimp only; split_ifs <;> decide
theorem scat_lt : ∀ u i : Fin 32, scat u i < 32 := by decide +kernel
theorem pos_scat : ∀ u i : Fin 32, pos u (scat u i) = i.val := by decide +kernel
theorem pos_lt : ∀ u v : Fin 32, pos u v < 32 := by decide +kernel
theorem scat_pos : ∀ u v : Fin 32, scat u (pos u v) = v.val := by decide +kernel
theorem tsc_outv : ∀ i : Fin 32, outv (tsc i) = i.val ∧ outv (tsc i + 1) = i.val + 1 := by decide +kernel
theorem reg_lt (i : ℕ) : reg i < 5 := by unfold reg; split_ifs <;> decide

/-- The chunks sent at stage `j` are a class, and the chunks kept the classes below it. -/
theorem soff_cls : ∀ u v : Fin 32, ∀ j : Fin 5, (soff u j ≤ v.val && decide (v.val < soff u j + nch j)) = decide (cls u v = 5 - j) := by decide +kernel
theorem nb_cls : ∀ u v : Fin 32, ∀ j : Fin 5, (nb u j ≤ v.val && decide (v.val < nb u j + nch j)) = decide (cls u v ≤ 4 - j) := by decide +kernel
theorem gat_cls : ∀ u v : Fin 32, ∀ j : Fin 5, (u.val / 2 ^ j.val * 2 ^ j.val ≤ v.val && decide (v.val < u.val / 2 ^ j.val * 2 ^ j.val + 2 ^ j.val)) = decide (cls u v ≤ j) := by decide +kernel
/-- What the partner gathers at stage `j` lands in class `j + 1`. -/
theorem cls_partner_g : ∀ u v : Fin 32, ∀ j : Fin 5, decide (cls u v ≤ j) = decide (cls (u.val ^^^ 2 ^ j.val) v = j + 1) := by decide +kernel
/-- The half one sends at stage `j` is the half the partner keeps. -/
theorem nb_partner : ∀ u : Fin 32, ∀ j : Fin 5, nb (u.val ^^^ 2 ^ (4 - j.val)) j = soff u j := by decide +kernel
theorem reg_rof : ∀ i : Fin 31, ∀ j : Fin 5, (rof j ≤ i.val && decide (i.val < rof j + nch j)) = decide (reg i = j) := by decide +kernel
theorem soff_le : ∀ u : Fin 32, ∀ j : Fin 5, soff u j + nch j ≤ 32 ∧ nb u j + nch j ≤ 32 := by decide +kernel

end Cert.Cube
-- ==== Proof.Common.lean ====
/-
# Buffers, contents and protocol of the cube

The three parts' buffers as families over the part, what the kernel writes in them as functions of the devices' two
blocks, and the protocol: for each semaphore who signals it, who waits on it, how much, and what is handed over.

* barrier cell of `c`: six signals, one from the partner across each mask; each hands over the partner's landing regions
  of every transfer that goes across that mask;
* receive cell `(k, s)` of `c`: one landing, from the partner of stage `s` of part `k`: the landing region, with its contents;
* send cell `(k, s)` of `c`: one completion, the lent source coming back.
-/
module

public import proofs.«01_k».proof.Proof.Holds
public import proofs.«01_k».proof.Proof.Mesh

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

/-! ## Buffers -/

theorem W_pos (k : Fin 3) : 0 < W k := by revert k; decide

abbrev SP (k : Fin 3) : Shape := ⟨2, ![2048, W k]⟩
abbrev SR (k : Fin 3) : Shape := ⟨2, ![1984, W k]⟩

abbrev aM : Memref sig .tc .vmem S2048x1024 .bf16 := Memref.whole cc0_stg0_0
abbrev bM : Memref sig .tc .vmem S1024x2048 .bf16 := Memref.whole cc0_stg1_0
abbrev oM : Memref sig .tc .vmem S2048x2048 .bf16 := Memref.whole cc0_stg2_0

/-- The partial sums, the landing buffer and the gathered rows of part `k`. -/
def pM (k : Fin 3) : Memref sig .tc .vmem (SP k) .bf16 := match k with
  | 0 => Memref.whole cc0_scratch0 | 1 => Memref.whole cc0_scratch1 | 2 => Memref.whole cc0_scratch2
def rsM (k : Fin 3) : Memref sig .tc .vmem (SR k) .bf16 := match k with
  | 0 => Memref.whole cc0_scratch3 | 1 => Memref.whole cc0_scratch4 | 2 => Memref.whole cc0_scratch5
def gM (k : Fin 3) : Memref sig .tc .vmem (SP k) .bf16 := match k with
  | 0 => Memref.whole cc0_scratch6 | 1 => Memref.whole cc0_scratch7 | 2 => Memref.whole cc0_scratch8

/-- The rows of a two-dimensional array whose blocks of 64 satisfy `p`. -/
def rows {a b : ℕ} (p : ℕ → Bool) : Finset (⟨2, ![a, b]⟩ : Shape).Idx := Finset.univ.filter fun x => p ((x 0).val / 64) = true
/-- The columns of part `k` of the result. -/
def slab (k : Fin 3) : Finset S2048x2048.Idx := Finset.univ.filter fun x => colOff k ≤ (x 1).val ∧ (x 1).val < colOff k + W k

theorem mem_rows {a b : ℕ} {p : ℕ → Bool} {x : (⟨2, ![a, b]⟩ : Shape).Idx} : x ∈ rows p ↔ p ((x 0).val / 64) = true := by
  unfold rows; rw [Finset.mem_filter]; exact ⟨fun h => h.2, fun h => ⟨Finset.mem_univ _, h⟩⟩
theorem mem_slab {k : Fin 3} {x : S2048x2048.Idx} : x ∈ slab k ↔ colOff k ≤ (x 1).val ∧ (x 1).val < colOff k + W k := by
  unfold slab; rw [Finset.mem_filter]; exact ⟨fun h => h.2, fun h => ⟨Finset.mem_univ _, h⟩⟩

theorem row_lt {a b : ℕ} (x : (⟨2, ![a, b]⟩ : Shape).Idx) : (x 0).val < a := (x 0).isLt
theorem col_lt {a b : ℕ} (x : (⟨2, ![a, b]⟩ : Shape).Idx) : (x 1).val < b := (x 1).isLt

theorem rows_congr {a b n : ℕ} (ha : a = 64 * n) {p q : ℕ → Bool} (h : ∀ v, v < n → p v = q v) : (rows p : Finset (⟨2, ![a, b]⟩ : Shape).Idx) = rows q := by
  ext x; rw [mem_rows, mem_rows, h _ (by have := row_lt x; omega)]
theorem rows_or {a b : ℕ} (p q : ℕ → Bool) : (rows (fun v => p v || q v) : Finset (⟨2, ![a, b]⟩ : Shape).Idx) = rows p ∪ rows q := by
  ext x; rw [Finset.mem_union, mem_rows, mem_rows, mem_rows, Bool.or_eq_true]
theorem rows_disjoint {a b n : ℕ} (ha : a = 64 * n) {p q : ℕ → Bool} (h : ∀ v, v < n → (p v && q v) = false) :
    Disjoint (rows p : Finset (⟨2, ![a, b]⟩ : Shape).Idx) (rows q) := by
  rw [Finset.disjoint_left]
  intro x hp hq
  rw [mem_rows] at hp hq
  have := h _ (show (x 0).val / 64 < n by have := row_lt x; omega)
  rw [hp, hq] at this; exact absurd this (by decide)

/-! ## Contents -/

/-- The index `(r, w)` of an `a × b` array, each coordinate taken within its extent. -/
def ix {a b : ℕ} (ha : 0 < a) (hb : 0 < b) (r w : ℕ) : (⟨2, ![a, b]⟩ : Shape).Idx := fun i => match i with
  | 0 => ⟨r % a, Nat.mod_lt _ ha⟩ | 1 => ⟨w % b, Nat.mod_lt _ hb⟩

/-- Rows `64 o … 64 o + 63` of `a`; the columns of part `k` of `b`. -/
def aBlk (a : Vec F S2048x1024 .bf16) (o : ℕ) : Vec F S64x1024 .bf16 := fun y => a (ix (by decide) (by decide) (64 * o + (y 0).val) (y 1).val)
def bBlk (b : Vec F S1024x2048 .bf16) (k : Fin 3) : Vec F (⟨2, ![1024, W k]⟩ : Shape) .bf16 :=
  fun y => b (ix (by decide) (by decide) (y 0).val (colOff k + (y 1).val))

/-- Eight blocks of 64 rows of `a`, one under the other. -/
def cat8 (ab : ℕ → Vec F S64x1024 .bf16) : Vec F S512x1024 .bf16 :=
  concatenate S512x1024 0 [⟨S64x1024, ab 0⟩, ⟨S64x1024, ab 1⟩, ⟨S64x1024, ab 2⟩, ⟨S64x1024, ab 3⟩, ⟨S64x1024, ab 4⟩, ⟨S64x1024, ab 5⟩, ⟨S64x1024, ab 6⟩, ⟨S64x1024, ab 7⟩]
    concatenates_S64x1024_S64x1024_S64x1024_S64x1024_S64x1024_S64x1024_S64x1024_S64x1024_S512x1024_d0

def mm768 (x : Vec F S512x1024 .bf16) (b : Vec F S1024x768 .bf16) : Vec F S512x768 .bf16 :=
  truncf .bf16 (matmul (φ₁ := .bf16) (φ₂ := .bf16) dot_S512x1024_S1024x768_S512x768_1_0_0_1_n_n none x b (constant S512x768 .f32 0x00000000#32)) bitsLt_bf16_f32
def mm640 (x : Vec F S512x1024 .bf16) (b : Vec F S1024x640 .bf16) : Vec F S512x640 .bf16 :=
  truncf .bf16 (matmul (φ₁ := .bf16) (φ₂ := .bf16) dot_S512x1024_S1024x640_S512x640_1_0_0_1_n_n none x b (constant S512x640 .f32 0x00000000#32)) bitsLt_bf16_f32

/-- Eight blocks of 64 rows of `a` times the columns of part `k` of `b`, rounded to bf16. -/
def mmv (k : Fin 3) (x : Vec F S512x1024 .bf16) (b : Vec F (⟨2, ![1024, W k]⟩ : Shape) .bf16) : Vec F (⟨2, ![512, W k]⟩ : Shape) .bf16 :=
  match k, b with
  | 0, b => mm768 x b
  | 1, b => mm640 x b
  | 2, b => mm640 x b

/-- The partner of device `c` in transfer `s` of part `k`, and across the `i`-th mask. -/
def px (k : Fin 3) (s : ℕ) (c : Dev nD) : Dev nD := ⟨(c.val ^^^ pm k s) % 32, Nat.mod_lt _ (by decide)⟩
def mx (i : ℕ) (c : Dev nD) : Dev nD := ⟨(c.val ^^^ mks i) % 32, Nat.mod_lt _ (by decide)⟩
/-- The device whose virtual index in part `k` is `v`. -/
def dv (k : Fin 3) (v : ℕ) : Dev nD := ⟨rb k v % 32, Nat.mod_lt _ (by decide)⟩

theorem px_px : ∀ (k : Fin 3) (s : Fin 10) (c : Dev nD), px k s (px k s c) = c := by decide +kernel
theorem mx_mx : ∀ (i : Fin 6) (c : Dev nD), mx i (mx i c) = c := by decide +kernel
theorem uu_px : ∀ (k : Fin 3) (s : Fin 10) (c : Dev nD), uu k (px k s c) = uu k c ^^^ 2 ^ (if s.val < 5 then 4 - s.val else s.val - 5) := by decide +kernel
theorem px_ne : ∀ (k : Fin 3) (s : Fin 10) (c : Dev nD), px k s c ≠ c := by decide +kernel
theorem dv_uu : ∀ (k : Fin 3) (c : Dev nD), dv k (uu k c) = c := by decide +kernel

variable (xa : Dev nD → Vec F S2048x1024 .bf16) (xb : Dev nD → Vec F S1024x2048 .bf16)

/-- The partial sum of part `k` on device `c` after `l` additions, at row `r` (rows in virtual order) and column `w`. -/
def S (k : Fin 3) : ℕ → Dev nD → ℕ → ℕ → F .bf16
  | 0, c, r, w => mmv k (cat8 fun i => aBlk (xa c) (rb k (8 * (r / 512) + i))) (bBlk (xb c) k) (ix (by decide) (W_pos k) (r % 512) w)
  | l + 1, c, r, w => FloatOps.addf (S k l c r w) (S k l (px k l c) r w)

/-- What lands in the landing buffer of part `k` on device `c`. -/
def rsG (k : Fin 3) (c : Dev nD) (r w : ℕ) : F .bf16 :=
  S xa xb k (reg (r / 64)) (px k (reg (r / 64)) c) (64 * nb (uu k c) (reg (r / 64)) + (r - 64 * rof (reg (r / 64)))) w

/-- The gathered rows of part `k`, the same on every device. -/
def G (k : Fin 3) (r w : ℕ) : F .bf16 :=
  FloatOps.maximumf (S xa xb k 5 (dv k (r / 64)) r w) (Scalar.ofBits .bf16 0x0000#16)

/-- The result, the same on every device. -/
def outG (r w : ℕ) : F .bf16 :=
  if w < 768 then G xa xb 0 (64 * uu 0 (r / 64) + r % 64) w
  else if w < 1408 then G xa xb 1 (64 * uu 1 (r / 64) + r % 64) (w - 768)
  else G xa xb 2 (64 * uu 2 (r / 64) + r % 64) (w - 1408)

/-! ## Cells -/

abbrev barS : Sem sig := (SemArray.scalar (sig.barrier 0 rfl) : Sems sig S_).sem
def sq (k : Fin 3) (s : Fin 10) : DmaSem sig := ⟨3 + 10 * k.val + s.val, by have := k.isLt; have := s.isLt; show _ < 63; omega⟩
def rq (k : Fin 3) (s : Fin 10) : DmaSem sig := ⟨33 + 10 * k.val + s.val, by have := k.isLt; have := s.isLt; show _ < 63; omega⟩

abbrev barC (c : Dev nD) : GSem nD τ sig := ((c : Thread nD τ), .reg barS)
abbrev sendC (c : Dev nD) (k : Fin 3) (s : Fin 10) : GSem nD τ sig := ((c : Thread nD τ), .dma (sq k s))
abbrev recvC (c : Dev nD) (k : Fin 3) (s : Fin 10) : GSem nD τ sig := ((c : Thread nD τ), .dma (rq k s))

abbrev OK : Type := Bool × Fin 3 × Fin 10
abbrev osem : OK → SemLoc sig := fun x => .dma (if x.1 then rq x.2.1 x.2.2 else sq x.2.1 x.2.2)
abbrev csem : Option OK → SemLoc sig := fun | none => .reg barS | some x => osem x
abbrev kcell (x : Dev nD × Option OK) : GSem nD τ sig := ((x.1 : Thread nD τ), csem x.2)

/-- The credit of transfer `s` of part `k`. -/
def amt (k : Fin 3) (s : ℕ) : ℕ := RefSig.tileCredit (⟨2, ![64 * nch s, W k]⟩ : Shape) .bf16
theorem nch_pos : ∀ s : Fin 10, 0 < nch s := by decide
theorem amt_pos (k : Fin 3) (s : Fin 10) : 0 < amt k s := by
  refine RefSig.tileCredit_pos _ _ ?_
  unfold Shape.numel
  rw [Fin.prod_univ_two]
  exact Nat.mul_pos (Nat.mul_pos (by decide) (nch_pos s)) (W_pos k)

/-! ## Payloads -/

/-- The landing region of transfer `s` of part `k` on device `p`, at any contents. -/
def landG (p : Dev nD) (k : Fin 3) (s : Fin 10) : sProp 𝕄 :=
  if s.val < 5 then holds p (rsM k) (rows fun i => decide (reg i = s.val)) fullShare (fun _ _ => True)
  else holds p (gM k) (rows fun v => decide (cls (uu k p) v = s.val - 4)) fullShare (fun _ _ => True)
/-- The same with what lands there. -/
def landV (p : Dev nD) (k : Fin 3) (s : Fin 10) : sProp 𝕄 :=
  if s.val < 5 then holds p (rsM k) (rows fun i => decide (reg i = s.val)) fullShare (fun x v => v = rsG xa xb k p (x 0).val (x 1).val)
  else holds p (gM k) (rows fun v => decide (cls (uu k p) v = s.val - 4)) fullShare (fun x v => v = G xa xb k (x 0).val (x 1).val)

/-- Three shares of a gathered row: one for each parity of the gathering stages, one for reading. -/
def qS (j : ℕ) : PosShare TreeShare := if j = 0 then fullShare.left else if j = 1 then fullShare.right.left else fullShare.right.right

def sendP (c : Dev nD) (k : Fin 3) (s : Fin 10) : sProp 𝕄 :=
  if s.val < 5 then holds c (pM k) (rows fun v => decide (cls (uu k c) v = 5 - s.val)) fullShare (fun x v => v = S xa xb k s.val c (x 0).val (x 1).val)
  else holds c (gM k) (rows fun v => decide (cls (uu k c) v ≤ s.val - 5)) (qS ((s.val - 5) % 2)) (fun x v => v = G xa xb k (x 0).val (x 1).val)

def barP (c : Dev nD) (i : Fin 6) : sProp 𝕄 :=
  bigSep (Finset.univ.filter fun x : Fin 3 × Fin 10 => pm x.1 x.2 = mks i) fun x => landG (F := F) (mx i c) x.1 x.2

def dk (q : DmaSem sig) : Fin 3 := ⟨(q.val - 3) / 10 % 3, Nat.mod_lt _ (by decide)⟩
def ds (q : DmaSem sig) : Fin 10 := ⟨(q.val - 3) % 10, Nat.mod_lt _ (by decide)⟩
theorem dk_sq (k s) : dk (sq k s) = k := Fin.ext (by have := k.isLt; have := s.isLt; simp only [dk, sq]; omega)
theorem dk_rq (k s) : dk (rq k s) = k := Fin.ext (by have := k.isLt; have := s.isLt; simp only [dk, rq]; omega)
theorem ds_sq (k s) : ds (sq k s) = s := Fin.ext (by have := k.isLt; have := s.isLt; simp only [ds, sq]; omega)
theorem ds_rq (k s) : ds (rq k s) = s := Fin.ext (by have := k.isLt; have := s.isLt; simp only [ds, rq]; omega)
theorem sq_lt (k s) : (sq k s).val < 33 := by have := k.isLt; have := s.isLt; simp only [sq]; omega
theorem sq_ge (k s) : 3 ≤ (sq k s).val := by simp only [sq]; omega
theorem rq_ge (k s) : 33 ≤ (rq k s).val := by simp only [rq]; omega

/-! ## The schedule -/

def dutiesOf (l : SemLoc sig) : Finset (Fin 6) := match l with
  | .reg b => if b = barS then Finset.univ else ∅ | .dma q => if 3 ≤ q.val then {0} else ∅
def amountOf (l : SemLoc sig) : ℕ := match l with | .reg _ => 1 | .dma q => amt (dk q) (ds q)
def payOf (c : Dev nD) (l : SemLoc sig) (d : Fin 6) : sProp 𝕄 := match l with
  | .reg _ => barP c d
  | .dma q => if q.val < 33 then sendP xa xb c (dk q) (ds q) else landV xa xb c (dk q) (ds q)

def cubeRd : Rounds.Schedule (GSem nD τ sig) (Fin 6) 𝕄 where
  duties g r := if r = 0 ∧ g.1.2 = .tc then dutiesOf g.2 else ∅
  unitless _ := False
  amount g _ _ := amountOf g.2
  payload g _ d := payOf xa xb g.1.1 g.2 d
  amount_pos g _ _ _ := by
    unfold amountOf
    split
    · exact Nat.one_pos
    · exact amt_pos _ _

omit [FloatOps F] in
instance landG_storable (p : Dev nD) (k : Fin 3) (s : Fin 10) : BI.Storable (upEmb : UEmb _ 𝕄) (landG (F := F) p k s) := by
  unfold landG; split <;> infer_instance
instance landV_storable (p : Dev nD) (k : Fin 3) (s : Fin 10) : BI.Storable (upEmb : UEmb _ 𝕄) (landV xa xb p k s) := by
  unfold landV; split <;> infer_instance
instance sendP_storable (p : Dev nD) (k : Fin 3) (s : Fin 10) : BI.Storable (upEmb : UEmb _ 𝕄) (sendP xa xb p k s) := by
  unfold sendP; split <;> infer_instance
omit [FloatOps F] in
instance barP_storable (c : Dev nD) (i : Fin 6) : BI.Storable (upEmb : UEmb _ 𝕄) (barP (F := F) c i) := by
  unfold barP; infer_instance
instance cubeRd_storable (g : GSem nD τ sig) (r : ℕ) (d : Fin 6) : BI.Storable (upEmb : UEmb _ 𝕄) ((cubeRd xa xb).payload g r d) := by
  show BI.Storable upEmb (payOf xa xb g.1.1 g.2 d)
  unfold payOf
  (repeat' split) <;> infer_instance

section Sched
variable (c : Dev nD) (k : Fin 3) (s : Fin 10)

theorem duties_bar : (cubeRd xa xb).duties (barC c) 0 = Finset.univ := by dsimp only [cubeRd]; rw [if_pos ⟨rfl, rfl⟩]; simp only [dutiesOf, if_true]
theorem duties_send : (cubeRd xa xb).duties (sendC c k s) 0 = {0} := by dsimp only [cubeRd]; rw [if_pos ⟨rfl, rfl⟩]; exact if_pos (sq_ge k s)
theorem duties_recv : (cubeRd xa xb).duties (recvC c k s) 0 = {0} := by
  dsimp only [cubeRd]; rw [if_pos ⟨rfl, rfl⟩]; exact if_pos (le_trans (by decide) (rq_ge k s))
theorem duties_later (g : GSem nD τ sig) : ∀ r, 1 ≤ r → (cubeRd xa xb).duties g r = ∅ :=
  fun r hr => by dsimp only [cubeRd]; exact if_neg fun h => by omega

theorem amount_bar (u : Fin 6) : (cubeRd xa xb).amount (barC c) 0 u = 1 := rfl
theorem amount_send (u : Fin 6) : (cubeRd xa xb).amount (sendC c k s) 0 u = amt k s := by
  show amt (dk (sq k s)) (ds (sq k s)) = _; rw [dk_sq, ds_sq]
theorem amount_recv (u : Fin 6) : (cubeRd xa xb).amount (recvC c k s) 0 u = amt k s := by
  show amt (dk (rq k s)) (ds (rq k s)) = _; rw [dk_rq, ds_rq]

theorem expect_bar : (cubeRd xa xb).expect (barC c) 0 = 6 := by
  unfold Schedule.expect Schedule.amountOf; rw [duties_bar]; rfl
theorem expect_send : (cubeRd xa xb).expect (sendC c k s) 0 = amt k s := by
  unfold Schedule.expect Schedule.amountOf; rw [duties_send, Finset.sum_singleton, amount_send]
theorem expect_recv : (cubeRd xa xb).expect (recvC c k s) 0 = amt k s := by
  unfold Schedule.expect Schedule.amountOf; rw [duties_recv, Finset.sum_singleton, amount_recv]

theorem payload_bar (u : Fin 6) : (cubeRd xa xb).payload (barC c) 0 u = barP c u := rfl
theorem payload_send (u : Fin 6) : (cubeRd xa xb).payload (sendC c k s) 0 u = sendP xa xb c k s := by
  show (if (sq k s).val < 33 then sendP xa xb c (dk (sq k s)) (ds (sq k s)) else _) = _
  rw [if_pos (sq_lt k s), dk_sq, ds_sq]
theorem payload_recv (u : Fin 6) : (cubeRd xa xb).payload (recvC c k s) 0 u = landV xa xb c k s := by
  show (if (rq k s).val < 33 then _ else landV xa xb c (dk (rq k s)) (ds (rq k s))) = _
  rw [if_neg (Nat.not_lt.mpr (rq_ge k s)), dk_rq, ds_rq]

theorem rest_bar : bigSep ((cubeRd xa xb).duties (barC c) 0 \ ∅) (fun u => (cubeRd xa xb).payload (barC c) 0 u) = bigSep Finset.univ fun i => barP (F := F) c i := by
  rw [Finset.sdiff_empty, duties_bar]; rfl
theorem rest_send : bigSep ((cubeRd xa xb).duties (sendC c k s) 0 \ ∅) (fun u => (cubeRd xa xb).payload (sendC c k s) 0 u) = sendP xa xb c k s := by
  rw [Finset.sdiff_empty, duties_send, bigSep_singleton, payload_send]
theorem rest_recv : bigSep ((cubeRd xa xb).duties (recvC c k s) 0 \ ∅) (fun u => (cubeRd xa xb).payload (recvC c k s) 0 u) = landV xa xb c k s := by
  rw [Finset.sdiff_empty, duties_recv, bigSep_singleton, payload_recv]

end Sched

/-! ## Levels and what is owed -/

def L (g : GSem nD τ sig) : Finset Unit := if g.1.2 = .tc then {()} else ∅
def lvl (l : SemLoc sig) : ℕ := match l with | .reg _ => 1 | .dma q => if q.val < 33 then 0 else 2 + (ds q).val
def lv (g : GSem nD τ sig) (_ : Unit) : ℕ := lvl g.2
theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 3) (s : Fin 10) (u : Unit) : lv (recvC c k s) u = 2 + s.val := by
  show (if (rq k s).val < 33 then 0 else 2 + (ds (rq k s)).val) = _
  rw [if_neg (Nat.not_lt.mpr (rq_ge k s)), ds_rq]
theorem lv_send (c : Dev nD) (k : Fin 3) (s : Fin 10) (u : Unit) : lv (sendC c k s) u = 0 := if_pos (sq_lt k s)

/-- What is still owed for the transfers: `T k` is the number of events of part `k` that are over. -/
def owe (c : Dev nD) (T : Fin 3 → ℕ) : CellTallies nD τ sig Unit :=
  ∑ k : Fin 3, ∑ s : Fin 10, if T k ≤ tsend s then tallyAt (recvC (px k s c) k s) () (amt k s) else 0
/-- What is still owed to the barrier cells from the `n`-th signal on. -/
def oweB (c : Dev nD) (n : ℕ) : CellTallies nD τ sig Unit := ∑ i : Fin 6, if n ≤ i.val then tallyAt (barC (mx i c)) () 1 else 0

def O₀ (c : Dev nD) : CellTallies nD τ sig Unit := owe c (fun _ => 0) + oweB c 0

end Cert.Cube

end
-- ==== Proof.St.lean ====
/-
# The state of a device

Each of the three parts goes through seventy-six events in a fixed order. `St c T` is what device `c` holds when part
`k` is past `T k` of its events: the two input blocks, the three buffers of each part (less what is lent or has not
landed), the result, and the tokens of the transfers. The rules below run one load or store from such a state.
-/
module

public import proofs.«01_k».proof.Proof.Common

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable (xa : Dev nD → Vec F S2048x1024 .bf16) (xb : Dev nD → Vec F S1024x2048 .bf16) (K : Dev nD × Option OK → ℕ)

/-- Every cell's invariant and the fact that its round is open. -/
def recs : sProp 𝕄 :=
  iprop((bigSep Finset.univ fun x : Dev nD × Option OK => cellInv ER (cubeRd xa xb) (K x) (kcell x)) ∗ bigSep Finset.univ fun x : Dev nD × Option OK => reached ER (kcell x) 0)

instance recs_persistent : BI.Persistent (recs xa xb K) := by unfold recs; infer_instance

theorem recs_send (c : Dev nD) (k : Fin 3) (s : Fin 10) :
    (recs xa xb K) ⊢ iprop(cellInv ER (cubeRd xa xb) (K (c, some (false, k, s))) (sendC c k s) ∗ reached ER (sendC c k s) 0) := by
  unfold recs
  exact BIClass.sep_mono (bigSep_elim (Φ := fun x => cellInv ER (cubeRd xa xb) (K x) (kcell x)) (Finset.mem_univ (c, some (false, k, s))))
    (bigSep_elim (Φ := fun x => reached ER (kcell x) 0) (Finset.mem_univ (c, some (false, k, s))))
theorem recs_recv (c : Dev nD) (k : Fin 3) (s : Fin 10) :
    (recs xa xb K) ⊢ iprop(cellInv ER (cubeRd xa xb) (K (c, some (true, k, s))) (recvC c k s) ∗ reached ER (recvC c k s) 0) := by
  unfold recs
  exact BIClass.sep_mono (bigSep_elim (Φ := fun x => cellInv ER (cubeRd xa xb) (K x) (kcell x)) (Finset.mem_univ (c, some (true, k, s))))
    (bigSep_elim (Φ := fun x => reached ER (kcell x) 0) (Finset.mem_univ (c, some (true, k, s))))
theorem recs_bar (c : Dev nD) :
    (recs xa xb K) ⊢ iprop(cellInv ER (cubeRd xa xb) (K (c, none)) (barC c) ∗ reached ER (barC c) 0) := by
  unfold recs
  exact BIClass.sep_mono (bigSep_elim (Φ := fun x => cellInv ER (cubeRd xa xb) (K x) (kcell x)) (Finset.mem_univ (c, none)))
    (bigSep_elim (Φ := fun x => reached ER (kcell x) 0) (Finset.mem_univ (c, none)))

/-! ## The pieces -/

def relP (k : Fin 3) (c : Dev nD) (p : ℕ × List ℕ) (x : (SP k).Idx) (v : F .bf16) : Prop :=
  ∀ l, lev (uu k c) p ((x 0).val / 64) = some l → v = S xa xb k l c (x 0).val (x 1).val
def pP (k : Fin 3) (c : Dev nD) (ow : List Bool) (p : ℕ × List ℕ) : sProp 𝕄 :=
  holds c (pM k) (rows fun v => ow.getD (cls (uu k c) v) false) fullShare (relP xa xb k c p)
def rP (k : Fin 3) (c : Dev nD) (ow : List Bool) : sProp 𝕄 :=
  holds c (rsM k) (rows fun i => ow.getD (reg i) false) fullShare (fun x v => v = rsG xa xb k c (x 0).val (x 1).val)
def relG (k : Fin 3) (full : Bool) (x : (SP k).Idx) (v : F .bf16) : Prop := full = true → v = G xa xb k (x 0).val (x 1).val
def gP (k : Fin 3) (c : Dev nD) (q : ℕ) (ow : List Bool) (full : Bool) : sProp 𝕄 :=
  holds c (gM k) (rows fun v => ow.getD (cls (uu k c) v) false) (qS q) (relG xa xb k full)
def relO (k : Fin 3) (c : Dev nD) (n : ℕ) (x : S2048x2048.Idx) (v : F .bf16) : Prop :=
  pos (uu k c) (uu k ((x 0).val / 64)) < n → v = outG xa xb (x 0).val (x 1).val
def oP (k : Fin 3) (c : Dev nD) (n : ℕ) : sProp 𝕄 := holds c oM (slab k) fullShare (relO xa xb k c n)

/-- The tokens of transfer `s`: not yet started (0), on its way (1), over (2). -/
def sTok (k : Fin 3) (c : Dev nD) (s : Fin 10) (n : ℕ) : sProp 𝕄 :=
  if n = 0 then iprop(dutyTok ER (sendC c k s) 0 0 ∗ dutyTok ER (recvC (px k s c) k s) 0 0 ∗ atPos ER (sendC c k s) 0 ∅ 0 ∗ landG (px k s c) k s)
  else if n = 1 then iprop(cred (tallyAt (sendC c k s) () (amt k s)) ∗ atPos ER (sendC c k s) 0 ∅ 0)
  else semVal (sendC c k s) 0
/-- The tokens of the landing of transfer `s`: awaited or over. -/
def rTok (k : Fin 3) (c : Dev nD) (s : Fin 10) (b : Bool) : sProp 𝕄 :=
  if b = true then iprop(cred (tallyAt (recvC c k s) () (amt k s)) ∗ atPos ER (recvC c k s) 0 ∅ 0) else semVal (recvC c k s) 0

def sToks (k : Fin 3) (c : Dev nD) (l : List ℕ) : sProp 𝕄 := bigSep Finset.univ fun s : Fin 10 => sTok k c s (l.getD s 0)
def rToks (k : Fin 3) (c : Dev nD) (l : List Bool) : sProp 𝕄 := bigSep Finset.univ fun s : Fin 10 => rTok k c s (l.getD s false)

def PSt (k : Fin 3) (c : Dev nD) (t : ℕ) : sProp 𝕄 :=
  iprop(pP xa xb k c (ownPv t) (levv t) ∗ rP xa xb k c (ownRv t)
    ∗ (gP xa xb k c 0 (ownGv t 0) (gfull t) ∗ gP xa xb k c 1 (ownGv t 1) (gfull t) ∗ gP xa xb k c 2 (ownGv t 2) (gfull t))
    ∗ oP xa xb k c (outv t) ∗ sToks k c (sv t) ∗ rToks k c (rv t))

def aP (c : Dev nD) : sProp 𝕄 := holds c aM Finset.univ fullShare (fun x v => v = xa c x)
def bP (c : Dev nD) : sProp 𝕄 := holds c bM Finset.univ fullShare (fun x v => v = xb c x)

def Cm (c : Dev nD) (T : Fin 3 → ℕ) : sProp 𝕄 :=
  iprop((levAts L lv ∗ recs xa xb K) ∗ aP xa c ∗ bP xb c ∗ ∃ W : Waits sig Unit, owes (c : Thread nD τ) (owe c T) W)
def St (c : Dev nD) (T : Fin 3 → ℕ) : sProp 𝕄 := iprop(Cm xa xb K c T ∗ bigSep Finset.univ fun k : Fin 3 => PSt xa xb k c (T k))

variable {xa xb K}
variable {c : Dev nD} {T T' : Fin 3 → ℕ} {k : Fin 3} {t : ℕ}

theorem owe_same (hT : T k = t) (hT' : ∀ i, T' i = if i = k then t + 1 else T i) (ht : ∀ s : Fin 10, t ≠ tsend s) : owe c T' = owe c T := by
  unfold owe
  refine Finset.sum_congr rfl fun i _ => Finset.sum_congr rfl fun s _ => ?_
  by_cases hi : i = k
  · subst hi
    rw [hT' i, if_pos rfl, hT]
    have := ht s
    by_cases h : t ≤ tsend s
    · rw [if_pos h, if_pos (by omega)]
    · rw [if_neg h, if_neg (by omega)]
  · rw [hT' i, if_neg hi]

theorem Cm_same (hT : T k = t) (hT' : ∀ i, T' i = if i = k then t + 1 else T i) (ht : ∀ s : Fin 10, t ≠ tsend s) : Cm xa xb K c T = Cm xa xb K c T' := by
  unfold Cm; rw [owe_same hT hT' ht]

/-- Part `k` apart, the others staying. -/
theorem St_split (k : Fin 3) (T : Fin 3 → ℕ) : St xa xb K c T = iprop(Cm xa xb K c T ∗ PSt xa xb k c (T k) ∗ bigSep (Finset.univ.erase k) fun i : Fin 3 => PSt xa xb i c (T i)) := by
  unfold St; rw [bigSep_univ_at _ k]

theorem rest_same (hT' : ∀ i, T' i = if i = k then t + 1 else T i) :
    (bigSep (Finset.univ.erase k) fun i : Fin 3 => PSt xa xb i c (T' i)) = bigSep (Finset.univ.erase k) fun i : Fin 3 => PSt xa xb i c (T i) :=
  bigSep_congr fun i hi => by rw [hT' i, if_neg (Finset.ne_of_mem_erase hi)]

/-- One event of part `k` that starts no transfer. -/
theorem St_event (hT : T k = t) (hT' : ∀ i, T' i = if i = k then t + 1 else T i) (ht : ∀ s : Fin 10, t ≠ tsend s) :
    St xa xb K c T ⊢ iprop(PSt xa xb k c t ∗ (PSt xa xb k c (t + 1) -∗ St xa xb K c T')) := by
  rw [St_split k T, St_split k T', Cm_same hT hT' ht, rest_same hT', hT, show T' k = t + 1 by rw [hT' k, if_pos rfl]]
  iintro ⟨HC, HP, HR⟩
  isplitl [HP]; · iexact HP
  iintro HP
  isplitl [HC]; · iexact HC
  isplitl [HP] <;> iassumption

theorem St_at (k : Fin 3) : St xa xb K c T ⊢ iprop(PSt xa xb k c (T k) ∗ (PSt xa xb k c (T k) -∗ St xa xb K c T)) := by
  rw [St_split k T]
  iintro ⟨HC, HP, HR⟩
  isplitl [HP]; · iexact HP
  iintro HP
  isplitl [HC]; · iexact HC
  isplitl [HP] <;> iassumption

/-! ## Loads -/

section Ops

variable {α : Type} {sp : Space} {s : Shape} {e : EltTy}

theorem load_at {Q : α → sProp 𝕄} {cs : CoreSpace} {m : Memref sig .tc cs s e} {r : LoadRect s} {hl : m.view.LoadsAt r}
    {kk : (r.shape.Idx → Elt F e) → Prog (TpuEff nD τ sig (Elt F) Λ₀ .tc) α} {T' : Finset s.Idx} {q : PosShare TreeShare} {R : s.Idx → Elt F e → Prop} {P : sProp 𝕄}
    (hacc : P ⊢ iprop(holds c m T' q R ∗ (holds c m T' q R -∗ P)))
    (hT : ∀ y, r.idx y ∈ T') (h : ∀ v, (∀ y, R (r.idx y) (v y)) → (P ⊢ wpc c (kk v) Q)) :
    P ⊢ wpc c (Prog.lift (.load m r hl) >>= kk) Q := by
  refine hacc.trans ?_
  iintro ⟨H, Hb⟩
  iapply (holds_load hT) $$ H
  iintro %v %hv H
  iapply (h v hv)
  iapply Hb
  iexact H

theorem store_at {Q : α → sProp 𝕄} {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {kk : PUnit → Prog (TpuEff nD τ sig (Elt F) Λ₀ .tc) α} {T' : Finset s.Idx} {R R' : s.Idx → Elt F e → Prop} {P P' : sProp 𝕄}
    (hacc : P ⊢ iprop(holds c m T' fullShare R ∗ (holds c m T' fullShare R' -∗ P')))
    (hT : ∀ y, r.idx y ∈ T') (hin : ∀ y, R' (r.idx y) (w y)) (hout : ∀ x ∈ T', x ∉ r.set → ∀ v, R x v → R' x v)
    (h : P' ⊢ wpc c (kk ⟨⟩) Q) :
    P ⊢ wpc c (Prog.lift (.store m r w Finset.univ hx hm) >>= kk) Q := by
  refine hacc.trans ?_
  iintro ⟨H, Hb⟩
  iapply (holds_store hT hin hout) $$ H
  iintro H
  iapply h
  iapply Hb
  iexact H

end Ops

/-! ## Where a box lies -/

section Box

variable {a b n w : ℕ} {off : Fin 2 → ℕ} {o q : ℕ}

theorem box_row (hoff : off = ![64 * o, q]) (inb : ∀ i : Fin 2, off i + (![64 * n, w] : Fin 2 → ℕ) i ≤ (![a, b] : Fin 2 → ℕ) i)
    (y : (Rect.unit (s := ⟨2, ![a, b]⟩) off ![64 * n, w] inb).shape.Idx) :
    ((Rect.unit (s := ⟨2, ![a, b]⟩) off ![64 * n, w] inb).idx y 0).val = 64 * o + (y 0).val ∧ (y 0).val < 64 * n
      ∧ ((Rect.unit (s := ⟨2, ![a, b]⟩) off ![64 * n, w] inb).idx y 1).val = q + (y 1).val ∧ (y 1).val < w
      ∧ o ≤ ((Rect.unit (s := ⟨2, ![a, b]⟩) off ![64 * n, w] inb).idx y 0).val / 64 ∧ ((Rect.unit (s := ⟨2, ![a, b]⟩) off ![64 * n, w] inb).idx y 0).val / 64 < o + n := by
  subst hoff
  have h0 : ((Rect.unit (s := ⟨2, ![a, b]⟩) ![64 * o, q] ![64 * n, w] inb).idx y 0).val = 64 * o + 1 * (y 0).val := rfl
  have h1 : ((Rect.unit (s := ⟨2, ![a, b]⟩) ![64 * o, q] ![64 * n, w] inb).idx y 1).val = q + 1 * (y 1).val := rfl
  have l0 : (y 0).val < 64 * n := (y 0).isLt
  have l1 : (y 1).val < w := (y 1).isLt
  rw [h0, h1, one_mul, one_mul]
  refine ⟨rfl, l0, rfl, l1, ?_, ?_⟩ <;> omega

theorem box_le (hoff : off = ![64 * o, q]) (inb : ∀ i : Fin 2, off i + (![64 * n, w] : Fin 2 → ℕ) i ≤ (![a, b] : Fin 2 → ℕ) i) : 64 * o + 64 * n ≤ a ∧ q + w ≤ b := by
  subst hoff; exact ⟨inb 0, inb 1⟩

theorem mem_box (hoff : off = ![64 * o, q]) (inb : ∀ i : Fin 2, off i + (![64 * n, w] : Fin 2 → ℕ) i ≤ (![a, b] : Fin 2 → ℕ) i)
    (x : (⟨2, ![a, b]⟩ : Shape).Idx) : x ∈ (Rect.unit (s := ⟨2, ![a, b]⟩) off ![64 * n, w] inb).set
      ↔ (o ≤ (x 0).val / 64 ∧ (x 0).val / 64 < o + n) ∧ q ≤ (x 1).val ∧ (x 1).val < q + w := by
  subst hoff
  rw [Rect.mem_set_unit]
  constructor
  · intro h
    have h0 := h 0; have h1 := h 1
    have h0' : 64 * o ≤ (x 0).val ∧ (x 0).val < 64 * o + 64 * n := h0
    have h1' : q ≤ (x 1).val ∧ (x 1).val < q + w := h1
    refine ⟨⟨?_, ?_⟩, h1'⟩ <;> omega
  · rintro ⟨⟨h1, h2⟩, h3⟩ i
    match i with
    | 0 => show 64 * o ≤ (x 0).val ∧ (x 0).val < 64 * o + 64 * n; omega
    | 1 => exact h3

end Box

end Cert.Cube

end
-- ==== Proof.Steps.lean ====
/-
# The loads and stores of the kernel

One rule for each kind of load and store of the body, each taking the box's offset as a variable with its closed form as a
hypothesis, so that one rule serves all three parts and all devices. Which rows are held, and how far along they are, is a
decidable condition on the device's virtual index, checked once for each event.
-/
module

public import proofs.«01_k».proof.Proof.St

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {T T' : Fin 3 → ℕ} {t : ℕ}

/-! ## Conditions -/

/-- Event `t` leaves everything but the partial sums as it is. -/
def restP (t : ℕ) : Bool :=
  decide (∀ s : Fin 10, t ≠ tsend s) && (ownPv t == ownPv (t + 1)) && (ownRv t == ownRv (t + 1)) && (ownGv t 0 == ownGv (t + 1) 0)
    && (ownGv t 1 == ownGv (t + 1) 1) && (ownGv t 2 == ownGv (t + 1) 2) && (gfull t == gfull (t + 1)) && (outv t == outv (t + 1))
    && (sv t == sv (t + 1)) && (rv t == rv (t + 1))

/-- Chunks `o u … o u + n - 1` are held at time `t`, at level `l` after the event, and the others stay. -/
def chkP (o : ℕ → ℕ) (n l t : ℕ) : Prop :=
  restP t = true ∧ ∀ u v : Fin 32, (o u ≤ v.val ∧ v.val < o u + n → (ownPv t).getD (cls u v) false = true ∧ lev u (levv (t + 1)) v = some l)
    ∧ (¬(o u ≤ v.val ∧ v.val < o u + n) → lev u (levv (t + 1)) v = lev u (levv t) v ∨ lev u (levv (t + 1)) v = none)
/-- Chunks `o u … o u + n - 1` are held at time `t` (at level `l`). -/
def chkD (o : ℕ → ℕ) (n t : ℕ) : Prop := ∀ u v : Fin 32, o u ≤ v.val ∧ v.val < o u + n → (ownPv t).getD (cls u v) false = true
def chkL (o : ℕ → ℕ) (n l t : ℕ) : Prop :=
  ∀ u v : Fin 32, o u ≤ v.val ∧ v.val < o u + n → (ownPv t).getD (cls u v) false = true ∧ lev u (levv t) v = some l
/-- Chunks `oR u …` of the landing buffer lie in the region of stage `j`, where the sums of chunks `o u …` land. -/
def chkR (o oR : ℕ → ℕ) (n : ℕ) (j : Fin 5) (t : ℕ) : Prop :=
  (ownRv t).getD j.val false = true ∧ ∀ u : Fin 32, nb u j ≤ o u ∧ oR u = rof j + (o u - nb u j) ∧ o u + n ≤ nb u j + nch j

instance (o n l t) : Decidable (chkP o n l t) := by unfold chkP; infer_instance
instance (o n t) : Decidable (chkD o n t) := by unfold chkD; infer_instance
instance (o n l t) : Decidable (chkL o n l t) := by unfold chkL; infer_instance
instance (o oR n j t) : Decidable (chkR o oR n j t) := by unfold chkR; infer_instance

theorem restP_spec (h : restP t = true) : (∀ s : Fin 10, t ≠ tsend s) ∧ ownPv t = ownPv (t + 1) ∧ ownRv t = ownRv (t + 1) ∧ ownGv t 0 = ownGv (t + 1) 0
    ∧ ownGv t 1 = ownGv (t + 1) 1 ∧ ownGv t 2 = ownGv (t + 1) 2 ∧ gfull t = gfull (t + 1) ∧ outv t = outv (t + 1) ∧ sv t = sv (t + 1) ∧ rv t = rv (t + 1) := by
  unfold restP at h
  simp only [Bool.and_eq_true, decide_eq_true_eq, beq_iff_eq] at h
  obtain ⟨⟨⟨⟨⟨⟨⟨⟨⟨h1, h2⟩, h3⟩, h4⟩, h5⟩, h6⟩, h7⟩, h8⟩, h9⟩, h10⟩ := h
  exact ⟨h1, h2, h3, h4, h5, h6, h7, h8, h9, h10⟩

/-! ## Accessors -/

theorem acc_a : St xa xb K c T ⊢ iprop(aP xa c ∗ (aP xa c -∗ St xa xb K c T)) := by
  unfold St Cm
  iintro ⟨⟨HL, Ha, HR⟩, HP⟩
  isplitl [Ha]; · iexact Ha
  iintro Ha
  isplitr [HP]
  · isplitl [HL]; · iexact HL
    isplitl [Ha] <;> iassumption
  iexact HP
theorem acc_b : St xa xb K c T ⊢ iprop(bP xb c ∗ (bP xb c -∗ St xa xb K c T)) := by
  unfold St Cm
  iintro ⟨⟨HL, Ha, Hb, HR⟩, HP⟩
  isplitl [Hb]; · iexact Hb
  iintro Hb
  isplitr [HP]
  · isplitl [HL]; · iexact HL
    isplitl [Ha]; · iexact Ha
    isplitl [Hb] <;> iassumption
  iexact HP

variable (k : Fin 3)

theorem acc_p : St xa xb K c T ⊢ iprop(pP xa xb k c (ownPv (T k)) (levv (T k)) ∗ (pP xa xb k c (ownPv (T k)) (levv (T k)) -∗ St xa xb K c T)) := by
  refine (St_at k).trans ?_
  unfold PSt
  iintro ⟨⟨Hp, HR⟩, HP⟩
  isplitl [Hp]; · iexact Hp
  iintro Hp
  iapply HP
  isplitl [Hp] <;> iassumption
theorem acc_r : St xa xb K c T ⊢ iprop(rP xa xb k c (ownRv (T k)) ∗ (rP xa xb k c (ownRv (T k)) -∗ St xa xb K c T)) := by
  refine (St_at k).trans ?_
  unfold PSt
  iintro ⟨⟨Hp, Hr, HR⟩, HP⟩
  isplitl [Hr]; · iexact Hr
  iintro Hr
  iapply HP
  isplitl [Hp]; · iexact Hp
  isplitl [Hr] <;> iassumption
theorem acc_g : St xa xb K c T ⊢ iprop(gP xa xb k c 2 (ownGv (T k) 2) (gfull (T k)) ∗ (gP xa xb k c 2 (ownGv (T k) 2) (gfull (T k)) -∗ St xa xb K c T)) := by
  refine (St_at k).trans ?_
  unfold PSt
  iintro ⟨⟨Hp, Hr, ⟨Hg0, Hg1, Hg⟩, HR⟩, HP⟩
  isplitl [Hg]; · iexact Hg
  iintro Hg
  iapply HP
  isplitl [Hp]; · iexact Hp
  isplitl [Hr]; · iexact Hr
  isplitr [HR]
  · isplitl [Hg0]; · iexact Hg0
    isplitl [Hg1] <;> iassumption
  iexact HR
theorem acc_o : St xa xb K c T ⊢ iprop(oP xa xb k c (outv (T k)) ∗ (oP xa xb k c (outv (T k)) -∗ St xa xb K c T)) := by
  refine (St_at k).trans ?_
  unfold PSt
  iintro ⟨⟨Hp, Hr, Hg, Ho, HR⟩, HP⟩
  isplitl [Ho]; · iexact Ho
  iintro Ho
  iapply HP
  isplitl [Hp]; · iexact Hp
  isplitl [Hr]; · iexact Hr
  isplitl [Hg]; · iexact Hg
  isplitl [Ho] <;> iassumption

/-! ## The loads -/

variable {α : Type}

/-- The index `uu k c` as a device-sized number. -/
def uF (k : Fin 3) (c : Dev nD) : Fin 32 := ⟨uu k c, uu_lt k c⟩

omit [FloatOps F] in
theorem chunk_lt {a b : ℕ} (n : ℕ) (ha : a = 64 * n) (x : (⟨2, ![a, b]⟩ : Shape).Idx) : (x 0).val / 64 < n := by
  have := row_lt x; omega

theorem step_loadA {Q : α → sProp 𝕄} {off : Fin 2 → ℕ} {o : ℕ} (hoff : off = ![64 * o, 0]) {inb : ∀ i : Fin 2, off i + (![64, 1024] : Fin 2 → ℕ) i ≤ (![2048, 1024] : Fin 2 → ℕ) i}
    {hl : aM.view.LoadsAt (Rect.unit (s := ⟨2, ![2048, 1024]⟩) off ![64, 1024] inb).toLoadRect}
    {kk : Vec F S64x1024 .bf16 → Prog (TpuEff nD τ sig (Elt F) Λ₀ .tc) α}
    (h : ∀ v, v = aBlk (xa c) o → (St xa xb K c T ⊢ wpc c (kk v) Q)) :
    St xa xb K c T ⊢ wpc c (Prog.lift (.load aM (Rect.unit (s := ⟨2, ![2048, 1024]⟩) off ![64, 1024] inb).toLoadRect hl) >>= kk) Q := by
  refine load_at (acc_a (T := T)) (fun y => Finset.mem_univ _) fun v hv => h v (funext fun y => ?_)
  rw [hv y]
  unfold aBlk
  obtain ⟨h0, l0, h1, l1, -, -⟩ := box_row (n := 1) hoff inb y
  have hle := (box_le (n := 1) hoff inb).1
  refine congrArg (xa c) (funext fun i => Fin.ext ?_)
  match i with
  | 0 => exact h0.trans (Nat.mod_eq_of_lt (by omega)).symm
  | 1 => exact (h1.trans (Nat.zero_add _)).trans (Nat.mod_eq_of_lt l1).symm

theorem step_loadB {Q : α → sProp 𝕄} {off : Fin 2 → ℕ} (hoff : off = ![0, colOff k]) {inb : ∀ i : Fin 2, off i + (![1024, W k] : Fin 2 → ℕ) i ≤ (![1024, 2048] : Fin 2 → ℕ) i}
    {hl : bM.view.LoadsAt (Rect.unit (s := ⟨2, ![1024, 2048]⟩) off ![1024, W k] inb).toLoadRect}
    {kk : Vec F (⟨2, ![1024, W k]⟩ : Shape) .bf16 → Prog (TpuEff nD τ sig (Elt F) Λ₀ .tc) α}
    (h : ∀ v, v = bBlk (xb c) k → (St xa xb K c T ⊢ wpc c (kk v) Q)) :
    St xa xb K c T ⊢ wpc c (Prog.lift (.load bM (Rect.unit (s := ⟨2, ![1024, 2048]⟩) off ![1024, W k] inb).toLoadRect hl) >>= kk) Q := by
  refine load_at (acc_b (T := T)) (fun y => Finset.mem_univ _) fun v hv => h v (funext fun y => ?_)
  rw [hv y]
  unfold bBlk
  obtain ⟨h0, l0, h1, l1, -, -⟩ := box_row (n := 16) (o := 0) hoff inb y
  have hle := (box_le (n := 16) (o := 0) hoff inb).2
  refine congrArg (xb c) (funext fun i => Fin.ext ?_)
  match i with
  | 0 => exact (h0.trans (Nat.zero_add _)).trans (Nat.mod_eq_of_lt (by omega)).symm
  | 1 => exact h1.trans (Nat.mod_eq_of_lt (by omega)).symm

section PBox

variable {off : Fin 2 → ℕ} {o oR : ℕ → ℕ} {n l : ℕ}

/-- A load of rows of the partial sums whose value is not used. -/
theorem step_deadP {Q : α → sProp 𝕄} (hT : T k = t) (hoff : off = ![64 * o (uu k c), 0]) (hc : chkD o n t)
    {inb : ∀ i : Fin 2, off i + (![64 * n, W k] : Fin 2 → ℕ) i ≤ (![2048, W k] : Fin 2 → ℕ) i}
    {hl : (pM k).view.LoadsAt (Rect.unit (s := ⟨2, ![2048, W k]⟩) off ![64 * n, W k] inb).toLoadRect}
    {kk : Vec F (⟨2, ![64 * n, W k]⟩ : Shape) .bf16 → Prog (TpuEff nD τ sig (Elt F) Λ₀ .tc) α}
    (h : ∀ v, St xa xb K c T ⊢ wpc c (kk v) Q) :
    St xa xb K c T ⊢ wpc c (Prog.lift (.load (pM k) (Rect.unit (s := ⟨2, ![2048, W k]⟩) off ![64 * n, W k] inb).toLoadRect hl) >>= kk) Q := by
  subst hT
  refine load_at (acc_p k) (fun y => mem_rows.mpr ?_) fun v _ => h v
  obtain ⟨-, -, -, -, h2, h3⟩ := box_row hoff inb y
  exact hc (uF k c) ⟨_, chunk_lt 32 rfl _⟩ ⟨h2, h3⟩

/-- A load of rows of the partial sums at level `l`. -/
theorem step_loadP {Q : α → sProp 𝕄} (hT : T k = t) (hoff : off = ![64 * o (uu k c), 0]) (hc : chkL o n l t)
    {inb : ∀ i : Fin 2, off i + (![64 * n, W k] : Fin 2 → ℕ) i ≤ (![2048, W k] : Fin 2 → ℕ) i}
    {hl : (pM k).view.LoadsAt (Rect.unit (s := ⟨2, ![2048, W k]⟩) off ![64 * n, W k] inb).toLoadRect}
    {kk : Vec F (⟨2, ![64 * n, W k]⟩ : Shape) .bf16 → Prog (TpuEff nD τ sig (Elt F) Λ₀ .tc) α}
    (h : ∀ v : Vec F (⟨2, ![64 * n, W k]⟩ : Shape) .bf16, (∀ y, v y = S xa xb k l c (64 * o (uu k c) + (y 0).val) (y 1).val) → (St xa xb K c T ⊢ wpc c (kk v) Q)) :
    St xa xb K c T ⊢ wpc c (Prog.lift (.load (pM k) (Rect.unit (s := ⟨2, ![2048, W k]⟩) off ![64 * n, W k] inb).toLoadRect hl) >>= kk) Q := by
  subst hT
  refine load_at (acc_p k) (fun y => mem_rows.mpr ?_) fun v hv => h v fun y => ?_
  · obtain ⟨-, -, -, -, h2, h3⟩ := box_row hoff inb y
    exact (hc (uF k c) ⟨_, chunk_lt 32 rfl _⟩ ⟨h2, h3⟩).1
  · obtain ⟨h0, -, h1, -, h2, h3⟩ := box_row hoff inb y
    have := hv y l (hc (uF k c) ⟨_, chunk_lt 32 rfl _⟩ ⟨h2, h3⟩).2
    rw [h0, h1, Nat.zero_add] at this
    exact this

/-- A load of rows that landed in stage `j`: the partner's sums of chunks `o u …`. -/
theorem step_loadR {Q : α → sProp 𝕄} (j : Fin 5) (hT : T k = t) (hoff : off = ![64 * oR (uu k c), 0]) (hc : chkR o oR n j t)
    {inb : ∀ i : Fin 2, off i + (![64 * n, W k] : Fin 2 → ℕ) i ≤ (![1984, W k] : Fin 2 → ℕ) i}
    {hl : (rsM k).view.LoadsAt (Rect.unit (s := ⟨2, ![1984, W k]⟩) off ![64 * n, W k] inb).toLoadRect}
    {kk : Vec F (⟨2, ![64 * n, W k]⟩ : Shape) .bf16 → Prog (TpuEff nD τ sig (Elt F) Λ₀ .tc) α}
    (h : ∀ v : Vec F (⟨2, ![64 * n, W k]⟩ : Shape) .bf16, (∀ y, v y = S xa xb k j.val (px k j.val c) (64 * o (uu k c) + (y 0).val) (y 1).val) → (St xa xb K c T ⊢ wpc c (kk v) Q)) :
    St xa xb K c T ⊢ wpc c (Prog.lift (.load (rsM k) (Rect.unit (s := ⟨2, ![1984, W k]⟩) off ![64 * n, W k] inb).toLoadRect hl) >>= kk) Q := by
  subst hT
  obtain ⟨hown, hch⟩ := hc
  obtain ⟨c1, c2, c3⟩ := hch (uF k c)
  have c1 : nb (uu k c) j ≤ o (uu k c) := c1
  have c2 : oR (uu k c) = rof j + (o (uu k c) - nb (uu k c) j) := c2
  have c3 : o (uu k c) + n ≤ nb (uu k c) j + nch j := c3
  have hreg : ∀ i, i < 31 → oR (uu k c) ≤ i → i < oR (uu k c) + n → reg i = j.val := fun i hi h1 h2 => by
    have := reg_rof ⟨i, hi⟩ j
    simp only [show decide (rof j ≤ i) = true from decide_eq_true (by omega), show decide (i < rof j + nch j) = true from decide_eq_true (by omega), Bool.and_self] at this
    exact of_decide_eq_true this.symm
  refine load_at (acc_r k) (fun y => mem_rows.mpr ?_) fun v hv => h v fun y => ?_
  · obtain ⟨-, -, -, -, h2, h3⟩ := box_row hoff inb y
    rw [hreg _ (chunk_lt 31 rfl _) h2 h3]; exact hown
  · obtain ⟨h0, -, h1, -, h2, h3⟩ := box_row hoff inb y
    have hr := hreg _ (chunk_lt 31 rfl _) h2 h3
    have := hv y
    unfold rsG at this
    rw [hr, h0, h1, Nat.zero_add] at this
    rw [this]
    congr 1
    omega

end PBox

/-- A load of a gathered chunk. -/
theorem step_loadG {Q : α → sProp 𝕄} {off : Fin 2 → ℕ} {o : ℕ → ℕ} (hT : T k = t) (hoff : off = ![64 * o (uu k c), 0])
    (hc : gfull t = true ∧ ∀ u : Fin 32, (ownGv t 2).getD (cls u (o u)) false = true)
    {inb : ∀ i : Fin 2, off i + (![64, W k] : Fin 2 → ℕ) i ≤ (![2048, W k] : Fin 2 → ℕ) i}
    {hl : (gM k).view.LoadsAt (Rect.unit (s := ⟨2, ![2048, W k]⟩) off ![64, W k] inb).toLoadRect}
    {kk : Vec F (⟨2, ![64, W k]⟩ : Shape) .bf16 → Prog (TpuEff nD τ sig (Elt F) Λ₀ .tc) α}
    (h : ∀ v : Vec F (⟨2, ![64, W k]⟩ : Shape) .bf16, (∀ y, v y = G xa xb k (64 * o (uu k c) + (y 0).val) (y 1).val) → (St xa xb K c T ⊢ wpc c (kk v) Q)) :
    St xa xb K c T ⊢ wpc c (Prog.lift (.load (gM k) (Rect.unit (s := ⟨2, ![2048, W k]⟩) off ![64, W k] inb).toLoadRect hl) >>= kk) Q := by
  subst hT
  refine load_at (acc_g k) (fun y => mem_rows.mpr ?_) fun v hv => h v fun y => ?_
  · obtain ⟨h0, l0, -, -, h2, h3⟩ := box_row (n := 1) hoff inb y
    rw [show ((Rect.unit (s := ⟨2, ![2048, W k]⟩) off ![64, W k] inb).idx y 0).val / 64 = o (uu k c) from by
      have h2 : o (uu k c) ≤ ((Rect.unit (s := ⟨2, ![2048, W k]⟩) off ![64, W k] inb).idx y 0).val / 64 := h2
      have h3 : ((Rect.unit (s := ⟨2, ![2048, W k]⟩) off ![64, W k] inb).idx y 0).val / 64 < o (uu k c) + 1 := h3
      omega]
    exact hc.2 (uF k c)
  · obtain ⟨h0, -, h1, -, -, -⟩ := box_row (n := 1) hoff inb y
    have := hv y hc.1
    refine this.trans ?_
    rw [show ((Rect.unit (s := ⟨2, ![2048, W k]⟩) off ![64, W k] inb).idx y 0).val = 64 * o (uu k c) + (y 0).val from h0,
      show ((Rect.unit (s := ⟨2, ![2048, W k]⟩) off ![64, W k] inb).idx y 1).val = (y 1).val from h1.trans (Nat.zero_add _)]

/-- A load of the device's own gathered chunk before it is written, its value unused. -/
theorem step_deadG {Q : α → sProp 𝕄} {off : Fin 2 → ℕ} {o : ℕ → ℕ} (hT : T k = t) (hoff : off = ![64 * o (uu k c), 0])
    (hc : ∀ u : Fin 32, (ownGv t 2).getD (cls u (o u)) false = true)
    {inb : ∀ i : Fin 2, off i + (![64, W k] : Fin 2 → ℕ) i ≤ (![2048, W k] : Fin 2 → ℕ) i}
    {hl : (gM k).view.LoadsAt (Rect.unit (s := ⟨2, ![2048, W k]⟩) off ![64, W k] inb).toLoadRect}
    {kk : Vec F (⟨2, ![64, W k]⟩ : Shape) .bf16 → Prog (TpuEff nD τ sig (Elt F) Λ₀ .tc) α}
    (h : ∀ v, St xa xb K c T ⊢ wpc c (kk v) Q) :
    St xa xb K c T ⊢ wpc c (Prog.lift (.load (gM k) (Rect.unit (s := ⟨2, ![2048, W k]⟩) off ![64, W k] inb).toLoadRect hl) >>= kk) Q := by
  subst hT
  refine load_at (acc_g k) (fun y => mem_rows.mpr ?_) fun v hv => h v
  obtain ⟨h0, l0, -, -, h2, h3⟩ := box_row (n := 1) hoff inb y
  rw [show ((Rect.unit (s := ⟨2, ![2048, W k]⟩) off ![64, W k] inb).idx y 0).val / 64 = o (uu k c) from by
    have h2 : o (uu k c) ≤ ((Rect.unit (s := ⟨2, ![2048, W k]⟩) off ![64, W k] inb).idx y 0).val / 64 := h2
    have h3 : ((Rect.unit (s := ⟨2, ![2048, W k]⟩) off ![64, W k] inb).idx y 0).val / 64 < o (uu k c) + 1 := h3
    omega]
  exact hc (uF k c)

/-- A load of the result, its value unused. -/
theorem step_deadO {Q : α → sProp 𝕄} {off : Fin 2 → ℕ} {o : ℕ} (hoff : off = ![64 * o, colOff k])
    {inb : ∀ i : Fin 2, off i + (![64, W k] : Fin 2 → ℕ) i ≤ (![2048, 2048] : Fin 2 → ℕ) i}
    {hl : oM.view.LoadsAt (Rect.unit (s := ⟨2, ![2048, 2048]⟩) off ![64, W k] inb).toLoadRect}
    {kk : Vec F (⟨2, ![64, W k]⟩ : Shape) .bf16 → Prog (TpuEff nD τ sig (Elt F) Λ₀ .tc) α}
    (h : ∀ v, St xa xb K c T ⊢ wpc c (kk v) Q) :
    St xa xb K c T ⊢ wpc c (Prog.lift (.load oM (Rect.unit (s := ⟨2, ![2048, 2048]⟩) off ![64, W k] inb).toLoadRect hl) >>= kk) Q := by
  refine load_at (acc_o k) (fun y => mem_slab.mpr ?_) fun v hv => h v
  obtain ⟨-, -, h1, l1, -, -⟩ := box_row (n := 1) hoff inb y
  have h1 : ((Rect.unit (s := ⟨2, ![2048, 2048]⟩) off ![64, W k] inb).idx y 1).val = colOff k + (y 1).val := h1
  rw [h1]
  exact ⟨Nat.le_add_right _ _, Nat.add_lt_add_left l1 _⟩

end Cert.Cube

end
-- ==== Proof.Stores.lean ====
/-
# The stores of the kernel

The values stored, and one rule for each kind of store: rows of the partial sums (a product or a sum with what landed), the
device's own chunk among the gathered rows, and a chunk of the result.
-/
module

public import proofs.«01_k».proof.Proof.Steps

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {T T' : Fin 3 → ℕ} {t : ℕ}

variable (k : Fin 3) {α : Type}

/-! ## Values -/

omit [FloatOps F] in
theorem ix_val {a b : ℕ} (ha : 0 < a) (hb : 0 < b) (y : (⟨2, ![a, b]⟩ : Shape).Idx) : ix ha hb (y 0).val (y 1).val = y := by
  funext i
  match i with
  | 0 => exact Fin.ext (Nat.mod_eq_of_lt (y 0).isLt)
  | 1 => exact Fin.ext (Nat.mod_eq_of_lt (y 1).isLt)

/-- Eight chunks' product. -/
theorem mm_val {o : ℕ} (h8 : o % 8 = 0) {w : Vec F (⟨2, ![64 * 8, W k]⟩ : Shape) .bf16}
    (hw : w = mmv k (cat8 fun i => aBlk (xa c) (rb k (o + i))) (bBlk (xb c) k)) :
    ∀ y, w y = S xa xb k 0 c (64 * o + (y 0).val) (y 1).val := by
  intro y
  subst hw
  have l0 : (y 0).val < 512 := (y 0).isLt
  unfold S
  rw [show 8 * ((64 * o + (y 0).val) / 512) = o by omega, show (64 * o + (y 0).val) % 512 = (y 0).val by omega, ix_val]

theorem acc_val {j : ℕ} {o n : ℕ} {w vp vr : Vec F (⟨2, ![64 * n, W k]⟩ : Shape) .bf16}
    (hp : ∀ y, vp y = S xa xb k j c (64 * o + (y 0).val) (y 1).val) (hr : ∀ y, vr y = S xa xb k j (px k j c) (64 * o + (y 0).val) (y 1).val)
    (hw : w = addf (φ := .bf16) vp vr) : ∀ y, w y = S xa xb k (j + 1) c (64 * o + (y 0).val) (y 1).val := by
  intro y
  subst hw
  show FloatOps.addf (vp y) (vr y) = FloatOps.addf _ _
  rw [hp y, hr y]

theorem relu_val {w vp : Vec F (⟨2, ![64, W k]⟩ : Shape) .bf16}
    (hp : ∀ y, vp y = S xa xb k 5 c (64 * uu k c + (y 0).val) (y 1).val)
    (hw : w = maximumf (φ := .bf16) vp (broadcast (⟨2, ![64, W k]⟩ : Shape) (Scalar.ofBits .bf16 0x0000#16))) :
    ∀ y, w y = G xa xb k (64 * uu k c + (y 0).val) (y 1).val := by
  intro y
  subst hw
  have l0 : (y 0).val < 64 := (y 0).isLt
  show FloatOps.maximumf (vp y) (Scalar.ofBits .bf16 0x0000#16) = _
  unfold G
  rw [hp y, show (64 * uu k c + (y 0).val) / 64 = uu k c by omega, dv_uu]

/-! ## The stores -/

theorem step_storeP {Q : α → sProp 𝕄} {off : Fin 2 → ℕ} {o : ℕ → ℕ} {n l : ℕ} (hT : T k = t) (hT' : ∀ i, T' i = if i = k then t + 1 else T i)
    (hoff : off = ![64 * o (uu k c), 0]) (hc : chkP o n l t)
    {inb : ∀ i : Fin 2, off i + (![64 * n, W k] : Fin 2 → ℕ) i ≤ (![2048, W k] : Fin 2 → ℕ) i}
    {w : Vec F (⟨2, ![64 * n, W k]⟩ : Shape) .bf16}
    (hw : ∀ y, w y = S xa xb k l c (64 * o (uu k c) + (y 0).val) (y 1).val)
    {hx : ((pM k).access (Rect.unit (s := ⟨2, ![2048, W k]⟩) off ![64 * n, W k] inb)).Stores Finset.univ}
    {hm : (Finset.univ : Finset (Rect.unit (s := ⟨2, ![2048, W k]⟩) off ![64 * n, W k] inb).shape.Idx) = Finset.univ ∨ ∀ a, (Rect.unit (s := ⟨2, ![2048, W k]⟩) off ![64 * n, W k] inb).stride a = 1}
    {kk : PUnit → Prog (TpuEff nD τ sig (Elt F) Λ₀ .tc) α}
    (h : St xa xb K c T' ⊢ wpc c (kk ⟨⟩) Q) :
    St xa xb K c T ⊢ wpc c (Prog.lift (.store (pM k) (Rect.unit (s := ⟨2, ![2048, W k]⟩) off ![64 * n, W k] inb) w Finset.univ hx hm) >>= kk) Q := by
  obtain ⟨hr, hc⟩ := hc
  obtain ⟨h1, h2, h3, h4, h5, h6, h7, h8, h9, h10⟩ := restP_spec hr
  have hin : ∀ y, o (uu k c) ≤ ((Rect.unit (s := ⟨2, ![2048, W k]⟩) off ![64 * n, W k] inb).idx y 0).val / 64
      ∧ ((Rect.unit (s := ⟨2, ![2048, W k]⟩) off ![64 * n, W k] inb).idx y 0).val / 64 < o (uu k c) + n := fun y => by
    obtain ⟨-, -, -, -, h2, h3⟩ := box_row hoff inb y
    exact ⟨h2, h3⟩
  refine store_at (m := pM k) (P' := St xa xb K c T') (T' := rows fun v => (ownPv t).getD (cls (uu k c) v) false)
    (R := relP xa xb k c (levv t)) (R' := relP xa xb k c (levv (t + 1))) ?_ (fun y => mem_rows.mpr ?_) (fun y l' hl' => ?_) (fun x hxT hxr v hv l' hl' => ?_) h
  · refine (St_event hT hT' h1).trans ?_
    unfold PSt pP
    rw [← h2, ← h3, ← h4, ← h5, ← h6, ← h7, ← h8, ← h9, ← h10]
    iintro ⟨⟨Hp, HR⟩, HP⟩
    isplitl [Hp]; · iexact Hp
    iintro Hp
    iapply HP
    isplitl [Hp] <;> iassumption
  · have := (hc (uF k c) ⟨_, chunk_lt 32 rfl ((Rect.unit (s := ⟨2, ![2048, W k]⟩) off ![64 * n, W k] inb).idx y)⟩).1 (hin y)
    exact this.1
  · have := (hc (uF k c) ⟨_, chunk_lt 32 rfl ((Rect.unit (s := ⟨2, ![2048, W k]⟩) off ![64 * n, W k] inb).idx y)⟩).1 (hin y)
    have hl : l' = l := Option.some.inj (hl'.symm.trans this.2)
    subst hl
    obtain ⟨h0, -, h1, -, -, -⟩ := box_row hoff inb y
    rw [h0, h1, Nat.zero_add]
    exact hw y
  · have := (hc (uF k c) ⟨_, chunk_lt 32 rfl x⟩).2 fun hh => hxr ((mem_box hoff inb x).mpr ⟨hh, Nat.zero_le _, by have := col_lt x; omega⟩)
    rcases this with h | h
    · exact hv l' (h.symm.trans hl')
    · exact absurd (h.symm.trans hl') (by simp)

omit [FloatOps F] in
theorem holds_three {m : Memref sig .tc .vmem (SP k) .bf16} {I : Finset (SP k).Idx} {R : (SP k).Idx → Elt F .bf16 → Prop} :
    (holds c m I fullShare R : sProp 𝕄) ⊢ iprop(holds c m I (qS 0) R ∗ holds c m I (qS 1) R ∗ holds c m I (qS 2) R) := by
  refine (holds_share (PosShare.mem_left_op_right fullShare)).trans ?_
  iintro ⟨H0, H⟩
  isplitl [H0]; · iexact H0
  iapply (holds_share (PosShare.mem_left_op_right fullShare.right)); iexact H
omit [FloatOps F] in
theorem holds_unthree {m : Memref sig .tc .vmem (SP k) .bf16} {I : Finset (SP k).Idx} {R R' R'' : (SP k).Idx → Elt F .bf16 → Prop} :
    iprop(holds c m I (qS 0) R ∗ holds c m I (qS 1) R' ∗ holds c m I (qS 2) R'') ⊢ (holds c m I fullShare R : sProp 𝕄) := by
  iintro ⟨H0, H1, H2⟩
  iapply (holds_unshare (R' := R') (PosShare.mem_left_op_right fullShare))
  isplitl [H0]; · iexact H0
  iapply (holds_unshare (R' := R'') (PosShare.mem_left_op_right fullShare.right))
  isplitl [H1]; · iexact H1
  iexact H2

/-- The store of the device's own chunk among the gathered rows. -/
theorem step_storeG {Q : α → sProp 𝕄} {off : Fin 2 → ℕ} (hT : T k = 27) (hT' : ∀ i, T' i = if i = k then 27 + 1 else T i)
    (hoff : off = ![64 * uu k c, 0])
    {inb : ∀ i : Fin 2, off i + (![64, W k] : Fin 2 → ℕ) i ≤ (![2048, W k] : Fin 2 → ℕ) i}
    {w : Vec F (⟨2, ![64, W k]⟩ : Shape) .bf16}
    (hw : ∀ y, w y = G xa xb k (64 * uu k c + (y 0).val) (y 1).val)
    {hx : ((gM k).access (Rect.unit (s := ⟨2, ![2048, W k]⟩) off ![64, W k] inb)).Stores Finset.univ}
    {hm : (Finset.univ : Finset (Rect.unit (s := ⟨2, ![2048, W k]⟩) off ![64, W k] inb).shape.Idx) = Finset.univ ∨ ∀ a, (Rect.unit (s := ⟨2, ![2048, W k]⟩) off ![64, W k] inb).stride a = 1}
    {kk : PUnit → Prog (TpuEff nD τ sig (Elt F) Λ₀ .tc) α}
    (h : St xa xb K c T' ⊢ wpc c (kk ⟨⟩) Q) :
    St xa xb K c T ⊢ wpc c (Prog.lift (.store (gM k) (Rect.unit (s := ⟨2, ![2048, W k]⟩) off ![64, W k] inb) w Finset.univ hx hm) >>= kk) Q := by
  have hin : ∀ y, ((Rect.unit (s := ⟨2, ![2048, W k]⟩) off ![64, W k] inb).idx y 0).val / 64 = uu k c := fun y => by
    obtain ⟨-, -, -, -, h2, h3⟩ := box_row (n := 1) hoff inb y
    have h2 : uu k c ≤ ((Rect.unit (s := ⟨2, ![2048, W k]⟩) off ![64, W k] inb).idx y 0).val / 64 := h2
    have h3 : ((Rect.unit (s := ⟨2, ![2048, W k]⟩) off ![64, W k] inb).idx y 0).val / 64 < uu k c + 1 := h3
    omega
  have hcls : ∀ u v : Fin 32, (ownGv 27 2).getD (cls u v) false = true → v = u := by decide +kernel
  have hcls' : ∀ u : Fin 32, (ownGv 27 2).getD (cls u u) false = true := by decide +kernel
  refine store_at (m := gM k) (P' := St xa xb K c T') (T' := rows fun v => (ownGv 27 2).getD (cls (uu k c) v) false)
    (R := relG xa xb k (gfull 27)) (R' := relG xa xb k (gfull 28)) ?_ (fun y => mem_rows.mpr ?_) (fun y hf => ?_) (fun x hxT hxr v hv hf => ?_) h
  · refine (St_event hT hT' (by decide)).trans ?_
    unfold PSt gP
    rw [show ownPv (27 + 1) = ownPv 27 by decide, show levv (27 + 1) = levv 27 by decide, show ownRv (27 + 1) = ownRv 27 by decide,
      show ownGv (27 + 1) 0 = ownGv 27 2 by decide, show ownGv (27 + 1) 1 = ownGv 27 2 by decide, show ownGv (27 + 1) 2 = ownGv 27 2 by decide,
      show ownGv 27 0 = ownGv 27 2 by decide, show ownGv 27 1 = ownGv 27 2 by decide,
      show outv (27 + 1) = outv 27 by decide, show sv (27 + 1) = sv 27 by decide, show rv (27 + 1) = rv 27 by decide]
    iintro ⟨⟨Hp, Hr, Hg, HR⟩, HP⟩
    isplitl [Hg]; · iapply (holds_unthree k); iexact Hg
    iintro Hg
    iapply HP
    isplitl [Hp]; · iexact Hp
    isplitl [Hr]; · iexact Hr
    isplitl [Hg]; · iapply (holds_three k); iexact Hg
    iexact HR
  · rw [hin y]; exact hcls' (uF k c)
  · obtain ⟨h0, -, h1, -, -, -⟩ := box_row (n := 1) hoff inb y
    rw [show ((Rect.unit (s := ⟨2, ![2048, W k]⟩) off ![64, W k] inb).idx y 0).val = 64 * uu k c + (y 0).val from h0,
      show ((Rect.unit (s := ⟨2, ![2048, W k]⟩) off ![64, W k] inb).idx y 1).val = (y 1).val from h1.trans (Nat.zero_add _)]
    exact hw y
  · have := congrArg Fin.val (hcls (uF k c) ⟨_, chunk_lt 32 rfl x⟩ (mem_rows.mp hxT))
    have : (x 0).val / 64 = uu k c := this
    exact absurd ((mem_box (n := 1) hoff inb x).mpr ⟨⟨by omega, by omega⟩, Nat.zero_le _, by have := col_lt x; omega⟩) hxr

theorem outG_at (r w : ℕ) (hw : w < W k) : outG xa xb r (colOff k + w) = G xa xb k (64 * uu k (r / 64) + r % 64) w := by
  match k, hw with
  | 0, hw =>
    have hw : w < 768 := hw
    rw [show colOff 0 + w = w from Nat.zero_add w]; unfold outG; rw [if_pos hw]
  | 1, hw =>
    have hw : w < 640 := hw
    show outG xa xb r (768 + w) = _
    unfold outG; rw [if_neg (by omega), if_pos (by omega), Nat.add_sub_cancel_left]
  | 2, hw =>
    have hw : w < 640 := hw
    show outG xa xb r (1408 + w) = _
    unfold outG; rw [if_neg (by omega), if_neg (by omega), Nat.add_sub_cancel_left]

/-- Event `t` is the copy of the `i`-th chunk to the result. -/
def chkO (i t : ℕ) : Bool :=
  decide (i < 32) && decide (∀ s : Fin 10, t ≠ tsend s) && (ownPv t == ownPv (t + 1)) && (levv t == levv (t + 1)) && (ownRv t == ownRv (t + 1)) && (ownGv t 0 == ownGv (t + 1) 0)
    && (ownGv t 1 == ownGv (t + 1) 1) && (ownGv t 2 == ownGv (t + 1) 2) && (gfull t == gfull (t + 1)) && (outv t == i) && (outv (t + 1) == i + 1)
    && (sv t == sv (t + 1)) && (rv t == rv (t + 1))

theorem chkO_spec {i : ℕ} (h : chkO i t = true) : i < 32 ∧ (∀ s : Fin 10, t ≠ tsend s) ∧ ownPv t = ownPv (t + 1) ∧ levv t = levv (t + 1) ∧ ownRv t = ownRv (t + 1) ∧ ownGv t 0 = ownGv (t + 1) 0
    ∧ ownGv t 1 = ownGv (t + 1) 1 ∧ ownGv t 2 = ownGv (t + 1) 2 ∧ gfull t = gfull (t + 1) ∧ outv t = i ∧ outv (t + 1) = i + 1 ∧ sv t = sv (t + 1) ∧ rv t = rv (t + 1) := by
  unfold chkO at h
  simp only [Bool.and_eq_true, decide_eq_true_eq, beq_iff_eq] at h
  obtain ⟨⟨⟨⟨⟨⟨⟨⟨⟨⟨⟨⟨h1, h2⟩, h3⟩, h4⟩, h5⟩, h6⟩, h7⟩, h8⟩, h9⟩, h10⟩, h11⟩, h12⟩, h13⟩ := h
  exact ⟨h1, h2, h3, h4, h5, h6, h7, h8, h9, h10, h11, h12, h13⟩

/-- The copy of the `i`-th chunk to the result. -/
theorem step_storeO {Q : α → sProp 𝕄} {off : Fin 2 → ℕ} (i : ℕ) (hT : T k = t) (hT' : ∀ i, T' i = if i = k then t + 1 else T i) (hc : chkO i t = true)
    (hoff : off = ![64 * rb k (scat (uu k c) i), colOff k])
    {inb : ∀ i : Fin 2, off i + (![64, W k] : Fin 2 → ℕ) i ≤ (![2048, 2048] : Fin 2 → ℕ) i}
    {w : Vec F (⟨2, ![64, W k]⟩ : Shape) .bf16}
    (hw : ∀ y, w y = G xa xb k (64 * scat (uu k c) i + (y 0).val) (y 1).val)
    {hx : (oM.access (Rect.unit (s := ⟨2, ![2048, 2048]⟩) off ![64, W k] inb)).Stores Finset.univ}
    {hm : (Finset.univ : Finset (Rect.unit (s := ⟨2, ![2048, 2048]⟩) off ![64, W k] inb).shape.Idx) = Finset.univ ∨ ∀ a, (Rect.unit (s := ⟨2, ![2048, 2048]⟩) off ![64, W k] inb).stride a = 1}
    {kk : PUnit → Prog (TpuEff nD τ sig (Elt F) Λ₀ .tc) α}
    (h : St xa xb K c T' ⊢ wpc c (kk ⟨⟩) Q) :
    St xa xb K c T ⊢ wpc c (Prog.lift (.store oM (Rect.unit (s := ⟨2, ![2048, 2048]⟩) off ![64, W k] inb) w Finset.univ hx hm) >>= kk) Q := by
  obtain ⟨h1, h2, h3, h4, h5, h6, h7, h8, h9, h10, h11, h12, h13⟩ := chkO_spec hc
  have hu : scat (uu k c) i < 32 := scat_lt (uF k c) ⟨i, h1⟩
  have hrb : rb k (scat (uu k c) i) < 32 := rb_lt k ⟨_, hu⟩
  have hurb : uu k (rb k (scat (uu k c) i)) = scat (uu k c) i := uu_rb k ⟨_, hu⟩
  refine store_at (m := oM) (P' := St xa xb K c T') (T' := slab k)
    (R := relO xa xb k c i) (R' := relO xa xb k c (i + 1)) ?_ (fun y => mem_slab.mpr ?_) (fun y _ => ?_) (fun x hxT hxr v hv hp => ?_) h
  · refine (St_event hT hT' h2).trans ?_
    unfold PSt oP
    rw [← h3, ← h4, ← h5, ← h6, ← h7, ← h8, ← h9, ← h12, ← h13, h10, h11]
    iintro ⟨⟨Hp, Hr, Hg, Ho, HR⟩, HP⟩
    isplitl [Ho]; · iexact Ho
    iintro Ho
    iapply HP
    isplitl [Hp]; · iexact Hp
    isplitl [Hr]; · iexact Hr
    isplitl [Hg]; · iexact Hg
    isplitl [Ho] <;> iassumption
  · obtain ⟨-, -, h1, l1, -, -⟩ := box_row (n := 1) hoff inb y
    have h1 : ((Rect.unit (s := ⟨2, ![2048, 2048]⟩) off ![64, W k] inb).idx y 1).val = colOff k + (y 1).val := h1
    rw [h1]
    exact ⟨Nat.le_add_right _ _, Nat.add_lt_add_left l1 _⟩
  · obtain ⟨h0, l0, h1, l1, -, -⟩ := box_row (n := 1) hoff inb y
    have l0 : (y 0).val < 64 := l0
    have l1 : (y 1).val < W k := l1
    rw [show ((Rect.unit (s := ⟨2, ![2048, 2048]⟩) off ![64, W k] inb).idx y 0).val = 64 * rb k (scat (uu k c) i) + (y 0).val from h0,
      show ((Rect.unit (s := ⟨2, ![2048, 2048]⟩) off ![64, W k] inb).idx y 1).val = colOff k + (y 1).val from h1, outG_at k _ _ l1,
      show (64 * rb k (scat (uu k c) i) + (y 0).val) / 64 = rb k (scat (uu k c) i) by omega,
      show (64 * rb k (scat (uu k c) i) + (y 0).val) % 64 = (y 0).val by omega, hurb]
    exact hw y
  · refine hv (lt_of_le_of_ne (Nat.le_of_lt_succ hp) fun he => hxr ((mem_box (n := 1) hoff inb x).mpr ?_))
    have hx0 : (x 0).val / 64 < 32 := chunk_lt 32 rfl x
    have hsp := scat_pos (uF k c) ⟨uu k ((x 0).val / 64), uu_lt _ _⟩
    have hsp : scat (uu k c) (pos (uu k c) (uu k ((x 0).val / 64))) = uu k ((x 0).val / 64) := hsp
    have hrbu : rb k (uu k ((x 0).val / 64)) = (x 0).val / 64 := rb_uu k ⟨_, hx0⟩
    rw [he] at hsp
    rw [hsp, hrbu]
    exact ⟨⟨le_refl _, Nat.lt_succ_self _⟩, (mem_slab.mp hxT).1, (mem_slab.mp hxT).2⟩

end Cert.Cube

end
-- ==== Proof.Remote.lean ====
/-
# What is owed, and the three remote steps

A device owes each transfer it has not started yet to the partner's receive cell. It waits on a cell only below the level
of everything it still owes. The rules here run one transfer's start, the wait for its landing and the wait for its departure.
-/
module

public import proofs.«01_k».proof.Proof.Stores

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {T T' : Fin 3 → ℕ} {t : ℕ}

variable (k : Fin 3) {α : Type}

/-! ## What is owed -/

theorem owe_pos {g : GSem nD τ sig} {u : Unit} (h : 0 < owe c T g u) : ∃ (k : Fin 3) (s : Fin 10), T k ≤ tsend s ∧ g = recvC (px k s c) k s := by
  by_contra hn
  refine absurd h (Nat.not_lt.mpr (Nat.le_of_eq ?_))
  unfold owe
  simp only [Finset.sum_apply, Finsupp.finset_sum_apply]
  refine Finset.sum_eq_zero fun k _ => Finset.sum_eq_zero fun s _ => ?_
  by_cases hs : T k ≤ tsend s
  · rw [if_pos hs, tallyAt_apply, if_neg fun hh => hn ⟨k, s, hs, hh.1⟩]
  · rw [if_neg hs]; rfl

theorem oweB_pos {n : ℕ} {g : GSem nD τ sig} {u : Unit} (h : 0 < oweB c n g u) : ∃ i : Fin 6, g = barC (mx i c) := by
  by_contra hn
  refine absurd h (Nat.not_lt.mpr (Nat.le_of_eq ?_))
  unfold oweB
  simp only [Finset.sum_apply, Finsupp.finset_sum_apply]
  refine Finset.sum_eq_zero fun i _ => ?_
  by_cases hs : n ≤ i.val
  · rw [if_pos hs, tallyAt_apply, if_neg fun hh => hn ⟨i, hh.1⟩]
  · rw [if_neg hs]; rfl

theorem tsend_inj : ∀ s s' : Fin 10, tsend s = tsend s' → s = s' := by decide

theorem owe_send (s : Fin 10) (hT : T k = tsend s) (hT' : ∀ i, T' i = if i = k then tsend s + 1 else T i) :
    owe c T = owe c T' + tallyAt (recvC (px k s c) k s) () (amt k s) := by
  unfold owe
  rw [← Finset.add_sum_erase _ _ (Finset.mem_univ k), ← Finset.add_sum_erase (a := k) _ (fun k : Fin 3 => ∑ s : Fin 10, if T' k ≤ tsend s then tallyAt (recvC (px k s c) k s) () (amt k s) else 0) (Finset.mem_univ k)]
  rw [show (∑ x ∈ Finset.univ.erase k, ∑ s : Fin 10, if T' x ≤ tsend s then tallyAt (recvC (px x s c) x s) () (amt x s) else 0)
      = ∑ x ∈ Finset.univ.erase k, ∑ s : Fin 10, if T x ≤ tsend s then tallyAt (recvC (px x s c) x s) () (amt x s) else 0 from
    Finset.sum_congr rfl fun i hi => by rw [hT' i, if_neg (Finset.ne_of_mem_erase hi)]]
  rw [add_right_comm]
  congr 1
  rw [← Finset.add_sum_erase _ _ (Finset.mem_univ s), ← Finset.add_sum_erase (a := s) _ (fun s : Fin 10 => if T' k ≤ tsend s then tallyAt (recvC (px k s c) k s) () (amt k s) else 0) (Finset.mem_univ s)]
  have hk : T' k = tsend s + 1 := by rw [hT' k, if_pos rfl]
  rw [hT, hk, if_pos le_rfl, if_neg (by omega), zero_add, add_comm]
  congr 1
  refine Finset.sum_congr rfl fun s' hs' => ?_
  have hne : tsend s ≠ tsend s' := fun h => Finset.ne_of_mem_erase hs' (tsend_inj s s' h).symm
  by_cases h : tsend s ≤ tsend s'
  · rw [if_pos h, if_pos (by omega)]
  · rw [if_neg h, if_neg (by omega)]

omit [FloatOps F] in
theorem mayWait_of (sm : SemLoc sig) (n : ℕ) (hn : lvl sm ≤ n) (O : CellTallies nD τ sig Unit)
    (h : ∀ g u, 0 < O g u → n < lv g u ∧ g.1.2 = .tc) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).2]; exact Finset.mem_singleton_self _)
    (fun p hp => by rw [Finset.mem_singleton.mp hp]; exact hn) (fun g u hg => (h g u hg).1)

omit [FloatOps F] in
theorem mayWait_recv (s : Fin 10) (hm : ∀ (k' : Fin 3) (s' : Fin 10), T k' ≤ tsend s' → s.val < s'.val) :
    (levAts L lv : sProp 𝕄) ⊢ MayWait (c : Thread nD τ) (.dma (rq k s)) () (owe c T) :=
  mayWait_of _ (2 + s.val) (le_of_eq (lv_recv c k s ())) _ fun g u hg => by
    obtain ⟨k', s', h1, rfl⟩ := owe_pos hg
    rw [lv_recv]
    exact ⟨Nat.add_lt_add_left (hm k' s' h1) 2, rfl⟩
omit [FloatOps F] in
theorem mayWait_send (s : Fin 10) : (levAts L lv : sProp 𝕄) ⊢ MayWait (c : Thread nD τ) (.dma (sq k s)) () (owe c T) :=
  mayWait_of _ 0 (le_of_eq (lv_send c k s ())) _ fun g u hg => by
    obtain ⟨k', s', h1, rfl⟩ := owe_pos hg
    rw [lv_recv]
    exact ⟨by omega, rfl⟩
omit [FloatOps F] in
theorem mayWait_bar : (levAts L lv : sProp 𝕄) ⊢ MayWait (c : Thread nD τ) (.reg barS) () (owe c T) :=
  mayWait_of _ 1 le_rfl _ fun g u hg => by
    obtain ⟨k', s', h1, rfl⟩ := owe_pos hg
    rw [lv_recv]
    exact ⟨by omega, rfl⟩

/-! ## The three remote steps -/

/-- A transfer `s` of part `k` from a region of one buffer to a region of the partner's. -/
theorem holds_send {Q : α → sProp 𝕄} {n : Dev nD} (s : Fin 10) (hn : n = px k s c) {d d' size : Fin 2 → ℕ}
    {src : Memref sig .tc .vmem (⟨2, d⟩ : Shape) .bf16} {dst : Memref sig .tc .vmem (⟨2, d'⟩ : Shape) .bf16}
    {off off' : Fin 2 → ℕ} {inb : ∀ i : Fin 2, off i + size i ≤ d i} {inb' : ∀ i : Fin 2, off' i + size i ≤ d' i}
    {hr : ∀ a, (Rect.unit (s := ⟨2, d⟩) off size inb).stride a = 1} {hr' : ∀ a, (Rect.unit (s := ⟨2, d'⟩) off' size inb').stride a = 1}
    {I : Finset (⟨2, d⟩ : Shape).Idx} {I' : Finset (⟨2, d'⟩ : Shape).Idx}
    (hI : I = (Rect.unit (s := ⟨2, d⟩) off size inb).set) (hI' : I' = (Rect.unit (s := ⟨2, d'⟩) off' size inb').set)
    {q : PosShare TreeShare} {R : (⟨2, d⟩ : Shape).Idx → Elt F .bf16 → Prop} {R' R'' : (⟨2, d'⟩ : Shape).Idx → Elt F .bf16 → Prop}
    (hval : ∀ (y : (⟨2, size⟩ : Shape).Idx) v, R ((Rect.unit (s := ⟨2, d⟩) off size inb).idx y) v → R' ((Rect.unit (s := ⟨2, d'⟩) off' size inb').idx y) v)
    {sS rS : DmaSem sig} (hsS : sS = sq k s) (hrS : rS = rq k s)
    (hN : (dst.slice (Rect.unit (s := ⟨2, d'⟩) off' size inb') hr').view.dmaCredit = amt k s)
    {O₀ O : CellTallies nD τ sig Unit} (hO : O₀ = O + tallyAt (recvC (px k s c) k s) () (amt k s)) {W : Waits sig Unit}
    (hpay₁ : holds c src I q R ⊢ sendP xa xb c k s) (hpay₂ : holds (px k s c) dst I' fullShare R' ⊢ landV xa xb (px k s c) k s)
    {hsc : (dst.slice (Rect.unit (s := ⟨2, d'⟩) off' size inb') hr' : Memref sig (Dev.tc n : Thread nD τ).2.kind .vmem _ .bf16).view.ref.isScScratch = false}
    {hsrc : (src.slice (Rect.unit (s := ⟨2, d⟩) off size inb) hr).view.WordExact}
    {hdst : (dst.slice (Rect.unit (s := ⟨2, d'⟩) off' size inb') hr').view.WordExact}
    {hsem : DmaTarget.Typed .vmem (.dma rS) (.remote (Dev.tc n : Thread nD τ) (dst.slice (Rect.unit (s := ⟨2, d'⟩) off' size inb') hr' : Memref sig (Dev.tc n : Thread nD τ).2.kind .vmem _ .bf16) (.dma sS) hsc)}
    {kk : PUnit → Prog (TpuEff nD τ sig (Elt F) Λ₀ .tc) α} :
    iprop(recs xa xb K ∗ holds c src I q R ∗ holds (px k s c) dst I' fullShare R'' ∗ owes (c : Thread nD τ) O₀ W
        ∗ dutyTok ER (sendC c k s) 0 0 ∗ dutyTok ER (recvC (px k s c) k s) 0 0)
      ⊢ iprop(((cred (tallyAt (sendC c k s) () (amt k s)) ∗ owes (c : Thread nD τ) O W) -∗ wpc c (kk ⟨⟩) Q)
          -∗ wpc c (Prog.lift (.enqueueDma (src.slice (Rect.unit (s := ⟨2, d⟩) off size inb) hr)
              (.remote (Dev.tc n : Thread nD τ) (dst.slice (Rect.unit (s := ⟨2, d'⟩) off' size inb') hr') (.dma sS) hsc) (.dma rS) hsrc hdst hsem) >>= kk) Q) := by
  subst hn hsS hrS hI hI'
  simp only [Prog.lift, Prog.bind_op, Prog.bind_ret]
  iintro ⟨#HR, Hsrc, Hdst, HO, Ht1, Ht2⟩ Hk
  unfold holds
  icases Hsrc with ⟨%f, %hf, Hsrc⟩
  icases Hdst with ⟨%g, %hg, Hdst⟩
  ihave ⟨#HI1, #HR1⟩ := (recs_send xa xb K c k s) $$ HR
  ihave ⟨#HI2, #HR2⟩ := (recs_recv xa xb K (px k s c) k s) $$ HR
  iapply (Rounds.wp_send_pointsTo 𝒱₀ ER (cubeRd xa xb) (c : Thread nD τ) none
    (s := (⟨2, size⟩ : Shape)) (e := .bf16) (c' := ((px k s c : Dev nD) : Thread nD τ)) (sS := .dma (sq k s)) (sem := .dma (rq k s)) (src := src.slice (Rect.unit (s := ⟨2, d⟩) off size inb) hr) (dst := dst.slice (Rect.unit (s := ⟨2, d'⟩) off' size inb') hr')
    (κ₁ := K (c, some (false, k, s))) (κ₂ := K (px k s c, some (true, k, s)))
    (r₁ := 0) (r₂ := 0) (d₁ := 0) (d₂ := 0) (q := q) (fs := f) (fd := g)
    (by rw [duties_send]; exact Finset.mem_singleton_self _) (by rw [duties_recv]; exact Finset.mem_singleton_self _)
    () () (amt k s) hN (amount_send xa xb c k s 0) (amount_recv xa xb (px k s c) k s 0) O hO (W := W)
    (by
      rw [payload_send, slice_set]
      refine BIClass.entails_trans ?_ hpay₁
      unfold holds
      iintro H
      iexists f
      isplitr; · (ipureintro; exact hf)
      iexact H)
    (by
      rw [payload_recv, slice_set]
      refine BIClass.entails_trans ?_ hpay₂
      unfold holds
      iintro H
      iexists ((dst.slice (Rect.unit (s := ⟨2, d'⟩) off' size inb') hr').view.write (Elt F) g ((src.slice (Rect.unit (s := ⟨2, d⟩) off size inb) hr).view.read (Elt F) f) Finset.univ)
      isplitr
      · ipureintro
        intro x hx
        obtain ⟨y, rfl⟩ := LoadRect.exists_idx_of_mem _ hx
        refine hval y _ ?_
        have h2 := View.read_slice_write_emb (Val := Elt F) (v := dst.view) (Rect.unit (s := ⟨2, d'⟩) off' size inb') g ((src.slice (Rect.unit (s := ⟨2, d⟩) off size inb) hr).view.read (Elt F) f) (Finset.mem_univ y)
        refine (congrArg (R _) h2).mpr ?_
        exact hf _ (LoadRect.idx_mem (Rect.unit (s := ⟨2, d⟩) off size inb).toLoadRect y)
      iexact H)) $$ [Hsrc Hdst HO Ht1 Ht2]
  · isplitr; · iexact HI1
    isplitr; · iexact HI2
    isplitl [Hsrc]; · rw [slice_set]; iexact Hsrc
    isplitl [Hdst]; · rw [slice_set]; iexact Hdst
    isplitl [HO]; · iexact HO
    isplitl [Ht1]; · iexact Ht1
    isplitr; · iexact HR1
    isplitl [Ht2]; · iexact Ht2
    iexact HR2
  iexact Hk

/-- The wait for the landing of transfer `s`. -/
theorem holds_recv {Q : α → sProp 𝕄} (s : Fin 10) (hm : ∀ (k' : Fin 3) (s' : Fin 10), T k' ≤ tsend s' → s.val < s'.val)
    {s₁ s₂ : Shape} {src : Memref sig .tc .vmem s₁ .bf16} {dst : Memref sig .tc .vmem s₂ .bf16}
    {rS : DmaSem sig} (hrS : rS = rq k s) (hN : dst.view.dmaCredit = amt k s) {W : Waits sig Unit}
    {hsrc : src.view.WordExact} {hdst : dst.view.WordExact} {kk : PUnit → Prog (TpuEff nD τ sig (Elt F) Λ₀ .tc) α} :
    iprop((levAts L lv ∗ recs xa xb K) ∗ owes (c : Thread nD τ) (owe c T) W ∗ cred (tallyAt (recvC c k s) () (amt k s)) ∗ atPos ER (recvC c k s) 0 ∅ 0)
      ⊢ iprop((((∃ W : Waits sig Unit, owes (c : Thread nD τ) (owe c T) W) ∗ semVal (recvC c k s) 0 ∗ landV xa xb c k s) -∗ wpc c (kk ⟨⟩) Q)
          -∗ wpc c (Prog.lift (.waitDma2 rS src dst hsrc hdst) >>= kk) Q) := by
  subst hrS
  simp only [Prog.lift, Prog.bind_op, Prog.bind_ret]
  iintro ⟨⟨#HL, #HR⟩, HO, Hc, Hat⟩ Hk
  ihave ⟨#HI, #HR1⟩ := (recs_recv xa xb K c k s) $$ HR
  iapply (Rounds.wp_wait_rest_token 𝒱₀ ER (cubeRd xa xb) (c : Thread nD τ) none (κ := K (c, some (true, k, s)))
      (wpE_waitDma2_eq 𝒱₀ (c : Thread nD τ) none Set.univ) (Set.mem_univ _) () (O := owe c T) (W := W) (R := 0) (m := 0) (T := ∅)
      (by rw [Nat.zero_add, hN, expect_recv])) $$ [Hc HO Hat]
  · isplitr; · iexact HI
    isplitl [Hc]; · rw [hN]; iexact Hc
    isplitl [HO]; · iexact HO
    isplitr; · iapply (mayWait_recv k s hm); iexact HL
    iexact Hat
  iintro ⟨HO, Hat, -, Hpay⟩
  imod (Rounds.cell_close ER (cubeRd xa xb) (Set.mem_univ (K (c, some (true, k, s)))) (fun h => h) (R := 0 + 1) (duties_later xa xb (recvC c k s))) $$ [Hat] with Hz
  · isplitr; · iexact HI
    iexact Hat
  iapply Hk
  isplitl [HO]; · iexists _; iexact HO
  isplitl [Hz]; · iexact Hz
  iapply (Entails.of_eq (rest_recv xa xb c k s)); iexact Hpay

/-- The wait for the departure of transfer `s`. -/
theorem holds_sent {Q : α → sProp 𝕄} (s : Fin 10)
    {s₁ s₂ : Shape} {src : Memref sig .tc .vmem s₁ .bf16} {dst : Memref sig .tc .vmem s₂ .bf16}
    {rS : DmaSem sig} (hrS : rS = sq k s) (hN : dst.view.dmaCredit = amt k s) {W : Waits sig Unit}
    {hsrc : src.view.WordExact} {hdst : dst.view.WordExact} {kk : PUnit → Prog (TpuEff nD τ sig (Elt F) Λ₀ .tc) α} :
    iprop((levAts L lv ∗ recs xa xb K) ∗ owes (c : Thread nD τ) (owe c T) W ∗ cred (tallyAt (sendC c k s) () (amt k s)) ∗ atPos ER (sendC c k s) 0 ∅ 0)
      ⊢ iprop((((∃ W : Waits sig Unit, owes (c : Thread nD τ) (owe c T) W) ∗ semVal (sendC c k s) 0 ∗ sendP xa xb c k s) -∗ wpc c (kk ⟨⟩) Q)
          -∗ wpc c (Prog.lift (.waitDma2 rS src dst hsrc hdst) >>= kk) Q) := by
  subst hrS
  simp only [Prog.lift, Prog.bind_op, Prog.bind_ret]
  iintro ⟨⟨#HL, #HR⟩, HO, Hc, Hat⟩ Hk
  ihave ⟨#HI, #HR1⟩ := (recs_send xa xb K c k s) $$ HR
  iapply (Rounds.wp_wait_rest_token 𝒱₀ ER (cubeRd xa xb) (c : Thread nD τ) none (κ := K (c, some (false, k, s)))
      (wpE_waitDma2_eq 𝒱₀ (c : Thread nD τ) none Set.univ) (Set.mem_univ _) () (O := owe c T) (W := W) (R := 0) (m := 0) (T := ∅)
      (by rw [Nat.zero_add, hN, expect_send])) $$ [Hc HO Hat]
  · isplitr; · iexact HI
    isplitl [Hc]; · rw [hN]; iexact Hc
    isplitl [HO]; · iexact HO
    isplitr; · iapply (mayWait_send k s); iexact HL
    iexact Hat
  iintro ⟨HO, Hat, -, Hpay⟩
  imod (Rounds.cell_close ER (cubeRd xa xb) (Set.mem_univ (K (c, some (false, k, s)))) (fun h => h) (R := 0 + 1) (duties_later xa xb (sendC c k s))) $$ [Hat] with Hz
  · isplitr; · iexact HI
    iexact Hat
  iapply Hk
  isplitl [HO]; · iexists _; iexact HO
  isplitl [Hz]; · iexact Hz
  iapply (Entails.of_eq (rest_send xa xb c k s)); iexact Hpay

end Cert.Cube

end
-- ==== Proof.Pieces.lean ====
/-
# The pieces of a part across a transfer

What leaves a part's state when a transfer starts, what comes back when it has left, and what arrives when it lands.
-/
module

public import proofs.«01_k».proof.Proof.Remote

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {T T' : Fin 3 → ℕ} {t : ℕ}

variable (k : Fin 3) {α : Type}

/-- The transfer of reduction stage `j`, and of gathering stage `j`. -/
def sRS (j : Fin 5) : Fin 10 := ⟨j.val, by omega⟩
def sAG (j : Fin 5) : Fin 10 := ⟨5 + j.val, by omega⟩

/-! ## Facts about the times -/

theorem sv_go : ∀ s i : Fin 10, if i = s then (sv (tsend s)).getD i 0 = 0 ∧ (sv (tsend s + 1)).getD i 0 = 1 else (sv (tsend s)).getD i 0 = (sv (tsend s + 1)).getD i 0 := by decide +kernel
theorem sv_done : ∀ s i : Fin 10, if i = s then (sv (tws s)).getD i 0 = 1 ∧ (sv (tws s + 1)).getD i 0 = 2 else (sv (tws s)).getD i 0 = (sv (tws s + 1)).getD i 0 := by decide +kernel
theorem rv_done : ∀ s i : Fin 10, if i = s then (rv (trecv s)).getD i false = true ∧ (rv (trecv s + 1)).getD i false = false
    else (rv (trecv s)).getD i false = (rv (trecv s + 1)).getD i false := by decide +kernel

theorem go_same : ∀ s : Fin 10, levv (tsend s + 1) = levv (tsend s) ∧ ownRv (tsend s + 1) = ownRv (tsend s) ∧ gfull (tsend s + 1) = gfull (tsend s)
    ∧ outv (tsend s + 1) = outv (tsend s) ∧ rv (tsend s + 1) = rv (tsend s) := by decide +kernel
theorem goR_same : ∀ j : Fin 5, ownGv (tsend (sRS j) + 1) 0 = ownGv (tsend (sRS j)) 0 ∧ ownGv (tsend (sRS j) + 1) 1 = ownGv (tsend (sRS j)) 1
    ∧ ownGv (tsend (sRS j) + 1) 2 = ownGv (tsend (sRS j)) 2 := by decide +kernel
theorem goA_same : ∀ j : Fin 5, ownPv (tsend (sAG j) + 1) = ownPv (tsend (sAG j)) ∧ ownGv (tsend (sAG j) + 1) 2 = ownGv (tsend (sAG j)) 2
    ∧ ownGv (tsend (sAG j) + 1) ((j.val + 1) % 2) = ownGv (tsend (sAG j)) ((j.val + 1) % 2) ∧ gfull (tsend (sAG j)) = true := by decide +kernel
theorem ws_same : ∀ s : Fin 10, levv (tws s + 1) = levv (tws s) ∧ ownRv (tws s + 1) = ownRv (tws s) ∧ gfull (tws s + 1) = gfull (tws s)
    ∧ outv (tws s + 1) = outv (tws s) ∧ rv (tws s + 1) = rv (tws s) ∧ ∀ s' : Fin 10, tws s ≠ tsend s' := by decide +kernel
theorem wsR_same : ∀ j : Fin 5, ownGv (tws (sRS j) + 1) 0 = ownGv (tws (sRS j)) 0 ∧ ownGv (tws (sRS j) + 1) 1 = ownGv (tws (sRS j)) 1
    ∧ ownGv (tws (sRS j) + 1) 2 = ownGv (tws (sRS j)) 2 := by decide +kernel
theorem wsA_same : ∀ j : Fin 5, ownPv (tws (sAG j) + 1) = ownPv (tws (sAG j)) ∧ ownGv (tws (sAG j) + 1) 2 = ownGv (tws (sAG j)) 2
    ∧ ownGv (tws (sAG j) + 1) ((j.val + 1) % 2) = ownGv (tws (sAG j)) ((j.val + 1) % 2) := by decide +kernel
theorem rc_same : ∀ s : Fin 10, ownPv (trecv s + 1) = ownPv (trecv s) ∧ levv (trecv s + 1) = levv (trecv s) ∧ gfull (trecv s + 1) = gfull (trecv s)
    ∧ outv (trecv s + 1) = outv (trecv s) ∧ sv (trecv s + 1) = sv (trecv s) ∧ ∀ s' : Fin 10, trecv s ≠ tsend s' := by decide +kernel
theorem rcR_same : ∀ j : Fin 5, ownGv (trecv (sRS j) + 1) 0 = ownGv (trecv (sRS j)) 0 ∧ ownGv (trecv (sRS j) + 1) 1 = ownGv (trecv (sRS j)) 1
    ∧ ownGv (trecv (sRS j) + 1) 2 = ownGv (trecv (sRS j)) 2 := by decide +kernel
theorem rcA_same : ∀ j : Fin 5, ownRv (trecv (sAG j) + 1) = ownRv (trecv (sAG j)) := by decide +kernel

theorem lend_p : ∀ j : Fin 5, ∀ i : Fin 6, (ownPv (tsend (sRS j))).getD i false = ((ownPv (tsend (sRS j) + 1)).getD i false || decide (i.val = 5 - j.val))
    ∧ ((ownPv (tsend (sRS j) + 1)).getD i false && decide (i.val = 5 - j.val)) = false := by decide +kernel
theorem back_p : ∀ j : Fin 5, ∀ i : Fin 6, (ownPv (tws (sRS j) + 1)).getD i false = ((ownPv (tws (sRS j))).getD i false || decide (i.val = 5 - j.val))
    ∧ ((ownPv (tws (sRS j))).getD i false && decide (i.val = 5 - j.val)) = false := by decide +kernel
theorem land_r : ∀ j i : Fin 5, (ownRv (trecv (sRS j) + 1)).getD i false = ((ownRv (trecv (sRS j))).getD i false || decide (i.val = j.val))
    ∧ ((ownRv (trecv (sRS j))).getD i false && decide (i.val = j.val)) = false := by decide +kernel
theorem lend_g : ∀ j : Fin 5, ∀ i : Fin 6, (ownGv (tsend (sAG j)) (j.val % 2)).getD i false = ((ownGv (tsend (sAG j) + 1) (j.val % 2)).getD i false || decide (i.val ≤ j.val))
    ∧ ((ownGv (tsend (sAG j) + 1) (j.val % 2)).getD i false && decide (i.val ≤ j.val)) = false := by decide +kernel
theorem back_g : ∀ j : Fin 5, ∀ i : Fin 6, (ownGv (tws (sAG j) + 1) (j.val % 2)).getD i false = ((ownGv (tws (sAG j)) (j.val % 2)).getD i false || decide (i.val ≤ j.val))
    ∧ ((ownGv (tws (sAG j)) (j.val % 2)).getD i false && decide (i.val ≤ j.val)) = false := by decide +kernel
theorem land_g : ∀ j : Fin 5, ∀ q : Fin 3, ∀ i : Fin 6, (ownGv (trecv (sAG j) + 1) q).getD i false = ((ownGv (trecv (sAG j)) q).getD i false || decide (i.val = j.val + 1))
    ∧ ((ownGv (trecv (sAG j)) q).getD i false && decide (i.val = j.val + 1)) = false := by decide +kernel
theorem lev_go : ∀ j : Fin 5, ∀ u v : Fin 32, cls u v = 5 - j.val → lev u (levv (tsend (sRS j))) v = some j.val := by decide +kernel
theorem lev_ws : ∀ j : Fin 5, ∀ u v : Fin 32, cls u v = 5 - j.val → lev u (levv (tws (sRS j))) v = some j.val := by decide +kernel

/-! ## Rows by class -/

theorem cls_rows {a b : ℕ} (u : ℕ) {l l' : List Bool} {p : ℕ → Bool} (h : ∀ i : Fin 6, l.getD i false = (l'.getD i false || p i.val) ∧ (l'.getD i false && p i.val) = false) :
    (rows (fun v => l.getD (cls u v) false) : Finset (⟨2, ![a, b]⟩ : Shape).Idx) = rows (fun v => l'.getD (cls u v) false) ∪ rows (fun v => p (cls u v))
      ∧ Disjoint (rows (fun v => l'.getD (cls u v) false) : Finset (⟨2, ![a, b]⟩ : Shape).Idx) (rows (fun v => p (cls u v))) := by
  constructor
  · rw [← rows_or]
    unfold rows
    congr 1
    funext x
    exact congrArg (· = true) (h ⟨cls u _, cls_lt u _⟩).1
  · rw [Finset.disjoint_left]
    intro x h1 h2
    rw [mem_rows] at h1 h2
    have := (h ⟨cls u _, cls_lt u ((x 0).val / 64)⟩).2
    dsimp only at this
    rw [h1, h2] at this
    exact absurd this (by decide)
theorem reg_rows {a b : ℕ} {l l' : List Bool} {p : ℕ → Bool} (h : ∀ i : Fin 5, l.getD i false = (l'.getD i false || p i.val) ∧ (l'.getD i false && p i.val) = false) :
    (rows (fun v => l.getD (reg v) false) : Finset (⟨2, ![a, b]⟩ : Shape).Idx) = rows (fun v => l'.getD (reg v) false) ∪ rows (fun v => p (reg v))
      ∧ Disjoint (rows (fun v => l'.getD (reg v) false) : Finset (⟨2, ![a, b]⟩ : Shape).Idx) (rows (fun v => p (reg v))) := by
  constructor
  · rw [← rows_or]
    unfold rows
    congr 1
    funext x
    exact congrArg (· = true) (h ⟨reg _, reg_lt _⟩).1
  · rw [Finset.disjoint_left]
    intro x h1 h2
    rw [mem_rows] at h1 h2
    have := (h ⟨reg _, reg_lt ((x 0).val / 64)⟩).2
    dsimp only at this
    rw [h1, h2] at this
    exact absurd this (by decide)

theorem rows_box {a b n N : ℕ} (ha : a = 64 * N) {off : Fin 2 → ℕ} {o : ℕ} (hoff : off = ![64 * o, 0]) {p : ℕ → Bool}
    (inb : ∀ i : Fin 2, off i + (![64 * n, b] : Fin 2 → ℕ) i ≤ (![a, b] : Fin 2 → ℕ) i)
    (hp : ∀ v, v < N → (decide (o ≤ v) && decide (v < o + n)) = p v) :
    (rows p : Finset (⟨2, ![a, b]⟩ : Shape).Idx) = (Rect.unit (s := ⟨2, ![a, b]⟩) off ![64 * n, b] inb).set := by
  ext x
  rw [mem_rows, mem_box hoff inb x, ← hp _ (chunk_lt N ha x), Bool.and_eq_true, decide_eq_true_eq, decide_eq_true_eq]
  exact ⟨fun h => ⟨h, Nat.zero_le _, by have := col_lt x; omega⟩, fun h => h.1⟩

/-! ## The pieces across an event -/

theorem sToks_split (s : Fin 10) {l l' : List ℕ} (h : ∀ i : Fin 10, i ≠ s → l.getD i 0 = l'.getD i 0) :
    (sToks k c l : sProp 𝕄) ⊢ iprop(sTok k c s (l.getD s 0) ∗ (sTok k c s (l'.getD s 0) -∗ sToks k c l')) := by
  unfold sToks
  rw [bigSep_univ_at _ s, bigSep_univ_at (fun s : Fin 10 => (sTok k c s (l'.getD s 0) : sProp 𝕄)) s,
    show (bigSep (Finset.univ.erase s) fun s : Fin 10 => (sTok k c s (l'.getD s 0) : sProp 𝕄)) = bigSep (Finset.univ.erase s) fun s : Fin 10 => sTok k c s (l.getD s 0) from
      bigSep_congr fun i hi => by rw [h i (Finset.ne_of_mem_erase hi)]]
  iintro ⟨H, HR⟩
  isplitl [H]; · iexact H
  iintro H
  isplitl [H] <;> iassumption
theorem rToks_split (s : Fin 10) {l l' : List Bool} (h : ∀ i : Fin 10, i ≠ s → l.getD i false = l'.getD i false) :
    (rToks k c l : sProp 𝕄) ⊢ iprop(rTok k c s (l.getD s false) ∗ (rTok k c s (l'.getD s false) -∗ rToks k c l')) := by
  unfold rToks
  rw [bigSep_univ_at _ s, bigSep_univ_at (fun s : Fin 10 => (rTok k c s (l'.getD s false) : sProp 𝕄)) s,
    show (bigSep (Finset.univ.erase s) fun s : Fin 10 => (rTok k c s (l'.getD s false) : sProp 𝕄)) = bigSep (Finset.univ.erase s) fun s : Fin 10 => rTok k c s (l.getD s false) from
      bigSep_congr fun i hi => by rw [h i (Finset.ne_of_mem_erase hi)]]
  iintro ⟨H, HR⟩
  isplitl [H]; · iexact H
  iintro H
  isplitl [H] <;> iassumption

theorem sToks_go (s : Fin 10) : (sToks k c (sv (tsend s)) : sProp 𝕄)
    ⊢ iprop((dutyTok ER (sendC c k s) 0 0 ∗ dutyTok ER (recvC (px k s c) k s) 0 0 ∗ atPos ER (sendC c k s) 0 ∅ 0 ∗ landG (px k s c) k s)
      ∗ ((cred (tallyAt (sendC c k s) () (amt k s)) ∗ atPos ER (sendC c k s) 0 ∅ 0) -∗ sToks k c (sv (tsend s + 1)))) := by
  refine (sToks_split k s (l' := sv (tsend s + 1)) fun i hi => ?_).trans (Entails.of_eq ?_)
  · have := sv_go s i; rw [if_neg hi] at this; exact this
  · have := sv_go s s; rw [if_pos rfl] at this; rw [this.1, this.2]; rfl
theorem sToks_done (s : Fin 10) : (sToks k c (sv (tws s)) : sProp 𝕄)
    ⊢ iprop((cred (tallyAt (sendC c k s) () (amt k s)) ∗ atPos ER (sendC c k s) 0 ∅ 0) ∗ (semVal (sendC c k s) 0 -∗ sToks k c (sv (tws s + 1)))) := by
  refine (sToks_split k s (l' := sv (tws s + 1)) fun i hi => ?_).trans (Entails.of_eq ?_)
  · have := sv_done s i; rw [if_neg hi] at this; exact this
  · have := sv_done s s; rw [if_pos rfl] at this; rw [this.1, this.2]; rfl
theorem rToks_done (s : Fin 10) : (rToks k c (rv (trecv s)) : sProp 𝕄)
    ⊢ iprop((cred (tallyAt (recvC c k s) () (amt k s)) ∗ atPos ER (recvC c k s) 0 ∅ 0) ∗ (semVal (recvC c k s) 0 -∗ rToks k c (rv (trecv s + 1)))) := by
  refine (rToks_split k s (l' := rv (trecv s + 1)) fun i hi => ?_).trans (Entails.of_eq ?_)
  · have := rv_done s i; rw [if_neg hi] at this; exact this
  · have := rv_done s s; rw [if_pos rfl] at this; rw [this.1, this.2]; rfl

theorem sRS_lt (j : Fin 5) : (sRS j).val < 5 := j.isLt
theorem sAG_ge (j : Fin 5) : ¬(sAG j).val < 5 := by simp only [sAG]; omega

theorem pP_lend (j : Fin 5) : pP xa xb k c (ownPv (tsend (sRS j))) (levv (tsend (sRS j)))
    ⊢ iprop(pP xa xb k c (ownPv (tsend (sRS j) + 1)) (levv (tsend (sRS j) + 1))
      ∗ holds c (pM k) (rows fun v => decide (cls (uu k c) v = 5 - j.val)) fullShare (fun x v => v = S xa xb k j.val c (x 0).val (x 1).val)) := by
  obtain ⟨h1, h2⟩ := cls_rows (a := 2048) (b := W k) (uu k c) (p := fun i => decide (i = 5 - j.val)) (lend_p j)
  rw [(go_same (sRS j)).1]
  unfold pP
  rw [h1]
  refine (holds_split h2).trans ?_
  iintro ⟨H1, H2⟩
  isplitl [H1]; · iexact H1
  iapply (holds_mono (R := relP xa xb k c (levv (tsend (sRS j)))) fun x hx v hv =>
    hv _ (lev_go j (uF k c) ⟨_, chunk_lt 32 rfl x⟩ (of_decide_eq_true (mem_rows.mp hx)))); iexact H2
theorem pP_back (j : Fin 5) : iprop(pP xa xb k c (ownPv (tws (sRS j))) (levv (tws (sRS j))) ∗ sendP xa xb c k (sRS j))
    ⊢ pP xa xb k c (ownPv (tws (sRS j) + 1)) (levv (tws (sRS j) + 1)) := by
  obtain ⟨h1, h2⟩ := cls_rows (a := 2048) (b := W k) (uu k c) (p := fun i => decide (i = 5 - j.val)) (back_p j)
  rw [(ws_same (sRS j)).1]
  unfold pP sendP
  rw [h1, if_pos (sRS_lt j)]
  refine BIClass.entails_trans ?_ (holds_join h2)
  iintro ⟨H1, H2⟩
  isplitl [H1]; · iexact H1
  iapply (holds_mono (R := fun x v => v = S xa xb k (sRS j).val c (x 0).val (x 1).val) fun x hx v hv l hl => by
    have := lev_ws j (uF k c) ⟨_, chunk_lt 32 rfl x⟩ (of_decide_eq_true (mem_rows.mp hx))
    rw [← Option.some.inj (this.symm.trans hl)]
    exact hv); iexact H2
theorem rP_land (j : Fin 5) : iprop(rP xa xb k c (ownRv (trecv (sRS j))) ∗ landV xa xb c k (sRS j)) ⊢ rP xa xb k c (ownRv (trecv (sRS j) + 1)) := by
  obtain ⟨h1, h2⟩ := reg_rows (a := 1984) (b := W k) (p := fun i => decide (i = j.val)) (land_r j)
  unfold rP landV
  rw [h1, if_pos (sRS_lt j)]
  exact holds_join h2

/-- The three shares of the gathered rows. -/
def g3 (k : Fin 3) (c : Dev nD) (t : ℕ) : sProp 𝕄 :=
  iprop(gP xa xb k c 0 (ownGv t 0) (gfull t) ∗ gP xa xb k c 1 (ownGv t 1) (gfull t) ∗ gP xa xb k c 2 (ownGv t 2) (gfull t))

theorem gP_lend (j : Fin 5) : gP xa xb k c (j.val % 2) (ownGv (tsend (sAG j)) (j.val % 2)) (gfull (tsend (sAG j)))
    ⊢ iprop(gP xa xb k c (j.val % 2) (ownGv (tsend (sAG j) + 1) (j.val % 2)) (gfull (tsend (sAG j) + 1))
      ∗ holds c (gM k) (rows fun v => decide (cls (uu k c) v ≤ j.val)) (qS (j.val % 2)) (fun x v => v = G xa xb k (x 0).val (x 1).val)) := by
  obtain ⟨h1, h2⟩ := cls_rows (a := 2048) (b := W k) (uu k c) (p := fun i => decide (i ≤ j.val)) (lend_g j)
  rw [(go_same (sAG j)).2.2.1, (goA_same j).2.2.2]
  unfold gP
  rw [h1]
  refine (holds_split h2).trans ?_
  iintro ⟨H1, H2⟩
  isplitl [H1]; · iexact H1
  iapply (holds_mono (R := relG xa xb k true) fun x hx v hv => hv rfl); iexact H2
theorem gP_back (j : Fin 5) : iprop(gP xa xb k c (j.val % 2) (ownGv (tws (sAG j)) (j.val % 2)) (gfull (tws (sAG j))) ∗ sendP xa xb c k (sAG j))
    ⊢ gP xa xb k c (j.val % 2) (ownGv (tws (sAG j) + 1) (j.val % 2)) (gfull (tws (sAG j) + 1)) := by
  obtain ⟨h1, h2⟩ := cls_rows (a := 2048) (b := W k) (uu k c) (p := fun i => decide (i ≤ j.val)) (back_g j)
  rw [(ws_same (sAG j)).2.2.1]
  unfold gP sendP
  rw [h1, if_neg (sAG_ge j), show (sAG j).val - 5 = j.val from Nat.add_sub_cancel_left 5 j.val]
  refine BIClass.entails_trans ?_ (holds_join h2)
  iintro ⟨H1, H2⟩
  isplitl [H1]; · iexact H1
  iapply (holds_mono (R := fun x v => v = G xa xb k (x 0).val (x 1).val) (R' := relG xa xb k (gfull (tws (sAG j)))) fun x hx v hv _ => hv); iexact H2
theorem gP_land1 (j : Fin 5) (q : Fin 3) : iprop(gP xa xb k c q (ownGv (trecv (sAG j)) q) (gfull (trecv (sAG j)))
      ∗ holds c (gM k) (rows fun v => decide (cls (uu k c) v = j.val + 1)) (qS q) (fun x v => v = G xa xb k (x 0).val (x 1).val))
    ⊢ gP xa xb k c q (ownGv (trecv (sAG j) + 1) q) (gfull (trecv (sAG j) + 1)) := by
  obtain ⟨h1, h2⟩ := cls_rows (a := 2048) (b := W k) (uu k c) (p := fun i => decide (i = j.val + 1)) (land_g j q)
  rw [(rc_same (sAG j)).2.2.1]
  unfold gP
  rw [h1]
  refine BIClass.entails_trans ?_ (holds_join h2)
  iintro ⟨H1, H2⟩
  isplitl [H1]; · iexact H1
  iapply (holds_mono (R := fun x v => v = G xa xb k (x 0).val (x 1).val) (R' := relG xa xb k (gfull (trecv (sAG j)))) fun x hx v hv _ => hv); iexact H2
theorem g3_land (j : Fin 5) : iprop(g3 (xa := xa) (xb := xb) k c (trecv (sAG j)) ∗ landV xa xb c k (sAG j)) ⊢ g3 (xa := xa) (xb := xb) k c (trecv (sAG j) + 1) := by
  unfold g3 landV
  rw [if_neg (sAG_ge j), show (sAG j).val - 4 = j.val + 1 by simp only [sAG]; omega]
  iintro ⟨⟨H0, H1, H2⟩, HL⟩
  ihave ⟨HL0, HL1, HL2⟩ := (holds_three k) $$ HL
  isplitl [H0 HL0]
  · iapply (gP_land1 k j 0)
    isplitl [H0]; · iexact H0
    iexact HL0
  isplitl [H1 HL1]
  · iapply (gP_land1 k j 1)
    isplitl [H1]; · iexact H1
    iexact HL1
  · iapply (gP_land1 k j 2)
    isplitl [H2]; · iexact H2
    iexact HL2
theorem g3_lend (j : Fin 5) : g3 (xa := xa) (xb := xb) k c (tsend (sAG j)) ⊢ iprop(g3 (xa := xa) (xb := xb) k c (tsend (sAG j) + 1)
      ∗ holds c (gM k) (rows fun v => decide (cls (uu k c) v ≤ j.val)) (qS (j.val % 2)) (fun x v => v = G xa xb k (x 0).val (x 1).val)) := by
  unfold g3
  obtain ⟨-, h2, h3, -⟩ := goA_same j
  have hl := gP_lend (xa := xa) (xb := xb) (c := c) k j
  have hf := (go_same (sAG j)).2.2.1
  rcases Nat.mod_two_eq_zero_or_one j.val with hj | hj
  · rw [show (j.val + 1) % 2 = 1 by omega] at h3
    rw [hj] at hl ⊢
    iintro ⟨H0, H1, H2⟩
    ihave ⟨H0, HL⟩ := hl $$ H0
    isplitr [HL]
    · isplitl [H0]; · iexact H0
      rw [hf, h2, h3]
      isplitl [H1] <;> iassumption
    iexact HL
  · rw [show (j.val + 1) % 2 = 0 by omega] at h3
    rw [hj] at hl ⊢
    iintro ⟨H0, H1, H2⟩
    ihave ⟨H1, HL⟩ := hl $$ H1
    isplitr [HL]
    · isplitl [H0]; · rw [hf, h3]; iexact H0
      isplitl [H1]; · iexact H1
      rw [hf, h2]; iexact H2
    iexact HL
theorem g3_back (j : Fin 5) : iprop(g3 (xa := xa) (xb := xb) k c (tws (sAG j)) ∗ sendP xa xb c k (sAG j)) ⊢ g3 (xa := xa) (xb := xb) k c (tws (sAG j) + 1) := by
  unfold g3
  obtain ⟨-, h2, h3⟩ := wsA_same j
  have hl := gP_back (xa := xa) (xb := xb) (c := c) k j
  have hf := (ws_same (sAG j)).2.2.1
  rcases Nat.mod_two_eq_zero_or_one j.val with hj | hj
  · rw [show (j.val + 1) % 2 = 1 by omega] at h3
    rw [hj] at hl
    iintro ⟨⟨H0, H1, H2⟩, HL⟩
    isplitl [H0 HL]
    · iapply hl
      isplitl [H0]; · iexact H0
      iexact HL
    rw [hf, h2, h3]
    isplitl [H1] <;> iassumption
  · rw [show (j.val + 1) % 2 = 0 by omega] at h3
    rw [hj] at hl
    iintro ⟨⟨H0, H1, H2⟩, HL⟩
    isplitl [H0]; · rw [hf, h3]; iexact H0
    isplitl [H1 HL]
    · iapply hl
      isplitl [H1]; · iexact H1
      iexact HL
    rw [hf, h2]; iexact H2

theorem PSt_eq : PSt xa xb k c t = iprop(pP xa xb k c (ownPv t) (levv t) ∗ rP xa xb k c (ownRv t) ∗ g3 (xa := xa) (xb := xb) k c t
    ∗ oP xa xb k c (outv t) ∗ sToks k c (sv t) ∗ rToks k c (rv t)) := rfl

theorem g3_same (h0 : ownGv (t + 1) 0 = ownGv t 0) (h1 : ownGv (t + 1) 1 = ownGv t 1) (h2 : ownGv (t + 1) 2 = ownGv t 2) (hf : gfull (t + 1) = gfull t) :
    g3 (xa := xa) (xb := xb) k c (t + 1) = g3 (xa := xa) (xb := xb) k c t := by unfold g3; rw [h0, h1, h2, hf]

end Cert.Cube

end
-- ==== Proof.Xfer.lean ====
/-
# The steps of a transfer

Starting a transfer, awaiting its landing and awaiting its departure, each as one step of the whole state.
-/
module

public import proofs.«01_k».proof.Proof.Pieces

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {T T' : Fin 3 → ℕ} {t : ℕ}

variable (k : Fin 3) {α : Type}

/-- What a landing region holds once stage `j` has been written there. -/
theorem rsG_at (j : Fin 5) {y0 : ℕ} (hy : y0 < 64 * nch j) (w : ℕ) :
    rsG xa xb k (px k j c) (64 * rof j + y0) w = S xa xb k j c (64 * soff (uu k c) j + y0) w := by
  have hr : reg ((64 * rof j + y0) / 64) = j.val := by
    have hlt : (64 * rof j + y0) / 64 < 31 := by
      have : ∀ j : Fin 5, rof j + nch j ≤ 31 := by decide
      have := this j; omega
    have := reg_rof ⟨_, hlt⟩ j
    simp only [show decide (rof j ≤ (64 * rof j + y0) / 64) = true from decide_eq_true (by omega),
      show decide ((64 * rof j + y0) / 64 < rof j + nch j) = true from decide_eq_true (by omega), Bool.and_self] at this
    exact of_decide_eq_true this.symm
  have hpp : px k j.val (px k j.val c) = c := px_px k (sRS j) c
  have hu : uu k (px k j.val c) = uu k c ^^^ 2 ^ (4 - j.val) := by
    have := uu_px k (sRS j) c
    rw [if_pos (sRS_lt j)] at this
    exact this
  have hn : nb (uu k c ^^^ 2 ^ (4 - j.val)) j = soff (uu k c) j := nb_partner (uF k c) j
  unfold rsG
  rw [hr, hpp, hu, hn, Nat.add_sub_cancel_left]

theorem step_sendRS {Q : α → sProp 𝕄} (j : Fin 5) {n : ℕ} (hnch : n = nch j) {nd : Dev nD} (hn : nd = px k j.val c)
    (hT : T k = tsend (sRS j)) (hT' : ∀ i, T' i = if i = k then tsend (sRS j) + 1 else T i)
    {off off' : Fin 2 → ℕ} (hoff : off = ![64 * soff (uu k c) j, 0]) (hoff' : off' = ![64 * rof j, 0])
    {inb : ∀ i : Fin 2, off i + (![64 * n, W k] : Fin 2 → ℕ) i ≤ (![2048, W k] : Fin 2 → ℕ) i}
    {inb' : ∀ i : Fin 2, off' i + (![64 * n, W k] : Fin 2 → ℕ) i ≤ (![1984, W k] : Fin 2 → ℕ) i}
    {hr : ∀ a, (Rect.unit (s := ⟨2, ![2048, W k]⟩) off ![64 * n, W k] inb).stride a = 1}
    {hr' : ∀ a, (Rect.unit (s := ⟨2, ![1984, W k]⟩) off' ![64 * n, W k] inb').stride a = 1}
    {sS rS : DmaSem sig} (hsS : sS = sq k (sRS j)) (hrS : rS = rq k (sRS j))
    (hN : ((rsM k).slice (Rect.unit (s := ⟨2, ![1984, W k]⟩) off' ![64 * n, W k] inb') hr').view.dmaCredit = amt k (sRS j))
    {hsc : ((rsM k).slice (Rect.unit (s := ⟨2, ![1984, W k]⟩) off' ![64 * n, W k] inb') hr' : Memref sig (Dev.tc nd : Thread nD τ).2.kind .vmem _ .bf16).view.ref.isScScratch = false}
    {hsrc : ((pM k).slice (Rect.unit (s := ⟨2, ![2048, W k]⟩) off ![64 * n, W k] inb) hr).view.WordExact}
    {hdst : ((rsM k).slice (Rect.unit (s := ⟨2, ![1984, W k]⟩) off' ![64 * n, W k] inb') hr').view.WordExact}
    {hsem : DmaTarget.Typed .vmem (.dma rS) (.remote (Dev.tc nd : Thread nD τ) ((rsM k).slice (Rect.unit (s := ⟨2, ![1984, W k]⟩) off' ![64 * n, W k] inb') hr' : Memref sig (Dev.tc nd : Thread nD τ).2.kind .vmem _ .bf16) (.dma sS) hsc)}
    {kk : PUnit → Prog (TpuEff nD τ sig (Elt F) Λ₀ .tc) α}
    (h : St xa xb K c T' ⊢ wpc c (kk ⟨⟩) Q) :
    St xa xb K c T ⊢ wpc c (Prog.lift (.enqueueDma ((pM k).slice (Rect.unit (s := ⟨2, ![2048, W k]⟩) off ![64 * n, W k] inb) hr)
              (.remote (Dev.tc nd : Thread nD τ) ((rsM k).slice (Rect.unit (s := ⟨2, ![1984, W k]⟩) off' ![64 * n, W k] inb') hr') (.dma sS) hsc) (.dma rS) hsrc hdst hsem) >>= kk) Q := by
  rw [St_split k T, hT]
  obtain ⟨e1, e2, e3, e4, e5⟩ := go_same (sRS j)
  obtain ⟨f0, f1, f2⟩ := goR_same j
  subst hnch
  unfold Cm
  rw [PSt_eq]
  iintro ⟨⟨⟨HLv, #Hrecs⟩, Ha, Hb, ⟨%Wt, HO⟩⟩, ⟨Hp, Hr, Hg, Ho, Hs, Hrt⟩, HR⟩
  ihave ⟨Hp, Hsrc⟩ := (pP_lend k j) $$ Hp
  ihave ⟨⟨Ht1, Ht2, Hat, Hdst⟩, Hs⟩ := (sToks_go k (sRS j)) $$ Hs
  iapply (holds_send k (sRS j) hn (xa := xa) (xb := xb) (K := K)
    (I := rows fun v => decide (cls (uu k c) v = 5 - j.val)) (I' := rows fun i => decide (reg i = j.val))
    (rows_box (n := nch j) (N := 32) rfl hoff inb fun v hv => soff_cls (uF k c) ⟨v, hv⟩ j)
    (rows_box (n := nch j) (N := 31) rfl hoff' inb' fun v hv => reg_rof ⟨v, hv⟩ j)
    (R := fun x v => v = S xa xb k j.val c (x 0).val (x 1).val)
    (R' := fun x v => v = rsG xa xb k (px k j.val c) (x 0).val (x 1).val)
    (R'' := fun _ _ => True)
    (fun y v hv => by
      obtain ⟨h0, l0, h1, -, -, -⟩ := box_row hoff inb y
      obtain ⟨h0', -, h1', -, -, -⟩ := box_row hoff' inb' y
      rw [h0', h1', Nat.zero_add, rsG_at k j l0]
      rw [h0, h1, Nat.zero_add] at hv
      exact hv)
    hsS hrS hN (owe_send k (sRS j) hT hT')
    (by unfold sendP; rw [if_pos (sRS_lt j)]; exact Entails.of_eq rfl)
    (by unfold landV; rw [if_pos (sRS_lt j)]; exact Entails.of_eq rfl)) $$ [Hsrc Hdst HO Ht1 Ht2]
  · isplitr; · iexact Hrecs
    isplitl [Hsrc]; · iexact Hsrc
    isplitl [Hdst]
    · iapply (Entails.of_eq (show landG (F := F) (px k (sRS j).val c) k (sRS j) = holds (px k j.val c) (rsM k) (rows fun i => decide (reg i = j.val)) fullShare (fun _ _ => True) from if_pos (sRS_lt j))); iexact Hdst
    isplitl [HO]; · iexact HO
    isplitl [Ht1] <;> iassumption
  iintro ⟨Hc, HO⟩
  iapply h
  rw [St_split k T', rest_same hT', show T' k = tsend (sRS j) + 1 by rw [hT' k, if_pos rfl]]
  unfold Cm
  isplitl [HLv Ha Hb HO]
  · isplitl [HLv]
    · isplitl [HLv]; · iexact HLv
      iexact Hrecs
    isplitl [Ha]; · iexact Ha
    isplitl [Hb]; · iexact Hb
    iexists Wt
    iexact HO
  isplitr [HR]
  · rw [PSt_eq, e2, e4, e5, g3_same k f0 f1 f2 e3]
    isplitl [Hp]; · iexact Hp
    isplitl [Hr]; · iexact Hr
    isplitl [Hg]; · iexact Hg
    isplitl [Ho]; · iexact Ho
    isplitr [Hrt]
    · iapply Hs
      isplitl [Hc] <;> iassumption
    iexact Hrt
  iexact HR

/-- The words of a gathering transfer: the view is the same on both sides. -/
theorem step_sendAG {Q : α → sProp 𝕄} (j : Fin 5) {n : ℕ} (hnch : n = 2 ^ j.val) {nd : Dev nD} (hn : nd = px k (sAG j).val c)
    (hT : T k = tsend (sAG j)) (hT' : ∀ i, T' i = if i = k then tsend (sAG j) + 1 else T i)
    {off off' : Fin 2 → ℕ} (hoff : off = ![64 * (uu k c / 2 ^ j.val * 2 ^ j.val), 0]) (hoff' : off' = ![64 * (uu k c / 2 ^ j.val * 2 ^ j.val), 0])
    {inb : ∀ i : Fin 2, off i + (![64 * n, W k] : Fin 2 → ℕ) i ≤ (![2048, W k] : Fin 2 → ℕ) i}
    {inb' : ∀ i : Fin 2, off' i + (![64 * n, W k] : Fin 2 → ℕ) i ≤ (![2048, W k] : Fin 2 → ℕ) i}
    {hr : ∀ a, (Rect.unit (s := ⟨2, ![2048, W k]⟩) off ![64 * n, W k] inb).stride a = 1}
    {hr' : ∀ a, (Rect.unit (s := ⟨2, ![2048, W k]⟩) off' ![64 * n, W k] inb').stride a = 1}
    {sS rS : DmaSem sig} (hsS : sS = sq k (sAG j)) (hrS : rS = rq k (sAG j))
    (hN : ((gM k).slice (Rect.unit (s := ⟨2, ![2048, W k]⟩) off' ![64 * n, W k] inb') hr').view.dmaCredit = amt k (sAG j))
    {hsc : ((gM k).slice (Rect.unit (s := ⟨2, ![2048, W k]⟩) off' ![64 * n, W k] inb') hr' : Memref sig (Dev.tc nd : Thread nD τ).2.kind .vmem _ .bf16).view.ref.isScScratch = false}
    {hsrc : ((gM k).slice (Rect.unit (s := ⟨2, ![2048, W k]⟩) off ![64 * n, W k] inb) hr).view.WordExact}
    {hdst : ((gM k).slice (Rect.unit (s := ⟨2, ![2048, W k]⟩) off' ![64 * n, W k] inb') hr').view.WordExact}
    {hsem : DmaTarget.Typed .vmem (.dma rS) (.remote (Dev.tc nd : Thread nD τ) ((gM k).slice (Rect.unit (s := ⟨2, ![2048, W k]⟩) off' ![64 * n, W k] inb') hr' : Memref sig (Dev.tc nd : Thread nD τ).2.kind .vmem _ .bf16) (.dma sS) hsc)}
    {kk : PUnit → Prog (TpuEff nD τ sig (Elt F) Λ₀ .tc) α}
    (h : St xa xb K c T' ⊢ wpc c (kk ⟨⟩) Q) :
    St xa xb K c T ⊢ wpc c (Prog.lift (.enqueueDma ((gM k).slice (Rect.unit (s := ⟨2, ![2048, W k]⟩) off ![64 * n, W k] inb) hr)
              (.remote (Dev.tc nd : Thread nD τ) ((gM k).slice (Rect.unit (s := ⟨2, ![2048, W k]⟩) off' ![64 * n, W k] inb') hr') (.dma sS) hsc) (.dma rS) hsrc hdst hsem) >>= kk) Q := by
  rw [St_split k T, hT]
  obtain ⟨e1, e2, e3, e4, e5⟩ := go_same (sAG j)
  obtain ⟨f0, -, -, -⟩ := goA_same j
  subst hnch
  have hu : uu k (px k (sAG j).val c) = uu k c ^^^ 2 ^ j.val := by
    have := uu_px k (sAG j) c
    rw [if_neg (sAG_ge j), show (sAG j).val - 5 = j.val from Nat.add_sub_cancel_left 5 j.val] at this
    exact this
  have h4 : (sAG j).val - 4 = j.val + 1 := by simp only [sAG]; omega
  unfold Cm
  rw [PSt_eq]
  iintro ⟨⟨⟨HLv, #Hrecs⟩, Ha, Hb, ⟨%Wt, HO⟩⟩, ⟨Hp, Hr, Hg, Ho, Hs, Hrt⟩, HR⟩
  ihave ⟨Hg, Hsrc⟩ := (g3_lend k j) $$ Hg
  ihave ⟨⟨Ht1, Ht2, Hat, Hdst⟩, Hs⟩ := (sToks_go k (sAG j)) $$ Hs
  iapply (holds_send k (sAG j) hn (xa := xa) (xb := xb) (K := K)
    (I := rows fun v => decide (cls (uu k c) v ≤ j.val)) (I' := rows fun v => decide (cls (uu k (px k (sAG j).val c)) v = j.val + 1))
    (rows_box (n := 2 ^ j.val) (N := 32) rfl hoff inb fun v hv => gat_cls (uF k c) ⟨v, hv⟩ j)
    (rows_box (n := 2 ^ j.val) (N := 32) rfl hoff' inb' fun v hv => by rw [hu]; exact (gat_cls (uF k c) ⟨v, hv⟩ j).trans (cls_partner_g (uF k c) ⟨v, hv⟩ j))
    (R := fun x v => v = G xa xb k (x 0).val (x 1).val)
    (R' := fun x v => v = G xa xb k (x 0).val (x 1).val)
    (R'' := fun _ _ => True)
    (fun y v hv => by
      obtain ⟨h0, l0, h1, -, -, -⟩ := box_row hoff inb y
      obtain ⟨h0', -, h1', -, -, -⟩ := box_row hoff' inb' y
      rw [h0', h1']
      rw [h0, h1] at hv
      exact hv)
    hsS hrS hN (owe_send k (sAG j) hT hT')
    (by unfold sendP; rw [if_neg (sAG_ge j), show (sAG j).val - 5 = j.val from Nat.add_sub_cancel_left 5 j.val])
    (by unfold landV; rw [if_neg (sAG_ge j), h4])) $$ [Hsrc Hdst HO Ht1 Ht2]
  · isplitr; · iexact Hrecs
    isplitl [Hsrc]; · iexact Hsrc
    isplitl [Hdst]
    · iapply (Entails.of_eq (show landG (F := F) (px k (sAG j).val c) k (sAG j) = _ by unfold landG; rw [if_neg (sAG_ge j), h4])); iexact Hdst
    isplitl [HO]; · iexact HO
    isplitl [Ht1] <;> iassumption
  iintro ⟨Hc, HO⟩
  iapply h
  rw [St_split k T', rest_same hT', show T' k = tsend (sAG j) + 1 by rw [hT' k, if_pos rfl]]
  unfold Cm
  isplitl [HLv Ha Hb HO]
  · isplitl [HLv]
    · isplitl [HLv]; · iexact HLv
      iexact Hrecs
    isplitl [Ha]; · iexact Ha
    isplitl [Hb]; · iexact Hb
    iexists Wt
    iexact HO
  isplitr [HR]
  · rw [PSt_eq, f0, e1, e2, e4, e5]
    isplitl [Hp]; · iexact Hp
    isplitl [Hr]; · iexact Hr
    isplitl [Hg]; · iexact Hg
    isplitl [Ho]; · iexact Ho
    isplitr [Hrt]
    · iapply Hs
      isplitl [Hc] <;> iassumption
    iexact Hrt
  iexact HR

section Wait

variable {s₁ s₂ : Shape} {src : Memref sig .tc .vmem s₁ .bf16} {dst : Memref sig .tc .vmem s₂ .bf16} {rS : DmaSem sig}
  {hsrc : src.view.WordExact} {hdst : dst.view.WordExact} {kk : PUnit → Prog (TpuEff nD τ sig (Elt F) Λ₀ .tc) α}

/-- The wait for the landing of reduction stage `j`. -/
theorem step_recvRS {Q : α → sProp 𝕄} (j : Fin 5) (hm : ∀ (k' : Fin 3) (s' : Fin 10), T k' ≤ tsend s' → (sRS j).val < s'.val)
    (hT : T k = trecv (sRS j)) (hT' : ∀ i, T' i = if i = k then trecv (sRS j) + 1 else T i)
    (hrS : rS = rq k (sRS j)) (hN : dst.view.dmaCredit = amt k (sRS j))
    (h : St xa xb K c T' ⊢ wpc c (kk ⟨⟩) Q) :
    St xa xb K c T ⊢ wpc c (Prog.lift (.waitDma2 rS src dst hsrc hdst) >>= kk) Q := by
  rw [St_split k T, hT]
  obtain ⟨e0, e1, e3, e4, e5, e6⟩ := rc_same (sRS j)
  obtain ⟨f0, f1, f2⟩ := rcR_same j
  have ho := owe_same (c := c) hT hT' e6
  unfold Cm
  rw [PSt_eq]
  iintro ⟨⟨⟨#HLv, #Hrecs⟩, Ha, Hb, ⟨%Wt, HO⟩⟩, ⟨Hp, Hr, Hg, Ho, Hs, Hrt⟩, HR⟩
  ihave ⟨⟨Hc, Hat⟩, Hrt⟩ := (rToks_done k (sRS j)) $$ Hrt
  iapply (holds_recv k (sRS j) hm hrS hN) $$ [HO Hc Hat]
  · isplitr
    · isplitr; · iexact HLv
      iexact Hrecs
    isplitl [HO]; · iexact HO
    isplitl [Hc] <;> iassumption
  iintro ⟨HO, Hz, Hpay⟩
  iapply h
  rw [St_split k T', rest_same hT', show T' k = trecv (sRS j) + 1 by rw [hT' k, if_pos rfl]]
  unfold Cm
  rw [ho]
  isplitl [Ha Hb HO]
  · isplitr
    · isplitr; · iexact HLv
      iexact Hrecs
    isplitl [Ha]; · iexact Ha
    isplitl [Hb]; · iexact Hb
    iexact HO
  isplitr [HR]
  · rw [PSt_eq, e0, e1, e4, e5, g3_same k f0 f1 f2 e3]
    isplitl [Hp]; · iexact Hp
    isplitl [Hr Hpay]
    · iapply (rP_land k j)
      isplitl [Hr] <;> iassumption
    isplitl [Hg]; · iexact Hg
    isplitl [Ho]; · iexact Ho
    isplitl [Hs]; · iexact Hs
    iapply Hrt; iexact Hz
  iexact HR

/-- The wait for the landing of gathering stage `j`. -/
theorem step_recvAG {Q : α → sProp 𝕄} (j : Fin 5) (hm : ∀ (k' : Fin 3) (s' : Fin 10), T k' ≤ tsend s' → (sAG j).val < s'.val)
    (hT : T k = trecv (sAG j)) (hT' : ∀ i, T' i = if i = k then trecv (sAG j) + 1 else T i)
    (hrS : rS = rq k (sAG j)) (hN : dst.view.dmaCredit = amt k (sAG j))
    (h : St xa xb K c T' ⊢ wpc c (kk ⟨⟩) Q) :
    St xa xb K c T ⊢ wpc c (Prog.lift (.waitDma2 rS src dst hsrc hdst) >>= kk) Q := by
  rw [St_split k T, hT]
  obtain ⟨e0, e1, e3, e4, e5, e6⟩ := rc_same (sAG j)
  have f0 := rcA_same j
  have ho := owe_same (c := c) hT hT' e6
  unfold Cm
  rw [PSt_eq]
  iintro ⟨⟨⟨#HLv, #Hrecs⟩, Ha, Hb, ⟨%Wt, HO⟩⟩, ⟨Hp, Hr, Hg, Ho, Hs, Hrt⟩, HR⟩
  ihave ⟨⟨Hc, Hat⟩, Hrt⟩ := (rToks_done k (sAG j)) $$ Hrt
  iapply (holds_recv k (sAG j) hm hrS hN) $$ [HO Hc Hat]
  · isplitr
    · isplitr; · iexact HLv
      iexact Hrecs
    isplitl [HO]; · iexact HO
    isplitl [Hc] <;> iassumption
  iintro ⟨HO, Hz, Hpay⟩
  iapply h
  rw [St_split k T', rest_same hT', show T' k = trecv (sAG j) + 1 by rw [hT' k, if_pos rfl]]
  unfold Cm
  rw [ho]
  isplitl [Ha Hb HO]
  · isplitr
    · isplitr; · iexact HLv
      iexact Hrecs
    isplitl [Ha]; · iexact Ha
    isplitl [Hb]; · iexact Hb
    iexact HO
  isplitr [HR]
  · rw [PSt_eq, e0, e1, e4, e5, f0]
    isplitl [Hp]; · iexact Hp
    isplitl [Hr]; · iexact Hr
    isplitl [Hg Hpay]
    · iapply (g3_land k j)
      isplitl [Hg] <;> iassumption
    isplitl [Ho]; · iexact Ho
    isplitl [Hs]; · iexact Hs
    iapply Hrt; iexact Hz
  iexact HR

/-- The wait for the departure of reduction stage `j`. -/
theorem step_sentRS {Q : α → sProp 𝕄} (j : Fin 5)
    (hT : T k = tws (sRS j)) (hT' : ∀ i, T' i = if i = k then tws (sRS j) + 1 else T i)
    (hrS : rS = sq k (sRS j)) (hN : dst.view.dmaCredit = amt k (sRS j))
    (h : St xa xb K c T' ⊢ wpc c (kk ⟨⟩) Q) :
    St xa xb K c T ⊢ wpc c (Prog.lift (.waitDma2 rS src dst hsrc hdst) >>= kk) Q := by
  rw [St_split k T, hT]
  obtain ⟨e1, e2, e3, e4, e5, e6⟩ := ws_same (sRS j)
  obtain ⟨f0, f1, f2⟩ := wsR_same j
  have ho := owe_same (c := c) hT hT' e6
  unfold Cm
  rw [PSt_eq]
  iintro ⟨⟨⟨#HLv, #Hrecs⟩, Ha, Hb, ⟨%Wt, HO⟩⟩, ⟨Hp, Hr, Hg, Ho, Hs, Hrt⟩, HR⟩
  ihave ⟨⟨Hc, Hat⟩, Hs⟩ := (sToks_done k (sRS j)) $$ Hs
  iapply (holds_sent k (sRS j) hrS hN) $$ [HO Hc Hat]
  · isplitr
    · isplitr; · iexact HLv
      iexact Hrecs
    isplitl [HO]; · iexact HO
    isplitl [Hc] <;> iassumption
  iintro ⟨HO, Hz, Hpay⟩
  iapply h
  rw [St_split k T', rest_same hT', show T' k = tws (sRS j) + 1 by rw [hT' k, if_pos rfl]]
  unfold Cm
  rw [ho]
  isplitl [Ha Hb HO]
  · isplitr
    · isplitr; · iexact HLv
      iexact Hrecs
    isplitl [Ha]; · iexact Ha
    isplitl [Hb]; · iexact Hb
    iexact HO
  isplitr [HR]
  · rw [PSt_eq, e2, e4, e5, g3_same k f0 f1 f2 e3]
    isplitl [Hp Hpay]
    · iapply (pP_back k j)
      isplitl [Hp] <;> iassumption
    isplitl [Hr]; · iexact Hr
    isplitl [Hg]; · iexact Hg
    isplitl [Ho]; · iexact Ho
    isplitl [Hs Hz]
    · iapply Hs; iexact Hz
    iexact Hrt
  iexact HR

/-- The wait for the departure of gathering stage `j`. -/
theorem step_sentAG {Q : α → sProp 𝕄} (j : Fin 5)
    (hT : T k = tws (sAG j)) (hT' : ∀ i, T' i = if i = k then tws (sAG j) + 1 else T i)
    (hrS : rS = sq k (sAG j)) (hN : dst.view.dmaCredit = amt k (sAG j))
    (h : St xa xb K c T' ⊢ wpc c (kk ⟨⟩) Q) :
    St xa xb K c T ⊢ wpc c (Prog.lift (.waitDma2 rS src dst hsrc hdst) >>= kk) Q := by
  rw [St_split k T, hT]
  obtain ⟨e1, e2, e3, e4, e5, e6⟩ := ws_same (sAG j)
  obtain ⟨f0, -, -⟩ := wsA_same j
  have ho := owe_same (c := c) hT hT' e6
  unfold Cm
  rw [PSt_eq]
  iintro ⟨⟨⟨#HLv, #Hrecs⟩, Ha, Hb, ⟨%Wt, HO⟩⟩, ⟨Hp, Hr, Hg, Ho, Hs, Hrt⟩, HR⟩
  ihave ⟨⟨Hc, Hat⟩, Hs⟩ := (sToks_done k (sAG j)) $$ Hs
  iapply (holds_sent k (sAG j) hrS hN) $$ [HO Hc Hat]
  · isplitr
    · isplitr; · iexact HLv
      iexact Hrecs
    isplitl [HO]; · iexact HO
    isplitl [Hc] <;> iassumption
  iintro ⟨HO, Hz, Hpay⟩
  iapply h
  rw [St_split k T', rest_same hT', show T' k = tws (sAG j) + 1 by rw [hT' k, if_pos rfl]]
  unfold Cm
  rw [ho]
  isplitl [Ha Hb HO]
  · isplitr
    · isplitr; · iexact HLv
      iexact Hrecs
    isplitl [Ha]; · iexact Ha
    isplitl [Hb]; · iexact Hb
    iexact HO
  isplitr [HR]
  · rw [PSt_eq, f0, e1, e2, e4, e5]
    isplitl [Hp]; · iexact Hp
    isplitl [Hr]; · iexact Hr
    isplitl [Hg Hpay]
    · iapply (g3_back k j)
      isplitl [Hg] <;> iassumption
    isplitl [Ho]; · iexact Ho
    isplitl [Hs Hz]
    · iapply Hs; iexact Hz
    iexact Hrt
  iexact HR

end Wait

end Cert.Cube

end
-- ==== Proof.Barrier.lean ====
/-
# The start of the kernel, and pieces of the walk through it

Six signals tell the partners that this device's landing regions are ready; one wait collects theirs. Then the rules
by which the program is walked part by part, and the values of the payloads it stores.
-/
module

public import proofs.«01_k».proof.Proof.Xfer

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {T T' : Fin 3 → ℕ} {t : ℕ}

variable {α : Type}

/-! ## Walking -/

theorem ret_step {P : sProp 𝕄} {Q : α → sProp 𝕄} {r : α} (h : P ⊢ Q r) : P ⊢ wpc c (pure r) Q := by
  rw [Prog.pure_eq_ret]
  exact h.trans (by rw [wpc, wp_ret]; exact fupd_intro)

theorem cut {β : Type} {P : sProp 𝕄} {Q : α → sProp 𝕄} {p : Prog (TpuEff nD τ sig (Elt F) Λ₀ .tc) β} {kk : β → Prog (TpuEff nD τ sig (Elt F) Λ₀ .tc) α}
    (h : P ⊢ wpc c p (fun r => wpc c (kk r) Q)) : P ⊢ wpc c (p >>= kk) Q := by
  rw [wpc, wp_bind]; exact h

theorem step_dev {P : sProp 𝕄} {Q : α → sProp 𝕄} {kk : Dev nD → Prog (TpuEff nD τ sig (Elt F) Λ₀ .tc) α} (h : P ⊢ wpc c (kk c) Q) :
    P ⊢ wpc c (Prog.lift .deviceId >>= kk) Q := by
  simp only [Prog.lift, Prog.bind_op, Prog.bind_ret, wp_deviceId]
  exact h

/-! ## The barrier -/

/-- Signals from the `n`-th on are still to be sent. -/
def barTok (xa : Dev nD → Vec F S2048x1024 .bf16) (xb : Dev nD → Vec F S1024x2048 .bf16) (c : Dev nD) (n : ℕ) (i : Fin 6) : sProp 𝕄 :=
  if n ≤ i.val then iprop(dutyTok ER (barC (mx i c)) 0 i ∗ barP (F := F) (mx i c) i) else iprop(emp)
def Bt (xa : Dev nD → Vec F S2048x1024 .bf16) (xb : Dev nD → Vec F S1024x2048 .bf16) (K : Dev nD × Option OK → ℕ) (R : sProp 𝕄) (c : Dev nD) (n : ℕ) : sProp 𝕄 :=
  iprop((levAts L lv ∗ recs xa xb K) ∗ (∃ W : Waits sig Unit, owes (c : Thread nD τ) (owe c (fun _ => 0) + oweB c n) W)
    ∗ (bigSep Finset.univ fun i : Fin 6 => barTok xa xb c n i) ∗ (cred (tallyAt (barC c) () 6) ∗ atPos ER (barC c) 0 ∅ 0) ∗ R)

theorem oweB_succ (i : Fin 6) : oweB c i.val = oweB c (i.val + 1) + tallyAt (barC (mx i c)) () 1 := by
  unfold oweB
  rw [← Finset.add_sum_erase _ _ (Finset.mem_univ i), ← Finset.add_sum_erase (a := i) _ (fun x : Fin 6 => if i.val + 1 ≤ x.val then tallyAt (barC (mx x c)) () 1 else 0) (Finset.mem_univ i)]
  rw [if_pos le_rfl, if_neg (by omega), zero_add, add_comm]
  congr 1
  refine Finset.sum_congr rfl fun x hx => ?_
  have hne : x.val ≠ i.val := fun h => Finset.ne_of_mem_erase hx (Fin.ext h)
  by_cases h : i.val ≤ x.val
  · rw [if_pos h, if_pos (by omega)]
  · rw [if_neg h, if_neg (by omega)]

theorem oweB_end : oweB c 6 = 0 := by
  unfold oweB
  exact Finset.sum_eq_zero fun i _ => if_neg (by have := i.isLt; omega)

theorem barTok_pop (i : Fin 6) : (bigSep Finset.univ fun x : Fin 6 => barTok xa xb c i.val x)
    ⊢ iprop((dutyTok ER (barC (mx i c)) 0 i ∗ barP (F := F) (mx i c) i) ∗ bigSep Finset.univ fun x : Fin 6 => barTok xa xb c (i.val + 1) x) := by
  rw [bigSep_univ_at (fun x : Fin 6 => barTok xa xb c i.val x) i, bigSep_univ_at (fun x : Fin 6 => barTok xa xb c (i.val + 1) x) i]
  rw [show barTok xa xb c i.val i = iprop(dutyTok ER (barC (mx i c)) 0 i ∗ barP (F := F) (mx i c) i) from if_pos le_rfl,
    show barTok xa xb c (i.val + 1) i = iprop(emp) from if_neg (by omega)]
  rw [bigSep_congr (s := Finset.univ.erase i) (Φ := fun x : Fin 6 => barTok xa xb c (i.val + 1) x) (Ψ := fun x : Fin 6 => barTok xa xb c i.val x) fun x hx => ?_]
  · iintro ⟨H1, H2⟩
    isplitl [H1]; · iexact H1
    isplitr; · iempintro
    iexact H2
  · have hne : x.val ≠ i.val := fun h => Finset.ne_of_mem_erase hx (Fin.ext h)
    unfold barTok
    by_cases h : i.val ≤ x.val
    · rw [if_pos h, if_pos (by omega)]
    · rw [if_neg h, if_neg (by omega)]

theorem step_signal {Q : α → sProp 𝕄} {R : sProp 𝕄} (i : Fin 6) {nd : Dev nD} (hn : nd = mx i c) {kk : PUnit → Prog (TpuEff nD τ sig (Elt F) Λ₀ .tc) α}
    (h : Bt xa xb K R c (i.val + 1) ⊢ wpc c (kk ⟨⟩) Q) : Bt xa xb K R c i.val ⊢ wpc c (semSignalWord nd barS 1#32 >>= kk) Q := by
  subst hn
  simp only [semSignalWord, Prog.bind_op, Prog.bind_ret]
  unfold Bt at h ⊢
  iintro ⟨⟨#HLv, #Hrecs⟩, ⟨%Wt, HO⟩, Ht, Hc, HR⟩
  ihave ⟨#HI, #HR1⟩ := (recs_bar xa xb K (mx i c)) $$ Hrecs
  ihave ⟨⟨Htok, Hpay⟩, Ht⟩ := (barTok_pop i) $$ Ht
  iapply (Rounds.wp_signal 𝒱₀ ER (cubeRd xa xb) (c : Thread nD τ) none (dst := ((mx i c : Dev nD) : Thread nD τ)) (κ := K (mx i c, none)) (d := i)
      (by rw [duties_bar]; exact Finset.mem_univ _) ((amount_bar xa xb (mx i c) i).trans (by decide)) () (O₀ := owe c (fun _ => 0) + oweB c i.val) (owe c (fun _ => 0) + oweB c (i.val + 1))
      (by rw [oweB_succ i, add_assoc]; rfl))
    $$ [HO Htok Hpay]
  · isplitr; · iexact HI
    isplitl [HO]; · iexact HO
    isplitl [Htok]; · iexact Htok
    isplitl [Hpay]; · iapply (Entails.of_eq (payload_bar xa xb (mx i c) i).symm); iexact Hpay
    iexact HR1
  iintro HO
  iapply h
  isplitr
  · isplitr; · iexact HLv
    iexact Hrecs
  isplitl [HO]; · iexists _; iexact HO
  isplitl [Ht]; · iexact Ht
  isplitl [Hc] <;> iassumption

/-- What the device holds once its partners are ready. -/
def Bd (xa : Dev nD → Vec F S2048x1024 .bf16) (xb : Dev nD → Vec F S1024x2048 .bf16) (K : Dev nD × Option OK → ℕ) (R : sProp 𝕄) (c : Dev nD) : sProp 𝕄 :=
  iprop((levAts L lv ∗ recs xa xb K) ∗ (∃ W : Waits sig Unit, owes (c : Thread nD τ) (owe c (fun _ => 0)) W)
      ∗ (bigSep Finset.univ fun i : Fin 6 => barP (F := F) c i) ∗ R ∗ semVal (barC c) 0)

theorem step_barWait {Q : α → sProp 𝕄} {R : sProp 𝕄} {kk : PUnit → Prog (TpuEff nD τ sig (Elt F) Λ₀ .tc) α}
    (h : Bd xa xb K R c ⊢ wpc c (kk ⟨⟩) Q) :
    Bt xa xb K R c 6 ⊢ wpc c (semWaitWord barS 6#32 >>= kk) Q := by
  simp only [semWaitWord, Prog.bind_op, Prog.bind_ret]
  unfold Bt
  rw [oweB_end, add_zero]
  iintro ⟨⟨#HLv, #Hrecs⟩, ⟨%Wt, HO⟩, Ht, ⟨Hc, Hat⟩, HR⟩
  iclear Ht
  ihave ⟨#HI, #HR1⟩ := (recs_bar xa xb K c) $$ Hrecs
  iapply (Rounds.wp_wait_rest_token 𝒱₀ ER (cubeRd xa xb) (c : Thread nD τ) none (κ := K (c, none))
      (wpE_semWait_eq 𝒱₀ (c : Thread nD τ) none Set.univ) (Set.mem_univ _) () (O := owe c (fun _ => 0)) (W := Wt) (R := 0) (m := 0) (T := ∅)
      (by rw [expect_bar]; decide)) $$ [Hc HO Hat]
  · isplitr; · iexact HI
    isplitl [Hc]; · iexact Hc
    isplitl [HO]; · iexact HO
    isplitr; · iapply (mayWait_bar (T := fun _ => 0)); iexact HLv
    iexact Hat
  iintro ⟨HO, Hat, -, Hpay⟩
  imod (Rounds.cell_close ER (cubeRd xa xb) (Set.mem_univ (K (c, none))) (fun h => h) (R := 0 + 1) (duties_later xa xb (barC c))) $$ [Hat] with Hz
  · isplitr; · iexact HI
    iexact Hat
  iapply h
  unfold Bd
  isplitr
  · isplitr; · iexact HLv
    iexact Hrecs
  isplitl [HO]; · iexists _; iexact HO
  isplitl [Hpay]; · iapply (Entails.of_eq (rest_bar xa xb c)); iexact Hpay
  isplitl [HR] <;> iassumption

/-- From the barrier on the closed cell of the barrier is only carried along. -/
theorem bar_frame {Q : α → sProp 𝕄} {R : sProp 𝕄} {p : Prog (TpuEff nD τ sig (Elt F) Λ₀ .tc) α}
    (hR : iprop((bigSep Finset.univ fun i : Fin 6 => barP (F := F) c i) ∗ R) ⊢ iprop(aP xa c ∗ bP xb c ∗ bigSep Finset.univ fun k : Fin 3 => PSt xa xb k c 0))
    (h : St xa xb K c ![0, 0, 0] ⊢ wpc c p (fun r => iprop(semVal (barC c) 0 -∗ Q r))) : Bd xa xb K R c ⊢ wpc c p Q := by
  rw [show (![0, 0, 0] : Fin 3 → ℕ) = fun _ => 0 by decide] at h
  unfold Bd
  iintro ⟨HL, HO, Hb, HR, Hz⟩
  iapply (wp_wand_r frame (wpE (defs₀ (F := F)) 𝒱₀ (c : Thread nD τ) none) Set.univ (Q := fun r => iprop(semVal (barC c) 0 -∗ Q r)))
  isplitr [Hz]
  · iapply h
    unfold St Cm
    ihave ⟨Ha, Hb, HP⟩ := hR $$ [Hb HR]
    · isplitl [Hb] <;> iassumption
    isplitr [HP]
    · isplitl [HL]; · iexact HL
      isplitl [Ha]; · iexact Ha
      isplitl [Hb]; · iexact Hb
      iexact HO
    iexact HP
  · iintro %r HQ
    iapply HQ; iexact Hz

/-! ## The payloads -/

theorem cat_pay {a0 a1 a2 a3 a4 a5 a6 a7 : Vec F S64x1024 .bf16} {ab : ℕ → Vec F S64x1024 .bf16}
    (h0 : a0 = ab 0) (h1 : a1 = ab 1) (h2 : a2 = ab 2) (h3 : a3 = ab 3) (h4 : a4 = ab 4) (h5 : a5 = ab 5) (h6 : a6 = ab 6) (h7 : a7 = ab 7) :
    concatenate S512x1024 0 [⟨S64x1024, a0⟩, ⟨S64x1024, a1⟩, ⟨S64x1024, a2⟩, ⟨S64x1024, a3⟩, ⟨S64x1024, a4⟩, ⟨S64x1024, a5⟩, ⟨S64x1024, a6⟩, ⟨S64x1024, a7⟩]
      concatenates_S64x1024_S64x1024_S64x1024_S64x1024_S64x1024_S64x1024_S64x1024_S64x1024_S512x1024_d0 = cat8 ab := by
  subst h0 h1 h2 h3 h4 h5 h6 h7; rfl
theorem mm_pay0 {x cx : Vec F S512x1024 .bf16} {b bb : Vec F S1024x768 .bf16} (hx : x = cx) (hb : b = bb) :
    (truncf .bf16 (matmul (φ₁ := .bf16) (φ₂ := .bf16) dot_S512x1024_S1024x768_S512x768_1_0_0_1_n_n none x b (constant S512x768 .f32 0x00000000#32)) bitsLt_bf16_f32 : FVec F S512x768 .bf16)
      = mmv 0 cx bb := by
  subst hx hb; rfl
theorem mm_pay1 {x cx : Vec F S512x1024 .bf16} {b bb : Vec F S1024x640 .bf16} (hx : x = cx) (hb : b = bb) :
    (truncf .bf16 (matmul (φ₁ := .bf16) (φ₂ := .bf16) dot_S512x1024_S1024x640_S512x640_1_0_0_1_n_n none x b (constant S512x640 .f32 0x00000000#32)) bitsLt_bf16_f32 : FVec F S512x640 .bf16)
      = mmv 1 cx bb := by
  subst hx hb; rfl
theorem mm_pay2 {x cx : Vec F S512x1024 .bf16} {b bb : Vec F S1024x640 .bf16} (hx : x = cx) (hb : b = bb) :
    (truncf .bf16 (matmul (φ₁ := .bf16) (φ₂ := .bf16) dot_S512x1024_S1024x640_S512x640_1_0_0_1_n_n none x b (constant S512x640 .f32 0x00000000#32)) bitsLt_bf16_f32 : FVec F S512x640 .bf16)
      = mmv 2 cx bb := by
  subst hx hb; rfl

theorem soff8 : ∀ (k : Fin 3) (c : Dev nD) (h : Fin 2), (soff (uu k c) 0 + 8 * h) % 8 = 0 := by decide +kernel
theorem nb8 : ∀ (k : Fin 3) (c : Dev nD) (h : Fin 2), (nb (uu k c) 0 + 8 * h) % 8 = 0 := by decide +kernel

end Cert.Cube

end
-- ==== Proof.Offsets.lean ====
/-
# Where the kernel's boxes lie

Each offset the kernel computes from the device's number, as a function of the device's virtual index in the part.
-/
module

public import proofs.«01_k».proof.Proof.Mesh
public import proofs.«01_k».proof.Proof.Common
public import proofs.«01_k».proof.Proof.Gen.KernelIdeal.Skeleton

@[expose] public section

noncomputable section

namespace Cert.Cube

open Cert.KernelIdeal Cert.KernelIdeal.Gen

open Idealize.ShloMosaic

local notation "ofW" => BitVec.ofNat 32

/-! ## The boxes of `a` read for the products, and where the products go -/

theorem off1_0 : ∀ (h : Fin 2) (i : Fin 8) (c : Dev nD), k0_off1 c 1#32 1#32 8#32 2#32 16#32 4#32 (ofW (8 * h)) (ofW i) 8#32 2#32 16#32 4#32 = ![64 * rb 0 (soff (uu 0 c) 0 + 8 * h + i), 0] := by decide +kernel

theorem off6_0 : ∀ (h : Fin 2) (i : Fin 8) (c : Dev nD), k0_off6 c 1#32 1#32 8#32 2#32 16#32 4#32 (ofW (8 * h)) (ofW i) 8#32 2#32 16#32 4#32 = ![64 * rb 0 (nb (uu 0 c) 0 + 8 * h + i), 0] := by decide +kernel

theorem off2_0 : ∀ (h : Fin 2) (c : Dev nD), k0_off2 c (ofW (8 * h)) = ![64 * (soff (uu 0 c) 0 + 8 * h), 0] := by decide +kernel

theorem off7_0 : ∀ (h : Fin 2) (c : Dev nD), k0_off7 c (ofW (8 * h)) = ![64 * (nb (uu 0 c) 0 + 8 * h), 0] := by decide +kernel

theorem off1_1 : ∀ (h : Fin 2) (i : Fin 8) (c : Dev nD), k0_off1 c 8#32 8#32 1#32 16#32 4#32 2#32 (ofW (8 * h)) (ofW i) 1#32 16#32 4#32 2#32 = ![64 * rb 1 (soff (uu 1 c) 0 + 8 * h + i), 0] := by decide +kernel

theorem off6_1 : ∀ (h : Fin 2) (i : Fin 8) (c : Dev nD), k0_off6 c 8#32 8#32 1#32 16#32 4#32 2#32 (ofW (8 * h)) (ofW i) 1#32 16#32 4#32 2#32 = ![64 * rb 1 (nb (uu 1 c) 0 + 8 * h + i), 0] := by decide +kernel

theorem off4_1 : ∀ (h : Fin 2) (c : Dev nD), k0_off4 c 8#32 1#32 16#32 4#32 2#32 (ofW (8 * h)) = ![64 * (soff (uu 1 c) 0 + 8 * h), 0] := by decide +kernel

theorem off8_1 : ∀ (h : Fin 2) (c : Dev nD), k0_off8 c 8#32 1#32 16#32 4#32 2#32 (ofW (8 * h)) = ![64 * (nb (uu 1 c) 0 + 8 * h), 0] := by decide +kernel

theorem off1_2 : ∀ (h : Fin 2) (i : Fin 8) (c : Dev nD), k0_off1 c 3#32 1#32 4#32 3#32 8#32 16#32 (ofW (8 * h)) (ofW i) 4#32 2#32 8#32 16#32 = ![64 * rb 2 (soff (uu 2 c) 0 + 8 * h + i), 0] := by decide +kernel

theorem off6_2 : ∀ (h : Fin 2) (i : Fin 8) (c : Dev nD), k0_off6 c 3#32 1#32 4#32 3#32 8#32 16#32 (ofW (8 * h)) (ofW i) 4#32 2#32 8#32 16#32 = ![64 * rb 2 (nb (uu 2 c) 0 + 8 * h + i), 0] := by decide +kernel

theorem off4_2 : ∀ (h : Fin 2) (c : Dev nD), k0_off4 c 1#32 4#32 3#32 8#32 16#32 (ofW (8 * h)) = ![64 * (soff (uu 2 c) 0 + 8 * h), 0] := by decide +kernel

theorem off8_2 : ∀ (h : Fin 2) (c : Dev nD), k0_off8 c 1#32 4#32 3#32 8#32 16#32 (ofW (8 * h)) = ![64 * (nb (uu 2 c) 0 + 8 * h), 0] := by decide +kernel

/-! ## The boxes sent, added and gathered -/

theorem off3_0 : ∀ (c : Dev nD), k0_off3 c = ![64 * soff (uu 0 c) 0, 0] := by decide +kernel

theorem off5_1 : ∀ (c : Dev nD), k0_off5 c 8#32 1#32 16#32 4#32 2#32 = ![64 * soff (uu 1 c) 0, 0] := by decide +kernel

theorem off5_2 : ∀ (c : Dev nD), k0_off5 c 1#32 4#32 3#32 8#32 16#32 = ![64 * soff (uu 2 c) 0, 0] := by decide +kernel

theorem off11_0 : ∀ (c : Dev nD), k0_off11 c = ![64 * soff (uu 0 c) 1, 0] := by decide +kernel

theorem off14_1 : ∀ (c : Dev nD), k0_off14 c 8#32 1#32 16#32 4#32 2#32 = ![64 * soff (uu 1 c) 1, 0] := by decide +kernel

theorem off14_2 : ∀ (c : Dev nD), k0_off14 c 1#32 4#32 3#32 8#32 16#32 = ![64 * soff (uu 2 c) 1, 0] := by decide +kernel

theorem off21_0 : ∀ (c : Dev nD), k0_off21 c = ![64 * soff (uu 0 c) 2, 0] := by decide +kernel

theorem off24_1 : ∀ (c : Dev nD), k0_off24 c 8#32 1#32 16#32 4#32 2#32 = ![64 * soff (uu 1 c) 2, 0] := by decide +kernel

theorem off24_2 : ∀ (c : Dev nD), k0_off24 c 1#32 4#32 3#32 8#32 16#32 = ![64 * soff (uu 2 c) 2, 0] := by decide +kernel

theorem off31_0 : ∀ (c : Dev nD), k0_off31 c = ![64 * soff (uu 0 c) 3, 0] := by decide +kernel

theorem off34_1 : ∀ (c : Dev nD), k0_off34 c 8#32 1#32 16#32 4#32 2#32 = ![64 * soff (uu 1 c) 3, 0] := by decide +kernel

theorem off34_2 : ∀ (c : Dev nD), k0_off34 c 1#32 4#32 3#32 8#32 16#32 = ![64 * soff (uu 2 c) 3, 0] := by decide +kernel

theorem off41_0 : ∀ (c : Dev nD), k0_off41 c = ![64 * soff (uu 0 c) 4, 0] := by decide +kernel

theorem off44_1 : ∀ (c : Dev nD), k0_off44 c 8#32 1#32 16#32 4#32 2#32 = ![64 * soff (uu 1 c) 4, 0] := by decide +kernel

theorem off44_2 : ∀ (c : Dev nD), k0_off44 c 1#32 4#32 3#32 8#32 16#32 = ![64 * soff (uu 2 c) 4, 0] := by decide +kernel

theorem off9_0 : ∀ (c : Dev nD), k0_off9 c = ![64 * soff (uu 0 c) 1, 0] := by decide +kernel

theorem off12_1 : ∀ (c : Dev nD), k0_off12 c 8#32 1#32 16#32 4#32 2#32 = ![64 * soff (uu 1 c) 1, 0] := by decide +kernel

theorem off12_2 : ∀ (c : Dev nD), k0_off12 c 1#32 4#32 3#32 8#32 16#32 = ![64 * soff (uu 2 c) 1, 0] := by decide +kernel

theorem off10_0 : ∀ (c : Dev nD), k0_off10 c = ![64 * (rof 0 + (soff (uu 0 c) 1 - nb (uu 0 c) 0)), 0] := by decide +kernel

theorem off13_1 : ∀ (c : Dev nD), k0_off13 c 8#32 1#32 16#32 4#32 2#32 = ![64 * (rof 0 + (soff (uu 1 c) 1 - nb (uu 1 c) 0)), 0] := by decide +kernel

theorem off13_2 : ∀ (c : Dev nD), k0_off13 c 1#32 4#32 3#32 8#32 16#32 = ![64 * (rof 0 + (soff (uu 2 c) 1 - nb (uu 2 c) 0)), 0] := by decide +kernel

theorem off19_0 : ∀ (c : Dev nD), k0_off19 c = ![64 * soff (uu 0 c) 2, 0] := by decide +kernel

theorem off22_1 : ∀ (c : Dev nD), k0_off22 c 8#32 1#32 16#32 4#32 2#32 = ![64 * soff (uu 1 c) 2, 0] := by decide +kernel

theorem off22_2 : ∀ (c : Dev nD), k0_off22 c 1#32 4#32 3#32 8#32 16#32 = ![64 * soff (uu 2 c) 2, 0] := by decide +kernel

theorem off20_0 : ∀ (c : Dev nD), k0_off20 c = ![64 * (rof 1 + (soff (uu 0 c) 2 - nb (uu 0 c) 1)), 0] := by decide +kernel

theorem off23_1 : ∀ (c : Dev nD), k0_off23 c 8#32 1#32 16#32 4#32 2#32 = ![64 * (rof 1 + (soff (uu 1 c) 2 - nb (uu 1 c) 1)), 0] := by decide +kernel

theorem off23_2 : ∀ (c : Dev nD), k0_off23 c 1#32 4#32 3#32 8#32 16#32 = ![64 * (rof 1 + (soff (uu 2 c) 2 - nb (uu 2 c) 1)), 0] := by decide +kernel

theorem off29_0 : ∀ (c : Dev nD), k0_off29 c = ![64 * soff (uu 0 c) 3, 0] := by decide +kernel

theorem off32_1 : ∀ (c : Dev nD), k0_off32 c 8#32 1#32 16#32 4#32 2#32 = ![64 * soff (uu 1 c) 3, 0] := by decide +kernel

theorem off32_2 : ∀ (c : Dev nD), k0_off32 c 1#32 4#32 3#32 8#32 16#32 = ![64 * soff (uu 2 c) 3, 0] := by decide +kernel

theorem off30_0 : ∀ (c : Dev nD), k0_off30 c = ![64 * (rof 2 + (soff (uu 0 c) 3 - nb (uu 0 c) 2)), 0] := by decide +kernel

theorem off33_1 : ∀ (c : Dev nD), k0_off33 c 8#32 1#32 16#32 4#32 2#32 = ![64 * (rof 2 + (soff (uu 1 c) 3 - nb (uu 1 c) 2)), 0] := by decide +kernel

theorem off33_2 : ∀ (c : Dev nD), k0_off33 c 1#32 4#32 3#32 8#32 16#32 = ![64 * (rof 2 + (soff (uu 2 c) 3 - nb (uu 2 c) 2)), 0] := by decide +kernel

theorem off39_0 : ∀ (c : Dev nD), k0_off39 c = ![64 * soff (uu 0 c) 4, 0] := by decide +kernel

theorem off42_1 : ∀ (c : Dev nD), k0_off42 c 8#32 1#32 16#32 4#32 2#32 = ![64 * soff (uu 1 c) 4, 0] := by decide +kernel

theorem off42_2 : ∀ (c : Dev nD), k0_off42 c 1#32 4#32 3#32 8#32 16#32 = ![64 * soff (uu 2 c) 4, 0] := by decide +kernel

theorem off40_0 : ∀ (c : Dev nD), k0_off40 c = ![64 * (rof 3 + (soff (uu 0 c) 4 - nb (uu 0 c) 3)), 0] := by decide +kernel

theorem off43_1 : ∀ (c : Dev nD), k0_off43 c 8#32 1#32 16#32 4#32 2#32 = ![64 * (rof 3 + (soff (uu 1 c) 4 - nb (uu 1 c) 3)), 0] := by decide +kernel

theorem off43_2 : ∀ (c : Dev nD), k0_off43 c 1#32 4#32 3#32 8#32 16#32 = ![64 * (rof 3 + (soff (uu 2 c) 4 - nb (uu 2 c) 3)), 0] := by decide +kernel

theorem off15_0 : ∀ (c : Dev nD), k0_off15 c = ![64 * nb (uu 0 c) 1, 0] := by decide +kernel

theorem off17_1 : ∀ (c : Dev nD), k0_off17 c 8#32 1#32 16#32 4#32 2#32 = ![64 * nb (uu 1 c) 1, 0] := by decide +kernel

theorem off17_2 : ∀ (c : Dev nD), k0_off17 c 1#32 4#32 3#32 8#32 16#32 = ![64 * nb (uu 2 c) 1, 0] := by decide +kernel

theorem off16_0 : ∀ (c : Dev nD), k0_off16 c = ![64 * (rof 0 + (nb (uu 0 c) 1 - nb (uu 0 c) 0)), 0] := by decide +kernel

theorem off18_1 : ∀ (c : Dev nD), k0_off18 c 8#32 1#32 16#32 4#32 2#32 = ![64 * (rof 0 + (nb (uu 1 c) 1 - nb (uu 1 c) 0)), 0] := by decide +kernel

theorem off18_2 : ∀ (c : Dev nD), k0_off18 c 1#32 4#32 3#32 8#32 16#32 = ![64 * (rof 0 + (nb (uu 2 c) 1 - nb (uu 2 c) 0)), 0] := by decide +kernel

theorem off25_0 : ∀ (c : Dev nD), k0_off25 c = ![64 * nb (uu 0 c) 2, 0] := by decide +kernel

theorem off27_1 : ∀ (c : Dev nD), k0_off27 c 8#32 1#32 16#32 4#32 2#32 = ![64 * nb (uu 1 c) 2, 0] := by decide +kernel

theorem off27_2 : ∀ (c : Dev nD), k0_off27 c 1#32 4#32 3#32 8#32 16#32 = ![64 * nb (uu 2 c) 2, 0] := by decide +kernel

theorem off26_0 : ∀ (c : Dev nD), k0_off26 c = ![64 * (rof 1 + (nb (uu 0 c) 2 - nb (uu 0 c) 1)), 0] := by decide +kernel

theorem off28_1 : ∀ (c : Dev nD), k0_off28 c 8#32 1#32 16#32 4#32 2#32 = ![64 * (rof 1 + (nb (uu 1 c) 2 - nb (uu 1 c) 1)), 0] := by decide +kernel

theorem off28_2 : ∀ (c : Dev nD), k0_off28 c 1#32 4#32 3#32 8#32 16#32 = ![64 * (rof 1 + (nb (uu 2 c) 2 - nb (uu 2 c) 1)), 0] := by decide +kernel

theorem off35_0 : ∀ (c : Dev nD), k0_off35 c = ![64 * nb (uu 0 c) 3, 0] := by decide +kernel

theorem off37_1 : ∀ (c : Dev nD), k0_off37 c 8#32 1#32 16#32 4#32 2#32 = ![64 * nb (uu 1 c) 3, 0] := by decide +kernel

theorem off37_2 : ∀ (c : Dev nD), k0_off37 c 1#32 4#32 3#32 8#32 16#32 = ![64 * nb (uu 2 c) 3, 0] := by decide +kernel

theorem off36_0 : ∀ (c : Dev nD), k0_off36 c = ![64 * (rof 2 + (nb (uu 0 c) 3 - nb (uu 0 c) 2)), 0] := by decide +kernel

theorem off38_1 : ∀ (c : Dev nD), k0_off38 c 8#32 1#32 16#32 4#32 2#32 = ![64 * (rof 2 + (nb (uu 1 c) 3 - nb (uu 1 c) 2)), 0] := by decide +kernel

theorem off38_2 : ∀ (c : Dev nD), k0_off38 c 1#32 4#32 3#32 8#32 16#32 = ![64 * (rof 2 + (nb (uu 2 c) 3 - nb (uu 2 c) 2)), 0] := by decide +kernel

theorem off45_0 : ∀ (c : Dev nD), k0_off45 c = ![64 * nb (uu 0 c) 4, 0] := by decide +kernel

theorem off47_1 : ∀ (c : Dev nD), k0_off47 c 8#32 1#32 16#32 4#32 2#32 = ![64 * nb (uu 1 c) 4, 0] := by decide +kernel

theorem off47_2 : ∀ (c : Dev nD), k0_off47 c 1#32 4#32 3#32 8#32 16#32 = ![64 * nb (uu 2 c) 4, 0] := by decide +kernel

theorem off46_0 : ∀ (c : Dev nD), k0_off46 c = ![64 * (rof 3 + (nb (uu 0 c) 4 - nb (uu 0 c) 3)), 0] := by decide +kernel

theorem off48_1 : ∀ (c : Dev nD), k0_off48 c 8#32 1#32 16#32 4#32 2#32 = ![64 * (rof 3 + (nb (uu 1 c) 4 - nb (uu 1 c) 3)), 0] := by decide +kernel

theorem off48_2 : ∀ (c : Dev nD), k0_off48 c 1#32 4#32 3#32 8#32 16#32 = ![64 * (rof 3 + (nb (uu 2 c) 4 - nb (uu 2 c) 3)), 0] := by decide +kernel

theorem off49_0 : ∀ (c : Dev nD), k0_off49 c = ![64 * (rof 4 + (nb (uu 0 c) 4 - nb (uu 0 c) 4)), 0] := by decide +kernel

theorem off52_1 : ∀ (c : Dev nD), k0_off52 c 8#32 1#32 16#32 4#32 2#32 = ![64 * (rof 4 + (nb (uu 1 c) 4 - nb (uu 1 c) 4)), 0] := by decide +kernel

theorem off52_2 : ∀ (c : Dev nD), k0_off52 c 1#32 4#32 3#32 8#32 16#32 = ![64 * (rof 4 + (nb (uu 2 c) 4 - nb (uu 2 c) 4)), 0] := by decide +kernel

theorem off50_0 : ∀ (c : Dev nD), k0_off50 c = ![64 * uu 0 c, 0] := by decide +kernel

theorem off53_1 : ∀ (c : Dev nD), k0_off53 c 8#32 1#32 16#32 4#32 2#32 = ![64 * uu 1 c, 0] := by decide +kernel

theorem off53_2 : ∀ (c : Dev nD), k0_off53 c 1#32 4#32 3#32 8#32 16#32 = ![64 * uu 2 c, 0] := by decide +kernel

theorem off51_0 : ∀ (c : Dev nD), k0_off51 c = ![64 * (uu 0 c / 2 ^ 0 * 2 ^ 0), 0] := by decide +kernel

theorem off54_1 : ∀ (c : Dev nD), k0_off54 c 8#32 1#32 16#32 4#32 2#32 = ![64 * (uu 1 c / 2 ^ 0 * 2 ^ 0), 0] := by decide +kernel

theorem off54_2 : ∀ (c : Dev nD), k0_off54 c 1#32 4#32 3#32 8#32 16#32 = ![64 * (uu 2 c / 2 ^ 0 * 2 ^ 0), 0] := by decide +kernel

theorem off60_0 : ∀ (c : Dev nD), k0_off60 c = ![64 * (uu 0 c / 2 ^ 1 * 2 ^ 1), 0] := by decide +kernel

theorem off61_1 : ∀ (c : Dev nD), k0_off61 c 8#32 1#32 16#32 4#32 2#32 = ![64 * (uu 1 c / 2 ^ 1 * 2 ^ 1), 0] := by decide +kernel

theorem off61_2 : ∀ (c : Dev nD), k0_off61 c 1#32 4#32 3#32 8#32 16#32 = ![64 * (uu 2 c / 2 ^ 1 * 2 ^ 1), 0] := by decide +kernel

theorem off67_0 : ∀ (c : Dev nD), k0_off67 c = ![64 * (uu 0 c / 2 ^ 2 * 2 ^ 2), 0] := by decide +kernel

theorem off68_1 : ∀ (c : Dev nD), k0_off68 c 8#32 1#32 16#32 4#32 2#32 = ![64 * (uu 1 c / 2 ^ 2 * 2 ^ 2), 0] := by decide +kernel

theorem off68_2 : ∀ (c : Dev nD), k0_off68 c 1#32 4#32 3#32 8#32 16#32 = ![64 * (uu 2 c / 2 ^ 2 * 2 ^ 2), 0] := by decide +kernel

theorem off69_0 : ∀ (c : Dev nD), k0_off69 c = ![64 * (uu 0 c / 2 ^ 3 * 2 ^ 3), 0] := by decide +kernel

theorem off70_1 : ∀ (c : Dev nD), k0_off70 c 8#32 1#32 16#32 4#32 2#32 = ![64 * (uu 1 c / 2 ^ 3 * 2 ^ 3), 0] := by decide +kernel

theorem off70_2 : ∀ (c : Dev nD), k0_off70 c 1#32 4#32 3#32 8#32 16#32 = ![64 * (uu 2 c / 2 ^ 3 * 2 ^ 3), 0] := by decide +kernel

theorem off71_0 : ∀ (c : Dev nD), k0_off71 c = ![64 * (uu 0 c / 2 ^ 4 * 2 ^ 4), 0] := by decide +kernel

theorem off72_1 : ∀ (c : Dev nD), k0_off72 c 8#32 1#32 16#32 4#32 2#32 = ![64 * (uu 1 c / 2 ^ 4 * 2 ^ 4), 0] := by decide +kernel

theorem off72_2 : ∀ (c : Dev nD), k0_off72 c 1#32 4#32 3#32 8#32 16#32 = ![64 * (uu 2 c / 2 ^ 4 * 2 ^ 4), 0] := by decide +kernel

/-! ## The copies to the result -/

theorem off55_0 : ∀ (c : Dev nD), k0_off55 c = ![64 * scat (uu 0 c) 0, 0] := by decide +kernel

theorem off57_1 : ∀ (c : Dev nD), k0_off57 c 8#32 1#32 16#32 4#32 2#32 = ![64 * scat (uu 1 c) 0, 0] := by decide +kernel

theorem off57_2 : ∀ (c : Dev nD), k0_off57 c 1#32 4#32 3#32 8#32 16#32 = ![64 * scat (uu 2 c) 0, 0] := by decide +kernel

theorem off56_0 : ∀ (c : Dev nD), k0_off56 c = ![64 * rb 0 (scat (uu 0 c) 0), 0] := by decide +kernel

theorem off58_1 : ∀ (c : Dev nD), k0_off58 c = ![64 * rb 1 (scat (uu 1 c) 0), 768] := by decide +kernel

theorem off59_2 : ∀ (c : Dev nD), k0_off59 c = ![64 * rb 2 (scat (uu 2 c) 0), 1408] := by decide +kernel

theorem off62_0 : ∀ (i : Fin 31) (c : Dev nD), k0_off62 c (ofW (lg (i + 1))) (ofW (lg (i + 1))) (ofW (2 ^ lg (i + 1))) (ofW (i + 1 - 2 ^ lg (i + 1))) = ![64 * scat (uu 0 c) (i + 1), 0] := by decide +kernel

theorem off63_0 : ∀ (i : Fin 31) (c : Dev nD), k0_off63 c (ofW (lg (i + 1))) (ofW (lg (i + 1))) (ofW (2 ^ lg (i + 1))) (ofW (i + 1 - 2 ^ lg (i + 1))) = ![64 * rb 0 (scat (uu 0 c) (i + 1)), 0] := by decide +kernel

theorem off64_1 : ∀ (i : Fin 31) (c : Dev nD), k0_off64 c 8#32 1#32 16#32 4#32 2#32 (ofW (lg (i + 1))) (ofW (lg (i + 1))) (ofW (2 ^ lg (i + 1))) (ofW (i + 1 - 2 ^ lg (i + 1))) = ![64 * scat (uu 1 c) (i + 1), 0] := by decide +kernel

theorem off65_1 : ∀ (i : Fin 31) (c : Dev nD), k0_off65 c (ofW (lg (i + 1))) (ofW (lg (i + 1))) (ofW (2 ^ lg (i + 1))) (ofW (i + 1 - 2 ^ lg (i + 1))) = ![64 * rb 1 (scat (uu 1 c) (i + 1)), 768] := by decide +kernel

theorem off64_2 : ∀ (i : Fin 31) (c : Dev nD), k0_off64 c 1#32 4#32 3#32 8#32 16#32 (ofW (lg (i + 1))) (ofW (lg (i + 1))) (ofW (2 ^ lg (i + 1))) (ofW (i + 1 - 2 ^ lg (i + 1))) = ![64 * scat (uu 2 c) (i + 1), 0] := by decide +kernel

theorem off66_2 : ∀ (i : Fin 31) (c : Dev nD), k0_off66 c (ofW (lg (i + 1))) (ofW (lg (i + 1))) (ofW (2 ^ lg (i + 1))) (ofW (i + 1 - 2 ^ lg (i + 1))) = ![64 * rb 2 (scat (uu 2 c) (i + 1)), 1408] := by decide +kernel

/-! ## The partners -/

theorem dev7 : ∀ (c : Dev nD), (⟨k0_dev7 c, k0_dev7_lt c⟩ : Dev nD) = px 0 0 c := by decide +kernel

theorem dev8 : ∀ (c : Dev nD), (⟨k0_dev8 c, k0_dev8_lt c⟩ : Dev nD) = px 1 0 c := by decide +kernel

theorem dev9 : ∀ (c : Dev nD), (⟨k0_dev9 c, k0_dev9_lt c⟩ : Dev nD) = px 2 0 c := by decide +kernel

theorem dev10 : ∀ (c : Dev nD), (⟨k0_dev10 c, k0_dev10_lt c⟩ : Dev nD) = px 0 1 c := by decide +kernel

theorem dev11 : ∀ (c : Dev nD), (⟨k0_dev11 c, k0_dev11_lt c⟩ : Dev nD) = px 1 1 c := by decide +kernel

theorem dev12 : ∀ (c : Dev nD), (⟨k0_dev12 c, k0_dev12_lt c⟩ : Dev nD) = px 2 1 c := by decide +kernel

theorem dev13 : ∀ (c : Dev nD), (⟨k0_dev13 c, k0_dev13_lt c⟩ : Dev nD) = px 0 2 c := by decide +kernel

theorem dev14 : ∀ (c : Dev nD), (⟨k0_dev14 c, k0_dev14_lt c⟩ : Dev nD) = px 1 2 c := by decide +kernel

theorem dev15 : ∀ (c : Dev nD), (⟨k0_dev15 c, k0_dev15_lt c⟩ : Dev nD) = px 2 2 c := by decide +kernel

theorem dev16 : ∀ (c : Dev nD), (⟨k0_dev16 c, k0_dev16_lt c⟩ : Dev nD) = px 0 3 c := by decide +kernel

theorem dev17 : ∀ (c : Dev nD), (⟨k0_dev17 c, k0_dev17_lt c⟩ : Dev nD) = px 1 3 c := by decide +kernel

theorem dev18 : ∀ (c : Dev nD), (⟨k0_dev18 c, k0_dev18_lt c⟩ : Dev nD) = px 2 3 c := by decide +kernel

theorem dev19 : ∀ (c : Dev nD), (⟨k0_dev19 c, k0_dev19_lt c⟩ : Dev nD) = px 0 4 c := by decide +kernel

theorem dev20 : ∀ (c : Dev nD), (⟨k0_dev20 c, k0_dev20_lt c⟩ : Dev nD) = px 1 4 c := by decide +kernel

theorem dev21 : ∀ (c : Dev nD), (⟨k0_dev21 c, k0_dev21_lt c⟩ : Dev nD) = px 2 4 c := by decide +kernel

theorem dev22 : ∀ (c : Dev nD), (⟨k0_dev22 c, k0_dev22_lt c⟩ : Dev nD) = px 0 5 c := by decide +kernel

theorem dev23 : ∀ (c : Dev nD), (⟨k0_dev23 c, k0_dev23_lt c⟩ : Dev nD) = px 1 5 c := by decide +kernel

theorem dev24 : ∀ (c : Dev nD), (⟨k0_dev24 c, k0_dev24_lt c⟩ : Dev nD) = px 2 5 c := by decide +kernel

theorem dev25 : ∀ (c : Dev nD), (⟨k0_dev25 c, k0_dev25_lt c⟩ : Dev nD) = px 0 6 c := by decide +kernel

theorem dev26 : ∀ (c : Dev nD), (⟨k0_dev26 c, k0_dev26_lt c⟩ : Dev nD) = px 1 6 c := by decide +kernel

theorem dev27 : ∀ (c : Dev nD), (⟨k0_dev27 c, k0_dev27_lt c⟩ : Dev nD) = px 2 6 c := by decide +kernel

theorem dev28 : ∀ (c : Dev nD), (⟨k0_dev28 c, k0_dev28_lt c⟩ : Dev nD) = px 0 7 c := by decide +kernel

theorem dev29 : ∀ (c : Dev nD), (⟨k0_dev29 c, k0_dev29_lt c⟩ : Dev nD) = px 1 7 c := by decide +kernel

theorem dev30 : ∀ (c : Dev nD), (⟨k0_dev30 c, k0_dev30_lt c⟩ : Dev nD) = px 2 7 c := by decide +kernel

theorem dev31 : ∀ (c : Dev nD), (⟨k0_dev31 c, k0_dev31_lt c⟩ : Dev nD) = px 0 8 c := by decide +kernel

theorem dev32 : ∀ (c : Dev nD), (⟨k0_dev32 c, k0_dev32_lt c⟩ : Dev nD) = px 1 8 c := by decide +kernel

theorem dev33 : ∀ (c : Dev nD), (⟨k0_dev33 c, k0_dev33_lt c⟩ : Dev nD) = px 2 8 c := by decide +kernel

theorem dev34 : ∀ (c : Dev nD), (⟨k0_dev34 c, k0_dev34_lt c⟩ : Dev nD) = px 0 9 c := by decide +kernel

theorem dev35 : ∀ (c : Dev nD), (⟨k0_dev35 c, k0_dev35_lt c⟩ : Dev nD) = px 1 9 c := by decide +kernel

theorem dev36 : ∀ (c : Dev nD), (⟨k0_dev36 c, k0_dev36_lt c⟩ : Dev nD) = px 2 9 c := by decide +kernel

theorem dev1 : ∀ (c : Dev nD), (⟨k0_dev1 c, k0_dev1_lt c⟩ : Dev nD) = mx 0 c := by decide +kernel

theorem dev2 : ∀ (c : Dev nD), (⟨k0_dev2 c, k0_dev2_lt c⟩ : Dev nD) = mx 1 c := by decide +kernel

theorem dev3 : ∀ (c : Dev nD), (⟨k0_dev3 c, k0_dev3_lt c⟩ : Dev nD) = mx 2 c := by decide +kernel

theorem dev4 : ∀ (c : Dev nD), (⟨k0_dev4 c, k0_dev4_lt c⟩ : Dev nD) = mx 3 c := by decide +kernel

theorem dev5 : ∀ (c : Dev nD), (⟨k0_dev5 c, k0_dev5_lt c⟩ : Dev nD) = mx 4 c := by decide +kernel

theorem dev6 : ∀ (c : Dev nD), (⟨k0_dev6 c, k0_dev6_lt c⟩ : Dev nD) = mx 5 c := by decide +kernel

end Cert.Cube

end
-- ==== Proof.Checks.lean ====
/-
# What each access may touch, and that the buffers are whole

The conditions under which each load and store of the reduction is allowed at its time, for every virtual index.
-/
module

public import Idealize.ShloMosaic.Lib.Pipeline.Value
public import proofs.«01_k».proof.Proof.Barrier
public import proofs.«01_k».proof.Proof.Offsets

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

theorem chk_soff0_D : chkD (fun u => soff u 0 + 8 * 0) 8 0 := by decide +kernel
theorem chk_soff0_P : chkP (fun u => soff u 0 + 8 * 0) 8 0 0 := by decide +kernel
theorem chk_soff1_D : chkD (fun u => soff u 0 + 8 * 1) 8 1 := by decide +kernel
theorem chk_soff1_P : chkP (fun u => soff u 0 + 8 * 1) 8 0 1 := by decide +kernel
theorem chk_nb0_D : chkD (fun u => nb u 0 + 8 * 0) 8 3 := by decide +kernel
theorem chk_nb0_P : chkP (fun u => nb u 0 + 8 * 0) 8 0 3 := by decide +kernel
theorem chk_nb1_D : chkD (fun u => nb u 0 + 8 * 1) 8 4 := by decide +kernel
theorem chk_nb1_P : chkP (fun u => nb u 0 + 8 * 1) 8 0 4 := by decide +kernel
theorem chk_relu_L : chkL (fun u => u) 1 5 27 := by decide +kernel
theorem chk_relu_G : ∀ u : Fin 32, (ownGv 27 2).getD (cls u u) false = true := by decide +kernel
theorem chk_soff_1_0_L : chkL (fun u => soff u 1) 8 0 6 := by decide +kernel
theorem chk_soff_1_0_R : chkR (fun u => soff u 1) (fun u => rof 0 + (soff u 1 - nb u 0)) 8 0 6 := by decide +kernel
theorem chk_soff_1_0_D : chkD (fun u => soff u 1) 8 6 := by decide +kernel
theorem chk_soff_1_0_P : chkP (fun u => soff u 1) 8 1 6 := by decide +kernel
theorem chk_nb_1_0_L : chkL (fun u => nb u 1) 8 0 8 := by decide +kernel
theorem chk_nb_1_0_R : chkR (fun u => nb u 1) (fun u => rof 0 + (nb u 1 - nb u 0)) 8 0 8 := by decide +kernel
theorem chk_nb_1_0_D : chkD (fun u => nb u 1) 8 8 := by decide +kernel
theorem chk_nb_1_0_P : chkP (fun u => nb u 1) 8 1 8 := by decide +kernel
theorem chk_soff_2_1_L : chkL (fun u => soff u 2) 4 1 11 := by decide +kernel
theorem chk_soff_2_1_R : chkR (fun u => soff u 2) (fun u => rof 1 + (soff u 2 - nb u 1)) 4 1 11 := by decide +kernel
theorem chk_soff_2_1_D : chkD (fun u => soff u 2) 4 11 := by decide +kernel
theorem chk_soff_2_1_P : chkP (fun u => soff u 2) 4 2 11 := by decide +kernel
theorem chk_nb_2_1_L : chkL (fun u => nb u 2) 4 1 13 := by decide +kernel
theorem chk_nb_2_1_R : chkR (fun u => nb u 2) (fun u => rof 1 + (nb u 2 - nb u 1)) 4 1 13 := by decide +kernel
theorem chk_nb_2_1_D : chkD (fun u => nb u 2) 4 13 := by decide +kernel
theorem chk_nb_2_1_P : chkP (fun u => nb u 2) 4 2 13 := by decide +kernel
theorem chk_soff_3_2_L : chkL (fun u => soff u 3) 2 2 16 := by decide +kernel
theorem chk_soff_3_2_R : chkR (fun u => soff u 3) (fun u => rof 2 + (soff u 3 - nb u 2)) 2 2 16 := by decide +kernel
theorem chk_soff_3_2_D : chkD (fun u => soff u 3) 2 16 := by decide +kernel
theorem chk_soff_3_2_P : chkP (fun u => soff u 3) 2 3 16 := by decide +kernel
theorem chk_nb_3_2_L : chkL (fun u => nb u 3) 2 2 18 := by decide +kernel
theorem chk_nb_3_2_R : chkR (fun u => nb u 3) (fun u => rof 2 + (nb u 3 - nb u 2)) 2 2 18 := by decide +kernel
theorem chk_nb_3_2_D : chkD (fun u => nb u 3) 2 18 := by decide +kernel
theorem chk_nb_3_2_P : chkP (fun u => nb u 3) 2 3 18 := by decide +kernel
theorem chk_soff_4_3_L : chkL (fun u => soff u 4) 1 3 21 := by decide +kernel
theorem chk_soff_4_3_R : chkR (fun u => soff u 4) (fun u => rof 3 + (soff u 4 - nb u 3)) 1 3 21 := by decide +kernel
theorem chk_soff_4_3_D : chkD (fun u => soff u 4) 1 21 := by decide +kernel
theorem chk_soff_4_3_P : chkP (fun u => soff u 4) 1 4 21 := by decide +kernel
theorem chk_nb_4_3_L : chkL (fun u => nb u 4) 1 3 23 := by decide +kernel
theorem chk_nb_4_3_R : chkR (fun u => nb u 4) (fun u => rof 3 + (nb u 4 - nb u 3)) 1 3 23 := by decide +kernel
theorem chk_nb_4_3_D : chkD (fun u => nb u 4) 1 23 := by decide +kernel
theorem chk_nb_4_3_P : chkP (fun u => nb u 4) 1 4 23 := by decide +kernel
theorem chk_nb_4_4_L : chkL (fun u => nb u 4) 1 4 26 := by decide +kernel
theorem chk_nb_4_4_R : chkR (fun u => nb u 4) (fun u => rof 4 + (nb u 4 - nb u 4)) 1 4 26 := by decide +kernel
theorem chk_nb_4_4_D : chkD (fun u => nb u 4) 1 26 := by decide +kernel
theorem chk_nb_4_4_P : chkP (fun u => nb u 4) 1 5 26 := by decide +kernel

theorem wA : (aM : Memref sig .tc .vmem S2048x1024 .bf16).IsWhole := Memref.isWhole_whole _
theorem wB : (bM : Memref sig .tc .vmem S1024x2048 .bf16).IsWhole := Memref.isWhole_whole _
theorem wO : (oM : Memref sig .tc .vmem S2048x2048 .bf16).IsWhole := Memref.isWhole_whole _
theorem wP : ∀ k, (pM k).IsWhole := fun k => match k with | 0 => Memref.isWhole_whole _ | 1 => Memref.isWhole_whole _ | 2 => Memref.isWhole_whole _
theorem wR : ∀ k, (rsM k).IsWhole := fun k => match k with | 0 => Memref.isWhole_whole _ | 1 => Memref.isWhole_whole _ | 2 => Memref.isWhole_whole _
theorem wG : ∀ k, (gM k).IsWhole := fun k => match k with | 0 => Memref.isWhole_whole _ | 1 => Memref.isWhole_whole _ | 2 => Memref.isWhole_whole _

end Cert.Cube

end
-- ==== Proof.Parts1.lean ====
/-
# The kernel, pieces 1 to 32

What each of these pieces of the kernel does to the state, one step after the other.
-/
module

public import proofs.«01_k».proof.Proof.Checks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt1 {R : sProp 𝕄} {Q : (Σ' (d0 : Dev nD) (v2 : BitVec 32) (v32 : BitVec 32), BitVec 32) → sProp 𝕄}
    (h : ∀ (r1 r2 r3 : BitVec 32), (Bt xa xb K R c 0 ⊢ Q ⟨c, r1, r2, r3⟩)) :
    Bt xa xb K R c 0 ⊢ wpc c (k0_part1 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10) Q := by
  rw [k0_part1_eq_skeleton]; unfold k0_part1_skel
  refine step_dev ?_
  exact ret_step (h _ _ _)

theorem pt2 {R : sProp 𝕄} {Q : (Σ' (v52 : BitVec 32) (v53 : BitVec 32) (v54 : BitVec 32) (v55 : BitVec 32) (v56 : BitVec 32) (v57 : BitVec 32) (v64 : BitVec 32) (v66 : BitVec 32) (v68 : BitVec 32) (v69 : BitVec 32), BitVec 32) → sProp 𝕄} {v2 v32 v35 : BitVec 32}
    (h : ∀ (r0 r1 r2 r3 r4 r5 r6 r7 r8 r9 r10 : BitVec 32), (Bt xa xb K R c 0 ⊢ Q ⟨r0, r1, r2, r3, r4, r5, r6, r7, r8, r9, r10⟩)) :
    Bt xa xb K R c 0 ⊢ wpc c (k0_part2 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v32 v35) Q := by
  rw [k0_part2_eq_skeleton]; unfold k0_part2_skel
  exact ret_step (h _ _ _ _ _ _ _ _ _ _ _)

theorem pt3 {R : sProp 𝕄} {Q : (Σ' (v73 : BitVec 32) (v75 : BitVec 32) (v82 : BitVec 32) (v84 : BitVec 32) (v91 : BitVec 32) (v93 : BitVec 32) (v100 : BitVec 32) (v102 : BitVec 32) (v103 : BitVec 32), BitVec 32) → sProp 𝕄} {v2 v52 v68 v69 c4_i32_39 : BitVec 32}
    (h : ∀ (r0 r1 r2 r3 r4 r5 r6 r7 r8 r9 : BitVec 32), (Bt xa xb K R c 0 ⊢ Q ⟨r0, r1, r2, r3, r4, r5, r6, r7, r8, r9⟩)) :
    Bt xa xb K R c 0 ⊢ wpc c (k0_part3 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v52 v68 v69 c4_i32_39) Q := by
  rw [k0_part3_eq_skeleton]; unfold k0_part3_skel
  exact ret_step (h _ _ _ _ _ _ _ _ _ _)

theorem pt4 {R : sProp 𝕄} {Q : (Σ' (v132 : BitVec 32) (v140 : BitVec 32), BitVec 32) → sProp 𝕄} {v2 v103 c1_i32_65 : BitVec 32}
    (h : ∀ (r0 r1 r2 : BitVec 32), (Bt xa xb K R c 0 ⊢ Q ⟨r0, r1, r2⟩)) :
    Bt xa xb K R c 0 ⊢ wpc c (k0_part4 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v103 c1_i32_65) Q := by
  rw [k0_part4_eq_skeleton]; unfold k0_part4_skel
  exact ret_step (h _ _ _)

theorem pt5 {R : sProp 𝕄} {Q : (Σ' (v152 : BitVec 32) (v153 : BitVec 32) (v154 : BitVec 32) (v155 : BitVec 32) (v156 : BitVec 32) (v157 : BitVec 32) (v164 : BitVec 32) (v166 : BitVec 32) (v173 : BitVec 32), BitVec 32) → sProp 𝕄} {v2 v132 v140 c1_i32_88 : BitVec 32}
    (h : ∀ (r0 r1 r2 r3 r4 r5 r6 r7 r8 r9 : BitVec 32), (Bt xa xb K R c 0 ⊢ Q ⟨r0, r1, r2, r3, r4, r5, r6, r7, r8, r9⟩)) :
    Bt xa xb K R c 0 ⊢ wpc c (k0_part5 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v132 v140 c1_i32_88) Q := by
  rw [k0_part5_eq_skeleton]; unfold k0_part5_skel
  exact ret_step (h _ _ _ _ _ _ _ _ _ _)

theorem pt6 {R : sProp 𝕄} {Q : (Σ' (v182 : BitVec 32) (v184 : BitVec 32) (v191 : BitVec 32) (v193 : BitVec 32) (v200 : BitVec 32) (v202 : BitVec 32) (v209 : BitVec 32), BitVec 32) → sProp 𝕄} {v2 v152 : BitVec 32}
    (h : ∀ (r0 r1 r2 r3 r4 r5 r6 r7 : BitVec 32), (Bt xa xb K R c 0 ⊢ Q ⟨r0, r1, r2, r3, r4, r5, r6, r7⟩)) :
    Bt xa xb K R c 0 ⊢ wpc c (k0_part6 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v152) Q := by
  rw [k0_part6_eq_skeleton]; unfold k0_part6_skel
  exact ret_step (h _ _ _ _ _ _ _ _)

theorem pt7 {R : sProp 𝕄} {Q : (Σ' (v242 : BitVec 32) (v245 : BitVec 32), BitVec 32) → sProp 𝕄} {v2 v209 c1_i32_139 : BitVec 32}
    (h : ∀ (r0 r1 r2 : BitVec 32), (Bt xa xb K R c 0 ⊢ Q ⟨r0, r1, r2⟩)) :
    Bt xa xb K R c 0 ⊢ wpc c (k0_part7 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v209 c1_i32_139) Q := by
  rw [k0_part7_eq_skeleton]; unfold k0_part7_skel
  exact ret_step (h _ _ _)

theorem pt8 {R : sProp 𝕄} {Q : (Σ' (v252 : BitVec 32) (v253 : BitVec 32) (v254 : BitVec 32) (v255 : BitVec 32) (v256 : BitVec 32) (v257 : BitVec 32) (v264 : BitVec 32) (v266 : BitVec 32) (v273 : BitVec 32) (v275 : BitVec 32) (v277 : BitVec 32) (v279 : BitVec 32), BitVec 32) → sProp 𝕄} {v2 v242 v245 v246 : BitVec 32}
    (h : ∀ (r0 r1 r2 r3 r4 r5 r6 r7 r8 r9 r10 r11 r12 : BitVec 32), (Bt xa xb K R c 0 ⊢ Q ⟨r0, r1, r2, r3, r4, r5, r6, r7, r8, r9, r10, r11, r12⟩)) :
    Bt xa xb K R c 0 ⊢ wpc c (k0_part8 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 v2 v242 v245 v246) Q := by
  rw [k0_part8_eq_skeleton]; unfold k0_part8_skel
  exact ret_step (h _ _ _ _ _ _ _ _ _ _ _ _ _)

theorem pt9 {R : sProp 𝕄} {Q : (Σ' (v282 : BitVec 32) (v284 : BitVec 32) (v291 : BitVec 32) (v293 : BitVec 32) (v300 : BitVec 32) (v302 : BitVec 32) (v303 : Sems sig S_) (v310 : BitVec 32), BitVec 32) → sProp 𝕄} {v2 v252 v277 v279 c1_i32_189 : BitVec 32}
    (h : ∀ (r0 r1 r2 r3 r4 r5 : BitVec 32) (r6 : Sems sig S_) (r7 r8 : BitVec 32), r6 = (SemArray.scalar (sig.barrier 0 rfl) : Sems sig S_) → (Bt xa xb K R c 2 ⊢ Q ⟨r0, r1, r2, r3, r4, r5, r6, r7, r8⟩)) :
    Bt xa xb K R c 0 ⊢ wpc c (k0_part9 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2 v252 v277 v279 c1_i32_189) Q := by
  rw [k0_part9_eq_skeleton]; unfold k0_part9_skel
  refine step_signal 0 (dev1 c) ?_
  refine step_signal 1 (dev2 c) ?_
  exact ret_step (h _ _ _ _ _ _ _ _ _ rfl)

theorem pt10 {R : sProp 𝕄} {Q : (Σ' (v322 : BitVec 32) (v323 : BitVec 32) (v335 : BitVec 32) (v336 : BitVec 32), BitVec 32) → sProp 𝕄} {v2 v64 : BitVec 32} {v303 : Sems sig S_} {v310 c1_i32_216 : BitVec 32}
    (e303 : v303 = (SemArray.scalar (sig.barrier 0 rfl) : Sems sig S_))
    (h : ∀ (r0 r1 r2 r3 r4 : BitVec 32), (Bd xa xb K R c ⊢ Q ⟨r0, r1, r2, r3, r4⟩)) :
    Bt xa xb K R c 2 ⊢ wpc c (k0_part10 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2 v64 v303 v310 c1_i32_216) Q := by
  rw [k0_part10_eq_skeleton]; unfold k0_part10_skel
  subst e303
  refine step_signal 2 (dev3 c) ?_
  refine step_signal 3 (dev4 c) ?_
  refine step_signal 4 (dev5 c) ?_
  refine step_signal 5 (dev6 c) ?_
  refine step_barWait ?_
  exact ret_step (h _ _ _ _ _)

theorem pt11 {Q : (Σ' (v347 : FVec F S64x1024 .bf16), Vec F S64x1024 .bf16) → sProp 𝕄} {v322 v323 v335 v336 c1_i32_243 : BitVec 32}
    (h : ∀ (r0 : FVec F S64x1024 .bf16) (r1 : Vec F S64x1024 .bf16), r0 = aBlk (xa c) (rb 0 ((soff (uu 0 c) 0 + 8 * 0) + 0)) → r1 = aBlk (xa c) (rb 0 ((soff (uu 0 c) 0 + 8 * 0) + 1)) → (St xa xb K c ![0, 0, 0] ⊢ Q ⟨r0, r1⟩)) :
    St xa xb K c ![0, 0, 0] ⊢ wpc c (k0_part11 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v322 v323 v335 v336 c1_i32_243) Q := by
  rw [k0_part11_eq_skeleton]; unfold k0_part11_skel
  refine step_loadA (o := rb 0 ((soff (uu 0 c) 0 + 8 * 0) + 0)) (off1_0 0 0 c) fun v346 e346 => ?_
  refine step_loadA (o := rb 0 ((soff (uu 0 c) 0 + 8 * 0) + 1)) (off1_0 0 1 c) fun v371 e371 => ?_
  exact ret_step (h _ _ ((shapeCast_self _ _).trans e346) e371)

theorem pt12 {Q : (Σ' (v372 : FVec F S64x1024 .bf16) (v397 : FVec F S64x1024 .bf16) (v398 : BitVec 32) (v402 : BitVec 32) (v404 : BitVec 32), BitVec 32) → sProp 𝕄} {v322 : BitVec 32} {v371 : Vec F S64x1024 .bf16}
    (e371 : v371 = aBlk (xa c) (rb 0 ((soff (uu 0 c) 0 + 8 * 0) + 1)))
    (h : ∀ (r0 r1 : FVec F S64x1024 .bf16) (r2 r3 r4 r5 : BitVec 32), r0 = aBlk (xa c) (rb 0 ((soff (uu 0 c) 0 + 8 * 0) + 1)) → r1 = aBlk (xa c) (rb 0 ((soff (uu 0 c) 0 + 8 * 0) + 2)) → (St xa xb K c ![0, 0, 0] ⊢ Q ⟨r0, r1, r2, r3, r4, r5⟩)) :
    St xa xb K c ![0, 0, 0] ⊢ wpc c (k0_part12 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v322 v371) Q := by
  rw [k0_part12_eq_skeleton]; unfold k0_part12_skel
  refine step_loadA (o := rb 0 ((soff (uu 0 c) 0 + 8 * 0) + 2)) (off1_0 0 2 c) fun v396 e396 => ?_
  exact ret_step (h _ _ _ _ _ _ ((shapeCast_self _ _).trans e371) ((shapeCast_self _ _).trans e396))

theorem pt13 {Q : (Σ' (v422 : FVec F S64x1024 .bf16) (v423 : BitVec 32), BitVec 32) → sProp 𝕄} {v322 v398 v402 v404 c8_i32_293 : BitVec 32}
    (h : ∀ (r0 : FVec F S64x1024 .bf16) (r1 r2 : BitVec 32), r0 = aBlk (xa c) (rb 0 ((soff (uu 0 c) 0 + 8 * 0) + 3)) → (St xa xb K c ![0, 0, 0] ⊢ Q ⟨r0, r1, r2⟩)) :
    St xa xb K c ![0, 0, 0] ⊢ wpc c (k0_part13 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v322 v398 v402 v404 c8_i32_293) Q := by
  rw [k0_part13_eq_skeleton]; unfold k0_part13_skel
  refine step_loadA (o := rb 0 ((soff (uu 0 c) 0 + 8 * 0) + 3)) (off1_0 0 3 c) fun v421 e421 => ?_
  exact ret_step (h _ _ _ ((shapeCast_self _ _).trans e421))

theorem pt14 {Q : (Σ' (v447 : FVec F S64x1024 .bf16) (v472 : FVec F S64x1024 .bf16) (v473 : BitVec 32), BitVec 32) → sProp 𝕄} {v322 v423 v439 : BitVec 32}
    (h : ∀ (r0 r1 : FVec F S64x1024 .bf16) (r2 r3 : BitVec 32), r0 = aBlk (xa c) (rb 0 ((soff (uu 0 c) 0 + 8 * 0) + 4)) → r1 = aBlk (xa c) (rb 0 ((soff (uu 0 c) 0 + 8 * 0) + 5)) → (St xa xb K c ![0, 0, 0] ⊢ Q ⟨r0, r1, r2, r3⟩)) :
    St xa xb K c ![0, 0, 0] ⊢ wpc c (k0_part14 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v322 v423 v439) Q := by
  rw [k0_part14_eq_skeleton]; unfold k0_part14_skel
  refine step_loadA (o := rb 0 ((soff (uu 0 c) 0 + 8 * 0) + 4)) (off1_0 0 4 c) fun v446 e446 => ?_
  refine step_loadA (o := rb 0 ((soff (uu 0 c) 0 + 8 * 0) + 5)) (off1_0 0 5 c) fun v471 e471 => ?_
  exact ret_step (h _ _ _ _ ((shapeCast_self _ _).trans e446) ((shapeCast_self _ _).trans e471))

theorem pt15 {Q : (Σ' (v497 : FVec F S64x1024 .bf16) (v498 : BitVec 32) (v506 : BitVec 32), BitVec 32) → sProp 𝕄} {v322 v473 c4_i32_344 : BitVec 32}
    (h : ∀ (r0 : FVec F S64x1024 .bf16) (r1 r2 r3 : BitVec 32), r0 = aBlk (xa c) (rb 0 ((soff (uu 0 c) 0 + 8 * 0) + 6)) → (St xa xb K c ![0, 0, 0] ⊢ Q ⟨r0, r1, r2, r3⟩)) :
    St xa xb K c ![0, 0, 0] ⊢ wpc c (k0_part15 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v322 v473 c4_i32_344) Q := by
  rw [k0_part15_eq_skeleton]; unfold k0_part15_skel
  refine step_loadA (o := rb 0 ((soff (uu 0 c) 0 + 8 * 0) + 6)) (off1_0 0 6 c) fun v496 e496 => ?_
  exact ret_step (h _ _ _ _ ((shapeCast_self _ _).trans e496))

theorem pt16 {Q : (Σ' (v533 : BitVec 32) (v534 : BitVec 32), BitVec 32) → sProp 𝕄} {v64 v322 : BitVec 32} {v347 v372 v397 v422 v447 v472 v497 : FVec F S64x1024 .bf16} {v498 v506 v507 : BitVec 32}
    (e347 : v347 = aBlk (xa c) (rb 0 ((soff (uu 0 c) 0 + 8 * 0) + 0))) (e372 : v372 = aBlk (xa c) (rb 0 ((soff (uu 0 c) 0 + 8 * 0) + 1))) (e397 : v397 = aBlk (xa c) (rb 0 ((soff (uu 0 c) 0 + 8 * 0) + 2))) (e422 : v422 = aBlk (xa c) (rb 0 ((soff (uu 0 c) 0 + 8 * 0) + 3))) (e447 : v447 = aBlk (xa c) (rb 0 ((soff (uu 0 c) 0 + 8 * 0) + 4))) (e472 : v472 = aBlk (xa c) (rb 0 ((soff (uu 0 c) 0 + 8 * 0) + 5))) (e497 : v497 = aBlk (xa c) (rb 0 ((soff (uu 0 c) 0 + 8 * 0) + 6)))
    (h : ∀ (r0 r1 r2 : BitVec 32), (St xa xb K c ![1, 0, 0] ⊢ Q ⟨r0, r1, r2⟩)) :
    St xa xb K c ![0, 0, 0] ⊢ wpc c (k0_part16 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v64 v322 v347 v372 v397 v422 v447 v472 v497 v498 v506 v507) Q := by
  rw [k0_part16_eq_skeleton]; unfold k0_part16_skel
  refine step_loadA (o := rb 0 ((soff (uu 0 c) 0 + 8 * 0) + 7)) (off1_0 0 7 c) fun v521 e521 => ?_
  refine step_loadB 0 rfl fun v524 e524 => ?_
  refine step_deadP 0 (o := fun u => soff u 0 + 8 * 0) (n := 8) (t := 0) rfl (off2_0 0 c) chk_soff0_D fun v530 => ?_
  refine step_storeP 0 (o := fun u => soff u 0 + 8 * 0) (n := 8) (l := 0) (t := 0) (T' := ![1, 0, 0]) rfl (by decide) (off2_0 0 c) chk_soff0_P
    (mm_val 0 (o := soff (uu 0 c) 0 + 8 * 0) (soff8 0 c 0) ((shapeCast_self _ _).trans (mm_pay0 (cat_pay e347 e372 e397 e422 e447 e472 e497 ((shapeCast_self _ _).trans e521)) ((shapeCast_self _ _).trans e524)))) ?_
  exact ret_step (h _ _ _)

theorem pt17 {Q : (Σ' (v558 : FVec F S64x1024 .bf16) (v575 : BitVec 32), BitVec 32) → sProp 𝕄} {v533 v534 v542 : BitVec 32}
    (h : ∀ (r0 : FVec F S64x1024 .bf16) (r1 r2 : BitVec 32), r0 = aBlk (xa c) (rb 0 ((soff (uu 0 c) 0 + 8 * 1) + 0)) → (St xa xb K c ![1, 0, 0] ⊢ Q ⟨r0, r1, r2⟩)) :
    St xa xb K c ![1, 0, 0] ⊢ wpc c (k0_part17 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v533 v534 v542) Q := by
  rw [k0_part17_eq_skeleton]; unfold k0_part17_skel
  refine step_loadA (o := rb 0 ((soff (uu 0 c) 0 + 8 * 1) + 0)) (off1_0 1 0 c) fun v557 e557 => ?_
  exact ret_step (h _ _ _ ((shapeCast_self _ _).trans e557))

theorem pt18 {Q : (Σ' (v583 : FVec F S64x1024 .bf16) (v608 : FVec F S64x1024 .bf16) (v609 : BitVec 32) (v610 : BitVec 32), BitVec 32) → sProp 𝕄} {v533 v575 v576 : BitVec 32}
    (h : ∀ (r0 r1 : FVec F S64x1024 .bf16) (r2 r3 r4 : BitVec 32), r0 = aBlk (xa c) (rb 0 ((soff (uu 0 c) 0 + 8 * 1) + 1)) → r1 = aBlk (xa c) (rb 0 ((soff (uu 0 c) 0 + 8 * 1) + 2)) → (St xa xb K c ![1, 0, 0] ⊢ Q ⟨r0, r1, r2, r3, r4⟩)) :
    St xa xb K c ![1, 0, 0] ⊢ wpc c (k0_part18 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v533 v575 v576) Q := by
  rw [k0_part18_eq_skeleton]; unfold k0_part18_skel
  refine step_loadA (o := rb 0 ((soff (uu 0 c) 0 + 8 * 1) + 1)) (off1_0 1 1 c) fun v582 e582 => ?_
  refine step_loadA (o := rb 0 ((soff (uu 0 c) 0 + 8 * 1) + 2)) (off1_0 1 2 c) fun v607 e607 => ?_
  exact ret_step (h _ _ _ _ _ ((shapeCast_self _ _).trans e582) ((shapeCast_self _ _).trans e607))

theorem pt19 {Q : (Σ' (v633 : FVec F S64x1024 .bf16) (v634 : BitVec 32) (v642 : BitVec 32), BitVec 32) → sProp 𝕄} {v533 v609 v610 c1_i32_444 : BitVec 32}
    (h : ∀ (r0 : FVec F S64x1024 .bf16) (r1 r2 r3 : BitVec 32), r0 = aBlk (xa c) (rb 0 ((soff (uu 0 c) 0 + 8 * 1) + 3)) → (St xa xb K c ![1, 0, 0] ⊢ Q ⟨r0, r1, r2, r3⟩)) :
    St xa xb K c ![1, 0, 0] ⊢ wpc c (k0_part19 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v533 v609 v610 c1_i32_444) Q := by
  rw [k0_part19_eq_skeleton]; unfold k0_part19_skel
  refine step_loadA (o := rb 0 ((soff (uu 0 c) 0 + 8 * 1) + 3)) (off1_0 1 3 c) fun v632 e632 => ?_
  exact ret_step (h _ _ _ _ ((shapeCast_self _ _).trans e632))

theorem pt20 {Q : (Σ' (v658 : FVec F S64x1024 .bf16) (v675 : BitVec 32), BitVec 32) → sProp 𝕄} {v533 v634 v642 v644 : BitVec 32}
    (h : ∀ (r0 : FVec F S64x1024 .bf16) (r1 r2 : BitVec 32), r0 = aBlk (xa c) (rb 0 ((soff (uu 0 c) 0 + 8 * 1) + 4)) → (St xa xb K c ![1, 0, 0] ⊢ Q ⟨r0, r1, r2⟩)) :
    St xa xb K c ![1, 0, 0] ⊢ wpc c (k0_part20 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v533 v634 v642 v644) Q := by
  rw [k0_part20_eq_skeleton]; unfold k0_part20_skel
  refine step_loadA (o := rb 0 ((soff (uu 0 c) 0 + 8 * 1) + 4)) (off1_0 1 4 c) fun v657 e657 => ?_
  exact ret_step (h _ _ _ ((shapeCast_self _ _).trans e657))

theorem pt21 {Q : (Σ' (v683 : FVec F S64x1024 .bf16) (v708 : FVec F S64x1024 .bf16) (v709 : BitVec 32) (v712 : BitVec 32), BitVec 32) → sProp 𝕄} {v533 v675 v678 : BitVec 32}
    (h : ∀ (r0 r1 : FVec F S64x1024 .bf16) (r2 r3 r4 : BitVec 32), r0 = aBlk (xa c) (rb 0 ((soff (uu 0 c) 0 + 8 * 1) + 5)) → r1 = aBlk (xa c) (rb 0 ((soff (uu 0 c) 0 + 8 * 1) + 6)) → (St xa xb K c ![1, 0, 0] ⊢ Q ⟨r0, r1, r2, r3, r4⟩)) :
    St xa xb K c ![1, 0, 0] ⊢ wpc c (k0_part21 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v533 v675 v678) Q := by
  rw [k0_part21_eq_skeleton]; unfold k0_part21_skel
  refine step_loadA (o := rb 0 ((soff (uu 0 c) 0 + 8 * 1) + 5)) (off1_0 1 5 c) fun v682 e682 => ?_
  refine step_loadA (o := rb 0 ((soff (uu 0 c) 0 + 8 * 1) + 6)) (off1_0 1 6 c) fun v707 e707 => ?_
  exact ret_step (h _ _ _ _ _ ((shapeCast_self _ _).trans e682) ((shapeCast_self _ _).trans e707))

theorem pt22 {Q : PUnit → sProp 𝕄} {v53 v64 v533 : BitVec 32} {v558 v583 v608 v633 v658 v683 v708 : FVec F S64x1024 .bf16} {v709 v712 c0_i32_522 : BitVec 32}
    (e558 : v558 = aBlk (xa c) (rb 0 ((soff (uu 0 c) 0 + 8 * 1) + 0))) (e583 : v583 = aBlk (xa c) (rb 0 ((soff (uu 0 c) 0 + 8 * 1) + 1))) (e608 : v608 = aBlk (xa c) (rb 0 ((soff (uu 0 c) 0 + 8 * 1) + 2))) (e633 : v633 = aBlk (xa c) (rb 0 ((soff (uu 0 c) 0 + 8 * 1) + 3))) (e658 : v658 = aBlk (xa c) (rb 0 ((soff (uu 0 c) 0 + 8 * 1) + 4))) (e683 : v683 = aBlk (xa c) (rb 0 ((soff (uu 0 c) 0 + 8 * 1) + 5))) (e708 : v708 = aBlk (xa c) (rb 0 ((soff (uu 0 c) 0 + 8 * 1) + 6)))
    (h : St xa xb K c ![2, 0, 0] ⊢ Q ⟨⟩) :
    St xa xb K c ![1, 0, 0] ⊢ wpc c (k0_part22 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v53 v64 v533 v558 v583 v608 v633 v658 v683 v708 v709 v712 c0_i32_522) Q := by
  rw [k0_part22_eq_skeleton]; unfold k0_part22_skel
  refine step_loadA (o := rb 0 ((soff (uu 0 c) 0 + 8 * 1) + 7)) (off1_0 1 7 c) fun v732 e732 => ?_
  refine step_loadB 0 rfl fun v735 e735 => ?_
  refine step_deadP 0 (o := fun u => soff u 0 + 8 * 1) (n := 8) (t := 1) rfl (off2_0 1 c) chk_soff1_D fun v741 => ?_
  refine step_storeP 0 (o := fun u => soff u 0 + 8 * 1) (n := 8) (l := 0) (t := 1) (T' := ![2, 0, 0]) rfl (by decide) (off2_0 1 c) chk_soff1_P
    (mm_val 0 (o := soff (uu 0 c) 0 + 8 * 1) (soff8 0 c 1) ((shapeCast_self _ _).trans (mm_pay0 (cat_pay e558 e583 e608 e633 e658 e683 e708 ((shapeCast_self _ _).trans e732)) ((shapeCast_self _ _).trans e735)))) ?_
  exact ret_step h

theorem pt23 {Q : (Σ' (v753 : BitVec 32) (v778 : FVec F S64x1024 .bf16) (v779 : BitVec 32) (v780 : BitVec 32), BitVec 32) → sProp 𝕄} {v164 : BitVec 32}
    (h : ∀ (r0 : BitVec 32) (r1 : FVec F S64x1024 .bf16) (r2 r3 r4 : BitVec 32), r1 = aBlk (xa c) (rb 1 ((soff (uu 1 c) 0 + 8 * 0) + 0)) → (St xa xb K c ![3, 0, 0] ⊢ Q ⟨r0, r1, r2, r3, r4⟩)) :
    St xa xb K c ![2, 0, 0] ⊢ wpc c (k0_part23 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v164) Q := by
  rw [k0_part23_eq_skeleton]; unfold k0_part23_skel
  refine step_sendRS 0 0 (n := 16) (T' := ![3, 0, 0]) rfl (dev7 c) rfl (by decide) (off3_0 c) rfl rfl rfl rfl ?_
  refine step_loadA (o := rb 1 ((soff (uu 1 c) 0 + 8 * 0) + 0)) (off1_1 0 0 c) fun v777 e777 => ?_
  exact ret_step (h _ _ _ _ _ ((shapeCast_self _ _).trans e777))

theorem pt24 {Q : (Σ' (v803 : FVec F S64x1024 .bf16) (v804 : BitVec 32) (v812 : BitVec 32), BitVec 32) → sProp 𝕄} {v753 v779 v780 c1_i32_572 : BitVec 32}
    (h : ∀ (r0 : FVec F S64x1024 .bf16) (r1 r2 r3 : BitVec 32), r0 = aBlk (xa c) (rb 1 ((soff (uu 1 c) 0 + 8 * 0) + 1)) → (St xa xb K c ![3, 0, 0] ⊢ Q ⟨r0, r1, r2, r3⟩)) :
    St xa xb K c ![3, 0, 0] ⊢ wpc c (k0_part24 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v753 v779 v780 c1_i32_572) Q := by
  rw [k0_part24_eq_skeleton]; unfold k0_part24_skel
  refine step_loadA (o := rb 1 ((soff (uu 1 c) 0 + 8 * 0) + 1)) (off1_1 0 1 c) fun v802 e802 => ?_
  exact ret_step (h _ _ _ _ ((shapeCast_self _ _).trans e802))

theorem pt25 {Q : (Σ' (v828 : FVec F S64x1024 .bf16) (v845 : BitVec 32), BitVec 32) → sProp 𝕄} {v753 v804 v812 v814 : BitVec 32}
    (h : ∀ (r0 : FVec F S64x1024 .bf16) (r1 r2 : BitVec 32), r0 = aBlk (xa c) (rb 1 ((soff (uu 1 c) 0 + 8 * 0) + 2)) → (St xa xb K c ![3, 0, 0] ⊢ Q ⟨r0, r1, r2⟩)) :
    St xa xb K c ![3, 0, 0] ⊢ wpc c (k0_part25 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v753 v804 v812 v814) Q := by
  rw [k0_part25_eq_skeleton]; unfold k0_part25_skel
  refine step_loadA (o := rb 1 ((soff (uu 1 c) 0 + 8 * 0) + 2)) (off1_1 0 2 c) fun v827 e827 => ?_
  exact ret_step (h _ _ _ ((shapeCast_self _ _).trans e827))

theorem pt26 {Q : (Σ' (v853 : FVec F S64x1024 .bf16) (v878 : FVec F S64x1024 .bf16) (v879 : BitVec 32) (v882 : BitVec 32), BitVec 32) → sProp 𝕄} {v753 v845 v848 : BitVec 32}
    (h : ∀ (r0 r1 : FVec F S64x1024 .bf16) (r2 r3 r4 : BitVec 32), r0 = aBlk (xa c) (rb 1 ((soff (uu 1 c) 0 + 8 * 0) + 3)) → r1 = aBlk (xa c) (rb 1 ((soff (uu 1 c) 0 + 8 * 0) + 4)) → (St xa xb K c ![3, 0, 0] ⊢ Q ⟨r0, r1, r2, r3, r4⟩)) :
    St xa xb K c ![3, 0, 0] ⊢ wpc c (k0_part26 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v753 v845 v848) Q := by
  rw [k0_part26_eq_skeleton]; unfold k0_part26_skel
  refine step_loadA (o := rb 1 ((soff (uu 1 c) 0 + 8 * 0) + 3)) (off1_1 0 3 c) fun v852 e852 => ?_
  refine step_loadA (o := rb 1 ((soff (uu 1 c) 0 + 8 * 0) + 4)) (off1_1 0 4 c) fun v877 e877 => ?_
  exact ret_step (h _ _ _ _ _ ((shapeCast_self _ _).trans e852) ((shapeCast_self _ _).trans e877))

theorem pt27 {Q : (Σ' (v903 : FVec F S64x1024 .bf16) (v904 : BitVec 32) (v916 : BitVec 32), BitVec 32) → sProp 𝕄} {v753 v879 v882 c0_i32_650 : BitVec 32}
    (h : ∀ (r0 : FVec F S64x1024 .bf16) (r1 r2 r3 : BitVec 32), r0 = aBlk (xa c) (rb 1 ((soff (uu 1 c) 0 + 8 * 0) + 5)) → (St xa xb K c ![3, 0, 0] ⊢ Q ⟨r0, r1, r2, r3⟩)) :
    St xa xb K c ![3, 0, 0] ⊢ wpc c (k0_part27 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v753 v879 v882 c0_i32_650) Q := by
  rw [k0_part27_eq_skeleton]; unfold k0_part27_skel
  refine step_loadA (o := rb 1 ((soff (uu 1 c) 0 + 8 * 0) + 5)) (off1_1 0 5 c) fun v902 e902 => ?_
  exact ret_step (h _ _ _ _ ((shapeCast_self _ _).trans e902))

theorem pt28 {Q : (FVec F S64x1024 .bf16) → sProp 𝕄} {v753 v904 v916 c1_i32_676 : BitVec 32}
    (h : ∀ (r0 : FVec F S64x1024 .bf16), r0 = aBlk (xa c) (rb 1 ((soff (uu 1 c) 0 + 8 * 0) + 6)) → (St xa xb K c ![3, 0, 0] ⊢ Q r0)) :
    St xa xb K c ![3, 0, 0] ⊢ wpc c (k0_part28 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v753 v904 v916 c1_i32_676) Q := by
  rw [k0_part28_eq_skeleton]; unfold k0_part28_skel
  refine step_loadA (o := rb 1 ((soff (uu 1 c) 0 + 8 * 0) + 6)) (off1_1 0 6 c) fun v927 e927 => ?_
  exact ret_step (h _ ((shapeCast_self _ _).trans e927))

theorem pt29 {Q : (Σ' (v964 : BitVec 32) (v985 : BitVec 32), BitVec 32) → sProp 𝕄} {v164 v753 : BitVec 32} {v778 v803 v828 v853 v878 v903 v928 : FVec F S64x1024 .bf16}
    (e778 : v778 = aBlk (xa c) (rb 1 ((soff (uu 1 c) 0 + 8 * 0) + 0))) (e803 : v803 = aBlk (xa c) (rb 1 ((soff (uu 1 c) 0 + 8 * 0) + 1))) (e828 : v828 = aBlk (xa c) (rb 1 ((soff (uu 1 c) 0 + 8 * 0) + 2))) (e853 : v853 = aBlk (xa c) (rb 1 ((soff (uu 1 c) 0 + 8 * 0) + 3))) (e878 : v878 = aBlk (xa c) (rb 1 ((soff (uu 1 c) 0 + 8 * 0) + 4))) (e903 : v903 = aBlk (xa c) (rb 1 ((soff (uu 1 c) 0 + 8 * 0) + 5))) (e928 : v928 = aBlk (xa c) (rb 1 ((soff (uu 1 c) 0 + 8 * 0) + 6)))
    (h : ∀ (r0 r1 r2 : BitVec 32), (St xa xb K c ![3, 1, 0] ⊢ Q ⟨r0, r1, r2⟩)) :
    St xa xb K c ![3, 0, 0] ⊢ wpc c (k0_part29 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v164 v753 v778 v803 v828 v853 v878 v903 v928) Q := by
  rw [k0_part29_eq_skeleton]; unfold k0_part29_skel
  refine step_loadA (o := rb 1 ((soff (uu 1 c) 0 + 8 * 0) + 7)) (off1_1 0 7 c) fun v952 e952 => ?_
  refine step_loadB 1 rfl fun v955 e955 => ?_
  refine step_deadP 1 (o := fun u => soff u 0 + 8 * 0) (n := 8) (t := 0) rfl (off4_1 0 c) chk_soff0_D fun v961 => ?_
  refine step_storeP 1 (o := fun u => soff u 0 + 8 * 0) (n := 8) (l := 0) (t := 0) (T' := ![3, 1, 0]) rfl (by decide) (off4_1 0 c) chk_soff0_P
    (mm_val 1 (o := soff (uu 1 c) 0 + 8 * 0) (soff8 1 c 0) ((shapeCast_self _ _).trans (mm_pay1 (cat_pay e778 e803 e828 e853 e878 e903 e928 ((shapeCast_self _ _).trans e952)) ((shapeCast_self _ _).trans e955)))) ?_
  exact ret_step (h _ _ _)

theorem pt30 {Q : (Σ' (v989 : FVec F S64x1024 .bf16) (v1014 : FVec F S64x1024 .bf16) (v1015 : BitVec 32) (v1019 : BitVec 32), BitVec 32) → sProp 𝕄} {v964 v985 c64_i32_725 : BitVec 32}
    (h : ∀ (r0 r1 : FVec F S64x1024 .bf16) (r2 r3 r4 : BitVec 32), r0 = aBlk (xa c) (rb 1 ((soff (uu 1 c) 0 + 8 * 1) + 0)) → r1 = aBlk (xa c) (rb 1 ((soff (uu 1 c) 0 + 8 * 1) + 1)) → (St xa xb K c ![3, 1, 0] ⊢ Q ⟨r0, r1, r2, r3, r4⟩)) :
    St xa xb K c ![3, 1, 0] ⊢ wpc c (k0_part30 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v964 v985 c64_i32_725) Q := by
  rw [k0_part30_eq_skeleton]; unfold k0_part30_skel
  refine step_loadA (o := rb 1 ((soff (uu 1 c) 0 + 8 * 1) + 0)) (off1_1 1 0 c) fun v988 e988 => ?_
  refine step_loadA (o := rb 1 ((soff (uu 1 c) 0 + 8 * 1) + 1)) (off1_1 1 1 c) fun v1013 e1013 => ?_
  exact ret_step (h _ _ _ _ _ ((shapeCast_self _ _).trans e988) ((shapeCast_self _ _).trans e1013))

theorem pt31 {Q : (Σ' (v1039 : FVec F S64x1024 .bf16) (v1040 : BitVec 32) (v1052 : BitVec 32) (v1053 : BitVec 32), BitVec 32) → sProp 𝕄} {v964 v1015 v1019 c3_i32_751 : BitVec 32}
    (h : ∀ (r0 : FVec F S64x1024 .bf16) (r1 r2 r3 r4 : BitVec 32), r0 = aBlk (xa c) (rb 1 ((soff (uu 1 c) 0 + 8 * 1) + 2)) → (St xa xb K c ![3, 1, 0] ⊢ Q ⟨r0, r1, r2, r3, r4⟩)) :
    St xa xb K c ![3, 1, 0] ⊢ wpc c (k0_part31 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v964 v1015 v1019 c3_i32_751) Q := by
  rw [k0_part31_eq_skeleton]; unfold k0_part31_skel
  refine step_loadA (o := rb 1 ((soff (uu 1 c) 0 + 8 * 1) + 2)) (off1_1 1 2 c) fun v1038 e1038 => ?_
  exact ret_step (h _ _ _ _ _ ((shapeCast_self _ _).trans e1038))

theorem pt32 {Q : (Σ' (v1064 : FVec F S64x1024 .bf16), Vec F S64x1024 .bf16) → sProp 𝕄} {v964 v1040 v1052 v1053 c1_i32_777 : BitVec 32}
    (h : ∀ (r0 : FVec F S64x1024 .bf16) (r1 : Vec F S64x1024 .bf16), r0 = aBlk (xa c) (rb 1 ((soff (uu 1 c) 0 + 8 * 1) + 3)) → r1 = aBlk (xa c) (rb 1 ((soff (uu 1 c) 0 + 8 * 1) + 4)) → (St xa xb K c ![3, 1, 0] ⊢ Q ⟨r0, r1⟩)) :
    St xa xb K c ![3, 1, 0] ⊢ wpc c (k0_part32 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v964 v1040 v1052 v1053 c1_i32_777) Q := by
  rw [k0_part32_eq_skeleton]; unfold k0_part32_skel
  refine step_loadA (o := rb 1 ((soff (uu 1 c) 0 + 8 * 1) + 3)) (off1_1 1 3 c) fun v1063 e1063 => ?_
  refine step_loadA (o := rb 1 ((soff (uu 1 c) 0 + 8 * 1) + 4)) (off1_1 1 4 c) fun v1088 e1088 => ?_
  exact ret_step (h _ _ ((shapeCast_self _ _).trans e1063) e1088)

end Cert.Cube

end
-- ==== Proof.Parts2.lean ====
/-
# The kernel, pieces 33 to 64

What each of these pieces of the kernel does to the state, one step after the other.
-/
module

public import proofs.«01_k».proof.Proof.Checks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt33 {Q : (Σ' (v1089 : FVec F S64x1024 .bf16) (v1114 : FVec F S64x1024 .bf16) (v1115 : BitVec 32) (v1119 : BitVec 32) (v1121 : BitVec 32), BitVec 32) → sProp 𝕄} {v964 : BitVec 32} {v1088 : Vec F S64x1024 .bf16}
    (e1088 : v1088 = aBlk (xa c) (rb 1 ((soff (uu 1 c) 0 + 8 * 1) + 4)))
    (h : ∀ (r0 r1 : FVec F S64x1024 .bf16) (r2 r3 r4 r5 : BitVec 32), r0 = aBlk (xa c) (rb 1 ((soff (uu 1 c) 0 + 8 * 1) + 4)) → r1 = aBlk (xa c) (rb 1 ((soff (uu 1 c) 0 + 8 * 1) + 5)) → (St xa xb K c ![3, 1, 0] ⊢ Q ⟨r0, r1, r2, r3, r4, r5⟩)) :
    St xa xb K c ![3, 1, 0] ⊢ wpc c (k0_part33 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v964 v1088) Q := by
  rw [k0_part33_eq_skeleton]; unfold k0_part33_skel
  refine step_loadA (o := rb 1 ((soff (uu 1 c) 0 + 8 * 1) + 5)) (off1_1 1 5 c) fun v1113 e1113 => ?_
  exact ret_step (h _ _ _ _ _ _ ((shapeCast_self _ _).trans e1088) ((shapeCast_self _ _).trans e1113))

theorem pt34 {Q : (Σ' (v1139 : FVec F S64x1024 .bf16) (v1140 : BitVec 32), BitVec 32) → sProp 𝕄} {v964 v1115 v1119 v1121 c1_i32_829 : BitVec 32}
    (h : ∀ (r0 : FVec F S64x1024 .bf16) (r1 r2 : BitVec 32), r0 = aBlk (xa c) (rb 1 ((soff (uu 1 c) 0 + 8 * 1) + 6)) → (St xa xb K c ![3, 1, 0] ⊢ Q ⟨r0, r1, r2⟩)) :
    St xa xb K c ![3, 1, 0] ⊢ wpc c (k0_part34 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v964 v1115 v1119 v1121 c1_i32_829) Q := by
  rw [k0_part34_eq_skeleton]; unfold k0_part34_skel
  refine step_loadA (o := rb 1 ((soff (uu 1 c) 0 + 8 * 1) + 6)) (off1_1 1 6 c) fun v1138 e1138 => ?_
  exact ret_step (h _ _ _ ((shapeCast_self _ _).trans e1138))

theorem pt35 {Q : (Σ' (v1184 : BitVec 32) (v1185 : BitVec 32) (v1189 : BitVec 32), BitVec 32) → sProp 𝕄} {v153 v164 v264 v964 : BitVec 32} {v989 v1014 v1039 v1064 v1089 v1114 v1139 : FVec F S64x1024 .bf16} {v1140 v1156 : BitVec 32}
    (e989 : v989 = aBlk (xa c) (rb 1 ((soff (uu 1 c) 0 + 8 * 1) + 0))) (e1014 : v1014 = aBlk (xa c) (rb 1 ((soff (uu 1 c) 0 + 8 * 1) + 1))) (e1039 : v1039 = aBlk (xa c) (rb 1 ((soff (uu 1 c) 0 + 8 * 1) + 2))) (e1064 : v1064 = aBlk (xa c) (rb 1 ((soff (uu 1 c) 0 + 8 * 1) + 3))) (e1089 : v1089 = aBlk (xa c) (rb 1 ((soff (uu 1 c) 0 + 8 * 1) + 4))) (e1114 : v1114 = aBlk (xa c) (rb 1 ((soff (uu 1 c) 0 + 8 * 1) + 5))) (e1139 : v1139 = aBlk (xa c) (rb 1 ((soff (uu 1 c) 0 + 8 * 1) + 6)))
    (h : ∀ (r0 r1 r2 r3 : BitVec 32), (St xa xb K c ![3, 3, 0] ⊢ Q ⟨r0, r1, r2, r3⟩)) :
    St xa xb K c ![3, 1, 0] ⊢ wpc c (k0_part35 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v153 v164 v264 v964 v989 v1014 v1039 v1064 v1089 v1114 v1139 v1140 v1156) Q := by
  rw [k0_part35_eq_skeleton]; unfold k0_part35_skel
  refine step_loadA (o := rb 1 ((soff (uu 1 c) 0 + 8 * 1) + 7)) (off1_1 1 7 c) fun v1163 e1163 => ?_
  refine step_loadB 1 rfl fun v1166 e1166 => ?_
  refine step_deadP 1 (o := fun u => soff u 0 + 8 * 1) (n := 8) (t := 1) rfl (off4_1 1 c) chk_soff1_D fun v1172 => ?_
  refine step_storeP 1 (o := fun u => soff u 0 + 8 * 1) (n := 8) (l := 0) (t := 1) (T' := ![3, 2, 0]) rfl (by decide) (off4_1 1 c) chk_soff1_P
    (mm_val 1 (o := soff (uu 1 c) 0 + 8 * 1) (soff8 1 c 1) ((shapeCast_self _ _).trans (mm_pay1 (cat_pay e989 e1014 e1039 e1064 e1089 e1114 e1139 ((shapeCast_self _ _).trans e1163)) ((shapeCast_self _ _).trans e1166)))) ?_
  refine step_sendRS 1 0 (n := 16) (T' := ![3, 3, 0]) rfl (dev8 c) rfl (by decide) (off5_1 c) rfl rfl rfl rfl ?_
  exact ret_step (h _ _ _ _)

theorem pt36 {Q : (Σ' (v1209 : FVec F S64x1024 .bf16) (v1210 : BitVec 32) (v1222 : BitVec 32) (v1223 : BitVec 32), BitVec 32) → sProp 𝕄} {v1184 v1185 v1189 c3_i32_878 : BitVec 32}
    (h : ∀ (r0 : FVec F S64x1024 .bf16) (r1 r2 r3 r4 : BitVec 32), r0 = aBlk (xa c) (rb 2 ((soff (uu 2 c) 0 + 8 * 0) + 0)) → (St xa xb K c ![3, 3, 0] ⊢ Q ⟨r0, r1, r2, r3, r4⟩)) :
    St xa xb K c ![3, 3, 0] ⊢ wpc c (k0_part36 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1184 v1185 v1189 c3_i32_878) Q := by
  rw [k0_part36_eq_skeleton]; unfold k0_part36_skel
  refine step_loadA (o := rb 2 ((soff (uu 2 c) 0 + 8 * 0) + 0)) (off1_2 0 0 c) fun v1208 e1208 => ?_
  exact ret_step (h _ _ _ _ _ ((shapeCast_self _ _).trans e1208))

theorem pt37 {Q : (Σ' (v1234 : FVec F S64x1024 .bf16), Vec F S64x1024 .bf16) → sProp 𝕄} {v1184 v1210 v1222 v1223 c1_i32_904 : BitVec 32}
    (h : ∀ (r0 : FVec F S64x1024 .bf16) (r1 : Vec F S64x1024 .bf16), r0 = aBlk (xa c) (rb 2 ((soff (uu 2 c) 0 + 8 * 0) + 1)) → r1 = aBlk (xa c) (rb 2 ((soff (uu 2 c) 0 + 8 * 0) + 2)) → (St xa xb K c ![3, 3, 0] ⊢ Q ⟨r0, r1⟩)) :
    St xa xb K c ![3, 3, 0] ⊢ wpc c (k0_part37 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1184 v1210 v1222 v1223 c1_i32_904) Q := by
  rw [k0_part37_eq_skeleton]; unfold k0_part37_skel
  refine step_loadA (o := rb 2 ((soff (uu 2 c) 0 + 8 * 0) + 1)) (off1_2 0 1 c) fun v1233 e1233 => ?_
  refine step_loadA (o := rb 2 ((soff (uu 2 c) 0 + 8 * 0) + 2)) (off1_2 0 2 c) fun v1258 e1258 => ?_
  exact ret_step (h _ _ ((shapeCast_self _ _).trans e1233) e1258)

theorem pt38 {Q : (Σ' (v1259 : FVec F S64x1024 .bf16) (v1284 : FVec F S64x1024 .bf16) (v1285 : BitVec 32) (v1289 : BitVec 32) (v1291 : BitVec 32), BitVec 32) → sProp 𝕄} {v1184 : BitVec 32} {v1258 : Vec F S64x1024 .bf16}
    (e1258 : v1258 = aBlk (xa c) (rb 2 ((soff (uu 2 c) 0 + 8 * 0) + 2)))
    (h : ∀ (r0 r1 : FVec F S64x1024 .bf16) (r2 r3 r4 r5 : BitVec 32), r0 = aBlk (xa c) (rb 2 ((soff (uu 2 c) 0 + 8 * 0) + 2)) → r1 = aBlk (xa c) (rb 2 ((soff (uu 2 c) 0 + 8 * 0) + 3)) → (St xa xb K c ![3, 3, 0] ⊢ Q ⟨r0, r1, r2, r3, r4, r5⟩)) :
    St xa xb K c ![3, 3, 0] ⊢ wpc c (k0_part38 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1184 v1258) Q := by
  rw [k0_part38_eq_skeleton]; unfold k0_part38_skel
  refine step_loadA (o := rb 2 ((soff (uu 2 c) 0 + 8 * 0) + 3)) (off1_2 0 3 c) fun v1283 e1283 => ?_
  exact ret_step (h _ _ _ _ _ _ ((shapeCast_self _ _).trans e1258) ((shapeCast_self _ _).trans e1283))

theorem pt39 {Q : (Σ' (v1309 : FVec F S64x1024 .bf16) (v1310 : BitVec 32), BitVec 32) → sProp 𝕄} {v1184 v1285 v1289 v1291 c4_i32_956 : BitVec 32}
    (h : ∀ (r0 : FVec F S64x1024 .bf16) (r1 r2 : BitVec 32), r0 = aBlk (xa c) (rb 2 ((soff (uu 2 c) 0 + 8 * 0) + 4)) → (St xa xb K c ![3, 3, 0] ⊢ Q ⟨r0, r1, r2⟩)) :
    St xa xb K c ![3, 3, 0] ⊢ wpc c (k0_part39 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1184 v1285 v1289 v1291 c4_i32_956) Q := by
  rw [k0_part39_eq_skeleton]; unfold k0_part39_skel
  refine step_loadA (o := rb 2 ((soff (uu 2 c) 0 + 8 * 0) + 4)) (off1_2 0 4 c) fun v1308 e1308 => ?_
  exact ret_step (h _ _ _ ((shapeCast_self _ _).trans e1308))

theorem pt40 {Q : (Σ' (v1334 : FVec F S64x1024 .bf16) (v1359 : FVec F S64x1024 .bf16) (v1360 : BitVec 32), BitVec 32) → sProp 𝕄} {v1184 v1310 v1326 : BitVec 32}
    (h : ∀ (r0 r1 : FVec F S64x1024 .bf16) (r2 r3 : BitVec 32), r0 = aBlk (xa c) (rb 2 ((soff (uu 2 c) 0 + 8 * 0) + 5)) → r1 = aBlk (xa c) (rb 2 ((soff (uu 2 c) 0 + 8 * 0) + 6)) → (St xa xb K c ![3, 3, 0] ⊢ Q ⟨r0, r1, r2, r3⟩)) :
    St xa xb K c ![3, 3, 0] ⊢ wpc c (k0_part40 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1184 v1310 v1326) Q := by
  rw [k0_part40_eq_skeleton]; unfold k0_part40_skel
  refine step_loadA (o := rb 2 ((soff (uu 2 c) 0 + 8 * 0) + 5)) (off1_2 0 5 c) fun v1333 e1333 => ?_
  refine step_loadA (o := rb 2 ((soff (uu 2 c) 0 + 8 * 0) + 6)) (off1_2 0 6 c) fun v1358 e1358 => ?_
  exact ret_step (h _ _ _ _ ((shapeCast_self _ _).trans e1333) ((shapeCast_self _ _).trans e1358))

theorem pt41 {Q : (Σ' (v1395 : BitVec 32), BitVec 32) → sProp 𝕄} {v264 v1184 : BitVec 32} {v1209 v1234 v1259 v1284 v1309 v1334 v1359 : FVec F S64x1024 .bf16} {v1360 c4_i32_1007 : BitVec 32}
    (e1209 : v1209 = aBlk (xa c) (rb 2 ((soff (uu 2 c) 0 + 8 * 0) + 0))) (e1234 : v1234 = aBlk (xa c) (rb 2 ((soff (uu 2 c) 0 + 8 * 0) + 1))) (e1259 : v1259 = aBlk (xa c) (rb 2 ((soff (uu 2 c) 0 + 8 * 0) + 2))) (e1284 : v1284 = aBlk (xa c) (rb 2 ((soff (uu 2 c) 0 + 8 * 0) + 3))) (e1309 : v1309 = aBlk (xa c) (rb 2 ((soff (uu 2 c) 0 + 8 * 0) + 4))) (e1334 : v1334 = aBlk (xa c) (rb 2 ((soff (uu 2 c) 0 + 8 * 0) + 5))) (e1359 : v1359 = aBlk (xa c) (rb 2 ((soff (uu 2 c) 0 + 8 * 0) + 6)))
    (h : ∀ (r0 r1 : BitVec 32), (St xa xb K c ![3, 3, 1] ⊢ Q ⟨r0, r1⟩)) :
    St xa xb K c ![3, 3, 0] ⊢ wpc c (k0_part41 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v264 v1184 v1209 v1234 v1259 v1284 v1309 v1334 v1359 v1360 c4_i32_1007) Q := by
  rw [k0_part41_eq_skeleton]; unfold k0_part41_skel
  refine step_loadA (o := rb 2 ((soff (uu 2 c) 0 + 8 * 0) + 7)) (off1_2 0 7 c) fun v1383 e1383 => ?_
  refine step_loadB 2 rfl fun v1386 e1386 => ?_
  refine step_deadP 2 (o := fun u => soff u 0 + 8 * 0) (n := 8) (t := 0) rfl (off4_2 0 c) chk_soff0_D fun v1392 => ?_
  refine step_storeP 2 (o := fun u => soff u 0 + 8 * 0) (n := 8) (l := 0) (t := 0) (T' := ![3, 3, 1]) rfl (by decide) (off4_2 0 c) chk_soff0_P
    (mm_val 2 (o := soff (uu 2 c) 0 + 8 * 0) (soff8 2 c 0) ((shapeCast_self _ _).trans (mm_pay2 (cat_pay e1209 e1234 e1259 e1284 e1309 e1334 e1359 ((shapeCast_self _ _).trans e1383)) ((shapeCast_self _ _).trans e1386)))) ?_
  exact ret_step (h _ _)

theorem pt42 {Q : (Σ' (v1420 : FVec F S64x1024 .bf16) (v1421 : BitVec 32), BitVec 32) → sProp 𝕄} {v1395 c0_i32_1030 : BitVec 32}
    (h : ∀ (r0 : FVec F S64x1024 .bf16) (r1 r2 : BitVec 32), r0 = aBlk (xa c) (rb 2 ((soff (uu 2 c) 0 + 8 * 1) + 0)) → (St xa xb K c ![3, 3, 1] ⊢ Q ⟨r0, r1, r2⟩)) :
    St xa xb K c ![3, 3, 1] ⊢ wpc c (k0_part42 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1395 c0_i32_1030) Q := by
  rw [k0_part42_eq_skeleton]; unfold k0_part42_skel
  refine step_loadA (o := rb 2 ((soff (uu 2 c) 0 + 8 * 1) + 0)) (off1_2 1 0 c) fun v1419 e1419 => ?_
  exact ret_step (h _ _ _ ((shapeCast_self _ _).trans e1419))

theorem pt43 {Q : (Σ' (v1445 : FVec F S64x1024 .bf16) (v1462 : BitVec 32), BitVec 32) → sProp 𝕄} {v1395 v1421 v1429 : BitVec 32}
    (h : ∀ (r0 : FVec F S64x1024 .bf16) (r1 r2 : BitVec 32), r0 = aBlk (xa c) (rb 2 ((soff (uu 2 c) 0 + 8 * 1) + 1)) → (St xa xb K c ![3, 3, 1] ⊢ Q ⟨r0, r1, r2⟩)) :
    St xa xb K c ![3, 3, 1] ⊢ wpc c (k0_part43 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1395 v1421 v1429) Q := by
  rw [k0_part43_eq_skeleton]; unfold k0_part43_skel
  refine step_loadA (o := rb 2 ((soff (uu 2 c) 0 + 8 * 1) + 1)) (off1_2 1 1 c) fun v1444 e1444 => ?_
  exact ret_step (h _ _ _ ((shapeCast_self _ _).trans e1444))

theorem pt44 {Q : (Σ' (v1470 : FVec F S64x1024 .bf16) (v1495 : FVec F S64x1024 .bf16) (v1496 : BitVec 32) (v1497 : BitVec 32), BitVec 32) → sProp 𝕄} {v1395 v1462 v1463 : BitVec 32}
    (h : ∀ (r0 r1 : FVec F S64x1024 .bf16) (r2 r3 r4 : BitVec 32), r0 = aBlk (xa c) (rb 2 ((soff (uu 2 c) 0 + 8 * 1) + 2)) → r1 = aBlk (xa c) (rb 2 ((soff (uu 2 c) 0 + 8 * 1) + 3)) → (St xa xb K c ![3, 3, 1] ⊢ Q ⟨r0, r1, r2, r3, r4⟩)) :
    St xa xb K c ![3, 3, 1] ⊢ wpc c (k0_part44 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1395 v1462 v1463) Q := by
  rw [k0_part44_eq_skeleton]; unfold k0_part44_skel
  refine step_loadA (o := rb 2 ((soff (uu 2 c) 0 + 8 * 1) + 2)) (off1_2 1 2 c) fun v1469 e1469 => ?_
  refine step_loadA (o := rb 2 ((soff (uu 2 c) 0 + 8 * 1) + 3)) (off1_2 1 3 c) fun v1494 e1494 => ?_
  exact ret_step (h _ _ _ _ _ ((shapeCast_self _ _).trans e1469) ((shapeCast_self _ _).trans e1494))

theorem pt45 {Q : (Σ' (v1520 : FVec F S64x1024 .bf16) (v1521 : BitVec 32) (v1529 : BitVec 32), BitVec 32) → sProp 𝕄} {v1395 v1496 v1497 c1_i32_1108 : BitVec 32}
    (h : ∀ (r0 : FVec F S64x1024 .bf16) (r1 r2 r3 : BitVec 32), r0 = aBlk (xa c) (rb 2 ((soff (uu 2 c) 0 + 8 * 1) + 4)) → (St xa xb K c ![3, 3, 1] ⊢ Q ⟨r0, r1, r2, r3⟩)) :
    St xa xb K c ![3, 3, 1] ⊢ wpc c (k0_part45 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1395 v1496 v1497 c1_i32_1108) Q := by
  rw [k0_part45_eq_skeleton]; unfold k0_part45_skel
  refine step_loadA (o := rb 2 ((soff (uu 2 c) 0 + 8 * 1) + 4)) (off1_2 1 4 c) fun v1519 e1519 => ?_
  exact ret_step (h _ _ _ _ ((shapeCast_self _ _).trans e1519))

theorem pt46 {Q : (Σ' (v1545 : FVec F S64x1024 .bf16) (v1562 : BitVec 32), BitVec 32) → sProp 𝕄} {v1395 v1521 v1529 v1531 : BitVec 32}
    (h : ∀ (r0 : FVec F S64x1024 .bf16) (r1 r2 : BitVec 32), r0 = aBlk (xa c) (rb 2 ((soff (uu 2 c) 0 + 8 * 1) + 5)) → (St xa xb K c ![3, 3, 1] ⊢ Q ⟨r0, r1, r2⟩)) :
    St xa xb K c ![3, 3, 1] ⊢ wpc c (k0_part46 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1395 v1521 v1529 v1531) Q := by
  rw [k0_part46_eq_skeleton]; unfold k0_part46_skel
  refine step_loadA (o := rb 2 ((soff (uu 2 c) 0 + 8 * 1) + 5)) (off1_2 1 5 c) fun v1544 e1544 => ?_
  exact ret_step (h _ _ _ ((shapeCast_self _ _).trans e1544))

theorem pt47 {Q : (Σ' (v1600 : FVec F S512x640 .bf16), BitVec 32) → sProp 𝕄} {v1395 : BitVec 32} {v1420 v1445 v1470 v1495 v1520 v1545 : FVec F S64x1024 .bf16} {v1562 v1565 : BitVec 32}
    (e1420 : v1420 = aBlk (xa c) (rb 2 ((soff (uu 2 c) 0 + 8 * 1) + 0))) (e1445 : v1445 = aBlk (xa c) (rb 2 ((soff (uu 2 c) 0 + 8 * 1) + 1))) (e1470 : v1470 = aBlk (xa c) (rb 2 ((soff (uu 2 c) 0 + 8 * 1) + 2))) (e1495 : v1495 = aBlk (xa c) (rb 2 ((soff (uu 2 c) 0 + 8 * 1) + 3))) (e1520 : v1520 = aBlk (xa c) (rb 2 ((soff (uu 2 c) 0 + 8 * 1) + 4))) (e1545 : v1545 = aBlk (xa c) (rb 2 ((soff (uu 2 c) 0 + 8 * 1) + 5)))
    (h : ∀ (r0 : FVec F S512x640 .bf16) (r1 : BitVec 32), r0 = mmv 2 (cat8 fun i => aBlk (xa c) (rb 2 ((soff (uu 2 c) 0 + 8 * 1) + i))) (bBlk (xb c) 2) → (St xa xb K c ![3, 3, 1] ⊢ Q ⟨r0, r1⟩)) :
    St xa xb K c ![3, 3, 1] ⊢ wpc c (k0_part47 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1395 v1420 v1445 v1470 v1495 v1520 v1545 v1562 v1565) Q := by
  rw [k0_part47_eq_skeleton]; unfold k0_part47_skel
  refine step_loadA (o := rb 2 ((soff (uu 2 c) 0 + 8 * 1) + 6)) (off1_2 1 6 c) fun v1569 e1569 => ?_
  refine step_loadA (o := rb 2 ((soff (uu 2 c) 0 + 8 * 1) + 7)) (off1_2 1 7 c) fun v1594 e1594 => ?_
  refine step_loadB 2 rfl fun v1597 e1597 => ?_
  exact ret_step (h _ _ (mm_pay2 (cat_pay e1420 e1445 e1470 e1495 e1520 e1545 ((shapeCast_self _ _).trans e1569) ((shapeCast_self _ _).trans e1594)) ((shapeCast_self _ _).trans e1597)))

theorem pt48 {Q : (Σ' (v1615 : BitVec 32) (v1632 : BitVec 32), BitVec 32) → sProp 𝕄} {v66 v253 v264 v1395 : BitVec 32} {v1600 : FVec F S512x640 .bf16} {c64_i32_1185 : BitVec 32}
    (e1600 : v1600 = mmv 2 (cat8 fun i => aBlk (xa c) (rb 2 ((soff (uu 2 c) 0 + 8 * 1) + i))) (bBlk (xb c) 2))
    (h : ∀ (r0 r1 r2 : BitVec 32), (St xa xb K c ![3, 3, 3] ⊢ Q ⟨r0, r1, r2⟩)) :
    St xa xb K c ![3, 3, 1] ⊢ wpc c (k0_part48 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v66 v253 v264 v1395 v1600 c64_i32_1185) Q := by
  rw [k0_part48_eq_skeleton]; unfold k0_part48_skel
  refine step_deadP 2 (o := fun u => soff u 0 + 8 * 1) (n := 8) (t := 1) rfl (off4_2 1 c) chk_soff1_D fun v1603 => ?_
  refine step_storeP 2 (o := fun u => soff u 0 + 8 * 1) (n := 8) (l := 0) (t := 1) (T' := ![3, 3, 2]) rfl (by decide) (off4_2 1 c) chk_soff1_P
    (mm_val 2 (o := soff (uu 2 c) 0 + 8 * 1) (soff8 2 c 1) ((shapeCast_self _ _).trans (e1600))) ?_
  refine step_sendRS 2 0 (n := 16) (T' := ![3, 3, 3]) rfl (dev9 c) rfl (by decide) (off5_2 c) rfl rfl rfl rfl ?_
  exact ret_step (h _ _ _)

theorem pt49 {Q : (Σ' (v1640 : FVec F S64x1024 .bf16) (v1665 : FVec F S64x1024 .bf16) (v1666 : BitVec 32) (v1667 : BitVec 32), BitVec 32) → sProp 𝕄} {v1615 v1632 v1633 : BitVec 32}
    (h : ∀ (r0 r1 : FVec F S64x1024 .bf16) (r2 r3 r4 : BitVec 32), r0 = aBlk (xa c) (rb 0 ((nb (uu 0 c) 0 + 8 * 0) + 0)) → r1 = aBlk (xa c) (rb 0 ((nb (uu 0 c) 0 + 8 * 0) + 1)) → (St xa xb K c ![3, 3, 3] ⊢ Q ⟨r0, r1, r2, r3, r4⟩)) :
    St xa xb K c ![3, 3, 3] ⊢ wpc c (k0_part49 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1615 v1632 v1633) Q := by
  rw [k0_part49_eq_skeleton]; unfold k0_part49_skel
  refine step_loadA (o := rb 0 ((nb (uu 0 c) 0 + 8 * 0) + 0)) (off6_0 0 0 c) fun v1639 e1639 => ?_
  refine step_loadA (o := rb 0 ((nb (uu 0 c) 0 + 8 * 0) + 1)) (off6_0 0 1 c) fun v1664 e1664 => ?_
  exact ret_step (h _ _ _ _ _ ((shapeCast_self _ _).trans e1639) ((shapeCast_self _ _).trans e1664))

theorem pt50 {Q : (Σ' (v1690 : FVec F S64x1024 .bf16) (v1691 : BitVec 32) (v1699 : BitVec 32), BitVec 32) → sProp 𝕄} {v1615 v1666 v1667 c1_i32_1235 : BitVec 32}
    (h : ∀ (r0 : FVec F S64x1024 .bf16) (r1 r2 r3 : BitVec 32), r0 = aBlk (xa c) (rb 0 ((nb (uu 0 c) 0 + 8 * 0) + 2)) → (St xa xb K c ![3, 3, 3] ⊢ Q ⟨r0, r1, r2, r3⟩)) :
    St xa xb K c ![3, 3, 3] ⊢ wpc c (k0_part50 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1615 v1666 v1667 c1_i32_1235) Q := by
  rw [k0_part50_eq_skeleton]; unfold k0_part50_skel
  refine step_loadA (o := rb 0 ((nb (uu 0 c) 0 + 8 * 0) + 2)) (off6_0 0 2 c) fun v1689 e1689 => ?_
  exact ret_step (h _ _ _ _ ((shapeCast_self _ _).trans e1689))

theorem pt51 {Q : (Σ' (v1715 : FVec F S64x1024 .bf16) (v1732 : BitVec 32), BitVec 32) → sProp 𝕄} {v1615 v1691 v1699 v1701 : BitVec 32}
    (h : ∀ (r0 : FVec F S64x1024 .bf16) (r1 r2 : BitVec 32), r0 = aBlk (xa c) (rb 0 ((nb (uu 0 c) 0 + 8 * 0) + 3)) → (St xa xb K c ![3, 3, 3] ⊢ Q ⟨r0, r1, r2⟩)) :
    St xa xb K c ![3, 3, 3] ⊢ wpc c (k0_part51 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1615 v1691 v1699 v1701) Q := by
  rw [k0_part51_eq_skeleton]; unfold k0_part51_skel
  refine step_loadA (o := rb 0 ((nb (uu 0 c) 0 + 8 * 0) + 3)) (off6_0 0 3 c) fun v1714 e1714 => ?_
  exact ret_step (h _ _ _ ((shapeCast_self _ _).trans e1714))

theorem pt52 {Q : (Σ' (v1740 : FVec F S64x1024 .bf16) (v1765 : FVec F S64x1024 .bf16) (v1766 : BitVec 32) (v1769 : BitVec 32), BitVec 32) → sProp 𝕄} {v1615 v1732 v1735 : BitVec 32}
    (h : ∀ (r0 r1 : FVec F S64x1024 .bf16) (r2 r3 r4 : BitVec 32), r0 = aBlk (xa c) (rb 0 ((nb (uu 0 c) 0 + 8 * 0) + 4)) → r1 = aBlk (xa c) (rb 0 ((nb (uu 0 c) 0 + 8 * 0) + 5)) → (St xa xb K c ![3, 3, 3] ⊢ Q ⟨r0, r1, r2, r3, r4⟩)) :
    St xa xb K c ![3, 3, 3] ⊢ wpc c (k0_part52 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1615 v1732 v1735) Q := by
  rw [k0_part52_eq_skeleton]; unfold k0_part52_skel
  refine step_loadA (o := rb 0 ((nb (uu 0 c) 0 + 8 * 0) + 4)) (off6_0 0 4 c) fun v1739 e1739 => ?_
  refine step_loadA (o := rb 0 ((nb (uu 0 c) 0 + 8 * 0) + 5)) (off6_0 0 5 c) fun v1764 e1764 => ?_
  exact ret_step (h _ _ _ _ _ ((shapeCast_self _ _).trans e1739) ((shapeCast_self _ _).trans e1764))

theorem pt53 {Q : (Σ' (v1790 : FVec F S64x1024 .bf16) (v1791 : BitVec 32) (v1803 : BitVec 32), BitVec 32) → sProp 𝕄} {v1615 v1766 v1769 c0_i32_1313 : BitVec 32}
    (h : ∀ (r0 : FVec F S64x1024 .bf16) (r1 r2 r3 : BitVec 32), r0 = aBlk (xa c) (rb 0 ((nb (uu 0 c) 0 + 8 * 0) + 6)) → (St xa xb K c ![3, 3, 3] ⊢ Q ⟨r0, r1, r2, r3⟩)) :
    St xa xb K c ![3, 3, 3] ⊢ wpc c (k0_part53 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1615 v1766 v1769 c0_i32_1313) Q := by
  rw [k0_part53_eq_skeleton]; unfold k0_part53_skel
  refine step_loadA (o := rb 0 ((nb (uu 0 c) 0 + 8 * 0) + 6)) (off6_0 0 6 c) fun v1789 e1789 => ?_
  exact ret_step (h _ _ _ _ ((shapeCast_self _ _).trans e1789))

theorem pt54 {Q : (Σ' (v1826 : BitVec 32) (v1827 : BitVec 32) (v1835 : BitVec 32), BitVec 32) → sProp 𝕄} {v66 v1615 : BitVec 32} {v1640 v1665 v1690 v1715 v1740 v1765 v1790 : FVec F S64x1024 .bf16} {v1791 v1803 c1_i32_1339 : BitVec 32}
    (e1640 : v1640 = aBlk (xa c) (rb 0 ((nb (uu 0 c) 0 + 8 * 0) + 0))) (e1665 : v1665 = aBlk (xa c) (rb 0 ((nb (uu 0 c) 0 + 8 * 0) + 1))) (e1690 : v1690 = aBlk (xa c) (rb 0 ((nb (uu 0 c) 0 + 8 * 0) + 2))) (e1715 : v1715 = aBlk (xa c) (rb 0 ((nb (uu 0 c) 0 + 8 * 0) + 3))) (e1740 : v1740 = aBlk (xa c) (rb 0 ((nb (uu 0 c) 0 + 8 * 0) + 4))) (e1765 : v1765 = aBlk (xa c) (rb 0 ((nb (uu 0 c) 0 + 8 * 0) + 5))) (e1790 : v1790 = aBlk (xa c) (rb 0 ((nb (uu 0 c) 0 + 8 * 0) + 6)))
    (h : ∀ (r0 r1 r2 r3 : BitVec 32), (St xa xb K c ![4, 3, 3] ⊢ Q ⟨r0, r1, r2, r3⟩)) :
    St xa xb K c ![3, 3, 3] ⊢ wpc c (k0_part54 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v66 v1615 v1640 v1665 v1690 v1715 v1740 v1765 v1790 v1791 v1803 c1_i32_1339) Q := by
  rw [k0_part54_eq_skeleton]; unfold k0_part54_skel
  refine step_loadA (o := rb 0 ((nb (uu 0 c) 0 + 8 * 0) + 7)) (off6_0 0 7 c) fun v1814 e1814 => ?_
  refine step_loadB 0 rfl fun v1817 e1817 => ?_
  refine step_deadP 0 (o := fun u => nb u 0 + 8 * 0) (n := 8) (t := 3) rfl (off7_0 0 c) chk_nb0_D fun v1823 => ?_
  refine step_storeP 0 (o := fun u => nb u 0 + 8 * 0) (n := 8) (l := 0) (t := 3) (T' := ![4, 3, 3]) rfl (by decide) (off7_0 0 c) chk_nb0_P
    (mm_val 0 (o := nb (uu 0 c) 0 + 8 * 0) (nb8 0 c 0) ((shapeCast_self _ _).trans (mm_pay0 (cat_pay e1640 e1665 e1690 e1715 e1740 e1765 e1790 ((shapeCast_self _ _).trans e1814)) ((shapeCast_self _ _).trans e1817)))) ?_
  exact ret_step (h _ _ _ _)

theorem pt55 {Q : (Σ' (v1851 : FVec F S64x1024 .bf16) (v1872 : BitVec 32), BitVec 32) → sProp 𝕄} {v1826 v1827 v1835 v1838 : BitVec 32}
    (h : ∀ (r0 : FVec F S64x1024 .bf16) (r1 r2 : BitVec 32), r0 = aBlk (xa c) (rb 0 ((nb (uu 0 c) 0 + 8 * 1) + 0)) → (St xa xb K c ![4, 3, 3] ⊢ Q ⟨r0, r1, r2⟩)) :
    St xa xb K c ![4, 3, 3] ⊢ wpc c (k0_part55 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1826 v1827 v1835 v1838) Q := by
  rw [k0_part55_eq_skeleton]; unfold k0_part55_skel
  refine step_loadA (o := rb 0 ((nb (uu 0 c) 0 + 8 * 1) + 0)) (off6_0 1 0 c) fun v1850 e1850 => ?_
  exact ret_step (h _ _ _ ((shapeCast_self _ _).trans e1850))

theorem pt56 {Q : (Σ' (v1876 : FVec F S64x1024 .bf16) (v1901 : FVec F S64x1024 .bf16) (v1902 : BitVec 32) (v1906 : BitVec 32), BitVec 32) → sProp 𝕄} {v1826 v1872 c64_i32_1389 : BitVec 32}
    (h : ∀ (r0 r1 : FVec F S64x1024 .bf16) (r2 r3 r4 : BitVec 32), r0 = aBlk (xa c) (rb 0 ((nb (uu 0 c) 0 + 8 * 1) + 1)) → r1 = aBlk (xa c) (rb 0 ((nb (uu 0 c) 0 + 8 * 1) + 2)) → (St xa xb K c ![4, 3, 3] ⊢ Q ⟨r0, r1, r2, r3, r4⟩)) :
    St xa xb K c ![4, 3, 3] ⊢ wpc c (k0_part56 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1826 v1872 c64_i32_1389) Q := by
  rw [k0_part56_eq_skeleton]; unfold k0_part56_skel
  refine step_loadA (o := rb 0 ((nb (uu 0 c) 0 + 8 * 1) + 1)) (off6_0 1 1 c) fun v1875 e1875 => ?_
  refine step_loadA (o := rb 0 ((nb (uu 0 c) 0 + 8 * 1) + 2)) (off6_0 1 2 c) fun v1900 e1900 => ?_
  exact ret_step (h _ _ _ _ _ ((shapeCast_self _ _).trans e1875) ((shapeCast_self _ _).trans e1900))

theorem pt57 {Q : (Σ' (v1926 : FVec F S64x1024 .bf16) (v1927 : BitVec 32) (v1939 : BitVec 32) (v1940 : BitVec 32), BitVec 32) → sProp 𝕄} {v1826 v1902 v1906 c3_i32_1415 : BitVec 32}
    (h : ∀ (r0 : FVec F S64x1024 .bf16) (r1 r2 r3 r4 : BitVec 32), r0 = aBlk (xa c) (rb 0 ((nb (uu 0 c) 0 + 8 * 1) + 3)) → (St xa xb K c ![4, 3, 3] ⊢ Q ⟨r0, r1, r2, r3, r4⟩)) :
    St xa xb K c ![4, 3, 3] ⊢ wpc c (k0_part57 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1826 v1902 v1906 c3_i32_1415) Q := by
  rw [k0_part57_eq_skeleton]; unfold k0_part57_skel
  refine step_loadA (o := rb 0 ((nb (uu 0 c) 0 + 8 * 1) + 3)) (off6_0 1 3 c) fun v1925 e1925 => ?_
  exact ret_step (h _ _ _ _ _ ((shapeCast_self _ _).trans e1925))

theorem pt58 {Q : (Σ' (v1951 : FVec F S64x1024 .bf16), Vec F S64x1024 .bf16) → sProp 𝕄} {v1826 v1927 v1939 v1940 c1_i32_1441 : BitVec 32}
    (h : ∀ (r0 : FVec F S64x1024 .bf16) (r1 : Vec F S64x1024 .bf16), r0 = aBlk (xa c) (rb 0 ((nb (uu 0 c) 0 + 8 * 1) + 4)) → r1 = aBlk (xa c) (rb 0 ((nb (uu 0 c) 0 + 8 * 1) + 5)) → (St xa xb K c ![4, 3, 3] ⊢ Q ⟨r0, r1⟩)) :
    St xa xb K c ![4, 3, 3] ⊢ wpc c (k0_part58 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1826 v1927 v1939 v1940 c1_i32_1441) Q := by
  rw [k0_part58_eq_skeleton]; unfold k0_part58_skel
  refine step_loadA (o := rb 0 ((nb (uu 0 c) 0 + 8 * 1) + 4)) (off6_0 1 4 c) fun v1950 e1950 => ?_
  refine step_loadA (o := rb 0 ((nb (uu 0 c) 0 + 8 * 1) + 5)) (off6_0 1 5 c) fun v1975 e1975 => ?_
  exact ret_step (h _ _ ((shapeCast_self _ _).trans e1950) e1975)

theorem pt59 {Q : (Σ' (v1976 : FVec F S64x1024 .bf16) (v2001 : FVec F S64x1024 .bf16) (v2002 : BitVec 32) (v2006 : BitVec 32) (v2008 : BitVec 32), BitVec 32) → sProp 𝕄} {v1826 : BitVec 32} {v1975 : Vec F S64x1024 .bf16}
    (e1975 : v1975 = aBlk (xa c) (rb 0 ((nb (uu 0 c) 0 + 8 * 1) + 5)))
    (h : ∀ (r0 r1 : FVec F S64x1024 .bf16) (r2 r3 r4 r5 : BitVec 32), r0 = aBlk (xa c) (rb 0 ((nb (uu 0 c) 0 + 8 * 1) + 5)) → r1 = aBlk (xa c) (rb 0 ((nb (uu 0 c) 0 + 8 * 1) + 6)) → (St xa xb K c ![4, 3, 3] ⊢ Q ⟨r0, r1, r2, r3, r4, r5⟩)) :
    St xa xb K c ![4, 3, 3] ⊢ wpc c (k0_part59 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v1826 v1975) Q := by
  rw [k0_part59_eq_skeleton]; unfold k0_part59_skel
  refine step_loadA (o := rb 0 ((nb (uu 0 c) 0 + 8 * 1) + 6)) (off6_0 1 6 c) fun v2000 e2000 => ?_
  exact ret_step (h _ _ _ _ _ _ ((shapeCast_self _ _).trans e1975) ((shapeCast_self _ _).trans e2000))

theorem pt60 {Q : (Σ' (v2037 : BitVec 32) (v2038 : BitVec 32) (v2042 : BitVec 32) (v2043 : BitVec 32), BitVec 32) → sProp 𝕄} {v166 v1826 : BitVec 32} {v1851 v1876 v1901 v1926 v1951 v1976 v2001 : FVec F S64x1024 .bf16} {v2002 v2006 v2008 c8_i32_1493 : BitVec 32}
    (e1851 : v1851 = aBlk (xa c) (rb 0 ((nb (uu 0 c) 0 + 8 * 1) + 0))) (e1876 : v1876 = aBlk (xa c) (rb 0 ((nb (uu 0 c) 0 + 8 * 1) + 1))) (e1901 : v1901 = aBlk (xa c) (rb 0 ((nb (uu 0 c) 0 + 8 * 1) + 2))) (e1926 : v1926 = aBlk (xa c) (rb 0 ((nb (uu 0 c) 0 + 8 * 1) + 3))) (e1951 : v1951 = aBlk (xa c) (rb 0 ((nb (uu 0 c) 0 + 8 * 1) + 4))) (e1976 : v1976 = aBlk (xa c) (rb 0 ((nb (uu 0 c) 0 + 8 * 1) + 5))) (e2001 : v2001 = aBlk (xa c) (rb 0 ((nb (uu 0 c) 0 + 8 * 1) + 6)))
    (h : ∀ (r0 r1 r2 r3 r4 : BitVec 32), (St xa xb K c ![5, 3, 3] ⊢ Q ⟨r0, r1, r2, r3, r4⟩)) :
    St xa xb K c ![4, 3, 3] ⊢ wpc c (k0_part60 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v166 v1826 v1851 v1876 v1901 v1926 v1951 v1976 v2001 v2002 v2006 v2008 c8_i32_1493) Q := by
  rw [k0_part60_eq_skeleton]; unfold k0_part60_skel
  refine step_loadA (o := rb 0 ((nb (uu 0 c) 0 + 8 * 1) + 7)) (off6_0 1 7 c) fun v2025 e2025 => ?_
  refine step_loadB 0 rfl fun v2028 e2028 => ?_
  refine step_deadP 0 (o := fun u => nb u 0 + 8 * 1) (n := 8) (t := 4) rfl (off7_0 1 c) chk_nb1_D fun v2034 => ?_
  refine step_storeP 0 (o := fun u => nb u 0 + 8 * 1) (n := 8) (l := 0) (t := 4) (T' := ![5, 3, 3]) rfl (by decide) (off7_0 1 c) chk_nb1_P
    (mm_val 0 (o := nb (uu 0 c) 0 + 8 * 1) (nb8 0 c 1) ((shapeCast_self _ _).trans (mm_pay0 (cat_pay e1851 e1876 e1901 e1926 e1951 e1976 e2001 ((shapeCast_self _ _).trans e2025)) ((shapeCast_self _ _).trans e2028)))) ?_
  exact ret_step (h _ _ _ _ _)

theorem pt61 {Q : (Σ' (v2062 : FVec F S64x1024 .bf16) (v2063 : BitVec 32) (v2075 : BitVec 32) (v2077 : BitVec 32), BitVec 32) → sProp 𝕄} {v2037 v2038 v2042 v2043 c1_i32_1517 : BitVec 32}
    (h : ∀ (r0 : FVec F S64x1024 .bf16) (r1 r2 r3 r4 : BitVec 32), r0 = aBlk (xa c) (rb 1 ((nb (uu 1 c) 0 + 8 * 0) + 0)) → (St xa xb K c ![5, 3, 3] ⊢ Q ⟨r0, r1, r2, r3, r4⟩)) :
    St xa xb K c ![5, 3, 3] ⊢ wpc c (k0_part61 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2037 v2038 v2042 v2043 c1_i32_1517) Q := by
  rw [k0_part61_eq_skeleton]; unfold k0_part61_skel
  refine step_loadA (o := rb 1 ((nb (uu 1 c) 0 + 8 * 0) + 0)) (off6_1 0 0 c) fun v2061 e2061 => ?_
  exact ret_step (h _ _ _ _ _ ((shapeCast_self _ _).trans e2061))

theorem pt62 {Q : (Σ' (v2087 : FVec F S64x1024 .bf16) (v2112 : FVec F S64x1024 .bf16), BitVec 32) → sProp 𝕄} {v2037 v2063 v2075 v2077 c4_i32_1543 : BitVec 32}
    (h : ∀ (r0 r1 : FVec F S64x1024 .bf16) (r2 : BitVec 32), r0 = aBlk (xa c) (rb 1 ((nb (uu 1 c) 0 + 8 * 0) + 1)) → r1 = aBlk (xa c) (rb 1 ((nb (uu 1 c) 0 + 8 * 0) + 2)) → (St xa xb K c ![5, 3, 3] ⊢ Q ⟨r0, r1, r2⟩)) :
    St xa xb K c ![5, 3, 3] ⊢ wpc c (k0_part62 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2037 v2063 v2075 v2077 c4_i32_1543) Q := by
  rw [k0_part62_eq_skeleton]; unfold k0_part62_skel
  refine step_loadA (o := rb 1 ((nb (uu 1 c) 0 + 8 * 0) + 1)) (off6_1 0 1 c) fun v2086 e2086 => ?_
  refine step_loadA (o := rb 1 ((nb (uu 1 c) 0 + 8 * 0) + 2)) (off6_1 0 2 c) fun v2111 e2111 => ?_
  exact ret_step (h _ _ _ ((shapeCast_self _ _).trans e2086) ((shapeCast_self _ _).trans e2111))

theorem pt63 {Q : (Σ' (v2137 : FVec F S64x1024 .bf16) (v2138 : BitVec 32), BitVec 32) → sProp 𝕄} {v2037 c3_i32_1568 : BitVec 32}
    (h : ∀ (r0 : FVec F S64x1024 .bf16) (r1 r2 : BitVec 32), r0 = aBlk (xa c) (rb 1 ((nb (uu 1 c) 0 + 8 * 0) + 3)) → (St xa xb K c ![5, 3, 3] ⊢ Q ⟨r0, r1, r2⟩)) :
    St xa xb K c ![5, 3, 3] ⊢ wpc c (k0_part63 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2037 c3_i32_1568) Q := by
  rw [k0_part63_eq_skeleton]; unfold k0_part63_skel
  refine step_loadA (o := rb 1 ((nb (uu 1 c) 0 + 8 * 0) + 3)) (off6_1 0 3 c) fun v2136 e2136 => ?_
  exact ret_step (h _ _ _ ((shapeCast_self _ _).trans e2136))

theorem pt64 {Q : (Σ' (v2162 : FVec F S64x1024 .bf16) (v2179 : BitVec 32), BitVec 32) → sProp 𝕄} {v2037 v2138 v2146 : BitVec 32}
    (h : ∀ (r0 : FVec F S64x1024 .bf16) (r1 r2 : BitVec 32), r0 = aBlk (xa c) (rb 1 ((nb (uu 1 c) 0 + 8 * 0) + 4)) → (St xa xb K c ![5, 3, 3] ⊢ Q ⟨r0, r1, r2⟩)) :
    St xa xb K c ![5, 3, 3] ⊢ wpc c (k0_part64 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2037 v2138 v2146) Q := by
  rw [k0_part64_eq_skeleton]; unfold k0_part64_skel
  refine step_loadA (o := rb 1 ((nb (uu 1 c) 0 + 8 * 0) + 4)) (off6_1 0 4 c) fun v2161 e2161 => ?_
  exact ret_step (h _ _ _ ((shapeCast_self _ _).trans e2161))

end Cert.Cube

end
-- ==== Proof.Level1.lean ====
/-
# The kernel, pieces 1 to 60 in a row

These pieces of the kernel one after the other.
-/
module

public import proofs.«01_k».proof.Proof.Parts1
public import proofs.«01_k».proof.Proof.Parts2

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt195 {R : sProp 𝕄} {Q : (Σ' (d0 : Dev nD) (v52 : BitVec 32) (v53 : BitVec 32) (v54 : BitVec 32) (v55 : BitVec 32) (v56 : BitVec 32) (v57 : BitVec 32) (v66 : BitVec 32) (v73 : BitVec 32) (v75 : BitVec 32) (v82 : BitVec 32) (v84 : BitVec 32) (v91 : BitVec 32) (v93 : BitVec 32) (v100 : BitVec 32) (v102 : BitVec 32) (v152 : BitVec 32) (v153 : BitVec 32) (v154 : BitVec 32) (v155 : BitVec 32) (v156 : BitVec 32) (v157 : BitVec 32) (v166 : BitVec 32) (v173 : BitVec 32) (v175 : BitVec 32) (v182 : BitVec 32) (v184 : BitVec 32) (v191 : BitVec 32) (v193 : BitVec 32) (v200 : BitVec 32) (v202 : BitVec 32) (v252 : BitVec 32) (v253 : BitVec 32) (v254 : BitVec 32) (v255 : BitVec 32) (v256 : BitVec 32) (v257 : BitVec 32) (v266 : BitVec 32) (v273 : BitVec 32) (v275 : BitVec 32) (v282 : BitVec 32) (v284 : BitVec 32) (v291 : BitVec 32) (v293 : BitVec 32) (v300 : BitVec 32) (v302 : BitVec 32) (v2037 : BitVec 32) (v2038 : BitVec 32) (v2042 : BitVec 32) (v2043 : BitVec 32), BitVec 32) → sProp 𝕄}
    (hR : (bigSep Finset.univ fun i : Fin 6 => barP (F := F) c i) ∗ R ⊢ aP xa c ∗ bP xb c ∗ bigSep Finset.univ fun k : Fin 3 => PSt xa xb k c 0)
    (h : ∀ (v52 v53 v54 v55 v56 v57 v66 v73 v75 v82 v84 v91 v93 v100 v102 v152 v153 v154 v155 v156 v157 v166 v173 v175 v182 v184 v191 v193 v200 v202 v252 v253 v254 v255 v256 v257 v266 v273 v275 v282 v284 v291 v293 v300 v302 v2037 v2038 v2042 v2043 c1_i32_1517 : BitVec 32), (St xa xb K c ![5, 3, 3] ⊢ semVal (barC c) 0 -∗ Q ⟨c, v52, v53, v54, v55, v56, v57, v66, v73, v75, v82, v84, v91, v93, v100, v102, v152, v153, v154, v155, v156, v157, v166, v173, v175, v182, v184, v191, v193, v200, v202, v252, v253, v254, v255, v256, v257, v266, v273, v275, v282, v284, v291, v293, v300, v302, v2037, v2038, v2042, v2043, c1_i32_1517⟩)) :
    Bt xa xb K R c 0 ⊢ wpc c (k0_part195 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 ) Q := by
  rw [k0_part195_eq_skeleton]; unfold k0_part195_skel
  refine cut (pt1 (fun v2 v32 v35 => ?_))
  refine cut (pt2 (fun v52 v53 v54 v55 v56 v57 v64 v66 v68 v69 c4_i32_39 => ?_))
  refine cut (pt3 (fun v73 v75 v82 v84 v91 v93 v100 v102 v103 c1_i32_65 => ?_))
  refine cut (pt4 (fun v132 v140 c1_i32_88 => ?_))
  refine cut (pt5 (fun v152 v153 v154 v155 v156 v157 v164 v166 v173 v175 => ?_))
  refine cut (pt6 (fun v182 v184 v191 v193 v200 v202 v209 c1_i32_139 => ?_))
  refine cut (pt7 (fun v242 v245 v246 => ?_))
  refine cut (pt8 (fun v252 v253 v254 v255 v256 v257 v264 v266 v273 v275 v277 v279 c1_i32_189 => ?_))
  refine cut (pt9 (fun v282 v284 v291 v293 v300 v302 v303 v310 c1_i32_216 e303 => ?_))
  refine cut (pt10 e303 (fun v322 v323 v335 v336 c1_i32_243 => ?_))
  refine bar_frame hR ?_
  refine cut (pt11 (fun v347 v371 e347 e371 => ?_))
  refine cut (pt12 e371 (fun v372 v397 v398 v402 v404 c8_i32_293 e372 e397 => ?_))
  refine cut (pt13 (fun v422 v423 v439 e422 => ?_))
  refine cut (pt14 (fun v447 v472 v473 c4_i32_344 e447 e472 => ?_))
  refine cut (pt15 (fun v497 v498 v506 v507 e497 => ?_))
  refine cut (pt16 e347 e372 e397 e422 e447 e472 e497 (fun v533 v534 v542 => ?_))
  refine cut (pt17 (fun v558 v575 v576 e558 => ?_))
  refine cut (pt18 (fun v583 v608 v609 v610 c1_i32_444 e583 e608 => ?_))
  refine cut (pt19 (fun v633 v634 v642 v644 e633 => ?_))
  refine cut (pt20 (fun v658 v675 v678 e658 => ?_))
  refine cut (pt21 (fun v683 v708 v709 v712 c0_i32_522 e683 e708 => ?_))
  refine cut (pt22 e558 e583 e608 e633 e658 e683 e708 ?_)
  refine cut (pt23 (fun v753 v778 v779 v780 c1_i32_572 e778 => ?_))
  refine cut (pt24 (fun v803 v804 v812 v814 e803 => ?_))
  refine cut (pt25 (fun v828 v845 v848 e828 => ?_))
  refine cut (pt26 (fun v853 v878 v879 v882 c0_i32_650 e853 e878 => ?_))
  refine cut (pt27 (fun v903 v904 v916 c1_i32_676 e903 => ?_))
  refine cut (pt28 (fun v928 e928 => ?_))
  refine cut (pt29 e778 e803 e828 e853 e878 e903 e928 (fun v964 v985 c64_i32_725 => ?_))
  refine cut (pt30 (fun v989 v1014 v1015 v1019 c3_i32_751 e989 e1014 => ?_))
  refine cut (pt31 (fun v1039 v1040 v1052 v1053 c1_i32_777 e1039 => ?_))
  refine cut (pt32 (fun v1064 v1088 e1064 e1088 => ?_))
  refine cut (pt33 e1088 (fun v1089 v1114 v1115 v1119 v1121 c1_i32_829 e1089 e1114 => ?_))
  refine cut (pt34 (fun v1139 v1140 v1156 e1139 => ?_))
  refine cut (pt35 e989 e1014 e1039 e1064 e1089 e1114 e1139 (fun v1184 v1185 v1189 c3_i32_878 => ?_))
  refine cut (pt36 (fun v1209 v1210 v1222 v1223 c1_i32_904 e1209 => ?_))
  refine cut (pt37 (fun v1234 v1258 e1234 e1258 => ?_))
  refine cut (pt38 e1258 (fun v1259 v1284 v1285 v1289 v1291 c4_i32_956 e1259 e1284 => ?_))
  refine cut (pt39 (fun v1309 v1310 v1326 e1309 => ?_))
  refine cut (pt40 (fun v1334 v1359 v1360 c4_i32_1007 e1334 e1359 => ?_))
  refine cut (pt41 e1209 e1234 e1259 e1284 e1309 e1334 e1359 (fun v1395 c0_i32_1030 => ?_))
  refine cut (pt42 (fun v1420 v1421 v1429 e1420 => ?_))
  refine cut (pt43 (fun v1445 v1462 v1463 e1445 => ?_))
  refine cut (pt44 (fun v1470 v1495 v1496 v1497 c1_i32_1108 e1470 e1495 => ?_))
  refine cut (pt45 (fun v1520 v1521 v1529 v1531 e1520 => ?_))
  refine cut (pt46 (fun v1545 v1562 v1565 e1545 => ?_))
  refine cut (pt47 e1420 e1445 e1470 e1495 e1520 e1545 (fun v1600 c64_i32_1185 e1600 => ?_))
  refine cut (pt48 e1600 (fun v1615 v1632 v1633 => ?_))
  refine cut (pt49 (fun v1640 v1665 v1666 v1667 c1_i32_1235 e1640 e1665 => ?_))
  refine cut (pt50 (fun v1690 v1691 v1699 v1701 e1690 => ?_))
  refine cut (pt51 (fun v1715 v1732 v1735 e1715 => ?_))
  refine cut (pt52 (fun v1740 v1765 v1766 v1769 c0_i32_1313 e1740 e1765 => ?_))
  refine cut (pt53 (fun v1790 v1791 v1803 c1_i32_1339 e1790 => ?_))
  refine cut (pt54 e1640 e1665 e1690 e1715 e1740 e1765 e1790 (fun v1826 v1827 v1835 v1838 => ?_))
  refine cut (pt55 (fun v1851 v1872 c64_i32_1389 e1851 => ?_))
  refine cut (pt56 (fun v1876 v1901 v1902 v1906 c3_i32_1415 e1876 e1901 => ?_))
  refine cut (pt57 (fun v1926 v1927 v1939 v1940 c1_i32_1441 e1926 => ?_))
  refine cut (pt58 (fun v1951 v1975 e1951 e1975 => ?_))
  refine cut (pt59 e1975 (fun v1976 v2001 v2002 v2006 v2008 c8_i32_1493 e1976 e2001 => ?_))
  refine cut (pt60 e1851 e1876 e1901 e1926 e1951 e1976 e2001 (fun v2037 v2038 v2042 v2043 c1_i32_1517 => ?_))
  exact ret_step (h _ _ _ _ _ _ _ _ _ _ _ _ _ _ _ _ _ _ _ _ _ _ _ _ _ _ _ _ _ _ _ _ _ _ _ _ _ _ _ _ _ _ _ _ _ _ _ _ _ _)

end Cert.Cube

end
-- ==== Proof.Parts3.lean ====
/-
# The kernel, pieces 65 to 96

What each of these pieces of the kernel does to the state, one step after the other.
-/
module

public import proofs.«01_k».proof.Proof.Checks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt65 {Q : (Σ' (v2187 : FVec F S64x1024 .bf16) (v2212 : FVec F S64x1024 .bf16) (v2213 : BitVec 32) (v2214 : BitVec 32), BitVec 32) → sProp 𝕄} {v2037 v2179 v2180 : BitVec 32}
    (h : ∀ (r0 r1 : FVec F S64x1024 .bf16) (r2 r3 r4 : BitVec 32), r0 = aBlk (xa c) (rb 1 ((nb (uu 1 c) 0 + 8 * 0) + 5)) → r1 = aBlk (xa c) (rb 1 ((nb (uu 1 c) 0 + 8 * 0) + 6)) → (St xa xb K c ![5, 3, 3] ⊢ Q ⟨r0, r1, r2, r3, r4⟩)) :
    St xa xb K c ![5, 3, 3] ⊢ wpc c (k0_part65 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2037 v2179 v2180) Q := by
  rw [k0_part65_eq_skeleton]; unfold k0_part65_skel
  refine step_loadA (o := rb 1 ((nb (uu 1 c) 0 + 8 * 0) + 5)) (off6_1 0 5 c) fun v2186 e2186 => ?_
  refine step_loadA (o := rb 1 ((nb (uu 1 c) 0 + 8 * 0) + 6)) (off6_1 0 6 c) fun v2211 e2211 => ?_
  exact ret_step (h _ _ _ _ _ ((shapeCast_self _ _).trans e2186) ((shapeCast_self _ _).trans e2211))

theorem pt66 {Q : (Σ' (v2248 : BitVec 32) (v2249 : BitVec 32), BitVec 32) → sProp 𝕄} {v166 v2037 : BitVec 32} {v2062 v2087 v2112 v2137 v2162 v2187 v2212 : FVec F S64x1024 .bf16} {v2213 v2214 c1_i32_1646 : BitVec 32}
    (e2062 : v2062 = aBlk (xa c) (rb 1 ((nb (uu 1 c) 0 + 8 * 0) + 0))) (e2087 : v2087 = aBlk (xa c) (rb 1 ((nb (uu 1 c) 0 + 8 * 0) + 1))) (e2112 : v2112 = aBlk (xa c) (rb 1 ((nb (uu 1 c) 0 + 8 * 0) + 2))) (e2137 : v2137 = aBlk (xa c) (rb 1 ((nb (uu 1 c) 0 + 8 * 0) + 3))) (e2162 : v2162 = aBlk (xa c) (rb 1 ((nb (uu 1 c) 0 + 8 * 0) + 4))) (e2187 : v2187 = aBlk (xa c) (rb 1 ((nb (uu 1 c) 0 + 8 * 0) + 5))) (e2212 : v2212 = aBlk (xa c) (rb 1 ((nb (uu 1 c) 0 + 8 * 0) + 6)))
    (h : ∀ (r0 r1 r2 : BitVec 32), (St xa xb K c ![5, 4, 3] ⊢ Q ⟨r0, r1, r2⟩)) :
    St xa xb K c ![5, 3, 3] ⊢ wpc c (k0_part66 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v166 v2037 v2062 v2087 v2112 v2137 v2162 v2187 v2212 v2213 v2214 c1_i32_1646) Q := by
  rw [k0_part66_eq_skeleton]; unfold k0_part66_skel
  refine step_loadA (o := rb 1 ((nb (uu 1 c) 0 + 8 * 0) + 7)) (off6_1 0 7 c) fun v2236 e2236 => ?_
  refine step_loadB 1 rfl fun v2239 e2239 => ?_
  refine step_deadP 1 (o := fun u => nb u 0 + 8 * 0) (n := 8) (t := 3) rfl (off8_1 0 c) chk_nb0_D fun v2245 => ?_
  refine step_storeP 1 (o := fun u => nb u 0 + 8 * 0) (n := 8) (l := 0) (t := 3) (T' := ![5, 4, 3]) rfl (by decide) (off8_1 0 c) chk_nb0_P
    (mm_val 1 (o := nb (uu 1 c) 0 + 8 * 0) (nb8 1 c 0) ((shapeCast_self _ _).trans (mm_pay1 (cat_pay e2062 e2087 e2112 e2137 e2162 e2187 e2212 ((shapeCast_self _ _).trans e2236)) ((shapeCast_self _ _).trans e2239)))) ?_
  exact ret_step (h _ _ _)

theorem pt67 {Q : (Σ' (v2273 : FVec F S64x1024 .bf16) (v2274 : BitVec 32) (v2282 : BitVec 32), BitVec 32) → sProp 𝕄} {v2248 v2249 c4_i32_1670 : BitVec 32}
    (h : ∀ (r0 : FVec F S64x1024 .bf16) (r1 r2 r3 : BitVec 32), r0 = aBlk (xa c) (rb 1 ((nb (uu 1 c) 0 + 8 * 1) + 0)) → (St xa xb K c ![5, 4, 3] ⊢ Q ⟨r0, r1, r2, r3⟩)) :
    St xa xb K c ![5, 4, 3] ⊢ wpc c (k0_part67 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2248 v2249 c4_i32_1670) Q := by
  rw [k0_part67_eq_skeleton]; unfold k0_part67_skel
  refine step_loadA (o := rb 1 ((nb (uu 1 c) 0 + 8 * 1) + 0)) (off6_1 1 0 c) fun v2272 e2272 => ?_
  exact ret_step (h _ _ _ _ ((shapeCast_self _ _).trans e2272))

theorem pt68 {Q : (Σ' (v2298 : FVec F S64x1024 .bf16) (v2315 : BitVec 32), BitVec 32) → sProp 𝕄} {v2248 v2274 v2282 v2283 : BitVec 32}
    (h : ∀ (r0 : FVec F S64x1024 .bf16) (r1 r2 : BitVec 32), r0 = aBlk (xa c) (rb 1 ((nb (uu 1 c) 0 + 8 * 1) + 1)) → (St xa xb K c ![5, 4, 3] ⊢ Q ⟨r0, r1, r2⟩)) :
    St xa xb K c ![5, 4, 3] ⊢ wpc c (k0_part68 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2248 v2274 v2282 v2283) Q := by
  rw [k0_part68_eq_skeleton]; unfold k0_part68_skel
  refine step_loadA (o := rb 1 ((nb (uu 1 c) 0 + 8 * 1) + 1)) (off6_1 1 1 c) fun v2297 e2297 => ?_
  exact ret_step (h _ _ _ ((shapeCast_self _ _).trans e2297))

theorem pt69 {Q : (Σ' (v2323 : FVec F S64x1024 .bf16) (v2348 : FVec F S64x1024 .bf16) (v2349 : BitVec 32) (v2351 : BitVec 32), BitVec 32) → sProp 𝕄} {v2248 v2315 v2317 : BitVec 32}
    (h : ∀ (r0 r1 : FVec F S64x1024 .bf16) (r2 r3 r4 : BitVec 32), r0 = aBlk (xa c) (rb 1 ((nb (uu 1 c) 0 + 8 * 1) + 2)) → r1 = aBlk (xa c) (rb 1 ((nb (uu 1 c) 0 + 8 * 1) + 3)) → (St xa xb K c ![5, 4, 3] ⊢ Q ⟨r0, r1, r2, r3, r4⟩)) :
    St xa xb K c ![5, 4, 3] ⊢ wpc c (k0_part69 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2248 v2315 v2317) Q := by
  rw [k0_part69_eq_skeleton]; unfold k0_part69_skel
  refine step_loadA (o := rb 1 ((nb (uu 1 c) 0 + 8 * 1) + 2)) (off6_1 1 2 c) fun v2322 e2322 => ?_
  refine step_loadA (o := rb 1 ((nb (uu 1 c) 0 + 8 * 1) + 3)) (off6_1 1 3 c) fun v2347 e2347 => ?_
  exact ret_step (h _ _ _ _ _ ((shapeCast_self _ _).trans e2322) ((shapeCast_self _ _).trans e2347))

theorem pt70 {Q : (Σ' (v2373 : FVec F S64x1024 .bf16) (v2374 : BitVec 32) (v2382 : BitVec 32), BitVec 32) → sProp 𝕄} {v2248 v2349 v2351 c8_i32_1748 : BitVec 32}
    (h : ∀ (r0 : FVec F S64x1024 .bf16) (r1 r2 r3 : BitVec 32), r0 = aBlk (xa c) (rb 1 ((nb (uu 1 c) 0 + 8 * 1) + 4)) → (St xa xb K c ![5, 4, 3] ⊢ Q ⟨r0, r1, r2, r3⟩)) :
    St xa xb K c ![5, 4, 3] ⊢ wpc c (k0_part70 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2248 v2349 v2351 c8_i32_1748) Q := by
  rw [k0_part70_eq_skeleton]; unfold k0_part70_skel
  refine step_loadA (o := rb 1 ((nb (uu 1 c) 0 + 8 * 1) + 4)) (off6_1 1 4 c) fun v2372 e2372 => ?_
  exact ret_step (h _ _ _ _ ((shapeCast_self _ _).trans e2372))

theorem pt71 {Q : (Σ' (v2398 : FVec F S64x1024 .bf16) (v2419 : BitVec 32), BitVec 32) → sProp 𝕄} {v2248 v2374 v2382 v2385 : BitVec 32}
    (h : ∀ (r0 : FVec F S64x1024 .bf16) (r1 r2 : BitVec 32), r0 = aBlk (xa c) (rb 1 ((nb (uu 1 c) 0 + 8 * 1) + 5)) → (St xa xb K c ![5, 4, 3] ⊢ Q ⟨r0, r1, r2⟩)) :
    St xa xb K c ![5, 4, 3] ⊢ wpc c (k0_part71 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2248 v2374 v2382 v2385) Q := by
  rw [k0_part71_eq_skeleton]; unfold k0_part71_skel
  refine step_loadA (o := rb 1 ((nb (uu 1 c) 0 + 8 * 1) + 5)) (off6_1 1 5 c) fun v2397 e2397 => ?_
  exact ret_step (h _ _ _ ((shapeCast_self _ _).trans e2397))

theorem pt72 {Q : (FVec F S512x640 .bf16) → sProp 𝕄} {v2248 : BitVec 32} {v2273 v2298 v2323 v2348 v2373 v2398 : FVec F S64x1024 .bf16} {v2419 c64_i32_1800 : BitVec 32}
    (e2273 : v2273 = aBlk (xa c) (rb 1 ((nb (uu 1 c) 0 + 8 * 1) + 0))) (e2298 : v2298 = aBlk (xa c) (rb 1 ((nb (uu 1 c) 0 + 8 * 1) + 1))) (e2323 : v2323 = aBlk (xa c) (rb 1 ((nb (uu 1 c) 0 + 8 * 1) + 2))) (e2348 : v2348 = aBlk (xa c) (rb 1 ((nb (uu 1 c) 0 + 8 * 1) + 3))) (e2373 : v2373 = aBlk (xa c) (rb 1 ((nb (uu 1 c) 0 + 8 * 1) + 4))) (e2398 : v2398 = aBlk (xa c) (rb 1 ((nb (uu 1 c) 0 + 8 * 1) + 5)))
    (h : ∀ (r0 : FVec F S512x640 .bf16), r0 = mmv 1 (cat8 fun i => aBlk (xa c) (rb 1 ((nb (uu 1 c) 0 + 8 * 1) + i))) (bBlk (xb c) 1) → (St xa xb K c ![5, 4, 3] ⊢ Q r0)) :
    St xa xb K c ![5, 4, 3] ⊢ wpc c (k0_part72 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2248 v2273 v2298 v2323 v2348 v2373 v2398 v2419 c64_i32_1800) Q := by
  rw [k0_part72_eq_skeleton]; unfold k0_part72_skel
  refine step_loadA (o := rb 1 ((nb (uu 1 c) 0 + 8 * 1) + 6)) (off6_1 1 6 c) fun v2422 e2422 => ?_
  refine step_loadA (o := rb 1 ((nb (uu 1 c) 0 + 8 * 1) + 7)) (off6_1 1 7 c) fun v2447 e2447 => ?_
  refine step_loadB 1 rfl fun v2450 e2450 => ?_
  exact ret_step (h _ (mm_pay1 (cat_pay e2273 e2298 e2323 e2348 e2373 e2398 ((shapeCast_self _ _).trans e2422) ((shapeCast_self _ _).trans e2447)) ((shapeCast_self _ _).trans e2450)))

theorem pt73 {Q : (Σ' (v2459 : BitVec 32) (v2484 : FVec F S64x1024 .bf16) (v2485 : BitVec 32) (v2488 : BitVec 32), BitVec 32) → sProp 𝕄} {v266 : BitVec 32} {v2453 : FVec F S512x640 .bf16}
    (e2453 : v2453 = mmv 1 (cat8 fun i => aBlk (xa c) (rb 1 ((nb (uu 1 c) 0 + 8 * 1) + i))) (bBlk (xb c) 1))
    (h : ∀ (r0 : BitVec 32) (r1 : FVec F S64x1024 .bf16) (r2 r3 r4 : BitVec 32), r1 = aBlk (xa c) (rb 2 ((nb (uu 2 c) 0 + 8 * 0) + 0)) → (St xa xb K c ![5, 5, 3] ⊢ Q ⟨r0, r1, r2, r3, r4⟩)) :
    St xa xb K c ![5, 4, 3] ⊢ wpc c (k0_part73 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v266 v2453) Q := by
  rw [k0_part73_eq_skeleton]; unfold k0_part73_skel
  refine step_deadP 1 (o := fun u => nb u 0 + 8 * 1) (n := 8) (t := 4) rfl (off8_1 1 c) chk_nb1_D fun v2456 => ?_
  refine step_storeP 1 (o := fun u => nb u 0 + 8 * 1) (n := 8) (l := 0) (t := 4) (T' := ![5, 5, 3]) rfl (by decide) (off8_1 1 c) chk_nb1_P
    (mm_val 1 (o := nb (uu 1 c) 0 + 8 * 1) (nb8 1 c 1) ((shapeCast_self _ _).trans (e2453))) ?_
  refine step_loadA (o := rb 2 ((nb (uu 2 c) 0 + 8 * 0) + 0)) (off6_2 0 0 c) fun v2483 e2483 => ?_
  exact ret_step (h _ _ _ _ _ ((shapeCast_self _ _).trans e2483))

theorem pt74 {Q : (Σ' (v2509 : FVec F S64x1024 .bf16) (v2510 : BitVec 32) (v2522 : BitVec 32), BitVec 32) → sProp 𝕄} {v2459 v2485 v2488 c0_i32_1850 : BitVec 32}
    (h : ∀ (r0 : FVec F S64x1024 .bf16) (r1 r2 r3 : BitVec 32), r0 = aBlk (xa c) (rb 2 ((nb (uu 2 c) 0 + 8 * 0) + 1)) → (St xa xb K c ![5, 5, 3] ⊢ Q ⟨r0, r1, r2, r3⟩)) :
    St xa xb K c ![5, 5, 3] ⊢ wpc c (k0_part74 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2459 v2485 v2488 c0_i32_1850) Q := by
  rw [k0_part74_eq_skeleton]; unfold k0_part74_skel
  refine step_loadA (o := rb 2 ((nb (uu 2 c) 0 + 8 * 0) + 1)) (off6_2 0 1 c) fun v2508 e2508 => ?_
  exact ret_step (h _ _ _ _ ((shapeCast_self _ _).trans e2508))

theorem pt75 {Q : (FVec F S64x1024 .bf16) → sProp 𝕄} {v2459 v2510 v2522 c1_i32_1876 : BitVec 32}
    (h : ∀ (r0 : FVec F S64x1024 .bf16), r0 = aBlk (xa c) (rb 2 ((nb (uu 2 c) 0 + 8 * 0) + 2)) → (St xa xb K c ![5, 5, 3] ⊢ Q r0)) :
    St xa xb K c ![5, 5, 3] ⊢ wpc c (k0_part75 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2459 v2510 v2522 c1_i32_1876) Q := by
  rw [k0_part75_eq_skeleton]; unfold k0_part75_skel
  refine step_loadA (o := rb 2 ((nb (uu 2 c) 0 + 8 * 0) + 2)) (off6_2 0 2 c) fun v2533 e2533 => ?_
  exact ret_step (h _ ((shapeCast_self _ _).trans e2533))

theorem pt76 {Q : (Σ' (v2559 : FVec F S64x1024 .bf16) (v2584 : FVec F S64x1024 .bf16) (v2585 : BitVec 32) (v2589 : BitVec 32) (v2590 : BitVec 32), BitVec 32) → sProp 𝕄} {v2459 : BitVec 32}
    (h : ∀ (r0 r1 : FVec F S64x1024 .bf16) (r2 r3 r4 r5 : BitVec 32), r0 = aBlk (xa c) (rb 2 ((nb (uu 2 c) 0 + 8 * 0) + 3)) → r1 = aBlk (xa c) (rb 2 ((nb (uu 2 c) 0 + 8 * 0) + 4)) → (St xa xb K c ![5, 5, 3] ⊢ Q ⟨r0, r1, r2, r3, r4, r5⟩)) :
    St xa xb K c ![5, 5, 3] ⊢ wpc c (k0_part76 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2459) Q := by
  rw [k0_part76_eq_skeleton]; unfold k0_part76_skel
  refine step_loadA (o := rb 2 ((nb (uu 2 c) 0 + 8 * 0) + 3)) (off6_2 0 3 c) fun v2558 e2558 => ?_
  refine step_loadA (o := rb 2 ((nb (uu 2 c) 0 + 8 * 0) + 4)) (off6_2 0 4 c) fun v2583 e2583 => ?_
  exact ret_step (h _ _ _ _ _ _ ((shapeCast_self _ _).trans e2558) ((shapeCast_self _ _).trans e2583))

theorem pt77 {Q : (Σ' (v2609 : FVec F S64x1024 .bf16) (v2610 : BitVec 32) (v2622 : BitVec 32) (v2624 : BitVec 32), BitVec 32) → sProp 𝕄} {v2459 v2585 v2589 v2590 c1_i32_1928 : BitVec 32}
    (h : ∀ (r0 : FVec F S64x1024 .bf16) (r1 r2 r3 r4 : BitVec 32), r0 = aBlk (xa c) (rb 2 ((nb (uu 2 c) 0 + 8 * 0) + 5)) → (St xa xb K c ![5, 5, 3] ⊢ Q ⟨r0, r1, r2, r3, r4⟩)) :
    St xa xb K c ![5, 5, 3] ⊢ wpc c (k0_part77 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2459 v2585 v2589 v2590 c1_i32_1928) Q := by
  rw [k0_part77_eq_skeleton]; unfold k0_part77_skel
  refine step_loadA (o := rb 2 ((nb (uu 2 c) 0 + 8 * 0) + 5)) (off6_2 0 5 c) fun v2608 e2608 => ?_
  exact ret_step (h _ _ _ _ _ ((shapeCast_self _ _).trans e2608))

theorem pt78 {Q : (FVec F S512x1024 .bf16) → sProp 𝕄} {v2459 : BitVec 32} {v2484 v2509 v2534 v2559 v2584 v2609 : FVec F S64x1024 .bf16} {v2610 v2622 v2624 c8_i32_1954 : BitVec 32}
    (e2484 : v2484 = aBlk (xa c) (rb 2 ((nb (uu 2 c) 0 + 8 * 0) + 0))) (e2509 : v2509 = aBlk (xa c) (rb 2 ((nb (uu 2 c) 0 + 8 * 0) + 1))) (e2534 : v2534 = aBlk (xa c) (rb 2 ((nb (uu 2 c) 0 + 8 * 0) + 2))) (e2559 : v2559 = aBlk (xa c) (rb 2 ((nb (uu 2 c) 0 + 8 * 0) + 3))) (e2584 : v2584 = aBlk (xa c) (rb 2 ((nb (uu 2 c) 0 + 8 * 0) + 4))) (e2609 : v2609 = aBlk (xa c) (rb 2 ((nb (uu 2 c) 0 + 8 * 0) + 5)))
    (h : ∀ (r0 : FVec F S512x1024 .bf16), r0 = cat8 (fun i => aBlk (xa c) (rb 2 ((nb (uu 2 c) 0 + 8 * 0) + i))) → (St xa xb K c ![5, 5, 3] ⊢ Q r0)) :
    St xa xb K c ![5, 5, 3] ⊢ wpc c (k0_part78 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2459 v2484 v2509 v2534 v2559 v2584 v2609 v2610 v2622 v2624 c8_i32_1954) Q := by
  rw [k0_part78_eq_skeleton]; unfold k0_part78_skel
  refine step_loadA (o := rb 2 ((nb (uu 2 c) 0 + 8 * 0) + 6)) (off6_2 0 6 c) fun v2633 e2633 => ?_
  refine step_loadA (o := rb 2 ((nb (uu 2 c) 0 + 8 * 0) + 7)) (off6_2 0 7 c) fun v2658 e2658 => ?_
  exact ret_step (h _ (cat_pay e2484 e2509 e2534 e2559 e2584 e2609 ((shapeCast_self _ _).trans e2633) ((shapeCast_self _ _).trans e2658)))

theorem pt79 {Q : (Σ' (v2670 : BitVec 32), Vec F S64x1024 .bf16) → sProp 𝕄} {v266 v2459 : BitVec 32} {v2660 : FVec F S512x1024 .bf16}
    (e2660 : v2660 = cat8 (fun i => aBlk (xa c) (rb 2 ((nb (uu 2 c) 0 + 8 * 0) + i))))
    (h : ∀ (r0 : BitVec 32) (r1 : Vec F S64x1024 .bf16), r1 = aBlk (xa c) (rb 2 ((nb (uu 2 c) 0 + 8 * 1) + 0)) → (St xa xb K c ![5, 5, 4] ⊢ Q ⟨r0, r1⟩)) :
    St xa xb K c ![5, 5, 3] ⊢ wpc c (k0_part79 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v266 v2459 v2660) Q := by
  rw [k0_part79_eq_skeleton]; unfold k0_part79_skel
  refine step_loadB 2 rfl fun v2661 e2661 => ?_
  refine step_deadP 2 (o := fun u => nb u 0 + 8 * 0) (n := 8) (t := 3) rfl (off8_2 0 c) chk_nb0_D fun v2667 => ?_
  refine step_storeP 2 (o := fun u => nb u 0 + 8 * 0) (n := 8) (l := 0) (t := 3) (T' := ![5, 5, 4]) rfl (by decide) (off8_2 0 c) chk_nb0_P
    (mm_val 2 (o := nb (uu 2 c) 0 + 8 * 0) (nb8 2 c 0) ((shapeCast_self _ _).trans (mm_pay2 e2660 ((shapeCast_self _ _).trans e2661)))) ?_
  refine step_loadA (o := rb 2 ((nb (uu 2 c) 0 + 8 * 1) + 0)) (off6_2 1 0 c) fun v2694 e2694 => ?_
  exact ret_step (h _ _ e2694)

theorem pt80 {Q : (Σ' (v2695 : FVec F S64x1024 .bf16) (v2720 : FVec F S64x1024 .bf16) (v2721 : BitVec 32) (v2725 : BitVec 32) (v2727 : BitVec 32), BitVec 32) → sProp 𝕄} {v2670 : BitVec 32} {v2694 : Vec F S64x1024 .bf16}
    (e2694 : v2694 = aBlk (xa c) (rb 2 ((nb (uu 2 c) 0 + 8 * 1) + 0)))
    (h : ∀ (r0 r1 : FVec F S64x1024 .bf16) (r2 r3 r4 r5 : BitVec 32), r0 = aBlk (xa c) (rb 2 ((nb (uu 2 c) 0 + 8 * 1) + 0)) → r1 = aBlk (xa c) (rb 2 ((nb (uu 2 c) 0 + 8 * 1) + 1)) → (St xa xb K c ![5, 5, 4] ⊢ Q ⟨r0, r1, r2, r3, r4, r5⟩)) :
    St xa xb K c ![5, 5, 4] ⊢ wpc c (k0_part80 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2670 v2694) Q := by
  rw [k0_part80_eq_skeleton]; unfold k0_part80_skel
  refine step_loadA (o := rb 2 ((nb (uu 2 c) 0 + 8 * 1) + 1)) (off6_2 1 1 c) fun v2719 e2719 => ?_
  exact ret_step (h _ _ _ _ _ _ ((shapeCast_self _ _).trans e2694) ((shapeCast_self _ _).trans e2719))

theorem pt81 {Q : (Σ' (v2745 : FVec F S64x1024 .bf16) (v2746 : BitVec 32), BitVec 32) → sProp 𝕄} {v2670 v2721 v2725 v2727 c4_i32_2030 : BitVec 32}
    (h : ∀ (r0 : FVec F S64x1024 .bf16) (r1 r2 : BitVec 32), r0 = aBlk (xa c) (rb 2 ((nb (uu 2 c) 0 + 8 * 1) + 2)) → (St xa xb K c ![5, 5, 4] ⊢ Q ⟨r0, r1, r2⟩)) :
    St xa xb K c ![5, 5, 4] ⊢ wpc c (k0_part81 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2670 v2721 v2725 v2727 c4_i32_2030) Q := by
  rw [k0_part81_eq_skeleton]; unfold k0_part81_skel
  refine step_loadA (o := rb 2 ((nb (uu 2 c) 0 + 8 * 1) + 2)) (off6_2 1 2 c) fun v2744 e2744 => ?_
  exact ret_step (h _ _ _ ((shapeCast_self _ _).trans e2744))

theorem pt82 {Q : (Σ' (v2770 : FVec F S64x1024 .bf16) (v2795 : FVec F S64x1024 .bf16) (v2796 : BitVec 32), BitVec 32) → sProp 𝕄} {v2670 v2746 v2762 : BitVec 32}
    (h : ∀ (r0 r1 : FVec F S64x1024 .bf16) (r2 r3 : BitVec 32), r0 = aBlk (xa c) (rb 2 ((nb (uu 2 c) 0 + 8 * 1) + 3)) → r1 = aBlk (xa c) (rb 2 ((nb (uu 2 c) 0 + 8 * 1) + 4)) → (St xa xb K c ![5, 5, 4] ⊢ Q ⟨r0, r1, r2, r3⟩)) :
    St xa xb K c ![5, 5, 4] ⊢ wpc c (k0_part82 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2670 v2746 v2762) Q := by
  rw [k0_part82_eq_skeleton]; unfold k0_part82_skel
  refine step_loadA (o := rb 2 ((nb (uu 2 c) 0 + 8 * 1) + 3)) (off6_2 1 3 c) fun v2769 e2769 => ?_
  refine step_loadA (o := rb 2 ((nb (uu 2 c) 0 + 8 * 1) + 4)) (off6_2 1 4 c) fun v2794 e2794 => ?_
  exact ret_step (h _ _ _ _ ((shapeCast_self _ _).trans e2769) ((shapeCast_self _ _).trans e2794))

theorem pt83 {Q : (Σ' (v2820 : FVec F S64x1024 .bf16) (v2821 : BitVec 32) (v2829 : BitVec 32), BitVec 32) → sProp 𝕄} {v2670 v2796 c4_i32_2081 : BitVec 32}
    (h : ∀ (r0 : FVec F S64x1024 .bf16) (r1 r2 r3 : BitVec 32), r0 = aBlk (xa c) (rb 2 ((nb (uu 2 c) 0 + 8 * 1) + 5)) → (St xa xb K c ![5, 5, 4] ⊢ Q ⟨r0, r1, r2, r3⟩)) :
    St xa xb K c ![5, 5, 4] ⊢ wpc c (k0_part83 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2670 v2796 c4_i32_2081) Q := by
  rw [k0_part83_eq_skeleton]; unfold k0_part83_skel
  refine step_loadA (o := rb 2 ((nb (uu 2 c) 0 + 8 * 1) + 5)) (off6_2 1 5 c) fun v2819 e2819 => ?_
  exact ret_step (h _ _ _ _ ((shapeCast_self _ _).trans e2819))

theorem pt84 {Q : (Σ' (v2845 : FVec F S64x1024 .bf16) (v2862 : BitVec 32), BitVec 32) → sProp 𝕄} {v2670 v2821 v2829 v2830 : BitVec 32}
    (h : ∀ (r0 : FVec F S64x1024 .bf16) (r1 r2 : BitVec 32), r0 = aBlk (xa c) (rb 2 ((nb (uu 2 c) 0 + 8 * 1) + 6)) → (St xa xb K c ![5, 5, 4] ⊢ Q ⟨r0, r1, r2⟩)) :
    St xa xb K c ![5, 5, 4] ⊢ wpc c (k0_part84 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v2670 v2821 v2829 v2830) Q := by
  rw [k0_part84_eq_skeleton]; unfold k0_part84_skel
  refine step_loadA (o := rb 2 ((nb (uu 2 c) 0 + 8 * 1) + 6)) (off6_2 1 6 c) fun v2844 e2844 => ?_
  exact ret_step (h _ _ _ ((shapeCast_self _ _).trans e2844))

theorem pt85 {Q : (BitVec 32) → sProp 𝕄} {v53 v66 v73 v2670 : BitVec 32} {v2695 v2720 v2745 v2770 v2795 v2820 v2845 : FVec F S64x1024 .bf16} {v2862 v2864 : BitVec 32}
    (e2695 : v2695 = aBlk (xa c) (rb 2 ((nb (uu 2 c) 0 + 8 * 1) + 0))) (e2720 : v2720 = aBlk (xa c) (rb 2 ((nb (uu 2 c) 0 + 8 * 1) + 1))) (e2745 : v2745 = aBlk (xa c) (rb 2 ((nb (uu 2 c) 0 + 8 * 1) + 2))) (e2770 : v2770 = aBlk (xa c) (rb 2 ((nb (uu 2 c) 0 + 8 * 1) + 3))) (e2795 : v2795 = aBlk (xa c) (rb 2 ((nb (uu 2 c) 0 + 8 * 1) + 4))) (e2820 : v2820 = aBlk (xa c) (rb 2 ((nb (uu 2 c) 0 + 8 * 1) + 5))) (e2845 : v2845 = aBlk (xa c) (rb 2 ((nb (uu 2 c) 0 + 8 * 1) + 6)))
    (h : ∀ (r0 : BitVec 32), (St xa xb K c ![7, 5, 5] ⊢ Q r0)) :
    St xa xb K c ![5, 5, 4] ⊢ wpc c (k0_part85 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v53 v66 v73 v2670 v2695 v2720 v2745 v2770 v2795 v2820 v2845 v2862 v2864) Q := by
  rw [k0_part85_eq_skeleton]; unfold k0_part85_skel
  refine step_loadA (o := rb 2 ((nb (uu 2 c) 0 + 8 * 1) + 7)) (off6_2 1 7 c) fun v2869 e2869 => ?_
  refine step_loadB 2 rfl fun v2872 e2872 => ?_
  refine step_deadP 2 (o := fun u => nb u 0 + 8 * 1) (n := 8) (t := 4) rfl (off8_2 1 c) chk_nb1_D fun v2878 => ?_
  refine step_storeP 2 (o := fun u => nb u 0 + 8 * 1) (n := 8) (l := 0) (t := 4) (T' := ![5, 5, 5]) rfl (by decide) (off8_2 1 c) chk_nb1_P
    (mm_val 2 (o := nb (uu 2 c) 0 + 8 * 1) (nb8 2 c 1) ((shapeCast_self _ _).trans (mm_pay2 (cat_pay e2695 e2720 e2745 e2770 e2795 e2820 e2845 ((shapeCast_self _ _).trans e2869)) ((shapeCast_self _ _).trans e2872)))) ?_
  refine step_recvRS 0 0 (T' := ![6, 5, 5]) (by decide) rfl (by decide) rfl rfl ?_
  refine step_loadP 0 (o := fun u => soff u 1) (n := 8) (l := 0) (t := 6) rfl (off9_0 c) chk_soff_1_0_L fun v2892 e2892 => ?_
  refine step_loadR 0 (o := fun u => soff u 1) (oR := fun u => rof 0 + (soff u 1 - nb u 0)) (n := 8) 0 (t := 6) rfl (off10_0 c) chk_soff_1_0_R fun v2894 e2894 => ?_
  refine step_deadP 0 (o := fun u => soff u 1) (n := 8) (t := 6) rfl (off9_0 c) chk_soff_1_0_D fun v2897 => ?_
  refine step_storeP 0 (o := fun u => soff u 1) (n := 8) (l := 1) (t := 6) (T' := ![7, 5, 5]) rfl (by decide) (off9_0 c) chk_soff_1_0_P (acc_val 0 e2892 e2894 (shapeCast_self _ _)) ?_
  exact ret_step (h _)

theorem pt86 {Q : PUnit → sProp 𝕄} {v54 v73 v153 v154 v166 v173 c64_i32_2155 : BitVec 32}
    (h : St xa xb K c ![8, 7, 5] ⊢ Q ⟨⟩) :
    St xa xb K c ![7, 5, 5] ⊢ wpc c (k0_part86 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v54 v73 v153 v154 v166 v173 c64_i32_2155) Q := by
  rw [k0_part86_eq_skeleton]; unfold k0_part86_skel
  refine step_sendRS 0 1 (n := 8) (T' := ![8, 5, 5]) rfl (dev10 c) rfl (by decide) (off11_0 c) rfl rfl rfl rfl ?_
  refine step_recvRS 1 0 (T' := ![8, 6, 5]) (by decide) rfl (by decide) rfl rfl ?_
  refine step_loadP 1 (o := fun u => soff u 1) (n := 8) (l := 0) (t := 6) rfl (off12_1 c) chk_soff_1_0_L fun v2920 e2920 => ?_
  refine step_loadR 1 (o := fun u => soff u 1) (oR := fun u => rof 0 + (soff u 1 - nb u 0)) (n := 8) 0 (t := 6) rfl (off13_1 c) chk_soff_1_0_R fun v2922 e2922 => ?_
  refine step_deadP 1 (o := fun u => soff u 1) (n := 8) (t := 6) rfl (off12_1 c) chk_soff_1_0_D fun v2925 => ?_
  refine step_storeP 1 (o := fun u => soff u 1) (n := 8) (l := 1) (t := 6) (T' := ![8, 7, 5]) rfl (by decide) (off12_1 c) chk_soff_1_0_P (acc_val 1 e2920 e2922 (shapeCast_self _ _)) ?_
  exact ret_step h

theorem pt87 {Q : PUnit → sProp 𝕄} {v253 v254 v266 v273 : BitVec 32}
    (h : St xa xb K c ![8, 8, 7] ⊢ Q ⟨⟩) :
    St xa xb K c ![8, 7, 5] ⊢ wpc c (k0_part87 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v253 v254 v266 v273) Q := by
  rw [k0_part87_eq_skeleton]; unfold k0_part87_skel
  refine step_sendRS 1 1 (n := 8) (T' := ![8, 8, 5]) rfl (dev11 c) rfl (by decide) (off14_1 c) rfl rfl rfl rfl ?_
  refine step_recvRS 2 0 (T' := ![8, 8, 6]) (by decide) rfl (by decide) rfl rfl ?_
  refine step_loadP 2 (o := fun u => soff u 1) (n := 8) (l := 0) (t := 6) rfl (off12_2 c) chk_soff_1_0_L fun v2948 e2948 => ?_
  refine step_loadR 2 (o := fun u => soff u 1) (oR := fun u => rof 0 + (soff u 1 - nb u 0)) (n := 8) 0 (t := 6) rfl (off13_2 c) chk_soff_1_0_R fun v2950 e2950 => ?_
  refine step_deadP 2 (o := fun u => soff u 1) (n := 8) (t := 6) rfl (off12_2 c) chk_soff_1_0_D fun v2953 => ?_
  refine step_storeP 2 (o := fun u => soff u 1) (n := 8) (l := 1) (t := 6) (T' := ![8, 8, 7]) rfl (by decide) (off12_2 c) chk_soff_1_0_P (acc_val 2 e2948 e2950 (shapeCast_self _ _)) ?_
  exact ret_step h

theorem pt88 {Q : (FVec F S512x640 .bf16) → sProp 𝕄} {v66 v75 v166 v175 v266 v275 : BitVec 32}
    (h : ∀ (r0 : FVec F S512x640 .bf16), (∀ y : S512x640.Idx, r0 y = S xa xb 2 1 c (64 * nb (uu 2 c) 1 + (y 0).val) (y 1).val) → (St xa xb K c ![9, 9, 8] ⊢ Q r0)) :
    St xa xb K c ![8, 8, 7] ⊢ wpc c (k0_part88 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v66 v75 v166 v175 v266 v275) Q := by
  rw [k0_part88_eq_skeleton]; unfold k0_part88_skel
  refine step_sendRS 2 1 (n := 8) (T' := ![8, 8, 8]) rfl (dev12 c) rfl (by decide) (off14_2 c) rfl rfl rfl rfl ?_
  refine step_loadP 0 (o := fun u => nb u 1) (n := 8) (l := 0) (t := 8) rfl (off15_0 c) chk_nb_1_0_L fun v2970 e2970 => ?_
  refine step_loadR 0 (o := fun u => nb u 1) (oR := fun u => rof 0 + (nb u 1 - nb u 0)) (n := 8) 0 (t := 8) rfl (off16_0 c) chk_nb_1_0_R fun v2972 e2972 => ?_
  refine step_deadP 0 (o := fun u => nb u 1) (n := 8) (t := 8) rfl (off15_0 c) chk_nb_1_0_D fun v2975 => ?_
  refine step_storeP 0 (o := fun u => nb u 1) (n := 8) (l := 1) (t := 8) (T' := ![9, 8, 8]) rfl (by decide) (off15_0 c) chk_nb_1_0_P (acc_val 0 e2970 e2972 (shapeCast_self _ _)) ?_
  refine step_loadP 1 (o := fun u => nb u 1) (n := 8) (l := 0) (t := 8) rfl (off17_1 c) chk_nb_1_0_L fun v2983 e2983 => ?_
  refine step_loadR 1 (o := fun u => nb u 1) (oR := fun u => rof 0 + (nb u 1 - nb u 0)) (n := 8) 0 (t := 8) rfl (off18_1 c) chk_nb_1_0_R fun v2985 e2985 => ?_
  refine step_deadP 1 (o := fun u => nb u 1) (n := 8) (t := 8) rfl (off17_1 c) chk_nb_1_0_D fun v2988 => ?_
  refine step_storeP 1 (o := fun u => nb u 1) (n := 8) (l := 1) (t := 8) (T' := ![9, 9, 8]) rfl (by decide) (off17_1 c) chk_nb_1_0_P (acc_val 1 e2983 e2985 (shapeCast_self _ _)) ?_
  refine step_loadP 2 (o := fun u => nb u 1) (n := 8) (l := 0) (t := 8) rfl (off17_2 c) chk_nb_1_0_L fun v2996 e2996 => ?_
  refine step_loadR 2 (o := fun u => nb u 1) (oR := fun u => rof 0 + (nb u 1 - nb u 0)) (n := 8) 0 (t := 8) rfl (off18_2 c) chk_nb_1_0_R fun v2998 e2998 => ?_
  refine step_deadP 2 (o := fun u => nb u 1) (n := 8) (t := 8) rfl (off17_2 c) chk_nb_1_0_D fun v3001 => ?_
  exact ret_step (h _ (acc_val 2 e2996 e2998 (shapeCast_self _ _)))

theorem pt89 {Q : (Σ' (v3022 : BitVec 32), Vec F S256x768 .bf16) → sProp 𝕄} {v54 v75 v82 : BitVec 32} {v3003 : FVec F S512x640 .bf16}
    (e3003 : (∀ y : S512x640.Idx, v3003 y = S xa xb 2 1 c (64 * nb (uu 2 c) 1 + (y 0).val) (y 1).val))
    (h : ∀ (r0 : BitVec 32) (r1 : Vec F S256x768 .bf16), (∀ y : S256x768.Idx, r1 y = S xa xb 0 1 c (64 * soff (uu 0 c) 2 + (y 0).val) (y 1).val) → (St xa xb K c ![11, 10, 10] ⊢ Q ⟨r0, r1⟩)) :
    St xa xb K c ![9, 9, 8] ⊢ wpc c (k0_part89 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v54 v75 v82 v3003) Q := by
  rw [k0_part89_eq_skeleton]; unfold k0_part89_skel
  refine step_storeP 2 (o := fun u => nb u 1) (n := 8) (l := 1) (t := 8) (T' := ![9, 9, 9]) rfl (by decide) (off17_2 c) chk_nb_1_0_P e3003 ?_
  refine step_sentRS 0 0 (T' := ![10, 9, 9]) rfl (by decide) rfl rfl ?_
  refine step_sentRS 1 0 (T' := ![10, 10, 9]) rfl (by decide) rfl rfl ?_
  refine step_sentRS 2 0 (T' := ![10, 10, 10]) rfl (by decide) rfl rfl ?_
  refine step_recvRS 0 1 (T' := ![11, 10, 10]) (by decide) rfl (by decide) rfl rfl ?_
  refine step_loadP 0 (o := fun u => soff u 2) (n := 4) (l := 1) (t := 11) rfl (off19_0 c) chk_soff_2_1_L fun v3027 e3027 => ?_
  exact ret_step (h _ _ e3027)

theorem pt90 {Q : PUnit → sProp 𝕄} {v55 v82 v154 v175 v182 v3022 : BitVec 32} {v3027 : Vec F S256x768 .bf16}
    (e3027 : (∀ y : S256x768.Idx, v3027 y = S xa xb 0 1 c (64 * soff (uu 0 c) 2 + (y 0).val) (y 1).val))
    (h : St xa xb K c ![13, 12, 10] ⊢ Q ⟨⟩) :
    St xa xb K c ![11, 10, 10] ⊢ wpc c (k0_part90 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v55 v82 v154 v175 v182 v3022 v3027) Q := by
  rw [k0_part90_eq_skeleton]; unfold k0_part90_skel
  refine step_loadR 0 (o := fun u => soff u 2) (oR := fun u => rof 1 + (soff u 2 - nb u 1)) (n := 4) 1 (t := 11) rfl (off20_0 c) chk_soff_2_1_R fun v3029 e3029 => ?_
  refine step_deadP 0 (o := fun u => soff u 2) (n := 4) (t := 11) rfl (off19_0 c) chk_soff_2_1_D fun v3032 => ?_
  refine step_storeP 0 (o := fun u => soff u 2) (n := 4) (l := 2) (t := 11) (T' := ![12, 10, 10]) rfl (by decide) (off19_0 c) chk_soff_2_1_P (acc_val 0 e3027 e3029 (shapeCast_self _ _)) ?_
  refine step_sendRS 0 2 (n := 4) (T' := ![13, 10, 10]) rfl (dev13 c) rfl (by decide) (off21_0 c) rfl rfl rfl rfl ?_
  refine step_recvRS 1 1 (T' := ![13, 11, 10]) (by decide) rfl (by decide) rfl rfl ?_
  refine step_loadP 1 (o := fun u => soff u 2) (n := 4) (l := 1) (t := 11) rfl (off22_1 c) chk_soff_2_1_L fun v3055 e3055 => ?_
  refine step_loadR 1 (o := fun u => soff u 2) (oR := fun u => rof 1 + (soff u 2 - nb u 1)) (n := 4) 1 (t := 11) rfl (off23_1 c) chk_soff_2_1_R fun v3057 e3057 => ?_
  refine step_deadP 1 (o := fun u => soff u 2) (n := 4) (t := 11) rfl (off22_1 c) chk_soff_2_1_D fun v3060 => ?_
  refine step_storeP 1 (o := fun u => soff u 2) (n := 4) (l := 2) (t := 11) (T' := ![13, 12, 10]) rfl (by decide) (off22_1 c) chk_soff_2_1_P (acc_val 1 e3055 e3057 (shapeCast_self _ _)) ?_
  exact ret_step h

theorem pt91 {Q : PUnit → sProp 𝕄} {v155 v182 v254 v255 v275 v282 : BitVec 32}
    (h : St xa xb K c ![13, 13, 12] ⊢ Q ⟨⟩) :
    St xa xb K c ![13, 12, 10] ⊢ wpc c (k0_part91 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v155 v182 v254 v255 v275 v282) Q := by
  rw [k0_part91_eq_skeleton]; unfold k0_part91_skel
  refine step_sendRS 1 2 (n := 4) (T' := ![13, 13, 10]) rfl (dev14 c) rfl (by decide) (off24_1 c) rfl rfl rfl rfl ?_
  refine step_recvRS 2 1 (T' := ![13, 13, 11]) (by decide) rfl (by decide) rfl rfl ?_
  refine step_loadP 2 (o := fun u => soff u 2) (n := 4) (l := 1) (t := 11) rfl (off22_2 c) chk_soff_2_1_L fun v3083 e3083 => ?_
  refine step_loadR 2 (o := fun u => soff u 2) (oR := fun u => rof 1 + (soff u 2 - nb u 1)) (n := 4) 1 (t := 11) rfl (off23_2 c) chk_soff_2_1_R fun v3085 e3085 => ?_
  refine step_deadP 2 (o := fun u => soff u 2) (n := 4) (t := 11) rfl (off22_2 c) chk_soff_2_1_D fun v3088 => ?_
  refine step_storeP 2 (o := fun u => soff u 2) (n := 4) (l := 2) (t := 11) (T' := ![13, 13, 12]) rfl (by decide) (off22_2 c) chk_soff_2_1_P (acc_val 2 e3083 e3085 (shapeCast_self _ _)) ?_
  exact ret_step h

theorem pt92 {Q : (Σ' (v3126 : BitVec 32) (v3129 : BitVec 32), Vec F S256x640 .bf16) → sProp 𝕄} {v75 v84 v175 v184 v275 v284 : BitVec 32}
    (h : ∀ (r0 r1 : BitVec 32) (r2 : Vec F S256x640 .bf16), (∀ y : S256x640.Idx, r2 y = S xa xb 2 1 c (64 * nb (uu 2 c) 2 + (y 0).val) (y 1).val) → (St xa xb K c ![14, 14, 13] ⊢ Q ⟨r0, r1, r2⟩)) :
    St xa xb K c ![13, 13, 12] ⊢ wpc c (k0_part92 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v75 v84 v175 v184 v275 v284) Q := by
  rw [k0_part92_eq_skeleton]; unfold k0_part92_skel
  refine step_sendRS 2 2 (n := 4) (T' := ![13, 13, 13]) rfl (dev15 c) rfl (by decide) (off24_2 c) rfl rfl rfl rfl ?_
  refine step_loadP 0 (o := fun u => nb u 2) (n := 4) (l := 1) (t := 13) rfl (off25_0 c) chk_nb_2_1_L fun v3105 e3105 => ?_
  refine step_loadR 0 (o := fun u => nb u 2) (oR := fun u => rof 1 + (nb u 2 - nb u 1)) (n := 4) 1 (t := 13) rfl (off26_0 c) chk_nb_2_1_R fun v3107 e3107 => ?_
  refine step_deadP 0 (o := fun u => nb u 2) (n := 4) (t := 13) rfl (off25_0 c) chk_nb_2_1_D fun v3110 => ?_
  refine step_storeP 0 (o := fun u => nb u 2) (n := 4) (l := 2) (t := 13) (T' := ![14, 13, 13]) rfl (by decide) (off25_0 c) chk_nb_2_1_P (acc_val 0 e3105 e3107 (shapeCast_self _ _)) ?_
  refine step_loadP 1 (o := fun u => nb u 2) (n := 4) (l := 1) (t := 13) rfl (off27_1 c) chk_nb_2_1_L fun v3118 e3118 => ?_
  refine step_loadR 1 (o := fun u => nb u 2) (oR := fun u => rof 1 + (nb u 2 - nb u 1)) (n := 4) 1 (t := 13) rfl (off28_1 c) chk_nb_2_1_R fun v3120 e3120 => ?_
  refine step_deadP 1 (o := fun u => nb u 2) (n := 4) (t := 13) rfl (off27_1 c) chk_nb_2_1_D fun v3123 => ?_
  refine step_storeP 1 (o := fun u => nb u 2) (n := 4) (l := 2) (t := 13) (T' := ![14, 14, 13]) rfl (by decide) (off27_1 c) chk_nb_2_1_P (acc_val 1 e3118 e3120 (shapeCast_self _ _)) ?_
  refine step_loadP 2 (o := fun u => nb u 2) (n := 4) (l := 1) (t := 13) rfl (off27_2 c) chk_nb_2_1_L fun v3131 e3131 => ?_
  exact ret_step (h _ _ _ e3131)

theorem pt93 {Q : (Σ' (v3157 : BitVec 32), BitVec 32) → sProp 𝕄} {v55 v91 v3126 v3129 : BitVec 32} {v3131 : Vec F S256x640 .bf16}
    (e3131 : (∀ y : S256x640.Idx, v3131 y = S xa xb 2 1 c (64 * nb (uu 2 c) 2 + (y 0).val) (y 1).val))
    (h : ∀ (r0 r1 : BitVec 32), (St xa xb K c ![16, 15, 15] ⊢ Q ⟨r0, r1⟩)) :
    St xa xb K c ![14, 14, 13] ⊢ wpc c (k0_part93 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v55 v91 v3126 v3129 v3131) Q := by
  rw [k0_part93_eq_skeleton]; unfold k0_part93_skel
  refine step_loadR 2 (o := fun u => nb u 2) (oR := fun u => rof 1 + (nb u 2 - nb u 1)) (n := 4) 1 (t := 13) rfl (off28_2 c) chk_nb_2_1_R fun v3133 e3133 => ?_
  refine step_deadP 2 (o := fun u => nb u 2) (n := 4) (t := 13) rfl (off27_2 c) chk_nb_2_1_D fun v3136 => ?_
  refine step_storeP 2 (o := fun u => nb u 2) (n := 4) (l := 2) (t := 13) (T' := ![14, 14, 14]) rfl (by decide) (off27_2 c) chk_nb_2_1_P (acc_val 2 e3131 e3133 (shapeCast_self _ _)) ?_
  refine step_sentRS 0 1 (T' := ![15, 14, 14]) rfl (by decide) rfl rfl ?_
  refine step_sentRS 1 1 (T' := ![15, 15, 14]) rfl (by decide) rfl rfl ?_
  refine step_sentRS 2 1 (T' := ![15, 15, 15]) rfl (by decide) rfl rfl ?_
  refine step_recvRS 0 2 (T' := ![16, 15, 15]) (by decide) rfl (by decide) rfl rfl ?_
  exact ret_step (h _ _)

theorem pt94 {Q : (Σ' (v3185 : BitVec 32), Vec F S128x640 .bf16) → sProp 𝕄} {v56 v84 v91 v155 v184 v191 v3157 c24_i32 : BitVec 32}
    (h : ∀ (r0 : BitVec 32) (r1 : Vec F S128x640 .bf16), (∀ y : S128x640.Idx, r1 y = S xa xb 1 2 c (64 * soff (uu 1 c) 3 + (y 0).val) (y 1).val) → (St xa xb K c ![18, 16, 15] ⊢ Q ⟨r0, r1⟩)) :
    St xa xb K c ![16, 15, 15] ⊢ wpc c (k0_part94 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v56 v84 v91 v155 v184 v191 v3157 c24_i32) Q := by
  rw [k0_part94_eq_skeleton]; unfold k0_part94_skel
  refine step_loadP 0 (o := fun u => soff u 3) (n := 2) (l := 2) (t := 16) rfl (off29_0 c) chk_soff_3_2_L fun v3162 e3162 => ?_
  refine step_loadR 0 (o := fun u => soff u 3) (oR := fun u => rof 2 + (soff u 3 - nb u 2)) (n := 2) 2 (t := 16) rfl (off30_0 c) chk_soff_3_2_R fun v3164 e3164 => ?_
  refine step_deadP 0 (o := fun u => soff u 3) (n := 2) (t := 16) rfl (off29_0 c) chk_soff_3_2_D fun v3167 => ?_
  refine step_storeP 0 (o := fun u => soff u 3) (n := 2) (l := 3) (t := 16) (T' := ![17, 15, 15]) rfl (by decide) (off29_0 c) chk_soff_3_2_P (acc_val 0 e3162 e3164 (shapeCast_self _ _)) ?_
  refine step_sendRS 0 3 (n := 2) (T' := ![18, 15, 15]) rfl (dev16 c) rfl (by decide) (off31_0 c) rfl rfl rfl rfl ?_
  refine step_recvRS 1 2 (T' := ![18, 16, 15]) (by decide) rfl (by decide) rfl rfl ?_
  refine step_loadP 1 (o := fun u => soff u 3) (n := 2) (l := 2) (t := 16) rfl (off32_1 c) chk_soff_3_2_L fun v3190 e3190 => ?_
  exact ret_step (h _ _ e3190)

theorem pt95 {Q : (FVec F S128x640 .bf16) → sProp 𝕄} {v156 v191 v255 v284 v291 v3185 : BitVec 32} {v3190 : Vec F S128x640 .bf16}
    (e3190 : (∀ y : S128x640.Idx, v3190 y = S xa xb 1 2 c (64 * soff (uu 1 c) 3 + (y 0).val) (y 1).val))
    (h : ∀ (r0 : FVec F S128x640 .bf16), (∀ y : S128x640.Idx, r0 y = S xa xb 2 3 c (64 * soff (uu 2 c) 3 + (y 0).val) (y 1).val) → (St xa xb K c ![18, 18, 16] ⊢ Q r0)) :
    St xa xb K c ![18, 16, 15] ⊢ wpc c (k0_part95 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v156 v191 v255 v284 v291 v3185 v3190) Q := by
  rw [k0_part95_eq_skeleton]; unfold k0_part95_skel
  refine step_loadR 1 (o := fun u => soff u 3) (oR := fun u => rof 2 + (soff u 3 - nb u 2)) (n := 2) 2 (t := 16) rfl (off33_1 c) chk_soff_3_2_R fun v3192 e3192 => ?_
  refine step_deadP 1 (o := fun u => soff u 3) (n := 2) (t := 16) rfl (off32_1 c) chk_soff_3_2_D fun v3195 => ?_
  refine step_storeP 1 (o := fun u => soff u 3) (n := 2) (l := 3) (t := 16) (T' := ![18, 17, 15]) rfl (by decide) (off32_1 c) chk_soff_3_2_P (acc_val 1 e3190 e3192 (shapeCast_self _ _)) ?_
  refine step_sendRS 1 3 (n := 2) (T' := ![18, 18, 15]) rfl (dev17 c) rfl (by decide) (off34_1 c) rfl rfl rfl rfl ?_
  refine step_recvRS 2 2 (T' := ![18, 18, 16]) (by decide) rfl (by decide) rfl rfl ?_
  refine step_loadP 2 (o := fun u => soff u 3) (n := 2) (l := 2) (t := 16) rfl (off32_2 c) chk_soff_3_2_L fun v3218 e3218 => ?_
  refine step_loadR 2 (o := fun u => soff u 3) (oR := fun u => rof 2 + (soff u 3 - nb u 2)) (n := 2) 2 (t := 16) rfl (off33_2 c) chk_soff_3_2_R fun v3220 e3220 => ?_
  refine step_deadP 2 (o := fun u => soff u 3) (n := 2) (t := 16) rfl (off32_2 c) chk_soff_3_2_D fun v3223 => ?_
  exact ret_step (h _ (acc_val 2 e3218 e3220 (shapeCast_self _ _)))

theorem pt96 {Q : (BitVec 32) → sProp 𝕄} {v84 v93 v184 v193 v256 v291 : BitVec 32} {v3225 : FVec F S128x640 .bf16}
    (e3225 : (∀ y : S128x640.Idx, v3225 y = S xa xb 2 3 c (64 * soff (uu 2 c) 3 + (y 0).val) (y 1).val))
    (h : ∀ (r0 : BitVec 32), (St xa xb K c ![19, 19, 18] ⊢ Q r0)) :
    St xa xb K c ![18, 18, 16] ⊢ wpc c (k0_part96 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v84 v93 v184 v193 v256 v291 v3225) Q := by
  rw [k0_part96_eq_skeleton]; unfold k0_part96_skel
  refine step_storeP 2 (o := fun u => soff u 3) (n := 2) (l := 3) (t := 16) (T' := ![18, 18, 17]) rfl (by decide) (off32_2 c) chk_soff_3_2_P e3225 ?_
  refine step_sendRS 2 3 (n := 2) (T' := ![18, 18, 18]) rfl (dev18 c) rfl (by decide) (off34_2 c) rfl rfl rfl rfl ?_
  refine step_loadP 0 (o := fun u => nb u 3) (n := 2) (l := 2) (t := 18) rfl (off35_0 c) chk_nb_3_2_L fun v3240 e3240 => ?_
  refine step_loadR 0 (o := fun u => nb u 3) (oR := fun u => rof 2 + (nb u 3 - nb u 2)) (n := 2) 2 (t := 18) rfl (off36_0 c) chk_nb_3_2_R fun v3242 e3242 => ?_
  refine step_deadP 0 (o := fun u => nb u 3) (n := 2) (t := 18) rfl (off35_0 c) chk_nb_3_2_D fun v3245 => ?_
  refine step_storeP 0 (o := fun u => nb u 3) (n := 2) (l := 3) (t := 18) (T' := ![19, 18, 18]) rfl (by decide) (off35_0 c) chk_nb_3_2_P (acc_val 0 e3240 e3242 (shapeCast_self _ _)) ?_
  refine step_loadP 1 (o := fun u => nb u 3) (n := 2) (l := 2) (t := 18) rfl (off37_1 c) chk_nb_3_2_L fun v3253 e3253 => ?_
  refine step_loadR 1 (o := fun u => nb u 3) (oR := fun u => rof 2 + (nb u 3 - nb u 2)) (n := 2) 2 (t := 18) rfl (off38_1 c) chk_nb_3_2_R fun v3255 e3255 => ?_
  refine step_deadP 1 (o := fun u => nb u 3) (n := 2) (t := 18) rfl (off37_1 c) chk_nb_3_2_D fun v3258 => ?_
  refine step_storeP 1 (o := fun u => nb u 3) (n := 2) (l := 3) (t := 18) (T' := ![19, 19, 18]) rfl (by decide) (off37_1 c) chk_nb_3_2_P (acc_val 1 e3253 e3255 (shapeCast_self _ _)) ?_
  exact ret_step (h _)

end Cert.Cube

end
-- ==== Proof.Parts4.lean ====
/-
# The kernel, pieces 97 to 128

What each of these pieces of the kernel does to the state, one step after the other.
-/
module

public import proofs.«01_k».proof.Proof.Checks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt97 {Q : PUnit → sProp 𝕄} {v56 v284 v293 c64_i32_2405 : BitVec 32}
    (h : St xa xb K c ![20, 20, 20] ⊢ Q ⟨⟩) :
    St xa xb K c ![19, 19, 18] ⊢ wpc c (k0_part97 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v56 v284 v293 c64_i32_2405) Q := by
  rw [k0_part97_eq_skeleton]; unfold k0_part97_skel
  refine step_loadP 2 (o := fun u => nb u 3) (n := 2) (l := 2) (t := 18) rfl (off37_2 c) chk_nb_3_2_L fun v3266 e3266 => ?_
  refine step_loadR 2 (o := fun u => nb u 3) (oR := fun u => rof 2 + (nb u 3 - nb u 2)) (n := 2) 2 (t := 18) rfl (off38_2 c) chk_nb_3_2_R fun v3268 e3268 => ?_
  refine step_deadP 2 (o := fun u => nb u 3) (n := 2) (t := 18) rfl (off37_2 c) chk_nb_3_2_D fun v3271 => ?_
  refine step_storeP 2 (o := fun u => nb u 3) (n := 2) (l := 3) (t := 18) (T' := ![19, 19, 19]) rfl (by decide) (off37_2 c) chk_nb_3_2_P (acc_val 2 e3266 e3268 (shapeCast_self _ _)) ?_
  refine step_sentRS 0 2 (T' := ![20, 19, 19]) rfl (by decide) rfl rfl ?_
  refine step_sentRS 1 2 (T' := ![20, 20, 19]) rfl (by decide) rfl rfl ?_
  refine step_sentRS 2 2 (T' := ![20, 20, 20]) rfl (by decide) rfl rfl ?_
  exact ret_step h

theorem pt98 {Q : (BitVec 32) → sProp 𝕄} {v57 v93 v100 v156 v200 : BitVec 32}
    (h : ∀ (r0 : BitVec 32), (St xa xb K c ![23, 21, 20] ⊢ Q r0)) :
    St xa xb K c ![20, 20, 20] ⊢ wpc c (k0_part98 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v57 v93 v100 v156 v200) Q := by
  rw [k0_part98_eq_skeleton]; unfold k0_part98_skel
  refine step_recvRS 0 3 (T' := ![21, 20, 20]) (by decide) rfl (by decide) rfl rfl ?_
  refine step_loadP 0 (o := fun u => soff u 4) (n := 1) (l := 3) (t := 21) rfl (off39_0 c) chk_soff_4_3_L fun v3297 e3297 => ?_
  refine step_loadR 0 (o := fun u => soff u 4) (oR := fun u => rof 3 + (soff u 4 - nb u 3)) (n := 1) 3 (t := 21) rfl (off40_0 c) chk_soff_4_3_R fun v3299 e3299 => ?_
  refine step_deadP 0 (o := fun u => soff u 4) (n := 1) (t := 21) rfl (off39_0 c) chk_soff_4_3_D fun v3302 => ?_
  refine step_storeP 0 (o := fun u => soff u 4) (n := 1) (l := 4) (t := 21) (T' := ![22, 20, 20]) rfl (by decide) (off39_0 c) chk_soff_4_3_P (acc_val 0 e3297 e3299 (shapeCast_self _ _)) ?_
  refine step_sendRS 0 4 (n := 1) (T' := ![23, 20, 20]) rfl (dev19 c) rfl (by decide) (off41_0 c) rfl rfl rfl rfl ?_
  refine step_recvRS 1 3 (T' := ![23, 21, 20]) (by decide) rfl (by decide) rfl rfl ?_
  exact ret_step (h _)

theorem pt99 {Q : (Σ' (v3348 : BitVec 32) (v3351 : BitVec 32), Vec F S64x640 .bf16) → sProp 𝕄} {v157 v193 v200 v256 v293 v300 v3320 : BitVec 32}
    (h : ∀ (r0 r1 : BitVec 32) (r2 : Vec F S64x640 .bf16), (∀ y : S64x640.Idx, r2 y = S xa xb 2 3 c (64 * soff (uu 2 c) 4 + (y 0).val) (y 1).val) → (St xa xb K c ![23, 23, 21] ⊢ Q ⟨r0, r1, r2⟩)) :
    St xa xb K c ![23, 21, 20] ⊢ wpc c (k0_part99 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v157 v193 v200 v256 v293 v300 v3320) Q := by
  rw [k0_part99_eq_skeleton]; unfold k0_part99_skel
  refine step_loadP 1 (o := fun u => soff u 4) (n := 1) (l := 3) (t := 21) rfl (off42_1 c) chk_soff_4_3_L fun v3325 e3325 => ?_
  refine step_loadR 1 (o := fun u => soff u 4) (oR := fun u => rof 3 + (soff u 4 - nb u 3)) (n := 1) 3 (t := 21) rfl (off43_1 c) chk_soff_4_3_R fun v3327 e3327 => ?_
  refine step_deadP 1 (o := fun u => soff u 4) (n := 1) (t := 21) rfl (off42_1 c) chk_soff_4_3_D fun v3330 => ?_
  refine step_storeP 1 (o := fun u => soff u 4) (n := 1) (l := 4) (t := 21) (T' := ![23, 22, 20]) rfl (by decide) (off42_1 c) chk_soff_4_3_P (acc_val 1 e3325 e3327 (shapeCast_self _ _)) ?_
  refine step_sendRS 1 4 (n := 1) (T' := ![23, 23, 20]) rfl (dev20 c) rfl (by decide) (off44_1 c) rfl rfl rfl rfl ?_
  refine step_recvRS 2 3 (T' := ![23, 23, 21]) (by decide) rfl (by decide) rfl rfl ?_
  refine step_loadP 2 (o := fun u => soff u 4) (n := 1) (l := 3) (t := 21) rfl (off42_2 c) chk_soff_4_3_L fun v3353 e3353 => ?_
  exact ret_step (h _ _ _ e3353)

theorem pt100 {Q : (Σ' (v3383 : BitVec 32), Vec F S64x640 .bf16) → sProp 𝕄} {v93 v102 v193 v202 v257 v300 v3348 v3351 : BitVec 32} {v3353 : Vec F S64x640 .bf16}
    (e3353 : (∀ y : S64x640.Idx, v3353 y = S xa xb 2 3 c (64 * soff (uu 2 c) 4 + (y 0).val) (y 1).val))
    (h : ∀ (r0 : BitVec 32) (r1 : Vec F S64x640 .bf16), (∀ y : S64x640.Idx, r1 y = S xa xb 1 3 c (64 * nb (uu 1 c) 4 + (y 0).val) (y 1).val) → (St xa xb K c ![24, 23, 23] ⊢ Q ⟨r0, r1⟩)) :
    St xa xb K c ![23, 23, 21] ⊢ wpc c (k0_part100 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v93 v102 v193 v202 v257 v300 v3348 v3351 v3353) Q := by
  rw [k0_part100_eq_skeleton]; unfold k0_part100_skel
  refine step_loadR 2 (o := fun u => soff u 4) (oR := fun u => rof 3 + (soff u 4 - nb u 3)) (n := 1) 3 (t := 21) rfl (off43_2 c) chk_soff_4_3_R fun v3355 e3355 => ?_
  refine step_deadP 2 (o := fun u => soff u 4) (n := 1) (t := 21) rfl (off42_2 c) chk_soff_4_3_D fun v3358 => ?_
  refine step_storeP 2 (o := fun u => soff u 4) (n := 1) (l := 4) (t := 21) (T' := ![23, 23, 22]) rfl (by decide) (off42_2 c) chk_soff_4_3_P (acc_val 2 e3353 e3355 (shapeCast_self _ _)) ?_
  refine step_sendRS 2 4 (n := 1) (T' := ![23, 23, 23]) rfl (dev21 c) rfl (by decide) (off44_2 c) rfl rfl rfl rfl ?_
  refine step_loadP 0 (o := fun u => nb u 4) (n := 1) (l := 3) (t := 23) rfl (off45_0 c) chk_nb_4_3_L fun v3375 e3375 => ?_
  refine step_loadR 0 (o := fun u => nb u 4) (oR := fun u => rof 3 + (nb u 4 - nb u 3)) (n := 1) 3 (t := 23) rfl (off46_0 c) chk_nb_4_3_R fun v3377 e3377 => ?_
  refine step_deadP 0 (o := fun u => nb u 4) (n := 1) (t := 23) rfl (off45_0 c) chk_nb_4_3_D fun v3380 => ?_
  refine step_storeP 0 (o := fun u => nb u 4) (n := 1) (l := 4) (t := 23) (T' := ![24, 23, 23]) rfl (by decide) (off45_0 c) chk_nb_4_3_P (acc_val 0 e3375 e3377 (shapeCast_self _ _)) ?_
  refine step_loadP 1 (o := fun u => nb u 4) (n := 1) (l := 3) (t := 23) rfl (off47_1 c) chk_nb_4_3_L fun v3388 e3388 => ?_
  exact ret_step (h _ _ e3388)

theorem pt101 {Q : PUnit → sProp 𝕄} {v293 v302 v3383 : BitVec 32} {v3388 : Vec F S64x640 .bf16}
    (e3388 : (∀ y : S64x640.Idx, v3388 y = S xa xb 1 3 c (64 * nb (uu 1 c) 4 + (y 0).val) (y 1).val))
    (h : St xa xb K c ![25, 25, 24] ⊢ Q ⟨⟩) :
    St xa xb K c ![24, 23, 23] ⊢ wpc c (k0_part101 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v293 v302 v3383 v3388) Q := by
  rw [k0_part101_eq_skeleton]; unfold k0_part101_skel
  refine step_loadR 1 (o := fun u => nb u 4) (oR := fun u => rof 3 + (nb u 4 - nb u 3)) (n := 1) 3 (t := 23) rfl (off48_1 c) chk_nb_4_3_R fun v3390 e3390 => ?_
  refine step_deadP 1 (o := fun u => nb u 4) (n := 1) (t := 23) rfl (off47_1 c) chk_nb_4_3_D fun v3393 => ?_
  refine step_storeP 1 (o := fun u => nb u 4) (n := 1) (l := 4) (t := 23) (T' := ![24, 24, 23]) rfl (by decide) (off47_1 c) chk_nb_4_3_P (acc_val 1 e3388 e3390 (shapeCast_self _ _)) ?_
  refine step_loadP 2 (o := fun u => nb u 4) (n := 1) (l := 3) (t := 23) rfl (off47_2 c) chk_nb_4_3_L fun v3401 e3401 => ?_
  refine step_loadR 2 (o := fun u => nb u 4) (oR := fun u => rof 3 + (nb u 4 - nb u 3)) (n := 1) 3 (t := 23) rfl (off48_2 c) chk_nb_4_3_R fun v3403 e3403 => ?_
  refine step_deadP 2 (o := fun u => nb u 4) (n := 1) (t := 23) rfl (off47_2 c) chk_nb_4_3_D fun v3406 => ?_
  refine step_storeP 2 (o := fun u => nb u 4) (n := 1) (l := 4) (t := 23) (T' := ![24, 24, 24]) rfl (by decide) (off47_2 c) chk_nb_4_3_P (acc_val 2 e3401 e3403 (shapeCast_self _ _)) ?_
  refine step_sentRS 0 3 (T' := ![25, 24, 24]) rfl (by decide) rfl rfl ?_
  refine step_sentRS 1 3 (T' := ![25, 25, 24]) rfl (by decide) rfl rfl ?_
  exact ret_step h

theorem pt102 {Q : (Σ' (v3452 : BitVec 32), BitVec 32) → sProp 𝕄} {v52 v57 v102 : BitVec 32}
    (h : ∀ (r0 r1 : BitVec 32), (St xa xb K c ![28, 25, 25] ⊢ Q ⟨r0, r1⟩)) :
    St xa xb K c ![25, 25, 24] ⊢ wpc c (k0_part102 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v57 v102) Q := by
  rw [k0_part102_eq_skeleton]; unfold k0_part102_skel
  refine step_sentRS 2 3 (T' := ![25, 25, 25]) rfl (by decide) rfl rfl ?_
  refine step_recvRS 0 4 (T' := ![26, 25, 25]) (by decide) rfl (by decide) rfl rfl ?_
  refine step_loadP 0 (o := fun u => nb u 4) (n := 1) (l := 4) (t := 26) rfl (off45_0 c) chk_nb_4_4_L fun v3432 e3432 => ?_
  refine step_loadR 0 (o := fun u => nb u 4) (oR := fun u => rof 4 + (nb u 4 - nb u 4)) (n := 1) 4 (t := 26) rfl (off49_0 c) chk_nb_4_4_R fun v3434 e3434 => ?_
  refine step_deadP 0 (o := fun u => nb u 4) (n := 1) (t := 26) rfl (off45_0 c) chk_nb_4_4_D fun v3437 => ?_
  refine step_storeP 0 (o := fun u => nb u 4) (n := 1) (l := 5) (t := 26) (T' := ![27, 25, 25]) rfl (by decide) (off45_0 c) chk_nb_4_4_P (acc_val 0 e3432 e3434 (shapeCast_self _ _)) ?_
  refine step_loadP 0 (o := fun u => u) (n := 1) (l := 5) (t := 27) rfl (off50_0 c) chk_relu_L fun v3442 e3442 => ?_
  refine step_deadG 0 (o := fun u => u) (t := 27) rfl (off50_0 c) chk_relu_G fun v3446 => ?_
  refine step_storeG 0 (T' := ![28, 25, 25]) rfl (by decide) (off50_0 c) (relu_val 0 e3442 (shapeCast_self _ _)) ?_
  exact ret_step (h _ _)

theorem pt103 {Q : (BitVec 32) → sProp 𝕄} {v152 v157 v202 v3452 c0_i32_2547 : BitVec 32}
    (h : ∀ (r0 : BitVec 32), (St xa xb K c ![29, 28, 25] ⊢ Q r0)) :
    St xa xb K c ![28, 25, 25] ⊢ wpc c (k0_part103 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v157 v202 v3452 c0_i32_2547) Q := by
  rw [k0_part103_eq_skeleton]; unfold k0_part103_skel
  refine step_sendAG 0 0 (n := 1) (T' := ![29, 25, 25]) rfl (dev22 c) rfl (by decide) (off51_0 c) (off51_0 c) rfl rfl rfl ?_
  refine step_recvRS 1 4 (T' := ![29, 26, 25]) (by decide) rfl (by decide) rfl rfl ?_
  refine step_loadP 1 (o := fun u => nb u 4) (n := 1) (l := 4) (t := 26) rfl (off47_1 c) chk_nb_4_4_L fun v3471 e3471 => ?_
  refine step_loadR 1 (o := fun u => nb u 4) (oR := fun u => rof 4 + (nb u 4 - nb u 4)) (n := 1) 4 (t := 26) rfl (off52_1 c) chk_nb_4_4_R fun v3473 e3473 => ?_
  refine step_deadP 1 (o := fun u => nb u 4) (n := 1) (t := 26) rfl (off47_1 c) chk_nb_4_4_D fun v3476 => ?_
  refine step_storeP 1 (o := fun u => nb u 4) (n := 1) (l := 5) (t := 26) (T' := ![29, 27, 25]) rfl (by decide) (off47_1 c) chk_nb_4_4_P (acc_val 1 e3471 e3473 (shapeCast_self _ _)) ?_
  refine step_loadP 1 (o := fun u => u) (n := 1) (l := 5) (t := 27) rfl (off53_1 c) chk_relu_L fun v3481 e3481 => ?_
  refine step_deadG 1 (o := fun u => u) (t := 27) rfl (off53_1 c) chk_relu_G fun v3485 => ?_
  refine step_storeG 1 (T' := ![29, 28, 25]) rfl (by decide) (off53_1 c) (relu_val 1 e3481 (shapeCast_self _ _)) ?_
  exact ret_step (h _)

theorem pt104 {Q : (Σ' (v3518 : BitVec 32) (v3520 : Vec F S64x640 .bf16), FVec F S64x640 .bf16) → sProp 𝕄} {v157 v252 v257 v302 v3488 : BitVec 32}
    (h : ∀ (r0 : BitVec 32) (r1 : Vec F S64x640 .bf16) (r2 : FVec F S64x640 .bf16), (∀ y : S64x640.Idx, r1 y = S xa xb 2 5 c (64 * uu 2 c + (y 0).val) (y 1).val) → r2 = broadcast S64x640 (Scalar.ofBits .bf16 0x0000#16) → (St xa xb K c ![29, 29, 27] ⊢ Q ⟨r0, r1, r2⟩)) :
    St xa xb K c ![29, 28, 25] ⊢ wpc c (k0_part104 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v157 v252 v257 v302 v3488) Q := by
  rw [k0_part104_eq_skeleton]; unfold k0_part104_skel
  refine step_sendAG 1 0 (n := 1) (T' := ![29, 29, 25]) rfl (dev23 c) rfl (by decide) (off54_1 c) (off54_1 c) rfl rfl rfl ?_
  refine step_recvRS 2 4 (T' := ![29, 29, 26]) (by decide) rfl (by decide) rfl rfl ?_
  refine step_loadP 2 (o := fun u => nb u 4) (n := 1) (l := 4) (t := 26) rfl (off47_2 c) chk_nb_4_4_L fun v3510 e3510 => ?_
  refine step_loadR 2 (o := fun u => nb u 4) (oR := fun u => rof 4 + (nb u 4 - nb u 4)) (n := 1) 4 (t := 26) rfl (off52_2 c) chk_nb_4_4_R fun v3512 e3512 => ?_
  refine step_deadP 2 (o := fun u => nb u 4) (n := 1) (t := 26) rfl (off47_2 c) chk_nb_4_4_D fun v3515 => ?_
  refine step_storeP 2 (o := fun u => nb u 4) (n := 1) (l := 5) (t := 26) (T' := ![29, 29, 27]) rfl (by decide) (off47_2 c) chk_nb_4_4_P (acc_val 2 e3510 e3512 (shapeCast_self _ _)) ?_
  refine step_loadP 2 (o := fun u => u) (n := 1) (l := 5) (t := 27) rfl (off53_2 c) chk_relu_L fun v3520 e3520 => ?_
  exact ret_step (h _ _ _ e3520 rfl)

theorem pt105 {Q : PUnit → sProp 𝕄} {v252 v257 v3518 : BitVec 32} {v3520 : Vec F S64x640 .bf16} {v3521 : FVec F S64x640 .bf16}
    (e3520 : (∀ y : S64x640.Idx, v3520 y = S xa xb 2 5 c (64 * uu 2 c + (y 0).val) (y 1).val)) (e3521 : v3521 = broadcast S64x640 (Scalar.ofBits .bf16 0x0000#16))
    (h : St xa xb K c ![30, 30, 29] ⊢ Q ⟨⟩) :
    St xa xb K c ![29, 29, 27] ⊢ wpc c (k0_part105 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v257 v3518 v3520 v3521) Q := by
  rw [k0_part105_eq_skeleton]; unfold k0_part105_skel
  refine step_deadG 2 (o := fun u => u) (t := 27) rfl (off53_2 c) chk_relu_G fun v3524 => ?_
  refine step_storeG 2 (T' := ![29, 29, 28]) rfl (by decide) (off53_2 c) (relu_val 2 e3520 ((shapeCast_self _ _).trans (congrArg (maximumf (φ := .bf16) v3520) e3521))) ?_
  refine step_sendAG 2 0 (n := 1) (T' := ![29, 29, 29]) rfl (dev24 c) rfl (by decide) (off54_2 c) (off54_2 c) rfl rfl rfl ?_
  refine step_sentRS 0 4 (T' := ![30, 29, 29]) rfl (by decide) rfl rfl ?_
  refine step_sentRS 1 4 (T' := ![30, 30, 29]) rfl (by decide) rfl rfl ?_
  exact ret_step h

theorem pt106 {Q : (Σ' (v3577 : BitVec 32) (v3580 : Vec F S64x640 .bf16) (v3581 : BitVec 32), BitVec 32) → sProp 𝕄} {v52 v152 : BitVec 32}
    (h : ∀ (r0 : BitVec 32) (r1 : Vec F S64x640 .bf16) (r2 r3 : BitVec 32), (∀ y : S64x640.Idx, r1 y = G xa xb 1 (64 * scat (uu 1 c) 0 + (y 0).val) (y 1).val) → (St xa xb K c ![31, 30, 30] ⊢ Q ⟨r0, r1, r2, r3⟩)) :
    St xa xb K c ![30, 30, 29] ⊢ wpc c (k0_part106 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v152) Q := by
  rw [k0_part106_eq_skeleton]; unfold k0_part106_skel
  refine step_sentRS 2 4 (T' := ![30, 30, 30]) rfl (by decide) rfl rfl ?_
  refine step_loadG 0 (o := fun u => scat u 0) (t := 30) rfl (off55_0 c) (by decide +kernel) fun v3553 e3553 => ?_
  refine step_deadO 0 (o := rb 0 (scat (uu 0 c) 0)) (off56_0 c) fun v3576 => ?_
  refine step_storeO 0 0 (t := 30) (T' := ![31, 30, 30]) rfl (by decide) (by decide) (off56_0 c) e3553 ?_
  refine step_loadG 1 (o := fun u => scat u 0) (t := 30) rfl (off57_1 c) (by decide +kernel) fun v3580 e3580 => ?_
  exact ret_step (h _ _ _ _ e3580)

theorem pt107 {Q : (Σ' (v3604 : BitVec 32) (v3607 : Vec F S64x640 .bf16) (v3611 : BitVec 32), BitVec 32) → sProp 𝕄} {v252 v3577 : BitVec 32} {v3580 : Vec F S64x640 .bf16} {v3581 c1_i32_2643 : BitVec 32}
    (e3580 : (∀ y : S64x640.Idx, v3580 y = G xa xb 1 (64 * scat (uu 1 c) 0 + (y 0).val) (y 1).val))
    (h : ∀ (r0 : BitVec 32) (r1 : Vec F S64x640 .bf16) (r2 r3 : BitVec 32), (∀ y : S64x640.Idx, r1 y = G xa xb 2 (64 * scat (uu 2 c) 0 + (y 0).val) (y 1).val) → (St xa xb K c ![31, 31, 30] ⊢ Q ⟨r0, r1, r2, r3⟩)) :
    St xa xb K c ![31, 30, 30] ⊢ wpc c (k0_part107 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v3577 v3580 v3581 c1_i32_2643) Q := by
  rw [k0_part107_eq_skeleton]; unfold k0_part107_skel
  refine step_deadO 1 (o := rb 1 (scat (uu 1 c) 0)) (off58_1 c) fun v3603 => ?_
  refine step_storeO 1 0 (t := 30) (T' := ![31, 31, 30]) rfl (by decide) (by decide) (off58_1 c) e3580 ?_
  refine step_loadG 2 (o := fun u => scat u 0) (t := 30) rfl (off57_2 c) (by decide +kernel) fun v3607 e3607 => ?_
  exact ret_step (h _ _ _ _ e3607)

theorem pt108 {Q : PUnit → sProp 𝕄} {v52 v56 v57 v3604 : BitVec 32} {v3607 : Vec F S64x640 .bf16} {v3611 v3614 : BitVec 32}
    (e3607 : (∀ y : S64x640.Idx, v3607 y = G xa xb 2 (64 * scat (uu 2 c) 0 + (y 0).val) (y 1).val))
    (h : St xa xb K c ![32, 31, 31] ⊢ Q ⟨⟩) :
    St xa xb K c ![31, 31, 30] ⊢ wpc c (k0_part108 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v56 v57 v3604 v3607 v3611 v3614) Q := by
  rw [k0_part108_eq_skeleton]; unfold k0_part108_skel
  refine step_deadO 2 (o := rb 2 (scat (uu 2 c) 0)) (off59_2 c) fun v3630 => ?_
  refine step_storeO 2 0 (t := 30) (T' := ![31, 31, 31]) rfl (by decide) (by decide) (off59_2 c) e3607 ?_
  refine step_recvAG 0 0 (T' := ![32, 31, 31]) (by decide) rfl (by decide) rfl rfl ?_
  exact ret_step h

theorem pt109 {Q : (Σ' (v3674 : BitVec 32), BitVec 32) → sProp 𝕄} {v152 v156 v157 v252 v256 v257 : BitVec 32}
    (h : ∀ (r0 r1 : BitVec 32), (St xa xb K c ![33, 33, 32] ⊢ Q ⟨r0, r1⟩)) :
    St xa xb K c ![32, 31, 31] ⊢ wpc c (k0_part109 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v156 v157 v252 v256 v257) Q := by
  rw [k0_part109_eq_skeleton]; unfold k0_part109_skel
  refine step_sendAG 0 1 (n := 2) (T' := ![33, 31, 31]) rfl (dev25 c) rfl (by decide) (off60_0 c) (off60_0 c) rfl rfl rfl ?_
  refine step_recvAG 1 0 (T' := ![33, 32, 31]) (by decide) rfl (by decide) rfl rfl ?_
  refine step_sendAG 1 1 (n := 2) (T' := ![33, 33, 31]) rfl (dev26 c) rfl (by decide) (off61_1 c) (off61_1 c) rfl rfl rfl ?_
  refine step_recvAG 2 0 (T' := ![33, 33, 32]) (by decide) rfl (by decide) rfl rfl ?_
  exact ret_step (h _ _)

theorem pt110 {Q : (Σ' (v3697 : BitVec 32) (v3700 : Vec F S64x768 .bf16) (v3703 : BitVec 32), BitVec 32) → sProp 𝕄} {v52 v3674 c0_i32_2722 : BitVec 32}
    (h : ∀ (r0 : BitVec 32) (r1 : Vec F S64x768 .bf16) (r2 r3 : BitVec 32), (∀ y : S64x768.Idx, r1 y = G xa xb 0 (64 * scat (uu 0 c) 1 + (y 0).val) (y 1).val) → (St xa xb K c ![34, 34, 34] ⊢ Q ⟨r0, r1, r2, r3⟩)) :
    St xa xb K c ![33, 33, 32] ⊢ wpc c (k0_part110 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v3674 c0_i32_2722) Q := by
  rw [k0_part110_eq_skeleton]; unfold k0_part110_skel
  refine step_sendAG 2 1 (n := 2) (T' := ![33, 33, 33]) rfl (dev27 c) rfl (by decide) (off61_2 c) (off61_2 c) rfl rfl rfl ?_
  refine step_sentAG 0 0 (T' := ![34, 33, 33]) rfl (by decide) rfl rfl ?_
  refine step_sentAG 1 0 (T' := ![34, 34, 33]) rfl (by decide) rfl rfl ?_
  refine step_sentAG 2 0 (T' := ![34, 34, 34]) rfl (by decide) rfl rfl ?_
  refine step_loadG 0 (o := fun u => scat u 1) (t := 34) rfl (off62_0 0 c) (by decide +kernel) fun v3700 e3700 => ?_
  exact ret_step (h _ _ _ _ e3700)

theorem pt111 {Q : (Σ' (v3727 : BitVec 32) (v3730 : Vec F S64x640 .bf16) (v3734 : BitVec 32), BitVec 32) → sProp 𝕄} {v152 v3697 : BitVec 32} {v3700 : Vec F S64x768 .bf16} {v3703 c0_i32_2749 : BitVec 32}
    (e3700 : (∀ y : S64x768.Idx, v3700 y = G xa xb 0 (64 * scat (uu 0 c) 1 + (y 0).val) (y 1).val))
    (h : ∀ (r0 : BitVec 32) (r1 : Vec F S64x640 .bf16) (r2 r3 : BitVec 32), (∀ y : S64x640.Idx, r1 y = G xa xb 1 (64 * scat (uu 1 c) 1 + (y 0).val) (y 1).val) → (St xa xb K c ![35, 34, 34] ⊢ Q ⟨r0, r1, r2, r3⟩)) :
    St xa xb K c ![34, 34, 34] ⊢ wpc c (k0_part111 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v3697 v3700 v3703 c0_i32_2749) Q := by
  rw [k0_part111_eq_skeleton]; unfold k0_part111_skel
  refine step_deadO 0 (o := rb 0 (scat (uu 0 c) 1)) (off63_0 0 c) fun v3723 => ?_
  refine step_storeO 0 1 (t := 34) (T' := ![35, 34, 34]) rfl (by decide) (by decide) (off63_0 0 c) e3700 ?_
  refine step_loadG 1 (o := fun u => scat u 1) (t := 34) rfl (off64_1 0 c) (by decide +kernel) fun v3730 e3730 => ?_
  exact ret_step (h _ _ _ _ e3730)

theorem pt112 {Q : (Σ' (v3757 : BitVec 32) (v3760 : Vec F S64x640 .bf16) (v3768 : BitVec 32), BitVec 32) → sProp 𝕄} {v252 v3727 : BitVec 32} {v3730 : Vec F S64x640 .bf16} {v3734 v3736 : BitVec 32}
    (e3730 : (∀ y : S64x640.Idx, v3730 y = G xa xb 1 (64 * scat (uu 1 c) 1 + (y 0).val) (y 1).val))
    (h : ∀ (r0 : BitVec 32) (r1 : Vec F S64x640 .bf16) (r2 r3 : BitVec 32), (∀ y : S64x640.Idx, r1 y = G xa xb 2 (64 * scat (uu 2 c) 1 + (y 0).val) (y 1).val) → (St xa xb K c ![35, 35, 34] ⊢ Q ⟨r0, r1, r2, r3⟩)) :
    St xa xb K c ![35, 34, 34] ⊢ wpc c (k0_part112 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v3727 v3730 v3734 v3736) Q := by
  rw [k0_part112_eq_skeleton]; unfold k0_part112_skel
  refine step_deadO 1 (o := rb 1 (scat (uu 1 c) 1)) (off65_1 0 c) fun v3753 => ?_
  refine step_storeO 1 1 (t := 34) (T' := ![35, 35, 34]) rfl (by decide) (by decide) (off65_1 0 c) e3730 ?_
  refine step_loadG 2 (o := fun u => scat u 1) (t := 34) rfl (off64_2 0 c) (by decide +kernel) fun v3760 e3760 => ?_
  exact ret_step (h _ _ _ _ e3760)

theorem pt113 {Q : PUnit → sProp 𝕄} {v52 v55 v56 v3757 : BitVec 32} {v3760 : Vec F S64x640 .bf16} {v3768 v3769 : BitVec 32}
    (e3760 : (∀ y : S64x640.Idx, v3760 y = G xa xb 2 (64 * scat (uu 2 c) 1 + (y 0).val) (y 1).val))
    (h : St xa xb K c ![37, 35, 35] ⊢ Q ⟨⟩) :
    St xa xb K c ![35, 35, 34] ⊢ wpc c (k0_part113 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v55 v56 v3757 v3760 v3768 v3769) Q := by
  rw [k0_part113_eq_skeleton]; unfold k0_part113_skel
  refine step_deadO 2 (o := rb 2 (scat (uu 2 c) 1)) (off66_2 0 c) fun v3783 => ?_
  refine step_storeO 2 1 (t := 34) (T' := ![35, 35, 35]) rfl (by decide) (by decide) (off66_2 0 c) e3760 ?_
  refine step_recvAG 0 1 (T' := ![36, 35, 35]) (by decide) rfl (by decide) rfl rfl ?_
  refine step_sendAG 0 2 (n := 4) (T' := ![37, 35, 35]) rfl (dev28 c) rfl (by decide) (off67_0 c) (off67_0 c) rfl rfl rfl ?_
  exact ret_step h

theorem pt114 {Q : PUnit → sProp 𝕄} {v152 v155 v156 v252 v255 v256 : BitVec 32}
    (h : St xa xb K c ![37, 37, 36] ⊢ Q ⟨⟩) :
    St xa xb K c ![37, 35, 35] ⊢ wpc c (k0_part114 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v155 v156 v252 v255 v256) Q := by
  rw [k0_part114_eq_skeleton]; unfold k0_part114_skel
  refine step_recvAG 1 1 (T' := ![37, 36, 35]) (by decide) rfl (by decide) rfl rfl ?_
  refine step_sendAG 1 2 (n := 4) (T' := ![37, 37, 35]) rfl (dev29 c) rfl (by decide) (off68_1 c) (off68_1 c) rfl rfl rfl ?_
  refine step_recvAG 2 1 (T' := ![37, 37, 36]) (by decide) rfl (by decide) rfl rfl ?_
  exact ret_step h

theorem pt115 {Q : (Σ' (v3849 : BitVec 32) (v3850 : BitVec 32) (v3853 : Vec F S64x768 .bf16) (v3857 : BitVec 32), BitVec 32) → sProp 𝕄} {v52 : BitVec 32}
    (h : ∀ (r0 r1 : BitVec 32) (r2 : Vec F S64x768 .bf16) (r3 r4 : BitVec 32), (∀ y : S64x768.Idx, r2 y = G xa xb 0 (64 * scat (uu 0 c) 2 + (y 0).val) (y 1).val) → (St xa xb K c ![38, 38, 38] ⊢ Q ⟨r0, r1, r2, r3, r4⟩)) :
    St xa xb K c ![37, 37, 36] ⊢ wpc c (k0_part115 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52) Q := by
  rw [k0_part115_eq_skeleton]; unfold k0_part115_skel
  refine step_sendAG 2 2 (n := 4) (T' := ![37, 37, 37]) rfl (dev30 c) rfl (by decide) (off68_2 c) (off68_2 c) rfl rfl rfl ?_
  refine step_sentAG 0 1 (T' := ![38, 37, 37]) rfl (by decide) rfl rfl ?_
  refine step_sentAG 1 1 (T' := ![38, 38, 37]) rfl (by decide) rfl rfl ?_
  refine step_sentAG 2 1 (T' := ![38, 38, 38]) rfl (by decide) rfl rfl ?_
  refine step_loadG 0 (o := fun u => scat u 2) (t := 38) rfl (off62_0 1 c) (by decide +kernel) fun v3853 e3853 => ?_
  exact ret_step (h _ _ _ _ _ e3853)

theorem pt116 {Q : (Σ' (v3877 : BitVec 32) (v3880 : Vec F S64x768 .bf16) (v3888 : BitVec 32), BitVec 32) → sProp 𝕄} {v3849 v3850 : BitVec 32} {v3853 : Vec F S64x768 .bf16} {v3857 v3858 : BitVec 32}
    (e3853 : (∀ y : S64x768.Idx, v3853 y = G xa xb 0 (64 * scat (uu 0 c) 2 + (y 0).val) (y 1).val))
    (h : ∀ (r0 : BitVec 32) (r1 : Vec F S64x768 .bf16) (r2 r3 : BitVec 32), (∀ y : S64x768.Idx, r1 y = G xa xb 0 (64 * scat (uu 0 c) 3 + (y 0).val) (y 1).val) → (St xa xb K c ![39, 38, 38] ⊢ Q ⟨r0, r1, r2, r3⟩)) :
    St xa xb K c ![38, 38, 38] ⊢ wpc c (k0_part116 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v3849 v3850 v3853 v3857 v3858) Q := by
  rw [k0_part116_eq_skeleton]; unfold k0_part116_skel
  refine step_deadO 0 (o := rb 0 (scat (uu 0 c) 2)) (off63_0 1 c) fun v3876 => ?_
  refine step_storeO 0 2 (t := 38) (T' := ![39, 38, 38]) rfl (by decide) (by decide) (off63_0 1 c) e3853 ?_
  refine step_loadG 0 (o := fun u => scat u 3) (t := 39) rfl (off62_0 2 c) (by decide +kernel) fun v3880 e3880 => ?_
  exact ret_step (h _ _ _ _ e3880)

theorem pt117 {Q : (Σ' (v3906 : BitVec 32) (v3907 : BitVec 32) (v3910 : Vec F S64x640 .bf16) (v3922 : BitVec 32), BitVec 32) → sProp 𝕄} {v152 v3877 : BitVec 32} {v3880 : Vec F S64x768 .bf16} {v3888 v3891 : BitVec 32}
    (e3880 : (∀ y : S64x768.Idx, v3880 y = G xa xb 0 (64 * scat (uu 0 c) 3 + (y 0).val) (y 1).val))
    (h : ∀ (r0 r1 : BitVec 32) (r2 : Vec F S64x640 .bf16) (r3 r4 : BitVec 32), (∀ y : S64x640.Idx, r2 y = G xa xb 1 (64 * scat (uu 1 c) 2 + (y 0).val) (y 1).val) → (St xa xb K c ![40, 38, 38] ⊢ Q ⟨r0, r1, r2, r3, r4⟩)) :
    St xa xb K c ![39, 38, 38] ⊢ wpc c (k0_part117 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v3877 v3880 v3888 v3891) Q := by
  rw [k0_part117_eq_skeleton]; unfold k0_part117_skel
  refine step_deadO 0 (o := rb 0 (scat (uu 0 c) 3)) (off63_0 2 c) fun v3903 => ?_
  refine step_storeO 0 3 (t := 39) (T' := ![40, 38, 38]) rfl (by decide) (by decide) (off63_0 2 c) e3880 ?_
  refine step_loadG 1 (o := fun u => scat u 2) (t := 38) rfl (off64_1 1 c) (by decide +kernel) fun v3910 e3910 => ?_
  exact ret_step (h _ _ _ _ _ e3910)

theorem pt118 {Q : (Σ' (v3937 : Vec F S64x640 .bf16) (v3957 : BitVec 32), BitVec 32) → sProp 𝕄} {v3906 v3907 : BitVec 32} {v3910 : Vec F S64x640 .bf16} {v3922 v3924 : BitVec 32}
    (e3910 : (∀ y : S64x640.Idx, v3910 y = G xa xb 1 (64 * scat (uu 1 c) 2 + (y 0).val) (y 1).val))
    (h : ∀ (r0 : Vec F S64x640 .bf16) (r1 r2 : BitVec 32), (∀ y : S64x640.Idx, r0 y = G xa xb 1 (64 * scat (uu 1 c) 3 + (y 0).val) (y 1).val) → (St xa xb K c ![40, 39, 38] ⊢ Q ⟨r0, r1, r2⟩)) :
    St xa xb K c ![40, 38, 38] ⊢ wpc c (k0_part118 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v3906 v3907 v3910 v3922 v3924) Q := by
  rw [k0_part118_eq_skeleton]; unfold k0_part118_skel
  refine step_deadO 1 (o := rb 1 (scat (uu 1 c) 2)) (off65_1 1 c) fun v3933 => ?_
  refine step_storeO 1 2 (t := 38) (T' := ![40, 39, 38]) rfl (by decide) (by decide) (off65_1 1 c) e3910 ?_
  refine step_loadG 1 (o := fun u => scat u 3) (t := 39) rfl (off64_1 2 c) (by decide +kernel) fun v3937 e3937 => ?_
  exact ret_step (h _ _ _ e3937)

theorem pt119 {Q : (BitVec 32) → sProp 𝕄} {v252 : BitVec 32} {v3937 : Vec F S64x640 .bf16} {v3957 c64_i32_2958 : BitVec 32}
    (e3937 : (∀ y : S64x640.Idx, v3937 y = G xa xb 1 (64 * scat (uu 1 c) 3 + (y 0).val) (y 1).val))
    (h : ∀ (r0 : BitVec 32), (St xa xb K c ![40, 40, 39] ⊢ Q r0)) :
    St xa xb K c ![40, 39, 38] ⊢ wpc c (k0_part119 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v3937 v3957 c64_i32_2958) Q := by
  rw [k0_part119_eq_skeleton]; unfold k0_part119_skel
  refine step_deadO 1 (o := rb 1 (scat (uu 1 c) 3)) (off65_1 2 c) fun v3960 => ?_
  refine step_storeO 1 3 (t := 39) (T' := ![40, 40, 38]) rfl (by decide) (by decide) (off65_1 2 c) e3937 ?_
  refine step_loadG 2 (o := fun u => scat u 2) (t := 38) rfl (off64_2 1 c) (by decide +kernel) fun v3967 e3967 => ?_
  refine step_deadO 2 (o := rb 2 (scat (uu 2 c) 2)) (off66_2 1 c) fun v3990 => ?_
  refine step_storeO 2 2 (t := 38) (T' := ![40, 40, 39]) rfl (by decide) (by decide) (off66_2 1 c) e3967 ?_
  exact ret_step (h _)

theorem pt120 {Q : PUnit → sProp 𝕄} {v55 v3963 : BitVec 32}
    (h : St xa xb K c ![40, 40, 40] ⊢ Q ⟨⟩) :
    St xa xb K c ![40, 40, 39] ⊢ wpc c (k0_part120 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v55 v3963) Q := by
  rw [k0_part120_eq_skeleton]; unfold k0_part120_skel
  refine step_loadG 2 (o := fun u => scat u 3) (t := 39) rfl (off64_2 2 c) (by decide +kernel) fun v3994 e3994 => ?_
  refine step_deadO 2 (o := rb 2 (scat (uu 2 c) 3)) (off66_2 2 c) fun v4017 => ?_
  refine step_storeO 2 3 (t := 39) (T' := ![40, 40, 40]) rfl (by decide) (by decide) (off66_2 2 c) e3994 ?_
  exact ret_step h

theorem pt121 {Q : (BitVec 32) → sProp 𝕄} {v52 v54 v152 v154 v155 : BitVec 32}
    (h : ∀ (r0 : BitVec 32), (St xa xb K c ![42, 42, 40] ⊢ Q r0)) :
    St xa xb K c ![40, 40, 40] ⊢ wpc c (k0_part121 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v54 v152 v154 v155) Q := by
  rw [k0_part121_eq_skeleton]; unfold k0_part121_skel
  refine step_recvAG 0 2 (T' := ![41, 40, 40]) (by decide) rfl (by decide) rfl rfl ?_
  refine step_sendAG 0 3 (n := 8) (T' := ![42, 40, 40]) rfl (dev31 c) rfl (by decide) (off69_0 c) (off69_0 c) rfl rfl rfl ?_
  refine step_recvAG 1 2 (T' := ![42, 41, 40]) (by decide) rfl (by decide) rfl rfl ?_
  refine step_sendAG 1 3 (n := 8) (T' := ![42, 42, 40]) rfl (dev32 c) rfl (by decide) (off70_1 c) (off70_1 c) rfl rfl rfl ?_
  exact ret_step (h _)

theorem pt122 {Q : PUnit → sProp 𝕄} {v252 v254 v255 c1_i32_3036 : BitVec 32}
    (h : St xa xb K c ![43, 43, 42] ⊢ Q ⟨⟩) :
    St xa xb K c ![42, 42, 40] ⊢ wpc c (k0_part122 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v254 v255 c1_i32_3036) Q := by
  rw [k0_part122_eq_skeleton]; unfold k0_part122_skel
  refine step_recvAG 2 2 (T' := ![42, 42, 41]) (by decide) rfl (by decide) rfl rfl ?_
  refine step_sendAG 2 3 (n := 8) (T' := ![42, 42, 42]) rfl (dev33 c) rfl (by decide) (off70_2 c) (off70_2 c) rfl rfl rfl ?_
  refine step_sentAG 0 2 (T' := ![43, 42, 42]) rfl (by decide) rfl rfl ?_
  refine step_sentAG 1 2 (T' := ![43, 43, 42]) rfl (by decide) rfl rfl ?_
  exact ret_step h

theorem pt123 {Q : (Σ' (v4083 : BitVec 32) (v4111 : BitVec 32), BitVec 32) → sProp 𝕄} {v52 : BitVec 32}
    (h : ∀ (r0 r1 r2 : BitVec 32), (St xa xb K c ![44, 43, 43] ⊢ Q ⟨r0, r1, r2⟩)) :
    St xa xb K c ![43, 43, 42] ⊢ wpc c (k0_part123 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52) Q := by
  rw [k0_part123_eq_skeleton]; unfold k0_part123_skel
  refine step_sentAG 2 2 (T' := ![43, 43, 43]) rfl (by decide) rfl rfl ?_
  refine step_loadG 0 (o := fun u => scat u 4) (t := 43) rfl (off62_0 3 c) (by decide +kernel) fun v4087 e4087 => ?_
  refine step_deadO 0 (o := rb 0 (scat (uu 0 c) 4)) (off63_0 3 c) fun v4110 => ?_
  refine step_storeO 0 4 (t := 43) (T' := ![44, 43, 43]) rfl (by decide) (by decide) (off63_0 3 c) e4087 ?_
  exact ret_step (h _ _ _)

theorem pt124 {Q : (Σ' (v4138 : BitVec 32) (v4141 : Vec F S64x768 .bf16), BitVec 32) → sProp 𝕄} {v4083 v4111 v4112 : BitVec 32}
    (h : ∀ (r0 : BitVec 32) (r1 : Vec F S64x768 .bf16) (r2 : BitVec 32), (∀ y : S64x768.Idx, r1 y = G xa xb 0 (64 * scat (uu 0 c) 6 + (y 0).val) (y 1).val) → (St xa xb K c ![45, 43, 43] ⊢ Q ⟨r0, r1, r2⟩)) :
    St xa xb K c ![44, 43, 43] ⊢ wpc c (k0_part124 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4083 v4111 v4112) Q := by
  rw [k0_part124_eq_skeleton]; unfold k0_part124_skel
  refine step_loadG 0 (o := fun u => scat u 5) (t := 44) rfl (off62_0 4 c) (by decide +kernel) fun v4114 e4114 => ?_
  refine step_deadO 0 (o := rb 0 (scat (uu 0 c) 5)) (off63_0 4 c) fun v4137 => ?_
  refine step_storeO 0 5 (t := 44) (T' := ![45, 43, 43]) rfl (by decide) (by decide) (off63_0 4 c) e4114 ?_
  refine step_loadG 0 (o := fun u => scat u 6) (t := 45) rfl (off62_0 5 c) (by decide +kernel) fun v4141 e4141 => ?_
  exact ret_step (h _ _ _ e4141)

theorem pt125 {Q : (Σ' (v4165 : BitVec 32) (v4168 : Vec F S64x768 .bf16) (v4176 : BitVec 32), BitVec 32) → sProp 𝕄} {v4083 v4138 : BitVec 32} {v4141 : Vec F S64x768 .bf16} {v4145 : BitVec 32}
    (e4141 : (∀ y : S64x768.Idx, v4141 y = G xa xb 0 (64 * scat (uu 0 c) 6 + (y 0).val) (y 1).val))
    (h : ∀ (r0 : BitVec 32) (r1 : Vec F S64x768 .bf16) (r2 r3 : BitVec 32), (∀ y : S64x768.Idx, r1 y = G xa xb 0 (64 * scat (uu 0 c) 7 + (y 0).val) (y 1).val) → (St xa xb K c ![46, 43, 43] ⊢ Q ⟨r0, r1, r2, r3⟩)) :
    St xa xb K c ![45, 43, 43] ⊢ wpc c (k0_part125 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4083 v4138 v4141 v4145) Q := by
  rw [k0_part125_eq_skeleton]; unfold k0_part125_skel
  refine step_deadO 0 (o := rb 0 (scat (uu 0 c) 6)) (off63_0 5 c) fun v4164 => ?_
  refine step_storeO 0 6 (t := 45) (T' := ![46, 43, 43]) rfl (by decide) (by decide) (off63_0 5 c) e4141 ?_
  refine step_loadG 0 (o := fun u => scat u 7) (t := 46) rfl (off62_0 6 c) (by decide +kernel) fun v4168 e4168 => ?_
  exact ret_step (h _ _ _ _ e4168)

theorem pt126 {Q : (Σ' (v4194 : BitVec 32) (v4195 : BitVec 32) (v4198 : Vec F S64x640 .bf16) (v4210 : BitVec 32), BitVec 32) → sProp 𝕄} {v152 v4165 : BitVec 32} {v4168 : Vec F S64x768 .bf16} {v4176 v4178 : BitVec 32}
    (e4168 : (∀ y : S64x768.Idx, v4168 y = G xa xb 0 (64 * scat (uu 0 c) 7 + (y 0).val) (y 1).val))
    (h : ∀ (r0 r1 : BitVec 32) (r2 : Vec F S64x640 .bf16) (r3 r4 : BitVec 32), (∀ y : S64x640.Idx, r2 y = G xa xb 1 (64 * scat (uu 1 c) 4 + (y 0).val) (y 1).val) → (St xa xb K c ![47, 43, 43] ⊢ Q ⟨r0, r1, r2, r3, r4⟩)) :
    St xa xb K c ![46, 43, 43] ⊢ wpc c (k0_part126 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v4165 v4168 v4176 v4178) Q := by
  rw [k0_part126_eq_skeleton]; unfold k0_part126_skel
  refine step_deadO 0 (o := rb 0 (scat (uu 0 c) 7)) (off63_0 6 c) fun v4191 => ?_
  refine step_storeO 0 7 (t := 46) (T' := ![47, 43, 43]) rfl (by decide) (by decide) (off63_0 6 c) e4168 ?_
  refine step_loadG 1 (o := fun u => scat u 4) (t := 43) rfl (off64_1 3 c) (by decide +kernel) fun v4198 e4198 => ?_
  exact ret_step (h _ _ _ _ _ e4198)

theorem pt127 {Q : (Σ' (v4225 : Vec F S64x640 .bf16) (v4241 : BitVec 32), BitVec 32) → sProp 𝕄} {v4194 v4195 : BitVec 32} {v4198 : Vec F S64x640 .bf16} {v4210 v4211 : BitVec 32}
    (e4198 : (∀ y : S64x640.Idx, v4198 y = G xa xb 1 (64 * scat (uu 1 c) 4 + (y 0).val) (y 1).val))
    (h : ∀ (r0 : Vec F S64x640 .bf16) (r1 r2 : BitVec 32), (∀ y : S64x640.Idx, r0 y = G xa xb 1 (64 * scat (uu 1 c) 5 + (y 0).val) (y 1).val) → (St xa xb K c ![47, 44, 43] ⊢ Q ⟨r0, r1, r2⟩)) :
    St xa xb K c ![47, 43, 43] ⊢ wpc c (k0_part127 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4194 v4195 v4198 v4210 v4211) Q := by
  rw [k0_part127_eq_skeleton]; unfold k0_part127_skel
  refine step_deadO 1 (o := rb 1 (scat (uu 1 c) 4)) (off65_1 3 c) fun v4221 => ?_
  refine step_storeO 1 4 (t := 43) (T' := ![47, 44, 43]) rfl (by decide) (by decide) (off65_1 3 c) e4198 ?_
  refine step_loadG 1 (o := fun u => scat u 5) (t := 44) rfl (off64_1 4 c) (by decide +kernel) fun v4225 e4225 => ?_
  exact ret_step (h _ _ _ e4225)

theorem pt128 {Q : (Σ' (v4276 : BitVec 32), BitVec 32) → sProp 𝕄} {v4194 : BitVec 32} {v4225 : Vec F S64x640 .bf16} {v4241 v4244 : BitVec 32}
    (e4225 : (∀ y : S64x640.Idx, v4225 y = G xa xb 1 (64 * scat (uu 1 c) 5 + (y 0).val) (y 1).val))
    (h : ∀ (r0 r1 : BitVec 32), (St xa xb K c ![47, 46, 43] ⊢ Q ⟨r0, r1⟩)) :
    St xa xb K c ![47, 44, 43] ⊢ wpc c (k0_part128 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4194 v4225 v4241 v4244) Q := by
  rw [k0_part128_eq_skeleton]; unfold k0_part128_skel
  refine step_deadO 1 (o := rb 1 (scat (uu 1 c) 5)) (off65_1 4 c) fun v4248 => ?_
  refine step_storeO 1 5 (t := 44) (T' := ![47, 45, 43]) rfl (by decide) (by decide) (off65_1 4 c) e4225 ?_
  refine step_loadG 1 (o := fun u => scat u 6) (t := 45) rfl (off64_1 5 c) (by decide +kernel) fun v4252 e4252 => ?_
  refine step_deadO 1 (o := rb 1 (scat (uu 1 c) 6)) (off65_1 5 c) fun v4275 => ?_
  refine step_storeO 1 6 (t := 45) (T' := ![47, 46, 43]) rfl (by decide) (by decide) (off65_1 5 c) e4252 ?_
  exact ret_step (h _ _)

end Cert.Cube

end
-- ==== Proof.Level2.lean ====
/-
# The kernel, pieces 61 to 120 in a row

These pieces of the kernel one after the other.
-/
module

public import proofs.«01_k».proof.Proof.Parts2
public import proofs.«01_k».proof.Proof.Parts3
public import proofs.«01_k».proof.Proof.Parts4

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt196 {Q : PUnit → sProp 𝕄} {v52 v53 v54 v55 v56 v57 v66 v73 v75 v82 v84 v91 v93 v100 v102 v152 v153 v154 v155 v156 v157 v166 v173 v175 v182 v184 v191 v193 v200 v202 v252 v253 v254 v255 v256 v257 v266 v273 v275 v282 v284 v291 v293 v300 v302 v2037 v2038 v2042 v2043 c1_i32_1517 : BitVec 32}
    (h : St xa xb K c ![40, 40, 40] ⊢ Q ⟨⟩) :
    St xa xb K c ![5, 3, 3] ⊢ wpc c (k0_part196 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v53 v54 v55 v56 v57 v66 v73 v75 v82 v84 v91 v93 v100 v102 v152 v153 v154 v155 v156 v157 v166 v173 v175 v182 v184 v191 v193 v200 v202 v252 v253 v254 v255 v256 v257 v266 v273 v275 v282 v284 v291 v293 v300 v302 v2037 v2038 v2042 v2043 c1_i32_1517) Q := by
  rw [k0_part196_eq_skeleton]; unfold k0_part196_skel
  refine cut (pt61 (fun v2062 v2063 v2075 v2077 c4_i32_1543 e2062 => ?_))
  refine cut (pt62 (fun v2087 v2112 c3_i32_1568 e2087 e2112 => ?_))
  refine cut (pt63 (fun v2137 v2138 v2146 e2137 => ?_))
  refine cut (pt64 (fun v2162 v2179 v2180 e2162 => ?_))
  refine cut (pt65 (fun v2187 v2212 v2213 v2214 c1_i32_1646 e2187 e2212 => ?_))
  refine cut (pt66 e2062 e2087 e2112 e2137 e2162 e2187 e2212 (fun v2248 v2249 c4_i32_1670 => ?_))
  refine cut (pt67 (fun v2273 v2274 v2282 v2283 e2273 => ?_))
  refine cut (pt68 (fun v2298 v2315 v2317 e2298 => ?_))
  refine cut (pt69 (fun v2323 v2348 v2349 v2351 c8_i32_1748 e2323 e2348 => ?_))
  refine cut (pt70 (fun v2373 v2374 v2382 v2385 e2373 => ?_))
  refine cut (pt71 (fun v2398 v2419 c64_i32_1800 e2398 => ?_))
  refine cut (pt72 e2273 e2298 e2323 e2348 e2373 e2398 (fun v2453 e2453 => ?_))
  refine cut (pt73 e2453 (fun v2459 v2484 v2485 v2488 c0_i32_1850 e2484 => ?_))
  refine cut (pt74 (fun v2509 v2510 v2522 c1_i32_1876 e2509 => ?_))
  refine cut (pt75 (fun v2534 e2534 => ?_))
  refine cut (pt76 (fun v2559 v2584 v2585 v2589 v2590 c1_i32_1928 e2559 e2584 => ?_))
  refine cut (pt77 (fun v2609 v2610 v2622 v2624 c8_i32_1954 e2609 => ?_))
  refine cut (pt78 e2484 e2509 e2534 e2559 e2584 e2609 (fun v2660 e2660 => ?_))
  refine cut (pt79 e2660 (fun v2670 v2694 e2694 => ?_))
  refine cut (pt80 e2694 (fun v2695 v2720 v2721 v2725 v2727 c4_i32_2030 e2695 e2720 => ?_))
  refine cut (pt81 (fun v2745 v2746 v2762 e2745 => ?_))
  refine cut (pt82 (fun v2770 v2795 v2796 c4_i32_2081 e2770 e2795 => ?_))
  refine cut (pt83 (fun v2820 v2821 v2829 v2830 e2820 => ?_))
  refine cut (pt84 (fun v2845 v2862 v2864 e2845 => ?_))
  refine cut (pt85 e2695 e2720 e2745 e2770 e2795 e2820 e2845 (fun c64_i32_2155 => ?_))
  refine cut (pt86 ?_)
  refine cut (pt87 ?_)
  refine cut (pt88 (fun v3003 e3003 => ?_))
  refine cut (pt89 e3003 (fun v3022 v3027 e3027 => ?_))
  refine cut (pt90 e3027 ?_)
  refine cut (pt91 ?_)
  refine cut (pt92 (fun v3126 v3129 v3131 e3131 => ?_))
  refine cut (pt93 e3131 (fun v3157 c24_i32 => ?_))
  refine cut (pt94 (fun v3185 v3190 e3190 => ?_))
  refine cut (pt95 e3190 (fun v3225 e3225 => ?_))
  refine cut (pt96 e3225 (fun c64_i32_2405 => ?_))
  refine cut (pt97 ?_)
  refine cut (pt98 (fun v3320 => ?_))
  refine cut (pt99 (fun v3348 v3351 v3353 e3353 => ?_))
  refine cut (pt100 e3353 (fun v3383 v3388 e3388 => ?_))
  refine cut (pt101 e3388 ?_)
  refine cut (pt102 (fun v3452 c0_i32_2547 => ?_))
  refine cut (pt103 (fun v3488 => ?_))
  refine cut (pt104 (fun v3518 v3520 v3521 e3520 e3521 => ?_))
  refine cut (pt105 e3520 e3521 ?_)
  refine cut (pt106 (fun v3577 v3580 v3581 c1_i32_2643 e3580 => ?_))
  refine cut (pt107 e3580 (fun v3604 v3607 v3611 v3614 e3607 => ?_))
  refine cut (pt108 e3607 ?_)
  refine cut (pt109 (fun v3674 c0_i32_2722 => ?_))
  refine cut (pt110 (fun v3697 v3700 v3703 c0_i32_2749 e3700 => ?_))
  refine cut (pt111 e3700 (fun v3727 v3730 v3734 v3736 e3730 => ?_))
  refine cut (pt112 e3730 (fun v3757 v3760 v3768 v3769 e3760 => ?_))
  refine cut (pt113 e3760 ?_)
  refine cut (pt114 ?_)
  refine cut (pt115 (fun v3849 v3850 v3853 v3857 v3858 e3853 => ?_))
  refine cut (pt116 e3853 (fun v3877 v3880 v3888 v3891 e3880 => ?_))
  refine cut (pt117 e3880 (fun v3906 v3907 v3910 v3922 v3924 e3910 => ?_))
  refine cut (pt118 e3910 (fun v3937 v3957 c64_i32_2958 e3937 => ?_))
  refine cut (pt119 e3937 (fun v3963 => ?_))
  refine cut (pt120 ?_)
  exact ret_step h

end Cert.Cube

end
-- ==== Proof.Parts5.lean ====
/-
# The kernel, pieces 129 to 160

What each of these pieces of the kernel does to the state, one step after the other.
-/
module

public import proofs.«01_k».proof.Proof.Checks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt129 {Q : (Σ' (v4305 : BitVec 32) (v4306 : BitVec 32) (v4309 : Vec F S64x640 .bf16), BitVec 32) → sProp 𝕄} {v252 v4276 v4277 : BitVec 32}
    (h : ∀ (r0 r1 : BitVec 32) (r2 : Vec F S64x640 .bf16) (r3 : BitVec 32), (∀ y : S64x640.Idx, r2 y = G xa xb 2 (64 * scat (uu 2 c) 4 + (y 0).val) (y 1).val) → (St xa xb K c ![47, 47, 43] ⊢ Q ⟨r0, r1, r2, r3⟩)) :
    St xa xb K c ![47, 46, 43] ⊢ wpc c (k0_part129 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v4276 v4277) Q := by
  rw [k0_part129_eq_skeleton]; unfold k0_part129_skel
  refine step_loadG 1 (o := fun u => scat u 7) (t := 46) rfl (off64_1 6 c) (by decide +kernel) fun v4279 e4279 => ?_
  refine step_deadO 1 (o := rb 1 (scat (uu 1 c) 7)) (off65_1 6 c) fun v4302 => ?_
  refine step_storeO 1 7 (t := 46) (T' := ![47, 47, 43]) rfl (by decide) (by decide) (off65_1 6 c) e4279 ?_
  refine step_loadG 2 (o := fun u => scat u 4) (t := 43) rfl (off64_2 3 c) (by decide +kernel) fun v4309 e4309 => ?_
  exact ret_step (h _ _ _ _ e4309)

theorem pt130 {Q : (Σ' (v4333 : BitVec 32) (v4336 : Vec F S64x640 .bf16) (v4340 : BitVec 32) (v4342 : BitVec 32), BitVec 32) → sProp 𝕄} {v4305 v4306 : BitVec 32} {v4309 : Vec F S64x640 .bf16} {v4310 : BitVec 32}
    (e4309 : (∀ y : S64x640.Idx, v4309 y = G xa xb 2 (64 * scat (uu 2 c) 4 + (y 0).val) (y 1).val))
    (h : ∀ (r0 : BitVec 32) (r1 : Vec F S64x640 .bf16) (r2 r3 r4 : BitVec 32), (∀ y : S64x640.Idx, r1 y = G xa xb 2 (64 * scat (uu 2 c) 5 + (y 0).val) (y 1).val) → (St xa xb K c ![47, 47, 44] ⊢ Q ⟨r0, r1, r2, r3, r4⟩)) :
    St xa xb K c ![47, 47, 43] ⊢ wpc c (k0_part130 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4305 v4306 v4309 v4310) Q := by
  rw [k0_part130_eq_skeleton]; unfold k0_part130_skel
  refine step_deadO 2 (o := rb 2 (scat (uu 2 c) 4)) (off66_2 3 c) fun v4332 => ?_
  refine step_storeO 2 4 (t := 43) (T' := ![47, 47, 44]) rfl (by decide) (by decide) (off66_2 3 c) e4309 ?_
  refine step_loadG 2 (o := fun u => scat u 5) (t := 44) rfl (off64_2 4 c) (by decide +kernel) fun v4336 e4336 => ?_
  exact ret_step (h _ _ _ _ _ e4336)

theorem pt131 {Q : (Σ' (v4360 : BitVec 32) (v4363 : Vec F S64x640 .bf16) (v4375 : BitVec 32), BitVec 32) → sProp 𝕄} {v4305 v4333 : BitVec 32} {v4336 : Vec F S64x640 .bf16} {v4340 v4342 c4_i32_3271 : BitVec 32}
    (e4336 : (∀ y : S64x640.Idx, v4336 y = G xa xb 2 (64 * scat (uu 2 c) 5 + (y 0).val) (y 1).val))
    (h : ∀ (r0 : BitVec 32) (r1 : Vec F S64x640 .bf16) (r2 r3 : BitVec 32), (∀ y : S64x640.Idx, r1 y = G xa xb 2 (64 * scat (uu 2 c) 6 + (y 0).val) (y 1).val) → (St xa xb K c ![47, 47, 45] ⊢ Q ⟨r0, r1, r2, r3⟩)) :
    St xa xb K c ![47, 47, 44] ⊢ wpc c (k0_part131 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4305 v4333 v4336 v4340 v4342 c4_i32_3271) Q := by
  rw [k0_part131_eq_skeleton]; unfold k0_part131_skel
  refine step_deadO 2 (o := rb 2 (scat (uu 2 c) 5)) (off66_2 4 c) fun v4359 => ?_
  refine step_storeO 2 5 (t := 44) (T' := ![47, 47, 45]) rfl (by decide) (by decide) (off66_2 4 c) e4336 ?_
  refine step_loadG 2 (o := fun u => scat u 6) (t := 45) rfl (off64_2 5 c) (by decide +kernel) fun v4363 e4363 => ?_
  exact ret_step (h _ _ _ _ e4363)

theorem pt132 {Q : (Σ' (v4390 : Vec F S64x640 .bf16) (v4406 : BitVec 32), BitVec 32) → sProp 𝕄} {v4305 v4360 : BitVec 32} {v4363 : Vec F S64x640 .bf16} {v4375 v4376 : BitVec 32}
    (e4363 : (∀ y : S64x640.Idx, v4363 y = G xa xb 2 (64 * scat (uu 2 c) 6 + (y 0).val) (y 1).val))
    (h : ∀ (r0 : Vec F S64x640 .bf16) (r1 r2 : BitVec 32), (∀ y : S64x640.Idx, r0 y = G xa xb 2 (64 * scat (uu 2 c) 7 + (y 0).val) (y 1).val) → (St xa xb K c ![47, 47, 46] ⊢ Q ⟨r0, r1, r2⟩)) :
    St xa xb K c ![47, 47, 45] ⊢ wpc c (k0_part132 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4305 v4360 v4363 v4375 v4376) Q := by
  rw [k0_part132_eq_skeleton]; unfold k0_part132_skel
  refine step_deadO 2 (o := rb 2 (scat (uu 2 c) 6)) (off66_2 5 c) fun v4386 => ?_
  refine step_storeO 2 6 (t := 45) (T' := ![47, 47, 46]) rfl (by decide) (by decide) (off66_2 5 c) e4363 ?_
  refine step_loadG 2 (o := fun u => scat u 7) (t := 46) rfl (off64_2 6 c) (by decide +kernel) fun v4390 e4390 => ?_
  exact ret_step (h _ _ _ e4390)

theorem pt133 {Q : PUnit → sProp 𝕄} {v52 v53 v54 v152 v154 : BitVec 32} {v4390 : Vec F S64x640 .bf16} {v4406 v4409 : BitVec 32}
    (e4390 : (∀ y : S64x640.Idx, v4390 y = G xa xb 2 (64 * scat (uu 2 c) 7 + (y 0).val) (y 1).val))
    (h : St xa xb K c ![49, 48, 47] ⊢ Q ⟨⟩) :
    St xa xb K c ![47, 47, 46] ⊢ wpc c (k0_part133 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v53 v54 v152 v154 v4390 v4406 v4409) Q := by
  rw [k0_part133_eq_skeleton]; unfold k0_part133_skel
  refine step_deadO 2 (o := rb 2 (scat (uu 2 c) 7)) (off66_2 6 c) fun v4413 => ?_
  refine step_storeO 2 7 (t := 46) (T' := ![47, 47, 47]) rfl (by decide) (by decide) (off66_2 6 c) e4390 ?_
  refine step_recvAG 0 3 (T' := ![48, 47, 47]) (by decide) rfl (by decide) rfl rfl ?_
  refine step_sendAG 0 4 (n := 16) (T' := ![49, 47, 47]) rfl (dev34 c) rfl (by decide) (off71_0 c) (off71_0 c) rfl rfl rfl ?_
  refine step_recvAG 1 3 (T' := ![49, 48, 47]) (by decide) rfl (by decide) rfl rfl ?_
  exact ret_step h

theorem pt134 {Q : PUnit → sProp 𝕄} {v153 v252 v253 v254 : BitVec 32}
    (h : St xa xb K c ![50, 49, 49] ⊢ Q ⟨⟩) :
    St xa xb K c ![49, 48, 47] ⊢ wpc c (k0_part134 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v153 v252 v253 v254) Q := by
  rw [k0_part134_eq_skeleton]; unfold k0_part134_skel
  refine step_sendAG 1 4 (n := 16) (T' := ![49, 49, 47]) rfl (dev35 c) rfl (by decide) (off72_1 c) (off72_1 c) rfl rfl rfl ?_
  refine step_recvAG 2 3 (T' := ![49, 49, 48]) (by decide) rfl (by decide) rfl rfl ?_
  refine step_sendAG 2 4 (n := 16) (T' := ![49, 49, 49]) rfl (dev36 c) rfl (by decide) (off72_2 c) (off72_2 c) rfl rfl rfl ?_
  refine step_sentAG 0 3 (T' := ![50, 49, 49]) rfl (by decide) rfl rfl ?_
  exact ret_step h

theorem pt135 {Q : (Σ' (v4479 : BitVec 32) (v4480 : BitVec 32) (v4483 : Vec F S64x768 .bf16) (v4495 : BitVec 32), BitVec 32) → sProp 𝕄} {v52 : BitVec 32}
    (h : ∀ (r0 r1 : BitVec 32) (r2 : Vec F S64x768 .bf16) (r3 r4 : BitVec 32), (∀ y : S64x768.Idx, r2 y = G xa xb 0 (64 * scat (uu 0 c) 8 + (y 0).val) (y 1).val) → (St xa xb K c ![50, 50, 50] ⊢ Q ⟨r0, r1, r2, r3, r4⟩)) :
    St xa xb K c ![50, 49, 49] ⊢ wpc c (k0_part135 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52) Q := by
  rw [k0_part135_eq_skeleton]; unfold k0_part135_skel
  refine step_sentAG 1 3 (T' := ![50, 50, 49]) rfl (by decide) rfl rfl ?_
  refine step_sentAG 2 3 (T' := ![50, 50, 50]) rfl (by decide) rfl rfl ?_
  refine step_loadG 0 (o := fun u => scat u 8) (t := 50) rfl (off62_0 7 c) (by decide +kernel) fun v4483 e4483 => ?_
  exact ret_step (h _ _ _ _ _ e4483)

theorem pt136 {Q : (Vec F S64x768 .bf16) → sProp 𝕄} {v4479 v4480 : BitVec 32} {v4483 : Vec F S64x768 .bf16} {v4495 v4498 : BitVec 32}
    (e4483 : (∀ y : S64x768.Idx, v4483 y = G xa xb 0 (64 * scat (uu 0 c) 8 + (y 0).val) (y 1).val))
    (h : ∀ (r0 : Vec F S64x768 .bf16), (∀ y : S64x768.Idx, r0 y = G xa xb 0 (64 * scat (uu 0 c) 9 + (y 0).val) (y 1).val) → (St xa xb K c ![51, 50, 50] ⊢ Q r0)) :
    St xa xb K c ![50, 50, 50] ⊢ wpc c (k0_part136 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4479 v4480 v4483 v4495 v4498) Q := by
  rw [k0_part136_eq_skeleton]; unfold k0_part136_skel
  refine step_deadO 0 (o := rb 0 (scat (uu 0 c) 8)) (off63_0 7 c) fun v4506 => ?_
  refine step_storeO 0 8 (t := 50) (T' := ![51, 50, 50]) rfl (by decide) (by decide) (off63_0 7 c) e4483 ?_
  refine step_loadG 0 (o := fun u => scat u 9) (t := 51) rfl (off62_0 8 c) (by decide +kernel) fun v4510 e4510 => ?_
  exact ret_step (h _ e4510)

theorem pt137 {Q : (Σ' (v4561 : BitVec 32) (v4564 : Vec F S64x768 .bf16), BitVec 32) → sProp 𝕄} {v4479 : BitVec 32} {v4510 : Vec F S64x768 .bf16}
    (e4510 : (∀ y : S64x768.Idx, v4510 y = G xa xb 0 (64 * scat (uu 0 c) 9 + (y 0).val) (y 1).val))
    (h : ∀ (r0 : BitVec 32) (r1 : Vec F S64x768 .bf16) (r2 : BitVec 32), (∀ y : S64x768.Idx, r1 y = G xa xb 0 (64 * scat (uu 0 c) 11 + (y 0).val) (y 1).val) → (St xa xb K c ![53, 50, 50] ⊢ Q ⟨r0, r1, r2⟩)) :
    St xa xb K c ![51, 50, 50] ⊢ wpc c (k0_part137 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4479 v4510) Q := by
  rw [k0_part137_eq_skeleton]; unfold k0_part137_skel
  refine step_deadO 0 (o := rb 0 (scat (uu 0 c) 9)) (off63_0 8 c) fun v4533 => ?_
  refine step_storeO 0 9 (t := 51) (T' := ![52, 50, 50]) rfl (by decide) (by decide) (off63_0 8 c) e4510 ?_
  refine step_loadG 0 (o := fun u => scat u 10) (t := 52) rfl (off62_0 9 c) (by decide +kernel) fun v4537 e4537 => ?_
  refine step_deadO 0 (o := rb 0 (scat (uu 0 c) 10)) (off63_0 9 c) fun v4560 => ?_
  refine step_storeO 0 10 (t := 52) (T' := ![53, 50, 50]) rfl (by decide) (by decide) (off63_0 9 c) e4537 ?_
  refine step_loadG 0 (o := fun u => scat u 11) (t := 53) rfl (off62_0 10 c) (by decide +kernel) fun v4564 e4564 => ?_
  exact ret_step (h _ _ _ e4564)

theorem pt138 {Q : (Σ' (v4588 : BitVec 32) (v4591 : Vec F S64x768 .bf16) (v4595 : BitVec 32), BitVec 32) → sProp 𝕄} {v4479 v4561 : BitVec 32} {v4564 : Vec F S64x768 .bf16} {c4_i32_3451 : BitVec 32}
    (e4564 : (∀ y : S64x768.Idx, v4564 y = G xa xb 0 (64 * scat (uu 0 c) 11 + (y 0).val) (y 1).val))
    (h : ∀ (r0 : BitVec 32) (r1 : Vec F S64x768 .bf16) (r2 r3 : BitVec 32), (∀ y : S64x768.Idx, r1 y = G xa xb 0 (64 * scat (uu 0 c) 12 + (y 0).val) (y 1).val) → (St xa xb K c ![54, 50, 50] ⊢ Q ⟨r0, r1, r2, r3⟩)) :
    St xa xb K c ![53, 50, 50] ⊢ wpc c (k0_part138 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4479 v4561 v4564 c4_i32_3451) Q := by
  rw [k0_part138_eq_skeleton]; unfold k0_part138_skel
  refine step_deadO 0 (o := rb 0 (scat (uu 0 c) 11)) (off63_0 10 c) fun v4587 => ?_
  refine step_storeO 0 11 (t := 53) (T' := ![54, 50, 50]) rfl (by decide) (by decide) (off63_0 10 c) e4564 ?_
  refine step_loadG 0 (o := fun u => scat u 12) (t := 54) rfl (off62_0 11 c) (by decide +kernel) fun v4591 e4591 => ?_
  exact ret_step (h _ _ _ _ e4591)

theorem pt139 {Q : (Σ' (v4615 : BitVec 32) (v4618 : Vec F S64x768 .bf16) (v4630 : BitVec 32), BitVec 32) → sProp 𝕄} {v4479 v4588 : BitVec 32} {v4591 : Vec F S64x768 .bf16} {v4595 v4597 : BitVec 32}
    (e4591 : (∀ y : S64x768.Idx, v4591 y = G xa xb 0 (64 * scat (uu 0 c) 12 + (y 0).val) (y 1).val))
    (h : ∀ (r0 : BitVec 32) (r1 : Vec F S64x768 .bf16) (r2 r3 : BitVec 32), (∀ y : S64x768.Idx, r1 y = G xa xb 0 (64 * scat (uu 0 c) 13 + (y 0).val) (y 1).val) → (St xa xb K c ![55, 50, 50] ⊢ Q ⟨r0, r1, r2, r3⟩)) :
    St xa xb K c ![54, 50, 50] ⊢ wpc c (k0_part139 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4479 v4588 v4591 v4595 v4597) Q := by
  rw [k0_part139_eq_skeleton]; unfold k0_part139_skel
  refine step_deadO 0 (o := rb 0 (scat (uu 0 c) 12)) (off63_0 11 c) fun v4614 => ?_
  refine step_storeO 0 12 (t := 54) (T' := ![55, 50, 50]) rfl (by decide) (by decide) (off63_0 11 c) e4591 ?_
  refine step_loadG 0 (o := fun u => scat u 13) (t := 55) rfl (off62_0 12 c) (by decide +kernel) fun v4618 e4618 => ?_
  exact ret_step (h _ _ _ _ e4618)

theorem pt140 {Q : (Σ' (v4645 : Vec F S64x768 .bf16) (v4661 : BitVec 32) (v4663 : BitVec 32), BitVec 32) → sProp 𝕄} {v4479 v4615 : BitVec 32} {v4618 : Vec F S64x768 .bf16} {v4630 c1_i32_3503 : BitVec 32}
    (e4618 : (∀ y : S64x768.Idx, v4618 y = G xa xb 0 (64 * scat (uu 0 c) 13 + (y 0).val) (y 1).val))
    (h : ∀ (r0 : Vec F S64x768 .bf16) (r1 r2 r3 : BitVec 32), (∀ y : S64x768.Idx, r0 y = G xa xb 0 (64 * scat (uu 0 c) 14 + (y 0).val) (y 1).val) → (St xa xb K c ![56, 50, 50] ⊢ Q ⟨r0, r1, r2, r3⟩)) :
    St xa xb K c ![55, 50, 50] ⊢ wpc c (k0_part140 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4479 v4615 v4618 v4630 c1_i32_3503) Q := by
  rw [k0_part140_eq_skeleton]; unfold k0_part140_skel
  refine step_deadO 0 (o := rb 0 (scat (uu 0 c) 13)) (off63_0 12 c) fun v4641 => ?_
  refine step_storeO 0 13 (t := 55) (T' := ![56, 50, 50]) rfl (by decide) (by decide) (off63_0 12 c) e4618 ?_
  refine step_loadG 0 (o := fun u => scat u 14) (t := 56) rfl (off62_0 13 c) (by decide +kernel) fun v4645 e4645 => ?_
  exact ret_step (h _ _ _ _ e4645)

theorem pt141 {Q : (Σ' (v4696 : BitVec 32), BitVec 32) → sProp 𝕄} {v152 v4479 : BitVec 32} {v4645 : Vec F S64x768 .bf16} {v4661 v4663 c4_i32_3529 : BitVec 32}
    (e4645 : (∀ y : S64x768.Idx, v4645 y = G xa xb 0 (64 * scat (uu 0 c) 14 + (y 0).val) (y 1).val))
    (h : ∀ (r0 r1 : BitVec 32), (St xa xb K c ![58, 50, 50] ⊢ Q ⟨r0, r1⟩)) :
    St xa xb K c ![56, 50, 50] ⊢ wpc c (k0_part141 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v4479 v4645 v4661 v4663 c4_i32_3529) Q := by
  rw [k0_part141_eq_skeleton]; unfold k0_part141_skel
  refine step_deadO 0 (o := rb 0 (scat (uu 0 c) 14)) (off63_0 13 c) fun v4668 => ?_
  refine step_storeO 0 14 (t := 56) (T' := ![57, 50, 50]) rfl (by decide) (by decide) (off63_0 13 c) e4645 ?_
  refine step_loadG 0 (o := fun u => scat u 15) (t := 57) rfl (off62_0 14 c) (by decide +kernel) fun v4672 e4672 => ?_
  refine step_deadO 0 (o := rb 0 (scat (uu 0 c) 15)) (off63_0 14 c) fun v4695 => ?_
  refine step_storeO 0 15 (t := 57) (T' := ![58, 50, 50]) rfl (by decide) (by decide) (off63_0 14 c) e4672 ?_
  exact ret_step (h _ _)

theorem pt142 {Q : (Σ' (v4698 : BitVec 32) (v4726 : BitVec 32) (v4729 : Vec F S64x640 .bf16), BitVec 32) → sProp 𝕄} {v4696 c3_i32_3554 : BitVec 32}
    (h : ∀ (r0 r1 : BitVec 32) (r2 : Vec F S64x640 .bf16) (r3 : BitVec 32), (∀ y : S64x640.Idx, r2 y = G xa xb 1 (64 * scat (uu 1 c) 9 + (y 0).val) (y 1).val) → (St xa xb K c ![58, 51, 50] ⊢ Q ⟨r0, r1, r2, r3⟩)) :
    St xa xb K c ![58, 50, 50] ⊢ wpc c (k0_part142 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4696 c3_i32_3554) Q := by
  rw [k0_part142_eq_skeleton]; unfold k0_part142_skel
  refine step_loadG 1 (o := fun u => scat u 8) (t := 50) rfl (off64_1 7 c) (by decide +kernel) fun v4702 e4702 => ?_
  refine step_deadO 1 (o := rb 1 (scat (uu 1 c) 8)) (off65_1 7 c) fun v4725 => ?_
  refine step_storeO 1 8 (t := 50) (T' := ![58, 51, 50]) rfl (by decide) (by decide) (off65_1 7 c) e4702 ?_
  refine step_loadG 1 (o := fun u => scat u 9) (t := 51) rfl (off64_1 8 c) (by decide +kernel) fun v4729 e4729 => ?_
  exact ret_step (h _ _ _ _ e4729)

theorem pt143 {Q : (Σ' (v4753 : BitVec 32) (v4756 : Vec F S64x640 .bf16) (v4760 : BitVec 32), BitVec 32) → sProp 𝕄} {v4698 v4726 : BitVec 32} {v4729 : Vec F S64x640 .bf16} {c4_i32_3580 : BitVec 32}
    (e4729 : (∀ y : S64x640.Idx, v4729 y = G xa xb 1 (64 * scat (uu 1 c) 9 + (y 0).val) (y 1).val))
    (h : ∀ (r0 : BitVec 32) (r1 : Vec F S64x640 .bf16) (r2 r3 : BitVec 32), (∀ y : S64x640.Idx, r1 y = G xa xb 1 (64 * scat (uu 1 c) 10 + (y 0).val) (y 1).val) → (St xa xb K c ![58, 52, 50] ⊢ Q ⟨r0, r1, r2, r3⟩)) :
    St xa xb K c ![58, 51, 50] ⊢ wpc c (k0_part143 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4698 v4726 v4729 c4_i32_3580) Q := by
  rw [k0_part143_eq_skeleton]; unfold k0_part143_skel
  refine step_deadO 1 (o := rb 1 (scat (uu 1 c) 9)) (off65_1 8 c) fun v4752 => ?_
  refine step_storeO 1 9 (t := 51) (T' := ![58, 52, 50]) rfl (by decide) (by decide) (off65_1 8 c) e4729 ?_
  refine step_loadG 1 (o := fun u => scat u 10) (t := 52) rfl (off64_1 9 c) (by decide +kernel) fun v4756 e4756 => ?_
  exact ret_step (h _ _ _ _ e4756)

theorem pt144 {Q : (Σ' (v4780 : BitVec 32) (v4783 : Vec F S64x640 .bf16) (v4795 : BitVec 32), BitVec 32) → sProp 𝕄} {v4698 v4753 : BitVec 32} {v4756 : Vec F S64x640 .bf16} {v4760 v4762 : BitVec 32}
    (e4756 : (∀ y : S64x640.Idx, v4756 y = G xa xb 1 (64 * scat (uu 1 c) 10 + (y 0).val) (y 1).val))
    (h : ∀ (r0 : BitVec 32) (r1 : Vec F S64x640 .bf16) (r2 r3 : BitVec 32), (∀ y : S64x640.Idx, r1 y = G xa xb 1 (64 * scat (uu 1 c) 11 + (y 0).val) (y 1).val) → (St xa xb K c ![58, 53, 50] ⊢ Q ⟨r0, r1, r2, r3⟩)) :
    St xa xb K c ![58, 52, 50] ⊢ wpc c (k0_part144 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4698 v4753 v4756 v4760 v4762) Q := by
  rw [k0_part144_eq_skeleton]; unfold k0_part144_skel
  refine step_deadO 1 (o := rb 1 (scat (uu 1 c) 10)) (off65_1 9 c) fun v4779 => ?_
  refine step_storeO 1 10 (t := 52) (T' := ![58, 53, 50]) rfl (by decide) (by decide) (off65_1 9 c) e4756 ?_
  refine step_loadG 1 (o := fun u => scat u 11) (t := 53) rfl (off64_1 10 c) (by decide +kernel) fun v4783 e4783 => ?_
  exact ret_step (h _ _ _ _ e4783)

theorem pt145 {Q : (Σ' (v4810 : Vec F S64x640 .bf16) (v4826 : BitVec 32) (v4828 : BitVec 32), BitVec 32) → sProp 𝕄} {v4698 v4780 : BitVec 32} {v4783 : Vec F S64x640 .bf16} {v4795 c1_i32_3632 : BitVec 32}
    (e4783 : (∀ y : S64x640.Idx, v4783 y = G xa xb 1 (64 * scat (uu 1 c) 11 + (y 0).val) (y 1).val))
    (h : ∀ (r0 : Vec F S64x640 .bf16) (r1 r2 r3 : BitVec 32), (∀ y : S64x640.Idx, r0 y = G xa xb 1 (64 * scat (uu 1 c) 12 + (y 0).val) (y 1).val) → (St xa xb K c ![58, 54, 50] ⊢ Q ⟨r0, r1, r2, r3⟩)) :
    St xa xb K c ![58, 53, 50] ⊢ wpc c (k0_part145 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4698 v4780 v4783 v4795 c1_i32_3632) Q := by
  rw [k0_part145_eq_skeleton]; unfold k0_part145_skel
  refine step_deadO 1 (o := rb 1 (scat (uu 1 c) 11)) (off65_1 10 c) fun v4806 => ?_
  refine step_storeO 1 11 (t := 53) (T' := ![58, 54, 50]) rfl (by decide) (by decide) (off65_1 10 c) e4783 ?_
  refine step_loadG 1 (o := fun u => scat u 12) (t := 54) rfl (off64_1 11 c) (by decide +kernel) fun v4810 e4810 => ?_
  exact ret_step (h _ _ _ _ e4810)

theorem pt146 {Q : (Σ' (v4861 : BitVec 32), BitVec 32) → sProp 𝕄} {v4698 : BitVec 32} {v4810 : Vec F S64x640 .bf16} {v4826 v4828 c2_i32_3658 : BitVec 32}
    (e4810 : (∀ y : S64x640.Idx, v4810 y = G xa xb 1 (64 * scat (uu 1 c) 12 + (y 0).val) (y 1).val))
    (h : ∀ (r0 r1 : BitVec 32), (St xa xb K c ![58, 56, 50] ⊢ Q ⟨r0, r1⟩)) :
    St xa xb K c ![58, 54, 50] ⊢ wpc c (k0_part146 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4698 v4810 v4826 v4828 c2_i32_3658) Q := by
  rw [k0_part146_eq_skeleton]; unfold k0_part146_skel
  refine step_deadO 1 (o := rb 1 (scat (uu 1 c) 12)) (off65_1 11 c) fun v4833 => ?_
  refine step_storeO 1 12 (t := 54) (T' := ![58, 55, 50]) rfl (by decide) (by decide) (off65_1 11 c) e4810 ?_
  refine step_loadG 1 (o := fun u => scat u 13) (t := 55) rfl (off64_1 12 c) (by decide +kernel) fun v4837 e4837 => ?_
  refine step_deadO 1 (o := rb 1 (scat (uu 1 c) 13)) (off65_1 12 c) fun v4860 => ?_
  refine step_storeO 1 13 (t := 55) (T' := ![58, 56, 50]) rfl (by decide) (by decide) (off65_1 12 c) e4837 ?_
  exact ret_step (h _ _)

theorem pt147 {Q : (Σ' (v4888 : BitVec 32) (v4891 : Vec F S64x640 .bf16) (v4894 : BitVec 32), BitVec 32) → sProp 𝕄} {v4698 v4861 c64_i32_3683 : BitVec 32}
    (h : ∀ (r0 : BitVec 32) (r1 : Vec F S64x640 .bf16) (r2 r3 : BitVec 32), (∀ y : S64x640.Idx, r1 y = G xa xb 1 (64 * scat (uu 1 c) 15 + (y 0).val) (y 1).val) → (St xa xb K c ![58, 57, 50] ⊢ Q ⟨r0, r1, r2, r3⟩)) :
    St xa xb K c ![58, 56, 50] ⊢ wpc c (k0_part147 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4698 v4861 c64_i32_3683) Q := by
  rw [k0_part147_eq_skeleton]; unfold k0_part147_skel
  refine step_loadG 1 (o := fun u => scat u 14) (t := 56) rfl (off64_1 13 c) (by decide +kernel) fun v4864 e4864 => ?_
  refine step_deadO 1 (o := rb 1 (scat (uu 1 c) 14)) (off65_1 13 c) fun v4887 => ?_
  refine step_storeO 1 14 (t := 56) (T' := ![58, 57, 50]) rfl (by decide) (by decide) (off65_1 13 c) e4864 ?_
  refine step_loadG 1 (o := fun u => scat u 15) (t := 57) rfl (off64_1 14 c) (by decide +kernel) fun v4891 e4891 => ?_
  exact ret_step (h _ _ _ _ e4891)

theorem pt148 {Q : (Σ' (v4917 : BitVec 32) (v4918 : BitVec 32) (v4921 : Vec F S64x640 .bf16) (v4925 : BitVec 32), BitVec 32) → sProp 𝕄} {v252 v4888 : BitVec 32} {v4891 : Vec F S64x640 .bf16} {v4894 c0_i32_3709 : BitVec 32}
    (e4891 : (∀ y : S64x640.Idx, v4891 y = G xa xb 1 (64 * scat (uu 1 c) 15 + (y 0).val) (y 1).val))
    (h : ∀ (r0 r1 : BitVec 32) (r2 : Vec F S64x640 .bf16) (r3 r4 : BitVec 32), (∀ y : S64x640.Idx, r2 y = G xa xb 2 (64 * scat (uu 2 c) 8 + (y 0).val) (y 1).val) → (St xa xb K c ![58, 58, 50] ⊢ Q ⟨r0, r1, r2, r3, r4⟩)) :
    St xa xb K c ![58, 57, 50] ⊢ wpc c (k0_part148 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v4888 v4891 v4894 c0_i32_3709) Q := by
  rw [k0_part148_eq_skeleton]; unfold k0_part148_skel
  refine step_deadO 1 (o := rb 1 (scat (uu 1 c) 15)) (off65_1 14 c) fun v4914 => ?_
  refine step_storeO 1 15 (t := 57) (T' := ![58, 58, 50]) rfl (by decide) (by decide) (off65_1 14 c) e4891 ?_
  refine step_loadG 2 (o := fun u => scat u 8) (t := 50) rfl (off64_2 7 c) (by decide +kernel) fun v4921 e4921 => ?_
  exact ret_step (h _ _ _ _ _ e4921)

theorem pt149 {Q : (Σ' (v4945 : BitVec 32) (v4948 : Vec F S64x640 .bf16) (v4960 : BitVec 32), BitVec 32) → sProp 𝕄} {v4917 v4918 : BitVec 32} {v4921 : Vec F S64x640 .bf16} {v4925 v4927 : BitVec 32}
    (e4921 : (∀ y : S64x640.Idx, v4921 y = G xa xb 2 (64 * scat (uu 2 c) 8 + (y 0).val) (y 1).val))
    (h : ∀ (r0 : BitVec 32) (r1 : Vec F S64x640 .bf16) (r2 r3 : BitVec 32), (∀ y : S64x640.Idx, r1 y = G xa xb 2 (64 * scat (uu 2 c) 9 + (y 0).val) (y 1).val) → (St xa xb K c ![58, 58, 51] ⊢ Q ⟨r0, r1, r2, r3⟩)) :
    St xa xb K c ![58, 58, 50] ⊢ wpc c (k0_part149 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4917 v4918 v4921 v4925 v4927) Q := by
  rw [k0_part149_eq_skeleton]; unfold k0_part149_skel
  refine step_deadO 2 (o := rb 2 (scat (uu 2 c) 8)) (off66_2 7 c) fun v4944 => ?_
  refine step_storeO 2 8 (t := 50) (T' := ![58, 58, 51]) rfl (by decide) (by decide) (off66_2 7 c) e4921 ?_
  refine step_loadG 2 (o := fun u => scat u 9) (t := 51) rfl (off64_2 8 c) (by decide +kernel) fun v4948 e4948 => ?_
  exact ret_step (h _ _ _ _ e4948)

theorem pt150 {Q : (Σ' (v4975 : Vec F S64x640 .bf16) (v4991 : BitVec 32) (v4993 : BitVec 32), BitVec 32) → sProp 𝕄} {v4917 v4945 : BitVec 32} {v4948 : Vec F S64x640 .bf16} {v4960 c1_i32_3761 : BitVec 32}
    (e4948 : (∀ y : S64x640.Idx, v4948 y = G xa xb 2 (64 * scat (uu 2 c) 9 + (y 0).val) (y 1).val))
    (h : ∀ (r0 : Vec F S64x640 .bf16) (r1 r2 r3 : BitVec 32), (∀ y : S64x640.Idx, r0 y = G xa xb 2 (64 * scat (uu 2 c) 10 + (y 0).val) (y 1).val) → (St xa xb K c ![58, 58, 52] ⊢ Q ⟨r0, r1, r2, r3⟩)) :
    St xa xb K c ![58, 58, 51] ⊢ wpc c (k0_part150 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4917 v4945 v4948 v4960 c1_i32_3761) Q := by
  rw [k0_part150_eq_skeleton]; unfold k0_part150_skel
  refine step_deadO 2 (o := rb 2 (scat (uu 2 c) 9)) (off66_2 8 c) fun v4971 => ?_
  refine step_storeO 2 9 (t := 51) (T' := ![58, 58, 52]) rfl (by decide) (by decide) (off66_2 8 c) e4948 ?_
  refine step_loadG 2 (o := fun u => scat u 10) (t := 52) rfl (off64_2 9 c) (by decide +kernel) fun v4975 e4975 => ?_
  exact ret_step (h _ _ _ _ e4975)

theorem pt151 {Q : (Σ' (v5026 : BitVec 32), BitVec 32) → sProp 𝕄} {v4917 : BitVec 32} {v4975 : Vec F S64x640 .bf16} {v4991 v4993 c16_i32_3787 : BitVec 32}
    (e4975 : (∀ y : S64x640.Idx, v4975 y = G xa xb 2 (64 * scat (uu 2 c) 10 + (y 0).val) (y 1).val))
    (h : ∀ (r0 r1 : BitVec 32), (St xa xb K c ![58, 58, 54] ⊢ Q ⟨r0, r1⟩)) :
    St xa xb K c ![58, 58, 52] ⊢ wpc c (k0_part151 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4917 v4975 v4991 v4993 c16_i32_3787) Q := by
  rw [k0_part151_eq_skeleton]; unfold k0_part151_skel
  refine step_deadO 2 (o := rb 2 (scat (uu 2 c) 10)) (off66_2 9 c) fun v4998 => ?_
  refine step_storeO 2 10 (t := 52) (T' := ![58, 58, 53]) rfl (by decide) (by decide) (off66_2 9 c) e4975 ?_
  refine step_loadG 2 (o := fun u => scat u 11) (t := 53) rfl (off64_2 10 c) (by decide +kernel) fun v5002 e5002 => ?_
  refine step_deadO 2 (o := rb 2 (scat (uu 2 c) 11)) (off66_2 10 c) fun v5025 => ?_
  refine step_storeO 2 11 (t := 53) (T' := ![58, 58, 54]) rfl (by decide) (by decide) (off66_2 10 c) e5002 ?_
  exact ret_step (h _ _)

theorem pt152 {Q : (Σ' (v5053 : BitVec 32) (v5056 : Vec F S64x640 .bf16) (v5059 : BitVec 32), BitVec 32) → sProp 𝕄} {v4917 v5026 c64_i32_3812 : BitVec 32}
    (h : ∀ (r0 : BitVec 32) (r1 : Vec F S64x640 .bf16) (r2 r3 : BitVec 32), (∀ y : S64x640.Idx, r1 y = G xa xb 2 (64 * scat (uu 2 c) 13 + (y 0).val) (y 1).val) → (St xa xb K c ![58, 58, 55] ⊢ Q ⟨r0, r1, r2, r3⟩)) :
    St xa xb K c ![58, 58, 54] ⊢ wpc c (k0_part152 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4917 v5026 c64_i32_3812) Q := by
  rw [k0_part152_eq_skeleton]; unfold k0_part152_skel
  refine step_loadG 2 (o := fun u => scat u 12) (t := 54) rfl (off64_2 11 c) (by decide +kernel) fun v5029 e5029 => ?_
  refine step_deadO 2 (o := rb 2 (scat (uu 2 c) 12)) (off66_2 11 c) fun v5052 => ?_
  refine step_storeO 2 12 (t := 54) (T' := ![58, 58, 55]) rfl (by decide) (by decide) (off66_2 11 c) e5029 ?_
  refine step_loadG 2 (o := fun u => scat u 13) (t := 55) rfl (off64_2 12 c) (by decide +kernel) fun v5056 e5056 => ?_
  exact ret_step (h _ _ _ _ e5056)

theorem pt153 {Q : (Σ' (v5080 : BitVec 32) (v5083 : Vec F S64x640 .bf16) (v5091 : BitVec 32) (v5092 : BitVec 32), BitVec 32) → sProp 𝕄} {v4917 v5053 : BitVec 32} {v5056 : Vec F S64x640 .bf16} {v5059 c0_i32_3838 : BitVec 32}
    (e5056 : (∀ y : S64x640.Idx, v5056 y = G xa xb 2 (64 * scat (uu 2 c) 13 + (y 0).val) (y 1).val))
    (h : ∀ (r0 : BitVec 32) (r1 : Vec F S64x640 .bf16) (r2 r3 r4 : BitVec 32), (∀ y : S64x640.Idx, r1 y = G xa xb 2 (64 * scat (uu 2 c) 14 + (y 0).val) (y 1).val) → (St xa xb K c ![58, 58, 56] ⊢ Q ⟨r0, r1, r2, r3, r4⟩)) :
    St xa xb K c ![58, 58, 55] ⊢ wpc c (k0_part153 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4917 v5053 v5056 v5059 c0_i32_3838) Q := by
  rw [k0_part153_eq_skeleton]; unfold k0_part153_skel
  refine step_deadO 2 (o := rb 2 (scat (uu 2 c) 13)) (off66_2 12 c) fun v5079 => ?_
  refine step_storeO 2 13 (t := 55) (T' := ![58, 58, 56]) rfl (by decide) (by decide) (off66_2 12 c) e5056 ?_
  refine step_loadG 2 (o := fun u => scat u 14) (t := 56) rfl (off64_2 13 c) (by decide +kernel) fun v5083 e5083 => ?_
  exact ret_step (h _ _ _ _ _ e5083)

theorem pt154 {Q : (Σ' (v5107 : BitVec 32) (v5110 : Vec F S64x640 .bf16), BitVec 32) → sProp 𝕄} {v4917 v5080 : BitVec 32} {v5083 : Vec F S64x640 .bf16} {v5091 v5092 c1_i32_3864 : BitVec 32}
    (e5083 : (∀ y : S64x640.Idx, v5083 y = G xa xb 2 (64 * scat (uu 2 c) 14 + (y 0).val) (y 1).val))
    (h : ∀ (r0 : BitVec 32) (r1 : Vec F S64x640 .bf16) (r2 : BitVec 32), (∀ y : S64x640.Idx, r1 y = G xa xb 2 (64 * scat (uu 2 c) 15 + (y 0).val) (y 1).val) → (St xa xb K c ![58, 58, 57] ⊢ Q ⟨r0, r1, r2⟩)) :
    St xa xb K c ![58, 58, 56] ⊢ wpc c (k0_part154 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v4917 v5080 v5083 v5091 v5092 c1_i32_3864) Q := by
  rw [k0_part154_eq_skeleton]; unfold k0_part154_skel
  refine step_deadO 2 (o := rb 2 (scat (uu 2 c) 14)) (off66_2 13 c) fun v5106 => ?_
  refine step_storeO 2 14 (t := 56) (T' := ![58, 58, 57]) rfl (by decide) (by decide) (off66_2 13 c) e5083 ?_
  refine step_loadG 2 (o := fun u => scat u 15) (t := 57) rfl (off64_2 14 c) (by decide +kernel) fun v5110 e5110 => ?_
  exact ret_step (h _ _ _ e5110)

theorem pt155 {Q : PUnit → sProp 𝕄} {v53 v153 v253 v5107 : BitVec 32} {v5110 : Vec F S64x640 .bf16} {v5126 : BitVec 32}
    (e5110 : (∀ y : S64x640.Idx, v5110 y = G xa xb 2 (64 * scat (uu 2 c) 15 + (y 0).val) (y 1).val))
    (h : St xa xb K c ![59, 59, 59] ⊢ Q ⟨⟩) :
    St xa xb K c ![58, 58, 57] ⊢ wpc c (k0_part155 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v53 v153 v253 v5107 v5110 v5126) Q := by
  rw [k0_part155_eq_skeleton]; unfold k0_part155_skel
  refine step_deadO 2 (o := rb 2 (scat (uu 2 c) 15)) (off66_2 14 c) fun v5133 => ?_
  refine step_storeO 2 15 (t := 57) (T' := ![58, 58, 58]) rfl (by decide) (by decide) (off66_2 14 c) e5110 ?_
  refine step_recvAG 0 4 (T' := ![59, 58, 58]) (by decide) rfl (by decide) rfl rfl ?_
  refine step_recvAG 1 4 (T' := ![59, 59, 58]) (by decide) rfl (by decide) rfl rfl ?_
  refine step_recvAG 2 4 (T' := ![59, 59, 59]) (by decide) rfl (by decide) rfl rfl ?_
  exact ret_step h

theorem pt156 {Q : (Σ' (v5166 : BitVec 32) (v5167 : BitVec 32) (v5170 : Vec F S64x768 .bf16) (v5182 : BitVec 32) (v5183 : BitVec 32), BitVec 32) → sProp 𝕄} {v52 : BitVec 32}
    (h : ∀ (r0 r1 : BitVec 32) (r2 : Vec F S64x768 .bf16) (r3 r4 r5 : BitVec 32), (∀ y : S64x768.Idx, r2 y = G xa xb 0 (64 * scat (uu 0 c) 16 + (y 0).val) (y 1).val) → (St xa xb K c ![60, 60, 60] ⊢ Q ⟨r0, r1, r2, r3, r4, r5⟩)) :
    St xa xb K c ![59, 59, 59] ⊢ wpc c (k0_part156 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52) Q := by
  rw [k0_part156_eq_skeleton]; unfold k0_part156_skel
  refine step_sentAG 0 4 (T' := ![60, 59, 59]) rfl (by decide) rfl rfl ?_
  refine step_sentAG 1 4 (T' := ![60, 60, 59]) rfl (by decide) rfl rfl ?_
  refine step_sentAG 2 4 (T' := ![60, 60, 60]) rfl (by decide) rfl rfl ?_
  refine step_loadG 0 (o := fun u => scat u 16) (t := 60) rfl (off62_0 15 c) (by decide +kernel) fun v5170 e5170 => ?_
  exact ret_step (h _ _ _ _ _ _ e5170)

theorem pt157 {Q : (Σ' (v5197 : Vec F S64x768 .bf16), BitVec 32) → sProp 𝕄} {v5166 v5167 : BitVec 32} {v5170 : Vec F S64x768 .bf16} {v5182 v5183 c1_i32_3945 : BitVec 32}
    (e5170 : (∀ y : S64x768.Idx, v5170 y = G xa xb 0 (64 * scat (uu 0 c) 16 + (y 0).val) (y 1).val))
    (h : ∀ (r0 : Vec F S64x768 .bf16) (r1 : BitVec 32), (∀ y : S64x768.Idx, r0 y = G xa xb 0 (64 * scat (uu 0 c) 17 + (y 0).val) (y 1).val) → (St xa xb K c ![61, 60, 60] ⊢ Q ⟨r0, r1⟩)) :
    St xa xb K c ![60, 60, 60] ⊢ wpc c (k0_part157 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5167 v5170 v5182 v5183 c1_i32_3945) Q := by
  rw [k0_part157_eq_skeleton]; unfold k0_part157_skel
  refine step_deadO 0 (o := rb 0 (scat (uu 0 c) 16)) (off63_0 15 c) fun v5193 => ?_
  refine step_storeO 0 16 (t := 60) (T' := ![61, 60, 60]) rfl (by decide) (by decide) (off63_0 15 c) e5170 ?_
  refine step_loadG 0 (o := fun u => scat u 17) (t := 61) rfl (off62_0 16 c) (by decide +kernel) fun v5197 e5197 => ?_
  exact ret_step (h _ _ e5197)

theorem pt158 {Q : (BitVec 32) → sProp 𝕄} {v5166 : BitVec 32} {v5197 : Vec F S64x768 .bf16} {v5217 : BitVec 32}
    (e5197 : (∀ y : S64x768.Idx, v5197 y = G xa xb 0 (64 * scat (uu 0 c) 17 + (y 0).val) (y 1).val))
    (h : ∀ (r0 : BitVec 32), (St xa xb K c ![63, 60, 60] ⊢ Q r0)) :
    St xa xb K c ![61, 60, 60] ⊢ wpc c (k0_part158 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5197 v5217) Q := by
  rw [k0_part158_eq_skeleton]; unfold k0_part158_skel
  refine step_deadO 0 (o := rb 0 (scat (uu 0 c) 17)) (off63_0 16 c) fun v5220 => ?_
  refine step_storeO 0 17 (t := 61) (T' := ![62, 60, 60]) rfl (by decide) (by decide) (off63_0 16 c) e5197 ?_
  refine step_loadG 0 (o := fun u => scat u 18) (t := 62) rfl (off62_0 17 c) (by decide +kernel) fun v5224 e5224 => ?_
  refine step_deadO 0 (o := rb 0 (scat (uu 0 c) 18)) (off63_0 17 c) fun v5247 => ?_
  refine step_storeO 0 18 (t := 62) (T' := ![63, 60, 60]) rfl (by decide) (by decide) (off63_0 17 c) e5224 ?_
  exact ret_step (h _)

theorem pt159 {Q : (Σ' (v5275 : BitVec 32) (v5278 : Vec F S64x768 .bf16) (v5282 : BitVec 32), BitVec 32) → sProp 𝕄} {v5166 v5248 : BitVec 32}
    (h : ∀ (r0 : BitVec 32) (r1 : Vec F S64x768 .bf16) (r2 r3 : BitVec 32), (∀ y : S64x768.Idx, r1 y = G xa xb 0 (64 * scat (uu 0 c) 20 + (y 0).val) (y 1).val) → (St xa xb K c ![64, 60, 60] ⊢ Q ⟨r0, r1, r2, r3⟩)) :
    St xa xb K c ![63, 60, 60] ⊢ wpc c (k0_part159 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5248) Q := by
  rw [k0_part159_eq_skeleton]; unfold k0_part159_skel
  refine step_loadG 0 (o := fun u => scat u 19) (t := 63) rfl (off62_0 18 c) (by decide +kernel) fun v5251 e5251 => ?_
  refine step_deadO 0 (o := rb 0 (scat (uu 0 c) 19)) (off63_0 18 c) fun v5274 => ?_
  refine step_storeO 0 19 (t := 63) (T' := ![64, 60, 60]) rfl (by decide) (by decide) (off63_0 18 c) e5251 ?_
  refine step_loadG 0 (o := fun u => scat u 20) (t := 64) rfl (off62_0 19 c) (by decide +kernel) fun v5278 e5278 => ?_
  exact ret_step (h _ _ _ _ e5278)

theorem pt160 {Q : (Σ' (v5302 : BitVec 32) (v5305 : Vec F S64x768 .bf16) (v5313 : BitVec 32) (v5315 : BitVec 32), BitVec 32) → sProp 𝕄} {v5166 v5275 : BitVec 32} {v5278 : Vec F S64x768 .bf16} {v5282 c3_i32_4022 : BitVec 32}
    (e5278 : (∀ y : S64x768.Idx, v5278 y = G xa xb 0 (64 * scat (uu 0 c) 20 + (y 0).val) (y 1).val))
    (h : ∀ (r0 : BitVec 32) (r1 : Vec F S64x768 .bf16) (r2 r3 r4 : BitVec 32), (∀ y : S64x768.Idx, r1 y = G xa xb 0 (64 * scat (uu 0 c) 21 + (y 0).val) (y 1).val) → (St xa xb K c ![65, 60, 60] ⊢ Q ⟨r0, r1, r2, r3, r4⟩)) :
    St xa xb K c ![64, 60, 60] ⊢ wpc c (k0_part160 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5275 v5278 v5282 c3_i32_4022) Q := by
  rw [k0_part160_eq_skeleton]; unfold k0_part160_skel
  refine step_deadO 0 (o := rb 0 (scat (uu 0 c) 20)) (off63_0 19 c) fun v5301 => ?_
  refine step_storeO 0 20 (t := 64) (T' := ![65, 60, 60]) rfl (by decide) (by decide) (off63_0 19 c) e5278 ?_
  refine step_loadG 0 (o := fun u => scat u 21) (t := 65) rfl (off62_0 20 c) (by decide +kernel) fun v5305 e5305 => ?_
  exact ret_step (h _ _ _ _ _ e5305)

end Cert.Cube

end
-- ==== Proof.Parts6.lean ====
/-
# The kernel, pieces 161 to 194

What each of these pieces of the kernel does to the state, one step after the other.
-/
module

public import proofs.«01_k».proof.Proof.Checks

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt161 {Q : (Σ' (v5332 : Vec F S64x768 .bf16) (v5348 : BitVec 32), BitVec 32) → sProp 𝕄} {v5166 v5302 : BitVec 32} {v5305 : Vec F S64x768 .bf16} {v5313 v5315 c2_i32_4048 : BitVec 32}
    (e5305 : (∀ y : S64x768.Idx, v5305 y = G xa xb 0 (64 * scat (uu 0 c) 21 + (y 0).val) (y 1).val))
    (h : ∀ (r0 : Vec F S64x768 .bf16) (r1 r2 : BitVec 32), (∀ y : S64x768.Idx, r0 y = G xa xb 0 (64 * scat (uu 0 c) 22 + (y 0).val) (y 1).val) → (St xa xb K c ![66, 60, 60] ⊢ Q ⟨r0, r1, r2⟩)) :
    St xa xb K c ![65, 60, 60] ⊢ wpc c (k0_part161 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5302 v5305 v5313 v5315 c2_i32_4048) Q := by
  rw [k0_part161_eq_skeleton]; unfold k0_part161_skel
  refine step_deadO 0 (o := rb 0 (scat (uu 0 c) 21)) (off63_0 20 c) fun v5328 => ?_
  refine step_storeO 0 21 (t := 65) (T' := ![66, 60, 60]) rfl (by decide) (by decide) (off63_0 20 c) e5305 ?_
  refine step_loadG 0 (o := fun u => scat u 22) (t := 66) rfl (off62_0 21 c) (by decide +kernel) fun v5332 e5332 => ?_
  exact ret_step (h _ _ _ e5332)

theorem pt162 {Q : PUnit → sProp 𝕄} {v5166 : BitVec 32} {v5332 : Vec F S64x768 .bf16} {v5348 v5349 : BitVec 32}
    (e5332 : (∀ y : S64x768.Idx, v5332 y = G xa xb 0 (64 * scat (uu 0 c) 22 + (y 0).val) (y 1).val))
    (h : St xa xb K c ![68, 60, 60] ⊢ Q ⟨⟩) :
    St xa xb K c ![66, 60, 60] ⊢ wpc c (k0_part162 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5332 v5348 v5349) Q := by
  rw [k0_part162_eq_skeleton]; unfold k0_part162_skel
  refine step_deadO 0 (o := rb 0 (scat (uu 0 c) 22)) (off63_0 21 c) fun v5355 => ?_
  refine step_storeO 0 22 (t := 66) (T' := ![67, 60, 60]) rfl (by decide) (by decide) (off63_0 21 c) e5332 ?_
  refine step_loadG 0 (o := fun u => scat u 23) (t := 67) rfl (off62_0 22 c) (by decide +kernel) fun v5359 e5359 => ?_
  refine step_deadO 0 (o := rb 0 (scat (uu 0 c) 23)) (off63_0 22 c) fun v5382 => ?_
  refine step_storeO 0 23 (t := 67) (T' := ![68, 60, 60]) rfl (by decide) (by decide) (off63_0 22 c) e5359 ?_
  exact ret_step h

theorem pt163 {Q : (Σ' (v5410 : BitVec 32) (v5413 : Vec F S64x768 .bf16), BitVec 32) → sProp 𝕄} {v5166 : BitVec 32}
    (h : ∀ (r0 : BitVec 32) (r1 : Vec F S64x768 .bf16) (r2 : BitVec 32), (∀ y : S64x768.Idx, r1 y = G xa xb 0 (64 * scat (uu 0 c) 25 + (y 0).val) (y 1).val) → (St xa xb K c ![69, 60, 60] ⊢ Q ⟨r0, r1, r2⟩)) :
    St xa xb K c ![68, 60, 60] ⊢ wpc c (k0_part163 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166) Q := by
  rw [k0_part163_eq_skeleton]; unfold k0_part163_skel
  refine step_loadG 0 (o := fun u => scat u 24) (t := 68) rfl (off62_0 23 c) (by decide +kernel) fun v5386 e5386 => ?_
  refine step_deadO 0 (o := rb 0 (scat (uu 0 c) 24)) (off63_0 23 c) fun v5409 => ?_
  refine step_storeO 0 24 (t := 68) (T' := ![69, 60, 60]) rfl (by decide) (by decide) (off63_0 23 c) e5386 ?_
  refine step_loadG 0 (o := fun u => scat u 25) (t := 69) rfl (off62_0 24 c) (by decide +kernel) fun v5413 e5413 => ?_
  exact ret_step (h _ _ _ e5413)

theorem pt164 {Q : (Σ' (v5437 : BitVec 32) (v5440 : Vec F S64x768 .bf16), BitVec 32) → sProp 𝕄} {v5166 v5410 : BitVec 32} {v5413 : Vec F S64x768 .bf16} {v5415 : BitVec 32}
    (e5413 : (∀ y : S64x768.Idx, v5413 y = G xa xb 0 (64 * scat (uu 0 c) 25 + (y 0).val) (y 1).val))
    (h : ∀ (r0 : BitVec 32) (r1 : Vec F S64x768 .bf16) (r2 : BitVec 32), (∀ y : S64x768.Idx, r1 y = G xa xb 0 (64 * scat (uu 0 c) 26 + (y 0).val) (y 1).val) → (St xa xb K c ![70, 60, 60] ⊢ Q ⟨r0, r1, r2⟩)) :
    St xa xb K c ![69, 60, 60] ⊢ wpc c (k0_part164 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5410 v5413 v5415) Q := by
  rw [k0_part164_eq_skeleton]; unfold k0_part164_skel
  refine step_deadO 0 (o := rb 0 (scat (uu 0 c) 25)) (off63_0 24 c) fun v5436 => ?_
  refine step_storeO 0 25 (t := 69) (T' := ![70, 60, 60]) rfl (by decide) (by decide) (off63_0 24 c) e5413 ?_
  refine step_loadG 0 (o := fun u => scat u 26) (t := 70) rfl (off62_0 25 c) (by decide +kernel) fun v5440 e5440 => ?_
  exact ret_step (h _ _ _ e5440)

theorem pt165 {Q : (Σ' (v5464 : BitVec 32) (v5467 : Vec F S64x768 .bf16) (v5479 : BitVec 32), BitVec 32) → sProp 𝕄} {v5166 v5437 : BitVec 32} {v5440 : Vec F S64x768 .bf16} {v5448 : BitVec 32}
    (e5440 : (∀ y : S64x768.Idx, v5440 y = G xa xb 0 (64 * scat (uu 0 c) 26 + (y 0).val) (y 1).val))
    (h : ∀ (r0 : BitVec 32) (r1 : Vec F S64x768 .bf16) (r2 r3 : BitVec 32), (∀ y : S64x768.Idx, r1 y = G xa xb 0 (64 * scat (uu 0 c) 27 + (y 0).val) (y 1).val) → (St xa xb K c ![71, 60, 60] ⊢ Q ⟨r0, r1, r2, r3⟩)) :
    St xa xb K c ![70, 60, 60] ⊢ wpc c (k0_part165 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5437 v5440 v5448) Q := by
  rw [k0_part165_eq_skeleton]; unfold k0_part165_skel
  refine step_deadO 0 (o := rb 0 (scat (uu 0 c) 26)) (off63_0 25 c) fun v5463 => ?_
  refine step_storeO 0 26 (t := 70) (T' := ![71, 60, 60]) rfl (by decide) (by decide) (off63_0 25 c) e5440 ?_
  refine step_loadG 0 (o := fun u => scat u 27) (t := 71) rfl (off62_0 26 c) (by decide +kernel) fun v5467 e5467 => ?_
  exact ret_step (h _ _ _ _ e5467)

theorem pt166 {Q : (Σ' (v5494 : Vec F S64x768 .bf16) (v5514 : BitVec 32), BitVec 32) → sProp 𝕄} {v5166 v5464 : BitVec 32} {v5467 : Vec F S64x768 .bf16} {v5479 v5481 : BitVec 32}
    (e5467 : (∀ y : S64x768.Idx, v5467 y = G xa xb 0 (64 * scat (uu 0 c) 27 + (y 0).val) (y 1).val))
    (h : ∀ (r0 : Vec F S64x768 .bf16) (r1 r2 : BitVec 32), (∀ y : S64x768.Idx, r0 y = G xa xb 0 (64 * scat (uu 0 c) 28 + (y 0).val) (y 1).val) → (St xa xb K c ![72, 60, 60] ⊢ Q ⟨r0, r1, r2⟩)) :
    St xa xb K c ![71, 60, 60] ⊢ wpc c (k0_part166 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5464 v5467 v5479 v5481) Q := by
  rw [k0_part166_eq_skeleton]; unfold k0_part166_skel
  refine step_deadO 0 (o := rb 0 (scat (uu 0 c) 27)) (off63_0 26 c) fun v5490 => ?_
  refine step_storeO 0 27 (t := 71) (T' := ![72, 60, 60]) rfl (by decide) (by decide) (off63_0 26 c) e5467 ?_
  refine step_loadG 0 (o := fun u => scat u 28) (t := 72) rfl (off62_0 27 c) (by decide +kernel) fun v5494 e5494 => ?_
  exact ret_step (h _ _ _ e5494)

theorem pt167 {Q : (BitVec 32) → sProp 𝕄} {v5166 : BitVec 32} {v5494 : Vec F S64x768 .bf16} {v5514 c64_i32_4202 : BitVec 32}
    (e5494 : (∀ y : S64x768.Idx, v5494 y = G xa xb 0 (64 * scat (uu 0 c) 28 + (y 0).val) (y 1).val))
    (h : ∀ (r0 : BitVec 32), (St xa xb K c ![74, 60, 60] ⊢ Q r0)) :
    St xa xb K c ![72, 60, 60] ⊢ wpc c (k0_part167 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5494 v5514 c64_i32_4202) Q := by
  rw [k0_part167_eq_skeleton]; unfold k0_part167_skel
  refine step_deadO 0 (o := rb 0 (scat (uu 0 c) 28)) (off63_0 27 c) fun v5517 => ?_
  refine step_storeO 0 28 (t := 72) (T' := ![73, 60, 60]) rfl (by decide) (by decide) (off63_0 27 c) e5494 ?_
  refine step_loadG 0 (o := fun u => scat u 29) (t := 73) rfl (off62_0 28 c) (by decide +kernel) fun v5521 e5521 => ?_
  refine step_deadO 0 (o := rb 0 (scat (uu 0 c) 29)) (off63_0 28 c) fun v5544 => ?_
  refine step_storeO 0 29 (t := 73) (T' := ![74, 60, 60]) rfl (by decide) (by decide) (off63_0 28 c) e5521 ?_
  exact ret_step (h _)

theorem pt168 {Q : (Σ' (v5572 : BitVec 32) (v5575 : Vec F S64x768 .bf16) (v5579 : BitVec 32), BitVec 32) → sProp 𝕄} {v5166 v5545 : BitVec 32}
    (h : ∀ (r0 : BitVec 32) (r1 : Vec F S64x768 .bf16) (r2 r3 : BitVec 32), (∀ y : S64x768.Idx, r1 y = G xa xb 0 (64 * scat (uu 0 c) 31 + (y 0).val) (y 1).val) → (St xa xb K c ![75, 60, 60] ⊢ Q ⟨r0, r1, r2, r3⟩)) :
    St xa xb K c ![74, 60, 60] ⊢ wpc c (k0_part168 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5166 v5545) Q := by
  rw [k0_part168_eq_skeleton]; unfold k0_part168_skel
  refine step_loadG 0 (o := fun u => scat u 30) (t := 74) rfl (off62_0 29 c) (by decide +kernel) fun v5548 e5548 => ?_
  refine step_deadO 0 (o := rb 0 (scat (uu 0 c) 30)) (off63_0 29 c) fun v5571 => ?_
  refine step_storeO 0 30 (t := 74) (T' := ![75, 60, 60]) rfl (by decide) (by decide) (off63_0 29 c) e5548 ?_
  refine step_loadG 0 (o := fun u => scat u 31) (t := 75) rfl (off62_0 30 c) (by decide +kernel) fun v5575 e5575 => ?_
  exact ret_step (h _ _ _ _ e5575)

theorem pt169 {Q : (Σ' (v5601 : BitVec 32) (v5602 : BitVec 32) (v5605 : Vec F S64x640 .bf16), BitVec 32) → sProp 𝕄} {v152 v5572 : BitVec 32} {v5575 : Vec F S64x768 .bf16} {v5579 v5580 : BitVec 32}
    (e5575 : (∀ y : S64x768.Idx, v5575 y = G xa xb 0 (64 * scat (uu 0 c) 31 + (y 0).val) (y 1).val))
    (h : ∀ (r0 r1 : BitVec 32) (r2 : Vec F S64x640 .bf16) (r3 : BitVec 32), (∀ y : S64x640.Idx, r2 y = G xa xb 1 (64 * scat (uu 1 c) 16 + (y 0).val) (y 1).val) → (St xa xb K c ![76, 60, 60] ⊢ Q ⟨r0, r1, r2, r3⟩)) :
    St xa xb K c ![75, 60, 60] ⊢ wpc c (k0_part169 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v152 v5572 v5575 v5579 v5580) Q := by
  rw [k0_part169_eq_skeleton]; unfold k0_part169_skel
  refine step_deadO 0 (o := rb 0 (scat (uu 0 c) 31)) (off63_0 30 c) fun v5598 => ?_
  refine step_storeO 0 31 (t := 75) (T' := ![76, 60, 60]) rfl (by decide) (by decide) (off63_0 30 c) e5575 ?_
  refine step_loadG 1 (o := fun u => scat u 16) (t := 60) rfl (off64_1 15 c) (by decide +kernel) fun v5605 e5605 => ?_
  exact ret_step (h _ _ _ _ e5605)

theorem pt170 {Q : (Σ' (v5629 : BitVec 32) (v5632 : Vec F S64x640 .bf16) (v5644 : BitVec 32), BitVec 32) → sProp 𝕄} {v5601 v5602 : BitVec 32} {v5605 : Vec F S64x640 .bf16} {v5613 : BitVec 32}
    (e5605 : (∀ y : S64x640.Idx, v5605 y = G xa xb 1 (64 * scat (uu 1 c) 16 + (y 0).val) (y 1).val))
    (h : ∀ (r0 : BitVec 32) (r1 : Vec F S64x640 .bf16) (r2 r3 : BitVec 32), (∀ y : S64x640.Idx, r1 y = G xa xb 1 (64 * scat (uu 1 c) 17 + (y 0).val) (y 1).val) → (St xa xb K c ![76, 61, 60] ⊢ Q ⟨r0, r1, r2, r3⟩)) :
    St xa xb K c ![76, 60, 60] ⊢ wpc c (k0_part170 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5602 v5605 v5613) Q := by
  rw [k0_part170_eq_skeleton]; unfold k0_part170_skel
  refine step_deadO 1 (o := rb 1 (scat (uu 1 c) 16)) (off65_1 15 c) fun v5628 => ?_
  refine step_storeO 1 16 (t := 60) (T' := ![76, 61, 60]) rfl (by decide) (by decide) (off65_1 15 c) e5605 ?_
  refine step_loadG 1 (o := fun u => scat u 17) (t := 61) rfl (off64_1 16 c) (by decide +kernel) fun v5632 e5632 => ?_
  exact ret_step (h _ _ _ _ e5632)

theorem pt171 {Q : (Σ' (v5659 : Vec F S64x640 .bf16) (v5679 : BitVec 32), BitVec 32) → sProp 𝕄} {v5601 v5629 : BitVec 32} {v5632 : Vec F S64x640 .bf16} {v5644 v5646 : BitVec 32}
    (e5632 : (∀ y : S64x640.Idx, v5632 y = G xa xb 1 (64 * scat (uu 1 c) 17 + (y 0).val) (y 1).val))
    (h : ∀ (r0 : Vec F S64x640 .bf16) (r1 r2 : BitVec 32), (∀ y : S64x640.Idx, r0 y = G xa xb 1 (64 * scat (uu 1 c) 18 + (y 0).val) (y 1).val) → (St xa xb K c ![76, 62, 60] ⊢ Q ⟨r0, r1, r2⟩)) :
    St xa xb K c ![76, 61, 60] ⊢ wpc c (k0_part171 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5629 v5632 v5644 v5646) Q := by
  rw [k0_part171_eq_skeleton]; unfold k0_part171_skel
  refine step_deadO 1 (o := rb 1 (scat (uu 1 c) 17)) (off65_1 16 c) fun v5655 => ?_
  refine step_storeO 1 17 (t := 61) (T' := ![76, 62, 60]) rfl (by decide) (by decide) (off65_1 16 c) e5632 ?_
  refine step_loadG 1 (o := fun u => scat u 18) (t := 62) rfl (off64_1 17 c) (by decide +kernel) fun v5659 e5659 => ?_
  exact ret_step (h _ _ _ e5659)

theorem pt172 {Q : (BitVec 32) → sProp 𝕄} {v5601 : BitVec 32} {v5659 : Vec F S64x640 .bf16} {v5679 c64_i32_4331 : BitVec 32}
    (e5659 : (∀ y : S64x640.Idx, v5659 y = G xa xb 1 (64 * scat (uu 1 c) 18 + (y 0).val) (y 1).val))
    (h : ∀ (r0 : BitVec 32), (St xa xb K c ![76, 64, 60] ⊢ Q r0)) :
    St xa xb K c ![76, 62, 60] ⊢ wpc c (k0_part172 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5659 v5679 c64_i32_4331) Q := by
  rw [k0_part172_eq_skeleton]; unfold k0_part172_skel
  refine step_deadO 1 (o := rb 1 (scat (uu 1 c) 18)) (off65_1 17 c) fun v5682 => ?_
  refine step_storeO 1 18 (t := 62) (T' := ![76, 63, 60]) rfl (by decide) (by decide) (off65_1 17 c) e5659 ?_
  refine step_loadG 1 (o := fun u => scat u 19) (t := 63) rfl (off64_1 18 c) (by decide +kernel) fun v5686 e5686 => ?_
  refine step_deadO 1 (o := rb 1 (scat (uu 1 c) 19)) (off65_1 18 c) fun v5709 => ?_
  refine step_storeO 1 19 (t := 63) (T' := ![76, 64, 60]) rfl (by decide) (by decide) (off65_1 18 c) e5686 ?_
  exact ret_step (h _)

theorem pt173 {Q : (Σ' (v5737 : BitVec 32) (v5740 : Vec F S64x640 .bf16) (v5744 : BitVec 32), BitVec 32) → sProp 𝕄} {v5601 v5710 : BitVec 32}
    (h : ∀ (r0 : BitVec 32) (r1 : Vec F S64x640 .bf16) (r2 r3 : BitVec 32), (∀ y : S64x640.Idx, r1 y = G xa xb 1 (64 * scat (uu 1 c) 21 + (y 0).val) (y 1).val) → (St xa xb K c ![76, 65, 60] ⊢ Q ⟨r0, r1, r2, r3⟩)) :
    St xa xb K c ![76, 64, 60] ⊢ wpc c (k0_part173 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5710) Q := by
  rw [k0_part173_eq_skeleton]; unfold k0_part173_skel
  refine step_loadG 1 (o := fun u => scat u 20) (t := 64) rfl (off64_1 19 c) (by decide +kernel) fun v5713 e5713 => ?_
  refine step_deadO 1 (o := rb 1 (scat (uu 1 c) 20)) (off65_1 19 c) fun v5736 => ?_
  refine step_storeO 1 20 (t := 64) (T' := ![76, 65, 60]) rfl (by decide) (by decide) (off65_1 19 c) e5713 ?_
  refine step_loadG 1 (o := fun u => scat u 21) (t := 65) rfl (off64_1 20 c) (by decide +kernel) fun v5740 e5740 => ?_
  exact ret_step (h _ _ _ _ e5740)

theorem pt174 {Q : (Σ' (v5764 : BitVec 32) (v5767 : Vec F S64x640 .bf16) (v5775 : BitVec 32), BitVec 32) → sProp 𝕄} {v5601 v5737 : BitVec 32} {v5740 : Vec F S64x640 .bf16} {v5744 v5745 : BitVec 32}
    (e5740 : (∀ y : S64x640.Idx, v5740 y = G xa xb 1 (64 * scat (uu 1 c) 21 + (y 0).val) (y 1).val))
    (h : ∀ (r0 : BitVec 32) (r1 : Vec F S64x640 .bf16) (r2 r3 : BitVec 32), (∀ y : S64x640.Idx, r1 y = G xa xb 1 (64 * scat (uu 1 c) 22 + (y 0).val) (y 1).val) → (St xa xb K c ![76, 66, 60] ⊢ Q ⟨r0, r1, r2, r3⟩)) :
    St xa xb K c ![76, 65, 60] ⊢ wpc c (k0_part174 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5737 v5740 v5744 v5745) Q := by
  rw [k0_part174_eq_skeleton]; unfold k0_part174_skel
  refine step_deadO 1 (o := rb 1 (scat (uu 1 c) 21)) (off65_1 20 c) fun v5763 => ?_
  refine step_storeO 1 21 (t := 65) (T' := ![76, 66, 60]) rfl (by decide) (by decide) (off65_1 20 c) e5740 ?_
  refine step_loadG 1 (o := fun u => scat u 22) (t := 66) rfl (off64_1 21 c) (by decide +kernel) fun v5767 e5767 => ?_
  exact ret_step (h _ _ _ _ e5767)

theorem pt175 {Q : (Σ' (v5794 : Vec F S64x640 .bf16) (v5810 : BitVec 32) (v5811 : BitVec 32), BitVec 32) → sProp 𝕄} {v5601 v5764 : BitVec 32} {v5767 : Vec F S64x640 .bf16} {v5775 v5778 : BitVec 32}
    (e5767 : (∀ y : S64x640.Idx, v5767 y = G xa xb 1 (64 * scat (uu 1 c) 22 + (y 0).val) (y 1).val))
    (h : ∀ (r0 : Vec F S64x640 .bf16) (r1 r2 r3 : BitVec 32), (∀ y : S64x640.Idx, r0 y = G xa xb 1 (64 * scat (uu 1 c) 23 + (y 0).val) (y 1).val) → (St xa xb K c ![76, 67, 60] ⊢ Q ⟨r0, r1, r2, r3⟩)) :
    St xa xb K c ![76, 66, 60] ⊢ wpc c (k0_part175 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5764 v5767 v5775 v5778) Q := by
  rw [k0_part175_eq_skeleton]; unfold k0_part175_skel
  refine step_deadO 1 (o := rb 1 (scat (uu 1 c) 22)) (off65_1 21 c) fun v5790 => ?_
  refine step_storeO 1 22 (t := 66) (T' := ![76, 67, 60]) rfl (by decide) (by decide) (off65_1 21 c) e5767 ?_
  refine step_loadG 1 (o := fun u => scat u 23) (t := 67) rfl (off64_1 22 c) (by decide +kernel) fun v5794 e5794 => ?_
  exact ret_step (h _ _ _ _ e5794)

theorem pt176 {Q : (BitVec 32) → sProp 𝕄} {v5601 : BitVec 32} {v5794 : Vec F S64x640 .bf16} {v5810 v5811 c1_i32_4434 : BitVec 32}
    (e5794 : (∀ y : S64x640.Idx, v5794 y = G xa xb 1 (64 * scat (uu 1 c) 23 + (y 0).val) (y 1).val))
    (h : ∀ (r0 : BitVec 32), (St xa xb K c ![76, 69, 60] ⊢ Q r0)) :
    St xa xb K c ![76, 67, 60] ⊢ wpc c (k0_part176 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5794 v5810 v5811 c1_i32_4434) Q := by
  rw [k0_part176_eq_skeleton]; unfold k0_part176_skel
  refine step_deadO 1 (o := rb 1 (scat (uu 1 c) 23)) (off65_1 22 c) fun v5817 => ?_
  refine step_storeO 1 23 (t := 67) (T' := ![76, 68, 60]) rfl (by decide) (by decide) (off65_1 22 c) e5794 ?_
  refine step_loadG 1 (o := fun u => scat u 24) (t := 68) rfl (off64_1 23 c) (by decide +kernel) fun v5821 e5821 => ?_
  refine step_deadO 1 (o := rb 1 (scat (uu 1 c) 24)) (off65_1 23 c) fun v5844 => ?_
  refine step_storeO 1 24 (t := 68) (T' := ![76, 69, 60]) rfl (by decide) (by decide) (off65_1 23 c) e5821 ?_
  exact ret_step (h _)

theorem pt177 {Q : (Σ' (v5872 : BitVec 32) (v5875 : Vec F S64x640 .bf16) (v5877 : BitVec 32), BitVec 32) → sProp 𝕄} {v5601 c9_i32_4459 : BitVec 32}
    (h : ∀ (r0 : BitVec 32) (r1 : Vec F S64x640 .bf16) (r2 r3 : BitVec 32), (∀ y : S64x640.Idx, r1 y = G xa xb 1 (64 * scat (uu 1 c) 26 + (y 0).val) (y 1).val) → (St xa xb K c ![76, 70, 60] ⊢ Q ⟨r0, r1, r2, r3⟩)) :
    St xa xb K c ![76, 69, 60] ⊢ wpc c (k0_part177 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 c9_i32_4459) Q := by
  rw [k0_part177_eq_skeleton]; unfold k0_part177_skel
  refine step_loadG 1 (o := fun u => scat u 25) (t := 69) rfl (off64_1 24 c) (by decide +kernel) fun v5848 e5848 => ?_
  refine step_deadO 1 (o := rb 1 (scat (uu 1 c) 25)) (off65_1 24 c) fun v5871 => ?_
  refine step_storeO 1 25 (t := 69) (T' := ![76, 70, 60]) rfl (by decide) (by decide) (off65_1 24 c) e5848 ?_
  refine step_loadG 1 (o := fun u => scat u 26) (t := 70) rfl (off64_1 25 c) (by decide +kernel) fun v5875 e5875 => ?_
  exact ret_step (h _ _ _ _ e5875)

theorem pt178 {Q : (Σ' (v5899 : BitVec 32) (v5902 : Vec F S64x640 .bf16) (v5910 : BitVec 32), BitVec 32) → sProp 𝕄} {v5601 v5872 : BitVec 32} {v5875 : Vec F S64x640 .bf16} {v5877 c8_i32_4485 : BitVec 32}
    (e5875 : (∀ y : S64x640.Idx, v5875 y = G xa xb 1 (64 * scat (uu 1 c) 26 + (y 0).val) (y 1).val))
    (h : ∀ (r0 : BitVec 32) (r1 : Vec F S64x640 .bf16) (r2 r3 : BitVec 32), (∀ y : S64x640.Idx, r1 y = G xa xb 1 (64 * scat (uu 1 c) 27 + (y 0).val) (y 1).val) → (St xa xb K c ![76, 71, 60] ⊢ Q ⟨r0, r1, r2, r3⟩)) :
    St xa xb K c ![76, 70, 60] ⊢ wpc c (k0_part178 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5872 v5875 v5877 c8_i32_4485) Q := by
  rw [k0_part178_eq_skeleton]; unfold k0_part178_skel
  refine step_deadO 1 (o := rb 1 (scat (uu 1 c) 26)) (off65_1 25 c) fun v5898 => ?_
  refine step_storeO 1 26 (t := 70) (T' := ![76, 71, 60]) rfl (by decide) (by decide) (off65_1 25 c) e5875 ?_
  refine step_loadG 1 (o := fun u => scat u 27) (t := 71) rfl (off64_1 26 c) (by decide +kernel) fun v5902 e5902 => ?_
  exact ret_step (h _ _ _ _ e5902)

theorem pt179 {Q : (Σ' (v5926 : BitVec 32) (v5929 : Vec F S64x640 .bf16) (v5941 : BitVec 32) (v5943 : BitVec 32), BitVec 32) → sProp 𝕄} {v5601 v5899 : BitVec 32} {v5902 : Vec F S64x640 .bf16} {v5910 c2_i32_4511 : BitVec 32}
    (e5902 : (∀ y : S64x640.Idx, v5902 y = G xa xb 1 (64 * scat (uu 1 c) 27 + (y 0).val) (y 1).val))
    (h : ∀ (r0 : BitVec 32) (r1 : Vec F S64x640 .bf16) (r2 r3 r4 : BitVec 32), (∀ y : S64x640.Idx, r1 y = G xa xb 1 (64 * scat (uu 1 c) 28 + (y 0).val) (y 1).val) → (St xa xb K c ![76, 72, 60] ⊢ Q ⟨r0, r1, r2, r3, r4⟩)) :
    St xa xb K c ![76, 71, 60] ⊢ wpc c (k0_part179 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5899 v5902 v5910 c2_i32_4511) Q := by
  rw [k0_part179_eq_skeleton]; unfold k0_part179_skel
  refine step_deadO 1 (o := rb 1 (scat (uu 1 c) 27)) (off65_1 26 c) fun v5925 => ?_
  refine step_storeO 1 27 (t := 71) (T' := ![76, 72, 60]) rfl (by decide) (by decide) (off65_1 26 c) e5902 ?_
  refine step_loadG 1 (o := fun u => scat u 28) (t := 72) rfl (off64_1 27 c) (by decide +kernel) fun v5929 e5929 => ?_
  exact ret_step (h _ _ _ _ _ e5929)

theorem pt180 {Q : (Σ' (v5956 : Vec F S64x640 .bf16), BitVec 32) → sProp 𝕄} {v5601 v5926 : BitVec 32} {v5929 : Vec F S64x640 .bf16} {v5941 v5943 c4_i32_4537 : BitVec 32}
    (e5929 : (∀ y : S64x640.Idx, v5929 y = G xa xb 1 (64 * scat (uu 1 c) 28 + (y 0).val) (y 1).val))
    (h : ∀ (r0 : Vec F S64x640 .bf16) (r1 : BitVec 32), (∀ y : S64x640.Idx, r0 y = G xa xb 1 (64 * scat (uu 1 c) 29 + (y 0).val) (y 1).val) → (St xa xb K c ![76, 73, 60] ⊢ Q ⟨r0, r1⟩)) :
    St xa xb K c ![76, 72, 60] ⊢ wpc c (k0_part180 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5926 v5929 v5941 v5943 c4_i32_4537) Q := by
  rw [k0_part180_eq_skeleton]; unfold k0_part180_skel
  refine step_deadO 1 (o := rb 1 (scat (uu 1 c) 28)) (off65_1 27 c) fun v5952 => ?_
  refine step_storeO 1 28 (t := 72) (T' := ![76, 73, 60]) rfl (by decide) (by decide) (off65_1 27 c) e5929 ?_
  refine step_loadG 1 (o := fun u => scat u 29) (t := 73) rfl (off64_1 28 c) (by decide +kernel) fun v5956 e5956 => ?_
  exact ret_step (h _ _ e5956)

theorem pt181 {Q : (Σ' (v6007 : BitVec 32), Vec F S64x640 .bf16) → sProp 𝕄} {v5601 : BitVec 32} {v5956 : Vec F S64x640 .bf16} {v5977 : BitVec 32}
    (e5956 : (∀ y : S64x640.Idx, v5956 y = G xa xb 1 (64 * scat (uu 1 c) 29 + (y 0).val) (y 1).val))
    (h : ∀ (r0 : BitVec 32) (r1 : Vec F S64x640 .bf16), (∀ y : S64x640.Idx, r1 y = G xa xb 1 (64 * scat (uu 1 c) 31 + (y 0).val) (y 1).val) → (St xa xb K c ![76, 75, 60] ⊢ Q ⟨r0, r1⟩)) :
    St xa xb K c ![76, 73, 60] ⊢ wpc c (k0_part181 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v5601 v5956 v5977) Q := by
  rw [k0_part181_eq_skeleton]; unfold k0_part181_skel
  refine step_deadO 1 (o := rb 1 (scat (uu 1 c) 29)) (off65_1 28 c) fun v5979 => ?_
  refine step_storeO 1 29 (t := 73) (T' := ![76, 74, 60]) rfl (by decide) (by decide) (off65_1 28 c) e5956 ?_
  refine step_loadG 1 (o := fun u => scat u 30) (t := 74) rfl (off64_1 29 c) (by decide +kernel) fun v5983 e5983 => ?_
  refine step_deadO 1 (o := rb 1 (scat (uu 1 c) 30)) (off65_1 29 c) fun v6006 => ?_
  refine step_storeO 1 30 (t := 74) (T' := ![76, 75, 60]) rfl (by decide) (by decide) (off65_1 29 c) e5983 ?_
  refine step_loadG 1 (o := fun u => scat u 31) (t := 75) rfl (off64_1 30 c) (by decide +kernel) fun v6010 e6010 => ?_
  exact ret_step (h _ _ e6010)

theorem pt182 {Q : (Σ' (v6036 : BitVec 32) (v6037 : BitVec 32) (v6040 : Vec F S64x640 .bf16) (v6042 : BitVec 32), BitVec 32) → sProp 𝕄} {v252 v6007 : BitVec 32} {v6010 : Vec F S64x640 .bf16}
    (e6010 : (∀ y : S64x640.Idx, v6010 y = G xa xb 1 (64 * scat (uu 1 c) 31 + (y 0).val) (y 1).val))
    (h : ∀ (r0 r1 : BitVec 32) (r2 : Vec F S64x640 .bf16) (r3 r4 : BitVec 32), (∀ y : S64x640.Idx, r2 y = G xa xb 2 (64 * scat (uu 2 c) 16 + (y 0).val) (y 1).val) → (St xa xb K c ![76, 76, 60] ⊢ Q ⟨r0, r1, r2, r3, r4⟩)) :
    St xa xb K c ![76, 75, 60] ⊢ wpc c (k0_part182 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v6007 v6010) Q := by
  rw [k0_part182_eq_skeleton]; unfold k0_part182_skel
  refine step_deadO 1 (o := rb 1 (scat (uu 1 c) 31)) (off65_1 30 c) fun v6033 => ?_
  refine step_storeO 1 31 (t := 75) (T' := ![76, 76, 60]) rfl (by decide) (by decide) (off65_1 30 c) e6010 ?_
  refine step_loadG 2 (o := fun u => scat u 16) (t := 60) rfl (off64_2 15 c) (by decide +kernel) fun v6040 e6040 => ?_
  exact ret_step (h _ _ _ _ _ e6040)

theorem pt183 {Q : (Σ' (v6064 : BitVec 32) (v6067 : Vec F S64x640 .bf16) (v6075 : BitVec 32), BitVec 32) → sProp 𝕄} {v6036 v6037 : BitVec 32} {v6040 : Vec F S64x640 .bf16} {v6042 c3_i32_4614 : BitVec 32}
    (e6040 : (∀ y : S64x640.Idx, v6040 y = G xa xb 2 (64 * scat (uu 2 c) 16 + (y 0).val) (y 1).val))
    (h : ∀ (r0 : BitVec 32) (r1 : Vec F S64x640 .bf16) (r2 r3 : BitVec 32), (∀ y : S64x640.Idx, r1 y = G xa xb 2 (64 * scat (uu 2 c) 17 + (y 0).val) (y 1).val) → (St xa xb K c ![76, 76, 61] ⊢ Q ⟨r0, r1, r2, r3⟩)) :
    St xa xb K c ![76, 76, 60] ⊢ wpc c (k0_part183 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6037 v6040 v6042 c3_i32_4614) Q := by
  rw [k0_part183_eq_skeleton]; unfold k0_part183_skel
  refine step_deadO 2 (o := rb 2 (scat (uu 2 c) 16)) (off66_2 15 c) fun v6063 => ?_
  refine step_storeO 2 16 (t := 60) (T' := ![76, 76, 61]) rfl (by decide) (by decide) (off66_2 15 c) e6040 ?_
  refine step_loadG 2 (o := fun u => scat u 17) (t := 61) rfl (off64_2 16 c) (by decide +kernel) fun v6067 e6067 => ?_
  exact ret_step (h _ _ _ _ e6067)

theorem pt184 {Q : (Σ' (v6091 : BitVec 32) (v6094 : Vec F S64x640 .bf16) (v6106 : BitVec 32) (v6108 : BitVec 32), BitVec 32) → sProp 𝕄} {v6036 v6064 : BitVec 32} {v6067 : Vec F S64x640 .bf16} {v6075 c2_i32_4640 : BitVec 32}
    (e6067 : (∀ y : S64x640.Idx, v6067 y = G xa xb 2 (64 * scat (uu 2 c) 17 + (y 0).val) (y 1).val))
    (h : ∀ (r0 : BitVec 32) (r1 : Vec F S64x640 .bf16) (r2 r3 r4 : BitVec 32), (∀ y : S64x640.Idx, r1 y = G xa xb 2 (64 * scat (uu 2 c) 18 + (y 0).val) (y 1).val) → (St xa xb K c ![76, 76, 62] ⊢ Q ⟨r0, r1, r2, r3, r4⟩)) :
    St xa xb K c ![76, 76, 61] ⊢ wpc c (k0_part184 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6064 v6067 v6075 c2_i32_4640) Q := by
  rw [k0_part184_eq_skeleton]; unfold k0_part184_skel
  refine step_deadO 2 (o := rb 2 (scat (uu 2 c) 17)) (off66_2 16 c) fun v6090 => ?_
  refine step_storeO 2 17 (t := 61) (T' := ![76, 76, 62]) rfl (by decide) (by decide) (off66_2 16 c) e6067 ?_
  refine step_loadG 2 (o := fun u => scat u 18) (t := 62) rfl (off64_2 17 c) (by decide +kernel) fun v6094 e6094 => ?_
  exact ret_step (h _ _ _ _ _ e6094)

theorem pt185 {Q : (Σ' (v6121 : Vec F S64x640 .bf16), BitVec 32) → sProp 𝕄} {v6036 v6091 : BitVec 32} {v6094 : Vec F S64x640 .bf16} {v6106 v6108 c8_i32_4666 : BitVec 32}
    (e6094 : (∀ y : S64x640.Idx, v6094 y = G xa xb 2 (64 * scat (uu 2 c) 18 + (y 0).val) (y 1).val))
    (h : ∀ (r0 : Vec F S64x640 .bf16) (r1 : BitVec 32), (∀ y : S64x640.Idx, r0 y = G xa xb 2 (64 * scat (uu 2 c) 19 + (y 0).val) (y 1).val) → (St xa xb K c ![76, 76, 63] ⊢ Q ⟨r0, r1⟩)) :
    St xa xb K c ![76, 76, 62] ⊢ wpc c (k0_part185 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6091 v6094 v6106 v6108 c8_i32_4666) Q := by
  rw [k0_part185_eq_skeleton]; unfold k0_part185_skel
  refine step_deadO 2 (o := rb 2 (scat (uu 2 c) 18)) (off66_2 17 c) fun v6117 => ?_
  refine step_storeO 2 18 (t := 62) (T' := ![76, 76, 63]) rfl (by decide) (by decide) (off66_2 17 c) e6094 ?_
  refine step_loadG 2 (o := fun u => scat u 19) (t := 63) rfl (off64_2 18 c) (by decide +kernel) fun v6121 e6121 => ?_
  exact ret_step (h _ _ e6121)

theorem pt186 {Q : (Σ' (v6172 : BitVec 32), Vec F S64x640 .bf16) → sProp 𝕄} {v6036 : BitVec 32} {v6121 : Vec F S64x640 .bf16} {v6142 : BitVec 32}
    (e6121 : (∀ y : S64x640.Idx, v6121 y = G xa xb 2 (64 * scat (uu 2 c) 19 + (y 0).val) (y 1).val))
    (h : ∀ (r0 : BitVec 32) (r1 : Vec F S64x640 .bf16), (∀ y : S64x640.Idx, r1 y = G xa xb 2 (64 * scat (uu 2 c) 21 + (y 0).val) (y 1).val) → (St xa xb K c ![76, 76, 65] ⊢ Q ⟨r0, r1⟩)) :
    St xa xb K c ![76, 76, 63] ⊢ wpc c (k0_part186 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6121 v6142) Q := by
  rw [k0_part186_eq_skeleton]; unfold k0_part186_skel
  refine step_deadO 2 (o := rb 2 (scat (uu 2 c) 19)) (off66_2 18 c) fun v6144 => ?_
  refine step_storeO 2 19 (t := 63) (T' := ![76, 76, 64]) rfl (by decide) (by decide) (off66_2 18 c) e6121 ?_
  refine step_loadG 2 (o := fun u => scat u 20) (t := 64) rfl (off64_2 19 c) (by decide +kernel) fun v6148 e6148 => ?_
  refine step_deadO 2 (o := rb 2 (scat (uu 2 c) 20)) (off66_2 19 c) fun v6171 => ?_
  refine step_storeO 2 20 (t := 64) (T' := ![76, 76, 65]) rfl (by decide) (by decide) (off66_2 19 c) e6148 ?_
  refine step_loadG 2 (o := fun u => scat u 21) (t := 65) rfl (off64_2 20 c) (by decide +kernel) fun v6175 e6175 => ?_
  exact ret_step (h _ _ e6175)

theorem pt187 {Q : (Σ' (v6199 : BitVec 32) (v6202 : Vec F S64x640 .bf16) (v6206 : BitVec 32) (v6207 : BitVec 32), BitVec 32) → sProp 𝕄} {v6036 v6172 : BitVec 32} {v6175 : Vec F S64x640 .bf16}
    (e6175 : (∀ y : S64x640.Idx, v6175 y = G xa xb 2 (64 * scat (uu 2 c) 21 + (y 0).val) (y 1).val))
    (h : ∀ (r0 : BitVec 32) (r1 : Vec F S64x640 .bf16) (r2 r3 r4 : BitVec 32), (∀ y : S64x640.Idx, r1 y = G xa xb 2 (64 * scat (uu 2 c) 22 + (y 0).val) (y 1).val) → (St xa xb K c ![76, 76, 66] ⊢ Q ⟨r0, r1, r2, r3, r4⟩)) :
    St xa xb K c ![76, 76, 65] ⊢ wpc c (k0_part187 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6172 v6175) Q := by
  rw [k0_part187_eq_skeleton]; unfold k0_part187_skel
  refine step_deadO 2 (o := rb 2 (scat (uu 2 c) 21)) (off66_2 20 c) fun v6198 => ?_
  refine step_storeO 2 21 (t := 65) (T' := ![76, 76, 66]) rfl (by decide) (by decide) (off66_2 20 c) e6175 ?_
  refine step_loadG 2 (o := fun u => scat u 22) (t := 66) rfl (off64_2 21 c) (by decide +kernel) fun v6202 e6202 => ?_
  exact ret_step (h _ _ _ _ _ e6202)

theorem pt188 {Q : (Σ' (v6226 : BitVec 32) (v6229 : Vec F S64x640 .bf16), BitVec 32) → sProp 𝕄} {v6036 v6199 : BitVec 32} {v6202 : Vec F S64x640 .bf16} {v6206 v6207 c1_i32_4743 : BitVec 32}
    (e6202 : (∀ y : S64x640.Idx, v6202 y = G xa xb 2 (64 * scat (uu 2 c) 22 + (y 0).val) (y 1).val))
    (h : ∀ (r0 : BitVec 32) (r1 : Vec F S64x640 .bf16) (r2 : BitVec 32), (∀ y : S64x640.Idx, r1 y = G xa xb 2 (64 * scat (uu 2 c) 23 + (y 0).val) (y 1).val) → (St xa xb K c ![76, 76, 67] ⊢ Q ⟨r0, r1, r2⟩)) :
    St xa xb K c ![76, 76, 66] ⊢ wpc c (k0_part188 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6199 v6202 v6206 v6207 c1_i32_4743) Q := by
  rw [k0_part188_eq_skeleton]; unfold k0_part188_skel
  refine step_deadO 2 (o := rb 2 (scat (uu 2 c) 22)) (off66_2 21 c) fun v6225 => ?_
  refine step_storeO 2 22 (t := 66) (T' := ![76, 76, 67]) rfl (by decide) (by decide) (off66_2 21 c) e6202 ?_
  refine step_loadG 2 (o := fun u => scat u 23) (t := 67) rfl (off64_2 22 c) (by decide +kernel) fun v6229 e6229 => ?_
  exact ret_step (h _ _ _ e6229)

theorem pt189 {Q : (Σ' (v6256 : Vec F S64x640 .bf16) (v6272 : BitVec 32), BitVec 32) → sProp 𝕄} {v6036 v6226 : BitVec 32} {v6229 : Vec F S64x640 .bf16} {v6241 : BitVec 32}
    (e6229 : (∀ y : S64x640.Idx, v6229 y = G xa xb 2 (64 * scat (uu 2 c) 23 + (y 0).val) (y 1).val))
    (h : ∀ (r0 : Vec F S64x640 .bf16) (r1 r2 : BitVec 32), (∀ y : S64x640.Idx, r0 y = G xa xb 2 (64 * scat (uu 2 c) 24 + (y 0).val) (y 1).val) → (St xa xb K c ![76, 76, 68] ⊢ Q ⟨r0, r1, r2⟩)) :
    St xa xb K c ![76, 76, 67] ⊢ wpc c (k0_part189 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6226 v6229 v6241) Q := by
  rw [k0_part189_eq_skeleton]; unfold k0_part189_skel
  refine step_deadO 2 (o := rb 2 (scat (uu 2 c) 23)) (off66_2 22 c) fun v6252 => ?_
  refine step_storeO 2 23 (t := 67) (T' := ![76, 76, 68]) rfl (by decide) (by decide) (off66_2 22 c) e6229 ?_
  refine step_loadG 2 (o := fun u => scat u 24) (t := 68) rfl (off64_2 23 c) (by decide +kernel) fun v6256 e6256 => ?_
  exact ret_step (h _ _ _ e6256)

theorem pt190 {Q : (BitVec 32) → sProp 𝕄} {v6036 : BitVec 32} {v6256 : Vec F S64x640 .bf16} {v6272 v6274 : BitVec 32}
    (e6256 : (∀ y : S64x640.Idx, v6256 y = G xa xb 2 (64 * scat (uu 2 c) 24 + (y 0).val) (y 1).val))
    (h : ∀ (r0 : BitVec 32), (St xa xb K c ![76, 76, 70] ⊢ Q r0)) :
    St xa xb K c ![76, 76, 68] ⊢ wpc c (k0_part190 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6256 v6272 v6274) Q := by
  rw [k0_part190_eq_skeleton]; unfold k0_part190_skel
  refine step_deadO 2 (o := rb 2 (scat (uu 2 c) 24)) (off66_2 23 c) fun v6279 => ?_
  refine step_storeO 2 24 (t := 68) (T' := ![76, 76, 69]) rfl (by decide) (by decide) (off66_2 23 c) e6256 ?_
  refine step_loadG 2 (o := fun u => scat u 25) (t := 69) rfl (off64_2 24 c) (by decide +kernel) fun v6283 e6283 => ?_
  refine step_deadO 2 (o := rb 2 (scat (uu 2 c) 25)) (off66_2 24 c) fun v6306 => ?_
  refine step_storeO 2 25 (t := 69) (T' := ![76, 76, 70]) rfl (by decide) (by decide) (off66_2 24 c) e6283 ?_
  exact ret_step (h _)

theorem pt191 {Q : (Σ' (v6334 : BitVec 32) (v6337 : Vec F S64x640 .bf16), BitVec 32) → sProp 𝕄} {v6036 v6307 : BitVec 32}
    (h : ∀ (r0 : BitVec 32) (r1 : Vec F S64x640 .bf16) (r2 : BitVec 32), (∀ y : S64x640.Idx, r1 y = G xa xb 2 (64 * scat (uu 2 c) 27 + (y 0).val) (y 1).val) → (St xa xb K c ![76, 76, 71] ⊢ Q ⟨r0, r1, r2⟩)) :
    St xa xb K c ![76, 76, 70] ⊢ wpc c (k0_part191 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6307) Q := by
  rw [k0_part191_eq_skeleton]; unfold k0_part191_skel
  refine step_loadG 2 (o := fun u => scat u 26) (t := 70) rfl (off64_2 25 c) (by decide +kernel) fun v6310 e6310 => ?_
  refine step_deadO 2 (o := rb 2 (scat (uu 2 c) 26)) (off66_2 25 c) fun v6333 => ?_
  refine step_storeO 2 26 (t := 70) (T' := ![76, 76, 71]) rfl (by decide) (by decide) (off66_2 25 c) e6310 ?_
  refine step_loadG 2 (o := fun u => scat u 27) (t := 71) rfl (off64_2 26 c) (by decide +kernel) fun v6337 e6337 => ?_
  exact ret_step (h _ _ _ e6337)

theorem pt192 {Q : (Σ' (v6361 : BitVec 32) (v6364 : Vec F S64x640 .bf16) (v6372 : BitVec 32), BitVec 32) → sProp 𝕄} {v6036 v6334 : BitVec 32} {v6337 : Vec F S64x640 .bf16} {v6340 : BitVec 32}
    (e6337 : (∀ y : S64x640.Idx, v6337 y = G xa xb 2 (64 * scat (uu 2 c) 27 + (y 0).val) (y 1).val))
    (h : ∀ (r0 : BitVec 32) (r1 : Vec F S64x640 .bf16) (r2 r3 : BitVec 32), (∀ y : S64x640.Idx, r1 y = G xa xb 2 (64 * scat (uu 2 c) 28 + (y 0).val) (y 1).val) → (St xa xb K c ![76, 76, 72] ⊢ Q ⟨r0, r1, r2, r3⟩)) :
    St xa xb K c ![76, 76, 71] ⊢ wpc c (k0_part192 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6334 v6337 v6340) Q := by
  rw [k0_part192_eq_skeleton]; unfold k0_part192_skel
  refine step_deadO 2 (o := rb 2 (scat (uu 2 c) 27)) (off66_2 26 c) fun v6360 => ?_
  refine step_storeO 2 27 (t := 71) (T' := ![76, 76, 72]) rfl (by decide) (by decide) (off66_2 26 c) e6337 ?_
  refine step_loadG 2 (o := fun u => scat u 28) (t := 72) rfl (off64_2 27 c) (by decide +kernel) fun v6364 e6364 => ?_
  exact ret_step (h _ _ _ _ e6364)

theorem pt193 {Q : (Σ' (v6388 : BitVec 32) (v6391 : Vec F S64x640 .bf16) (v6403 : BitVec 32), BitVec 32) → sProp 𝕄} {v6036 v6361 : BitVec 32} {v6364 : Vec F S64x640 .bf16} {v6372 v6373 : BitVec 32}
    (e6364 : (∀ y : S64x640.Idx, v6364 y = G xa xb 2 (64 * scat (uu 2 c) 28 + (y 0).val) (y 1).val))
    (h : ∀ (r0 : BitVec 32) (r1 : Vec F S64x640 .bf16) (r2 r3 : BitVec 32), (∀ y : S64x640.Idx, r1 y = G xa xb 2 (64 * scat (uu 2 c) 29 + (y 0).val) (y 1).val) → (St xa xb K c ![76, 76, 73] ⊢ Q ⟨r0, r1, r2, r3⟩)) :
    St xa xb K c ![76, 76, 72] ⊢ wpc c (k0_part193 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6361 v6364 v6372 v6373) Q := by
  rw [k0_part193_eq_skeleton]; unfold k0_part193_skel
  refine step_deadO 2 (o := rb 2 (scat (uu 2 c) 28)) (off66_2 27 c) fun v6387 => ?_
  refine step_storeO 2 28 (t := 72) (T' := ![76, 76, 73]) rfl (by decide) (by decide) (off66_2 27 c) e6364 ?_
  refine step_loadG 2 (o := fun u => scat u 29) (t := 73) rfl (off64_2 28 c) (by decide +kernel) fun v6391 e6391 => ?_
  exact ret_step (h _ _ _ _ e6391)

theorem pt194 {Q : (Vec F S64x640 .bf16) → sProp 𝕄} {v6036 v6388 : BitVec 32} {v6391 : Vec F S64x640 .bf16} {v6403 v6406 : BitVec 32}
    (e6391 : (∀ y : S64x640.Idx, v6391 y = G xa xb 2 (64 * scat (uu 2 c) 29 + (y 0).val) (y 1).val))
    (h : ∀ (r0 : Vec F S64x640 .bf16), (∀ y : S64x640.Idx, r0 y = G xa xb 2 (64 * scat (uu 2 c) 30 + (y 0).val) (y 1).val) → (St xa xb K c ![76, 76, 74] ⊢ Q r0)) :
    St xa xb K c ![76, 76, 73] ⊢ wpc c (k0_part194 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v6036 v6388 v6391 v6403 v6406) Q := by
  rw [k0_part194_eq_skeleton]; unfold k0_part194_skel
  refine step_deadO 2 (o := rb 2 (scat (uu 2 c) 29)) (off66_2 28 c) fun v6414 => ?_
  refine step_storeO 2 29 (t := 73) (T' := ![76, 76, 74]) rfl (by decide) (by decide) (off66_2 28 c) e6391 ?_
  refine step_loadG 2 (o := fun u => scat u 30) (t := 74) rfl (off64_2 29 c) (by decide +kernel) fun v6418 e6418 => ?_
  exact ret_step (h _ e6418)

end Cert.Cube

end
-- ==== Proof.Level3.lean ====
/-
# The kernel, pieces 121 to 180 in a row

These pieces of the kernel one after the other.
-/
module

public import proofs.«01_k».proof.Proof.Parts4
public import proofs.«01_k».proof.Proof.Parts5
public import proofs.«01_k».proof.Proof.Parts6

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt197 {Q : (Σ' (v5601 : BitVec 32) (v5956 : Vec F S64x640 .bf16), BitVec 32) → sProp 𝕄} {v52 v53 v54 v152 v153 v154 v155 v252 v253 v254 v255 : BitVec 32}
    (h : ∀ (v5601 : BitVec 32) (v5956 : Vec F S64x640 .bf16) (v5977 : BitVec 32), (∀ y : S64x640.Idx, v5956 y = G xa xb 1 (64 * scat (uu 1 c) 29 + (y 0).val) (y 1).val) → (St xa xb K c ![76, 73, 60] ⊢ Q ⟨v5601, v5956, v5977⟩)) :
    St xa xb K c ![40, 40, 40] ⊢ wpc c (k0_part197 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v52 v53 v54 v152 v153 v154 v155 v252 v253 v254 v255) Q := by
  rw [k0_part197_eq_skeleton]; unfold k0_part197_skel
  refine cut (pt121 (fun c1_i32_3036 => ?_))
  refine cut (pt122 ?_)
  refine cut (pt123 (fun v4083 v4111 v4112 => ?_))
  refine cut (pt124 (fun v4138 v4141 v4145 e4141 => ?_))
  refine cut (pt125 e4141 (fun v4165 v4168 v4176 v4178 e4168 => ?_))
  refine cut (pt126 e4168 (fun v4194 v4195 v4198 v4210 v4211 e4198 => ?_))
  refine cut (pt127 e4198 (fun v4225 v4241 v4244 e4225 => ?_))
  refine cut (pt128 e4225 (fun v4276 v4277 => ?_))
  refine cut (pt129 (fun v4305 v4306 v4309 v4310 e4309 => ?_))
  refine cut (pt130 e4309 (fun v4333 v4336 v4340 v4342 c4_i32_3271 e4336 => ?_))
  refine cut (pt131 e4336 (fun v4360 v4363 v4375 v4376 e4363 => ?_))
  refine cut (pt132 e4363 (fun v4390 v4406 v4409 e4390 => ?_))
  refine cut (pt133 e4390 ?_)
  refine cut (pt134 ?_)
  refine cut (pt135 (fun v4479 v4480 v4483 v4495 v4498 e4483 => ?_))
  refine cut (pt136 e4483 (fun v4510 e4510 => ?_))
  refine cut (pt137 e4510 (fun v4561 v4564 c4_i32_3451 e4564 => ?_))
  refine cut (pt138 e4564 (fun v4588 v4591 v4595 v4597 e4591 => ?_))
  refine cut (pt139 e4591 (fun v4615 v4618 v4630 c1_i32_3503 e4618 => ?_))
  refine cut (pt140 e4618 (fun v4645 v4661 v4663 c4_i32_3529 e4645 => ?_))
  refine cut (pt141 e4645 (fun v4696 c3_i32_3554 => ?_))
  refine cut (pt142 (fun v4698 v4726 v4729 c4_i32_3580 e4729 => ?_))
  refine cut (pt143 e4729 (fun v4753 v4756 v4760 v4762 e4756 => ?_))
  refine cut (pt144 e4756 (fun v4780 v4783 v4795 c1_i32_3632 e4783 => ?_))
  refine cut (pt145 e4783 (fun v4810 v4826 v4828 c2_i32_3658 e4810 => ?_))
  refine cut (pt146 e4810 (fun v4861 c64_i32_3683 => ?_))
  refine cut (pt147 (fun v4888 v4891 v4894 c0_i32_3709 e4891 => ?_))
  refine cut (pt148 e4891 (fun v4917 v4918 v4921 v4925 v4927 e4921 => ?_))
  refine cut (pt149 e4921 (fun v4945 v4948 v4960 c1_i32_3761 e4948 => ?_))
  refine cut (pt150 e4948 (fun v4975 v4991 v4993 c16_i32_3787 e4975 => ?_))
  refine cut (pt151 e4975 (fun v5026 c64_i32_3812 => ?_))
  refine cut (pt152 (fun v5053 v5056 v5059 c0_i32_3838 e5056 => ?_))
  refine cut (pt153 e5056 (fun v5080 v5083 v5091 v5092 c1_i32_3864 e5083 => ?_))
  refine cut (pt154 e5083 (fun v5107 v5110 v5126 e5110 => ?_))
  refine cut (pt155 e5110 ?_)
  refine cut (pt156 (fun v5166 v5167 v5170 v5182 v5183 c1_i32_3945 e5170 => ?_))
  refine cut (pt157 e5170 (fun v5197 v5217 e5197 => ?_))
  refine cut (pt158 e5197 (fun v5248 => ?_))
  refine cut (pt159 (fun v5275 v5278 v5282 c3_i32_4022 e5278 => ?_))
  refine cut (pt160 e5278 (fun v5302 v5305 v5313 v5315 c2_i32_4048 e5305 => ?_))
  refine cut (pt161 e5305 (fun v5332 v5348 v5349 e5332 => ?_))
  refine cut (pt162 e5332 ?_)
  refine cut (pt163 (fun v5410 v5413 v5415 e5413 => ?_))
  refine cut (pt164 e5413 (fun v5437 v5440 v5448 e5440 => ?_))
  refine cut (pt165 e5440 (fun v5464 v5467 v5479 v5481 e5467 => ?_))
  refine cut (pt166 e5467 (fun v5494 v5514 c64_i32_4202 e5494 => ?_))
  refine cut (pt167 e5494 (fun v5545 => ?_))
  refine cut (pt168 (fun v5572 v5575 v5579 v5580 e5575 => ?_))
  refine cut (pt169 e5575 (fun v5601 v5602 v5605 v5613 e5605 => ?_))
  refine cut (pt170 e5605 (fun v5629 v5632 v5644 v5646 e5632 => ?_))
  refine cut (pt171 e5632 (fun v5659 v5679 c64_i32_4331 e5659 => ?_))
  refine cut (pt172 e5659 (fun v5710 => ?_))
  refine cut (pt173 (fun v5737 v5740 v5744 v5745 e5740 => ?_))
  refine cut (pt174 e5740 (fun v5764 v5767 v5775 v5778 e5767 => ?_))
  refine cut (pt175 e5767 (fun v5794 v5810 v5811 c1_i32_4434 e5794 => ?_))
  refine cut (pt176 e5794 (fun c9_i32_4459 => ?_))
  refine cut (pt177 (fun v5872 v5875 v5877 c8_i32_4485 e5875 => ?_))
  refine cut (pt178 e5875 (fun v5899 v5902 v5910 c2_i32_4511 e5902 => ?_))
  refine cut (pt179 e5902 (fun v5926 v5929 v5941 v5943 c4_i32_4537 e5929 => ?_))
  refine cut (pt180 e5929 (fun v5956 v5977 e5956 => ?_))
  exact ret_step (h _ _ _ e5956)

end Cert.Cube

end
-- ==== Proof.Level4.lean ====
/-
# The kernel, pieces 181 to 194 in a row

These pieces of the kernel one after the other.
-/
module

public import proofs.«01_k».proof.Proof.Parts6

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

theorem pt198 {Q : (Σ' (v6445 : Vec F S64x640 .bf16), BitVec 32) → sProp 𝕄} {v252 v5601 : BitVec 32} {v5956 : Vec F S64x640 .bf16} {v5977 : BitVec 32}
    (e5956 : (∀ y : S64x640.Idx, v5956 y = G xa xb 1 (64 * scat (uu 1 c) 29 + (y 0).val) (y 1).val))
    (h : ∀ (v6445 : Vec F S64x640 .bf16) (v6465 : BitVec 32), (∀ y : S64x640.Idx, v6445 y = G xa xb 2 (64 * scat (uu 2 c) 31 + (y 0).val) (y 1).val) → (St xa xb K c ![76, 76, 75] ⊢ Q ⟨v6445, v6465⟩)) :
    St xa xb K c ![76, 73, 60] ⊢ wpc c (k0_part198 aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10 c v252 v5601 v5956 v5977) Q := by
  rw [k0_part198_eq_skeleton]; unfold k0_part198_skel
  refine cut (pt181 e5956 (fun v6007 v6010 e6010 => ?_))
  refine cut (pt182 e6010 (fun v6036 v6037 v6040 v6042 c3_i32_4614 e6040 => ?_))
  refine cut (pt183 e6040 (fun v6064 v6067 v6075 c2_i32_4640 e6067 => ?_))
  refine cut (pt184 e6067 (fun v6091 v6094 v6106 v6108 c8_i32_4666 e6094 => ?_))
  refine cut (pt185 e6094 (fun v6121 v6142 e6121 => ?_))
  refine cut (pt186 e6121 (fun v6172 v6175 e6175 => ?_))
  refine cut (pt187 e6175 (fun v6199 v6202 v6206 v6207 c1_i32_4743 e6202 => ?_))
  refine cut (pt188 e6202 (fun v6226 v6229 v6241 e6229 => ?_))
  refine cut (pt189 e6229 (fun v6256 v6272 v6274 e6256 => ?_))
  refine cut (pt190 e6256 (fun v6307 => ?_))
  refine cut (pt191 (fun v6334 v6337 v6340 e6337 => ?_))
  refine cut (pt192 e6337 (fun v6361 v6364 v6372 v6373 e6364 => ?_))
  refine cut (pt193 e6364 (fun v6388 v6391 v6403 v6406 e6391 => ?_))
  refine cut (pt194 e6391 (fun v6418 e6418 => ?_))
  refine step_deadO 2 (o := rb 2 (scat (uu 2 c) 30)) (off66_2 29 c) fun v6441 => ?_
  refine step_storeO 2 30 (t := 74) (T' := ![76, 76, 75]) rfl (by decide) (by decide) (off66_2 29 c) e6418 ?_
  refine step_loadG 2 (o := fun u => scat u 31) (t := 75) rfl (off64_2 30 c) (by decide +kernel) fun v6445 e6445 => ?_
  exact ret_step (h _ _ e6445)

end Cert.Cube

end
-- ==== Proof.Walk.lean ====
/-
# The kernel as a whole

The kernel walked from the start of the barrier to the last store.
-/
module

public import proofs.«01_k».proof.Proof.Level1
public import proofs.«01_k».proof.Proof.Level2
public import proofs.«01_k».proof.Proof.Level3
public import proofs.«01_k».proof.Proof.Level4

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD}

/-- From what the device holds once its partners are ready the kernel goes on with the closed cell of the barrier carried along. -/
theorem keep_bar {α : Type} {P : sProp 𝕄} {Q : α → sProp 𝕄} {p : Prog (TpuEff nD τ sig (Elt F) Λ₀ .tc) α}
    (h : P ⊢ wpc c p (fun r => iprop(semVal (barC c) 0 -∗ Q r))) : P ⊢ iprop(semVal (barC c) 0 -∗ wpc c p Q) := by
  iintro HP Hz
  iapply (wp_wand_r frame (wpE (defs₀ (F := F)) 𝒱₀ (c : Thread nD τ) none) Set.univ (Q := fun r => iprop(semVal (barC c) 0 -∗ Q r)))
  isplitl [HP]
  · iapply h; iexact HP
  · iintro %r HQ
    iapply HQ; iexact Hz

/-- The whole kernel, from the start of the barrier to the last store. -/
theorem body_walk {R : sProp 𝕄} {Q : PUnit → sProp 𝕄}
    (hR : (bigSep Finset.univ fun i : Fin 6 => barP (F := F) c i) ∗ R ⊢ aP xa c ∗ bP xb c ∗ bigSep Finset.univ fun k : Fin 3 => PSt xa xb k c 0)
    (hQ : St xa xb K c ![76, 76, 76] ⊢ semVal (barC c) 0 -∗ Q ⟨⟩) :
    Bt xa xb K R c 0 ⊢ wpc c (cc0_body aM wA bM wB oM wO (pM 0) (wP 0) (pM 1) (wP 1) (pM 2) (wP 2) (rsM 0) (wR 0) (rsM 1) (wR 1) (rsM 2) (wR 2) (gM 0) (wG 0) (gM 1) (wG 1) (gM 2) (wG 2) cc0_scratch9 cc0_scratch10) Q := by
  rw [cc0_body_eq_skeleton]; unfold cc0_body_skel
  refine cut ?_
  refine pt195 hR ?_
  intros
  dsimp only
  refine keep_bar ?_
  refine cut ?_
  apply pt196
  refine cut (pt197 (fun v5601 v5956 v5977 e5956 => ?_))
  refine cut (pt198 e5956 (fun v6445 v6465 e6445 => ?_))
  refine step_deadO 2 (o := rb 2 (scat (uu 2 c) 31)) (off66_2 30 c) fun v6468 => ?_
  refine step_storeO 2 31 (t := 75) (T' := ![76, 76, 76]) rfl (by decide) (by decide) (off66_2 30 c) e6445 ?_
  exact ret_step hQ

end Cert.Cube

end
-- ==== Proof.Start.lean ====
/-
# The two ends of the kernel

What a device holds before its first signal, taken apart from its whole buffers, and what its state after the last store
comes back to.
-/
module

public import proofs.«01_k».proof.Proof.Walk

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16} {K : Dev nD × Option OK → ℕ}
variable {c : Dev nD} {k : Fin 3}

omit [FloatOps F] in
theorem each {I : Type} {s : Finset I} {Φ Ψ : I → sProp 𝕄} (h : ∀ i ∈ s, Φ i ⊢ Ψ i) : bigSep s Φ ⊢ bigSep s Ψ := bigSep_mono h

/-! ## The landing regions dealt by mask and by transfer -/

theorem mask_of : ∀ x : Fin 3 × Fin 10, ∃ i₀ : Fin 6, ∀ i : Fin 6, pm x.1 x.2 = mks i ↔ i = i₀ := by decide +kernel

omit [FloatOps F] in
theorem deal_masks {Ψ : Fin 6 → Fin 3 × Fin 10 → sProp 𝕄} {Θ : Fin 3 × Fin 10 → sProp 𝕄} (h : ∀ (i : Fin 6) (x : Fin 3 × Fin 10), pm x.1 x.2 = mks i → Ψ i x = Θ x) :
    (bigSep Finset.univ fun i : Fin 6 => bigSep (Finset.univ.filter fun x : Fin 3 × Fin 10 => pm x.1 x.2 = mks i) (Ψ i))
      = bigSep Finset.univ fun k : Fin 3 => bigSep Finset.univ fun s : Fin 10 => Θ (k, s) := by
  rw [← bigSep_univ_prod Θ]
  rw [bigSep_congr fun (i : Fin 6) _ => bigSep_filter Finset.univ (fun x : Fin 3 × Fin 10 => pm x.1 x.2 = mks i) (Ψ i), bigSep_univ_comm]
  refine bigSep_congr fun x _ => ?_
  obtain ⟨i₀, hi⟩ := mask_of x
  have e := bigSep_filter (Finset.univ : Finset (Fin 6)) (fun i => i = i₀) (fun _ => Θ x)
  rw [Finset.filter_eq', if_pos (Finset.mem_univ _), bigSep_singleton] at e
  refine Eq.trans (bigSep_congr fun i _ => ?_) e.symm
  by_cases hx : pm x.1 x.2 = mks i
  · rw [if_pos hx, if_pos ((hi i).mp hx)]; exact h i x hx
  · rw [if_neg hx, if_neg fun h => hx ((hi i).mpr h)]

omit [FloatOps F] in
/-- What the device's partners let it land in. -/
theorem lands_got : (bigSep Finset.univ fun i : Fin 6 => barP (F := F) c i)
    = bigSep Finset.univ fun k : Fin 3 => bigSep Finset.univ fun s : Fin 10 => landG (F := F) (px k s c) k s :=
  deal_masks (Ψ := fun i x => landG (F := F) (mx i c) x.1 x.2) (Θ := fun x => landG (F := F) (px x.1 x.2 c) x.1 x.2) fun i x hx => by
    rw [show mx i c = px x.1 x.2 c from by unfold mx px; simp only [hx]]

omit [FloatOps F] in
/-- What the device lets its partners land in. -/
theorem lands_given : (bigSep Finset.univ fun i : Fin 6 => barP (F := F) (mx i c) i)
    = bigSep Finset.univ fun k : Fin 3 => bigSep Finset.univ fun s : Fin 10 => landG (F := F) c k s :=
  deal_masks (Ψ := fun i x => landG (F := F) (mx i (mx i c)) x.1 x.2) (Θ := fun x => landG (F := F) c x.1 x.2) fun i x hx => by rw [mx_mx]

/-! ## Buffers taken apart -/

theorem rows_all {a b : ℕ} {p : ℕ → Bool} (h : ∀ v, p v = true) : (rows p : Finset (⟨2, ![a, b]⟩ : Shape).Idx) = Finset.univ := by
  ext x; rw [mem_rows]; exact ⟨fun _ => Finset.mem_univ _, fun _ => h _⟩
theorem getD_cls {l : List Bool} (h : ∀ i : Fin 6, l.getD i false = true) (u v : ℕ) : l.getD (cls u v) false = true := h ⟨_, cls_lt u v⟩
theorem getD_reg {l : List Bool} (h : ∀ i : Fin 5, l.getD i false = true) (v : ℕ) : l.getD (reg v) false = true := h ⟨_, reg_lt v⟩

omit [FloatOps F] in
/-- The rows of the last class apart from the rows of the classes below. -/
theorem class_split {sp : Space} {a b : ℕ} {e : EltTy} {m : Memref sig .tc sp (⟨2, ![a, b]⟩ : Shape) e} {q : PosShare TreeShare}
    {R : (⟨2, ![a, b]⟩ : Shape).Idx → Elt F e → Prop} (f : ℕ → ℕ) (n : ℕ) :
    (holds c m (rows fun v => decide (f v < n + 1)) q R : sProp 𝕄)
      ⊢ iprop(holds c m (rows fun v => decide (f v < n)) q R ∗ holds c m (rows fun v => decide (f v = n)) q R) := by
  have e : (rows fun v => decide (f v < n + 1)) = (rows (fun v => decide (f v < n)) : Finset (⟨2, ![a, b]⟩ : Shape).Idx) ∪ rows fun v => decide (f v = n) := by
    ext x; rw [Finset.mem_union, mem_rows, mem_rows, mem_rows, decide_eq_true_eq, decide_eq_true_eq, decide_eq_true_eq]; omega
  rw [e]
  refine holds_split ?_
  rw [Finset.disjoint_left]
  intro x hp hq
  rw [mem_rows, decide_eq_true_eq] at hp hq
  omega

/-- Any contents. -/
abbrev free (c : Dev nD) {sp : Space} {s : Shape} {e : EltTy} (m : Memref sig .tc sp s e) : sProp 𝕄 := holds c m Finset.univ fullShare fun _ _ => True

omit [FloatOps F] in
theorem class_top {sp : Space} {a b : ℕ} {e : EltTy} {m : Memref sig .tc sp (⟨2, ![a, b]⟩ : Shape) e} (f : ℕ → ℕ) (n : ℕ) (h : ∀ v, f v < n) :
    (free (F := F) c m) ⊢ holds c m (rows fun v => decide (f v < n)) fullShare fun _ _ => True :=
  holds_congr (rows_all fun v => decide_eq_true (h v)).symm fun _ _ _ h => h

omit [FloatOps F] in
theorem put_r (n : ℕ) (s : Fin 10) (hn : s.val = n) (h : n < 5) :
    (holds c (rsM k) (rows fun i => decide (reg i = n)) fullShare (fun _ _ => True) : sProp 𝕄) ⊢ landG (F := F) c k s := by
  subst hn; exact Entails.of_eq (if_pos h).symm
omit [FloatOps F] in
theorem put_g (n : ℕ) (s : Fin 10) (hn : s.val - 4 = n) (h : ¬ s.val < 5) :
    (holds c (gM k) (rows fun v => decide (cls (uu k c) v = n)) fullShare (fun _ _ => True) : sProp 𝕄) ⊢ landG (F := F) c k s := by
  subst hn; exact Entails.of_eq (if_neg h).symm

theorem lands_r : free (F := F) c (rsM k) ⊢ iprop(rP xa xb k c (ownRv 0) ∗ landG (F := F) c k 0 ∗ landG (F := F) c k 1 ∗ landG (F := F) c k 2 ∗ landG (F := F) c k 3 ∗ landG (F := F) c k 4) := by
  refine (class_top reg 5 reg_lt).trans ?_
  iintro H
  ihave ⟨H, H4⟩ := (class_split reg 4) $$ H
  ihave ⟨H, H3⟩ := (class_split reg 3) $$ H
  ihave ⟨H, H2⟩ := (class_split reg 2) $$ H
  ihave ⟨H, H1⟩ := (class_split reg 1) $$ H
  ihave ⟨H, H0⟩ := (class_split reg 0) $$ H
  isplitl [H]
  · unfold rP
    have e : ∀ i : Fin 5, (ownRv 0).getD i false = false := by decide
    have he : (rows (fun v => decide (reg v < 0)) : Finset (SR k).Idx) = rows fun i => (ownRv 0).getD (reg i) false :=
      rows_congr (a := 1984) (n := 31) rfl fun v _ => (decide_eq_false (Nat.not_lt_zero _)).trans (e ⟨_, reg_lt v⟩).symm
    iapply (holds_congr (c := c) (m := rsM k) (q := fullShare) (R := fun _ _ => True) he fun x hx v _ => absurd (of_decide_eq_true (mem_rows.mp hx)) (Nat.not_lt_zero _))
    iexact H
  isplitl [H0]; · iapply (put_r (F := F) (c := c) (k := k) 0 0 rfl (by decide)); iexact H0
  isplitl [H1]; · iapply (put_r (F := F) (c := c) (k := k) 1 1 rfl (by decide)); iexact H1
  isplitl [H2]; · iapply (put_r (F := F) (c := c) (k := k) 2 2 rfl (by decide)); iexact H2
  isplitl [H3]; · iapply (put_r (F := F) (c := c) (k := k) 3 3 rfl (by decide)); iexact H3
  iapply (put_r (F := F) (c := c) (k := k) 4 4 rfl (by decide)); iexact H4

theorem lands_g : free (F := F) c (gM k)
    ⊢ iprop((gP xa xb k c 0 (ownGv 0 0) (gfull 0) ∗ gP xa xb k c 1 (ownGv 0 1) (gfull 0) ∗ gP xa xb k c 2 (ownGv 0 2) (gfull 0))
      ∗ landG (F := F) c k 5 ∗ landG (F := F) c k 6 ∗ landG (F := F) c k 7 ∗ landG (F := F) c k 8 ∗ landG (F := F) c k 9) := by
  refine (class_top (cls (uu k c)) 6 (cls_lt _)).trans ?_
  iintro H
  ihave ⟨H, H5⟩ := (class_split (cls (uu k c)) 5) $$ H
  ihave ⟨H, H4⟩ := (class_split (cls (uu k c)) 4) $$ H
  ihave ⟨H, H3⟩ := (class_split (cls (uu k c)) 3) $$ H
  ihave ⟨H, H2⟩ := (class_split (cls (uu k c)) 2) $$ H
  ihave ⟨H, H1⟩ := (class_split (cls (uu k c)) 1) $$ H
  isplitl [H]
  · have own (q : ℕ) (h : ∀ i : Fin 6, (ownGv 0 q).getD i false = decide (i.val < 0 + 1)) (s : PosShare TreeShare) (hs : s = qS q) :
        (holds c (gM k) (rows fun v => decide (cls (uu k c) v < 0 + 1)) s (fun _ _ => True) : sProp 𝕄) ⊢ gP xa xb k c q (ownGv 0 q) (gfull 0) := by
      subst hs
      unfold gP
      exact holds_congr (rows_congr (a := 2048) (n := 32) rfl fun v _ => (h ⟨_, cls_lt _ v⟩).symm) fun x _ v _ h => absurd h (by decide)
    ihave ⟨HL, HR⟩ := (holds_share (m := gM k) (PosShare.mem_left_op_right fullShare)) $$ H
    ihave ⟨HRL, HRR⟩ := (holds_share (m := gM k) (PosShare.mem_left_op_right fullShare.right)) $$ HR
    isplitl [HL]; · iapply (own 0 (by decide) _ rfl); iexact HL
    isplitl [HRL]; · iapply (own 1 (by decide) _ rfl); iexact HRL
    iapply (own 2 (by decide) _ rfl); iexact HRR
  isplitl [H1]; · iapply (put_g (F := F) (c := c) (k := k) 1 5 rfl (by decide)); iexact H1
  isplitl [H2]; · iapply (put_g (F := F) (c := c) (k := k) 2 6 rfl (by decide)); iexact H2
  isplitl [H3]; · iapply (put_g (F := F) (c := c) (k := k) 3 7 rfl (by decide)); iexact H3
  isplitl [H4]; · iapply (put_g (F := F) (c := c) (k := k) 4 8 rfl (by decide)); iexact H4
  iapply (put_g (F := F) (c := c) (k := k) 5 9 rfl (by decide)); iexact H5

theorem sums_in : free (F := F) c (pM k) ⊢ pP xa xb k c (ownPv 0) (levv 0) := by
  unfold pP
  refine holds_congr (rows_all fun v => getD_cls (by decide) _ v).symm fun x _ v _ => ?_
  intro l hl
  exact absurd ((show lev (uu k c) (levv 0) ((x 0).val / 64) = none from if_pos rfl).symm.trans hl) (by simp)

theorem slabs : (Finset.univ : Finset S2048x2048.Idx) = (slab 0 ∪ slab 1) ∪ slab 2 := by
  ext x
  rw [Finset.mem_union, Finset.mem_union, mem_slab, mem_slab, mem_slab]
  refine ⟨fun _ => ?_, fun _ => Finset.mem_univ _⟩
  have h : (x 1).val < 2048 := col_lt x
  show (0 ≤ _ ∧ _ < 0 + 768 ∨ 768 ≤ _ ∧ _ < 768 + 640) ∨ 1408 ≤ _ ∧ _ < 1408 + 640
  omega
theorem slab01 : Disjoint (slab 0) (slab 1) := by
  rw [Finset.disjoint_left]; intro x h0 h1
  rw [mem_slab] at h0 h1
  have h0 : 0 ≤ (x 1).val ∧ (x 1).val < 0 + 768 := h0
  have h1 : 768 ≤ (x 1).val ∧ (x 1).val < 768 + 640 := h1
  omega
theorem slab012 : Disjoint (slab 0 ∪ slab 1) (slab 2) := by
  rw [Finset.disjoint_left]; intro x h0 h1
  rw [Finset.mem_union, mem_slab, mem_slab] at h0
  rw [mem_slab] at h1
  have h0 : (0 ≤ (x 1).val ∧ (x 1).val < 0 + 768) ∨ 768 ≤ (x 1).val ∧ (x 1).val < 768 + 640 := h0
  have h1 : 1408 ≤ (x 1).val ∧ (x 1).val < 1408 + 640 := h1
  omega

theorem out_in : free (F := F) c oM ⊢ iprop(oP xa xb 0 c (outv 0) ∗ oP xa xb 1 c (outv 0) ∗ oP xa xb 2 c (outv 0)) := by
  have r (k : Fin 3) : (holds c oM (slab k) fullShare (fun _ _ => True) : sProp 𝕄) ⊢ oP xa xb k c (outv 0) := by
    unfold oP
    exact holds_mono fun x _ v _ h => absurd (show _ < 0 from h) (Nat.not_lt_zero _)
  rw [free, slabs]
  iintro H
  ihave ⟨H, H2⟩ := (holds_split slab012) $$ H
  ihave ⟨H0, H1⟩ := (holds_split slab01) $$ H
  isplitl [H0]; · iapply (r 0); iexact H0
  isplitl [H1]; · iapply (r 1); iexact H1
  iapply (r 2); iexact H2

theorem out_out : iprop(oP xa xb 0 c (outv 76) ∗ oP xa xb 1 c (outv 76) ∗ oP xa xb 2 c (outv 76))
    ⊢ (holds c oM Finset.univ fullShare (fun x v => v = outG xa xb (x 0).val (x 1).val) : sProp 𝕄) := by
  have r (k : Fin 3) : oP xa xb k c (outv 76) ⊢ (holds c oM (slab k) fullShare (fun x v => v = outG xa xb (x 0).val (x 1).val) : sProp 𝕄) := by
    unfold oP
    exact holds_mono fun x _ v h => h (lt_of_lt_of_le (pos_lt ⟨uu k c, uu_lt _ _⟩ ⟨uu k ((x 0).val / 64), uu_lt _ _⟩) (show 32 ≤ outv 76 by decide +kernel))
  rw [slabs]
  iintro ⟨H0, H1, H2⟩
  iapply (holds_join slab012)
  isplitr [H2]
  · iapply (holds_join slab01)
    isplitl [H0]; · iapply (r 0); iexact H0
    iapply (r 1); iexact H1
  · iapply (r 2); iexact H2

/-! ## The start -/

omit [FloatOps F] in
theorem fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- The buffers a part works in, whole and at any contents. -/
def bufs (c : Dev nD) (k : Fin 3) : sProp 𝕄 := iprop(free (F := F) c (pM k) ∗ free (F := F) c (rsM k) ∗ free (F := F) c (gM k))
/-- What a part keeps of them. -/
def keeps (xa : Dev nD → Vec F S2048x1024 .bf16) (xb : Dev nD → Vec F S1024x2048 .bf16) (c : Dev nD) (k : Fin 3) : sProp 𝕄 :=
  iprop(pP xa xb k c (ownPv 0) (levv 0) ∗ rP xa xb k c (ownRv 0)
    ∗ (gP xa xb k c 0 (ownGv 0 0) (gfull 0) ∗ gP xa xb k c 1 (ownGv 0 1) (gfull 0) ∗ gP xa xb k c 2 (ownGv 0 2) (gfull 0)))

theorem bufs_in : bufs c k ⊢ iprop(keeps xa xb c k ∗ bigSep Finset.univ fun s : Fin 10 => landG (F := F) c k s) := by
  unfold bufs keeps
  rw [fin10]
  iintro ⟨Hp, Hr, Hg⟩
  ihave Hp := (sums_in (xa := xa) (xb := xb)) $$ Hp
  ihave ⟨Hr, H0, H1, H2, H3, H4⟩ := (lands_r (xa := xa) (xb := xb)) $$ Hr
  ihave ⟨Hg, H5, H6, H7, H8, H9⟩ := (lands_g (xa := xa) (xb := xb)) $$ Hg
  isplitl [Hp Hr Hg]
  · isplitl [Hp]; · iexact Hp
    isplitl [Hr] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

def sTok0 (c : Dev nD) (k : Fin 3) (s : Fin 10) : sProp 𝕄 :=
  iprop(dutyTok ER (sendC c k s) 0 0 ∗ dutyTok ER (recvC (px k s c) k s) 0 0 ∗ atPos ER (sendC c k s) 0 ∅ 0)
def rTok0 (c : Dev nD) (k : Fin 3) (s : Fin 10) : sProp 𝕄 := iprop(cred (tallyAt (recvC c k s) () (amt k s)) ∗ atPos ER (recvC c k s) 0 ∅ 0)

/-- What the device holds beside the regions it lends. -/
def R0 (xa : Dev nD → Vec F S2048x1024 .bf16) (xb : Dev nD → Vec F S1024x2048 .bf16) (c : Dev nD) : sProp 𝕄 :=
  iprop(aP xa c ∗ bP xb c ∗ (bigSep Finset.univ fun k : Fin 3 => keeps xa xb c k) ∗ (bigSep Finset.univ fun k : Fin 3 => oP xa xb k c (outv 0))
    ∗ (bigSep Finset.univ fun k : Fin 3 => bigSep Finset.univ fun s : Fin 10 => sTok0 (F := F) c k s)
    ∗ (bigSep Finset.univ fun k : Fin 3 => bigSep Finset.univ fun s : Fin 10 => rTok0 (F := F) c k s))

omit [FloatOps F] in
theorem getD_sv0 : ∀ s : Fin 10, (sv 0).getD s 0 = 0 := by decide
omit [FloatOps F] in
theorem getD_rv0 : ∀ s : Fin 10, (rv 0).getD s false = true := by decide

omit [FloatOps F] in
theorem rToks0 : rToks (F := F) k c (rv 0) = bigSep Finset.univ fun s : Fin 10 => rTok0 (F := F) c k s := by
  unfold rToks rTok0
  exact bigSep_congr fun s _ => by rw [getD_rv0 s]; exact if_pos rfl
omit [FloatOps F] in
theorem assoc4 (A B C D : sProp 𝕄) : iprop(A ∗ B ∗ C ∗ D) = iprop((A ∗ B ∗ C) ∗ D) := by
  have h1 : iprop(A ∗ B ∗ C ∗ D) ⊢ iprop((A ∗ B ∗ C) ∗ D) := by
    iintro ⟨H1, H2, H3, H4⟩
    isplitr [H4]
    · isplitl [H1]; · iexact H1
      isplitl [H2] <;> iassumption
    iexact H4
  have h2 : iprop((A ∗ B ∗ C) ∗ D) ⊢ iprop(A ∗ B ∗ C ∗ D) := by
    iintro ⟨⟨H1, H2, H3⟩, H4⟩
    isplitl [H1]; · iexact H1
    isplitl [H2]; · iexact H2
    isplitl [H3] <;> iassumption
  exact equiv_iff.mp ⟨h1, h2⟩
omit [FloatOps F] in
theorem sToks0 : sToks (F := F) k c (sv 0) = iprop((bigSep Finset.univ fun s : Fin 10 => sTok0 (F := F) c k s) ∗ bigSep Finset.univ fun s : Fin 10 => landG (F := F) (px k s c) k s) := by
  rw [← bigSep_sep']
  unfold sToks sTok0
  refine bigSep_congr fun s _ => ?_
  rw [getD_sv0 s]
  refine (if_pos rfl).trans ?_
  exact assoc4 _ _ _ _

/-- With what its partners lend the device is at the first event of each part. -/
theorem parts_in : iprop((bigSep Finset.univ fun i : Fin 6 => barP (F := F) c i) ∗ R0 xa xb c)
    ⊢ iprop(aP xa c ∗ bP xb c ∗ bigSep Finset.univ fun k : Fin 3 => PSt xa xb k c 0) := by
  rw [lands_got]
  unfold R0
  iintro ⟨Hl, Ha, Hb, Hk, Ho, Hs, Hr⟩
  isplitl [Ha]; · iexact Ha
  isplitl [Hb]; · iexact Hb
  have e : ∀ k : Fin 3, iprop((bigSep Finset.univ fun s : Fin 10 => landG (F := F) (px k s c) k s) ∗ keeps xa xb c k ∗ oP xa xb k c (outv 0)
      ∗ (bigSep Finset.univ fun s : Fin 10 => sTok0 (F := F) c k s) ∗ (bigSep Finset.univ fun s : Fin 10 => rTok0 (F := F) c k s)) ⊢ PSt xa xb k c 0 := fun k => by
    unfold PSt keeps
    rw [sToks0, rToks0]
    iintro ⟨Hl, ⟨Hp, Hr, Hg⟩, Ho, Hs, Hr'⟩
    isplitl [Hp]; · iexact Hp
    isplitl [Hr]; · iexact Hr
    isplitl [Hg]; · iexact Hg
    isplitl [Ho]; · iexact Ho
    isplitr [Hr']
    · isplitl [Hs] <;> iassumption
    iexact Hr'
  iapply (each (s := (Finset.univ : Finset (Fin 3))) fun k _ => e k)
  rw [bigSep_sep', bigSep_sep', bigSep_sep', bigSep_sep']
  isplitl [Hl]; · iexact Hl
  isplitl [Hk]; · iexact Hk
  isplitl [Ho]; · iexact Ho
  isplitl [Hs] <;> iassumption

/-- The tokens a device starts with. -/
def toks0 (c : Dev nD) : sProp 𝕄 :=
  iprop((bigSep Finset.univ fun i : Fin 6 => dutyTok ER (barC (mx i c)) 0 i) ∗ (cred (tallyAt (barC c) () 6) ∗ atPos ER (barC c) 0 ∅ 0)
    ∗ (bigSep Finset.univ fun k : Fin 3 => bigSep Finset.univ fun s : Fin 10 => sTok0 (F := F) c k s)
    ∗ (bigSep Finset.univ fun k : Fin 3 => bigSep Finset.univ fun s : Fin 10 => rTok0 (F := F) c k s))

/-- The device before its first signal. -/
theorem start_in : iprop((levAts L lv ∗ recs xa xb K) ∗ (∃ W : Waits sig Unit, owes (c : Thread nD τ) (O₀ c) W) ∗ toks0 (F := F) c
      ∗ (bigSep Finset.univ fun k : Fin 3 => bufs (F := F) c k) ∗ aP xa c ∗ bP xb c ∗ free (F := F) c oM)
    ⊢ Bt xa xb K (R0 xa xb c) c 0 := by
  unfold Bt toks0 R0
  iintro ⟨HL, HO, ⟨Hd, Hc, Hs, Hr⟩, Hbufs, Ha, Hb, Ho⟩
  ihave Hbufs := (each (s := (Finset.univ : Finset (Fin 3))) fun k _ => bufs_in (xa := xa) (xb := xb) (c := c) (k := k)) $$ Hbufs
  ihave ⟨Hk, Hl⟩ := (Entails.of_eq (bigSep_sep' (Finset.univ : Finset (Fin 3)) (fun k => keeps xa xb c k) (fun k => bigSep Finset.univ fun s : Fin 10 => landG (F := F) c k s))) $$ Hbufs
  ihave Hl := (Entails.of_eq (lands_given (F := F) (c := c)).symm) $$ Hl
  ihave Ho := (out_in (xa := xa) (xb := xb)) $$ Ho
  isplitl [HL]; · iexact HL
  isplitl [HO]; · iexact HO
  isplitl [Hd Hl]
  · iapply (Entails.of_eq ((bigSep_sep' (Finset.univ : Finset (Fin 6)) (fun i => dutyTok ER (barC (mx i c)) 0 i) (fun i => barP (F := F) (mx i c) i)).symm.trans
      (bigSep_congr fun i _ => (if_pos (Nat.zero_le _)).symm)))
    isplitl [Hd] <;> iassumption
  isplitl [Hc]; · iexact Hc
  isplitl [Ha]; · iexact Ha
  isplitl [Hb]; · iexact Hb
  isplitl [Hk]; · iexact Hk
  isplitl [Ho]
  · iapply (Entails.of_eq (fin3 (F := F) fun k => oP xa xb k c (outv 0)).symm); iexact Ho
  isplitl [Hs] <;> iassumption

/-! ## The end -/

theorem g_out : iprop(gP xa xb k c 0 (ownGv 76 0) (gfull 76) ∗ gP xa xb k c 1 (ownGv 76 1) (gfull 76) ∗ gP xa xb k c 2 (ownGv 76 2) (gfull 76)) ⊢ free (F := F) c (gM k) := by
  have r (q : ℕ) (h : ∀ i : Fin 6, (ownGv 76 q).getD i false = true) (s : PosShare TreeShare) (hs : qS q = s) :
      gP xa xb k c q (ownGv 76 q) (gfull 76) ⊢ (holds c (gM k) Finset.univ s (fun _ _ => True) : sProp 𝕄) := by
    subst hs
    unfold gP
    exact holds_congr (rows_all fun v => getD_cls h _ v) fun x _ v _ => trivial
  iintro ⟨H0, H1, H2⟩
  iapply (holds_unshare (m := gM k) (R' := fun _ _ => True) (PosShare.mem_left_op_right fullShare))
  isplitl [H0]; · iapply (r 0 (by decide) _ rfl); iexact H0
  iapply (holds_unshare (m := gM k) (R' := fun _ _ => True) (PosShare.mem_left_op_right fullShare.right))
  isplitl [H1]; · iapply (r 1 (by decide) _ rfl); iexact H1
  iapply (r 2 (by decide) _ rfl); iexact H2

theorem bufs_out : iprop(pP xa xb k c (ownPv 76) (levv 76) ∗ rP xa xb k c (ownRv 76)
      ∗ (gP xa xb k c 0 (ownGv 76 0) (gfull 76) ∗ gP xa xb k c 1 (ownGv 76 1) (gfull 76) ∗ gP xa xb k c 2 (ownGv 76 2) (gfull 76))) ⊢ bufs c k := by
  unfold bufs
  iintro ⟨Hp, Hr, Hg⟩
  isplitl [Hp]
  · unfold pP
    iapply (holds_congr (m := pM k) (rows_all fun v => getD_cls (by decide) _ v) fun x _ v _ => trivial) $$ Hp
  isplitl [Hr]
  · unfold rP
    iapply (holds_congr (m := rsM k) (rows_all fun v => getD_reg (by decide) v) fun x _ v _ => trivial) $$ Hr
  iapply (g_out (xa := xa) (xb := xb)); iexact Hg

omit [FloatOps F] in
theorem sToks76 : sToks (F := F) k c (sv 76) = bigSep Finset.univ fun s : Fin 10 => semVal (sendC c k s) 0 := by
  have e : ∀ s : Fin 10, (sv 76).getD s 0 = 2 := by decide
  unfold sToks
  refine bigSep_congr fun s _ => ?_
  rw [e s]
  exact (if_neg (by decide)).trans (if_neg (by decide))
omit [FloatOps F] in
theorem rToks76 : rToks (F := F) k c (rv 76) = bigSep Finset.univ fun s : Fin 10 => semVal (recvC c k s) 0 := by
  have e : ∀ s : Fin 10, (rv 76).getD s false = false := by decide
  unfold rToks
  refine bigSep_congr fun s _ => ?_
  rw [e s]
  exact if_neg (by decide)

omit [FloatOps F] in
theorem owe_end : owe c ![76, 76, 76] = 0 := by
  unfold owe
  refine Finset.sum_eq_zero fun k _ => Finset.sum_eq_zero fun s _ => if_neg ?_
  revert k s; decide

/-- What is left after the last store. -/
theorem end_out : St xa xb K c ![76, 76, 76]
    ⊢ iprop((∃ W : Waits sig Unit, owes (c : Thread nD τ) 0 W) ∗ (bigSep Finset.univ fun k : Fin 3 => bufs (F := F) c k) ∗ aP xa c ∗ bP xb c
      ∗ (holds c oM Finset.univ fullShare (fun x v => v = outG xa xb (x 0).val (x 1).val))
      ∗ (bigSep Finset.univ fun k : Fin 3 => bigSep Finset.univ fun s : Fin 10 => semVal (sendC c k s) 0)
      ∗ (bigSep Finset.univ fun k : Fin 3 => bigSep Finset.univ fun s : Fin 10 => semVal (recvC c k s) 0)) := by
  have e : ∀ k : Fin 3, PSt xa xb k c (![76, 76, 76] k) ⊢ iprop(bufs (F := F) c k ∗ oP xa xb k c (outv 76)
      ∗ (bigSep Finset.univ fun s : Fin 10 => semVal (sendC c k s) 0) ∗ (bigSep Finset.univ fun s : Fin 10 => semVal (recvC c k s) 0)) := fun k => by
    rw [show (![76, 76, 76] : Fin 3 → ℕ) k = 76 by revert k; decide]
    unfold PSt
    rw [sToks76, rToks76]
    iintro ⟨Hp, Hr, Hg, Ho, Hs, Hr'⟩
    isplitr [Ho Hs Hr']
    · iapply (bufs_out (xa := xa) (xb := xb))
      isplitl [Hp]; · iexact Hp
      isplitl [Hr] <;> iassumption
    isplitl [Ho]; · iexact Ho
    isplitl [Hs] <;> iassumption
  unfold St Cm
  rw [owe_end]
  iintro ⟨⟨-, Ha, Hb, HO⟩, H⟩
  ihave H := (each (s := (Finset.univ : Finset (Fin 3))) fun k _ => e k) $$ H
  ihave ⟨Hk, H⟩ := (Entails.of_eq (bigSep_sep' (Finset.univ : Finset (Fin 3)) (fun k => bufs (F := F) c k) _)) $$ H
  ihave ⟨Ho, H⟩ := (Entails.of_eq (bigSep_sep' (Finset.univ : Finset (Fin 3)) (fun k => oP xa xb k c (outv 76)) _)) $$ H
  ihave ⟨Hs, Hr⟩ := (Entails.of_eq (bigSep_sep' (Finset.univ : Finset (Fin 3)) (fun k => bigSep Finset.univ fun s : Fin 10 => semVal (sendC c k s) 0) _)) $$ H
  isplitl [HO]; · iexact HO
  isplitl [Hk]; · iexact Hk
  isplitl [Ha]; · iexact Ha
  isplitl [Hb]; · iexact Hb
  isplitl [Ho]
  · iapply (out_out (xa := xa) (xb := xb))
    iapply (Entails.of_eq (fin3 (F := F) fun k => oP xa xb k c (outv 76))); iexact Ho
  isplitl [Hs] <;> iassumption

end Cert.Cube

end
-- ==== Proof.Launch.lean ====
/-
# What the launch deals each device

The cells and duty tokens of every device are made at once; each token goes to the device that will pay the duty, each
cell's invariant to everybody, and the credit a device waits on is what its partners owe.
-/
module

public import proofs.«01_k».proof.Proof.Start

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

variable {xa : Dev nD → Vec F S2048x1024 .bf16} {xb : Dev nD → Vec F S1024x2048 .bf16}

/-! ## Cells and tokens -/

theorem csem_injective : Function.Injective csem := by decide +kernel

theorem kcell_injective : Function.Injective kcell := by
  rintro ⟨c, x⟩ ⟨c', x'⟩ h
  have h1 : c = c' := congrArg (fun g : GSem nD τ sig => g.1.1) h
  have h2 : x = x' := csem_injective (congrArg Prod.snd h)
  rw [h1, h2]

def cubeCells : Finset (GSem nD τ sig) := Finset.univ.map ⟨kcell, kcell_injective⟩

/-- A duty of a cell of a device: one of the six of its barrier, or the one of a transfer's cell. -/
abbrev tokOf (x : Dev nD × (Fin 6 ⊕ OK)) : GSem nD τ sig × ℕ × Fin 6 := match x.2 with
  | .inl i => (barC x.1, 0, i)
  | .inr y => (kcell (x.1, some y), 0, 0)

theorem tokOf_injective : Function.Injective tokOf := by
  rintro ⟨c, x⟩ ⟨c', x'⟩ h
  have hs := congrArg (fun g : GSem nD τ sig × ℕ × Fin 6 => g.1) h
  have hd := congrArg (fun g : GSem nD τ sig × ℕ × Fin 6 => g.2.2) h
  rcases x with i | y <;> rcases x' with i' | y'
  · have h1 : c = c' := congrArg (fun g : GSem nD τ sig => g.1.1) hs
    have h2 : i = i' := hd
    rw [h1, h2]
  · exact absurd (congrArg Prod.snd hs) (fun h => by cases h)
  · exact absurd (congrArg Prod.snd hs) (fun h => by cases h)
  · have h1 := kcell_injective (a₁ := (c, some y)) (a₂ := (c', some y')) hs
    cases h1; rfl

def cubeToks : Finset (GSem nD τ sig × ℕ × Fin 6) := Finset.univ.map ⟨tokOf, tokOf_injective⟩

def u₀ : UU := (initOf (Pipeline.cells cfgs cellOf_inj) (Pipeline.launchToks cfgs cellOf_inj), initOf cubeCells cubeToks)

section Sums

omit [FloatOps F] in
theorem sep_option (Φ : Option OK → sProp 𝕄) : bigSep Finset.univ Φ = iprop(Φ none ∗ bigSep Finset.univ fun x : OK => Φ (some x)) := by
  rw [bigSep_univ_at Φ none, show (Finset.univ.erase (none : Option OK)) = (Finset.univ : Finset OK).map Function.Embedding.some by decide +kernel, bigSep_map]
  rfl

omit [FloatOps F] in
theorem sep_ok (Φ : OK → sProp 𝕄) : bigSep Finset.univ Φ
    = iprop((bigSep Finset.univ fun k : Fin 3 => bigSep Finset.univ fun s : Fin 10 => Φ (false, k, s)) ∗ bigSep Finset.univ fun k : Fin 3 => bigSep Finset.univ fun s : Fin 10 => Φ (true, k, s)) := by
  rw [bigSep_univ_prod, bigSep_univ_eq_bigSepL [false, true] (by decide) (by decide), bigSepL_cons_cons, bigSepL_singleton, bigSep_univ_prod, bigSep_univ_prod]
  rfl

omit [FloatOps F] in
theorem sep_sum (Φ : Fin 6 ⊕ OK → sProp 𝕄) : bigSep Finset.univ Φ = iprop((bigSep Finset.univ fun i : Fin 6 => Φ (.inl i)) ∗ bigSep Finset.univ fun x : OK => Φ (.inr x)) := by
  rw [bigSep_univ_sum]; rfl

omit [FloatOps F] in
/-- Each summand carried to the partner it belongs to. -/
theorem around {I : Type} [Fintype I] (f : I → Dev nD → Dev nD) (hf : ∀ i c, f i (f i c) = c) (Φ : I → Dev nD → sProp 𝕄) :
    (bigSep Finset.univ fun c : Dev nD => bigSep Finset.univ fun i : I => Φ i c) = bigSep Finset.univ fun c : Dev nD => bigSep Finset.univ fun i : I => Φ i (f i c) := by
  rw [bigSep_univ_comm, bigSep_univ_comm (fun (c : Dev nD) (i : I) => Φ i (f i c))]
  exact bigSep_congr fun i _ => bigSep_univ_equiv ⟨f i, f i, hf i, hf i⟩ (Φ i)

end Sums

/-! ## The ghost state -/

/-- The duty tokens of device `c`'s own cells. -/
def toksC (c : Dev nD) : sProp 𝕄 :=
  iprop((bigSep Finset.univ fun i : Fin 6 => dutyTok ER (barC c) 0 i)
    ∗ (bigSep Finset.univ fun k : Fin 3 => bigSep Finset.univ fun s : Fin 10 => dutyTok ER (sendC c k s) 0 0)
    ∗ (bigSep Finset.univ fun k : Fin 3 => bigSep Finset.univ fun s : Fin 10 => dutyTok ER (recvC c k s) 0 0))
/-- The duty tokens device `c` pays with. -/
def toksP (c : Dev nD) : sProp 𝕄 :=
  iprop((bigSep Finset.univ fun i : Fin 6 => dutyTok ER (barC (mx i c)) 0 i)
    ∗ (bigSep Finset.univ fun k : Fin 3 => bigSep Finset.univ fun s : Fin 10 => dutyTok ER (sendC c k s) 0 0)
    ∗ (bigSep Finset.univ fun k : Fin 3 => bigSep Finset.univ fun s : Fin 10 => dutyTok ER (recvC (px k s c) k s) 0 0))

omit [FloatOps F] in
theorem toks_around : (bigSep Finset.univ fun c : Dev nD => (toksC (F := F) c : sProp 𝕄)) = bigSep Finset.univ fun c : Dev nD => toksP (F := F) c := by
  unfold toksC toksP
  rw [bigSep_sep', bigSep_sep', bigSep_sep', bigSep_sep']
  congr 1
  · exact around (fun (i : Fin 6) c => mx i c) mx_mx fun i c => dutyTok ER (barC c) 0 i
  congr 1
  have h := around (F := F) (fun (x : Fin 3 × Fin 10) c => px x.1 x.2 c) (fun x c => px_px x.1 x.2 c) fun x c => dutyTok ER (recvC c x.1 x.2) 0 0
  simp only [bigSep_univ_prod] at h
  exact h

variable (xa xb) in
/-- What the launch element deals device `c`. -/
def G₀ (c : Dev nD) : sProp 𝕄 :=
  iprop((bigSep Finset.univ fun x : Option OK => roundState ER (cubeRd xa xb) (kcell (c, x)) 0)
    ∗ (bigSep Finset.univ fun x : Option OK => iprop(atPos ER (kcell (c, x)) 0 ∅ 0 ∗ reached ER (kcell (c, x)) 0)) ∗ toksC c)

/-- What stays with device `c` alone. -/
def linear (c : Dev nD) : sProp 𝕄 := iprop((bigSep Finset.univ fun x : Option OK => atPos ER (kcell (c, x)) 0 ∅ 0) ∗ toksP c)

variable (xa xb) in
def G₁ (c : Dev nD) : sProp 𝕄 := iprop(∃ K, recs xa xb K ∗ linear (F := F) c)

theorem fund_cube : BI.own (ER (initOf cubeCells cubeToks)) ⊢ (|==> bigSep Finset.univ (G₀ xa xb) : sProp 𝕄) := by
  have hX (Φ : GSem nD τ sig → sProp 𝕄) : bigSep cubeCells Φ = bigSep Finset.univ fun c : Dev nD => bigSep Finset.univ fun x : Option OK => Φ (kcell (c, x)) := by
    unfold cubeCells; rw [bigSep_map, bigSep_univ_prod]; rfl
  have hT : bigSep cubeToks (fun x => (dutyTok ER x.1 x.2.1 x.2.2 : sProp 𝕄)) = bigSep Finset.univ fun c : Dev nD => toksC c := by
    unfold cubeToks; rw [bigSep_map, bigSep_univ_prod]
    exact bigSep_congr fun c _ => by unfold toksC; rw [sep_sum, sep_ok]; rfl
  iintro HX
  imod (Rounds.fund ER (cubeRd xa xb) cubeCells cubeToks) $$ HX with ⟨Hst, Hr, Hat, Htok⟩
  imodintro
  ihave Hst' := (Entails.of_eq (hX fun g => roundState ER (cubeRd xa xb) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G₀; simp only [bigSep_sep']
  isplitl [Hst']; · iexact Hst'
  isplitl [Hat' Hr']
  · isplitl [Hat'] <;> iassumption
  iexact Htok'

omit [FloatOps F] in
theorem ownSems_eq (c : Dev nD) : (Pipeline.ownSems0 (Ix := Unit) (Name := ℕ) (U := UU) (Lvl := ℕ) (Val := Elt F) (τ := τ) osem c : sProp 𝕄)
    = iprop((bigSep Finset.univ fun k : Fin 3 => bigSep Finset.univ fun s : Fin 10 => semVal (sendC c k s) 0) ∗ bigSep Finset.univ fun k : Fin 3 => bigSep Finset.univ fun s : Fin 10 => semVal (recvC c k s) 0) :=
  (show _ = bigSep Finset.univ fun x : OK => semVal ((c : Thread nD τ), osem x) 0 from rfl).trans (sep_ok _)
omit [FloatOps F] in
theorem unscopedSems_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun x : Option OK => semVal (kcell (c, x)) 0 : sProp 𝕄) := by
  rw [unscopedSems_eq, sep_option]
  iintro ⟨H1, H2⟩
  isplitl [H2]; · iexact H2
  iapply (Entails.of_eq (show (Pipeline.ownSems0 osem c : sProp 𝕄) = bigSep Finset.univ fun x : OK => semVal ((c : Thread nD τ), osem x) 0 from rfl))
  iexact H1

theorem core_alloc (c : Dev nD) :
    iprop(Pipeline.ownSems0 (Ix := Unit) (Name := ℕ) (U := UU) (Lvl := ℕ) (Val := Elt F) (τ := τ) osem c ∗ unscopedSems0 c ∗ G₀ xa xb c)
      ⊢ |={Set.univ}=> iprop((bigSep Finset.univ fun x => iprop(∃ κ : ℕ, cellInv ER (cubeRd xa xb) κ (kcell (c, x))))
          ∗ (bigSep Finset.univ fun x => iprop(atPos ER (kcell (c, x)) 0 ∅ 0 ∗ reached ER (kcell (c, x)) 0)) ∗ toksC c) := by
  unfold G₀
  iintro ⟨Hos, Hus, Hst, Hat, Htok⟩
  ihave Hv := (sems_eq (F := F) c) $$ [Hos Hus]
  · isplitl [Hos] <;> iassumption
  imod (show iprop((bigSep Finset.univ fun x : Option OK => semVal (kcell (c, x)) 0) ∗ bigSep Finset.univ fun x : Option OK => roundState ER (cubeRd xa xb) (kcell (c, x)) 0)
      ⊢ (|={Set.univ}=> bigSep Finset.univ fun x => iprop(∃ κ : ℕ, cellInv ER (cubeRd xa xb) κ (kcell (c, x))) : sProp 𝕄) from by
        rw [← bigSep_sep']
        exact (bigSep_mono fun x _ => (Rounds.body_intro ER (cubeRd xa xb) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

theorem g_intro (K : Dev nD × Option OK → ℕ) (c : Dev nD) : iprop(recs xa xb K ∗ linear (F := F) c) ⊢ G₁ xa xb c := by
  unfold G₁
  iintro H
  iexists K; iexact H

omit [FloatOps F] in
theorem with_record {I : Type} [DecidableEq I] {R : sProp 𝕄} [BI.Persistent R] {Φ Ψ : I → sProp 𝕄} {s : Finset I}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

theorem regroup :
    (bigSep Finset.univ fun c : Dev nD => iprop((bigSep Finset.univ fun x => iprop(∃ κ : ℕ, cellInv ER (cubeRd xa xb) κ (kcell (c, x))))
          ∗ (bigSep Finset.univ fun x => iprop(atPos ER (kcell (c, x)) 0 ∅ 0 ∗ reached ER (kcell (c, x)) 0)) ∗ toksC c) : sProp 𝕄)
      ⊢ bigSep Finset.univ (G₁ xa xb) := by
  rw [bigSep_sep', bigSep_sep', ← bigSep_univ_prod (fun x : Dev nD × Option OK => iprop(∃ κ : ℕ, cellInv ER (cubeRd xa xb) κ (kcell x))),
    bigSep_congr (s := Finset.univ) (fun (c : Dev nD) _ => bigSep_sep' Finset.univ (fun x : Option OK => (atPos ER (kcell (c, x)) 0 ∅ 0 : sProp 𝕄)) (fun x => reached ER (kcell (c, x)) 0)),
    bigSep_sep', ← bigSep_univ_prod (fun x : Dev nD × Option OK => (reached ER (kcell x) 0 : sProp 𝕄)), toks_around]
  iintro ⟨HI, ⟨Hat, #HR⟩, Htok⟩
  ihave HK := (BI.bigSep_exists_pi Finset.univ (fun (x : Dev nD × Option OK) (κ : ℕ) => (cellInv ER (cubeRd xa xb) κ (kcell x) : sProp 𝕄))) $$ HI
  icases HK with ⟨%K, #HI⟩
  iapply (with_record (R := recs xa xb K) (Φ := fun c => linear (F := F) c) fun c _ => g_intro K c)
  isplitr
  · unfold recs; isplitl; · iexact HI
    iexact HR
  · unfold linear
    iapply (Entails.of_eq (bigSep_sep' Finset.univ (fun c : Dev nD => bigSep Finset.univ fun x : Option OK => (atPos ER (kcell (c, x)) 0 ∅ 0 : sProp 𝕄)) toksP).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G₀ xa xb c) : sProp 𝕄)
    ⊢ |={Set.univ}=> bigSep Finset.univ (G₁ xa xb) :=
  ((bigSep_mono fun c _ => core_alloc c).trans (bigSep_fupd _ _)).trans (BI.fupd_mono regroup)

/-! ## The launch credit -/

theorem sum_invol (f : Dev nD → Dev nD) (hf : ∀ d, f (f d) = d) (c : Dev nD) (n : ℕ) : (∑ d : Dev nD, if c = f d then n else 0) = n := by
  rw [Finset.sum_congr rfl fun d _ => show (if c = f d then n else 0) = if f c = d then n else 0 from
    if_congr ⟨fun h => by rw [h, hf], fun h => by rw [← h, hf]⟩ rfl rfl]
  rw [Finset.sum_ite_eq, if_pos (Finset.mem_univ _)]

theorem owed_bar (d c : Dev nD) : O₀ d (barC c) () = ∑ i : Fin 6, if c = mx i d then 1 else 0 := by
  unfold O₀ owe oweB
  simp only [Pi.add_apply, Finsupp.add_apply, Finset.sum_apply, Finsupp.finset_sum_apply]
  rw [Finset.sum_eq_zero fun k _ => Finset.sum_eq_zero fun s _ => ?_, zero_add]
  · refine Finset.sum_congr rfl fun i _ => ?_
    rw [if_pos (Nat.zero_le _), tallyAt_apply]
    exact if_congr ⟨fun h => congrArg (fun g : GSem nD τ sig => g.1.1) h.1, fun h => by subst h; exact ⟨rfl, rfl⟩⟩ rfl rfl
  · rw [if_pos (Nat.zero_le _), tallyAt_apply, if_neg fun h => by cases congrArg Prod.snd h.1]

theorem rq_inj : ∀ x y : Fin 3 × Fin 10, rq x.1 x.2 = rq y.1 y.2 → x = y := by decide +kernel

theorem owed_recv (d c : Dev nD) (k : Fin 3) (s : Fin 10) : O₀ d (recvC c k s) () = if c = px k s d then amt k s else 0 := by
  unfold O₀ owe oweB
  simp only [Pi.add_apply, Finsupp.add_apply, Finset.sum_apply, Finsupp.finset_sum_apply]
  rw [Finset.sum_eq_zero (s := (Finset.univ : Finset (Fin 6))) fun i _ => ?_, add_zero]
  · have hz (k' : Fin 3) (s' : Fin 10) (h : (k', s') ≠ (k, s)) :
        (if (0 : ℕ) ≤ tsend s' then (tallyAt (recvC (px k' s' d) k' s') () (amt k' s') : CellTallies nD τ sig Unit) else 0) (recvC c k s) () = 0 := by
      rw [if_pos (Nat.zero_le _), tallyAt_apply, if_neg fun hh => h (rq_inj (k', s') (k, s) ?_)]
      have := congrArg Prod.snd hh.1
      cases hq : rq k s; cases hq' : rq k' s'
      simp only [hq, hq', SemLoc.dma.injEq] at this
      exact this.symm
    rw [Finset.sum_eq_single k (fun k' _ hk => Finset.sum_eq_zero fun s' _ => hz k' s' fun h => hk (congrArg Prod.fst h)) fun h => absurd (Finset.mem_univ _) h,
      Finset.sum_eq_single s (fun s' _ hs => hz k s' fun h => hs (congrArg Prod.snd h)) fun h => absurd (Finset.mem_univ _) h,
      if_pos (Nat.zero_le _), tallyAt_apply]
    exact if_congr ⟨fun h => congrArg (fun g : GSem nD τ sig => g.1.1) h.1, fun h => by subst h; exact ⟨rfl, rfl⟩⟩ rfl rfl
  · rw [if_pos (Nat.zero_le _), tallyAt_apply, if_neg fun h => by cases congrArg Prod.snd h.1]

theorem launch_bar (c : Dev nD) :
    tallyOn (barC c) (launchCredit (Pipeline.owing O₀) 0 (barC c)) = (tallyAt (barC c) () 6 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (i : Fin 6) _ => sum_invol (fun d => mx i d) (mx_mx i) c 1]
  rfl

theorem launch_recv (c : Dev nD) (k : Fin 3) (s : Fin 10) :
    tallyOn (recvC c k s) (launchCredit (Pipeline.owing O₀) 0 (recvC c k s)) = (tallyAt (recvC c k s) () (amt k s) : CellTallies nD τ sig Unit) := by
  unfold tallyAt; refine congrArg _ (Finsupp.ext fun u => ?_); cases u
  rw [Pipeline.launchCredit_owing, Finsupp.single_eq_same, Finset.sum_congr rfl fun d _ => owed_recv d c k s, sum_invol (fun d => px k s d) (px_px k s) c _]

/-- The cells of the receptions. -/
def recvL : (Fin 3 × Fin 10) ↪ SemLoc sig := ⟨fun x => .dma (rq x.1 x.2), fun x y h => rq_inj x y (by injection h)⟩

/-- The credit a device waits on. -/
def creds (c : Dev nD) : sProp 𝕄 :=
  iprop(cred (tallyAt (barC c) () 6) ∗ bigSep Finset.univ fun k : Fin 3 => bigSep Finset.univ fun s : Fin 10 => cred (tallyAt (recvC c k s) () (amt k s)))

omit [FloatOps F] in
theorem creds_in (c : Dev nD) : (Pipeline.launchCred O₀ c : sProp 𝕄) ⊢ creds (F := F) c := by
  unfold Pipeline.launchCred creds
  rw [bigSep_univ_at _ (SemLoc.reg barS), launch_bar]
  refine sep_mono_right ?_
  rw [← bigSep_univ_prod (fun x : Fin 3 × Fin 10 => (cred (tallyAt (recvC c x.1 x.2) () (amt x.1 x.2)) : sProp 𝕄))]
  have e : (bigSep Finset.univ fun x : Fin 3 × Fin 10 => (cred (tallyAt (recvC c x.1 x.2) () (amt x.1 x.2)) : sProp 𝕄))
      = bigSep (Finset.univ.map recvL) fun sm => cred (tallyOn ((c : Thread nD τ), sm) (launchCredit (Pipeline.owing O₀) 0 ((c : Thread nD τ), sm))) := by
    rw [bigSep_map]
    exact bigSep_congr fun x _ => congrArg cred (launch_recv c x.1 x.2).symm
  rw [e]
  refine bigSep_subset fun l hl => ?_
  obtain ⟨x, -, rfl⟩ := Finset.mem_map.mp hl
  exact Finset.mem_erase.mpr ⟨(fun h => by cases h), Finset.mem_univ _⟩

omit [FloatOps F] in
theorem toks_in (c : Dev nD) : iprop(linear (F := F) c ∗ creds (F := F) c) ⊢ toks0 (F := F) c := by
  unfold linear creds toks0 toksP sTok0 rTok0
  rw [sep_option, sep_ok]
  simp only [bigSep_sep']
  iintro ⟨⟨⟨HaB, HaS, HaR⟩, HtB, HtS, HtR⟩, HcB, HcR⟩
  isplitl [HtB]; · iexact HtB
  isplitl [HcB HaB]
  · isplitl [HcB] <;> iassumption
  isplitl [HtS HtR HaS]
  · isplitl [HtS]; · iexact HtS
    isplitl [HtR]; · iexact HtR
    iexact HaS
  isplitl [HcR]; · iexact HcR
  iexact HaR

end Cert.Cube

end
-- ==== Proof.Run.lean ====
/-
# The kernel's run

The pipeline around the body: its proof data, the body's obligation from the walk, and the run of the whole program
from the launch.
-/
module

public import proofs.«01_k».proof.Proof.Launch
public import proofs.«01_k».proof.Proof.Gen.KernelIdeal.Points
public import Idealize.ShloMosaic.Lib.Pipeline.CollectiveSegs

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-- The two blocks device `c` is given. -/
def xaM (c : Dev nD) : Vec F S2048x1024 .bf16 := (win0_0.blk (0 : Fin 1)).view.read (Elt F) (m ((c : Thread nD τ).loc main_arg0))
def xbM (c : Dev nD) : Vec F S1024x2048 .bf16 := (win0_1.blk (0 : Fin 1)).view.read (Elt F) (m ((c : Thread nD τ).loc main_arg1))
/-- The result, the same on every device. -/
def outM : Vec F S2048x2048 .bf16 := fun x => outG (xaM m) (xbM m) (x 0).val (x 1).val

theorem cfg0_N : cfg0.N = 1 := by decide

/-! ## The proof data -/

def start (c : Dev nD) : sProp 𝕄 := iprop(G₁ (xaM m) (xbM m) c ∗ creds (F := F) c ∗ levAts L lv)
def Φ₀ (c : Dev nD) : sProp 𝕄 := iprop(start m c ∗ bigSep Finset.univ fun k : Fin 3 => bufs (F := F) c k)
def Φ₁ (c : Dev nD) : sProp 𝕄 :=
  iprop((bigSep Finset.univ fun k : Fin 3 => bufs (F := F) c k)
    ∗ ((bigSep Finset.univ fun k : Fin 3 => bigSep Finset.univ fun s : Fin 10 => semVal (sendC c k s) 0)
      ∗ (bigSep Finset.univ fun k : Fin 3 => bigSep Finset.univ fun s : Fin 10 => semVal (recvC c k s) 0)) ∗ semVal (barC c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xaM m c
    | ⟨1, _⟩ => xbM m c
    | ⟨2, _⟩ => outM m
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

omit [FloatOps F] in
theorem owns_whole (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ (((c : Thread nD τ).loc b) ↦{fullShare} f)) := by
  unfold owns
  simp only [Memref.view_whole, View.read_whole, View.set_whole]

def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (xaM m c) ∗ stg c cc0_stg1_0 (xbM m c) ∗ stg c cc0_stg2_0 (outM m))

/-- What the pipeline hands the body is what the walk starts from. -/
theorem body_in (c : Dev nD) : bodyPre m ρ c ⊢ iprop(∃ K, Bt (xaM m) (xbM m) K (R0 (xaM m) (xbM m) c) c 0) := by
  unfold bodyPre Φ₀ start G₁ stg
  iintro ⟨⟨⟨⟨%K, #Hrecs, Hlin⟩, Hcr, #HL⟩, Hb⟩, Ho, ⟨%d0, %f0, %h0, H0⟩, ⟨%d1, %f1, %h1, H1⟩, ⟨%d2, %f2, %h2, H2⟩⟩
  have e0 : f0 = xaM m c := by rw [h0]; unfold Dat.before; rw [if_pos (fetch0_0 t0_0)]; rfl
  have e1 : f1 = xbM m c := by rw [h1]; unfold Dat.before; rw [if_pos (fetch0_1 t0_0)]; rfl
  ihave Ht := (toks_in (F := F) c) $$ [Hlin Hcr]
  · isplitl [Hlin] <;> iassumption
  iexists K
  iapply (start_in (xa := xaM m) (xb := xbM m) (K := K) (c := c))
  isplitr
  · isplitr; · iexact HL
    iexact Hrecs
  isplitl [Ho]
  · unfold Dat.owesAt Pipeline.owesWithin
    icases Ho with ⟨%W, %hW, HO⟩
    iexists W; iexact HO
  isplitl [Ht]; · iexact Ht
  isplitl [Hb]; · iexact Hb
  isplitl [H0]
  · unfold aP
    subst e0
    iapply (holds_of_whole c cc0_stg0_0 (xaM m c)); iexact H0
  isplitl [H1]
  · unfold bP
    subst e1
    iapply (holds_of_whole c cc0_stg1_0 (xbM m c)); iexact H1
  unfold free
  iapply (holds_mono (c := c) (m := oM) fun x _ v _ => trivial)
  iapply (holds_of_whole c cc0_stg2_0 f2); iexact H2

/-- What the walk ends with is what the pipeline takes back. -/
theorem body_out (c : Dev nD) (K : Dev nD × Option OK → ℕ) :
    St (xaM m) (xbM m) K c ![76, 76, 76] ⊢ iprop(semVal (barC c) 0 -∗ bodyPost m ρ c) := by
  unfold bodyPost Φ₁
  iintro H Hz
  ihave ⟨HO, Hb, Ha, Hb', Ho, Hs, Hr⟩ := (end_out (xa := xaM m) (xb := xbM m) (K := K) (c := c)) $$ H
  have hw (b : Ref sig .tc) (X : b.ty.Contents (Elt F)) : (holds c (Memref.whole b) Finset.univ fullShare (fun x v => v = X x) : sProp 𝕄) ⊢ stg c b X := by
    unfold stg
    iintro H
    ihave ⟨%f, %hf, H⟩ := (holds_to_whole c b _) $$ H
    iexists f
    isplitr; · (ipureintro; exact funext hf)
    iexact H
  isplitl [Hb Hs Hr Hz]
  · isplitl [Hb]; · iexact Hb
    isplitl [Hs Hr]
    · isplitl [Hs] <;> iassumption
    iexact Hz
  isplitl [HO]
  · unfold Dat.owesAt Pipeline.owesWithin
    icases HO with ⟨%W, HO⟩
    iexists W
    isplitr; · (ipureintro; exact fun _ _ => Or.inl trivial)
    iexact HO
  isplitl [Ha]; · unfold aP; iapply (hw cc0_stg0_0 (xaM m c)); iexact Ha
  isplitl [Hb']; · unfold bP; iapply (hw cc0_stg1_0 (xbM m c)); iexact Hb'
  iapply (hw cc0_stg2_0 (outM m)); iexact Ho

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wpc c (cc0_body aM wA bM wB oM wO (pM 0) (wP 0) (pM 1) (wP 1) (pM 2) (wP 2) (rsM 0) (wR 0) (rsM 1) (wR 1) (rsM 2) (wR 2)
    (gM 0) (wG 0) (gM 1) (wG 1) (gM 2) (wG 2) cc0_scratch9 cc0_scratch10) (fun _ => bodyPost m ρ c)
  iintro H
  ihave ⟨%K, H⟩ := (body_in m ρ c) $$ H
  iapply (body_walk (xa := xaM m) (xb := xbM m) (K := K) (c := c) (Q := fun _ => bodyPost m ρ c) parts_in (body_out m ρ c K))
  iexact H

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem fund (m : (ℓ : Loc nD τ sig) → Buf (Elt F) ℓ) : BI.own (ER (initOf cubeCells cubeToks)) ⊢ (|==> bigSep Finset.univ (G₀ (xaM m) (xbM m)) : sProp 𝕄) := fund_cube

omit [FloatOps F] in
theorem mayWait_stage (c : Dev nD) (q : DmaSem sig) (hq : q.val < 33) (O : CellTallies nD τ sig Unit) (hO : O = O₀ c ∨ O = 0) :
    (levAts L lv : sProp 𝕄) ⊢ MayWait (c : Thread nD τ) (.dma q) () O := by
  rcases hO with rfl | rfl
  · refine mayWait_of _ 0 (le_of_eq (show lvl (.dma q) = 0 from if_pos hq)) _ fun g u hg => ?_
    by_cases h : 0 < owe c (fun _ => 0) g u
    · obtain ⟨k, s, -, rfl⟩ := owe_pos h
      rw [lv_recv]; exact ⟨by omega, rfl⟩
    · have h' : 0 < oweB c 0 g u := by
        have e : O₀ c g u = owe c (fun _ => 0) g u + oweB c 0 g u := rfl
        omega
      obtain ⟨i, rfl⟩ := oweB_pos h'
      exact ⟨Nat.one_pos, rfl⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G₁ (xaM m) (xbM m) c)
      ⊢ |={Set.univ}=> iprop(start m c ∗ emp) := by
  iintro ⟨-, Hlev, Hcr, -, HG⟩
  ihave Hc := (creds_in (F := F) c) $$ Hcr
  imodintro
  unfold start
  isplitl
  · isplitl [HG]; · iexact HG
    isplitl [Hc]; · iexact Hc
    iexact Hlev
  · iempintro

omit [FloatOps F] in
theorem free_in (c : Dev nD) (b : Ref sig .tc) :
    iprop(∃ f : Buf (Elt F) ((c : Thread nD τ).loc b), ((c : Thread nD τ).loc b) ↦{fullShare} f) ⊢ free (F := F) c (Memref.whole b) := by
  unfold free
  iintro ⟨%f, H⟩
  iapply (holds_mono (c := c) (m := Memref.whole b) fun x _ v _ => trivial)
  iapply (holds_of_whole c b f); iexact H
omit [FloatOps F] in
theorem free_out (c : Dev nD) (b : Ref sig .tc) :
    free (F := F) c (Memref.whole b) ⊢ iprop(∃ f : Buf (Elt F) ((c : Thread nD τ).loc b), ((c : Thread nD τ).loc b) ↦{fullShare} f) := by
  unfold free
  iintro H
  ihave ⟨%f, -, H⟩ := (holds_to_whole c b _) $$ H
  iexists f; iexact H

omit [FloatOps F] in
theorem rest_in (c : Dev nD) : (Pipeline.scopedRest (Ix := Unit) (Name := ℕ) (U := UU) (Lvl := ℕ) (Val := Elt F) spec0 c : sProp 𝕄) ⊢ bigSep Finset.univ fun k : Fin 3 => bufs (F := F) c k := by
  rw [scopedRest0_eq, fin3]
  unfold bufs
  iintro ⟨H0, H1, H2, H3, H4, H5, H6, H7, H8⟩
  isplitl [H0 H3 H6]
  · isplitl [H0]; · iapply (free_in c cc0_scratch0); iexact H0
    isplitl [H3]; · iapply (free_in c cc0_scratch3); iexact H3
    iapply (free_in c cc0_scratch6); iexact H6
  isplitl [H1 H4 H7]
  · isplitl [H1]; · iapply (free_in c cc0_scratch1); iexact H1
    isplitl [H4]; · iapply (free_in c cc0_scratch4); iexact H4
    iapply (free_in c cc0_scratch7); iexact H7
  isplitl [H2]; · iapply (free_in c cc0_scratch2); iexact H2
  isplitl [H5]; · iapply (free_in c cc0_scratch5); iexact H5
  iapply (free_in c cc0_scratch8); iexact H8
omit [FloatOps F] in
theorem rest_out (c : Dev nD) : (bigSep Finset.univ fun k : Fin 3 => bufs (F := F) c k) ⊢ (Pipeline.scopedRest (Ix := Unit) (Name := ℕ) (U := UU) (Lvl := ℕ) (Val := Elt F) spec0 c : sProp 𝕄) := by
  rw [scopedRest0_eq, fin3]
  unfold bufs
  iintro ⟨⟨H0, H3, H6⟩, ⟨H1, H4, H7⟩, H2, H5, H8⟩
  isplitl [H0]; · iapply (free_out c cc0_scratch0); iexact H0
  isplitl [H1]; · iapply (free_out c cc0_scratch1); iexact H1
  isplitl [H2]; · iapply (free_out c cc0_scratch2); iexact H2
  isplitl [H3]; · iapply (free_out c cc0_scratch3); iexact H3
  isplitl [H4]; · iapply (free_out c cc0_scratch4); iexact H4
  isplitl [H5]; · iapply (free_out c cc0_scratch5); iexact H5
  isplitl [H6]; · iapply (free_out c cc0_scratch6); iexact H6
  isplitl [H7]; · iapply (free_out c cc0_scratch7); iexact H7
  iapply (free_out c cc0_scratch8); iexact H8

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (rest_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, ownSems_eq, unscopedSems_eq]
  unfold Φ₁
  iintro ⟨Hr, Hz, HzB⟩
  isplitl [HzB]; · iexact HzB
  isplitl [Hz]; · iexact Hz
  iapply (rest_out (F := F) c); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution ends, with every array at what the proof data compute
    and every counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G₀ (xaM m) (xbM m)) (G' := G₁ (xaM m) (xbM m)) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_a (c : Dev nD) : finalA m ρ c (0 : Fin 3) = m ((c : Thread nD τ).loc main_arg0) := (dats (F := F) m ρ 0 c).arrAt_in (0 : Fin 3) rfl _
theorem final_b (c : Dev nD) : finalA m ρ c (1 : Fin 3) = m ((c : Thread nD τ).loc main_arg1) := (dats (F := F) m ρ 0 c).arrAt_in (1 : Fin 3) rfl _
theorem final_o (c : Dev nD) : (win0_2.blk (0 : Fin 1)).view.read (Elt F) (finalA m ρ c (2 : Fin 3)) = outM m := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

end Cert.Cube

end
-- ==== Proof.Value.lean ====
/-
# The value, over the extended reals

The partial sums of the kernel as plain sums of products, the five additions as a sum over the devices, and the result
as the reference's product, clipped below at zero.
-/
module

public import proofs.«01_k».proof.Proof.Run
public import proofs.«01_k».proof.Proof.Gen.ReferenceIdeal.Run
public import Idealize.ShloMosaic.Lib.Layout
public import Idealize.ShloMosaic.PureOps.Ideal
public import Idealize.ShloMosaic.Lib.Pointwise.Contract
public import Idealize.ShloMosaic.Lib.Pipeline.Value
public import Idealize.ShloMosaic.Lib.IdealHost

@[expose] public section

noncomputable section

namespace Cert.Cube

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped PCS

variable {F : FTy → Type} [FloatOps F]

local notation "𝕄" => MT nD τ sig Unit (Elt F) ℕ UU ℕ

/-! ## Windows that are whole arrays -/

theorem read_a (f : Vec F S2048x1024 .bf16) : (win0_0.blk (0 : Fin 1)).view.read (Elt F) f = f :=
  Memref.read_access_unit_zero (Elt F) main_arg0 (funext fun a => by fin_cases a <;> decide) (fun a => by fin_cases a <;> decide) f

theorem read_b (f : Vec F S1024x2048 .bf16) : (win0_1.blk (0 : Fin 1)).view.read (Elt F) f = f :=
  Memref.read_access_unit_zero (Elt F) main_arg1 (funext fun a => by fin_cases a <;> decide) (fun a => by fin_cases a <;> decide) f

theorem read_o (f : Vec F S2048x2048 .bf16) : (win0_2.blk (0 : Fin 1)).view.read (Elt F) f = f :=
  Memref.read_access_unit_zero (Elt F) main_v1 (funext fun a => by fin_cases a <;> decide) (fun a => by fin_cases a <;> decide) f

/-! ## A product of a block, at an index -/

theorem ix_eq {a b : ℕ} (ha : 0 < a) (hb : 0 < b) (x : (⟨2, ![a, b]⟩ : Shape).Idx) (r w : ℕ) (hr : (x 0).val = r) (hw : (x 1).val = w) :
    x = ix ha hb r w := by
  have h0 : r < a := hr ▸ (x 0).isLt
  have h1 : w < b := hw ▸ (x 1).isLt
  funext i
  refine Fin.ext ?_
  fin_cases i
  · exact hr.trans (Nat.mod_eq_of_lt h0).symm
  · exact hw.trans (Nat.mod_eq_of_lt h1).symm

theorem mm768_apply (x : Vec Ideal S512x1024 .bf16) (b : Vec Ideal S1024x768 .bf16) (r w : ℕ) (hr : r < 512) (hw : w < 768) :
    mm768 x b (ix (by decide) (by decide) r w)
      = ∑ j : Fin 1024, (x (ix (by decide) (by decide) r j) : EReal) * b (ix (by decide) (by decide) j w) := by
  show Ideal.matmul dot_S512x1024_S1024x768_S512x768_1_0_0_1_n_n x b (fun _ => Ideal.ofBits .f32 0x00000000#32) (ix (by decide) (by decide) r w) = _
  refine (Ideal.matmul_apply₁_of dot_S512x1024_S1024x768_S512x768_1_0_0_1_n_n (a := 1) rfl (K := 1024) rfl x b _ _
    (fun j => ix (by decide) (by decide) r j) (fun j => ix (by decide) (by decide) j w) ?_ ?_).trans ?_
  · exact fun j => ix_eq _ _ _ _ _ (Nat.mod_eq_of_lt hr) rfl
  · exact fun j => ix_eq _ _ _ _ _ rfl (Nat.mod_eq_of_lt hw)
  · exact (congrArg (· + _) Ideal.ofBits_zero_f32).trans (zero_add _)

theorem mm640_apply (x : Vec Ideal S512x1024 .bf16) (b : Vec Ideal S1024x640 .bf16) (r w : ℕ) (hr : r < 512) (hw : w < 640) :
    mm640 x b (ix (by decide) (by decide) r w)
      = ∑ j : Fin 1024, (x (ix (by decide) (by decide) r j) : EReal) * b (ix (by decide) (by decide) j w) := by
  show Ideal.matmul dot_S512x1024_S1024x640_S512x640_1_0_0_1_n_n x b (fun _ => Ideal.ofBits .f32 0x00000000#32) (ix (by decide) (by decide) r w) = _
  refine (Ideal.matmul_apply₁_of dot_S512x1024_S1024x640_S512x640_1_0_0_1_n_n (a := 1) rfl (K := 1024) rfl x b _ _
    (fun j => ix (by decide) (by decide) r j) (fun j => ix (by decide) (by decide) j w) ?_ ?_).trans ?_
  · exact fun j => ix_eq _ _ _ _ _ (Nat.mod_eq_of_lt hr) rfl
  · exact fun j => ix_eq _ _ _ _ _ rfl (Nat.mod_eq_of_lt hw)
  · exact (congrArg (· + _) Ideal.ofBits_zero_f32).trans (zero_add _)

theorem mmv_apply (k : Fin 3) (x : Vec Ideal S512x1024 .bf16) (b : Vec Ideal (⟨2, ![1024, W k]⟩ : Shape) .bf16) (r w : ℕ) (hr : r < 512) (hw : w < W k) :
    mmv k x b (ix (by decide) (W_pos k) r w)
      = ∑ j : Fin 1024, (x (ix (by decide) (by decide) r j) : EReal) * b (ix (by decide) (W_pos k) j w) := by
  revert b hw
  match k with
  | 0 => exact fun b hw => mm768_apply x b r w hr hw
  | 1 => exact fun b hw => mm640_apply x b r w hr hw
  | 2 => exact fun b hw => mm640_apply x b r w hr hw

theorem cat8_apply (ab : ℕ → Vec F S64x1024 .bf16) (r : ℕ) (j : Fin 1024) (hr : r < 512) :
    cat8 ab (ix (by decide) (by decide) r j) = ab (r / 64) (ix (by decide) (by decide) (r % 64) j) := by
  refine concatenate_ofFn_apply (t := S512x1024) (s₁ := S64x1024) (0 : Fin 2) (N := 8) (fun n => ab n.val) concatenates_S64x1024_S64x1024_S64x1024_S64x1024_S64x1024_S64x1024_S64x1024_S64x1024_S512x1024_d0
    rfl 64 rfl _ ⟨r / 64, by omega⟩ ?_ _ ?_ ?_
  · show r % 512 / 64 = r / 64
    rw [Nat.mod_eq_of_lt hr]
  · show r % 64 % 64 = r % 512 % 64
    omega
  · intro b hb
    fin_cases b
    · exact absurd rfl hb
    · rfl

variable (xa : Dev nD → Vec Ideal S2048x1024 .bf16) (xb : Dev nD → Vec Ideal S1024x2048 .bf16)

/-- Device `d`'s share of the product at row `r`, column `w`. -/
def share (d : Dev nD) (r w : ℕ) : EReal :=
  ∑ j : Fin 1024, (xa d (ix (by decide) (by decide) r j) : EReal) * xb d (ix (by decide) (by decide) j w)

theorem S_zero (k : Fin 3) (d : Dev nD) (r w : ℕ) (hw : w < W k) :
    S xa xb k 0 d r w = share xa xb d (64 * rb k (r / 64) + r % 64) (colOff k + w) := by
  show mmv k _ _ _ = _
  rw [mmv_apply _ _ _ _ _ (Nat.mod_lt _ (by decide)) hw]
  refine Finset.sum_congr rfl fun j _ => ?_
  rw [cat8_apply _ _ _ (Nat.mod_lt _ (by decide))]
  have e1 : 8 * (r / 512) + r % 512 / 64 = r / 64 := by omega
  have e2 : r % 512 % 64 % 64 = r % 64 := by omega
  have e3 : j.val % 1024 = j.val := Nat.mod_eq_of_lt j.isLt
  have e4 : w % W k = w := Nat.mod_eq_of_lt hw
  show (xa d (ix _ _ (64 * rb k (8 * (r / 512) + r % 512 / 64) + r % 512 % 64 % 64) (j.val % 1024)) : EReal) * xb d (ix _ _ (j.val % 1024) (colOff k + w % W k)) = _
  rw [e1, e2, e3, e4]

/-! ## The five additions -/

/-- How often device `d`'s share enters the partial sum of part `k` on device `c` after `l` additions. -/
def cnt (k : Fin 3) : ℕ → Dev nD → Dev nD → ℕ
  | 0, c, d => if c = d then 1 else 0
  | l + 1, c, d => cnt k l c d + cnt k l (px k l c) d

/-- After five, each device's once. -/
theorem cnt_five : ∀ (k : Fin 3) (c d : Dev nD), cnt k 5 c d = 1 := by decide +kernel

theorem S_cnt (k : Fin 3) (l : ℕ) (c : Dev nD) (r w : ℕ) :
    (S xa xb k l c r w : EReal) = ∑ d : Dev nD, cnt k l c d • (S xa xb k 0 d r w : EReal) := by
  induction l generalizing c with
  | zero => simp [cnt]
  | succ l ih =>
    refine (congrArg₂ (· + ·) (ih c) (ih (px k l c))).trans ?_
    rw [← Finset.sum_add_distrib]
    exact Finset.sum_congr rfl fun d _ => (add_nsmul _ _ _).symm

theorem S_five (k : Fin 3) (c : Dev nD) (r w : ℕ) : (S xa xb k 5 c r w : EReal) = ∑ d : Dev nD, (S xa xb k 0 d r w : EReal) := by
  rw [S_cnt]
  exact Finset.sum_congr rfl fun d _ => by rw [cnt_five, one_nsmul]

theorem G_eq (k : Fin 3) (r w : ℕ) (hr : r < 2048) (hw : w < W k) :
    (G xa xb k (64 * uu k (r / 64) + r % 64) w : EReal) = max (∑ d : Dev nD, share xa xb d r (colOff k + w)) 0 := by
  show max (S xa xb k 5 _ _ _ : EReal) (Ideal.ofBits .bf16 0x0000#16) = _
  rw [S_five, Ideal.ofBits_zero_bf16]
  refine congrArg (max · 0) (Finset.sum_congr rfl fun d _ => ?_)
  have h1 : (64 * uu k (r / 64) + r % 64) / 64 = uu k (r / 64) := by omega
  have h2 : (64 * uu k (r / 64) + r % 64) % 64 = r % 64 := by omega
  have h3 : rb k (uu k (r / 64)) = r / 64 := rb_uu k ⟨r / 64, by omega⟩
  rw [S_zero _ _ _ _ _ _ hw, h1, h2, h3, Nat.div_add_mod]

theorem outG_eq (r w : ℕ) (hr : r < 2048) (hw : w < 2048) :
    (outG xa xb r w : EReal) = max (∑ d : Dev nD, share xa xb d r w) 0 := by
  unfold outG
  split_ifs with h1 h2
  · exact (G_eq xa xb 0 r w hr h1).trans (by rw [show colOff 0 + w = w from Nat.zero_add w])
  · exact (G_eq xa xb 1 r (w - 768) hr (show w - 768 < 640 by omega)).trans (by rw [show colOff 1 + (w - 768) = w from (by show 768 + (w - 768) = w; omega)])
  · exact (G_eq xa xb 2 r (w - 1408) hr (show w - 1408 < 640 by omega)).trans (by rw [show colOff 2 + (w - 1408) = w from (by show 1408 + (w - 1408) = w; omega)])

/-! ## The reference's product -/

/-- What the reference leaves of its two arguments. -/
def refO (A : Vec Ideal (⟨2, ![2048, 32768]⟩ : Shape) .bf16) (B : Vec Ideal (⟨2, ![32768, 2048]⟩ : Shape) .bf16) : Vec Ideal S2048x2048 .bf16 :=
  fun x => (max (∑ J : Fin 32768, (A (ix (by decide) (by decide) (x 0).val J) : EReal) * B (ix (by decide) (by decide) J (x 1).val)) 0 : EReal)

/-- A sum over the long axis, device by device. -/
theorem sum_long (f : ℕ → EReal) : ∑ J : Fin 32768, f J.val = ∑ d : Dev nD, ∑ j : Fin 1024, f (d.val * 1024 + j.val) := by
  rw [← Fintype.sum_prod_type' (fun (d : Dev nD) (j : Fin 1024) => f (d.val * 1024 + j.val))]
  refine (Fintype.sum_equiv (finProdFinEquiv (m := 32) (n := 1024)) _ _ fun p => ?_).symm
  exact congrArg f (by show p.1.val * 1024 + p.2.val = p.2.val + 1024 * p.1.val; omega)

theorem outG_refO (A : Vec Ideal (⟨2, ![2048, 32768]⟩ : Shape) .bf16) (B : Vec Ideal (⟨2, ![32768, 2048]⟩ : Shape) .bf16)
    (hA : ∀ c : Dev nD, xa c = Layout.block ⟨2, ![2048, 1024]⟩ ⟨2, ![2048, 32768]⟩ 1 32 c A)
    (hB : ∀ c : Dev nD, xb c = Layout.block ⟨2, ![1024, 2048]⟩ ⟨2, ![32768, 2048]⟩ 0 32 c B) (x : S2048x2048.Idx) :
    outG xa xb (x 0).val (x 1).val = refO A B x := by
  refine (outG_eq xa xb _ _ (x 0).isLt (x 1).isLt).trans (congrArg (max · (0 : EReal)) ?_)
  rw [sum_long (fun J => (A (ix (by decide) (by decide) (x 0).val J) : EReal) * B (ix (by decide) (by decide) J (x 1).val))]
  refine Finset.sum_congr rfl fun d _ => Finset.sum_congr rfl fun j _ => ?_
  rw [hA d, hB d]
  have e3 : j.val % 1024 = j.val := Nat.mod_eq_of_lt j.isLt
  refine congrArg₂ (fun u v : EReal => u * v) (congrArg A (ix_eq _ _ _ _ _ ?_ ?_)) (congrArg B (ix_eq _ _ _ _ _ ?_ ?_))
  · exact Nat.mod_eq_of_lt (x 0).isLt
  · show d.val * 1024 + j.val % 1024 = _
    rw [e3]
  · show d.val * 1024 + j.val % 1024 = _
    rw [e3]
  · exact Nat.mod_eq_of_lt (x 1).isLt

end Cert.Cube

namespace Cert.ReferenceIdeal.Value

open Cert.ReferenceIdeal Cert.ReferenceIdeal.Gen Idealize.ShloMosaic

theorem value (A : Vec Ideal S2048x32768 .bf16) (B : Vec Ideal S32768x2048 .bf16) :
    truncf (F := Ideal) .bf16 (maximumf (Host.dotGeneral dot_S2048x32768_S32768x2048_S2048x2048_1_0_0_1_n_n none (extf .f32 A bitsLt_bf16_f32) (extf .f32 B bitsLt_bf16_f32)) (broadcastInDim S2048x2048 ![] bcast_S_S2048x2048 (constant S_ .f32 0x00000000#32))) bitsLt_bf16_f32
      = Cert.Cube.refO A B := by
  funext x
  refine congrArg₂ (fun u v : EReal => max u v) ?_ Ideal.ofBits_zero_f32
  refine (Ideal.matmul_apply₁_of dot_S2048x32768_S32768x2048_S2048x2048_1_0_0_1_n_n (a := 1) rfl (K := 32768) rfl A B _ x
    (fun J => Cert.Cube.ix (by decide) (by decide) (x 0).val J) (fun J => Cert.Cube.ix (by decide) (by decide) J (x 1).val) ?_ ?_).trans (zero_add _)
  · exact fun J => Cert.Cube.ix_eq _ _ _ _ _ rfl rfl
  · exact fun J => Cert.Cube.ix_eq _ _ _ _ _ rfl rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-! ## The runs, as the claims state them -/

section Runs

variable {F : FTy → Type} [FloatOps F]

open Cert.KernelIdeal Cert.KernelIdeal.Gen in
/-- From any memory and for any floats, the kernel ends with its arguments unchanged, every counter at zero, and
    the same result on every device. -/
theorem run_kernel (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_v1) = Cert.Cube.outM m
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c =>
    ⟨(h.1 c (2 : Fin 3)).trans ((Cert.Cube.read_o _).symm.trans (Cert.Cube.final_o m g c)),
      (h.1 c (0 : Fin 3)).trans (Cert.Cube.final_a m g c), (h.1 c (1 : Fin 3)).trans (Cert.Cube.final_b m g c)⟩, h.2⟩)
    (Cert.Cube.run_arrays m g)

end Runs

/-! ## The printed kernel is the same program as the one the run is of -/

section Same

attribute [local instance] Cert.Kernel.Gen.facts Cert.KernelIdeal.Gen.facts

theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig))
    (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) := by
  unfold Cert.Kernel.defs Cert.KernelIdeal.defs
  exact congrArg (Pipeline.defs Cert.KernelIdeal.pcfgs) bodies_eq

end Same

/-! ## The claims -/

theorem frame_kernel : Cert.quiescent_Kernel (hKernel := Cert.Kernel.Gen.facts) := by
  intro m g _
  rw [defs_eq]
  exact (θ_run (Cert.KernelIdeal.defs (F := Bits)) (onTc (τ := Cert.KernelIdeal.τ) (Cert.KernelIdeal.main (F := Bits))) ⟨m, fun _ => 0, g⟩).mono
    (fun _ h => ⟨fun c => (h.1 c).2, h.2⟩) (run_kernel (F := Bits) m g)

theorem frame_ideal : Cert.quiescent_KernelIdeal (hKernelIdeal := Cert.KernelIdeal.Gen.facts) := fun m g _ =>
  (θ_run _ _ _).mono (fun _ h => ⟨fun c => (h.1 c).2, h.2⟩) (run_kernel (F := Ideal) m g)

theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩)
    (Cert.ReferenceIdeal.Value.run (F := Ideal) m g)

theorem equal_values : Cert.algebraic_KernelIdeal_ReferenceIdeal (hKernelIdeal := Cert.KernelIdeal.Gen.facts)
    (hReferenceIdeal := Cert.ReferenceIdeal.Gen.facts) := by
  intro m g m' g' _ hm
  refine ⟨_, (θ_run _ _ _).mono (fun r h c => ⟨(h.1 c).1.trans ?_, (h.1 c).2⟩) (run_kernel (F := Ideal) m g),
    (θ_run _ _ _).mono (fun r h => ⟨(h 0).1.trans (Cert.ReferenceIdeal.Value.value _ _), (h 0).2⟩)
      (Cert.ReferenceIdeal.Value.run (F := Ideal) m' g')⟩
  funext x
  exact Cert.Cube.outG_refO _ _ _ _ (fun d => (Cert.Cube.read_a _).trans (hm d).1) (fun d => (Cert.Cube.read_b _).trans (hm d).2) x

theorem claim : Cert.Claim := ⟨Cert.Kernel.Gen.facts, Cert.KernelIdeal.Gen.facts, Cert.ReferenceIdeal.Gen.facts,
  frame_kernel, frame_ideal, frame_reference, trivial, equal_values⟩

end Cert.Proof

end
